-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v161)) (v1 : (c : Dev Cert.KernelIdeal.nD) → Buf (Elt Ideal) ((c.tc : Thread Cert.KernelIdeal.nD Cert.KernelIdeal.τ).loc Cert.KernelIdeal.main_v127)) (v2 : (c : Dev Cert.KernelIdeal.nD) → Buf (Elt Ideal) ((c.tc : Thread Cert.KernelIdeal.nD Cert.KernelIdeal.τ).loc Cert.KernelIdeal.main_v128)) (v3 : (c : Dev Cert.KernelIdeal.nD) → Buf (Elt Ideal) ((c.tc : Thread Cert.KernelIdeal.nD Cert.KernelIdeal.τ).loc Cert.KernelIdeal.main_v61)) (v4 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_v128) = v2 c
          ∧ r.2.mem ((c.tc : Thread Cert.KernelIdeal.nD Cert.KernelIdeal.τ).loc Cert.KernelIdeal.main_v61) = v3 c
          ∧ r.2.mem ((c.tc : Thread Cert.KernelIdeal.nD Cert.KernelIdeal.τ).loc Cert.KernelIdeal.main_v62) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_v290) = v1 c
          ∧ r.2.mem ((c.tc : Thread Cert.ReferenceIdeal.nD Cert.ReferenceIdeal.τ).loc Cert.ReferenceIdeal.main_v291) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x2048 : Shape := ⟨3, ![16, 3, 2048]⟩
abbrev S16x256 : Shape := ⟨2, ![16, 256]⟩
abbrev S16x128 : Shape := ⟨2, ![16, 128]⟩
abbrev S64x1 : Shape := ⟨2, ![64, 1]⟩
abbrev S64x64 : Shape := ⟨2, ![64, 64]⟩
abbrev S64 : Shape := ⟨1, ![64]⟩
abbrev S128x64 : Shape := ⟨2, ![128, 64]⟩
abbrev S128x128 : Shape := ⟨2, ![128, 128]⟩
abbrev S128 : Shape := ⟨1, ![128]⟩
abbrev S128x129 : Shape := ⟨2, ![128, 129]⟩
abbrev S256x128 : Shape := ⟨2, ![256, 128]⟩
abbrev S256x256 : Shape := ⟨2, ![256, 256]⟩
abbrev S256 : Shape := ⟨1, ![256]⟩
abbrev S2x256 : Shape := ⟨2, ![2, 256]⟩
abbrev S16x2048x3 : Shape := ⟨3, ![16, 2048, 3]⟩
abbrev S16x256x1 : Shape := ⟨3, ![16, 256, 1]⟩
abbrev S_ : Shape := ⟨0, ![]⟩
abbrev S1 : Shape := ⟨1, ![1]⟩
abbrev S1x1x1 : Shape := ⟨3, ![1, 1, 1]⟩
abbrev S16x256x3 : Shape := ⟨3, ![16, 256, 3]⟩
abbrev S16x2048 : Shape := ⟨2, ![16, 2048]⟩
abbrev S16x1x2048 : Shape := ⟨3, ![16, 1, 2048]⟩
abbrev S16x256x2048 : Shape := ⟨3, ![16, 256, 2048]⟩
abbrev S16x256x32 : Shape := ⟨3, ![16, 256, 32]⟩
abbrev S16x1x2048x3 : Shape := ⟨4, ![16, 1, 2048, 3]⟩
abbrev S16x1x8192x1 : Shape := ⟨4, ![16, 1, 8192, 1]⟩
abbrev S16x8192x1 : Shape := ⟨3, ![16, 8192, 1]⟩
abbrev S16x8192 : Shape := ⟨2, ![16, 8192]⟩
abbrev S16x1x8192x3 : Shape := ⟨4, ![16, 1, 8192, 3]⟩
abbrev S16x1x256x32x3 : Shape := ⟨5, ![16, 1, 256, 32, 3]⟩
abbrev S16x1x256x1x3 : Shape := ⟨5, ![16, 1, 256, 1, 3]⟩
abbrev S16x3x1x256x32 : Shape := ⟨5, ![16, 3, 1, 256, 32]⟩
abbrev S16x3x1x8192 : Shape := ⟨4, ![16, 3, 1, 8192]⟩
abbrev S16x2x2x64 : Shape := ⟨4, ![16, 2, 2, 64]⟩
abbrev S1x3x1x4096 : Shape := ⟨4, ![1, 3, 1, 4096]⟩
abbrev S1x1x2x64 : Shape := ⟨4, ![1, 1, 2, 64]⟩
abbrev S1x1x1x4096 : Shape := ⟨4, ![1, 1, 1, 4096]⟩
abbrev S1x4096 : Shape := ⟨2, ![1, 4096]⟩
abbrev S64x4096 : Shape := ⟨2, ![64, 4096]⟩
abbrev S1x1x1x64 : Shape := ⟨4, ![1, 1, 1, 64]⟩
abbrev S2x64 : Shape := ⟨2, ![2, 64]⟩
abbrev S1x64 : Shape := ⟨2, ![1, 64]⟩
abbrev S64x4 : Shape := ⟨2, ![64, 4]⟩
abbrev S16x2x2x128 : Shape := ⟨4, ![16, 2, 2, 128]⟩
abbrev S1x1x2x128 : Shape := ⟨4, ![1, 1, 2, 128]⟩
abbrev S128x4096 : Shape := ⟨2, ![128, 4096]⟩
abbrev S1x1x1x128 : Shape := ⟨4, ![1, 1, 1, 128]⟩
abbrev S2x128 : Shape := ⟨2, ![2, 128]⟩
abbrev S1x128 : Shape := ⟨2, ![1, 128]⟩
abbrev S128x1 : Shape := ⟨2, ![128, 1]⟩
abbrev S128x4 : Shape := ⟨2, ![128, 4]⟩
abbrev S16x3x128x256 : Shape := ⟨4, ![16, 3, 128, 256]⟩
abbrev S1x3x128x128 : Shape := ⟨4, ![1, 3, 128, 128]⟩
abbrev S128x128x32 : Shape := ⟨3, ![128, 128, 32]⟩
abbrev S128x128x1 : Shape := ⟨3, ![128, 128, 1]⟩
abbrev S1x1x128x128 : Shape := ⟨4, ![1, 1, 128, 128]⟩
abbrev S16x128x256x3 : Shape := ⟨4, ![16, 128, 256, 3]⟩
abbrev S16x3x256 : Shape := ⟨3, ![16, 3, 256]⟩
abbrev S16x128x1 : Shape := ⟨3, ![16, 128, 1]⟩
abbrev S16x128x3 : Shape := ⟨3, ![16, 128, 3]⟩
abbrev S16x1x256 : Shape := ⟨3, ![16, 1, 256]⟩
abbrev S16x128x256 : Shape := ⟨3, ![16, 128, 256]⟩
abbrev S16x128x16 : Shape := ⟨3, ![16, 128, 16]⟩
abbrev S16x1x256x3 : Shape := ⟨4, ![16, 1, 256, 3]⟩
abbrev S16x1x2048x1 : Shape := ⟨4, ![16, 1, 2048, 1]⟩
abbrev S16x2048x1 : Shape := ⟨3, ![16, 2048, 1]⟩
abbrev S16x1x128x16x3 : Shape := ⟨5, ![16, 1, 128, 16, 3]⟩
abbrev S16x1x128x1x3 : Shape := ⟨5, ![16, 1, 128, 1, 3]⟩
abbrev S16x128x2048x3 : Shape := ⟨4, ![16, 128, 2048, 3]⟩
abbrev S16x128x128x16x3 : Shape := ⟨5, ![16, 128, 128, 16, 3]⟩
abbrev S16x129x128x16x3 : Shape := ⟨5, ![16, 129, 128, 16, 3]⟩
abbrev S16x3x129x128x16 : Shape := ⟨5, ![16, 3, 129, 128, 16]⟩
abbrev S16x3x129x2048 : Shape := ⟨4, ![16, 3, 129, 2048]⟩
abbrev S16x1x2x128 : Shape := ⟨4, ![16, 1, 2, 128]⟩
abbrev S1x3x129x2048 : Shape := ⟨4, ![1, 3, 129, 2048]⟩
abbrev S1x1x129x2048 : Shape := ⟨4, ![1, 1, 129, 2048]⟩
abbrev S129x2048 : Shape := ⟨2, ![129, 2048]⟩
abbrev S128x2048 : Shape := ⟨2, ![128, 2048]⟩
abbrev S16x1x2x256 : Shape := ⟨4, ![16, 1, 2, 256]⟩
abbrev S1x1x2x256 : Shape := ⟨4, ![1, 1, 2, 256]⟩
abbrev S256x2048 : Shape := ⟨2, ![256, 2048]⟩
abbrev S1x1x1x256 : Shape := ⟨4, ![1, 1, 1, 256]⟩
abbrev S1x256 : Shape := ⟨2, ![1, 256]⟩
abbrev S256x1 : Shape := ⟨2, ![256, 1]⟩
abbrev S256x4 : Shape := ⟨2, ![256, 4]⟩
abbrev S16x3x256x128 : Shape := ⟨4, ![16, 3, 256, 128]⟩
abbrev S1x3x256x128 : Shape := ⟨4, ![1, 3, 256, 128]⟩
abbrev S256x128x16 : Shape := ⟨3, ![256, 128, 16]⟩
abbrev S256x128x1 : Shape := ⟨3, ![256, 128, 1]⟩
abbrev S1x1x256x128 : Shape := ⟨4, ![1, 1, 256, 128]⟩
abbrev S16x256x128x3 : Shape := ⟨4, ![16, 256, 128, 3]⟩
abbrev S16x3x128 : Shape := ⟨3, ![16, 3, 128]⟩
abbrev S16x256x128 : Shape := ⟨3, ![16, 256, 128]⟩
abbrev S16x256x1x1 : Shape := ⟨4, ![16, 256, 1, 1]⟩
abbrev S1x1x1x1 : Shape := ⟨4, ![1, 1, 1, 1]⟩
abbrev S16x256x1x3 : Shape := ⟨4, ![16, 256, 1, 3]⟩
abbrev S16x3x2 : Shape := ⟨3, ![16, 3, 2]⟩
abbrev S16x2x3 : Shape := ⟨3, ![16, 2, 3]⟩
abbrev S16x1x3 : Shape := ⟨3, ![16, 1, 3]⟩
abbrev S16x3 : Shape := ⟨2, ![16, 3]⟩
abbrev S16 : Shape := ⟨1, ![16]⟩
abbrev S16x1 : Shape := ⟨2, ![16, 1]⟩
abbrev S1x16 : Shape := ⟨2, ![1, 16]⟩
abbrev S3x16 : Shape := ⟨2, ![3, 16]⟩
abbrev S16x3x1 : Shape := ⟨3, ![16, 3, 1]⟩
abbrev S16x3x3 : Shape := ⟨3, ![16, 3, 3]⟩

abbrev nBuf : Space → Nat
  | .hbm => 374
  | .vmem => 46
  | .smem => 0
  | _ => 0

abbrev hbmTy0_0 (i : Nat) : BufTy := match i % 128 with
  | 0 => ⟨S16x3x2048, .f32⟩
  | 1 => ⟨S16x256, .i32⟩
  | 2 => ⟨S16x128, .i32⟩
  | 3 => ⟨S64x1, .f32⟩
  | 4 => ⟨S64x64, .f32⟩
  | 5 => ⟨S64, .f32⟩
  | 6 => ⟨S64, .f32⟩
  | 7 => ⟨S128x64, .f32⟩
  | 8 => ⟨S128x128, .f32⟩
  | 9 => ⟨S128, .f32⟩
  | 10 => ⟨S128, .f32⟩
  | 11 => ⟨S128x129, .f32⟩
  | 12 => ⟨S128x128, .f32⟩
  | 13 => ⟨S128, .f32⟩
  | 14 => ⟨S128, .f32⟩
  | 15 => ⟨S256x128, .f32⟩
  | 16 => ⟨S256x256, .f32⟩
  | 17 => ⟨S256, .f32⟩
  | 18 => ⟨S256, .f32⟩
  | 19 => ⟨S2x256, .f32⟩
  | 20 => ⟨S16x2048x3, .f32⟩
  | 21 => ⟨S16x256x1, .i32⟩
  | 22 => ⟨S_, .i32⟩
  | 23 => ⟨S16x256x1, .i32⟩
  | 24 => ⟨S16x256x1, .i1⟩
  | 25 => ⟨S_, .i32⟩
  | 26 => ⟨S16x256x1, .i32⟩
  | 27 => ⟨S16x256x1, .i32⟩
  | 28 => ⟨S16x256x1, .i32⟩
  | 29 => ⟨S1, .i32⟩
  | 30 => ⟨S_, .i32⟩
  | 31 => ⟨S16x256x1, .i32⟩
  | 32 => ⟨S16x256x1, .i1⟩
  | 33 => ⟨S1x1x1, .i32⟩
  | 34 => ⟨S16x256x1, .i32⟩
  | 35 => ⟨S16x256x1, .i1⟩
  | 36 => ⟨S16x256x1, .i1⟩
  | 37 => ⟨S_, .i1⟩
  | 38 => ⟨S16x256, .i1⟩
  | 39 => ⟨S16x256x3, .f32⟩
  | 40 => ⟨S16x256x3, .i1⟩
  | 41 => ⟨S_, .f32⟩
  | 42 => ⟨S16x256x3, .f32⟩
  | 43 => ⟨S16x256x3, .f32⟩
  | 44 => ⟨S16x256x3, .f32⟩
  | 45 => ⟨S_, .f32⟩
  | 46 => ⟨S16x256, .f32⟩
  | 47 => ⟨S16x256x1, .f32⟩
  | 48 => ⟨S16x2048x3, .f32⟩
  | 49 => ⟨S_, .f32⟩
  | 50 => ⟨S16x2048, .f32⟩
  | 51 => ⟨S16x1x2048, .f32⟩
  | 52 => ⟨S16x256x2048, .f32⟩
  | 53 => ⟨S16x256x2048, .f32⟩
  | 54 => ⟨S16x256x2048, .f32⟩
  | 55 => ⟨S16x256x2048, .f32⟩
  | 56 => ⟨S_, .f32⟩
  | 57 => ⟨S16x256x2048, .f32⟩
  | 58 => ⟨S16x256x2048, .f32⟩
  | 59 => ⟨S16x256x2048, .f32⟩
  | 60 => ⟨S16x256x2048, .f32⟩
  | 61 => ⟨S16x256x32, .f32⟩
  | 62 => ⟨S16x256x32, .i32⟩
  | 63 => ⟨S16x1x2048x3, .f32⟩
  | 64 => ⟨S16x1x8192x1, .i32⟩
  | 65 => ⟨S_, .i32⟩
  | 66 => ⟨S16x1x8192x1, .i32⟩
  | 67 => ⟨S16x1x8192x1, .i1⟩
  | 68 => ⟨S_, .i32⟩
  | 69 => ⟨S16x1x8192x1, .i32⟩
  | 70 => ⟨S16x1x8192x1, .i32⟩
  | 71 => ⟨S16x1x8192x1, .i32⟩
  | 72 => ⟨S16x8192x1, .i32⟩
  | 73 => ⟨S1, .i32⟩
  | 74 => ⟨S_, .i32⟩
  | 75 => ⟨S16x8192x1, .i32⟩
  | 76 => ⟨S16x8192x1, .i1⟩
  | 77 => ⟨S1x1x1, .i32⟩
  | 78 => ⟨S16x8192x1, .i32⟩
  | 79 => ⟨S16x8192x1, .i1⟩
  | 80 => ⟨S16x8192x1, .i1⟩
  | 81 => ⟨S_, .i1⟩
  | 82 => ⟨S16x8192, .i1⟩
  | 83 => ⟨S16x1x8192x3, .f32⟩
  | 84 => ⟨S16x1x8192x3, .i1⟩
  | 85 => ⟨S_, .f32⟩
  | 86 => ⟨S16x1x8192x3, .f32⟩
  | 87 => ⟨S16x1x8192x3, .f32⟩
  | 88 => ⟨S16x1x256x32x3, .f32⟩
  | 89 => ⟨S16x1x256x1x3, .f32⟩
  | 90 => ⟨S16x1x256x32x3, .f32⟩
  | 91 => ⟨S16x1x256x32x3, .f32⟩
  | 92 => ⟨S16x3x1x256x32, .f32⟩
  | 93 => ⟨S16x3x1x8192, .f32⟩
  | 94 => ⟨S16x2x2x64, .f32⟩
  | 95 => ⟨S_, .f32⟩
  | 96 => ⟨S2x64, .f32⟩
  | 97 => ⟨S1x64, .f32⟩
  | 98 => ⟨S64, .f32⟩
  | 99 => ⟨S_, .f32⟩
  | 100 => ⟨S64, .f32⟩
  | 101 => ⟨S64, .f32⟩
  | 102 => ⟨S1x64, .f32⟩
  | 103 => ⟨S64, .f32⟩
  | 104 => ⟨S_, .f32⟩
  | 105 => ⟨S64, .f32⟩
  | 106 => ⟨S64, .f32⟩
  | 107 => ⟨S64, .f32⟩
  | 108 => ⟨S64, .f32⟩
  | 109 => ⟨S64x1, .f32⟩
  | 110 => ⟨S64x1, .f32⟩
  | 111 => ⟨S64x1, .f32⟩
  | 112 => ⟨S64x1, .f32⟩
  | 113 => ⟨S64x4, .f32⟩
  | 114 => ⟨S16x2x2x128, .f32⟩
  | 115 => ⟨S_, .f32⟩
  | 116 => ⟨S2x128, .f32⟩
  | 117 => ⟨S1x128, .f32⟩
  | 118 => ⟨S128, .f32⟩
  | 119 => ⟨S_, .f32⟩
  | 120 => ⟨S128, .f32⟩
  | 121 => ⟨S128, .f32⟩
  | 122 => ⟨S1x128, .f32⟩
  | 123 => ⟨S128, .f32⟩
  | 124 => ⟨S_, .f32⟩
  | 125 => ⟨S128, .f32⟩
  | 126 => ⟨S128, .f32⟩
  | 127 => ⟨S128, .f32⟩
  | _ => ⟨S16x3x2048, .f32⟩

abbrev hbmTy0_1 (i : Nat) : BufTy := match i % 128 with
  | 0 => ⟨S128, .f32⟩
  | 1 => ⟨S128x1, .f32⟩
  | 2 => ⟨S128x1, .f32⟩
  | 3 => ⟨S128x1, .f32⟩
  | 4 => ⟨S128x1, .f32⟩
  | 5 => ⟨S128x4, .f32⟩
  | 6 => ⟨S16x3x128x256, .f32⟩
  | 7 => ⟨S16x128x256x3, .f32⟩
  | 8 => ⟨S16x3x256, .f32⟩
  | 9 => ⟨S16x128x1, .i32⟩
  | 10 => ⟨S_, .i32⟩
  | 11 => ⟨S16x128x1, .i32⟩
  | 12 => ⟨S16x128x1, .i1⟩
  | 13 => ⟨S_, .i32⟩
  | 14 => ⟨S16x128x1, .i32⟩
  | 15 => ⟨S16x128x1, .i32⟩
  | 16 => ⟨S16x128x1, .i32⟩
  | 17 => ⟨S1, .i32⟩
  | 18 => ⟨S_, .i32⟩
  | 19 => ⟨S16x128x1, .i32⟩
  | 20 => ⟨S16x128x1, .i1⟩
  | 21 => ⟨S1x1x1, .i32⟩
  | 22 => ⟨S16x128x1, .i32⟩
  | 23 => ⟨S16x128x1, .i1⟩
  | 24 => ⟨S16x128x1, .i1⟩
  | 25 => ⟨S_, .i1⟩
  | 26 => ⟨S16x128, .i1⟩
  | 27 => ⟨S16x128x3, .f32⟩
  | 28 => ⟨S16x128x3, .i1⟩
  | 29 => ⟨S_, .f32⟩
  | 30 => ⟨S16x128x3, .f32⟩
  | 31 => ⟨S16x128x3, .f32⟩
  | 32 => ⟨S16x128x3, .f32⟩
  | 33 => ⟨S_, .f32⟩
  | 34 => ⟨S16x128, .f32⟩
  | 35 => ⟨S16x128x1, .f32⟩
  | 36 => ⟨S16x256x3, .f32⟩
  | 37 => ⟨S_, .f32⟩
  | 38 => ⟨S16x256, .f32⟩
  | 39 => ⟨S16x1x256, .f32⟩
  | 40 => ⟨S16x128x256, .f32⟩
  | 41 => ⟨S16x128x256, .f32⟩
  | 42 => ⟨S16x128x256, .f32⟩
  | 43 => ⟨S16x128x256, .f32⟩
  | 44 => ⟨S_, .f32⟩
  | 45 => ⟨S16x128x256, .f32⟩
  | 46 => ⟨S16x128x256, .f32⟩
  | 47 => ⟨S16x128x256, .f32⟩
  | 48 => ⟨S16x128x256, .f32⟩
  | 49 => ⟨S16x128x16, .f32⟩
  | 50 => ⟨S16x128x16, .i32⟩
  | 51 => ⟨S16x1x256x3, .f32⟩
  | 52 => ⟨S16x1x2048x1, .i32⟩
  | 53 => ⟨S_, .i32⟩
  | 54 => ⟨S16x1x2048x1, .i32⟩
  | 55 => ⟨S16x1x2048x1, .i1⟩
  | 56 => ⟨S_, .i32⟩
  | 57 => ⟨S16x1x2048x1, .i32⟩
  | 58 => ⟨S16x1x2048x1, .i32⟩
  | 59 => ⟨S16x1x2048x1, .i32⟩
  | 60 => ⟨S16x2048x1, .i32⟩
  | 61 => ⟨S1, .i32⟩
  | 62 => ⟨S_, .i32⟩
  | 63 => ⟨S16x2048x1, .i32⟩
  | 64 => ⟨S16x2048x1, .i1⟩
  | 65 => ⟨S1x1x1, .i32⟩
  | 66 => ⟨S16x2048x1, .i32⟩
  | 67 => ⟨S16x2048x1, .i1⟩
  | 68 => ⟨S16x2048x1, .i1⟩
  | 69 => ⟨S_, .i1⟩
  | 70 => ⟨S16x2048, .i1⟩
  | 71 => ⟨S16x1x2048x3, .f32⟩
  | 72 => ⟨S16x1x2048x3, .i1⟩
  | 73 => ⟨S_, .f32⟩
  | 74 => ⟨S16x1x2048x3, .f32⟩
  | 75 => ⟨S16x1x2048x3, .f32⟩
  | 76 => ⟨S16x1x128x16x3, .f32⟩
  | 77 => ⟨S16x1x128x1x3, .f32⟩
  | 78 => ⟨S16x1x128x16x3, .f32⟩
  | 79 => ⟨S16x1x128x16x3, .f32⟩
  | 80 => ⟨S16x1x2048x1, .i32⟩
  | 81 => ⟨S_, .i32⟩
  | 82 => ⟨S16x1x2048x1, .i32⟩
  | 83 => ⟨S16x1x2048x1, .i1⟩
  | 84 => ⟨S_, .i32⟩
  | 85 => ⟨S16x1x2048x1, .i32⟩
  | 86 => ⟨S16x1x2048x1, .i32⟩
  | 87 => ⟨S16x1x2048x1, .i32⟩
  | 88 => ⟨S16x2048x1, .i32⟩
  | 89 => ⟨S1, .i32⟩
  | 90 => ⟨S_, .i32⟩
  | 91 => ⟨S16x2048x1, .i32⟩
  | 92 => ⟨S16x2048x1, .i1⟩
  | 93 => ⟨S1x1x1, .i32⟩
  | 94 => ⟨S16x2048x1, .i32⟩
  | 95 => ⟨S16x2048x1, .i1⟩
  | 96 => ⟨S16x2048x1, .i1⟩
  | 97 => ⟨S_, .i1⟩
  | 98 => ⟨S16x2048, .i1⟩
  | 99 => ⟨S16x128x2048x3, .f32⟩
  | 100 => ⟨S16x128x2048x3, .i1⟩
  | 101 => ⟨S_, .f32⟩
  | 102 => ⟨S16x128x2048x3, .f32⟩
  | 103 => ⟨S16x128x2048x3, .f32⟩
  | 104 => ⟨S16x128x128x16x3, .f32⟩
  | 105 => ⟨S16x129x128x16x3, .f32⟩
  | 106 => ⟨S16x3x129x128x16, .f32⟩
  | 107 => ⟨S16x3x129x2048, .f32⟩
  | 108 => ⟨S16x1x2x128, .f32⟩
  | 109 => ⟨S_, .f32⟩
  | 110 => ⟨S2x128, .f32⟩
  | 111 => ⟨S1x128, .f32⟩
  | 112 => ⟨S128, .f32⟩
  | 113 => ⟨S_, .f32⟩
  | 114 => ⟨S128, .f32⟩
  | 115 => ⟨S128, .f32⟩
  | 116 => ⟨S1x128, .f32⟩
  | 117 => ⟨S128, .f32⟩
  | 118 => ⟨S_, .f32⟩
  | 119 => ⟨S128, .f32⟩
  | 120 => ⟨S128, .f32⟩
  | 121 => ⟨S128, .f32⟩
  | 122 => ⟨S128, .f32⟩
  | 123 => ⟨S128x1, .f32⟩
  | 124 => ⟨S128x1, .f32⟩
  | 125 => ⟨S128x1, .f32⟩
  | 126 => ⟨S128x1, .f32⟩
  | 127 => ⟨S128x4, .f32⟩
  | _ => ⟨S16x3x2048, .f32⟩

abbrev hbmTy0_2 (i : Nat) : BufTy := match i % 128 with
  | 0 => ⟨S16x1x2x256, .f32⟩
  | 1 => ⟨S_, .f32⟩
  | 2 => ⟨S2x256, .f32⟩
  | 3 => ⟨S1x256, .f32⟩
  | 4 => ⟨S256, .f32⟩
  | 5 => ⟨S_, .f32⟩
  | 6 => ⟨S256, .f32⟩
  | 7 => ⟨S256, .f32⟩
  | 8 => ⟨S1x256, .f32⟩
  | 9 => ⟨S256, .f32⟩
  | 10 => ⟨S_, .f32⟩
  | 11 => ⟨S256, .f32⟩
  | 12 => ⟨S256, .f32⟩
  | 13 => ⟨S256, .f32⟩
  | 14 => ⟨S256, .f32⟩
  | 15 => ⟨S256x1, .f32⟩
  | 16 => ⟨S256x1, .f32⟩
  | 17 => ⟨S256x1, .f32⟩
  | 18 => ⟨S256x1, .f32⟩
  | 19 => ⟨S256x4, .f32⟩
  | 20 => ⟨S16x3x256x128, .f32⟩
  | 21 => ⟨S16x256x128x3, .f32⟩
  | 22 => ⟨S16x3x128, .f32⟩
  | 23 => ⟨S16x256x128x3, .f32⟩
  | 24 => ⟨S_, .f32⟩
  | 25 => ⟨S16x256x128, .f32⟩
  | 26 => ⟨S16x256x128, .i32⟩
  | 27 => ⟨S_, .f32⟩
  | 28 => ⟨S_, .i32⟩
  | 29 => ⟨S16x256, .f32⟩
  | 30 => ⟨S16x256, .i32⟩
  | 31 => ⟨S16x256x1x1, .i32⟩
  | 32 => ⟨S_, .i32⟩
  | 33 => ⟨S16x256x1x1, .i32⟩
  | 34 => ⟨S16x256x1x1, .i1⟩
  | 35 => ⟨S_, .i32⟩
  | 36 => ⟨S16x256x1x1, .i32⟩
  | 37 => ⟨S16x256x1x1, .i32⟩
  | 38 => ⟨S16x256x1x1, .i32⟩
  | 39 => ⟨S1, .i32⟩
  | 40 => ⟨S_, .i32⟩
  | 41 => ⟨S16x256x1x1, .i32⟩
  | 42 => ⟨S16x256x1x1, .i1⟩
  | 43 => ⟨S1x1x1x1, .i32⟩
  | 44 => ⟨S16x256x1x1, .i32⟩
  | 45 => ⟨S16x256x1x1, .i1⟩
  | 46 => ⟨S16x256x1x1, .i1⟩
  | 47 => ⟨S_, .i1⟩
  | 48 => ⟨S16x256x1, .i1⟩
  | 49 => ⟨S16x256x1x3, .f32⟩
  | 50 => ⟨S16x256x1x3, .i1⟩
  | 51 => ⟨S_, .f32⟩
  | 52 => ⟨S16x256x1x3, .f32⟩
  | 53 => ⟨S16x256x1x3, .f32⟩
  | 54 => ⟨S16x256x3, .f32⟩
  | 55 => ⟨S16x3x2, .f32⟩
  | 56 => ⟨S16x2x3, .f32⟩
  | 57 => ⟨S16x1x3, .f32⟩
  | 58 => ⟨S16x3, .f32⟩
  | 59 => ⟨S16x1x3, .f32⟩
  | 60 => ⟨S16x3, .f32⟩
  | 61 => ⟨S16x3, .f32⟩
  | 62 => ⟨S_, .f32⟩
  | 63 => ⟨S16, .f32⟩
  | 64 => ⟨S16x1, .f32⟩
  | 65 => ⟨S16x1, .f32⟩
  | 66 => ⟨S_, .f32⟩
  | 67 => ⟨S16x1, .f32⟩
  | 68 => ⟨S16x1, .f32⟩
  | 69 => ⟨S16x3, .f32⟩
  | 70 => ⟨S16x3, .f32⟩
  | 71 => ⟨S16x3, .f32⟩
  | 72 => ⟨S_, .f32⟩
  | 73 => ⟨S16, .f32⟩
  | 74 => ⟨S16x1, .f32⟩
  | 75 => ⟨S16x3, .f32⟩
  | 76 => ⟨S16x3, .f32⟩
  | 77 => ⟨S16x3, .f32⟩
  | 78 => ⟨S16x3, .f32⟩
  | 79 => ⟨S_, .f32⟩
  | 80 => ⟨S16, .f32⟩
  | 81 => ⟨S16x1, .f32⟩
  | 82 => ⟨S16x1, .f32⟩
  | 83 => ⟨S_, .f32⟩
  | 84 => ⟨S16x1, .f32⟩
  | 85 => ⟨S16x1, .f32⟩
  | 86 => ⟨S16x3, .f32⟩
  | 87 => ⟨S16x3, .f32⟩
  | 88 => ⟨S16x1, .f32⟩
  | 89 => ⟨S16, .f32⟩
  | 90 => ⟨S16x1, .f32⟩
  | 91 => ⟨S16, .f32⟩
  | 92 => ⟨S16x1, .f32⟩
  | 93 => ⟨S16, .f32⟩
  | 94 => ⟨S16x1, .f32⟩
  | 95 => ⟨S16, .f32⟩
  | 96 => ⟨S16x1, .f32⟩
  | 97 => ⟨S16, .f32⟩
  | 98 => ⟨S16x1, .f32⟩
  | 99 => ⟨S16, .f32⟩
  | 100 => ⟨S16, .f32⟩
  | 101 => ⟨S16, .f32⟩
  | 102 => ⟨S16, .f32⟩
  | 103 => ⟨S16, .f32⟩
  | 104 => ⟨S16, .f32⟩
  | 105 => ⟨S16, .f32⟩
  | 106 => ⟨S16, .f32⟩
  | 107 => ⟨S16, .f32⟩
  | 108 => ⟨S16, .f32⟩
  | 109 => ⟨S1x16, .f32⟩
  | 110 => ⟨S1x16, .f32⟩
  | 111 => ⟨S1x16, .f32⟩
  | 112 => ⟨S3x16, .f32⟩
  | 113 => ⟨S16x3, .f32⟩
  | 114 => ⟨S16x3x1, .f32⟩
  | 115 => ⟨S16x3x1, .f32⟩
  | 116 => ⟨S16x3x1, .f32⟩
  | 117 => ⟨S16x3x3, .f32⟩
  | _ => ⟨S16x3x2048, .f32⟩

abbrev hbmTy (i : Nat) : BufTy := match i / 128 with
  | 0 => hbmTy0_0 i
  | 1 => hbmTy0_1 i
  | 2 => hbmTy0_2 i
  | _ => ⟨S16x3x2048, .f32⟩

abbrev bufTy : (tb : Table) → Fin (tcTables nBuf tb) → BufTy
  | .hbm, ⟨i, _⟩ => hbmTy i
  | .local _ .vmem, ⟨0, _⟩ => ⟨S1x3x1x4096, .f32⟩
  | .local _ .vmem, ⟨1, _⟩ => ⟨S1x3x1x4096, .f32⟩
  | .local _ .vmem, ⟨2, _⟩ => ⟨S64x1, .f32⟩
  | .local _ .vmem, ⟨3, _⟩ => ⟨S1x1x2x64, .f32⟩
  | .local _ .vmem, ⟨4, _⟩ => ⟨S1x1x2x64, .f32⟩
  | .local _ .vmem, ⟨5, _⟩ => ⟨S1x3x1x4096, .f32⟩
  | .local _ .vmem, ⟨6, _⟩ => ⟨S1x3x1x4096, .f32⟩
  | .local _ .vmem, ⟨7, _⟩ => ⟨S64x1, .f32⟩
  | .local _ .vmem, ⟨8, _⟩ => ⟨S64x4, .f32⟩
  | .local _ .vmem, ⟨9, _⟩ => ⟨S64x64, .f32⟩
  | .local _ .vmem, ⟨10, _⟩ => ⟨S128x64, .f32⟩
  | .local _ .vmem, ⟨11, _⟩ => ⟨S1x1x2x128, .f32⟩
  | .local _ .vmem, ⟨12, _⟩ => ⟨S1x1x2x128, .f32⟩
  | .local _ .vmem, ⟨13, _⟩ => ⟨S1x3x1x4096, .f32⟩
  | .local _ .vmem, ⟨14, _⟩ => ⟨S1x3x1x4096, .f32⟩
  | .local _ .vmem, ⟨15, _⟩ => ⟨S64x1, .f32⟩
  | .local _ .vmem, ⟨16, _⟩ => ⟨S64x4, .f32⟩
  | .local _ .vmem, ⟨17, _⟩ => ⟨S64x64, .f32⟩
  | .local _ .vmem, ⟨18, _⟩ => ⟨S128x64, .f32⟩
  | .local _ .vmem, ⟨19, _⟩ => ⟨S128x4, .f32⟩
  | .local _ .vmem, ⟨20, _⟩ => ⟨S128x128, .f32⟩
  | .local _ .vmem, ⟨21, _⟩ => ⟨S1x3x128x128, .f32⟩
  | .local _ .vmem, ⟨22, _⟩ => ⟨S1x3x128x128, .f32⟩
  | .local _ .vmem, ⟨23, _⟩ => ⟨S1x3x129x2048, .f32⟩
  | .local _ .vmem, ⟨24, _⟩ => ⟨S1x3x129x2048, .f32⟩
  | .local _ .vmem, ⟨25, _⟩ => ⟨S128x129, .f32⟩
  | .local _ .vmem, ⟨26, _⟩ => ⟨S1x1x2x128, .f32⟩
  | .local _ .vmem, ⟨27, _⟩ => ⟨S1x1x2x128, .f32⟩
  | .local _ .vmem, ⟨28, _⟩ => ⟨S1x3x129x2048, .f32⟩
  | .local _ .vmem, ⟨29, _⟩ => ⟨S1x3x129x2048, .f32⟩
  | .local _ .vmem, ⟨30, _⟩ => ⟨S128x129, .f32⟩
  | .local _ .vmem, ⟨31, _⟩ => ⟨S128x4, .f32⟩
  | .local _ .vmem, ⟨32, _⟩ => ⟨S128x128, .f32⟩
  | .local _ .vmem, ⟨33, _⟩ => ⟨S256x128, .f32⟩
  | .local _ .vmem, ⟨34, _⟩ => ⟨S1x1x2x256, .f32⟩
  | .local _ .vmem, ⟨35, _⟩ => ⟨S1x1x2x256, .f32⟩
  | .local _ .vmem, ⟨36, _⟩ => ⟨S1x3x129x2048, .f32⟩
  | .local _ .vmem, ⟨37, _⟩ => ⟨S1x3x129x2048, .f32⟩
  | .local _ .vmem, ⟨38, _⟩ => ⟨S128x129, .f32⟩
  | .local _ .vmem, ⟨39, _⟩ => ⟨S128x4, .f32⟩
  | .local _ .vmem, ⟨40, _⟩ => ⟨S128x128, .f32⟩
  | .local _ .vmem, ⟨41, _⟩ => ⟨S256x128, .f32⟩
  | .local _ .vmem, ⟨42, _⟩ => ⟨S256x4, .f32⟩
  | .local _ .vmem, ⟨43, _⟩ => ⟨S256x256, .f32⟩
  | .local _ .vmem, ⟨44, _⟩ => ⟨S1x3x256x128, .f32⟩
  | .local _ .vmem, ⟨45, _⟩ => ⟨S1x3x256x128, .f32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_c_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v2 : Ref sig .tc := ⟨.hbm, 43, rfl⟩
abbrev main_v3 : Ref sig .tc := ⟨.hbm, 44, rfl⟩
abbrev main_cst : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst_0 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_1 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_values : Ref sig .tc := ⟨.hbm, 61, rfl⟩
abbrev main_indices : Ref sig .tc := ⟨.hbm, 62, rfl⟩
abbrev main_v17 : Ref sig .tc := ⟨.hbm, 63, rfl⟩
abbrev main_v18 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_cst_2 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_cst_3 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_cst_4 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_5 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_6 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_cst_7 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_call2_c : Ref sig .tc := ⟨.hbm, 138, rfl⟩
abbrev main_call2_v0 : Ref sig .tc := ⟨.hbm, 139, rfl⟩
abbrev main_call2_v1 : Ref sig .tc := ⟨.hbm, 140, rfl⟩
abbrev main_call2_c_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_c_1 : Ref sig .tc := ⟨.hbm, 145, rfl⟩
abbrev main_call2_c_2 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_c_3 : Ref sig .tc := ⟨.hbm, 153, rfl⟩
abbrev main_call2_v11 : Ref sig .tc := ⟨.hbm, 154, rfl⟩
abbrev main_call2_v12 : Ref sig .tc := ⟨.hbm, 155, rfl⟩
abbrev main_call2_v13 : Ref sig .tc := ⟨.hbm, 156, rfl⟩
abbrev main_call2_cst : Ref sig .tc := ⟨.hbm, 157, rfl⟩
abbrev main_call2_v14 : Ref sig .tc := ⟨.hbm, 158, rfl⟩
abbrev main_v64 : Ref sig .tc := ⟨.hbm, 159, rfl⟩
abbrev main_v65 : Ref sig .tc := ⟨.hbm, 160, rfl⟩
abbrev main_cst_8 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_cst_9 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_cst_10 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_values_11 : Ref sig .tc := ⟨.hbm, 177, rfl⟩
abbrev main_indices_12 : Ref sig .tc := ⟨.hbm, 178, rfl⟩
abbrev main_v79 : Ref sig .tc := ⟨.hbm, 179, rfl⟩
abbrev main_v80 : Ref sig .tc := ⟨.hbm, 180, rfl⟩
abbrev main_call3_c : Ref sig .tc := ⟨.hbm, 181, rfl⟩
abbrev main_call3_v0 : Ref sig .tc := ⟨.hbm, 182, rfl⟩
abbrev main_call3_v1 : Ref sig .tc := ⟨.hbm, 183, rfl⟩
abbrev main_call3_c_0 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_v5 : Ref sig .tc := ⟨.hbm, 188, rfl⟩
abbrev main_call3_c_1 : Ref sig .tc := ⟨.hbm, 189, rfl⟩
abbrev main_call3_c_2 : Ref sig .tc := ⟨.hbm, 190, rfl⟩
abbrev main_call3_v6 : Ref sig .tc := ⟨.hbm, 191, rfl⟩
abbrev main_call3_v7 : Ref sig .tc := ⟨.hbm, 192, rfl⟩
abbrev main_call3_v8 : Ref sig .tc := ⟨.hbm, 193, rfl⟩
abbrev main_call3_v9 : Ref sig .tc := ⟨.hbm, 194, rfl⟩
abbrev main_call3_v10 : Ref sig .tc := ⟨.hbm, 195, rfl⟩
abbrev main_call3_v11 : Ref sig .tc := ⟨.hbm, 196, rfl⟩
abbrev main_call3_c_3 : Ref sig .tc := ⟨.hbm, 197, rfl⟩
abbrev main_call3_v12 : Ref sig .tc := ⟨.hbm, 198, rfl⟩
abbrev main_call3_v13 : Ref sig .tc := ⟨.hbm, 199, rfl⟩
abbrev main_call3_v14 : Ref sig .tc := ⟨.hbm, 200, rfl⟩
abbrev main_call3_cst : Ref sig .tc := ⟨.hbm, 201, rfl⟩
abbrev main_call3_v15 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_call4_c : Ref sig .tc := ⟨.hbm, 209, rfl⟩
abbrev main_call4_v0 : Ref sig .tc := ⟨.hbm, 210, rfl⟩
abbrev main_call4_v1 : Ref sig .tc := ⟨.hbm, 211, rfl⟩
abbrev main_call4_c_0 : Ref sig .tc := ⟨.hbm, 212, rfl⟩
abbrev main_call4_v2 : Ref sig .tc := ⟨.hbm, 213, rfl⟩
abbrev main_call4_v3 : Ref sig .tc := ⟨.hbm, 214, rfl⟩
abbrev main_call4_v4 : Ref sig .tc := ⟨.hbm, 215, rfl⟩
abbrev main_call4_v5 : Ref sig .tc := ⟨.hbm, 216, rfl⟩
abbrev main_call4_c_1 : Ref sig .tc := ⟨.hbm, 217, rfl⟩
abbrev main_call4_c_2 : Ref sig .tc := ⟨.hbm, 218, rfl⟩
abbrev main_call4_v6 : Ref sig .tc := ⟨.hbm, 219, rfl⟩
abbrev main_call4_v7 : Ref sig .tc := ⟨.hbm, 220, rfl⟩
abbrev main_call4_v8 : Ref sig .tc := ⟨.hbm, 221, rfl⟩
abbrev main_call4_v9 : Ref sig .tc := ⟨.hbm, 222, rfl⟩
abbrev main_call4_v10 : Ref sig .tc := ⟨.hbm, 223, rfl⟩
abbrev main_call4_v11 : Ref sig .tc := ⟨.hbm, 224, rfl⟩
abbrev main_call4_c_3 : Ref sig .tc := ⟨.hbm, 225, rfl⟩
abbrev main_call4_v12 : Ref sig .tc := ⟨.hbm, 226, rfl⟩
abbrev main_call4_v13 : Ref sig .tc := ⟨.hbm, 227, rfl⟩
abbrev main_call4_v14 : Ref sig .tc := ⟨.hbm, 228, rfl⟩
abbrev main_call4_cst : Ref sig .tc := ⟨.hbm, 229, rfl⟩
abbrev main_call4_v15 : Ref sig .tc := ⟨.hbm, 230, rfl⟩
abbrev main_v87 : Ref sig .tc := ⟨.hbm, 231, rfl⟩
abbrev main_v88 : Ref sig .tc := ⟨.hbm, 232, rfl⟩
abbrev main_v89 : Ref sig .tc := ⟨.hbm, 233, rfl⟩
abbrev main_v90 : Ref sig .tc := ⟨.hbm, 234, rfl⟩
abbrev main_v91 : Ref sig .tc := ⟨.hbm, 235, rfl⟩
abbrev main_v92 : Ref sig .tc := ⟨.hbm, 236, rfl⟩
abbrev main_cst_13 : Ref sig .tc := ⟨.hbm, 237, rfl⟩
abbrev main_v93 : Ref sig .tc := ⟨.hbm, 238, rfl⟩
abbrev main_v94 : Ref sig .tc := ⟨.hbm, 239, rfl⟩
abbrev main_v95 : Ref sig .tc := ⟨.hbm, 240, rfl⟩
abbrev main_cst_14 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_cst_15 : Ref sig .tc := ⟨.hbm, 246, rfl⟩
abbrev main_v100 : Ref sig .tc := ⟨.hbm, 247, rfl⟩
abbrev main_v101 : Ref sig .tc := ⟨.hbm, 248, rfl⟩
abbrev main_v102 : Ref sig .tc := ⟨.hbm, 249, rfl⟩
abbrev main_v103 : Ref sig .tc := ⟨.hbm, 250, rfl⟩
abbrev main_v104 : Ref sig .tc := ⟨.hbm, 251, rfl⟩
abbrev main_v105 : Ref sig .tc := ⟨.hbm, 252, rfl⟩
abbrev main_v106 : Ref sig .tc := ⟨.hbm, 253, rfl⟩
abbrev main_v107 : Ref sig .tc := ⟨.hbm, 254, rfl⟩
abbrev main_v108 : Ref sig .tc := ⟨.hbm, 255, rfl⟩
abbrev main_v109 : Ref sig .tc := ⟨.hbm, 256, rfl⟩
abbrev main_cst_16 : Ref sig .tc := ⟨.hbm, 257, rfl⟩
abbrev main_v110 : Ref sig .tc := ⟨.hbm, 258, rfl⟩
abbrev main_v111 : Ref sig .tc := ⟨.hbm, 259, rfl⟩
abbrev main_v112 : Ref sig .tc := ⟨.hbm, 260, rfl⟩
abbrev main_cst_17 : Ref sig .tc := ⟨.hbm, 261, rfl⟩
abbrev main_v113 : Ref sig .tc := ⟨.hbm, 262, rfl⟩
abbrev main_v114 : Ref sig .tc := ⟨.hbm, 263, rfl⟩
abbrev main_v115 : Ref sig .tc := ⟨.hbm, 264, rfl⟩
abbrev main_v116 : Ref sig .tc := ⟨.hbm, 265, rfl⟩
abbrev main_cst_18 : Ref sig .tc := ⟨.hbm, 266, rfl⟩
abbrev main_v117 : Ref sig .tc := ⟨.hbm, 267, rfl⟩
abbrev main_v118 : Ref sig .tc := ⟨.hbm, 268, rfl⟩
abbrev main_v119 : Ref sig .tc := ⟨.hbm, 269, rfl⟩
abbrev main_v120 : Ref sig .tc := ⟨.hbm, 270, rfl⟩
abbrev main_v121 : Ref sig .tc := ⟨.hbm, 271, rfl⟩
abbrev main_v122 : Ref sig .tc := ⟨.hbm, 272, rfl⟩
abbrev main_v123 : Ref sig .tc := ⟨.hbm, 273, rfl⟩
abbrev main_v124 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_v129 : Ref sig .tc := ⟨.hbm, 279, rfl⟩
abbrev main_cst_19 : Ref sig .tc := ⟨.hbm, 280, rfl⟩
abbrev main_v130 : Ref sig .tc := ⟨.hbm, 281, rfl⟩
abbrev main_call5_v0 : Ref sig .tc := ⟨.hbm, 282, rfl⟩
abbrev main_call5_cst : Ref sig .tc := ⟨.hbm, 283, rfl⟩
abbrev main_call5_c : Ref sig .tc := ⟨.hbm, 284, rfl⟩
abbrev main_call5_v1_0 : Ref sig .tc := ⟨.hbm, 285, rfl⟩
abbrev main_v131 : Ref sig .tc := ⟨.hbm, 286, rfl⟩
abbrev main_v132 : Ref sig .tc := ⟨.hbm, 287, rfl⟩
abbrev main_call6_c : Ref sig .tc := ⟨.hbm, 288, rfl⟩
abbrev main_call6_v0 : Ref sig .tc := ⟨.hbm, 289, rfl⟩
abbrev main_call6_v1 : Ref sig .tc := ⟨.hbm, 290, rfl⟩
abbrev main_call6_c_0 : Ref sig .tc := ⟨.hbm, 291, rfl⟩
abbrev main_call6_v2 : Ref sig .tc := ⟨.hbm, 292, rfl⟩
abbrev main_call6_v3 : Ref sig .tc := ⟨.hbm, 293, rfl⟩
abbrev main_call6_v4 : Ref sig .tc := ⟨.hbm, 294, rfl⟩
abbrev main_call6_c_1 : Ref sig .tc := ⟨.hbm, 295, rfl⟩
abbrev main_call6_c_2 : Ref sig .tc := ⟨.hbm, 296, rfl⟩
abbrev main_call6_v5 : Ref sig .tc := ⟨.hbm, 297, rfl⟩
abbrev main_call6_v6 : Ref sig .tc := ⟨.hbm, 298, rfl⟩
abbrev main_call6_v7 : Ref sig .tc := ⟨.hbm, 299, rfl⟩
abbrev main_call6_v8 : Ref sig .tc := ⟨.hbm, 300, rfl⟩
abbrev main_call6_v9 : Ref sig .tc := ⟨.hbm, 301, rfl⟩
abbrev main_call6_v10 : Ref sig .tc := ⟨.hbm, 302, rfl⟩
abbrev main_call6_c_3 : Ref sig .tc := ⟨.hbm, 303, rfl⟩
abbrev main_call6_v11 : Ref sig .tc := ⟨.hbm, 304, rfl⟩
abbrev main_call6_v12 : Ref sig .tc := ⟨.hbm, 305, rfl⟩
abbrev main_call6_v13 : Ref sig .tc := ⟨.hbm, 306, rfl⟩
abbrev main_call6_cst : Ref sig .tc := ⟨.hbm, 307, rfl⟩
abbrev main_call6_v14 : Ref sig .tc := ⟨.hbm, 308, rfl⟩
abbrev main_v133 : Ref sig .tc := ⟨.hbm, 309, rfl⟩
abbrev main_v134 : Ref sig .tc := ⟨.hbm, 310, rfl⟩
abbrev main_v135 : Ref sig .tc := ⟨.hbm, 311, rfl⟩
abbrev main_v136 : Ref sig .tc := ⟨.hbm, 312, rfl⟩
abbrev main_v137 : Ref sig .tc := ⟨.hbm, 313, rfl⟩
abbrev main_v138 : Ref sig .tc := ⟨.hbm, 314, rfl⟩
abbrev main_v139 : Ref sig .tc := ⟨.hbm, 315, rfl⟩
abbrev main_v140 : Ref sig .tc := ⟨.hbm, 316, rfl⟩
abbrev main_call7_v0 : Ref sig .tc := ⟨.hbm, 317, rfl⟩
abbrev main_call7_cst : Ref sig .tc := ⟨.hbm, 318, rfl⟩
abbrev main_call7_v1 : Ref sig .tc := ⟨.hbm, 319, rfl⟩
abbrev main_call7_v2 : Ref sig .tc := ⟨.hbm, 320, rfl⟩
abbrev main_v141 : Ref sig .tc := ⟨.hbm, 321, rfl⟩
abbrev main_cst_20 : Ref sig .tc := ⟨.hbm, 322, rfl⟩
abbrev main_v142 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩
abbrev main_cst_21 : Ref sig .tc := ⟨.hbm, 328, rfl⟩
abbrev main_v147 : Ref sig .tc := ⟨.hbm, 329, rfl⟩
abbrev main_v148 : Ref sig .tc := ⟨.hbm, 330, rfl⟩
abbrev main_v149 : Ref sig .tc := ⟨.hbm, 331, rfl⟩
abbrev main_v150 : Ref sig .tc := ⟨.hbm, 332, rfl⟩
abbrev main_v151 : Ref sig .tc := ⟨.hbm, 333, rfl⟩
abbrev main_call8_v0 : Ref sig .tc := ⟨.hbm, 334, rfl⟩
abbrev main_call8_cst : Ref sig .tc := ⟨.hbm, 335, rfl⟩
abbrev main_call8_v1 : Ref sig .tc := ⟨.hbm, 336, rfl⟩
abbrev main_call8_v2 : Ref sig .tc := ⟨.hbm, 337, rfl⟩
abbrev main_v152 : Ref sig .tc := ⟨.hbm, 338, rfl⟩
abbrev main_cst_22 : Ref sig .tc := ⟨.hbm, 339, rfl⟩
abbrev main_v153 : Ref sig .tc := ⟨.hbm, 340, rfl⟩
abbrev main_v154 : Ref sig .tc := ⟨.hbm, 341, rfl⟩
abbrev main_v155 : Ref sig .tc := ⟨.hbm, 342, rfl⟩
abbrev main_v156 : Ref sig .tc := ⟨.hbm, 343, rfl⟩
abbrev main_call9_v0 : Ref sig .tc := ⟨.hbm, 344, rfl⟩
abbrev main_call9_v1 : Ref sig .tc := ⟨.hbm, 345, rfl⟩
abbrev main_call9_v2 : Ref sig .tc := ⟨.hbm, 346, rfl⟩
abbrev main_call9_v3 : Ref sig .tc := ⟨.hbm, 347, rfl⟩
abbrev main_call9_v4 : Ref sig .tc := ⟨.hbm, 348, rfl⟩
abbrev main_call9_v5 : Ref sig .tc := ⟨.hbm, 349, rfl⟩
abbrev main_call9_v6 : Ref sig .tc := ⟨.hbm, 350, rfl⟩
abbrev main_call9_v7 : Ref sig .tc := ⟨.hbm, 351, rfl⟩
abbrev main_call9_v8 : Ref sig .tc := ⟨.hbm, 352, rfl⟩
abbrev main_call9_v9 : Ref sig .tc := ⟨.hbm, 353, rfl⟩
abbrev main_call9_v10 : Ref sig .tc := ⟨.hbm, 354, rfl⟩
abbrev main_call9_v11 : Ref sig .tc := ⟨.hbm, 355, rfl⟩
abbrev main_call9_v12 : Ref sig .tc := ⟨.hbm, 356, rfl⟩
abbrev main_call9_v13 : Ref sig .tc := ⟨.hbm, 357, rfl⟩
abbrev main_call9_v14 : Ref sig .tc := ⟨.hbm, 358, rfl⟩
abbrev main_call9_v15 : Ref sig .tc := ⟨.hbm, 359, rfl⟩
abbrev main_call9_v16 : Ref sig .tc := ⟨.hbm, 360, rfl⟩
abbrev main_call9_v17 : Ref sig .tc := ⟨.hbm, 361, rfl⟩
abbrev main_call9_v18 : Ref sig .tc := ⟨.hbm, 362, rfl⟩
abbrev main_call9_v19 : Ref sig .tc := ⟨.hbm, 363, rfl⟩
abbrev main_call9_v20 : Ref sig .tc := ⟨.hbm, 364, rfl⟩
abbrev main_call9_v21 : Ref sig .tc := ⟨.hbm, 365, rfl⟩
abbrev main_call9_v22 : Ref sig .tc := ⟨.hbm, 366, rfl⟩
abbrev main_call9_v23 : Ref sig .tc := ⟨.hbm, 367, rfl⟩
abbrev main_call9_v24 : Ref sig .tc := ⟨.hbm, 368, rfl⟩
abbrev main_v157 : Ref sig .tc := ⟨.hbm, 369, rfl⟩
abbrev main_v158 : Ref sig .tc := ⟨.hbm, 370, rfl⟩
abbrev main_v159 : Ref sig .tc := ⟨.hbm, 371, rfl⟩
abbrev main_v160 : Ref sig .tc := ⟨.hbm, 372, rfl⟩
abbrev main_v161 : Ref sig .tc := ⟨.hbm, 373, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg7_0 : Ref sig .tc := ⟨.vmem, 44, rfl⟩
abbrev cc5_stg7_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem7_0 : DmaSem sig := 44
abbrev cc5_sem7_1 : DmaSem sig := 45

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x3x1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x2x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![16, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 2 → Memref sig .tc .vmem S1x3x1x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x3x128x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![16, 1], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x3x129x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S128x129 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1x2x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![16, 1], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x3x129x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x129 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S128x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S256x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x1x2x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![16, 1], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage5_0 : Fin 2 → Memref sig .tc .vmem S1x3x129x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S128x129 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S128x4 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S256x4 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x3x256x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]
-- ==== ReferenceIdeal.lean ====
abbrev S16x3x2048 : Shape := ⟨3, ![16, 3, 2048]⟩
abbrev S16x256 : Shape := ⟨2, ![16, 256]⟩
abbrev S16x128 : Shape := ⟨2, ![16, 128]⟩
abbrev S64x1 : Shape := ⟨2, ![64, 1]⟩
abbrev S64x64 : Shape := ⟨2, ![64, 64]⟩
abbrev S64 : Shape := ⟨1, ![64]⟩
abbrev S128x64 : Shape := ⟨2, ![128, 64]⟩
abbrev S128x128 : Shape := ⟨2, ![128, 128]⟩
abbrev S128 : Shape := ⟨1, ![128]⟩
abbrev S128x129 : Shape := ⟨2, ![128, 129]⟩
abbrev S256x128 : Shape := ⟨2, ![256, 128]⟩
abbrev S256x256 : Shape := ⟨2, ![256, 256]⟩
abbrev S256 : Shape := ⟨1, ![256]⟩
abbrev S2x256 : Shape := ⟨2, ![2, 256]⟩
abbrev S16x2048x3 : Shape := ⟨3, ![16, 2048, 3]⟩
abbrev S16x256x1 : Shape := ⟨3, ![16, 256, 1]⟩
abbrev S_ : Shape := ⟨0, ![]⟩
abbrev S1 : Shape := ⟨1, ![1]⟩
abbrev S1x1x1 : Shape := ⟨3, ![1, 1, 1]⟩
abbrev S16x256x3 : Shape := ⟨3, ![16, 256, 3]⟩
abbrev S16x2048 : Shape := ⟨2, ![16, 2048]⟩
abbrev S16x1x2048 : Shape := ⟨3, ![16, 1, 2048]⟩
abbrev S16x256x2048 : Shape := ⟨3, ![16, 256, 2048]⟩
abbrev S16x256x32 : Shape := ⟨3, ![16, 256, 32]⟩
abbrev S16x1x2048x3 : Shape := ⟨4, ![16, 1, 2048, 3]⟩
abbrev S16x1x8192x1 : Shape := ⟨4, ![16, 1, 8192, 1]⟩
abbrev S16x8192x1 : Shape := ⟨3, ![16, 8192, 1]⟩
abbrev S16x8192 : Shape := ⟨2, ![16, 8192]⟩
abbrev S16x1x8192x3 : Shape := ⟨4, ![16, 1, 8192, 3]⟩
abbrev S16x1x256x3 : Shape := ⟨4, ![16, 1, 256, 3]⟩
abbrev S16x1x256x1x3 : Shape := ⟨5, ![16, 1, 256, 1, 3]⟩
abbrev S16x1x256x32x3 : Shape := ⟨5, ![16, 1, 256, 32, 3]⟩
abbrev S16x256x32x3x64 : Shape := ⟨5, ![16, 256, 32, 3, 64]⟩
abbrev S16x64x256x32x3 : Shape := ⟨5, ![16, 64, 256, 32, 3]⟩
abbrev S16x64x256x32 : Shape := ⟨4, ![16, 64, 256, 32]⟩
abbrev S16x64x256x32x1 : Shape := ⟨5, ![16, 64, 256, 32, 1]⟩
abbrev S1x64x1x1x1 : Shape := ⟨5, ![1, 64, 1, 1, 1]⟩
abbrev S16x256x32x3x128 : Shape := ⟨5, ![16, 256, 32, 3, 128]⟩
abbrev S16x128x256x32x3 : Shape := ⟨5, ![16, 128, 256, 32, 3]⟩
abbrev S16x128x256x32 : Shape := ⟨4, ![16, 128, 256, 32]⟩
abbrev S16x128x256x32x1 : Shape := ⟨5, ![16, 128, 256, 32, 1]⟩
abbrev S1x128x1x1x1 : Shape := ⟨5, ![1, 128, 1, 1, 1]⟩
abbrev S16x128x256 : Shape := ⟨3, ![16, 128, 256]⟩
abbrev S16x128x256x1x1 : Shape := ⟨5, ![16, 128, 256, 1, 1]⟩
abbrev S1x1x1x1x1 : Shape := ⟨5, ![1, 1, 1, 1, 1]⟩
abbrev S16x128x256x1 : Shape := ⟨4, ![16, 128, 256, 1]⟩
abbrev S16x128x256x1x3 : Shape := ⟨5, ![16, 128, 256, 1, 3]⟩
abbrev S16x128x256x3 : Shape := ⟨4, ![16, 128, 256, 3]⟩
abbrev S16x3x256 : Shape := ⟨3, ![16, 3, 256]⟩
abbrev S16x128x1 : Shape := ⟨3, ![16, 128, 1]⟩
abbrev S16x128x3 : Shape := ⟨3, ![16, 128, 3]⟩
abbrev S16x1x256 : Shape := ⟨3, ![16, 1, 256]⟩
abbrev S16x128x16 : Shape := ⟨3, ![16, 128, 16]⟩
abbrev S16x1x2048x1 : Shape := ⟨4, ![16, 1, 2048, 1]⟩
abbrev S16x2048x1 : Shape := ⟨3, ![16, 2048, 1]⟩
abbrev S16x1x128x3 : Shape := ⟨4, ![16, 1, 128, 3]⟩
abbrev S16x1x128x1x3 : Shape := ⟨5, ![16, 1, 128, 1, 3]⟩
abbrev S16x1x128x16x3 : Shape := ⟨5, ![16, 1, 128, 16, 3]⟩
abbrev S16x128x2048x3 : Shape := ⟨4, ![16, 128, 2048, 3]⟩
abbrev S16x128x128x16x3 : Shape := ⟨5, ![16, 128, 128, 16, 3]⟩
abbrev S16x129x128x16x3 : Shape := ⟨5, ![16, 129, 128, 16, 3]⟩
abbrev S16x128x16x3x128 : Shape := ⟨5, ![16, 128, 16, 3, 128]⟩
abbrev S16x128x128x16 : Shape := ⟨4, ![16, 128, 128, 16]⟩
abbrev S16x128x128x16x1 : Shape := ⟨5, ![16, 128, 128, 16, 1]⟩
abbrev S16x128x16x3x256 : Shape := ⟨5, ![16, 128, 16, 3, 256]⟩
abbrev S16x256x128x16x3 : Shape := ⟨5, ![16, 256, 128, 16, 3]⟩
abbrev S16x256x128x16 : Shape := ⟨4, ![16, 256, 128, 16]⟩
abbrev S16x256x128x16x1 : Shape := ⟨5, ![16, 256, 128, 16, 1]⟩
abbrev S1x256x1x1x1 : Shape := ⟨5, ![1, 256, 1, 1, 1]⟩
abbrev S16x256x128 : Shape := ⟨3, ![16, 256, 128]⟩
abbrev S16x256x128x1x1 : Shape := ⟨5, ![16, 256, 128, 1, 1]⟩
abbrev S16x256x128x1 : Shape := ⟨4, ![16, 256, 128, 1]⟩
abbrev S16x256x128x1x3 : Shape := ⟨5, ![16, 256, 128, 1, 3]⟩
abbrev S16x256x128x3 : Shape := ⟨4, ![16, 256, 128, 3]⟩
abbrev S16x3x128 : Shape := ⟨3, ![16, 3, 128]⟩
abbrev S16x256x1x1 : Shape := ⟨4, ![16, 256, 1, 1]⟩
abbrev S1x1x1x1 : Shape := ⟨4, ![1, 1, 1, 1]⟩
abbrev S16x256x1x3 : Shape := ⟨4, ![16, 256, 1, 3]⟩
abbrev S16x1x3x2 : Shape := ⟨4, ![16, 1, 3, 2]⟩
abbrev S16x2x1x3 : Shape := ⟨4, ![16, 2, 1, 3]⟩
abbrev S16x2x3 : Shape := ⟨3, ![16, 2, 3]⟩
abbrev S16x1x3 : Shape := ⟨3, ![16, 1, 3]⟩
abbrev S16x3 : Shape := ⟨2, ![16, 3]⟩
abbrev S16 : Shape := ⟨1, ![16]⟩
abbrev S16x1 : Shape := ⟨2, ![16, 1]⟩
abbrev S1x16 : Shape := ⟨2, ![1, 16]⟩
abbrev S3x16 : Shape := ⟨2, ![3, 16]⟩
abbrev S16x3x1 : Shape := ⟨3, ![16, 3, 1]⟩
abbrev S16x3x3 : Shape := ⟨3, ![16, 3, 3]⟩

abbrev nBuf : Space → Nat
  | .hbm => 731
  | .vmem => 0
  | .smem => 0
  | _ => 0

abbrev hbmTy0_0 (i : Nat) : BufTy := match i % 128 with
  | 0 => ⟨S16x3x2048, .f32⟩
  | 1 => ⟨S16x256, .i32⟩
  | 2 => ⟨S16x128, .i32⟩
  | 3 => ⟨S64x1, .f32⟩
  | 4 => ⟨S64x64, .f32⟩
  | 5 => ⟨S64, .f32⟩
  | 6 => ⟨S64, .f32⟩
  | 7 => ⟨S128x64, .f32⟩
  | 8 => ⟨S128x128, .f32⟩
  | 9 => ⟨S128, .f32⟩
  | 10 => ⟨S128, .f32⟩
  | 11 => ⟨S128x129, .f32⟩
  | 12 => ⟨S128x128, .f32⟩
  | 13 => ⟨S128, .f32⟩
  | 14 => ⟨S128, .f32⟩
  | 15 => ⟨S256x128, .f32⟩
  | 16 => ⟨S256x256, .f32⟩
  | 17 => ⟨S256, .f32⟩
  | 18 => ⟨S256, .f32⟩
  | 19 => ⟨S2x256, .f32⟩
  | 20 => ⟨S16x2048x3, .f32⟩
  | 21 => ⟨S16x256x1, .i32⟩
  | 22 => ⟨S_, .i32⟩
  | 23 => ⟨S16x256x1, .i32⟩
  | 24 => ⟨S16x256x1, .i1⟩
  | 25 => ⟨S_, .i32⟩
  | 26 => ⟨S16x256x1, .i32⟩
  | 27 => ⟨S16x256x1, .i32⟩
  | 28 => ⟨S16x256x1, .i32⟩
  | 29 => ⟨S1, .i32⟩
  | 30 => ⟨S_, .i32⟩
  | 31 => ⟨S16x256x1, .i32⟩
  | 32 => ⟨S16x256x1, .i1⟩
  | 33 => ⟨S1x1x1, .i32⟩
  | 34 => ⟨S16x256x1, .i32⟩
  | 35 => ⟨S16x256x1, .i1⟩
  | 36 => ⟨S16x256x1, .i1⟩
  | 37 => ⟨S_, .i1⟩
  | 38 => ⟨S16x256, .i1⟩
  | 39 => ⟨S16x256x3, .f32⟩
  | 40 => ⟨S16x256x3, .i1⟩
  | 41 => ⟨S_, .f32⟩
  | 42 => ⟨S16x256x3, .f32⟩
  | 43 => ⟨S16x256x3, .f32⟩
  | 44 => ⟨S16x256x3, .f32⟩
  | 45 => ⟨S_, .f32⟩
  | 46 => ⟨S16x256, .f32⟩
  | 47 => ⟨S16x256x1, .f32⟩
  | 48 => ⟨S16x2048x3, .f32⟩
  | 49 => ⟨S_, .f32⟩
  | 50 => ⟨S16x2048, .f32⟩
  | 51 => ⟨S16x1x2048, .f32⟩
  | 52 => ⟨S16x256x2048, .f32⟩
  | 53 => ⟨S16x256x2048, .f32⟩
  | 54 => ⟨S16x256x2048, .f32⟩
  | 55 => ⟨S16x256x2048, .f32⟩
  | 56 => ⟨S_, .f32⟩
  | 57 => ⟨S16x256x2048, .f32⟩
  | 58 => ⟨S16x256x2048, .f32⟩
  | 59 => ⟨S16x256x2048, .f32⟩
  | 60 => ⟨S16x256x2048, .f32⟩
  | 61 => ⟨S16x256x32, .f32⟩
  | 62 => ⟨S16x256x32, .i32⟩
  | 63 => ⟨S16x1x2048x3, .f32⟩
  | 64 => ⟨S16x1x8192x1, .i32⟩
  | 65 => ⟨S_, .i32⟩
  | 66 => ⟨S16x1x8192x1, .i32⟩
  | 67 => ⟨S16x1x8192x1, .i1⟩
  | 68 => ⟨S_, .i32⟩
  | 69 => ⟨S16x1x8192x1, .i32⟩
  | 70 => ⟨S16x1x8192x1, .i32⟩
  | 71 => ⟨S16x1x8192x1, .i32⟩
  | 72 => ⟨S16x8192x1, .i32⟩
  | 73 => ⟨S1, .i32⟩
  | 74 => ⟨S_, .i32⟩
  | 75 => ⟨S16x8192x1, .i32⟩
  | 76 => ⟨S16x8192x1, .i1⟩
  | 77 => ⟨S1x1x1, .i32⟩
  | 78 => ⟨S16x8192x1, .i32⟩
  | 79 => ⟨S16x8192x1, .i1⟩
  | 80 => ⟨S16x8192x1, .i1⟩
  | 81 => ⟨S_, .i1⟩
  | 82 => ⟨S16x8192, .i1⟩
  | 83 => ⟨S16x1x8192x3, .f32⟩
  | 84 => ⟨S16x1x8192x3, .i1⟩
  | 85 => ⟨S_, .f32⟩
  | 86 => ⟨S16x1x8192x3, .f32⟩
  | 87 => ⟨S16x1x8192x3, .f32⟩
  | 88 => ⟨S16x1x256x3, .f32⟩
  | 89 => ⟨S16x1x256x1x3, .f32⟩
  | 90 => ⟨S16x1x256x32x3, .f32⟩
  | 91 => ⟨S16x1x256x32x3, .f32⟩
  | 92 => ⟨S16x1x256x32x3, .f32⟩
  | 93 => ⟨S16x256x32x3x64, .f32⟩
  | 94 => ⟨S16x64x256x32x3, .f32⟩
  | 95 => ⟨S16x64x256x32x3, .f32⟩
  | 96 => ⟨S_, .f32⟩
  | 97 => ⟨S16x64x256x32, .f32⟩
  | 98 => ⟨S16x64x256x32x1, .f32⟩
  | 99 => ⟨S16x64x256x32x1, .f32⟩
  | 100 => ⟨S_, .f32⟩
  | 101 => ⟨S16x64x256x32x1, .f32⟩
  | 102 => ⟨S16x64x256x32x1, .f32⟩
  | 103 => ⟨S_, .f32⟩
  | 104 => ⟨S64, .f32⟩
  | 105 => ⟨S1x64x1x1x1, .f32⟩
  | 106 => ⟨S_, .f32⟩
  | 107 => ⟨S1x64x1x1x1, .f32⟩
  | 108 => ⟨S1x64x1x1x1, .f32⟩
  | 109 => ⟨S_, .i32⟩
  | 110 => ⟨S_, .f32⟩
  | 111 => ⟨S64, .f32⟩
  | 112 => ⟨S1x64x1x1x1, .f32⟩
  | 113 => ⟨S_, .f32⟩
  | 114 => ⟨S1x64x1x1x1, .f32⟩
  | 115 => ⟨S1x64x1x1x1, .f32⟩
  | 116 => ⟨S16x64x256x32x1, .f32⟩
  | 117 => ⟨S16x64x256x32x1, .f32⟩
  | 118 => ⟨S16x64x256x32x1, .f32⟩
  | 119 => ⟨S_, .f32⟩
  | 120 => ⟨S_, .f32⟩
  | 121 => ⟨S_, .f32⟩
  | 122 => ⟨S_, .f32⟩
  | 123 => ⟨S64, .f32⟩
  | 124 => ⟨S1x64x1x1x1, .f32⟩
  | 125 => ⟨S1x64x1x1x1, .f32⟩
  | 126 => ⟨S1x64x1x1x1, .f32⟩
  | 127 => ⟨S_, .f32⟩
  | _ => ⟨S16x3x2048, .f32⟩

abbrev hbmTy0_1 (i : Nat) : BufTy := match i % 128 with
  | 0 => ⟨S_, .i1⟩
  | 1 => ⟨S_, .f32⟩
  | 2 => ⟨S_, .f32⟩
  | 3 => ⟨S1x64x1x1x1, .f32⟩
  | 4 => ⟨S1x64x1x1x1, .f32⟩
  | 5 => ⟨S1x64x1x1x1, .f32⟩
  | 6 => ⟨S16x64x256x32x1, .f32⟩
  | 7 => ⟨S16x64x256x32x1, .f32⟩
  | 8 => ⟨S16x64x256x32x1, .f32⟩
  | 9 => ⟨S16x64x256x32x1, .f32⟩
  | 10 => ⟨S_, .f32⟩
  | 11 => ⟨S1x64x1x1x1, .f32⟩
  | 12 => ⟨S1x64x1x1x1, .f32⟩
  | 13 => ⟨S1x64x1x1x1, .f32⟩
  | 14 => ⟨S16x64x256x32x1, .f32⟩
  | 15 => ⟨S16x64x256x32x1, .f32⟩
  | 16 => ⟨S1x64x1x1x1, .f32⟩
  | 17 => ⟨S16x64x256x32x1, .f32⟩
  | 18 => ⟨S16x64x256x32x1, .f32⟩
  | 19 => ⟨S16x64x256x32x3, .f32⟩
  | 20 => ⟨S16x64x256x32x3, .f32⟩
  | 21 => ⟨S16x64x256x32x3, .f32⟩
  | 22 => ⟨S16x64x256x32x3, .f32⟩
  | 23 => ⟨S16x256x32x3x64, .f32⟩
  | 24 => ⟨S16x64x256x32x3, .f32⟩
  | 25 => ⟨S16x64x256x32x3, .f32⟩
  | 26 => ⟨S_, .f32⟩
  | 27 => ⟨S16x64x256x32, .f32⟩
  | 28 => ⟨S16x64x256x32x1, .f32⟩
  | 29 => ⟨S16x64x256x32x3, .f32⟩
  | 30 => ⟨S_, .f32⟩
  | 31 => ⟨S16x64x256x32, .f32⟩
  | 32 => ⟨S16x64x256x32x1, .f32⟩
  | 33 => ⟨S_, .f32⟩
  | 34 => ⟨S16x64x256x32x1, .f32⟩
  | 35 => ⟨S16x64x256x32x1, .i1⟩
  | 36 => ⟨S16x64x256x32x1, .f32⟩
  | 37 => ⟨S_, .f32⟩
  | 38 => ⟨S16x64x256x32x1, .f32⟩
  | 39 => ⟨S16x64x256x32x1, .f32⟩
  | 40 => ⟨S16x64x256x32x1, .f32⟩
  | 41 => ⟨S16x64x256x32x3, .f32⟩
  | 42 => ⟨S16x64x256x32x3, .f32⟩
  | 43 => ⟨S16x64x256x32x3, .f32⟩
  | 44 => ⟨S_, .f32⟩
  | 45 => ⟨S16x64x256x32x3, .f32⟩
  | 46 => ⟨S16x64x256x32x3, .f32⟩
  | 47 => ⟨S16x64x256x32x3, .f32⟩
  | 48 => ⟨S16x64x256x32x3, .f32⟩
  | 49 => ⟨S_, .f32⟩
  | 50 => ⟨S16x64x256x32x1, .f32⟩
  | 51 => ⟨S16x64x256x32x1, .f32⟩
  | 52 => ⟨S16x64x256x32x3, .f32⟩
  | 53 => ⟨S16x64x256x32x3, .f32⟩
  | 54 => ⟨S16x64x256x32x3, .f32⟩
  | 55 => ⟨S_, .f32⟩
  | 56 => ⟨S16x64x256x32x3, .f32⟩
  | 57 => ⟨S16x64x256x32x3, .f32⟩
  | 58 => ⟨S16x64x256x32x3, .f32⟩
  | 59 => ⟨S16x256x32x3x128, .f32⟩
  | 60 => ⟨S16x128x256x32x3, .f32⟩
  | 61 => ⟨S16x128x256x32x3, .f32⟩
  | 62 => ⟨S_, .f32⟩
  | 63 => ⟨S16x128x256x32, .f32⟩
  | 64 => ⟨S16x128x256x32x1, .f32⟩
  | 65 => ⟨S16x128x256x32x1, .f32⟩
  | 66 => ⟨S_, .f32⟩
  | 67 => ⟨S16x128x256x32x1, .f32⟩
  | 68 => ⟨S16x128x256x32x1, .f32⟩
  | 69 => ⟨S_, .f32⟩
  | 70 => ⟨S128, .f32⟩
  | 71 => ⟨S1x128x1x1x1, .f32⟩
  | 72 => ⟨S_, .f32⟩
  | 73 => ⟨S1x128x1x1x1, .f32⟩
  | 74 => ⟨S1x128x1x1x1, .f32⟩
  | 75 => ⟨S_, .i32⟩
  | 76 => ⟨S_, .f32⟩
  | 77 => ⟨S128, .f32⟩
  | 78 => ⟨S1x128x1x1x1, .f32⟩
  | 79 => ⟨S_, .f32⟩
  | 80 => ⟨S1x128x1x1x1, .f32⟩
  | 81 => ⟨S1x128x1x1x1, .f32⟩
  | 82 => ⟨S16x128x256x32x1, .f32⟩
  | 83 => ⟨S16x128x256x32x1, .f32⟩
  | 84 => ⟨S16x128x256x32x1, .f32⟩
  | 85 => ⟨S_, .f32⟩
  | 86 => ⟨S_, .f32⟩
  | 87 => ⟨S_, .f32⟩
  | 88 => ⟨S_, .f32⟩
  | 89 => ⟨S128, .f32⟩
  | 90 => ⟨S1x128x1x1x1, .f32⟩
  | 91 => ⟨S1x128x1x1x1, .f32⟩
  | 92 => ⟨S1x128x1x1x1, .f32⟩
  | 93 => ⟨S_, .f32⟩
  | 94 => ⟨S_, .i1⟩
  | 95 => ⟨S_, .f32⟩
  | 96 => ⟨S_, .f32⟩
  | 97 => ⟨S1x128x1x1x1, .f32⟩
  | 98 => ⟨S1x128x1x1x1, .f32⟩
  | 99 => ⟨S1x128x1x1x1, .f32⟩
  | 100 => ⟨S16x128x256x32x1, .f32⟩
  | 101 => ⟨S16x128x256x32x1, .f32⟩
  | 102 => ⟨S16x128x256x32x1, .f32⟩
  | 103 => ⟨S16x128x256x32x1, .f32⟩
  | 104 => ⟨S_, .f32⟩
  | 105 => ⟨S1x128x1x1x1, .f32⟩
  | 106 => ⟨S1x128x1x1x1, .f32⟩
  | 107 => ⟨S1x128x1x1x1, .f32⟩
  | 108 => ⟨S16x128x256x32x1, .f32⟩
  | 109 => ⟨S16x128x256x32x1, .f32⟩
  | 110 => ⟨S1x128x1x1x1, .f32⟩
  | 111 => ⟨S16x128x256x32x1, .f32⟩
  | 112 => ⟨S16x128x256x32x1, .f32⟩
  | 113 => ⟨S16x128x256x32x3, .f32⟩
  | 114 => ⟨S16x128x256x32x3, .f32⟩
  | 115 => ⟨S16x128x256x32x3, .f32⟩
  | 116 => ⟨S16x128x256x32x3, .f32⟩
  | 117 => ⟨S16x256x32x3x128, .f32⟩
  | 118 => ⟨S16x128x256x32x3, .f32⟩
  | 119 => ⟨S16x128x256x32x3, .f32⟩
  | 120 => ⟨S_, .f32⟩
  | 121 => ⟨S16x128x256x32, .f32⟩
  | 122 => ⟨S16x128x256x32x1, .f32⟩
  | 123 => ⟨S16x128x256x32x3, .f32⟩
  | 124 => ⟨S_, .f32⟩
  | 125 => ⟨S16x128x256x32, .f32⟩
  | 126 => ⟨S16x128x256x32x1, .f32⟩
  | 127 => ⟨S_, .f32⟩
  | _ => ⟨S16x3x2048, .f32⟩

abbrev hbmTy0_2 (i : Nat) : BufTy := match i % 128 with
  | 0 => ⟨S16x128x256x32x1, .f32⟩
  | 1 => ⟨S16x128x256x32x1, .i1⟩
  | 2 => ⟨S16x128x256x32x1, .f32⟩
  | 3 => ⟨S_, .f32⟩
  | 4 => ⟨S16x128x256x32x1, .f32⟩
  | 5 => ⟨S16x128x256x32x1, .f32⟩
  | 6 => ⟨S16x128x256x32x1, .f32⟩
  | 7 => ⟨S16x128x256x32x3, .f32⟩
  | 8 => ⟨S16x128x256x32x3, .f32⟩
  | 9 => ⟨S16x128x256x32x3, .f32⟩
  | 10 => ⟨S_, .f32⟩
  | 11 => ⟨S16x128x256x32x3, .f32⟩
  | 12 => ⟨S16x128x256x32x3, .f32⟩
  | 13 => ⟨S16x128x256x32x3, .f32⟩
  | 14 => ⟨S16x128x256x32x3, .f32⟩
  | 15 => ⟨S_, .f32⟩
  | 16 => ⟨S16x128x256x32x1, .f32⟩
  | 17 => ⟨S16x128x256x32x1, .f32⟩
  | 18 => ⟨S16x128x256x32x3, .f32⟩
  | 19 => ⟨S16x128x256x32x3, .f32⟩
  | 20 => ⟨S16x128x256x32x3, .f32⟩
  | 21 => ⟨S_, .f32⟩
  | 22 => ⟨S16x128x256x32x3, .f32⟩
  | 23 => ⟨S16x128x256x32x3, .f32⟩
  | 24 => ⟨S16x128x256x32x3, .f32⟩
  | 25 => ⟨S16x128x256x32x3, .f32⟩
  | 26 => ⟨S_, .f32⟩
  | 27 => ⟨S16x128x256x32, .f32⟩
  | 28 => ⟨S16x128x256x32, .i32⟩
  | 29 => ⟨S_, .f32⟩
  | 30 => ⟨S_, .i32⟩
  | 31 => ⟨S16x128x256, .f32⟩
  | 32 => ⟨S16x128x256, .i32⟩
  | 33 => ⟨S16x128x256x1x1, .i32⟩
  | 34 => ⟨S_, .i32⟩
  | 35 => ⟨S16x128x256x1x1, .i32⟩
  | 36 => ⟨S16x128x256x1x1, .i1⟩
  | 37 => ⟨S_, .i32⟩
  | 38 => ⟨S16x128x256x1x1, .i32⟩
  | 39 => ⟨S16x128x256x1x1, .i32⟩
  | 40 => ⟨S16x128x256x1x1, .i32⟩
  | 41 => ⟨S1, .i32⟩
  | 42 => ⟨S_, .i32⟩
  | 43 => ⟨S16x128x256x1x1, .i32⟩
  | 44 => ⟨S16x128x256x1x1, .i1⟩
  | 45 => ⟨S1x1x1x1x1, .i32⟩
  | 46 => ⟨S16x128x256x1x1, .i32⟩
  | 47 => ⟨S16x128x256x1x1, .i1⟩
  | 48 => ⟨S16x128x256x1x1, .i1⟩
  | 49 => ⟨S_, .i1⟩
  | 50 => ⟨S16x128x256x1, .i1⟩
  | 51 => ⟨S16x128x256x1x3, .f32⟩
  | 52 => ⟨S16x128x256x1x3, .i1⟩
  | 53 => ⟨S_, .f32⟩
  | 54 => ⟨S16x128x256x1x3, .f32⟩
  | 55 => ⟨S16x128x256x1x3, .f32⟩
  | 56 => ⟨S16x128x256x3, .f32⟩
  | 57 => ⟨S16x3x256, .f32⟩
  | 58 => ⟨S16x256x3, .f32⟩
  | 59 => ⟨S16x128x1, .i32⟩
  | 60 => ⟨S_, .i32⟩
  | 61 => ⟨S16x128x1, .i32⟩
  | 62 => ⟨S16x128x1, .i1⟩
  | 63 => ⟨S_, .i32⟩
  | 64 => ⟨S16x128x1, .i32⟩
  | 65 => ⟨S16x128x1, .i32⟩
  | 66 => ⟨S16x128x1, .i32⟩
  | 67 => ⟨S1, .i32⟩
  | 68 => ⟨S_, .i32⟩
  | 69 => ⟨S16x128x1, .i32⟩
  | 70 => ⟨S16x128x1, .i1⟩
  | 71 => ⟨S1x1x1, .i32⟩
  | 72 => ⟨S16x128x1, .i32⟩
  | 73 => ⟨S16x128x1, .i1⟩
  | 74 => ⟨S16x128x1, .i1⟩
  | 75 => ⟨S_, .i1⟩
  | 76 => ⟨S16x128, .i1⟩
  | 77 => ⟨S16x128x3, .f32⟩
  | 78 => ⟨S16x128x3, .i1⟩
  | 79 => ⟨S_, .f32⟩
  | 80 => ⟨S16x128x3, .f32⟩
  | 81 => ⟨S16x128x3, .f32⟩
  | 82 => ⟨S16x128x3, .f32⟩
  | 83 => ⟨S_, .f32⟩
  | 84 => ⟨S16x128, .f32⟩
  | 85 => ⟨S16x128x1, .f32⟩
  | 86 => ⟨S16x256x3, .f32⟩
  | 87 => ⟨S_, .f32⟩
  | 88 => ⟨S16x256, .f32⟩
  | 89 => ⟨S16x1x256, .f32⟩
  | 90 => ⟨S16x128x256, .f32⟩
  | 91 => ⟨S16x128x256, .f32⟩
  | 92 => ⟨S16x128x256, .f32⟩
  | 93 => ⟨S16x128x256, .f32⟩
  | 94 => ⟨S_, .f32⟩
  | 95 => ⟨S16x128x256, .f32⟩
  | 96 => ⟨S16x128x256, .f32⟩
  | 97 => ⟨S16x128x256, .f32⟩
  | 98 => ⟨S16x128x256, .f32⟩
  | 99 => ⟨S16x128x16, .f32⟩
  | 100 => ⟨S16x128x16, .i32⟩
  | 101 => ⟨S16x1x256x3, .f32⟩
  | 102 => ⟨S16x1x2048x1, .i32⟩
  | 103 => ⟨S_, .i32⟩
  | 104 => ⟨S16x1x2048x1, .i32⟩
  | 105 => ⟨S16x1x2048x1, .i1⟩
  | 106 => ⟨S_, .i32⟩
  | 107 => ⟨S16x1x2048x1, .i32⟩
  | 108 => ⟨S16x1x2048x1, .i32⟩
  | 109 => ⟨S16x1x2048x1, .i32⟩
  | 110 => ⟨S16x2048x1, .i32⟩
  | 111 => ⟨S1, .i32⟩
  | 112 => ⟨S_, .i32⟩
  | 113 => ⟨S16x2048x1, .i32⟩
  | 114 => ⟨S16x2048x1, .i1⟩
  | 115 => ⟨S1x1x1, .i32⟩
  | 116 => ⟨S16x2048x1, .i32⟩
  | 117 => ⟨S16x2048x1, .i1⟩
  | 118 => ⟨S16x2048x1, .i1⟩
  | 119 => ⟨S_, .i1⟩
  | 120 => ⟨S16x2048, .i1⟩
  | 121 => ⟨S16x1x2048x3, .f32⟩
  | 122 => ⟨S16x1x2048x3, .i1⟩
  | 123 => ⟨S_, .f32⟩
  | 124 => ⟨S16x1x2048x3, .f32⟩
  | 125 => ⟨S16x1x2048x3, .f32⟩
  | 126 => ⟨S16x1x128x3, .f32⟩
  | 127 => ⟨S16x1x128x1x3, .f32⟩
  | _ => ⟨S16x3x2048, .f32⟩

abbrev hbmTy0_3 (i : Nat) : BufTy := match i % 128 with
  | 0 => ⟨S16x1x128x16x3, .f32⟩
  | 1 => ⟨S16x1x128x16x3, .f32⟩
  | 2 => ⟨S16x1x128x16x3, .f32⟩
  | 3 => ⟨S16x1x2048x1, .i32⟩
  | 4 => ⟨S_, .i32⟩
  | 5 => ⟨S16x1x2048x1, .i32⟩
  | 6 => ⟨S16x1x2048x1, .i1⟩
  | 7 => ⟨S_, .i32⟩
  | 8 => ⟨S16x1x2048x1, .i32⟩
  | 9 => ⟨S16x1x2048x1, .i32⟩
  | 10 => ⟨S16x1x2048x1, .i32⟩
  | 11 => ⟨S16x2048x1, .i32⟩
  | 12 => ⟨S1, .i32⟩
  | 13 => ⟨S_, .i32⟩
  | 14 => ⟨S16x2048x1, .i32⟩
  | 15 => ⟨S16x2048x1, .i1⟩
  | 16 => ⟨S1x1x1, .i32⟩
  | 17 => ⟨S16x2048x1, .i32⟩
  | 18 => ⟨S16x2048x1, .i1⟩
  | 19 => ⟨S16x2048x1, .i1⟩
  | 20 => ⟨S_, .i1⟩
  | 21 => ⟨S16x2048, .i1⟩
  | 22 => ⟨S16x128x2048x3, .f32⟩
  | 23 => ⟨S16x128x2048x3, .i1⟩
  | 24 => ⟨S_, .f32⟩
  | 25 => ⟨S16x128x2048x3, .f32⟩
  | 26 => ⟨S16x128x2048x3, .f32⟩
  | 27 => ⟨S16x128x128x16x3, .f32⟩
  | 28 => ⟨S16x129x128x16x3, .f32⟩
  | 29 => ⟨S16x128x16x3x128, .f32⟩
  | 30 => ⟨S16x128x128x16x3, .f32⟩
  | 31 => ⟨S16x128x128x16x3, .f32⟩
  | 32 => ⟨S_, .f32⟩
  | 33 => ⟨S16x128x128x16, .f32⟩
  | 34 => ⟨S16x128x128x16x1, .f32⟩
  | 35 => ⟨S16x128x128x16x1, .f32⟩
  | 36 => ⟨S_, .f32⟩
  | 37 => ⟨S16x128x128x16x1, .f32⟩
  | 38 => ⟨S16x128x128x16x1, .f32⟩
  | 39 => ⟨S_, .f32⟩
  | 40 => ⟨S128, .f32⟩
  | 41 => ⟨S1x128x1x1x1, .f32⟩
  | 42 => ⟨S_, .f32⟩
  | 43 => ⟨S1x128x1x1x1, .f32⟩
  | 44 => ⟨S1x128x1x1x1, .f32⟩
  | 45 => ⟨S_, .i32⟩
  | 46 => ⟨S_, .f32⟩
  | 47 => ⟨S128, .f32⟩
  | 48 => ⟨S1x128x1x1x1, .f32⟩
  | 49 => ⟨S_, .f32⟩
  | 50 => ⟨S1x128x1x1x1, .f32⟩
  | 51 => ⟨S1x128x1x1x1, .f32⟩
  | 52 => ⟨S16x128x128x16x1, .f32⟩
  | 53 => ⟨S16x128x128x16x1, .f32⟩
  | 54 => ⟨S16x128x128x16x1, .f32⟩
  | 55 => ⟨S_, .f32⟩
  | 56 => ⟨S_, .f32⟩
  | 57 => ⟨S_, .f32⟩
  | 58 => ⟨S_, .f32⟩
  | 59 => ⟨S128, .f32⟩
  | 60 => ⟨S1x128x1x1x1, .f32⟩
  | 61 => ⟨S1x128x1x1x1, .f32⟩
  | 62 => ⟨S1x128x1x1x1, .f32⟩
  | 63 => ⟨S_, .f32⟩
  | 64 => ⟨S_, .i1⟩
  | 65 => ⟨S_, .f32⟩
  | 66 => ⟨S_, .f32⟩
  | 67 => ⟨S1x128x1x1x1, .f32⟩
  | 68 => ⟨S1x128x1x1x1, .f32⟩
  | 69 => ⟨S1x128x1x1x1, .f32⟩
  | 70 => ⟨S16x128x128x16x1, .f32⟩
  | 71 => ⟨S16x128x128x16x1, .f32⟩
  | 72 => ⟨S16x128x128x16x1, .f32⟩
  | 73 => ⟨S16x128x128x16x1, .f32⟩
  | 74 => ⟨S_, .f32⟩
  | 75 => ⟨S1x128x1x1x1, .f32⟩
  | 76 => ⟨S1x128x1x1x1, .f32⟩
  | 77 => ⟨S1x128x1x1x1, .f32⟩
  | 78 => ⟨S16x128x128x16x1, .f32⟩
  | 79 => ⟨S16x128x128x16x1, .f32⟩
  | 80 => ⟨S1x128x1x1x1, .f32⟩
  | 81 => ⟨S16x128x128x16x1, .f32⟩
  | 82 => ⟨S16x128x128x16x1, .f32⟩
  | 83 => ⟨S16x128x128x16x3, .f32⟩
  | 84 => ⟨S16x128x128x16x3, .f32⟩
  | 85 => ⟨S16x128x128x16x3, .f32⟩
  | 86 => ⟨S16x128x128x16x3, .f32⟩
  | 87 => ⟨S16x128x16x3x128, .f32⟩
  | 88 => ⟨S16x128x128x16x3, .f32⟩
  | 89 => ⟨S16x128x128x16x3, .f32⟩
  | 90 => ⟨S_, .f32⟩
  | 91 => ⟨S16x128x128x16, .f32⟩
  | 92 => ⟨S16x128x128x16x1, .f32⟩
  | 93 => ⟨S16x128x128x16x3, .f32⟩
  | 94 => ⟨S_, .f32⟩
  | 95 => ⟨S16x128x128x16, .f32⟩
  | 96 => ⟨S16x128x128x16x1, .f32⟩
  | 97 => ⟨S_, .f32⟩
  | 98 => ⟨S16x128x128x16x1, .f32⟩
  | 99 => ⟨S16x128x128x16x1, .i1⟩
  | 100 => ⟨S16x128x128x16x1, .f32⟩
  | 101 => ⟨S_, .f32⟩
  | 102 => ⟨S16x128x128x16x1, .f32⟩
  | 103 => ⟨S16x128x128x16x1, .f32⟩
  | 104 => ⟨S16x128x128x16x1, .f32⟩
  | 105 => ⟨S16x128x128x16x3, .f32⟩
  | 106 => ⟨S16x128x128x16x3, .f32⟩
  | 107 => ⟨S16x128x128x16x3, .f32⟩
  | 108 => ⟨S_, .f32⟩
  | 109 => ⟨S16x128x128x16x3, .f32⟩
  | 110 => ⟨S16x128x128x16x3, .f32⟩
  | 111 => ⟨S16x128x128x16x3, .f32⟩
  | 112 => ⟨S16x128x128x16x3, .f32⟩
  | 113 => ⟨S_, .f32⟩
  | 114 => ⟨S16x128x128x16x1, .f32⟩
  | 115 => ⟨S16x128x128x16x1, .f32⟩
  | 116 => ⟨S16x128x128x16x3, .f32⟩
  | 117 => ⟨S16x128x128x16x3, .f32⟩
  | 118 => ⟨S16x128x128x16x3, .f32⟩
  | 119 => ⟨S_, .f32⟩
  | 120 => ⟨S16x128x128x16x3, .f32⟩
  | 121 => ⟨S16x128x128x16x3, .f32⟩
  | 122 => ⟨S16x128x128x16x3, .f32⟩
  | 123 => ⟨S16x128x16x3x256, .f32⟩
  | 124 => ⟨S16x256x128x16x3, .f32⟩
  | 125 => ⟨S16x256x128x16x3, .f32⟩
  | 126 => ⟨S_, .f32⟩
  | 127 => ⟨S16x256x128x16, .f32⟩
  | _ => ⟨S16x3x2048, .f32⟩

abbrev hbmTy0_4 (i : Nat) : BufTy := match i % 128 with
  | 0 => ⟨S16x256x128x16x1, .f32⟩
  | 1 => ⟨S16x256x128x16x1, .f32⟩
  | 2 => ⟨S_, .f32⟩
  | 3 => ⟨S16x256x128x16x1, .f32⟩
  | 4 => ⟨S16x256x128x16x1, .f32⟩
  | 5 => ⟨S_, .f32⟩
  | 6 => ⟨S256, .f32⟩
  | 7 => ⟨S1x256x1x1x1, .f32⟩
  | 8 => ⟨S_, .f32⟩
  | 9 => ⟨S1x256x1x1x1, .f32⟩
  | 10 => ⟨S1x256x1x1x1, .f32⟩
  | 11 => ⟨S_, .i32⟩
  | 12 => ⟨S_, .f32⟩
  | 13 => ⟨S256, .f32⟩
  | 14 => ⟨S1x256x1x1x1, .f32⟩
  | 15 => ⟨S_, .f32⟩
  | 16 => ⟨S1x256x1x1x1, .f32⟩
  | 17 => ⟨S1x256x1x1x1, .f32⟩
  | 18 => ⟨S16x256x128x16x1, .f32⟩
  | 19 => ⟨S16x256x128x16x1, .f32⟩
  | 20 => ⟨S16x256x128x16x1, .f32⟩
  | 21 => ⟨S_, .f32⟩
  | 22 => ⟨S_, .f32⟩
  | 23 => ⟨S_, .f32⟩
  | 24 => ⟨S_, .f32⟩
  | 25 => ⟨S256, .f32⟩
  | 26 => ⟨S1x256x1x1x1, .f32⟩
  | 27 => ⟨S1x256x1x1x1, .f32⟩
  | 28 => ⟨S1x256x1x1x1, .f32⟩
  | 29 => ⟨S_, .f32⟩
  | 30 => ⟨S_, .i1⟩
  | 31 => ⟨S_, .f32⟩
  | 32 => ⟨S_, .f32⟩
  | 33 => ⟨S1x256x1x1x1, .f32⟩
  | 34 => ⟨S1x256x1x1x1, .f32⟩
  | 35 => ⟨S1x256x1x1x1, .f32⟩
  | 36 => ⟨S16x256x128x16x1, .f32⟩
  | 37 => ⟨S16x256x128x16x1, .f32⟩
  | 38 => ⟨S16x256x128x16x1, .f32⟩
  | 39 => ⟨S16x256x128x16x1, .f32⟩
  | 40 => ⟨S_, .f32⟩
  | 41 => ⟨S1x256x1x1x1, .f32⟩
  | 42 => ⟨S1x256x1x1x1, .f32⟩
  | 43 => ⟨S1x256x1x1x1, .f32⟩
  | 44 => ⟨S16x256x128x16x1, .f32⟩
  | 45 => ⟨S16x256x128x16x1, .f32⟩
  | 46 => ⟨S1x256x1x1x1, .f32⟩
  | 47 => ⟨S16x256x128x16x1, .f32⟩
  | 48 => ⟨S16x256x128x16x1, .f32⟩
  | 49 => ⟨S16x256x128x16x3, .f32⟩
  | 50 => ⟨S16x256x128x16x3, .f32⟩
  | 51 => ⟨S16x256x128x16x3, .f32⟩
  | 52 => ⟨S16x256x128x16x3, .f32⟩
  | 53 => ⟨S16x128x16x3x256, .f32⟩
  | 54 => ⟨S16x256x128x16x3, .f32⟩
  | 55 => ⟨S16x256x128x16x3, .f32⟩
  | 56 => ⟨S_, .f32⟩
  | 57 => ⟨S16x256x128x16, .f32⟩
  | 58 => ⟨S16x256x128x16x1, .f32⟩
  | 59 => ⟨S16x256x128x16x3, .f32⟩
  | 60 => ⟨S_, .f32⟩
  | 61 => ⟨S16x256x128x16, .f32⟩
  | 62 => ⟨S16x256x128x16x1, .f32⟩
  | 63 => ⟨S_, .f32⟩
  | 64 => ⟨S16x256x128x16x1, .f32⟩
  | 65 => ⟨S16x256x128x16x1, .i1⟩
  | 66 => ⟨S16x256x128x16x1, .f32⟩
  | 67 => ⟨S_, .f32⟩
  | 68 => ⟨S16x256x128x16x1, .f32⟩
  | 69 => ⟨S16x256x128x16x1, .f32⟩
  | 70 => ⟨S16x256x128x16x1, .f32⟩
  | 71 => ⟨S16x256x128x16x3, .f32⟩
  | 72 => ⟨S16x256x128x16x3, .f32⟩
  | 73 => ⟨S16x256x128x16x3, .f32⟩
  | 74 => ⟨S_, .f32⟩
  | 75 => ⟨S16x256x128x16x3, .f32⟩
  | 76 => ⟨S16x256x128x16x3, .f32⟩
  | 77 => ⟨S16x256x128x16x3, .f32⟩
  | 78 => ⟨S16x256x128x16x3, .f32⟩
  | 79 => ⟨S_, .f32⟩
  | 80 => ⟨S16x256x128x16x1, .f32⟩
  | 81 => ⟨S16x256x128x16x1, .f32⟩
  | 82 => ⟨S16x256x128x16x3, .f32⟩
  | 83 => ⟨S16x256x128x16x3, .f32⟩
  | 84 => ⟨S16x256x128x16x3, .f32⟩
  | 85 => ⟨S_, .f32⟩
  | 86 => ⟨S16x256x128x16x3, .f32⟩
  | 87 => ⟨S16x256x128x16x3, .f32⟩
  | 88 => ⟨S16x256x128x16x3, .f32⟩
  | 89 => ⟨S16x256x128x16x3, .f32⟩
  | 90 => ⟨S_, .f32⟩
  | 91 => ⟨S16x256x128x16, .f32⟩
  | 92 => ⟨S16x256x128x16, .i32⟩
  | 93 => ⟨S_, .f32⟩
  | 94 => ⟨S_, .i32⟩
  | 95 => ⟨S16x256x128, .f32⟩
  | 96 => ⟨S16x256x128, .i32⟩
  | 97 => ⟨S16x256x128x1x1, .i32⟩
  | 98 => ⟨S_, .i32⟩
  | 99 => ⟨S16x256x128x1x1, .i32⟩
  | 100 => ⟨S16x256x128x1x1, .i1⟩
  | 101 => ⟨S_, .i32⟩
  | 102 => ⟨S16x256x128x1x1, .i32⟩
  | 103 => ⟨S16x256x128x1x1, .i32⟩
  | 104 => ⟨S16x256x128x1x1, .i32⟩
  | 105 => ⟨S1, .i32⟩
  | 106 => ⟨S_, .i32⟩
  | 107 => ⟨S16x256x128x1x1, .i32⟩
  | 108 => ⟨S16x256x128x1x1, .i1⟩
  | 109 => ⟨S1x1x1x1x1, .i32⟩
  | 110 => ⟨S16x256x128x1x1, .i32⟩
  | 111 => ⟨S16x256x128x1x1, .i1⟩
  | 112 => ⟨S16x256x128x1x1, .i1⟩
  | 113 => ⟨S_, .i1⟩
  | 114 => ⟨S16x256x128x1, .i1⟩
  | 115 => ⟨S16x256x128x1x3, .f32⟩
  | 116 => ⟨S16x256x128x1x3, .i1⟩
  | 117 => ⟨S_, .f32⟩
  | 118 => ⟨S16x256x128x1x3, .f32⟩
  | 119 => ⟨S16x256x128x1x3, .f32⟩
  | 120 => ⟨S16x256x128x3, .f32⟩
  | 121 => ⟨S16x3x128, .f32⟩
  | 122 => ⟨S16x256x128x3, .f32⟩
  | 123 => ⟨S_, .f32⟩
  | 124 => ⟨S16x256x128, .f32⟩
  | 125 => ⟨S16x256x128, .i32⟩
  | 126 => ⟨S_, .f32⟩
  | 127 => ⟨S_, .i32⟩
  | _ => ⟨S16x3x2048, .f32⟩

abbrev hbmTy0_5 (i : Nat) : BufTy := match i % 128 with
  | 0 => ⟨S16x256, .f32⟩
  | 1 => ⟨S16x256, .i32⟩
  | 2 => ⟨S16x256x1x1, .i32⟩
  | 3 => ⟨S_, .i32⟩
  | 4 => ⟨S16x256x1x1, .i32⟩
  | 5 => ⟨S16x256x1x1, .i1⟩
  | 6 => ⟨S_, .i32⟩
  | 7 => ⟨S16x256x1x1, .i32⟩
  | 8 => ⟨S16x256x1x1, .i32⟩
  | 9 => ⟨S16x256x1x1, .i32⟩
  | 10 => ⟨S1, .i32⟩
  | 11 => ⟨S_, .i32⟩
  | 12 => ⟨S16x256x1x1, .i32⟩
  | 13 => ⟨S16x256x1x1, .i1⟩
  | 14 => ⟨S1x1x1x1, .i32⟩
  | 15 => ⟨S16x256x1x1, .i32⟩
  | 16 => ⟨S16x256x1x1, .i1⟩
  | 17 => ⟨S16x256x1x1, .i1⟩
  | 18 => ⟨S_, .i1⟩
  | 19 => ⟨S16x256x1, .i1⟩
  | 20 => ⟨S16x256x1x3, .f32⟩
  | 21 => ⟨S16x256x1x3, .i1⟩
  | 22 => ⟨S_, .f32⟩
  | 23 => ⟨S16x256x1x3, .f32⟩
  | 24 => ⟨S16x256x1x3, .f32⟩
  | 25 => ⟨S16x256x3, .f32⟩
  | 26 => ⟨S16x256x1x3, .f32⟩
  | 27 => ⟨S16x1x3x2, .f32⟩
  | 28 => ⟨S16x2x1x3, .f32⟩
  | 29 => ⟨S16x2x3, .f32⟩
  | 30 => ⟨S16x1x3, .f32⟩
  | 31 => ⟨S16x3, .f32⟩
  | 32 => ⟨S16x1x3, .f32⟩
  | 33 => ⟨S16x3, .f32⟩
  | 34 => ⟨S16x3, .f32⟩
  | 35 => ⟨S_, .f32⟩
  | 36 => ⟨S16, .f32⟩
  | 37 => ⟨S16x1, .f32⟩
  | 38 => ⟨S16x1, .f32⟩
  | 39 => ⟨S_, .f32⟩
  | 40 => ⟨S16x1, .f32⟩
  | 41 => ⟨S16x1, .f32⟩
  | 42 => ⟨S16x3, .f32⟩
  | 43 => ⟨S16x3, .f32⟩
  | 44 => ⟨S16x3, .f32⟩
  | 45 => ⟨S_, .f32⟩
  | 46 => ⟨S16, .f32⟩
  | 47 => ⟨S16x1, .f32⟩
  | 48 => ⟨S16x3, .f32⟩
  | 49 => ⟨S16x3, .f32⟩
  | 50 => ⟨S16x3, .f32⟩
  | 51 => ⟨S16x3, .f32⟩
  | 52 => ⟨S_, .f32⟩
  | 53 => ⟨S16, .f32⟩
  | 54 => ⟨S16x1, .f32⟩
  | 55 => ⟨S16x1, .f32⟩
  | 56 => ⟨S_, .f32⟩
  | 57 => ⟨S16x1, .f32⟩
  | 58 => ⟨S16x1, .f32⟩
  | 59 => ⟨S16x3, .f32⟩
  | 60 => ⟨S16x3, .f32⟩
  | 61 => ⟨S16x1, .f32⟩
  | 62 => ⟨S16, .f32⟩
  | 63 => ⟨S16x1, .f32⟩
  | 64 => ⟨S16, .f32⟩
  | 65 => ⟨S16x1, .f32⟩
  | 66 => ⟨S16, .f32⟩
  | 67 => ⟨S16x1, .f32⟩
  | 68 => ⟨S16, .f32⟩
  | 69 => ⟨S16x1, .f32⟩
  | 70 => ⟨S16, .f32⟩
  | 71 => ⟨S16x1, .f32⟩
  | 72 => ⟨S16, .f32⟩
  | 73 => ⟨S16, .f32⟩
  | 74 => ⟨S16, .f32⟩
  | 75 => ⟨S16, .f32⟩
  | 76 => ⟨S16, .f32⟩
  | 77 => ⟨S16, .f32⟩
  | 78 => ⟨S16, .f32⟩
  | 79 => ⟨S16, .f32⟩
  | 80 => ⟨S16, .f32⟩
  | 81 => ⟨S16, .f32⟩
  | 82 => ⟨S1x16, .f32⟩
  | 83 => ⟨S1x16, .f32⟩
  | 84 => ⟨S1x16, .f32⟩
  | 85 => ⟨S3x16, .f32⟩
  | 86 => ⟨S16x3, .f32⟩
  | 87 => ⟨S16x3x1, .f32⟩
  | 88 => ⟨S16x3x1, .f32⟩
  | 89 => ⟨S16x3x1, .f32⟩
  | 90 => ⟨S16x3x3, .f32⟩
  | _ => ⟨S16x3x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x3x2048, .f32⟩

abbrev bufTy : (tb : Table) → Fin (tcTables nBuf tb) → BufTy
  | .hbm, ⟨i, _⟩ => hbmTy i
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_c_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v2 : Ref sig .tc := ⟨.hbm, 43, rfl⟩
abbrev main_v3 : Ref sig .tc := ⟨.hbm, 44, rfl⟩
abbrev main_cst : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst_0 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_1 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_values : Ref sig .tc := ⟨.hbm, 61, rfl⟩
abbrev main_indices : Ref sig .tc := ⟨.hbm, 62, rfl⟩
abbrev main_v17 : Ref sig .tc := ⟨.hbm, 63, rfl⟩
abbrev main_v18 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_call2_v2 : Ref sig .tc := ⟨.hbm, 98, rfl⟩
abbrev main_v27 : Ref sig .tc := ⟨.hbm, 99, rfl⟩
abbrev main_cst_2 : Ref sig .tc := ⟨.hbm, 100, rfl⟩
abbrev main_v28 : Ref sig .tc := ⟨.hbm, 101, rfl⟩
abbrev main_v29 : Ref sig .tc := ⟨.hbm, 102, rfl⟩
abbrev main_cst_3 : Ref sig .tc := ⟨.hbm, 103, rfl⟩
abbrev main_v30 : Ref sig .tc := ⟨.hbm, 104, rfl⟩
abbrev main_v31 : Ref sig .tc := ⟨.hbm, 105, rfl⟩
abbrev main_cst_4 : Ref sig .tc := ⟨.hbm, 106, rfl⟩
abbrev main_v32 : Ref sig .tc := ⟨.hbm, 107, rfl⟩
abbrev main_v33 : Ref sig .tc := ⟨.hbm, 108, rfl⟩
abbrev main_c : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_cst_1 : Ref sig .tc := ⟨.hbm, 120, rfl⟩
abbrev main_call3_v8 : Ref sig .tc := ⟨.hbm, 121, rfl⟩
abbrev main_call3_cst_2 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_v12 : Ref sig .tc := ⟨.hbm, 126, rfl⟩
abbrev main_call3_cst_3 : Ref sig .tc := ⟨.hbm, 127, rfl⟩
abbrev main_call3_v13 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_cst_5 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_cst_6 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_cst_7 : Ref sig .tc := ⟨.hbm, 158, rfl⟩
abbrev main_v58 : Ref sig .tc := ⟨.hbm, 159, rfl⟩
abbrev main_v59 : Ref sig .tc := ⟨.hbm, 160, rfl⟩
abbrev main_cst_8 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_cst_9 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_cst_10 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_cst_11 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_cst_12 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_call4_v0 : Ref sig .tc := ⟨.hbm, 189, rfl⟩
abbrev main_call4_cst : Ref sig .tc := ⟨.hbm, 190, rfl⟩
abbrev main_call4_v1 : Ref sig .tc := ⟨.hbm, 191, rfl⟩
abbrev main_call4_v2 : Ref sig .tc := ⟨.hbm, 192, rfl⟩
abbrev main_v83 : Ref sig .tc := ⟨.hbm, 193, rfl⟩
abbrev main_cst_13 : Ref sig .tc := ⟨.hbm, 194, rfl⟩
abbrev main_v84 : Ref sig .tc := ⟨.hbm, 195, rfl⟩
abbrev main_v85 : Ref sig .tc := ⟨.hbm, 196, rfl⟩
abbrev main_cst_14 : Ref sig .tc := ⟨.hbm, 197, rfl⟩
abbrev main_v86 : Ref sig .tc := ⟨.hbm, 198, rfl⟩
abbrev main_v87 : Ref sig .tc := ⟨.hbm, 199, rfl⟩
abbrev main_cst_15 : Ref sig .tc := ⟨.hbm, 200, rfl⟩
abbrev main_v88 : Ref sig .tc := ⟨.hbm, 201, rfl⟩
abbrev main_v89 : Ref sig .tc := ⟨.hbm, 202, rfl⟩
abbrev main_c_16 : Ref sig .tc := ⟨.hbm, 203, rfl⟩
abbrev main_call5_cst : Ref sig .tc := ⟨.hbm, 204, rfl⟩
abbrev main_call5_v0 : Ref sig .tc := ⟨.hbm, 205, rfl⟩
abbrev main_call5_v1 : Ref sig .tc := ⟨.hbm, 206, rfl⟩
abbrev main_call5_cst_0 : Ref sig .tc := ⟨.hbm, 207, rfl⟩
abbrev main_call5_v2 : Ref sig .tc := ⟨.hbm, 208, rfl⟩
abbrev main_call5_v3 : Ref sig .tc := ⟨.hbm, 209, rfl⟩
abbrev main_call5_v4 : Ref sig .tc := ⟨.hbm, 210, rfl⟩
abbrev main_call5_v5 : Ref sig .tc := ⟨.hbm, 211, rfl⟩
abbrev main_call5_v6 : Ref sig .tc := ⟨.hbm, 212, rfl⟩
abbrev main_call5_v7 : Ref sig .tc := ⟨.hbm, 213, rfl⟩
abbrev main_call5_cst_1 : Ref sig .tc := ⟨.hbm, 214, rfl⟩
abbrev main_call5_v8 : Ref sig .tc := ⟨.hbm, 215, rfl⟩
abbrev main_call5_cst_2 : Ref sig .tc := ⟨.hbm, 216, rfl⟩
abbrev main_call5_v9 : Ref sig .tc := ⟨.hbm, 217, rfl⟩
abbrev main_call5_v10 : Ref sig .tc := ⟨.hbm, 218, rfl⟩
abbrev main_call5_v11 : Ref sig .tc := ⟨.hbm, 219, rfl⟩
abbrev main_call5_v12 : Ref sig .tc := ⟨.hbm, 220, rfl⟩
abbrev main_call5_cst_3 : Ref sig .tc := ⟨.hbm, 221, rfl⟩
abbrev main_call5_v13 : Ref sig .tc := ⟨.hbm, 222, rfl⟩
abbrev main_call5_cst_4 : Ref sig .tc := ⟨.hbm, 223, rfl⟩
abbrev main_call5_call0_v0 : Ref sig .tc := ⟨.hbm, 224, rfl⟩
abbrev main_call5_call0_v1 : Ref sig .tc := ⟨.hbm, 225, rfl⟩
abbrev main_v90 : Ref sig .tc := ⟨.hbm, 226, rfl⟩
abbrev main_v91 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_cst_17 : Ref sig .tc := ⟨.hbm, 232, rfl⟩
abbrev main_v96 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_v108 : Ref sig .tc := ⟨.hbm, 245, rfl⟩
abbrev main_v109 : Ref sig .tc := ⟨.hbm, 246, rfl⟩
abbrev main_v110 : Ref sig .tc := ⟨.hbm, 247, rfl⟩
abbrev main_cst_18 : Ref sig .tc := ⟨.hbm, 248, rfl⟩
abbrev main_v111 : Ref sig .tc := ⟨.hbm, 249, rfl⟩
abbrev main_v112 : Ref sig .tc := ⟨.hbm, 250, rfl⟩
abbrev main_v113 : Ref sig .tc := ⟨.hbm, 251, rfl⟩
abbrev main_cst_19 : Ref sig .tc := ⟨.hbm, 252, rfl⟩
abbrev main_v114 : Ref sig .tc := ⟨.hbm, 253, rfl⟩
abbrev main_v115 : Ref sig .tc := ⟨.hbm, 254, rfl⟩
abbrev main_cst_20 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_cst_21 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_cst_22 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_cst_23 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_cst_24 : Ref sig .tc := ⟨.hbm, 277, rfl⟩
abbrev main_v134 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_cst_25 : Ref sig .tc := ⟨.hbm, 282, rfl⟩
abbrev main_v138 : Ref sig .tc := ⟨.hbm, 283, rfl⟩
abbrev main_call6_v0 : Ref sig .tc := ⟨.hbm, 284, rfl⟩
abbrev main_call6_cst : Ref sig .tc := ⟨.hbm, 285, rfl⟩
abbrev main_call6_c : Ref sig .tc := ⟨.hbm, 286, rfl⟩
abbrev main_call6_v1_0 : Ref sig .tc := ⟨.hbm, 287, rfl⟩
abbrev main_v139 : Ref sig .tc := ⟨.hbm, 288, rfl⟩
abbrev main_v140 : Ref sig .tc := ⟨.hbm, 289, rfl⟩
abbrev main_call7_c : Ref sig .tc := ⟨.hbm, 290, rfl⟩
abbrev main_call7_v0 : Ref sig .tc := ⟨.hbm, 291, rfl⟩
abbrev main_call7_v1 : Ref sig .tc := ⟨.hbm, 292, rfl⟩
abbrev main_call7_c_0 : Ref sig .tc := ⟨.hbm, 293, rfl⟩
abbrev main_call7_v2 : Ref sig .tc := ⟨.hbm, 294, rfl⟩
abbrev main_call7_v3 : Ref sig .tc := ⟨.hbm, 295, rfl⟩
abbrev main_call7_v4 : Ref sig .tc := ⟨.hbm, 296, rfl⟩
abbrev main_call7_c_1 : Ref sig .tc := ⟨.hbm, 297, rfl⟩
abbrev main_call7_c_2 : Ref sig .tc := ⟨.hbm, 298, rfl⟩
abbrev main_call7_v5 : Ref sig .tc := ⟨.hbm, 299, rfl⟩
abbrev main_call7_v6 : Ref sig .tc := ⟨.hbm, 300, rfl⟩
abbrev main_call7_v7 : Ref sig .tc := ⟨.hbm, 301, rfl⟩
abbrev main_call7_v8 : Ref sig .tc := ⟨.hbm, 302, rfl⟩
abbrev main_call7_v9 : Ref sig .tc := ⟨.hbm, 303, rfl⟩
abbrev main_call7_v10 : Ref sig .tc := ⟨.hbm, 304, rfl⟩
abbrev main_call7_c_3 : Ref sig .tc := ⟨.hbm, 305, rfl⟩
abbrev main_call7_v11 : Ref sig .tc := ⟨.hbm, 306, rfl⟩
abbrev main_call7_v12 : Ref sig .tc := ⟨.hbm, 307, rfl⟩
abbrev main_call7_v13 : Ref sig .tc := ⟨.hbm, 308, rfl⟩
abbrev main_call7_cst : Ref sig .tc := ⟨.hbm, 309, rfl⟩
abbrev main_call7_v14 : Ref sig .tc := ⟨.hbm, 310, rfl⟩
abbrev main_v141 : Ref sig .tc := ⟨.hbm, 311, rfl⟩
abbrev main_v142 : Ref sig .tc := ⟨.hbm, 312, rfl⟩
abbrev main_v143 : Ref sig .tc := ⟨.hbm, 313, rfl⟩
abbrev main_v144 : Ref sig .tc := ⟨.hbm, 314, rfl⟩
abbrev main_v145 : Ref sig .tc := ⟨.hbm, 315, rfl⟩
abbrev main_call8_c : Ref sig .tc := ⟨.hbm, 316, rfl⟩
abbrev main_call8_v0 : Ref sig .tc := ⟨.hbm, 317, rfl⟩
abbrev main_call8_v1 : Ref sig .tc := ⟨.hbm, 318, rfl⟩
abbrev main_call8_c_0 : Ref sig .tc := ⟨.hbm, 319, rfl⟩
abbrev main_call8_v2 : Ref sig .tc := ⟨.hbm, 320, rfl⟩
abbrev main_call8_v3 : Ref sig .tc := ⟨.hbm, 321, rfl⟩
abbrev main_call8_v4 : Ref sig .tc := ⟨.hbm, 322, rfl⟩
abbrev main_call8_c_1 : Ref sig .tc := ⟨.hbm, 323, rfl⟩
abbrev main_call8_c_2 : Ref sig .tc := ⟨.hbm, 324, rfl⟩
abbrev main_call8_v5 : Ref sig .tc := ⟨.hbm, 325, rfl⟩
abbrev main_call8_v6 : Ref sig .tc := ⟨.hbm, 326, rfl⟩
abbrev main_call8_v7 : Ref sig .tc := ⟨.hbm, 327, rfl⟩
abbrev main_call8_v8 : Ref sig .tc := ⟨.hbm, 328, rfl⟩
abbrev main_call8_v9 : Ref sig .tc := ⟨.hbm, 329, rfl⟩
abbrev main_call8_v10 : Ref sig .tc := ⟨.hbm, 330, rfl⟩
abbrev main_call8_c_3 : Ref sig .tc := ⟨.hbm, 331, rfl⟩
abbrev main_call8_v11 : Ref sig .tc := ⟨.hbm, 332, rfl⟩
abbrev main_call8_v12 : Ref sig .tc := ⟨.hbm, 333, rfl⟩
abbrev main_call8_v13 : Ref sig .tc := ⟨.hbm, 334, rfl⟩
abbrev main_call8_cst : Ref sig .tc := ⟨.hbm, 335, rfl⟩
abbrev main_call8_v14 : Ref sig .tc := ⟨.hbm, 336, rfl⟩
abbrev main_v146 : Ref sig .tc := ⟨.hbm, 337, rfl⟩
abbrev main_v147 : Ref sig .tc := ⟨.hbm, 338, rfl⟩
abbrev main_cst_26 : Ref sig .tc := ⟨.hbm, 339, rfl⟩
abbrev main_v148 : Ref sig .tc := ⟨.hbm, 340, rfl⟩
abbrev main_v149 : Ref sig .tc := ⟨.hbm, 341, rfl⟩
abbrev main_v150 : Ref sig .tc := ⟨.hbm, 342, rfl⟩
abbrev main_cst_27 : Ref sig .tc := ⟨.hbm, 343, rfl⟩
abbrev main_v151 : Ref sig .tc := ⟨.hbm, 344, rfl⟩
abbrev main_v152 : Ref sig .tc := ⟨.hbm, 345, rfl⟩
abbrev main_v153 : Ref sig .tc := ⟨.hbm, 346, rfl⟩
abbrev main_v154 : Ref sig .tc := ⟨.hbm, 347, rfl⟩
abbrev main_v155 : Ref sig .tc := ⟨.hbm, 348, rfl⟩
abbrev main_v156 : Ref sig .tc := ⟨.hbm, 349, rfl⟩
abbrev main_cst_28 : Ref sig .tc := ⟨.hbm, 350, rfl⟩
abbrev main_v157 : Ref sig .tc := ⟨.hbm, 351, rfl⟩
abbrev main_v158 : Ref sig .tc := ⟨.hbm, 352, rfl⟩
abbrev main_v159 : Ref sig .tc := ⟨.hbm, 353, rfl⟩
abbrev main_v160 : Ref sig .tc := ⟨.hbm, 354, rfl⟩
abbrev main_values_29 : Ref sig .tc := ⟨.hbm, 355, rfl⟩
abbrev main_indices_30 : Ref sig .tc := ⟨.hbm, 356, rfl⟩
abbrev main_v161 : Ref sig .tc := ⟨.hbm, 357, rfl⟩
abbrev main_v162 : Ref sig .tc := ⟨.hbm, 358, rfl⟩
abbrev main_call9_c : Ref sig .tc := ⟨.hbm, 359, rfl⟩
abbrev main_call9_v0 : Ref sig .tc := ⟨.hbm, 360, rfl⟩
abbrev main_call9_v1 : Ref sig .tc := ⟨.hbm, 361, rfl⟩
abbrev main_call9_c_0 : Ref sig .tc := ⟨.hbm, 362, rfl⟩
abbrev main_call9_v2 : Ref sig .tc := ⟨.hbm, 363, rfl⟩
abbrev main_call9_v3 : Ref sig .tc := ⟨.hbm, 364, rfl⟩
abbrev main_call9_v4 : Ref sig .tc := ⟨.hbm, 365, rfl⟩
abbrev main_call9_v5 : Ref sig .tc := ⟨.hbm, 366, rfl⟩
abbrev main_call9_c_1 : Ref sig .tc := ⟨.hbm, 367, rfl⟩
abbrev main_call9_c_2 : Ref sig .tc := ⟨.hbm, 368, rfl⟩
abbrev main_call9_v6 : Ref sig .tc := ⟨.hbm, 369, rfl⟩
abbrev main_call9_v7 : Ref sig .tc := ⟨.hbm, 370, rfl⟩
abbrev main_call9_v8 : Ref sig .tc := ⟨.hbm, 371, rfl⟩
abbrev main_call9_v9 : Ref sig .tc := ⟨.hbm, 372, rfl⟩
abbrev main_call9_v10 : Ref sig .tc := ⟨.hbm, 373, rfl⟩
abbrev main_call9_v11 : Ref sig .tc := ⟨.hbm, 374, rfl⟩
abbrev main_call9_c_3 : Ref sig .tc := ⟨.hbm, 375, rfl⟩
abbrev main_call9_v12 : Ref sig .tc := ⟨.hbm, 376, rfl⟩
abbrev main_call9_v13 : Ref sig .tc := ⟨.hbm, 377, rfl⟩
abbrev main_call9_v14 : Ref sig .tc := ⟨.hbm, 378, rfl⟩
abbrev main_call9_cst : Ref sig .tc := ⟨.hbm, 379, rfl⟩
abbrev main_call9_v15 : Ref sig .tc := ⟨.hbm, 380, rfl⟩
abbrev main_v163 : Ref sig .tc := ⟨.hbm, 381, rfl⟩
abbrev main_v164 : Ref sig .tc := ⟨.hbm, 382, rfl⟩
abbrev main_v165 : Ref sig .tc := ⟨.hbm, 383, rfl⟩
abbrev main_v166 : Ref sig .tc := ⟨.hbm, 384, rfl⟩
abbrev main_v167 : Ref sig .tc := ⟨.hbm, 385, rfl⟩
abbrev main_v168 : Ref sig .tc := ⟨.hbm, 386, rfl⟩
abbrev main_v169 : Ref sig .tc := ⟨.hbm, 387, rfl⟩
abbrev main_call10_c : Ref sig .tc := ⟨.hbm, 388, rfl⟩
abbrev main_call10_v0 : Ref sig .tc := ⟨.hbm, 389, rfl⟩
abbrev main_call10_v1 : Ref sig .tc := ⟨.hbm, 390, rfl⟩
abbrev main_call10_c_0 : Ref sig .tc := ⟨.hbm, 391, rfl⟩
abbrev main_call10_v2 : Ref sig .tc := ⟨.hbm, 392, rfl⟩
abbrev main_call10_v3 : Ref sig .tc := ⟨.hbm, 393, rfl⟩
abbrev main_call10_v4 : Ref sig .tc := ⟨.hbm, 394, rfl⟩
abbrev main_call10_v5 : Ref sig .tc := ⟨.hbm, 395, rfl⟩
abbrev main_call10_c_1 : Ref sig .tc := ⟨.hbm, 396, rfl⟩
abbrev main_call10_c_2 : Ref sig .tc := ⟨.hbm, 397, rfl⟩
abbrev main_call10_v6 : Ref sig .tc := ⟨.hbm, 398, rfl⟩
abbrev main_call10_v7 : Ref sig .tc := ⟨.hbm, 399, rfl⟩
abbrev main_call10_v8 : Ref sig .tc := ⟨.hbm, 400, rfl⟩
abbrev main_call10_v9 : Ref sig .tc := ⟨.hbm, 401, rfl⟩
abbrev main_call10_v10 : Ref sig .tc := ⟨.hbm, 402, rfl⟩
abbrev main_call10_v11 : Ref sig .tc := ⟨.hbm, 403, rfl⟩
abbrev main_call10_c_3 : Ref sig .tc := ⟨.hbm, 404, rfl⟩
abbrev main_call10_v12 : Ref sig .tc := ⟨.hbm, 405, rfl⟩
abbrev main_call10_v13 : Ref sig .tc := ⟨.hbm, 406, rfl⟩
abbrev main_call10_v14 : Ref sig .tc := ⟨.hbm, 407, rfl⟩
abbrev main_call10_cst : Ref sig .tc := ⟨.hbm, 408, rfl⟩
abbrev main_call10_v15 : Ref sig .tc := ⟨.hbm, 409, rfl⟩
abbrev main_v170 : Ref sig .tc := ⟨.hbm, 410, rfl⟩
abbrev main_v171 : Ref sig .tc := ⟨.hbm, 411, rfl⟩
abbrev main_v172 : Ref sig .tc := ⟨.hbm, 412, rfl⟩
abbrev main_v173 : Ref sig .tc := ⟨.hbm, 413, rfl⟩
abbrev main_v174 : Ref sig .tc := ⟨.hbm, 414, rfl⟩
abbrev main_call11_v0 : Ref sig .tc := ⟨.hbm, 415, rfl⟩
abbrev main_call11_cst : Ref sig .tc := ⟨.hbm, 416, rfl⟩
abbrev main_call11_v1 : Ref sig .tc := ⟨.hbm, 417, rfl⟩
abbrev main_call11_v2 : Ref sig .tc := ⟨.hbm, 418, rfl⟩
abbrev main_v175 : Ref sig .tc := ⟨.hbm, 419, rfl⟩
abbrev main_cst_31 : Ref sig .tc := ⟨.hbm, 420, rfl⟩
abbrev main_v176 : Ref sig .tc := ⟨.hbm, 421, rfl⟩
abbrev main_v177 : Ref sig .tc := ⟨.hbm, 422, rfl⟩
abbrev main_cst_32 : Ref sig .tc := ⟨.hbm, 423, rfl⟩
abbrev main_v178 : Ref sig .tc := ⟨.hbm, 424, rfl⟩
abbrev main_v179 : Ref sig .tc := ⟨.hbm, 425, rfl⟩
abbrev main_cst_33 : Ref sig .tc := ⟨.hbm, 426, rfl⟩
abbrev main_v180 : Ref sig .tc := ⟨.hbm, 427, rfl⟩
abbrev main_v181 : Ref sig .tc := ⟨.hbm, 428, rfl⟩
abbrev main_c_34 : Ref sig .tc := ⟨.hbm, 429, rfl⟩
abbrev main_call12_cst : Ref sig .tc := ⟨.hbm, 430, rfl⟩
abbrev main_call12_v0 : Ref sig .tc := ⟨.hbm, 431, rfl⟩
abbrev main_call12_v1 : Ref sig .tc := ⟨.hbm, 432, rfl⟩
abbrev main_call12_cst_0 : Ref sig .tc := ⟨.hbm, 433, rfl⟩
abbrev main_call12_v2 : Ref sig .tc := ⟨.hbm, 434, rfl⟩
abbrev main_call12_v3 : Ref sig .tc := ⟨.hbm, 435, rfl⟩
abbrev main_call12_v4 : Ref sig .tc := ⟨.hbm, 436, rfl⟩
abbrev main_call12_v5 : Ref sig .tc := ⟨.hbm, 437, rfl⟩
abbrev main_call12_v6 : Ref sig .tc := ⟨.hbm, 438, rfl⟩
abbrev main_call12_v7 : Ref sig .tc := ⟨.hbm, 439, rfl⟩
abbrev main_call12_cst_1 : Ref sig .tc := ⟨.hbm, 440, rfl⟩
abbrev main_call12_v8 : Ref sig .tc := ⟨.hbm, 441, rfl⟩
abbrev main_call12_cst_2 : Ref sig .tc := ⟨.hbm, 442, rfl⟩
abbrev main_call12_v9 : Ref sig .tc := ⟨.hbm, 443, rfl⟩
abbrev main_call12_v10 : Ref sig .tc := ⟨.hbm, 444, rfl⟩
abbrev main_call12_v11 : Ref sig .tc := ⟨.hbm, 445, rfl⟩
abbrev main_call12_v12 : Ref sig .tc := ⟨.hbm, 446, rfl⟩
abbrev main_call12_cst_3 : Ref sig .tc := ⟨.hbm, 447, rfl⟩
abbrev main_call12_v13 : Ref sig .tc := ⟨.hbm, 448, rfl⟩
abbrev main_call12_cst_4 : Ref sig .tc := ⟨.hbm, 449, rfl⟩
abbrev main_call12_call0_v0 : Ref sig .tc := ⟨.hbm, 450, rfl⟩
abbrev main_call12_call0_v1 : Ref sig .tc := ⟨.hbm, 451, rfl⟩
abbrev main_v182 : Ref sig .tc := ⟨.hbm, 452, rfl⟩
abbrev main_v183 : Ref sig .tc := ⟨.hbm, 453, rfl⟩
abbrev main_v184 : Ref sig .tc := ⟨.hbm, 454, rfl⟩
abbrev main_v185 : Ref sig .tc := ⟨.hbm, 455, rfl⟩
abbrev main_v186 : Ref sig .tc := ⟨.hbm, 456, rfl⟩
abbrev main_v187 : Ref sig .tc := ⟨.hbm, 457, rfl⟩
abbrev main_cst_35 : Ref sig .tc := ⟨.hbm, 458, rfl⟩
abbrev main_v188 : Ref sig .tc := ⟨.hbm, 459, rfl⟩
abbrev main_v189 : Ref sig .tc := ⟨.hbm, 460, rfl⟩
abbrev main_v190 : Ref sig .tc := ⟨.hbm, 461, rfl⟩
abbrev main_v191 : Ref sig .tc := ⟨.hbm, 462, rfl⟩
abbrev main_v192 : Ref sig .tc := ⟨.hbm, 463, rfl⟩
abbrev main_v193 : Ref sig .tc := ⟨.hbm, 464, rfl⟩
abbrev main_v194 : Ref sig .tc := ⟨.hbm, 465, rfl⟩
abbrev main_v195 : Ref sig .tc := ⟨.hbm, 466, rfl⟩
abbrev main_v196 : Ref sig .tc := ⟨.hbm, 467, rfl⟩
abbrev main_v197 : Ref sig .tc := ⟨.hbm, 468, rfl⟩
abbrev main_v198 : Ref sig .tc := ⟨.hbm, 469, rfl⟩
abbrev main_v199 : Ref sig .tc := ⟨.hbm, 470, rfl⟩
abbrev main_v200 : Ref sig .tc := ⟨.hbm, 471, rfl⟩
abbrev main_v201 : Ref sig .tc := ⟨.hbm, 472, rfl⟩
abbrev main_v202 : Ref sig .tc := ⟨.hbm, 473, rfl⟩
abbrev main_cst_36 : Ref sig .tc := ⟨.hbm, 474, rfl⟩
abbrev main_v203 : Ref sig .tc := ⟨.hbm, 475, rfl⟩
abbrev main_v204 : Ref sig .tc := ⟨.hbm, 476, rfl⟩
abbrev main_v205 : Ref sig .tc := ⟨.hbm, 477, rfl⟩
abbrev main_cst_37 : Ref sig .tc := ⟨.hbm, 478, rfl⟩
abbrev main_v206 : Ref sig .tc := ⟨.hbm, 479, rfl⟩
abbrev main_v207 : Ref sig .tc := ⟨.hbm, 480, rfl⟩
abbrev main_cst_38 : Ref sig .tc := ⟨.hbm, 481, rfl⟩
abbrev main_v208 : Ref sig .tc := ⟨.hbm, 482, rfl⟩
abbrev main_v209 : Ref sig .tc := ⟨.hbm, 483, rfl⟩
abbrev main_v210 : Ref sig .tc := ⟨.hbm, 484, rfl⟩
abbrev main_cst_39 : Ref sig .tc := ⟨.hbm, 485, rfl⟩
abbrev main_v211 : Ref sig .tc := ⟨.hbm, 486, rfl⟩
abbrev main_v212 : Ref sig .tc := ⟨.hbm, 487, rfl⟩
abbrev main_v213 : Ref sig .tc := ⟨.hbm, 488, rfl⟩
abbrev main_v214 : Ref sig .tc := ⟨.hbm, 489, rfl⟩
abbrev main_v215 : Ref sig .tc := ⟨.hbm, 490, rfl⟩
abbrev main_v216 : Ref sig .tc := ⟨.hbm, 491, rfl⟩
abbrev main_cst_40 : Ref sig .tc := ⟨.hbm, 492, rfl⟩
abbrev main_v217 : Ref sig .tc := ⟨.hbm, 493, rfl⟩
abbrev main_v218 : Ref sig .tc := ⟨.hbm, 494, rfl⟩
abbrev main_v219 : Ref sig .tc := ⟨.hbm, 495, rfl⟩
abbrev main_v220 : Ref sig .tc := ⟨.hbm, 496, rfl⟩
abbrev main_cst_41 : Ref sig .tc := ⟨.hbm, 497, rfl⟩
abbrev main_v221 : Ref sig .tc := ⟨.hbm, 498, rfl⟩
abbrev main_v222 : Ref sig .tc := ⟨.hbm, 499, rfl⟩
abbrev main_v223 : Ref sig .tc := ⟨.hbm, 500, rfl⟩
abbrev main_v224 : Ref sig .tc := ⟨.hbm, 501, rfl⟩
abbrev main_v225 : Ref sig .tc := ⟨.hbm, 502, rfl⟩
abbrev main_cst_42 : Ref sig .tc := ⟨.hbm, 503, rfl⟩
abbrev main_v226 : Ref sig .tc := ⟨.hbm, 504, rfl⟩
abbrev main_v227 : Ref sig .tc := ⟨.hbm, 505, rfl⟩
abbrev main_v228 : Ref sig .tc := ⟨.hbm, 506, rfl⟩
abbrev main_v229 : Ref sig .tc := ⟨.hbm, 507, rfl⟩
abbrev main_v230 : Ref sig .tc := ⟨.hbm, 508, rfl⟩
abbrev main_call13_v0 : Ref sig .tc := ⟨.hbm, 509, rfl⟩
abbrev main_call13_cst : Ref sig .tc := ⟨.hbm, 510, rfl⟩
abbrev main_call13_v1 : Ref sig .tc := ⟨.hbm, 511, rfl⟩
abbrev main_call13_v2 : Ref sig .tc := ⟨.hbm, 512, rfl⟩
abbrev main_v231 : Ref sig .tc := ⟨.hbm, 513, rfl⟩
abbrev main_cst_43 : Ref sig .tc := ⟨.hbm, 514, rfl⟩
abbrev main_v232 : Ref sig .tc := ⟨.hbm, 515, rfl⟩
abbrev main_v233 : Ref sig .tc := ⟨.hbm, 516, rfl⟩
abbrev main_cst_44 : Ref sig .tc := ⟨.hbm, 517, rfl⟩
abbrev main_v234 : Ref sig .tc := ⟨.hbm, 518, rfl⟩
abbrev main_v235 : Ref sig .tc := ⟨.hbm, 519, rfl⟩
abbrev main_cst_45 : Ref sig .tc := ⟨.hbm, 520, rfl⟩
abbrev main_v236 : Ref sig .tc := ⟨.hbm, 521, rfl⟩
abbrev main_v237 : Ref sig .tc := ⟨.hbm, 522, rfl⟩
abbrev main_c_46 : Ref sig .tc := ⟨.hbm, 523, rfl⟩
abbrev main_call14_cst : Ref sig .tc := ⟨.hbm, 524, rfl⟩
abbrev main_call14_v0 : Ref sig .tc := ⟨.hbm, 525, rfl⟩
abbrev main_call14_v1 : Ref sig .tc := ⟨.hbm, 526, rfl⟩
abbrev main_call14_cst_0 : Ref sig .tc := ⟨.hbm, 527, rfl⟩
abbrev main_call14_v2 : Ref sig .tc := ⟨.hbm, 528, rfl⟩
abbrev main_call14_v3 : Ref sig .tc := ⟨.hbm, 529, rfl⟩
abbrev main_call14_v4 : Ref sig .tc := ⟨.hbm, 530, rfl⟩
abbrev main_call14_v5 : Ref sig .tc := ⟨.hbm, 531, rfl⟩
abbrev main_call14_v6 : Ref sig .tc := ⟨.hbm, 532, rfl⟩
abbrev main_call14_v7 : Ref sig .tc := ⟨.hbm, 533, rfl⟩
abbrev main_call14_cst_1 : Ref sig .tc := ⟨.hbm, 534, rfl⟩
abbrev main_call14_v8 : Ref sig .tc := ⟨.hbm, 535, rfl⟩
abbrev main_call14_cst_2 : Ref sig .tc := ⟨.hbm, 536, rfl⟩
abbrev main_call14_v9 : Ref sig .tc := ⟨.hbm, 537, rfl⟩
abbrev main_call14_v10 : Ref sig .tc := ⟨.hbm, 538, rfl⟩
abbrev main_call14_v11 : Ref sig .tc := ⟨.hbm, 539, rfl⟩
abbrev main_call14_v12 : Ref sig .tc := ⟨.hbm, 540, rfl⟩
abbrev main_call14_cst_3 : Ref sig .tc := ⟨.hbm, 541, rfl⟩
abbrev main_call14_v13 : Ref sig .tc := ⟨.hbm, 542, rfl⟩
abbrev main_call14_cst_4 : Ref sig .tc := ⟨.hbm, 543, rfl⟩
abbrev main_call14_call0_v0 : Ref sig .tc := ⟨.hbm, 544, rfl⟩
abbrev main_call14_call0_v1 : Ref sig .tc := ⟨.hbm, 545, rfl⟩
abbrev main_v238 : Ref sig .tc := ⟨.hbm, 546, rfl⟩
abbrev main_v239 : Ref sig .tc := ⟨.hbm, 547, rfl⟩
abbrev main_v240 : Ref sig .tc := ⟨.hbm, 548, rfl⟩
abbrev main_v241 : Ref sig .tc := ⟨.hbm, 549, rfl⟩
abbrev main_v242 : Ref sig .tc := ⟨.hbm, 550, rfl⟩
abbrev main_v243 : Ref sig .tc := ⟨.hbm, 551, rfl⟩
abbrev main_cst_47 : Ref sig .tc := ⟨.hbm, 552, rfl⟩
abbrev main_v244 : Ref sig .tc := ⟨.hbm, 553, rfl⟩
abbrev main_v245 : Ref sig .tc := ⟨.hbm, 554, rfl⟩
abbrev main_v246 : Ref sig .tc := ⟨.hbm, 555, rfl⟩
abbrev main_v247 : Ref sig .tc := ⟨.hbm, 556, rfl⟩
abbrev main_v248 : Ref sig .tc := ⟨.hbm, 557, rfl⟩
abbrev main_v249 : Ref sig .tc := ⟨.hbm, 558, rfl⟩
abbrev main_v250 : Ref sig .tc := ⟨.hbm, 559, rfl⟩
abbrev main_v251 : Ref sig .tc := ⟨.hbm, 560, rfl⟩
abbrev main_v252 : Ref sig .tc := ⟨.hbm, 561, rfl⟩
abbrev main_v253 : Ref sig .tc := ⟨.hbm, 562, rfl⟩
abbrev main_v254 : Ref sig .tc := ⟨.hbm, 563, rfl⟩
abbrev main_v255 : Ref sig .tc := ⟨.hbm, 564, rfl⟩
abbrev main_v256 : Ref sig .tc := ⟨.hbm, 565, rfl⟩
abbrev main_v257 : Ref sig .tc := ⟨.hbm, 566, rfl⟩
abbrev main_v258 : Ref sig .tc := ⟨.hbm, 567, rfl⟩
abbrev main_cst_48 : Ref sig .tc := ⟨.hbm, 568, rfl⟩
abbrev main_v259 : Ref sig .tc := ⟨.hbm, 569, rfl⟩
abbrev main_v260 : Ref sig .tc := ⟨.hbm, 570, rfl⟩
abbrev main_v261 : Ref sig .tc := ⟨.hbm, 571, rfl⟩
abbrev main_cst_49 : Ref sig .tc := ⟨.hbm, 572, rfl⟩
abbrev main_v262 : Ref sig .tc := ⟨.hbm, 573, rfl⟩
abbrev main_v263 : Ref sig .tc := ⟨.hbm, 574, rfl⟩
abbrev main_cst_50 : Ref sig .tc := ⟨.hbm, 575, rfl⟩
abbrev main_v264 : Ref sig .tc := ⟨.hbm, 576, rfl⟩
abbrev main_v265 : Ref sig .tc := ⟨.hbm, 577, rfl⟩
abbrev main_v266 : Ref sig .tc := ⟨.hbm, 578, rfl⟩
abbrev main_cst_51 : Ref sig .tc := ⟨.hbm, 579, rfl⟩
abbrev main_v267 : Ref sig .tc := ⟨.hbm, 580, rfl⟩
abbrev main_v268 : Ref sig .tc := ⟨.hbm, 581, rfl⟩
abbrev main_v269 : Ref sig .tc := ⟨.hbm, 582, rfl⟩
abbrev main_v270 : Ref sig .tc := ⟨.hbm, 583, rfl⟩
abbrev main_v271 : Ref sig .tc := ⟨.hbm, 584, rfl⟩
abbrev main_v272 : Ref sig .tc := ⟨.hbm, 585, rfl⟩
abbrev main_cst_52 : Ref sig .tc := ⟨.hbm, 586, rfl⟩
abbrev main_v273 : Ref sig .tc := ⟨.hbm, 587, rfl⟩
abbrev main_v274 : Ref sig .tc := ⟨.hbm, 588, rfl⟩
abbrev main_v275 : Ref sig .tc := ⟨.hbm, 589, rfl⟩
abbrev main_v276 : Ref sig .tc := ⟨.hbm, 590, rfl⟩
abbrev main_cst_53 : Ref sig .tc := ⟨.hbm, 591, rfl⟩
abbrev main_v277 : Ref sig .tc := ⟨.hbm, 592, rfl⟩
abbrev main_v278 : Ref sig .tc := ⟨.hbm, 593, rfl⟩
abbrev main_v279 : Ref sig .tc := ⟨.hbm, 594, rfl⟩
abbrev main_v280 : Ref sig .tc := ⟨.hbm, 595, rfl⟩
abbrev main_v281 : Ref sig .tc := ⟨.hbm, 596, rfl⟩
abbrev main_cst_54 : Ref sig .tc := ⟨.hbm, 597, rfl⟩
abbrev main_v282 : Ref sig .tc := ⟨.hbm, 598, rfl⟩
abbrev main_v283 : Ref sig .tc := ⟨.hbm, 599, rfl⟩
abbrev main_v284 : Ref sig .tc := ⟨.hbm, 600, rfl⟩
abbrev main_v285 : Ref sig .tc := ⟨.hbm, 601, rfl⟩
abbrev main_cst_55 : Ref sig .tc := ⟨.hbm, 602, rfl⟩
abbrev main_v286 : Ref sig .tc := ⟨.hbm, 603, rfl⟩
abbrev main_call15_v0 : Ref sig .tc := ⟨.hbm, 604, rfl⟩
abbrev main_call15_cst : Ref sig .tc := ⟨.hbm, 605, rfl⟩
abbrev main_call15_c : Ref sig .tc := ⟨.hbm, 606, rfl⟩
abbrev main_call15_v1_0 : Ref sig .tc := ⟨.hbm, 607, rfl⟩
abbrev main_v287 : Ref sig .tc := ⟨.hbm, 608, rfl⟩
abbrev main_v288 : Ref sig .tc := ⟨.hbm, 609, rfl⟩
abbrev main_call16_c : Ref sig .tc := ⟨.hbm, 610, rfl⟩
abbrev main_call16_v0 : Ref sig .tc := ⟨.hbm, 611, rfl⟩
abbrev main_call16_v1 : Ref sig .tc := ⟨.hbm, 612, rfl⟩
abbrev main_call16_c_0 : Ref sig .tc := ⟨.hbm, 613, rfl⟩
abbrev main_call16_v2 : Ref sig .tc := ⟨.hbm, 614, rfl⟩
abbrev main_call16_v3 : Ref sig .tc := ⟨.hbm, 615, rfl⟩
abbrev main_call16_v4 : Ref sig .tc := ⟨.hbm, 616, rfl⟩
abbrev main_call16_c_1 : Ref sig .tc := ⟨.hbm, 617, rfl⟩
abbrev main_call16_c_2 : Ref sig .tc := ⟨.hbm, 618, rfl⟩
abbrev main_call16_v5 : Ref sig .tc := ⟨.hbm, 619, rfl⟩
abbrev main_call16_v6 : Ref sig .tc := ⟨.hbm, 620, rfl⟩
abbrev main_call16_v7 : Ref sig .tc := ⟨.hbm, 621, rfl⟩
abbrev main_call16_v8 : Ref sig .tc := ⟨.hbm, 622, rfl⟩
abbrev main_call16_v9 : Ref sig .tc := ⟨.hbm, 623, rfl⟩
abbrev main_call16_v10 : Ref sig .tc := ⟨.hbm, 624, rfl⟩
abbrev main_call16_c_3 : Ref sig .tc := ⟨.hbm, 625, rfl⟩
abbrev main_call16_v11 : Ref sig .tc := ⟨.hbm, 626, rfl⟩
abbrev main_call16_v12 : Ref sig .tc := ⟨.hbm, 627, rfl⟩
abbrev main_call16_v13 : Ref sig .tc := ⟨.hbm, 628, rfl⟩
abbrev main_call16_cst : Ref sig .tc := ⟨.hbm, 629, rfl⟩
abbrev main_call16_v14 : Ref sig .tc := ⟨.hbm, 630, rfl⟩
abbrev main_v289 : Ref sig .tc := ⟨.hbm, 631, rfl⟩
abbrev main_v290 : Ref sig .tc := ⟨.hbm, 632, rfl⟩
abbrev main_v291 : Ref sig .tc := ⟨.hbm, 633, rfl⟩
abbrev main_v292 : Ref sig .tc := ⟨.hbm, 634, rfl⟩
abbrev main_cst_56 : Ref sig .tc := ⟨.hbm, 635, rfl⟩
abbrev main_v293 : Ref sig .tc := ⟨.hbm, 636, rfl⟩
abbrev main_call17_v0 : Ref sig .tc := ⟨.hbm, 637, rfl⟩
abbrev main_call17_cst : Ref sig .tc := ⟨.hbm, 638, rfl⟩
abbrev main_call17_c : Ref sig .tc := ⟨.hbm, 639, rfl⟩
abbrev main_call17_v1_0 : Ref sig .tc := ⟨.hbm, 640, rfl⟩
abbrev main_v294 : Ref sig .tc := ⟨.hbm, 641, rfl⟩
abbrev main_v295 : Ref sig .tc := ⟨.hbm, 642, rfl⟩
abbrev main_call18_c : Ref sig .tc := ⟨.hbm, 643, rfl⟩
abbrev main_call18_v0 : Ref sig .tc := ⟨.hbm, 644, rfl⟩
abbrev main_call18_v1 : Ref sig .tc := ⟨.hbm, 645, rfl⟩
abbrev main_call18_c_0 : Ref sig .tc := ⟨.hbm, 646, rfl⟩
abbrev main_call18_v2 : Ref sig .tc := ⟨.hbm, 647, rfl⟩
abbrev main_call18_v3 : Ref sig .tc := ⟨.hbm, 648, rfl⟩
abbrev main_call18_v4 : Ref sig .tc := ⟨.hbm, 649, rfl⟩
abbrev main_call18_c_1 : Ref sig .tc := ⟨.hbm, 650, rfl⟩
abbrev main_call18_c_2 : Ref sig .tc := ⟨.hbm, 651, rfl⟩
abbrev main_call18_v5 : Ref sig .tc := ⟨.hbm, 652, rfl⟩
abbrev main_call18_v6 : Ref sig .tc := ⟨.hbm, 653, rfl⟩
abbrev main_call18_v7 : Ref sig .tc := ⟨.hbm, 654, rfl⟩
abbrev main_call18_v8 : Ref sig .tc := ⟨.hbm, 655, rfl⟩
abbrev main_call18_v9 : Ref sig .tc := ⟨.hbm, 656, rfl⟩
abbrev main_call18_v10 : Ref sig .tc := ⟨.hbm, 657, rfl⟩
abbrev main_call18_c_3 : Ref sig .tc := ⟨.hbm, 658, rfl⟩
abbrev main_call18_v11 : Ref sig .tc := ⟨.hbm, 659, rfl⟩
abbrev main_call18_v12 : Ref sig .tc := ⟨.hbm, 660, rfl⟩
abbrev main_call18_v13 : Ref sig .tc := ⟨.hbm, 661, rfl⟩
abbrev main_call18_cst : Ref sig .tc := ⟨.hbm, 662, rfl⟩
abbrev main_call18_v14 : Ref sig .tc := ⟨.hbm, 663, rfl⟩
abbrev main_v296 : Ref sig .tc := ⟨.hbm, 664, rfl⟩
abbrev main_v297 : Ref sig .tc := ⟨.hbm, 665, rfl⟩
abbrev main_v298 : Ref sig .tc := ⟨.hbm, 666, rfl⟩
abbrev main_v299 : Ref sig .tc := ⟨.hbm, 667, rfl⟩
abbrev main_v300 : Ref sig .tc := ⟨.hbm, 668, rfl⟩
abbrev main_v301 : Ref sig .tc := ⟨.hbm, 669, rfl⟩
abbrev main_v302 : Ref sig .tc := ⟨.hbm, 670, rfl⟩
abbrev main_v303 : Ref sig .tc := ⟨.hbm, 671, rfl⟩
abbrev main_v304 : Ref sig .tc := ⟨.hbm, 672, rfl⟩
abbrev main_v305 : Ref sig .tc := ⟨.hbm, 673, rfl⟩
abbrev main_call19_v0 : Ref sig .tc := ⟨.hbm, 674, rfl⟩
abbrev main_call19_cst : Ref sig .tc := ⟨.hbm, 675, rfl⟩
abbrev main_call19_v1 : Ref sig .tc := ⟨.hbm, 676, rfl⟩
abbrev main_call19_v2 : Ref sig .tc := ⟨.hbm, 677, rfl⟩
abbrev main_v306 : Ref sig .tc := ⟨.hbm, 678, rfl⟩
abbrev main_cst_57 : Ref sig .tc := ⟨.hbm, 679, rfl⟩
abbrev main_v307 : Ref sig .tc := ⟨.hbm, 680, rfl⟩
abbrev main_v308 : Ref sig .tc := ⟨.hbm, 681, rfl⟩
abbrev main_v309 : Ref sig .tc := ⟨.hbm, 682, rfl⟩
abbrev main_v310 : Ref sig .tc := ⟨.hbm, 683, rfl⟩
abbrev main_v311 : Ref sig .tc := ⟨.hbm, 684, rfl⟩
abbrev main_cst_58 : Ref sig .tc := ⟨.hbm, 685, rfl⟩
abbrev main_v312 : Ref sig .tc := ⟨.hbm, 686, rfl⟩
abbrev main_v313 : Ref sig .tc := ⟨.hbm, 687, rfl⟩
abbrev main_v314 : Ref sig .tc := ⟨.hbm, 688, rfl⟩
abbrev main_v315 : Ref sig .tc := ⟨.hbm, 689, rfl⟩
abbrev main_v316 : Ref sig .tc := ⟨.hbm, 690, rfl⟩
abbrev main_call20_v0 : Ref sig .tc := ⟨.hbm, 691, rfl⟩
abbrev main_call20_cst : Ref sig .tc := ⟨.hbm, 692, rfl⟩
abbrev main_call20_v1 : Ref sig .tc := ⟨.hbm, 693, rfl⟩
abbrev main_call20_v2 : Ref sig .tc := ⟨.hbm, 694, rfl⟩
abbrev main_v317 : Ref sig .tc := ⟨.hbm, 695, rfl⟩
abbrev main_cst_59 : Ref sig .tc := ⟨.hbm, 696, rfl⟩
abbrev main_v318 : Ref sig .tc := ⟨.hbm, 697, rfl⟩
abbrev main_v319 : Ref sig .tc := ⟨.hbm, 698, rfl⟩
abbrev main_v320 : Ref sig .tc := ⟨.hbm, 699, rfl⟩
abbrev main_v321 : Ref sig .tc := ⟨.hbm, 700, rfl⟩
abbrev main_call21_v0 : Ref sig .tc := ⟨.hbm, 701, rfl⟩
abbrev main_call21_v1 : Ref sig .tc := ⟨.hbm, 702, rfl⟩
abbrev main_call21_v2 : Ref sig .tc := ⟨.hbm, 703, rfl⟩
abbrev main_call21_v3 : Ref sig .tc := ⟨.hbm, 704, rfl⟩
abbrev main_call21_v4 : Ref sig .tc := ⟨.hbm, 705, rfl⟩
abbrev main_call21_v5 : Ref sig .tc := ⟨.hbm, 706, rfl⟩
abbrev main_call21_v6 : Ref sig .tc := ⟨.hbm, 707, rfl⟩
abbrev main_call21_v7 : Ref sig .tc := ⟨.hbm, 708, rfl⟩
abbrev main_call21_v8 : Ref sig .tc := ⟨.hbm, 709, rfl⟩
abbrev main_call21_v9 : Ref sig .tc := ⟨.hbm, 710, rfl⟩
abbrev main_call21_v10 : Ref sig .tc := ⟨.hbm, 711, rfl⟩
abbrev main_call21_v11 : Ref sig .tc := ⟨.hbm, 712, rfl⟩
abbrev main_call21_v12 : Ref sig .tc := ⟨.hbm, 713, rfl⟩
abbrev main_call21_v13 : Ref sig .tc := ⟨.hbm, 714, rfl⟩
abbrev main_call21_v14 : Ref sig .tc := ⟨.hbm, 715, rfl⟩
abbrev main_call21_v15 : Ref sig .tc := ⟨.hbm, 716, rfl⟩
abbrev main_call21_v16 : Ref sig .tc := ⟨.hbm, 717, rfl⟩
abbrev main_call21_v17 : Ref sig .tc := ⟨.hbm, 718, rfl⟩
abbrev main_call21_v18 : Ref sig .tc := ⟨.hbm, 719, rfl⟩
abbrev main_call21_v19 : Ref sig .tc := ⟨.hbm, 720, rfl⟩
abbrev main_call21_v20 : Ref sig .tc := ⟨.hbm, 721, rfl⟩
abbrev main_call21_v21 : Ref sig .tc := ⟨.hbm, 722, rfl⟩
abbrev main_call21_v22 : Ref sig .tc := ⟨.hbm, 723, rfl⟩
abbrev main_call21_v23 : Ref sig .tc := ⟨.hbm, 724, rfl⟩
abbrev main_call21_v24 : Ref sig .tc := ⟨.hbm, 725, rfl⟩
abbrev main_v322 : Ref sig .tc := ⟨.hbm, 726, rfl⟩
abbrev main_v323 : Ref sig .tc := ⟨.hbm, 727, rfl⟩
abbrev main_v324 : Ref sig .tc := ⟨.hbm, 728, rfl⟩
abbrev main_v325 : Ref sig .tc := ⟨.hbm, 729, rfl⟩
abbrev main_v326 : Ref sig .tc := ⟨.hbm, 730, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

/-! What every buffer of the kernel program holds when it ends. -/

noncomputable section

namespace Cert.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- Every run ends, and each unscoped buffer then holds what the last of the stretches leaves in it. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h _ => h)

end Cert.Val

end

end
-- ==== Proof.RefOps1.lean ====
module

public import Idealize.ShloMosaic.Lib.Pipeline.Regions
public import proofs.«01_k».proof.Proof.Gen.ReferenceIdeal

@[expose] public section

set_option maxRecDepth 16384

noncomputable section

open Idealize.ShloMosaic Idealize.ShloMosaic.TcCoe Idealize.SL.Sem
open Cert.ReferenceIdeal Cert.ReferenceIdeal.Gen

namespace Cert.Ref

variable {F : FTy → Type} [FloatOps F]

/-- Operations of the reference, stretch 0: up to `main_v1`. -/
abbrev refC0 : List (HloOp τ sig (Elt F)) := [
  StableHlo.unary main_arg0 main_v0 ((transpose S16x2048x3 [0, 2, 1] · transposes_S16x3x2048_S16x2048x3_0_2_1) : (⟨S16x3x2048, .f32⟩ : BufTy).Contents (Elt F) → (⟨S16x2048x3, .f32⟩ : BufTy).Contents (Elt F)),
  StableHlo.unary main_arg1 main_v1 (broadcastInDim S16x256x1 ![0, 1] bcast_S16x256_S16x256x1_0_1 : (⟨S16x256, .i32⟩ : BufTy).Contents (Elt F) → (⟨S16x256x1, .i32⟩ : BufTy).Contents (Elt F)) ]
theorem refC0_sub : (refC0 : List (HloOp τ sig (Elt F))).Forall fun op => op.bufs ⊆ StableHlo.tcRefs τ sig :=
  ⟨StableHlo.unary_bufs_sub .., StableHlo.unary_bufs_sub ..⟩
abbrev refC0_W : List (Ref sig .tc) := [main_v0, main_v1]
theorem refC0_writes : (refC0 : List (HloOp τ sig (Elt F))).map HloOp.writes = refC0_W.map fun w => {Proc.devRef (τ := τ) .tc w} := rfl
theorem refC0_fresh : ∀ op ∈ (refC0 : List (HloOp τ sig (Elt F))), op.fresh = ∅ := by
  intro _ h; (repeat (cases h with | head => rfl | tail _ h => ?_)); exact nomatch h

/-- Operations of the reference, stretch 1: up to `main_v2`. -/
abbrev refC1 : List (HloOp τ sig (Elt F)) := [
  StableHlo.TRef.nullary (.of main_call0_c : StableHlo.TRef sig ⟨S_, .i32⟩) (constantI S_ 32 0#32),
  StableHlo.TRef.unary (.of main_call0_c : StableHlo.TRef sig ⟨S_, .i32⟩) (.of main_call0_v0 : StableHlo.TRef sig ⟨S16x256x1, .i32⟩) (broadcastInDim S16x256x1 ![] bcast_S_S16x256x1),
  StableHlo.TRef.binary (.of main_v1 : StableHlo.TRef sig ⟨S16x256x1, .i32⟩) (.of main_call0_v0 : StableHlo.TRef sig ⟨S16x256x1, .i32⟩) (.of main_call0_v1 : StableHlo.TRef sig ⟨S16x256x1, .i1⟩) (cmpi .slt),
  StableHlo.TRef.nullary (.of main_call0_c_0 : StableHlo.TRef sig ⟨S_, .i32⟩) (constantI S_ 32 2048#32),
  StableHlo.TRef.unary (.of main_call0_c_0 : StableHlo.TRef sig ⟨S_, .i32⟩) (.of main_call0_v2 : StableHlo.TRef sig ⟨S16x256x1, .i32⟩) (broadcastInDim S16x256x1 ![] bcast_S_S16x256x1),
  StableHlo.TRef.binary (.of main_v1 : StableHlo.TRef sig ⟨S16x256x1, .i32⟩) (.of main_call0_v2 : StableHlo.TRef sig ⟨S16x256x1, .i32⟩) (.of main_call0_v3 : StableHlo.TRef sig ⟨S16x256x1, .i32⟩) addi,
  StableHlo.TRef.ternary (.of main_call0_v1 : StableHlo.TRef sig ⟨S16x256x1, .i1⟩) (.of main_call0_v3 : StableHlo.TRef sig ⟨S16x256x1, .i32⟩) (.of main_v1 : StableHlo.TRef sig ⟨S16x256x1, .i32⟩) (.of main_call0_v4 : StableHlo.TRef sig ⟨S16x256x1, .i32⟩) select,
  StableHlo.TRef.nullary (.of main_call0_c_1 : StableHlo.TRef sig ⟨S1, .i32⟩) (constantI S1 32 2047#32),
  StableHlo.TRef.nullary (.of main_call0_c_2 : StableHlo.TRef sig ⟨S_, .i32⟩) (constantI S_ 32 0#32),
  StableHlo.TRef.unary (.of main_call0_c_2 : StableHlo.TRef sig ⟨S_, .i32⟩) (.of main_call0_v5 : StableHlo.TRef sig ⟨S16x256x1, .i32⟩) (broadcastInDim S16x256x1 ![] bcast_S_S16x256x1),
  StableHlo.TRef.binary (.of main_call0_v4 : StableHlo.TRef sig ⟨S16x256x1, .i32⟩) (.of main_call0_v5 : StableHlo.TRef sig ⟨S16x256x1, .i32⟩) (.of main_call0_v6 : StableHlo.TRef sig ⟨S16x256x1, .i1⟩) (cmpi .sge),
  StableHlo.TRef.unary (.of main_call0_c_1 : StableHlo.TRef sig ⟨S1, .i32⟩) (.of main_call0_v7 : StableHlo.TRef sig ⟨S1x1x1, .i32⟩) (broadcastInDim S1x1x1 ![2] bcast_S1_S1x1x1_2),
  StableHlo.TRef.unary (.of main_call0_v7 : StableHlo.TRef sig ⟨S1x1x1, .i32⟩) (.of main_call0_v8 : StableHlo.TRef sig ⟨S16x256x1, .i32⟩) (broadcastInDim S16x256x1 ![0, 1, 2] bcast_S1x1x1_S16x256x1_0_1_2),
  StableHlo.TRef.binary (.of main_call0_v4 : StableHlo.TRef sig ⟨S16x256x1, .i32⟩) (.of main_call0_v8 : StableHlo.TRef sig ⟨S16x256x1, .i32⟩) (.of main_call0_v9 : StableHlo.TRef sig ⟨S16x256x1, .i1⟩) (cmpi .sle),
  StableHlo.TRef.binary (.of main_call0_v6 : StableHlo.TRef sig ⟨S16x256x1, .i1⟩) (.of main_call0_v9 : StableHlo.TRef sig ⟨S16x256x1, .i1⟩) (.of main_call0_v10 : StableHlo.TRef sig ⟨S16x256x1, .i1⟩) andi,
  StableHlo.TRef.nullary (.of main_call0_c_3 : StableHlo.TRef sig ⟨S_, .i1⟩) (constantI S_ 1 1#1),
  StableHlo.TRef.binary (.of main_call0_v10 : StableHlo.TRef sig ⟨S16x256x1, .i1⟩) (.of main_call0_c_3 : StableHlo.TRef sig ⟨S_, .i1⟩) (.of main_call0_v11 : StableHlo.TRef sig ⟨S16x256, .i1⟩) (fun x v => Host.reduce IntOp.andi x v reducesTo_S16x256x1_S16x256_d2 h_S_),
  StableHlo.TRef.binary (.of main_v0 : StableHlo.TRef sig ⟨S16x2048x3, .f32⟩) (.of main_call0_v4 : StableHlo.TRef sig ⟨S16x256x1, .i32⟩) (.of main_call0_v12 : StableHlo.TRef sig ⟨S16x256x3, .f32⟩) (fun x i => Host.gather gather_S16x2048x3_S16x256x1_S16x256x3_2_1_0_0_1_2_113 x i),
  StableHlo.TRef.unary (.of main_call0_v11 : StableHlo.TRef sig ⟨S16x256, .i1⟩) (.of main_call0_v13 : StableHlo.TRef sig ⟨S16x256x3, .i1⟩) (broadcastInDim S16x256x3 ![0, 1] bcast_S16x256_S16x256x3_0_1),
  StableHlo.TRef.nullary (.of main_call0_cst : StableHlo.TRef sig ⟨S_, .f32⟩) (constant S_ .f32 0x7FC00000#32),
  StableHlo.TRef.unary (.of main_call0_cst : StableHlo.TRef sig ⟨S_, .f32⟩) (.of main_call0_v14 : StableHlo.TRef sig ⟨S16x256x3, .f32⟩) (broadcastInDim S16x256x3 ![] bcast_S_S16x256x3),
  StableHlo.TRef.ternary (.of main_call0_v13 : StableHlo.TRef sig ⟨S16x256x3, .i1⟩) (.of main_call0_v12 : StableHlo.TRef sig ⟨S16x256x3, .f32⟩) (.of main_call0_v14 : StableHlo.TRef sig ⟨S16x256x3, .f32⟩) (.of main_v2 : StableHlo.TRef sig ⟨S16x256x3, .f32⟩) select ]
theorem refC1_sub : (refC1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC1_W : List (Ref sig .tc) := [main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_cst, main_call0_v14, main_v2]
theorem refC1_writes : (refC1 : List (HloOp τ sig (Elt F))).map HloOp.writes = refC1_W.map fun w => {Proc.devRef (τ := τ) .tc w} := rfl
theorem refC1_fresh : ∀ op ∈ (refC1 : List (HloOp τ sig (Elt F))), op.fresh = ∅ := by
  intro _ h; (repeat (cases h with | head => rfl | tail _ h => ?_)); exact nomatch h

/-- Operations of the reference, stretch 2: up to `main_v18`. -/
abbrev refC2 : List (HloOp τ sig (Elt F)) := [
  StableHlo.binary main_v2 main_v2 main_v3 (mulf : (⟨S16x256x3, .f32⟩ : BufTy).Contents (Elt F) → (⟨S16x256x3, .f32⟩ : BufTy).Contents (Elt F) → (⟨S16x256x3, .f32⟩ : BufTy).Contents (Elt F)),
  StableHlo.nullary main_cst (constant S_ .f32 0x00000000#32),
  StableHlo.binary main_v3 main_cst main_v4 ((fun x v => Host.reduceAdd x v reducesTo_S16x256x3_S16x256_d2 h_S_) : (⟨S16x256x3, .f32⟩ : BufTy).Contents (Elt F) → (⟨S_, .f32⟩ : BufTy).Contents (Elt F) → (⟨S16x256, .f32⟩ : BufTy).Contents (Elt F)),
  StableHlo.unary main_v4 main_v5 (broadcastInDim S16x256x1 ![0, 1] bcast_S16x256_S16x256x1_0_1 : (⟨S16x256, .f32⟩ : BufTy).Contents (Elt F) → (⟨S16x256x1, .f32⟩ : BufTy).Contents (Elt F)),
  StableHlo.binary main_v0 main_v0 main_v6 (mulf : (⟨S16x2048x3, .f32⟩ : BufTy).Contents (Elt F) → (⟨S16x2048x3, .f32⟩ : BufTy).Contents (Elt F) → (⟨S16x2048x3, .f32⟩ : BufTy).Contents (Elt F)),
  StableHlo.nullary main_cst_0 (constant S_ .f32 0x00000000#32),
  StableHlo.binary main_v6 main_cst_0 main_v7 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
  StableHlo.unary main_v7 main_v8 (broadcastInDim S16x1x2048 ![0, 2] bcast_S16x2048_S16x1x2048_0_2 : (⟨S16x2048, .f32⟩ : BufTy).Contents (Elt F) → (⟨S16x1x2048, .f32⟩ : BufTy).Contents (Elt F)),
  StableHlo.unary main_v5 main_v9 (broadcastInDim S16x256x2048 ![0, 1, 2] bcast_S16x256x1_S16x256x2048_0_1_2 : (⟨S16x256x1, .f32⟩ : BufTy).Contents (Elt F) → (⟨S16x256x2048, .f32⟩ : BufTy).Contents (Elt F)),
  StableHlo.unary main_v8 main_v10 (broadcastInDim S16x256x2048 ![0, 1, 2] bcast_S16x1x2048_S16x256x2048_0_1_2 : (⟨S16x1x2048, .f32⟩ : BufTy).Contents (Elt F) → (⟨S16x256x2048, .f32⟩ : BufTy).Contents (Elt F)),
  StableHlo.binary main_v9 main_v10 main_v11 (addf : (⟨S16x256x2048, .f32⟩ : BufTy).Contents (Elt F) → (⟨S16x256x2048, .f32⟩ : BufTy).Contents (Elt F) → (⟨S16x256x2048, .f32⟩ : BufTy).Contents (Elt F)),
  StableHlo.binary main_v2 main_v0 main_v12 ((fun l r => Host.dotGeneral dot_S16x256x3_S16x2048x3_S16x256x2048_2_2_1_1_0_0 none l r) : (⟨S16x256x3, .f32⟩ : BufTy).Contents (Elt F) → (⟨S16x2048x3, .f32⟩ : BufTy).Contents (Elt F) → (⟨S16x256x2048, .f32⟩ : BufTy).Contents (Elt F)),
  StableHlo.nullary main_cst_1 (constant S_ .f32 0x40000000#32),
  StableHlo.unary main_cst_1 main_v13 (broadcastInDim S16x256x2048 ![] bcast_S_S16x256x2048 : (⟨S_, .f32⟩ : BufTy).Contents (Elt F) → (⟨S16x256x2048, .f32⟩ : BufTy).Contents (Elt F)),
  StableHlo.binary main_v13 main_v12 main_v14 (mulf : (⟨S16x256x2048, .f32⟩ : BufTy).Contents (Elt F) → (⟨S16x256x2048, .f32⟩ : BufTy).Contents (Elt F) → (⟨S16x256x2048, .f32⟩ : BufTy).Contents (Elt F)),
  StableHlo.binary main_v11 main_v14 main_v15 (subf : (⟨S16x256x2048, .f32⟩ : BufTy).Contents (Elt F) → (⟨S16x256x2048, .f32⟩ : BufTy).Contents (Elt F) → (⟨S16x256x2048, .f32⟩ : BufTy).Contents (Elt F)),
  StableHlo.unary main_v15 main_v16 (Host.negf : (⟨S16x256x2048, .f32⟩ : BufTy).Contents (Elt F) → (⟨S16x256x2048, .f32⟩ : BufTy).Contents (Elt F)),
  StableHlo.unary main_v16 main_values ((fun x => (Host.topK S16x256x32 2 (FloatOps.cmpfTotal .gt) x sliceFits_S16x256x2048_S16x256x32).1) : (⟨S16x256x2048, .f32⟩ : BufTy).Contents (Elt F) → (⟨S16x256x32, .f32⟩ : BufTy).Contents (Elt F)),
  StableHlo.unary main_v16 main_indices ((fun x => (Host.topK S16x256x32 2 (FloatOps.cmpfTotal .gt) x sliceFits_S16x256x2048_S16x256x32).2) : (⟨S16x256x2048, .f32⟩ : BufTy).Contents (Elt F) → (⟨S16x256x32, .i32⟩ : BufTy).Contents (Elt F)),
  StableHlo.unary main_v0 main_v17 (broadcastInDim S16x1x2048x3 ![0, 2, 3] bcast_S16x2048x3_S16x1x2048x3_0_2_3 : (⟨S16x2048x3, .f32⟩ : BufTy).Contents (Elt F) → (⟨S16x1x2048x3, .f32⟩ : BufTy).Contents (Elt F)),
  StableHlo.reshape main_indices main_v18 (rfl : (.i32 : EltTy) = .i32) shapeCasts_S16x256x32_S16x1x8192x1 ]
theorem refC2_sub : (refC2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.reshape_bufs_sub ..⟩
abbrev refC2_W : List (Ref sig .tc) := [main_v3, main_cst, main_v4, main_v5, main_v6, main_cst_0, main_v7, main_v8, main_v9, main_v10, main_v11, main_v12, main_cst_1, main_v13, main_v14, main_v15, main_v16, main_values, main_indices, main_v17, main_v18]
theorem refC2_writes : (refC2 : List (HloOp τ sig (Elt F))).map HloOp.writes = refC2_W.map fun w => {Proc.devRef (τ := τ) .tc w} := rfl
theorem refC2_fresh : ∀ op ∈ (refC2 : List (HloOp τ sig (Elt F))), op.fresh = ∅ := by
  intro _ h; (repeat (cases h with | head => rfl | tail _ h => ?_)); exact nomatch h

/-- Operations of the reference, stretch 3: up to `main_v19`. -/
abbrev refC3 : List (HloOp τ sig (Elt F)) := [
  StableHlo.TRef.nullary (.of main_call1_c : StableHlo.TRef sig ⟨S_, .i32⟩) (constantI S_ 32 0#32),
  StableHlo.TRef.unary (.of main_call1_c : StableHlo.TRef sig ⟨S_, .i32⟩) (.of main_call1_v0 : StableHlo.TRef sig ⟨S16x1x8192x1, .i32⟩) (broadcastInDim S16x1x8192x1 ![] bcast_S_S16x1x8192x1),
  StableHlo.TRef.binary (.of main_v18 : StableHlo.TRef sig ⟨S16x1x8192x1, .i32⟩) (.of main_call1_v0 : StableHlo.TRef sig ⟨S16x1x8192x1, .i32⟩) (.of main_call1_v1 : StableHlo.TRef sig ⟨S16x1x8192x1, .i1⟩) (cmpi .slt),
  StableHlo.TRef.nullary (.of main_call1_c_0 : StableHlo.TRef sig ⟨S_, .i32⟩) (constantI S_ 32 2048#32),
  StableHlo.TRef.unary (.of main_call1_c_0 : StableHlo.TRef sig ⟨S_, .i32⟩) (.of main_call1_v2 : StableHlo.TRef sig ⟨S16x1x8192x1, .i32⟩) (broadcastInDim S16x1x8192x1 ![] bcast_S_S16x1x8192x1),
  StableHlo.TRef.binary (.of main_v18 : StableHlo.TRef sig ⟨S16x1x8192x1, .i32⟩) (.of main_call1_v2 : StableHlo.TRef sig ⟨S16x1x8192x1, .i32⟩) (.of main_call1_v3 : StableHlo.TRef sig ⟨S16x1x8192x1, .i32⟩) addi,
  StableHlo.TRef.ternary (.of main_call1_v1 : StableHlo.TRef sig ⟨S16x1x8192x1, .i1⟩) (.of main_call1_v3 : StableHlo.TRef sig ⟨S16x1x8192x1, .i32⟩) (.of main_v18 : StableHlo.TRef sig ⟨S16x1x8192x1, .i32⟩) (.of main_call1_v4 : StableHlo.TRef sig ⟨S16x1x8192x1, .i32⟩) select,
  StableHlo.TRef.reshape (.of main_call1_v4 : StableHlo.TRef sig ⟨S16x1x8192x1, .i32⟩) (.of main_call1_v5 : StableHlo.TRef sig ⟨S16x8192x1, .i32⟩) (rfl : (.i32 : EltTy) = .i32) shapeCasts_S16x1x8192x1_S16x8192x1,
  StableHlo.TRef.nullary (.of main_call1_c_1 : StableHlo.TRef sig ⟨S1, .i32⟩) (constantI S1 32 2047#32),
  StableHlo.TRef.nullary (.of main_call1_c_2 : StableHlo.TRef sig ⟨S_, .i32⟩) (constantI S_ 32 0#32),
  StableHlo.TRef.unary (.of main_call1_c_2 : StableHlo.TRef sig ⟨S_, .i32⟩) (.of main_call1_v6 : StableHlo.TRef sig ⟨S16x8192x1, .i32⟩) (broadcastInDim S16x8192x1 ![] bcast_S_S16x8192x1),
  StableHlo.TRef.binary (.of main_call1_v5 : StableHlo.TRef sig ⟨S16x8192x1, .i32⟩) (.of main_call1_v6 : StableHlo.TRef sig ⟨S16x8192x1, .i32⟩) (.of main_call1_v7 : StableHlo.TRef sig ⟨S16x8192x1, .i1⟩) (cmpi .sge),
  StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
  StableHlo.TRef.unary (.of main_call1_v8 : StableHlo.TRef sig ⟨S1x1x1, .i32⟩) (.of main_call1_v9 : StableHlo.TRef sig ⟨S16x8192x1, .i32⟩) (broadcastInDim S16x8192x1 ![0, 1, 2] bcast_S1x1x1_S16x8192x1_0_1_2),
  StableHlo.TRef.binary (.of main_call1_v5 : StableHlo.TRef sig ⟨S16x8192x1, .i32⟩) (.of main_call1_v9 : StableHlo.TRef sig ⟨S16x8192x1, .i32⟩) (.of main_call1_v10 : StableHlo.TRef sig ⟨S16x8192x1, .i1⟩) (cmpi .sle),
  StableHlo.TRef.binary (.of main_call1_v7 : StableHlo.TRef sig ⟨S16x8192x1, .i1⟩) (.of main_call1_v10 : StableHlo.TRef sig ⟨S16x8192x1, .i1⟩) (.of main_call1_v11 : StableHlo.TRef sig ⟨S16x8192x1, .i1⟩) andi,
  StableHlo.TRef.nullary (.of main_call1_c_3 : StableHlo.TRef sig ⟨S_, .i1⟩) (constantI S_ 1 1#1),
  StableHlo.TRef.binary (.of main_call1_v11 : StableHlo.TRef sig ⟨S16x8192x1, .i1⟩) (.of main_call1_c_3 : StableHlo.TRef sig ⟨S_, .i1⟩) (.of main_call1_v12 : StableHlo.TRef sig ⟨S16x8192, .i1⟩) (fun x v => Host.reduce IntOp.andi x v reducesTo_S16x8192x1_S16x8192_d2 h_S_),
  StableHlo.TRef.binary (.of main_v17 : StableHlo.TRef sig ⟨S16x1x2048x3, .f32⟩) (.of main_call1_v5 : StableHlo.TRef sig ⟨S16x8192x1, .i32⟩) (.of main_call1_v13 : StableHlo.TRef sig ⟨S16x1x8192x3, .f32⟩) (fun x i => Host.gather gather_S16x1x2048x3_S16x8192x1_S16x1x8192x3_13_2_0_0_2_2_1113 x i),
  StableHlo.TRef.unary (.of main_call1_v12 : StableHlo.TRef sig ⟨S16x8192, .i1⟩) (.of main_call1_v14 : StableHlo.TRef sig ⟨S16x1x8192x3, .i1⟩) (broadcastInDim S16x1x8192x3 ![0, 2] bcast_S16x8192_S16x1x8192x3_0_2),
  StableHlo.TRef.nullary (.of main_call1_cst : StableHlo.TRef sig ⟨S_, .f32⟩) (constant S_ .f32 0x7FC00000#32),
  StableHlo.TRef.unary (.of main_call1_cst : StableHlo.TRef sig ⟨S_, .f32⟩) (.of main_call1_v15 : StableHlo.TRef sig ⟨S16x1x8192x3, .f32⟩) (broadcastInDim S16x1x8192x3 ![] bcast_S_S16x1x8192x3),
  StableHlo.TRef.ternary (.of main_call1_v14 : StableHlo.TRef sig ⟨S16x1x8192x3, .i1⟩) (.of main_call1_v13 : StableHlo.TRef sig ⟨S16x1x8192x3, .f32⟩) (.of main_call1_v15 : StableHlo.TRef sig ⟨S16x1x8192x3, .f32⟩) (.of main_v19 : StableHlo.TRef sig ⟨S16x1x8192x3, .f32⟩) select ]
theorem refC3_sub : (refC3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v19]
theorem refC3_writes : (refC3 : List (HloOp τ sig (Elt F))).map HloOp.writes = refC3_W.map fun w => {Proc.devRef (τ := τ) .tc w} := rfl
theorem refC3_fresh : ∀ op ∈ (refC3 : List (HloOp τ sig (Elt F))), op.fresh = ∅ := by
  intro _ h; (repeat (cases h with | head => rfl | tail _ h => ?_)); exact nomatch h

/-- Operations of the reference, stretch 4: up to `main_v24`. -/
abbrev refC4 : List (HloOp τ sig (Elt F)) := [
  StableHlo.unary main_v2 main_v20 (broadcastInDim S16x1x256x3 ![0, 2, 3] bcast_S16x256x3_S16x1x256x3_0_2_3 : (⟨S16x256x3, .f32⟩ : BufTy).Contents (Elt F) → (⟨S16x1x256x3, .f32⟩ : BufTy).Contents (Elt F)),
  StableHlo.unary main_v20 main_v21 (broadcastInDim S16x1x256x1x3 ![0, 1, 2, 4] bcast_S16x1x256x3_S16x1x256x1x3_0_1_2_4 : (⟨S16x1x256x3, .f32⟩ : BufTy).Contents (Elt F) → (⟨S16x1x256x1x3, .f32⟩ : BufTy).Contents (Elt F)),
  StableHlo.reshape main_v19 main_v22 (rfl : (.f32 : EltTy) = .f32) shapeCasts_S16x1x8192x3_S16x1x256x32x3,
  StableHlo.unary main_v21 main_v23 (broadcastInDim S16x1x256x32x3 ![0, 1, 2, 3, 4] bcast_S16x1x256x1x3_S16x1x256x32x3_0_1_2_3_4 : (⟨S16x1x256x1x3, .f32⟩ : BufTy).Contents (Elt F) → (⟨S16x1x256x32x3, .f32⟩ : BufTy).Contents (Elt F)),
  StableHlo.binary main_v22 main_v23 main_v24 (subf : (⟨S16x1x256x32x3, .f32⟩ : BufTy).Contents (Elt F) → (⟨S16x1x256x32x3, .f32⟩ : BufTy).Contents (Elt F) → (⟨S16x1x256x32x3, .f32⟩ : BufTy).Contents (Elt F)) ]
theorem refC4_sub : (refC4 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub ..⟩
abbrev refC4_W : List (Ref sig .tc) := [main_v20, main_v21, main_v22, main_v23, main_v24]
theorem refC4_writes : (refC4 : List (HloOp τ sig (Elt F))).map HloOp.writes = refC4_W.map fun w => {Proc.devRef (τ := τ) .tc w} := rfl
theorem refC4_fresh : ∀ op ∈ (refC4 : List (HloOp τ sig (Elt F))), op.fresh = ∅ := by
  intro _ h; (repeat (cases h with | head => rfl | tail _ h => ?_)); exact nomatch h

/-- Operations of the reference, stretch 5: up to `main_v26`. -/
abbrev refC5 : List (HloOp τ sig (Elt F)) := [
  StableHlo.binary main_v24 main_arg3 main_v25 ((fun l r => Host.dotGeneral dot_S16x1x256x32x3_S64x1_S16x256x32x3x64_1_1_0234_0_n_n none l r) : (⟨S16x1x256x32x3, .f32⟩ : BufTy).Contents (Elt F) → (⟨S64x1, .f32⟩ : BufTy).Contents (Elt F) → (⟨S16x256x32x3x64, .f32⟩ : BufTy).Contents (Elt F)),
  StableHlo.unary main_v25 main_v26 ((transpose S16x64x256x32x3 [0, 4, 1, 2, 3] · transposes_S16x256x32x3x64_S16x64x256x32x3_0_4_1_2_3) : (⟨S16x256x32x3x64, .f32⟩ : BufTy).Contents (Elt F) → (⟨S16x64x256x32x3, .f32⟩ : BufTy).Contents (Elt F)) ]
theorem refC5_sub : (refC5 : List (HloOp τ sig (Elt F))).Forall fun op => op.bufs ⊆ StableHlo.tcRefs τ sig :=
  ⟨StableHlo.binary_bufs_sub .., StableHlo.unary_bufs_sub ..⟩
abbrev refC5_W : List (Ref sig .tc) := [main_v25, main_v26]
theorem refC5_writes : (refC5 : List (HloOp τ sig (Elt F))).map HloOp.writes = refC5_W.map fun w => {Proc.devRef (τ := τ) .tc w} := rfl
theorem refC5_fresh : ∀ op ∈ (refC5 : List (HloOp τ sig (Elt F))), op.fresh = ∅ := by
  intro _ h; (repeat (cases h with | head => rfl | tail _ h => ?_)); exact nomatch h

/-- Operations of the reference, stretch 6: up to `main_v27`. -/
abbrev refC6 : List (HloOp τ sig (Elt F)) := [
  StableHlo.TRef.binary (.of main_v26 : StableHlo.TRef sig ⟨S16x64x256x32x3, .f32⟩) (.of main_v26 : StableHlo.TRef sig ⟨S16x64x256x32x3, .f32⟩) (.of main_call2_v0 : StableHlo.TRef sig ⟨S16x64x256x32x3, .f32⟩) mulf,
  StableHlo.TRef.nullary (.of main_call2_cst : StableHlo.TRef sig ⟨S_, .f32⟩) (constant S_ .f32 0x00000000#32),
  StableHlo.TRef.binary (.of main_call2_v0 : StableHlo.TRef sig ⟨S16x64x256x32x3, .f32⟩) (.of main_call2_cst : StableHlo.TRef sig ⟨S_, .f32⟩) (.of main_call2_v1 : StableHlo.TRef sig ⟨S16x64x256x32, .f32⟩) (fun x v => Host.reduceAdd x v reducesTo_S16x64x256x32x3_S16x64x256x32_d4 h_S_),
  StableHlo.TRef.unary (.of main_call2_v1 : StableHlo.TRef sig ⟨S16x64x256x32, .f32⟩) (.of main_call2_v2 : StableHlo.TRef sig ⟨S16x64x256x32x1, .f32⟩) (broadcastInDim S16x64x256x32x1 ![0, 1, 2, 3] bcast_S16x64x256x32_S16x64x256x32x1_0_1_2_3),
  StableHlo.TRef.unary (.of main_call2_v2 : StableHlo.TRef sig ⟨S16x64x256x32x1, .f32⟩) (.of main_v27 : StableHlo.TRef sig ⟨S16x64x256x32x1, .f32⟩) Host.sqrt ]
theorem refC6_sub : (refC6 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev refC6_W : List (Ref sig .tc) := [main_call2_v0, main_call2_cst, main_call2_v1, main_call2_v2, main_v27]
theorem refC6_writes : (refC6 : List (HloOp τ sig (Elt F))).map HloOp.writes = refC6_W.map fun w => {Proc.devRef (τ := τ) .tc w} := rfl
theorem refC6_fresh : ∀ op ∈ (refC6 : List (HloOp τ sig (Elt F))), op.fresh = ∅ := by
  intro _ h; (repeat (cases h with | head => rfl | tail _ h => ?_)); exact nomatch h

/-- Operations of the reference, stretch 7: up to `main_v29`. -/
abbrev refC7 : List (HloOp τ sig (Elt F)) := [
  StableHlo.nullary main_cst_2 (constant S_ .f32 0x358637BD#32),
  StableHlo.unary main_cst_2 main_v28 (broadcastInDim S16x64x256x32x1 ![] bcast_S_S16x64x256x32x1 : (⟨S_, .f32⟩ : BufTy).Contents (Elt F) → (⟨S16x64x256x32x1, .f32⟩ : BufTy).Contents (Elt F)),
  StableHlo.binary main_v27 main_v28 main_v29 (addf : (⟨S16x64x256x32x1, .f32⟩ : BufTy).Contents (Elt F) → (⟨S16x64x256x32x1, .f32⟩ : BufTy).Contents (Elt F) → (⟨S16x64x256x32x1, .f32⟩ : BufTy).Contents (Elt F)) ]
theorem refC7_sub : (refC7 : List (HloOp τ sig (Elt F))).Forall fun op => op.bufs ⊆ StableHlo.tcRefs τ sig :=
  ⟨StableHlo.nullary_bufs_sub .., StableHlo.unary_bufs_sub .., StableHlo.binary_bufs_sub ..⟩
abbrev refC7_W : List (Ref sig .tc) := [main_cst_2, main_v28, main_v29]
theorem refC7_writes : (refC7 : List (HloOp τ sig (Elt F))).map HloOp.writes = refC7_W.map fun w => {Proc.devRef (τ := τ) .tc w} := rfl
theorem refC7_fresh : ∀ op ∈ (refC7 : List (HloOp τ sig (Elt F))), op.fresh = ∅ := by
  intro _ h; (repeat (cases h with | head => rfl | tail _ h => ?_)); exact nomatch h

/-- Operations of the reference, stretch 8: up to `main_v33`. -/
abbrev refC8 : List (HloOp τ sig (Elt F)) := [
  StableHlo.nullary main_cst_3 (constant S_ .f32 0x00000000#32),
  StableHlo.binary main_v29 main_cst_3 main_v30 ((fun x v => Host.reduceAdd x v reducesTo_S16x64x256x32x1_S64_d0_2_3_4 h_S_) : (⟨S16x64x256x32x1, .f32⟩ : BufTy).Contents (Elt F) → (⟨S_, .f32⟩ : BufTy).Contents (Elt F) → (⟨S64, .f32⟩ : BufTy).Contents (Elt F)),
  StableHlo.unary main_v30 main_v31 (broadcastInDim S1x64x1x1x1 ![1] bcast_S64_S1x64x1x1x1_1 : (⟨S64, .f32⟩ : BufTy).Contents (Elt F) → (⟨S1x64x1x1x1, .f32⟩ : BufTy).Contents (Elt F)),
  StableHlo.nullary main_cst_4 (constant S_ .f32 0x48000000#32),
  StableHlo.unary main_cst_4 main_v32 (broadcastInDim S1x64x1x1x1 ![] bcast_S_S1x64x1x1x1 : (⟨S_, .f32⟩ : BufTy).Contents (Elt F) → (⟨S1x64x1x1x1, .f32⟩ : BufTy).Contents (Elt F)),
  StableHlo.binary main_v31 main_v32 main_v33 (Host.divf : (⟨S1x64x1x1x1, .f32⟩ : BufTy).Contents (Elt F) → (⟨S1x64x1x1x1, .f32⟩ : BufTy).Contents (Elt F) → (⟨S1x64x1x1x1, .f32⟩ : BufTy).Contents (Elt F)) ]
theorem refC8_sub : (refC8 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub ..⟩
abbrev refC8_W : List (Ref sig .tc) := [main_cst_3, main_v30, main_v31, main_cst_4, main_v32, main_v33]
theorem refC8_writes : (refC8 : List (HloOp τ sig (Elt F))).map HloOp.writes = refC8_W.map fun w => {Proc.devRef (τ := τ) .tc w} := rfl
theorem refC8_fresh : ∀ op ∈ (refC8 : List (HloOp τ sig (Elt F))), op.fresh = ∅ := by
  intro _ h; (repeat (cases h with | head => rfl | tail _ h => ?_)); exact nomatch h

/-- Operations of the reference, stretch 9: up to `main_c`. -/
abbrev refC9 : List (HloOp τ sig (Elt F)) := [
  StableHlo.nullary main_c (constantI S_ 32 0#32) ]
theorem refC9_sub : (refC9 : List (HloOp τ sig (Elt F))).Forall fun op => op.bufs ⊆ StableHlo.tcRefs τ sig :=
  StableHlo.nullary_bufs_sub ..
abbrev refC9_W : List (Ref sig .tc) := [main_c]
theorem refC9_writes : (refC9 : List (HloOp τ sig (Elt F))).map HloOp.writes = refC9_W.map fun w => {Proc.devRef (τ := τ) .tc w} := rfl
theorem refC9_fresh : ∀ op ∈ (refC9 : List (HloOp τ sig (Elt F))), op.fresh = ∅ := by
  intro _ h; (repeat (cases h with | head => rfl | tail _ h => ?_)); exact nomatch h

/-- Operations of the reference, stretch 10: up to `main_v34`. -/
abbrev refC10 : List (HloOp τ sig (Elt F)) := [
  StableHlo.TRef.nullary (.of main_call3_cst : StableHlo.TRef sig ⟨S_, .f32⟩) (constant S_ .f32 0x00000000#32),
  StableHlo.TRef.binary (.of main_v29 : StableHlo.TRef sig ⟨S16x64x256x32x1, .f32⟩) (.of main_call3_cst : StableHlo.TRef sig ⟨S_, .f32⟩) (.of main_call3_v0 : StableHlo.TRef sig ⟨S64, .f32⟩) (fun x v => Host.reduceAdd x v reducesTo_S16x64x256x32x1_S64_d0_2_3_4 h_S_),
  StableHlo.TRef.unary (.of main_call3_v0 : StableHlo.TRef sig ⟨S64, .f32⟩) (.of main_call3_v1 : StableHlo.TRef sig ⟨S1x64x1x1x1, .f32⟩) (broadcastInDim S1x64x1x1x1 ![1] bcast_S64_S1x64x1x1x1_1),
  StableHlo.TRef.nullary (.of main_call3_cst_0 : StableHlo.TRef sig ⟨S_, .f32⟩) (constant S_ .f32 0x48000000#32),
  StableHlo.TRef.unary (.of main_call3_cst_0 : StableHlo.TRef sig ⟨S_, .f32⟩) (.of main_call3_v2 : StableHlo.TRef sig ⟨S1x64x1x1x1, .f32⟩) (broadcastInDim S1x64x1x1x1 ![] bcast_S_S1x64x1x1x1),
  StableHlo.TRef.binary (.of main_call3_v1 : StableHlo.TRef sig ⟨S1x64x1x1x1, .f32⟩) (.of main_call3_v2 : StableHlo.TRef sig ⟨S1x64x1x1x1, .f32⟩) (.of main_call3_v3 : StableHlo.TRef sig ⟨S1x64x1x1x1, .f32⟩) Host.divf,
  StableHlo.TRef.unary (.of main_call3_v3 : StableHlo.TRef sig ⟨S1x64x1x1x1, .f32⟩) (.of main_call3_v4 : StableHlo.TRef sig ⟨S16x64x256x32x1, .f32⟩) (broadcastInDim S16x64x256x32x1 ![0, 1, 2, 3, 4] bcast_S1x64x1x1x1_S16x64x256x32x1_0_1_2_3_4),
  StableHlo.TRef.binary (.of main_v29 : StableHlo.TRef sig ⟨S16x64x256x32x1, .f32⟩) (.of main_call3_v4 : StableHlo.TRef sig ⟨S16x64x256x32x1, .f32⟩) (.of main_call3_v5 : StableHlo.TRef sig ⟨S16x64x256x32x1, .f32⟩) subf,
  StableHlo.TRef.binary (.of main_call3_v5 : StableHlo.TRef sig ⟨S16x64x256x32x1, .f32⟩) (.of main_call3_v5 : StableHlo.TRef sig ⟨S16x64x256x32x1, .f32⟩) (.of main_call3_v6 : StableHlo.TRef sig ⟨S16x64x256x32x1, .f32⟩) mulf,
  StableHlo.TRef.unary (.of main_c : StableHlo.TRef sig ⟨S_, .i32⟩) (.of main_call3_v7 : StableHlo.TRef sig ⟨S_, .f32⟩) (sitofp .f32),
  StableHlo.TRef.nullary (.of main_call3_cst_1 : StableHlo.TRef sig ⟨S_, .f32⟩) (constant S_ .f32 0x48000000#32),
  StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
  StableHlo.TRef.nullary (.of main_call3_cst_2 : StableHlo.TRef sig ⟨S_, .f32⟩) (constant S_ .f32 0x00000000#32),
  StableHlo.TRef.binary (.of main_call3_v6 : StableHlo.TRef sig ⟨S16x64x256x32x1, .f32⟩) (.of main_call3_cst_2 : StableHlo.TRef sig ⟨S_, .f32⟩) (.of main_call3_v9 : StableHlo.TRef sig ⟨S64, .f32⟩) (fun x v => Host.reduceAdd x v reducesTo_S16x64x256x32x1_S64_d0_2_3_4 h_S_),
  StableHlo.TRef.unary (.of main_call3_v9 : StableHlo.TRef sig ⟨S64, .f32⟩) (.of main_call3_v10 : StableHlo.TRef sig ⟨S1x64x1x1x1, .f32⟩) (broadcastInDim S1x64x1x1x1 ![1] bcast_S64_S1x64x1x1x1_1),
  StableHlo.TRef.unary (.of main_call3_v8 : StableHlo.TRef sig ⟨S_, .f32⟩) (.of main_call3_v11 : StableHlo.TRef sig ⟨S1x64x1x1x1, .f32⟩) (broadcastInDim S1x64x1x1x1 ![] bcast_S_S1x64x1x1x1),
  StableHlo.TRef.binary (.of main_call3_v10 : StableHlo.TRef sig ⟨S1x64x1x1x1, .f32⟩) (.of main_call3_v11 : StableHlo.TRef sig ⟨S1x64x1x1x1, .f32⟩) (.of main_call3_v12 : StableHlo.TRef sig ⟨S1x64x1x1x1, .f32⟩) Host.divf,
  StableHlo.TRef.nullary (.of main_call3_cst_3 : StableHlo.TRef sig ⟨S_, .f32⟩) (constant S_ .f32 0x00000000#32),
  StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
  StableHlo.TRef.nullary (.of main_call3_cst_4 : StableHlo.TRef sig ⟨S_, .f32⟩) (constant S_ .f32 0x7FC00000#32),
  StableHlo.TRef.unary (.of main_call3_cst_4 : StableHlo.TRef sig ⟨S_, .f32⟩) (.of main_call3_call0_v0 : StableHlo.TRef sig ⟨S_, .f32⟩) id,
  StableHlo.TRef.unary (.of main_call3_call0_v0 : StableHlo.TRef sig ⟨S_, .f32⟩) (.of main_call3_call0_v1 : StableHlo.TRef sig ⟨S1x64x1x1x1, .f32⟩) (broadcastInDim S1x64x1x1x1 ![] bcast_S_S1x64x1x1x1),
  StableHlo.TRef.ternary (.of main_call3_v13 : StableHlo.TRef sig ⟨S_, .i1⟩) (.of main_call3_v12 : StableHlo.TRef sig ⟨S1x64x1x1x1, .f32⟩) (.of main_call3_call0_v1 : StableHlo.TRef sig ⟨S1x64x1x1x1, .f32⟩) (.of main_v34 : StableHlo.TRef sig ⟨S1x64x1x1x1, .f32⟩) (fun p a b => select (broadcastInDim S1x64x1x1x1 ![] bcast_S_S1x64x1x1x1 p) a b) ]
theorem refC10_sub : (refC10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
abbrev refC10_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v34]
theorem refC10_writes : (refC10 : List (HloOp τ sig (Elt F))).map HloOp.writes = refC10_W.map fun w => {Proc.devRef (τ := τ) .tc w} := rfl
theorem refC10_fresh : ∀ op ∈ (refC10 : List (HloOp τ sig (Elt F))), op.fresh = ∅ := by
  intro _ h; (repeat (cases h with | head => rfl | tail _ h => ?_)); exact nomatch h

/-- Operations of the reference, stretch 11: up to `main_v49`. -/
abbrev refC11 : List (HloOp τ sig (Elt F)) := [
  StableHlo.reshape main_arg5 main_v35 (rfl : (.f32 : EltTy) = .f32) shapeCasts_S64_S1x64x1x1x1,
  StableHlo.unary main_v33 main_v36 (broadcastInDim S16x64x256x32x1 ![0, 1, 2, 3, 4] bcast_S1x64x1x1x1_S16x64x256x32x1_0_1_2_3_4 : (⟨S1x64x1x1x1, .f32⟩ : BufTy).Contents (Elt F) → (⟨S16x64x256x32x1, .f32⟩ : BufTy).Contents (Elt F)),
  StableHlo.binary main_v29 main_v36 main_v37 (subf : (⟨S16x64x256x32x1, .f32⟩ : BufTy).Contents (Elt F) → (⟨S16x64x256x32x1, .f32⟩ : BufTy).Contents (Elt F) → (⟨S16x64x256x32x1, .f32⟩ : BufTy).Contents (Elt F)),
  StableHlo.unary main_v35 main_v38 (broadcastInDim S16x64x256x32x1 ![0, 1, 2, 3, 4] bcast_S1x64x1x1x1_S16x64x256x32x1_0_1_2_3_4 : (⟨S1x64x1x1x1, .f32⟩ : BufTy).Contents (Elt F) → (⟨S16x64x256x32x1, .f32⟩ : BufTy).Contents (Elt F)),
  StableHlo.binary main_v38 main_v37 main_v39 (mulf : (⟨S16x64x256x32x1, .f32⟩ : BufTy).Contents (Elt F) → (⟨S16x64x256x32x1, .f32⟩ : BufTy).Contents (Elt F) → (⟨S16x64x256x32x1, .f32⟩ : BufTy).Contents (Elt F)),
  StableHlo.nullary main_cst_5 (constant S_ .f32 0x3727C5AC#32),
  StableHlo.unary main_cst_5 main_v40 (broadcastInDim S1x64x1x1x1 ![] bcast_S_S1x64x1x1x1 : (⟨S_, .f32⟩ : BufTy).Contents (Elt F) → (⟨S1x64x1x1x1, .f32⟩ : BufTy).Contents (Elt F)),
  StableHlo.binary main_v34 main_v40 main_v41 (addf : (⟨S1x64x1x1x1, .f32⟩ : BufTy).Contents (Elt F) → (⟨S1x64x1x1x1, .f32⟩ : BufTy).Contents (Elt F) → (⟨S1x64x1x1x1, .f32⟩ : BufTy).Contents (Elt F)),
  StableHlo.unary main_v41 main_v42 (Host.sqrt : (⟨S1x64x1x1x1, .f32⟩ : BufTy).Contents (Elt F) → (⟨S1x64x1x1x1, .f32⟩ : BufTy).Contents (Elt F)),
  StableHlo.unary main_v42 main_v43 (broadcastInDim S16x64x256x32x1 ![0, 1, 2, 3, 4] bcast_S1x64x1x1x1_S16x64x256x32x1_0_1_2_3_4 : (⟨S1x64x1x1x1, .f32⟩ : BufTy).Contents (Elt F) → (⟨S16x64x256x32x1, .f32⟩ : BufTy).Contents (Elt F)),
  StableHlo.binary main_v39 main_v43 main_v44 (Host.divf : (⟨S16x64x256x32x1, .f32⟩ : BufTy).Contents (Elt F) → (⟨S16x64x256x32x1, .f32⟩ : BufTy).Contents (Elt F) → (⟨S16x64x256x32x1, .f32⟩ : BufTy).Contents (Elt F)),
  StableHlo.reshape main_arg6 main_v45 (rfl : (.f32 : EltTy) = .f32) shapeCasts_S64_S1x64x1x1x1,
  StableHlo.unary main_v45 main_v46 (broadcastInDim S16x64x256x32x1 ![0, 1, 2, 3, 4] bcast_S1x64x1x1x1_S16x64x256x32x1_0_1_2_3_4 : (⟨S1x64x1x1x1, .f32⟩ : BufTy).Contents (Elt F) → (⟨S16x64x256x32x1, .f32⟩ : BufTy).Contents (Elt F)),
  StableHlo.binary main_v44 main_v46 main_v47 (addf : (⟨S16x64x256x32x1, .f32⟩ : BufTy).Contents (Elt F) → (⟨S16x64x256x32x1, .f32⟩ : BufTy).Contents (Elt F) → (⟨S16x64x256x32x1, .f32⟩ : BufTy).Contents (Elt F)),
  StableHlo.unary main_v29 main_v48 (broadcastInDim S16x64x256x32x3 ![0, 1, 2, 3, 4] bcast_S16x64x256x32x1_S16x64x256x32x3_0_1_2_3_4 : (⟨S16x64x256x32x1, .f32⟩ : BufTy).Contents (Elt F) → (⟨S16x64x256x32x3, .f32⟩ : BufTy).Contents (Elt F)),
  StableHlo.binary main_v26 main_v48 main_v49 (Host.divf : (⟨S16x64x256x32x3, .f32⟩ : BufTy).Contents (Elt F) → (⟨S16x64x256x32x3, .f32⟩ : BufTy).Contents (Elt F) → (⟨S16x64x256x32x3, .f32⟩ : BufTy).Contents (Elt F)) ]
theorem refC11_sub : (refC11 : List (HloOp τ sig (Elt F))).Forall fun op => op.bufs ⊆ StableHlo.tcRefs τ sig :=
  ⟨StableHlo.reshape_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.unary_bufs_sub .., StableHlo.binary_bufs_sub ..⟩
abbrev refC11_W : List (Ref sig .tc) := [main_v35, main_v36, main_v37, main_v38, main_v39, main_cst_5, main_v40, main_v41, main_v42, main_v43, main_v44, main_v45, main_v46, main_v47, main_v48, main_v49]
theorem refC11_writes : (refC11 : List (HloOp τ sig (Elt F))).map HloOp.writes = refC11_W.map fun w => {Proc.devRef (τ := τ) .tc w} := rfl
theorem refC11_fresh : ∀ op ∈ (refC11 : List (HloOp τ sig (Elt F))), op.fresh = ∅ := by
  intro _ h; (repeat (cases h with | head => rfl | tail _ h => ?_)); exact nomatch h

/-- Operations of the reference, stretch 12: up to `main_v51`. -/
abbrev refC12 : List (HloOp τ sig (Elt F)) := [
  StableHlo.unary main_v47 main_v50 (broadcastInDim S16x64x256x32x3 ![0, 1, 2, 3, 4] bcast_S16x64x256x32x1_S16x64x256x32x3_0_1_2_3_4 : (⟨S16x64x256x32x1, .f32⟩ : BufTy).Contents (Elt F) → (⟨S16x64x256x32x3, .f32⟩ : BufTy).Contents (Elt F)),
  StableHlo.binary main_v49 main_v50 main_v51 (mulf : (⟨S16x64x256x32x3, .f32⟩ : BufTy).Contents (Elt F) → (⟨S16x64x256x32x3, .f32⟩ : BufTy).Contents (Elt F) → (⟨S16x64x256x32x3, .f32⟩ : BufTy).Contents (Elt F)) ]
theorem refC12_sub : (refC12 : List (HloOp τ sig (Elt F))).Forall fun op => op.bufs ⊆ StableHlo.tcRefs τ sig :=
  ⟨StableHlo.unary_bufs_sub .., StableHlo.binary_bufs_sub ..⟩
abbrev refC12_W : List (Ref sig .tc) := [main_v50, main_v51]
theorem refC12_writes : (refC12 : List (HloOp τ sig (Elt F))).map HloOp.writes = refC12_W.map fun w => {Proc.devRef (τ := τ) .tc w} := rfl
theorem refC12_fresh : ∀ op ∈ (refC12 : List (HloOp τ sig (Elt F))), op.fresh = ∅ := by
  intro _ h; (repeat (cases h with | head => rfl | tail _ h => ?_)); exact nomatch h

/-- Operations of the reference, stretch 13: up to `main_v80`. -/
abbrev refC13 : List (HloOp τ sig (Elt F)) := [
  StableHlo.binary main_v51 main_arg4 main_v52 ((fun l r => Host.dotGeneral dot_S16x64x256x32x3_S64x64_S16x256x32x3x64_1_1_0234_0_n_n none l r) : (⟨S16x64x256x32x3, .f32⟩ : BufTy).Contents (Elt F) → (⟨S64x64, .f32⟩ : BufTy).Contents (Elt F) → (⟨S16x256x32x3x64, .f32⟩ : BufTy).Contents (Elt F)),
  StableHlo.unary main_v52 main_v53 ((transpose S16x64x256x32x3 [0, 4, 1, 2, 3] · transposes_S16x256x32x3x64_S16x64x256x32x3_0_4_1_2_3) : (⟨S16x256x32x3x64, .f32⟩ : BufTy).Contents (Elt F) → (⟨S16x64x256x32x3, .f32⟩ : BufTy).Contents (Elt F)),
  StableHlo.binary main_v51 main_v53 main_v54 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.nullary main_cst_6 (constant S_ .f32 0x00000000#32),
  StableHlo.binary main_v54 main_cst_6 main_v55 ((fun x v => Host.reduceAdd x v reducesTo_S16x64x256x32x3_S16x64x256x32_d4 h_S_) : (⟨S16x64x256x32x3, .f32⟩ : BufTy).Contents (Elt F) → (⟨S_, .f32⟩ : BufTy).Contents (Elt F) → (⟨S16x64x256x32, .f32⟩ : BufTy).Contents (Elt F)),
  StableHlo.unary main_v55 main_v56 (broadcastInDim S16x64x256x32x1 ![0, 1, 2, 3] bcast_S16x64x256x32_S16x64x256x32x1_0_1_2_3 : (⟨S16x64x256x32, .f32⟩ : BufTy).Contents (Elt F) → (⟨S16x64x256x32x1, .f32⟩ : BufTy).Contents (Elt F)),
  StableHlo.binary main_v53 main_v53 main_v57 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.nullary main_cst_7 (constant S_ .f32 0x00000000#32),
  StableHlo.binary main_v57 main_cst_7 main_v58 ((fun x v => Host.reduceAdd x v reducesTo_S16x64x256x32x3_S16x64x256x32_d4 h_S_) : (⟨S16x64x256x32x3, .f32⟩ : BufTy).Contents (Elt F) → (⟨S_, .f32⟩ : BufTy).Contents (Elt F) → (⟨S16x64x256x32, .f32⟩ : BufTy).Contents (Elt F)),
  StableHlo.unary main_v58 main_v59 (broadcastInDim S16x64x256x32x1 ![0, 1, 2, 3] bcast_S16x64x256x32_S16x64x256x32x1_0_1_2_3 : (⟨S16x64x256x32, .f32⟩ : BufTy).Contents (Elt F) → (⟨S16x64x256x32x1, .f32⟩ : BufTy).Contents (Elt F)),
  StableHlo.nullary main_cst_8 (constant S_ .f32 0x00000000#32),
  StableHlo.unary main_cst_8 main_v60 (broadcastInDim S16x64x256x32x1 ![] bcast_S_S16x64x256x32x1 : (⟨S_, .f32⟩ : BufTy).Contents (Elt F) → (⟨S16x64x256x32x1, .f32⟩ : BufTy).Contents (Elt F)),
  StableHlo.binary main_v56 main_v60 main_v61 (cmpf .oge : (⟨S16x64x256x32x1, .f32⟩ : BufTy).Contents (Elt F) → (⟨S16x64x256x32x1, .f32⟩ : BufTy).Contents (Elt F) → (⟨S16x64x256x32x1, .i1⟩ : BufTy).Contents (Elt F)),
  StableHlo.unary main_v61 main_v62 (uitofp .f32 : (⟨S16x64x256x32x1, .i1⟩ : BufTy).Contents (Elt F) → (⟨S16x64x256x32x1, .f32⟩ : BufTy).Contents (Elt F)),
  StableHlo.nullary main_cst_9 (constant S_ .f32 0x358637BD#32),
  StableHlo.unary main_cst_9 main_v63 (broadcastInDim S16x64x256x32x1 ![] bcast_S_S16x64x256x32x1 : (⟨S_, .f32⟩ : BufTy).Contents (Elt F) → (⟨S16x64x256x32x1, .f32⟩ : BufTy).Contents (Elt F)),
  StableHlo.binary main_v59 main_v63 main_v64 (addf : (⟨S16x64x256x32x1, .f32⟩ : BufTy).Contents (Elt F) → (⟨S16x64x256x32x1, .f32⟩ : BufTy).Contents (Elt F) → (⟨S16x64x256x32x1, .f32⟩ : BufTy).Contents (Elt F)),
  StableHlo.binary main_v56 main_v64 main_v65 (Host.divf : (⟨S16x64x256x32x1, .f32⟩ : BufTy).Contents (Elt F) → (⟨S16x64x256x32x1, .f32⟩ : BufTy).Contents (Elt F) → (⟨S16x64x256x32x1, .f32⟩ : BufTy).Contents (Elt F)),
  StableHlo.unary main_v65 main_v66 (broadcastInDim S16x64x256x32x3 ![0, 1, 2, 3, 4] bcast_S16x64x256x32x1_S16x64x256x32x3_0_1_2_3_4 : (⟨S16x64x256x32x1, .f32⟩ : BufTy).Contents (Elt F) → (⟨S16x64x256x32x3, .f32⟩ : BufTy).Contents (Elt F)),
  StableHlo.binary main_v66 main_v53 main_v67 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.binary main_v51 main_v67 main_v68 (subf : (⟨S16x64x256x32x3, .f32⟩ : BufTy).Contents (Elt F) → (⟨S16x64x256x32x3, .f32⟩ : BufTy).Contents (Elt F) → (⟨S16x64x256x32x3, .f32⟩ : BufTy).Contents (Elt F)),
  StableHlo.nullary main_cst_10 (constant S_ .f32 0x3E4CCCCD#32),
  StableHlo.unary main_cst_10 main_v69 (broadcastInDim S16x64x256x32x3 ![] bcast_S_S16x64x256x32x3 : (⟨S_, .f32⟩ : BufTy).Contents (Elt F) → (⟨S16x64x256x32x3, .f32⟩ : BufTy).Contents (Elt F)),
  StableHlo.binary main_v69 main_v51 main_v70 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.unary main_v62 main_v71 (broadcastInDim S16x64x256x32x3 ![0, 1, 2, 3, 4] bcast_S16x64x256x32x1_S16x64x256x32x3_0_1_2_3_4 : (⟨S16x64x256x32x1, .f32⟩ : BufTy).Contents (Elt F) → (⟨S16x64x256x32x3, .f32⟩ : BufTy).Contents (Elt F)),
  StableHlo.binary main_v71 main_v51 main_v72 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.nullary main_cst_11 (constant S_ .f32 0x3F800000#32),
  StableHlo.unary main_cst_11 main_v73 (broadcastInDim S16x64x256x32x1 ![] bcast_S_S16x64x256x32x1 : (⟨S_, .f32⟩ : BufTy).Contents (Elt F) → (⟨S16x64x256x32x1, .f32⟩ : BufTy).Contents (Elt F)),
  StableHlo.binary main_v73 main_v62 main_v74 (subf : (⟨S16x64x256x32x1, .f32⟩ : BufTy).Contents (Elt F) → (⟨S16x64x256x32x1, .f32⟩ : BufTy).Contents (Elt F) → (⟨S16x64x256x32x1, .f32⟩ : BufTy).Contents (Elt F)),
  StableHlo.unary main_v74 main_v75 (broadcastInDim S16x64x256x32x3 ![0, 1, 2, 3, 4] bcast_S16x64x256x32x1_S16x64x256x32x3_0_1_2_3_4 : (⟨S16x64x256x32x1, .f32⟩ : BufTy).Contents (Elt F) → (⟨S16x64x256x32x3, .f32⟩ : BufTy).Contents (Elt F)),
  StableHlo.binary main_v75 main_v68 main_v76 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.binary main_v72 main_v76 main_v77 (addf : (⟨S16x64x256x32x3, .f32⟩ : BufTy).Contents (Elt F) → (⟨S16x64x256x32x3, .f32⟩ : BufTy).Contents (Elt F) → (⟨S16x64x256x32x3, .f32⟩ : BufTy).Contents (Elt F)),
  StableHlo.nullary main_cst_12 (constant S_ .f32 0x3F4CCCCD#32),
  StableHlo.unary main_cst_12 main_v78 (broadcastInDim S16x64x256x32x3 ![] bcast_S_S16x64x256x32x3 : (⟨S_, .f32⟩ : BufTy).Contents (Elt F) → (⟨S16x64x256x32x3, .f32⟩ : BufTy).Contents (Elt F)),
  StableHlo.binary main_v78 main_v77 main_v79 (mulf : (⟨S16x64x256x32x3, .f32⟩ : BufTy).Contents (Elt F) → (⟨S16x64x256x32x3, .f32⟩ : BufTy).Contents (Elt F) → (⟨S16x64x256x32x3, .f32⟩ : BufTy).Contents (Elt F)),
  StableHlo.binary main_v70 main_v79 main_v80 (addf : (⟨S16x64x256x32x3, .f32⟩ : BufTy).Contents (Elt F) → (⟨S16x64x256x32x3, .f32⟩ : BufTy).Contents (Elt F) → (⟨S16x64x256x32x3, .f32⟩ : BufTy).Contents (Elt F)) ]
theorem refC13_sub : (refC13 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
abbrev refC13_W : List (Ref sig .tc) := [main_v52, main_v53, main_v54, main_cst_6, main_v55, main_v56, main_v57, main_cst_7, main_v58, main_v59, main_cst_8, main_v60, main_v61, main_v62, main_cst_9, main_v63, main_v64, main_v65, main_v66, main_v67, main_v68, main_cst_10, main_v69, main_v70, main_v71, main_v72, main_cst_11, main_v73, main_v74, main_v75, main_v76, main_v77, main_cst_12, main_v78, main_v79, main_v80]
theorem refC13_writes : (refC13 : List (HloOp τ sig (Elt F))).map HloOp.writes = refC13_W.map fun w => {Proc.devRef (τ := τ) .tc w} := rfl
theorem refC13_fresh : ∀ op ∈ (refC13 : List (HloOp τ sig (Elt F))), op.fresh = ∅ := by
  intro _ h; (repeat (cases h with | head => rfl | tail _ h => ?_)); exact nomatch h

/-- Operations of the reference, stretch 14: up to `main_v82`. -/
abbrev refC14 : List (HloOp τ sig (Elt F)) := [
  StableHlo.binary main_v80 main_arg7 main_v81 ((fun l r => Host.dotGeneral dot_S16x64x256x32x3_S128x64_S16x256x32x3x128_1_1_0234_0_n_n none l r) : (⟨S16x64x256x32x3, .f32⟩ : BufTy).Contents (Elt F) → (⟨S128x64, .f32⟩ : BufTy).Contents (Elt F) → (⟨S16x256x32x3x128, .f32⟩ : BufTy).Contents (Elt F)),
  StableHlo.unary main_v81 main_v82 ((transpose S16x128x256x32x3 [0, 4, 1, 2, 3] · transposes_S16x256x32x3x128_S16x128x256x32x3_0_4_1_2_3) : (⟨S16x256x32x3x128, .f32⟩ : BufTy).Contents (Elt F) → (⟨S16x128x256x32x3, .f32⟩ : BufTy).Contents (Elt F)) ]
theorem refC14_sub : (refC14 : List (HloOp τ sig (Elt F))).Forall fun op => op.bufs ⊆ StableHlo.tcRefs τ sig :=
  ⟨StableHlo.binary_bufs_sub .., StableHlo.unary_bufs_sub ..⟩
abbrev refC14_W : List (Ref sig .tc) := [main_v81, main_v82]
theorem refC14_writes : (refC14 : List (HloOp τ sig (Elt F))).map HloOp.writes = refC14_W.map fun w => {Proc.devRef (τ := τ) .tc w} := rfl
theorem refC14_fresh : ∀ op ∈ (refC14 : List (HloOp τ sig (Elt F))), op.fresh = ∅ := by
  intro _ h; (repeat (cases h with | head => rfl | tail _ h => ?_)); exact nomatch h

/-- Operations of the reference, stretch 15: up to `main_v83`. -/
abbrev refC15 : List (HloOp τ sig (Elt F)) := [
  StableHlo.TRef.binary (.of main_v82 : StableHlo.TRef sig ⟨S16x128x256x32x3, .f32⟩) (.of main_v82 : StableHlo.TRef sig ⟨S16x128x256x32x3, .f32⟩) (.of main_call4_v0 : StableHlo.TRef sig ⟨S16x128x256x32x3, .f32⟩) mulf,
  StableHlo.TRef.nullary (.of main_call4_cst : StableHlo.TRef sig ⟨S_, .f32⟩) (constant S_ .f32 0x00000000#32),
  StableHlo.TRef.binary (.of main_call4_v0 : StableHlo.TRef sig ⟨S16x128x256x32x3, .f32⟩) (.of main_call4_cst : StableHlo.TRef sig ⟨S_, .f32⟩) (.of main_call4_v1 : StableHlo.TRef sig ⟨S16x128x256x32, .f32⟩) (fun x v => Host.reduceAdd x v reducesTo_S16x128x256x32x3_S16x128x256x32_d4 h_S_),
  StableHlo.TRef.unary (.of main_call4_v1 : StableHlo.TRef sig ⟨S16x128x256x32, .f32⟩) (.of main_call4_v2 : StableHlo.TRef sig ⟨S16x128x256x32x1, .f32⟩) (broadcastInDim S16x128x256x32x1 ![0, 1, 2, 3] bcast_S16x128x256x32_S16x128x256x32x1_0_1_2_3),
  StableHlo.TRef.unary (.of main_call4_v2 : StableHlo.TRef sig ⟨S16x128x256x32x1, .f32⟩) (.of main_v83 : StableHlo.TRef sig ⟨S16x128x256x32x1, .f32⟩) Host.sqrt ]
theorem refC15_sub : (refC15 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev refC15_W : List (Ref sig .tc) := [main_call4_v0, main_call4_cst, main_call4_v1, main_call4_v2, main_v83]
theorem refC15_writes : (refC15 : List (HloOp τ sig (Elt F))).map HloOp.writes = refC15_W.map fun w => {Proc.devRef (τ := τ) .tc w} := rfl
theorem refC15_fresh : ∀ op ∈ (refC15 : List (HloOp τ sig (Elt F))), op.fresh = ∅ := by
  intro _ h; (repeat (cases h with | head => rfl | tail _ h => ?_)); exact nomatch h

/-- Operations of the reference, stretch 16: up to `main_v85`. -/
abbrev refC16 : List (HloOp τ sig (Elt F)) := [
  StableHlo.nullary main_cst_13 (constant S_ .f32 0x358637BD#32),
  StableHlo.unary main_cst_13 main_v84 (broadcastInDim S16x128x256x32x1 ![] bcast_S_S16x128x256x32x1 : (⟨S_, .f32⟩ : BufTy).Contents (Elt F) → (⟨S16x128x256x32x1, .f32⟩ : BufTy).Contents (Elt F)),
  StableHlo.binary main_v83 main_v84 main_v85 (addf : (⟨S16x128x256x32x1, .f32⟩ : BufTy).Contents (Elt F) → (⟨S16x128x256x32x1, .f32⟩ : BufTy).Contents (Elt F) → (⟨S16x128x256x32x1, .f32⟩ : BufTy).Contents (Elt F)) ]
theorem refC16_sub : (refC16 : List (HloOp τ sig (Elt F))).Forall fun op => op.bufs ⊆ StableHlo.tcRefs τ sig :=
  ⟨StableHlo.nullary_bufs_sub .., StableHlo.unary_bufs_sub .., StableHlo.binary_bufs_sub ..⟩
abbrev refC16_W : List (Ref sig .tc) := [main_cst_13, main_v84, main_v85]
theorem refC16_writes : (refC16 : List (HloOp τ sig (Elt F))).map HloOp.writes = refC16_W.map fun w => {Proc.devRef (τ := τ) .tc w} := rfl
theorem refC16_fresh : ∀ op ∈ (refC16 : List (HloOp τ sig (Elt F))), op.fresh = ∅ := by
  intro _ h; (repeat (cases h with | head => rfl | tail _ h => ?_)); exact nomatch h

/-- Operations of the reference, stretch 17: up to `main_v89`. -/
abbrev refC17 : List (HloOp τ sig (Elt F)) := [
  StableHlo.nullary main_cst_14 (constant S_ .f32 0x00000000#32),
  StableHlo.binary main_v85 main_cst_14 main_v86 ((fun x v => Host.reduceAdd x v reducesTo_S16x128x256x32x1_S128_d0_2_3_4 h_S_) : (⟨S16x128x256x32x1, .f32⟩ : BufTy).Contents (Elt F) → (⟨S_, .f32⟩ : BufTy).Contents (Elt F) → (⟨S128, .f32⟩ : BufTy).Contents (Elt F)),
  StableHlo.unary main_v86 main_v87 (broadcastInDim S1x128x1x1x1 ![1] bcast_S128_S1x128x1x1x1_1 : (⟨S128, .f32⟩ : BufTy).Contents (Elt F) → (⟨S1x128x1x1x1, .f32⟩ : BufTy).Contents (Elt F)),
  StableHlo.nullary main_cst_15 (constant S_ .f32 0x48000000#32),
  StableHlo.unary main_cst_15 main_v88 (broadcastInDim S1x128x1x1x1 ![] bcast_S_S1x128x1x1x1 : (⟨S_, .f32⟩ : BufTy).Contents (Elt F) → (⟨S1x128x1x1x1, .f32⟩ : BufTy).Contents (Elt F)),
  StableHlo.binary main_v87 main_v88 main_v89 (Host.divf : (⟨S1x128x1x1x1, .f32⟩ : BufTy).Contents (Elt F) → (⟨S1x128x1x1x1, .f32⟩ : BufTy).Contents (Elt F) → (⟨S1x128x1x1x1, .f32⟩ : BufTy).Contents (Elt F)) ]
theorem refC17_sub : (refC17 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub ..⟩
abbrev refC17_W : List (Ref sig .tc) := [main_cst_14, main_v86, main_v87, main_cst_15, main_v88, main_v89]
theorem refC17_writes : (refC17 : List (HloOp τ sig (Elt F))).map HloOp.writes = refC17_W.map fun w => {Proc.devRef (τ := τ) .tc w} := rfl
theorem refC17_fresh : ∀ op ∈ (refC17 : List (HloOp τ sig (Elt F))), op.fresh = ∅ := by
  intro _ h; (repeat (cases h with | head => rfl | tail _ h => ?_)); exact nomatch h

/-- Operations of the reference, stretch 18: up to `main_c_16`. -/
abbrev refC18 : List (HloOp τ sig (Elt F)) := [
  StableHlo.nullary main_c_16 (constantI S_ 32 0#32) ]
theorem refC18_sub : (refC18 : List (HloOp τ sig (Elt F))).Forall fun op => op.bufs ⊆ StableHlo.tcRefs τ sig :=
  StableHlo.nullary_bufs_sub ..
abbrev refC18_W : List (Ref sig .tc) := [main_c_16]
theorem refC18_writes : (refC18 : List (HloOp τ sig (Elt F))).map HloOp.writes = refC18_W.map fun w => {Proc.devRef (τ := τ) .tc w} := rfl
theorem refC18_fresh : ∀ op ∈ (refC18 : List (HloOp τ sig (Elt F))), op.fresh = ∅ := by
  intro _ h; (repeat (cases h with | head => rfl | tail _ h => ?_)); exact nomatch h

/-- Operations of the reference, stretch 19: up to `main_v90`. -/
abbrev refC19 : List (HloOp τ sig (Elt F)) := [
  StableHlo.TRef.nullary (.of main_call5_cst : StableHlo.TRef sig ⟨S_, .f32⟩) (constant S_ .f32 0x00000000#32),
  StableHlo.TRef.binary (.of main_v85 : StableHlo.TRef sig ⟨S16x128x256x32x1, .f32⟩) (.of main_call5_cst : StableHlo.TRef sig ⟨S_, .f32⟩) (.of main_call5_v0 : StableHlo.TRef sig ⟨S128, .f32⟩) (fun x v => Host.reduceAdd x v reducesTo_S16x128x256x32x1_S128_d0_2_3_4 h_S_),
  StableHlo.TRef.unary (.of main_call5_v0 : StableHlo.TRef sig ⟨S128, .f32⟩) (.of main_call5_v1 : StableHlo.TRef sig ⟨S1x128x1x1x1, .f32⟩) (broadcastInDim S1x128x1x1x1 ![1] bcast_S128_S1x128x1x1x1_1),
  StableHlo.TRef.nullary (.of main_call5_cst_0 : StableHlo.TRef sig ⟨S_, .f32⟩) (constant S_ .f32 0x48000000#32),
  StableHlo.TRef.unary (.of main_call5_cst_0 : StableHlo.TRef sig ⟨S_, .f32⟩) (.of main_call5_v2 : StableHlo.TRef sig ⟨S1x128x1x1x1, .f32⟩) (broadcastInDim S1x128x1x1x1 ![] bcast_S_S1x128x1x1x1),
  StableHlo.TRef.binary (.of main_call5_v1 : StableHlo.TRef sig ⟨S1x128x1x1x1, .f32⟩) (.of main_call5_v2 : StableHlo.TRef sig ⟨S1x128x1x1x1, .f32⟩) (.of main_call5_v3 : StableHlo.TRef sig ⟨S1x128x1x1x1, .f32⟩) Host.divf,
  StableHlo.TRef.unary (.of main_call5_v3 : StableHlo.TRef sig ⟨S1x128x1x1x1, .f32⟩) (.of main_call5_v4 : StableHlo.TRef sig ⟨S16x128x256x32x1, .f32⟩) (broadcastInDim S16x128x256x32x1 ![0, 1, 2, 3, 4] bcast_S1x128x1x1x1_S16x128x256x32x1_0_1_2_3_4),
  StableHlo.TRef.binary (.of main_v85 : StableHlo.TRef sig ⟨S16x128x256x32x1, .f32⟩) (.of main_call5_v4 : StableHlo.TRef sig ⟨S16x128x256x32x1, .f32⟩) (.of main_call5_v5 : StableHlo.TRef sig ⟨S16x128x256x32x1, .f32⟩) subf,
  StableHlo.TRef.binary (.of main_call5_v5 : StableHlo.TRef sig ⟨S16x128x256x32x1, .f32⟩) (.of main_call5_v5 : StableHlo.TRef sig ⟨S16x128x256x32x1, .f32⟩) (.of main_call5_v6 : StableHlo.TRef sig ⟨S16x128x256x32x1, .f32⟩) mulf,
  StableHlo.TRef.unary (.of main_c_16 : StableHlo.TRef sig ⟨S_, .i32⟩) (.of main_call5_v7 : StableHlo.TRef sig ⟨S_, .f32⟩) (sitofp .f32),
  StableHlo.TRef.nullary (.of main_call5_cst_1 : StableHlo.TRef sig ⟨S_, .f32⟩) (constant S_ .f32 0x48000000#32),
  StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
  StableHlo.TRef.nullary (.of main_call5_cst_2 : StableHlo.TRef sig ⟨S_, .f32⟩) (constant S_ .f32 0x00000000#32),
  StableHlo.TRef.binary (.of main_call5_v6 : StableHlo.TRef sig ⟨S16x128x256x32x1, .f32⟩) (.of main_call5_cst_2 : StableHlo.TRef sig ⟨S_, .f32⟩) (.of main_call5_v9 : StableHlo.TRef sig ⟨S128, .f32⟩) (fun x v => Host.reduceAdd x v reducesTo_S16x128x256x32x1_S128_d0_2_3_4 h_S_),
  StableHlo.TRef.unary (.of main_call5_v9 : StableHlo.TRef sig ⟨S128, .f32⟩) (.of main_call5_v10 : StableHlo.TRef sig ⟨S1x128x1x1x1, .f32⟩) (broadcastInDim S1x128x1x1x1 ![1] bcast_S128_S1x128x1x1x1_1),
  StableHlo.TRef.unary (.of main_call5_v8 : StableHlo.TRef sig ⟨S_, .f32⟩) (.of main_call5_v11 : StableHlo.TRef sig ⟨S1x128x1x1x1, .f32⟩) (broadcastInDim S1x128x1x1x1 ![] bcast_S_S1x128x1x1x1),
  StableHlo.TRef.binary (.of main_call5_v10 : StableHlo.TRef sig ⟨S1x128x1x1x1, .f32⟩) (.of main_call5_v11 : StableHlo.TRef sig ⟨S1x128x1x1x1, .f32⟩) (.of main_call5_v12 : StableHlo.TRef sig ⟨S1x128x1x1x1, .f32⟩) Host.divf,
  StableHlo.TRef.nullary (.of main_call5_cst_3 : StableHlo.TRef sig ⟨S_, .f32⟩) (constant S_ .f32 0x00000000#32),
  StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt),
  StableHlo.TRef.nullary (.of main_call5_cst_4 : StableHlo.TRef sig ⟨S_, .f32⟩) (constant S_ .f32 0x7FC00000#32),
  StableHlo.TRef.unary (.of main_call5_cst_4 : StableHlo.TRef sig ⟨S_, .f32⟩) (.of main_call5_call0_v0 : StableHlo.TRef sig ⟨S_, .f32⟩) id,
  StableHlo.TRef.unary (.of main_call5_call0_v0 : StableHlo.TRef sig ⟨S_, .f32⟩) (.of main_call5_call0_v1 : StableHlo.TRef sig ⟨S1x128x1x1x1, .f32⟩) (broadcastInDim S1x128x1x1x1 ![] bcast_S_S1x128x1x1x1),
  StableHlo.TRef.ternary (.of main_call5_v13 : StableHlo.TRef sig ⟨S_, .i1⟩) (.of main_call5_v12 : StableHlo.TRef sig ⟨S1x128x1x1x1, .f32⟩) (.of main_call5_call0_v1 : StableHlo.TRef sig ⟨S1x128x1x1x1, .f32⟩) (.of main_v90 : StableHlo.TRef sig ⟨S1x128x1x1x1, .f32⟩) (fun p a b => select (broadcastInDim S1x128x1x1x1 ![] bcast_S_S1x128x1x1x1 p) a b) ]
theorem refC19_sub : (refC19 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
abbrev refC19_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v90]
theorem refC19_writes : (refC19 : List (HloOp τ sig (Elt F))).map HloOp.writes = refC19_W.map fun w => {Proc.devRef (τ := τ) .tc w} := rfl
theorem refC19_fresh : ∀ op ∈ (refC19 : List (HloOp τ sig (Elt F))), op.fresh = ∅ := by
  intro _ h; (repeat (cases h with | head => rfl | tail _ h => ?_)); exact nomatch h

/-- Operations of the reference, stretch 20: up to `main_v97`. -/
abbrev refC20 : List (HloOp τ sig (Elt F)) := [
  StableHlo.reshape main_arg9 main_v91 (rfl : (.f32 : EltTy) = .f32) shapeCasts_S128_S1x128x1x1x1,
  StableHlo.unary main_v89 main_v92 (broadcastInDim S16x128x256x32x1 ![0, 1, 2, 3, 4] bcast_S1x128x1x1x1_S16x128x256x32x1_0_1_2_3_4 : (⟨S1x128x1x1x1, .f32⟩ : BufTy).Contents (Elt F) → (⟨S16x128x256x32x1, .f32⟩ : BufTy).Contents (Elt F)),
  StableHlo.binary main_v85 main_v92 main_v93 (subf : (⟨S16x128x256x32x1, .f32⟩ : BufTy).Contents (Elt F) → (⟨S16x128x256x32x1, .f32⟩ : BufTy).Contents (Elt F) → (⟨S16x128x256x32x1, .f32⟩ : BufTy).Contents (Elt F)),
  StableHlo.unary main_v91 main_v94 (broadcastInDim S16x128x256x32x1 ![0, 1, 2, 3, 4] bcast_S1x128x1x1x1_S16x128x256x32x1_0_1_2_3_4 : (⟨S1x128x1x1x1, .f32⟩ : BufTy).Contents (Elt F) → (⟨S16x128x256x32x1, .f32⟩ : BufTy).Contents (Elt F)),
  StableHlo.binary main_v94 main_v93 main_v95 (mulf : (⟨S16x128x256x32x1, .f32⟩ : BufTy).Contents (Elt F) → (⟨S16x128x256x32x1, .f32⟩ : BufTy).Contents (Elt F) → (⟨S16x128x256x32x1, .f32⟩ : BufTy).Contents (Elt F)),
  StableHlo.nullary main_cst_17 (constant S_ .f32 0x3727C5AC#32),
  StableHlo.unary main_cst_17 main_v96 (broadcastInDim S1x128x1x1x1 ![] bcast_S_S1x128x1x1x1 : (⟨S_, .f32⟩ : BufTy).Contents (Elt F) → (⟨S1x128x1x1x1, .f32⟩ : BufTy).Contents (Elt F)),
  StableHlo.binary main_v90 main_v96 main_v97 (addf : (⟨S1x128x1x1x1, .f32⟩ : BufTy).Contents (Elt F) → (⟨S1x128x1x1x1, .f32⟩ : BufTy).Contents (Elt F) → (⟨S1x128x1x1x1, .f32⟩ : BufTy).Contents (Elt F)) ]
theorem refC20_sub : (refC20 : List (HloOp τ sig (Elt F))).Forall fun op => op.bufs ⊆ StableHlo.tcRefs τ sig :=
  ⟨StableHlo.reshape_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub ..⟩
abbrev refC20_W : List (Ref sig .tc) := [main_v91, main_v92, main_v93, main_v94, main_v95, main_cst_17, main_v96, main_v97]
theorem refC20_writes : (refC20 : List (HloOp τ sig (Elt F))).map HloOp.writes = refC20_W.map fun w => {Proc.devRef (τ := τ) .tc w} := rfl
theorem refC20_fresh : ∀ op ∈ (refC20 : List (HloOp τ sig (Elt F))), op.fresh = ∅ := by
  intro _ h; (repeat (cases h with | head => rfl | tail _ h => ?_)); exact nomatch h

/-- Window 0 of the reference is its stretches in order. -/
theorem part0_chain (c : Dev nD) : main_part0 (F := F) c = (Pipeline.chainK [StableHlo.seq refC0, StableHlo.seq refC1, StableHlo.seq refC2, StableHlo.seq refC3, StableHlo.seq refC4, StableHlo.seq refC5, StableHlo.seq refC6, StableHlo.seq refC7, StableHlo.seq refC8, StableHlo.seq refC9, StableHlo.seq refC10] (StableHlo.seq refC11) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons]
  chain_rfl

/-- Window 1 of the reference is its stretches in order. -/
theorem part1_chain (c : Dev nD) : main_part1 (F := F) c = (Pipeline.chainK [StableHlo.seq refC12, StableHlo.seq refC13, StableHlo.seq refC14, StableHlo.seq refC15, StableHlo.seq refC16, StableHlo.seq refC17, StableHlo.seq refC18, StableHlo.seq refC19] (StableHlo.seq refC20) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons]
  chain_rfl

end Cert.Ref

end

end
-- ==== Proof.RefOps2.lean ====
module

public import Idealize.ShloMosaic.Lib.Pipeline.Regions
public import proofs.«01_k».proof.Proof.Gen.ReferenceIdeal

@[expose] public section

set_option maxRecDepth 16384

noncomputable section

open Idealize.ShloMosaic Idealize.ShloMosaic.TcCoe Idealize.SL.Sem
open Cert.ReferenceIdeal Cert.ReferenceIdeal.Gen

namespace Cert.Ref

variable {F : FTy → Type} [FloatOps F]

/-- Operations of the reference, stretch 21: up to `main_v107`. -/
abbrev refC21 : List (HloOp τ sig (Elt F)) := [
  StableHlo.unary main_v97 main_v98 (Host.sqrt : (⟨S1x128x1x1x1, .f32⟩ : BufTy).Contents (Elt F) → (⟨S1x128x1x1x1, .f32⟩ : BufTy).Contents (Elt F)),
  StableHlo.unary main_v98 main_v99 (broadcastInDim S16x128x256x32x1 ![0, 1, 2, 3, 4] bcast_S1x128x1x1x1_S16x128x256x32x1_0_1_2_3_4 : (⟨S1x128x1x1x1, .f32⟩ : BufTy).Contents (Elt F) → (⟨S16x128x256x32x1, .f32⟩ : BufTy).Contents (Elt F)),
  StableHlo.binary main_v95 main_v99 main_v100 (Host.divf : (⟨S16x128x256x32x1, .f32⟩ : BufTy).Contents (Elt F) → (⟨S16x128x256x32x1, .f32⟩ : BufTy).Contents (Elt F) → (⟨S16x128x256x32x1, .f32⟩ : BufTy).Contents (Elt F)),
  StableHlo.reshape main_arg10 main_v101 (rfl : (.f32 : EltTy) = .f32) shapeCasts_S128_S1x128x1x1x1,
  StableHlo.unary main_v101 main_v102 (broadcastInDim S16x128x256x32x1 ![0, 1, 2, 3, 4] bcast_S1x128x1x1x1_S16x128x256x32x1_0_1_2_3_4 : (⟨S1x128x1x1x1, .f32⟩ : BufTy).Contents (Elt F) → (⟨S16x128x256x32x1, .f32⟩ : BufTy).Contents (Elt F)),
  StableHlo.binary main_v100 main_v102 main_v103 (addf : (⟨S16x128x256x32x1, .f32⟩ : BufTy).Contents (Elt F) → (⟨S16x128x256x32x1, .f32⟩ : BufTy).Contents (Elt F) → (⟨S16x128x256x32x1, .f32⟩ : BufTy).Contents (Elt F)),
  StableHlo.unary main_v85 main_v104 (broadcastInDim S16x128x256x32x3 ![0, 1, 2, 3, 4] bcast_S16x128x256x32x1_S16x128x256x32x3_0_1_2_3_4 : (⟨S16x128x256x32x1, .f32⟩ : BufTy).Contents (Elt F) → (⟨S16x128x256x32x3, .f32⟩ : BufTy).Contents (Elt F)),
  StableHlo.binary main_v82 main_v104 main_v105 (Host.divf : (⟨S16x128x256x32x3, .f32⟩ : BufTy).Contents (Elt F) → (⟨S16x128x256x32x3, .f32⟩ : BufTy).Contents (Elt F) → (⟨S16x128x256x32x3, .f32⟩ : BufTy).Contents (Elt F)),
  StableHlo.unary main_v103 main_v106 (broadcastInDim S16x128x256x32x3 ![0, 1, 2, 3, 4] bcast_S16x128x256x32x1_S16x128x256x32x3_0_1_2_3_4 : (⟨S16x128x256x32x1, .f32⟩ : BufTy).Contents (Elt F) → (⟨S16x128x256x32x3, .f32⟩ : BufTy).Contents (Elt F)),
  StableHlo.binary main_v105 main_v106 main_v107 (mulf : (⟨S16x128x256x32x3, .f32⟩ : BufTy).Contents (Elt F) → (⟨S16x128x256x32x3, .f32⟩ : BufTy).Contents (Elt F) → (⟨S16x128x256x32x3, .f32⟩ : BufTy).Contents (Elt F)) ]
theorem refC21_sub : (refC21 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub ..⟩
abbrev refC21_W : List (Ref sig .tc) := [main_v98, main_v99, main_v100, main_v101, main_v102, main_v103, main_v104, main_v105, main_v106, main_v107]
theorem refC21_writes : (refC21 : List (HloOp τ sig (Elt F))).map HloOp.writes = refC21_W.map fun w => {Proc.devRef (τ := τ) .tc w} := rfl
theorem refC21_fresh : ∀ op ∈ (refC21 : List (HloOp τ sig (Elt F))), op.fresh = ∅ := by
  intro _ h; (repeat (cases h with | head => rfl | tail _ h => ?_)); exact nomatch h

/-- Operations of the reference, stretch 22: up to `main_v136`. -/
abbrev refC22 : List (HloOp τ sig (Elt F)) := [
  StableHlo.binary main_v107 main_arg8 main_v108 ((fun l r => Host.dotGeneral dot_S16x128x256x32x3_S128x128_S16x256x32x3x128_1_1_0234_0_n_n none l r) : (⟨S16x128x256x32x3, .f32⟩ : BufTy).Contents (Elt F) → (⟨S128x128, .f32⟩ : BufTy).Contents (Elt F) → (⟨S16x256x32x3x128, .f32⟩ : BufTy).Contents (Elt F)),
  StableHlo.unary main_v108 main_v109 ((transpose S16x128x256x32x3 [0, 4, 1, 2, 3] · transposes_S16x256x32x3x128_S16x128x256x32x3_0_4_1_2_3) : (⟨S16x256x32x3x128, .f32⟩ : BufTy).Contents (Elt F) → (⟨S16x128x256x32x3, .f32⟩ : BufTy).Contents (Elt F)),
  StableHlo.binary main_v107 main_v109 main_v110 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.nullary main_cst_18 (constant S_ .f32 0x00000000#32),
  StableHlo.binary main_v110 main_cst_18 main_v111 ((fun x v => Host.reduceAdd x v reducesTo_S16x128x256x32x3_S16x128x256x32_d4 h_S_) : (⟨S16x128x256x32x3, .f32⟩ : BufTy).Contents (Elt F) → (⟨S_, .f32⟩ : BufTy).Contents (Elt F) → (⟨S16x128x256x32, .f32⟩ : BufTy).Contents (Elt F)),
  StableHlo.unary main_v111 main_v112 (broadcastInDim S16x128x256x32x1 ![0, 1, 2, 3] bcast_S16x128x256x32_S16x128x256x32x1_0_1_2_3 : (⟨S16x128x256x32, .f32⟩ : BufTy).Contents (Elt F) → (⟨S16x128x256x32x1, .f32⟩ : BufTy).Contents (Elt F)),
  StableHlo.binary main_v109 main_v109 main_v113 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.nullary main_cst_19 (constant S_ .f32 0x00000000#32),
  StableHlo.binary main_v113 main_cst_19 main_v114 ((fun x v => Host.reduceAdd x v reducesTo_S16x128x256x32x3_S16x128x256x32_d4 h_S_) : (⟨S16x128x256x32x3, .f32⟩ : BufTy).Contents (Elt F) → (⟨S_, .f32⟩ : BufTy).Contents (Elt F) → (⟨S16x128x256x32, .f32⟩ : BufTy).Contents (Elt F)),
  StableHlo.unary main_v114 main_v115 (broadcastInDim S16x128x256x32x1 ![0, 1, 2, 3] bcast_S16x128x256x32_S16x128x256x32x1_0_1_2_3 : (⟨S16x128x256x32, .f32⟩ : BufTy).Contents (Elt F) → (⟨S16x128x256x32x1, .f32⟩ : BufTy).Contents (Elt F)),
  StableHlo.nullary main_cst_20 (constant S_ .f32 0x00000000#32),
  StableHlo.unary main_cst_20 main_v116 (broadcastInDim S16x128x256x32x1 ![] bcast_S_S16x128x256x32x1 : (⟨S_, .f32⟩ : BufTy).Contents (Elt F) → (⟨S16x128x256x32x1, .f32⟩ : BufTy).Contents (Elt F)),
  StableHlo.binary main_v112 main_v116 main_v117 (cmpf .oge : (⟨S16x128x256x32x1, .f32⟩ : BufTy).Contents (Elt F) → (⟨S16x128x256x32x1, .f32⟩ : BufTy).Contents (Elt F) → (⟨S16x128x256x32x1, .i1⟩ : BufTy).Contents (Elt F)),
  StableHlo.unary main_v117 main_v118 (uitofp .f32 : (⟨S16x128x256x32x1, .i1⟩ : BufTy).Contents (Elt F) → (⟨S16x128x256x32x1, .f32⟩ : BufTy).Contents (Elt F)),
  StableHlo.nullary main_cst_21 (constant S_ .f32 0x358637BD#32),
  StableHlo.unary main_cst_21 main_v119 (broadcastInDim S16x128x256x32x1 ![] bcast_S_S16x128x256x32x1 : (⟨S_, .f32⟩ : BufTy).Contents (Elt F) → (⟨S16x128x256x32x1, .f32⟩ : BufTy).Contents (Elt F)),
  StableHlo.binary main_v115 main_v119 main_v120 (addf : (⟨S16x128x256x32x1, .f32⟩ : BufTy).Contents (Elt F) → (⟨S16x128x256x32x1, .f32⟩ : BufTy).Contents (Elt F) → (⟨S16x128x256x32x1, .f32⟩ : BufTy).Contents (Elt F)),
  StableHlo.binary main_v112 main_v120 main_v121 (Host.divf : (⟨S16x128x256x32x1, .f32⟩ : BufTy).Contents (Elt F) → (⟨S16x128x256x32x1, .f32⟩ : BufTy).Contents (Elt F) → (⟨S16x128x256x32x1, .f32⟩ : BufTy).Contents (Elt F)),
  StableHlo.unary main_v121 main_v122 (broadcastInDim S16x128x256x32x3 ![0, 1, 2, 3, 4] bcast_S16x128x256x32x1_S16x128x256x32x3_0_1_2_3_4 : (⟨S16x128x256x32x1, .f32⟩ : BufTy).Contents (Elt F) → (⟨S16x128x256x32x3, .f32⟩ : BufTy).Contents (Elt F)),
  StableHlo.binary main_v122 main_v109 main_v123 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.binary main_v107 main_v123 main_v124 (subf : (⟨S16x128x256x32x3, .f32⟩ : BufTy).Contents (Elt F) → (⟨S16x128x256x32x3, .f32⟩ : BufTy).Contents (Elt F) → (⟨S16x128x256x32x3, .f32⟩ : BufTy).Contents (Elt F)),
  StableHlo.nullary main_cst_22 (constant S_ .f32 0x3E4CCCCD#32),
  StableHlo.unary main_cst_22 main_v125 (broadcastInDim S16x128x256x32x3 ![] bcast_S_S16x128x256x32x3 : (⟨S_, .f32⟩ : BufTy).Contents (Elt F) → (⟨S16x128x256x32x3, .f32⟩ : BufTy).Contents (Elt F)),
  StableHlo.binary main_v125 main_v107 main_v126 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.unary main_v118 main_v127 (broadcastInDim S16x128x256x32x3 ![0, 1, 2, 3, 4] bcast_S16x128x256x32x1_S16x128x256x32x3_0_1_2_3_4 : (⟨S16x128x256x32x1, .f32⟩ : BufTy).Contents (Elt F) → (⟨S16x128x256x32x3, .f32⟩ : BufTy).Contents (Elt F)),
  StableHlo.binary main_v127 main_v107 main_v128 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.nullary main_cst_23 (constant S_ .f32 0x3F800000#32),
  StableHlo.unary main_cst_23 main_v129 (broadcastInDim S16x128x256x32x1 ![] bcast_S_S16x128x256x32x1 : (⟨S_, .f32⟩ : BufTy).Contents (Elt F) → (⟨S16x128x256x32x1, .f32⟩ : BufTy).Contents (Elt F)),
  StableHlo.binary main_v129 main_v118 main_v130 (subf : (⟨S16x128x256x32x1, .f32⟩ : BufTy).Contents (Elt F) → (⟨S16x128x256x32x1, .f32⟩ : BufTy).Contents (Elt F) → (⟨S16x128x256x32x1, .f32⟩ : BufTy).Contents (Elt F)),
  StableHlo.unary main_v130 main_v131 (broadcastInDim S16x128x256x32x3 ![0, 1, 2, 3, 4] bcast_S16x128x256x32x1_S16x128x256x32x3_0_1_2_3_4 : (⟨S16x128x256x32x1, .f32⟩ : BufTy).Contents (Elt F) → (⟨S16x128x256x32x3, .f32⟩ : BufTy).Contents (Elt F)),
  StableHlo.binary main_v131 main_v124 main_v132 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.binary main_v128 main_v132 main_v133 (addf : (⟨S16x128x256x32x3, .f32⟩ : BufTy).Contents (Elt F) → (⟨S16x128x256x32x3, .f32⟩ : BufTy).Contents (Elt F) → (⟨S16x128x256x32x3, .f32⟩ : BufTy).Contents (Elt F)),
  StableHlo.nullary main_cst_24 (constant S_ .f32 0x3F4CCCCD#32),
  StableHlo.unary main_cst_24 main_v134 (broadcastInDim S16x128x256x32x3 ![] bcast_S_S16x128x256x32x3 : (⟨S_, .f32⟩ : BufTy).Contents (Elt F) → (⟨S16x128x256x32x3, .f32⟩ : BufTy).Contents (Elt F)),
  StableHlo.binary main_v134 main_v133 main_v135 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.binary main_v126 main_v135 main_v136 (addf : (⟨S16x128x256x32x3, .f32⟩ : BufTy).Contents (Elt F) → (⟨S16x128x256x32x3, .f32⟩ : BufTy).Contents (Elt F) → (⟨S16x128x256x32x3, .f32⟩ : BufTy).Contents (Elt F)) ]
theorem refC22_sub : (refC22 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
abbrev refC22_W : List (Ref sig .tc) := [main_v108, main_v109, main_v110, main_cst_18, main_v111, main_v112, main_v113, main_cst_19, main_v114, main_v115, main_cst_20, main_v116, main_v117, main_v118, main_cst_21, main_v119, main_v120, main_v121, main_v122, main_v123, main_v124, main_cst_22, main_v125, main_v126, main_v127, main_v128, main_cst_23, main_v129, main_v130, main_v131, main_v132, main_v133, main_cst_24, main_v134, main_v135, main_v136]
theorem refC22_writes : (refC22 : List (HloOp τ sig (Elt F))).map HloOp.writes = refC22_W.map fun w => {Proc.devRef (τ := τ) .tc w} := rfl
theorem refC22_fresh : ∀ op ∈ (refC22 : List (HloOp τ sig (Elt F))), op.fresh = ∅ := by
  intro _ h; (repeat (cases h with | head => rfl | tail _ h => ?_)); exact nomatch h

/-- Operations of the reference, stretch 23: up to `main_v138`. -/
abbrev refC23 : List (HloOp τ sig (Elt F)) := [
  StableHlo.binary main_v136 main_v136 main_v137 (mulf : (⟨S16x128x256x32x3, .f32⟩ : BufTy).Contents (Elt F) → (⟨S16x128x256x32x3, .f32⟩ : BufTy).Contents (Elt F) → (⟨S16x128x256x32x3, .f32⟩ : BufTy).Contents (Elt F)),
  StableHlo.nullary main_cst_25 (constant S_ .f32 0x00000000#32),
  StableHlo.binary main_v137 main_cst_25 main_v138 ((fun x v => Host.reduceAdd x v reducesTo_S16x128x256x32x3_S16x128x256x32_d4 h_S_) : (⟨S16x128x256x32x3, .f32⟩ : BufTy).Contents (Elt F) → (⟨S_, .f32⟩ : BufTy).Contents (Elt F) → (⟨S16x128x256x32, .f32⟩ : BufTy).Contents (Elt F)) ]
theorem refC23_sub : (refC23 : List (HloOp τ sig (Elt F))).Forall fun op => op.bufs ⊆ StableHlo.tcRefs τ sig :=
  ⟨StableHlo.binary_bufs_sub .., StableHlo.nullary_bufs_sub .., StableHlo.binary_bufs_sub ..⟩
abbrev refC23_W : List (Ref sig .tc) := [main_v137, main_cst_25, main_v138]
theorem refC23_writes : (refC23 : List (HloOp τ sig (Elt F))).map HloOp.writes = refC23_W.map fun w => {Proc.devRef (τ := τ) .tc w} := rfl
theorem refC23_fresh : ∀ op ∈ (refC23 : List (HloOp τ sig (Elt F))), op.fresh = ∅ := by
  intro _ h; (repeat (cases h with | head => rfl | tail _ h => ?_)); exact nomatch h

/-- Operations of the reference, stretch 24: up to `main_v139`. -/
abbrev refC24 : List (HloOp τ sig (Elt F)) := [
  StableHlo.TRef.nullary (.of main_call6_v0 : StableHlo.TRef sig ⟨S16x128x256x32, .i32⟩) (iotaInDim S16x128x256x32 32 3),
  StableHlo.TRef.nullary (.of main_call6_cst : StableHlo.TRef sig ⟨S_, .f32⟩) (constant S_ .f32 0xFF800000#32),
  StableHlo.TRef.nullary (.of main_call6_c : StableHlo.TRef sig ⟨S_, .i32⟩) (constantI S_ 32 0#32),
  StableHlo.TRef.quaternary (.of main_v138 : StableHlo.TRef sig ⟨S16x128x256x32, .f32⟩) (.of main_call6_v0 : StableHlo.TRef sig ⟨S16x128x256x32, .i32⟩) (.of main_call6_cst : StableHlo.TRef sig ⟨S_, .f32⟩) (.of main_call6_c : StableHlo.TRef sig ⟨S_, .i32⟩) (.of main_call6_v1_0 : StableHlo.TRef sig ⟨S16x128x256, .f32⟩) (fun x y u v j => (Host.argReduce reducer_argmax_f32_i32 x y u v reducesTo_S16x128x256x32_S16x128x256_d3 h_S_ j).1),
  StableHlo.TRef.quaternary (.of main_v138 : StableHlo.TRef sig ⟨S16x128x256x32, .f32⟩) (.of main_call6_v0 : StableHlo.TRef sig ⟨S16x128x256x32, .i32⟩) (.of main_call6_cst : StableHlo.TRef sig ⟨S_, .f32⟩) (.of main_call6_c : StableHlo.TRef sig ⟨S_, .i32⟩) (.of main_v139 : StableHlo.TRef sig ⟨S16x128x256, .i32⟩) (fun x y u v j => (Host.argReduce reducer_argmax_f32_i32 x y u v reducesTo_S16x128x256x32_S16x128x256_d3 h_S_ j).2) ]
theorem refC24_sub : (refC24 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev refC24_W : List (Ref sig .tc) := [main_call6_v0, main_call6_cst, main_call6_c, main_call6_v1_0, main_v139]
theorem refC24_writes : (refC24 : List (HloOp τ sig (Elt F))).map HloOp.writes = refC24_W.map fun w => {Proc.devRef (τ := τ) .tc w} := rfl
theorem refC24_fresh : ∀ op ∈ (refC24 : List (HloOp τ sig (Elt F))), op.fresh = ∅ := by
  intro _ h; (repeat (cases h with | head => rfl | tail _ h => ?_)); exact nomatch h

/-- Operations of the reference, stretch 25: up to `main_v140`. -/
abbrev refC25 : List (HloOp τ sig (Elt F)) := [
  StableHlo.unary main_v139 main_v140 (broadcastInDim S16x128x256x1x1 ![0, 1, 2] bcast_S16x128x256_S16x128x256x1x1_0_1_2 : (⟨S16x128x256, .i32⟩ : BufTy).Contents (Elt F) → (⟨S16x128x256x1x1, .i32⟩ : BufTy).Contents (Elt F)) ]
theorem refC25_sub : (refC25 : List (HloOp τ sig (Elt F))).Forall fun op => op.bufs ⊆ StableHlo.tcRefs τ sig :=
  StableHlo.unary_bufs_sub ..
abbrev refC25_W : List (Ref sig .tc) := [main_v140]
theorem refC25_writes : (refC25 : List (HloOp τ sig (Elt F))).map HloOp.writes = refC25_W.map fun w => {Proc.devRef (τ := τ) .tc w} := rfl
theorem refC25_fresh : ∀ op ∈ (refC25 : List (HloOp τ sig (Elt F))), op.fresh = ∅ := by
  intro _ h; (repeat (cases h with | head => rfl | tail _ h => ?_)); exact nomatch h

/-- Operations of the reference, stretch 26: up to `main_v141`. -/
abbrev refC26 : List (HloOp τ sig (Elt F)) := [
  StableHlo.TRef.nullary (.of main_call7_c : StableHlo.TRef sig ⟨S_, .i32⟩) (constantI S_ 32 0#32),
  StableHlo.TRef.unary (.of main_call7_c : StableHlo.TRef sig ⟨S_, .i32⟩) (.of main_call7_v0 : StableHlo.TRef sig ⟨S16x128x256x1x1, .i32⟩) (broadcastInDim S16x128x256x1x1 ![] bcast_S_S16x128x256x1x1),
  StableHlo.TRef.binary (.of main_v140 : StableHlo.TRef sig ⟨S16x128x256x1x1, .i32⟩) (.of main_call7_v0 : StableHlo.TRef sig ⟨S16x128x256x1x1, .i32⟩) (.of main_call7_v1 : StableHlo.TRef sig ⟨S16x128x256x1x1, .i1⟩) (cmpi .slt),
  StableHlo.TRef.nullary (.of main_call7_c_0 : StableHlo.TRef sig ⟨S_, .i32⟩) (constantI S_ 32 32#32),
  StableHlo.TRef.unary (.of main_call7_c_0 : StableHlo.TRef sig ⟨S_, .i32⟩) (.of main_call7_v2 : StableHlo.TRef sig ⟨S16x128x256x1x1, .i32⟩) (broadcastInDim S16x128x256x1x1 ![] bcast_S_S16x128x256x1x1),
  StableHlo.TRef.binary (.of main_v140 : StableHlo.TRef sig ⟨S16x128x256x1x1, .i32⟩) (.of main_call7_v2 : StableHlo.TRef sig ⟨S16x128x256x1x1, .i32⟩) (.of main_call7_v3 : StableHlo.TRef sig ⟨S16x128x256x1x1, .i32⟩) addi,
  StableHlo.TRef.ternary (.of main_call7_v1 : StableHlo.TRef sig ⟨S16x128x256x1x1, .i1⟩) (.of main_call7_v3 : StableHlo.TRef sig ⟨S16x128x256x1x1, .i32⟩) (.of main_v140 : StableHlo.TRef sig ⟨S16x128x256x1x1, .i32⟩) (.of main_call7_v4 : StableHlo.TRef sig ⟨S16x128x256x1x1, .i32⟩) select,
  StableHlo.TRef.nullary (.of main_call7_c_1 : StableHlo.TRef sig ⟨S1, .i32⟩) (constantI S1 32 31#32),
  StableHlo.TRef.nullary (.of main_call7_c_2 : StableHlo.TRef sig ⟨S_, .i32⟩) (constantI S_ 32 0#32),
  StableHlo.TRef.unary (.of main_call7_c_2 : StableHlo.TRef sig ⟨S_, .i32⟩) (.of main_call7_v5 : StableHlo.TRef sig ⟨S16x128x256x1x1, .i32⟩) (broadcastInDim S16x128x256x1x1 ![] bcast_S_S16x128x256x1x1),
  StableHlo.TRef.binary (.of main_call7_v4 : StableHlo.TRef sig ⟨S16x128x256x1x1, .i32⟩) (.of main_call7_v5 : StableHlo.TRef sig ⟨S16x128x256x1x1, .i32⟩) (.of main_call7_v6 : StableHlo.TRef sig ⟨S16x128x256x1x1, .i1⟩) (cmpi .sge),
  StableHlo.TRef.unary (.of main_call7_c_1 : StableHlo.TRef sig ⟨S1, .i32⟩) (.of main_call7_v7 : StableHlo.TRef sig ⟨S1x1x1x1x1, .i32⟩) (broadcastInDim S1x1x1x1x1 ![4] bcast_S1_S1x1x1x1x1_4),
  StableHlo.TRef.unary (.of main_call7_v7 : StableHlo.TRef sig ⟨S1x1x1x1x1, .i32⟩) (.of main_call7_v8 : StableHlo.TRef sig ⟨S16x128x256x1x1, .i32⟩) (broadcastInDim S16x128x256x1x1 ![0, 1, 2, 3, 4] bcast_S1x1x1x1x1_S16x128x256x1x1_0_1_2_3_4),
  StableHlo.TRef.binary (.of main_call7_v4 : StableHlo.TRef sig ⟨S16x128x256x1x1, .i32⟩) (.of main_call7_v8 : StableHlo.TRef sig ⟨S16x128x256x1x1, .i32⟩) (.of main_call7_v9 : StableHlo.TRef sig ⟨S16x128x256x1x1, .i1⟩) (cmpi .sle),
  StableHlo.TRef.binary (.of main_call7_v6 : StableHlo.TRef sig ⟨S16x128x256x1x1, .i1⟩) (.of main_call7_v9 : StableHlo.TRef sig ⟨S16x128x256x1x1, .i1⟩) (.of main_call7_v10 : StableHlo.TRef sig ⟨S16x128x256x1x1, .i1⟩) andi,
  StableHlo.TRef.nullary (.of main_call7_c_3 : StableHlo.TRef sig ⟨S_, .i1⟩) (constantI S_ 1 1#1),
  StableHlo.TRef.binary (.of main_call7_v10 : StableHlo.TRef sig ⟨S16x128x256x1x1, .i1⟩) (.of main_call7_c_3 : StableHlo.TRef sig ⟨S_, .i1⟩) (.of main_call7_v11 : StableHlo.TRef sig ⟨S16x128x256x1, .i1⟩) (fun x v => Host.reduce IntOp.andi x v reducesTo_S16x128x256x1x1_S16x128x256x1_d4 h_S_),
  StableHlo.TRef.binary (.of main_v136 : StableHlo.TRef sig ⟨S16x128x256x32x3, .f32⟩) (.of main_call7_v4 : StableHlo.TRef sig ⟨S16x128x256x1x1, .i32⟩) (.of main_call7_v12 : StableHlo.TRef sig ⟨S16x128x256x1x3, .f32⟩) (fun x i => Host.gather gather_S16x128x256x32x3_S16x128x256x1x1_S16x128x256x1x3_4_3_012_012_3_4_11113 x i),
  StableHlo.TRef.unary (.of main_call7_v11 : StableHlo.TRef sig ⟨S16x128x256x1, .i1⟩) (.of main_call7_v13 : StableHlo.TRef sig ⟨S16x128x256x1x3, .i1⟩) (broadcastInDim S16x128x256x1x3 ![0, 1, 2, 3] bcast_S16x128x256x1_S16x128x256x1x3_0_1_2_3),
  StableHlo.TRef.nullary (.of main_call7_cst : StableHlo.TRef sig ⟨S_, .f32⟩) (constant S_ .f32 0x7FC00000#32),
  StableHlo.TRef.unary (.of main_call7_cst : StableHlo.TRef sig ⟨S_, .f32⟩) (.of main_call7_v14 : StableHlo.TRef sig ⟨S16x128x256x1x3, .f32⟩) (broadcastInDim S16x128x256x1x3 ![] bcast_S_S16x128x256x1x3),
  StableHlo.TRef.ternary (.of main_call7_v13 : StableHlo.TRef sig ⟨S16x128x256x1x3, .i1⟩) (.of main_call7_v12 : StableHlo.TRef sig ⟨S16x128x256x1x3, .f32⟩) (.of main_call7_v14 : StableHlo.TRef sig ⟨S16x128x256x1x3, .f32⟩) (.of main_v141 : StableHlo.TRef sig ⟨S16x128x256x1x3, .f32⟩) select ]
theorem refC26_sub : (refC26 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC26_W : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v141]
theorem refC26_writes : (refC26 : List (HloOp τ sig (Elt F))).map HloOp.writes = refC26_W.map fun w => {Proc.devRef (τ := τ) .tc w} := rfl
theorem refC26_fresh : ∀ op ∈ (refC26 : List (HloOp τ sig (Elt F))), op.fresh = ∅ := by
  intro _ h; (repeat (cases h with | head => rfl | tail _ h => ?_)); exact nomatch h

/-- Operations of the reference, stretch 27: up to `main_v142`. -/
abbrev refC27 : List (HloOp τ sig (Elt F)) := [
  StableHlo.reshape main_v141 main_v142 (rfl : (.f32 : EltTy) = .f32) shapeCasts_S16x128x256x1x3_S16x128x256x3 ]
theorem refC27_sub : (refC27 : List (HloOp τ sig (Elt F))).Forall fun op => op.bufs ⊆ StableHlo.tcRefs τ sig :=
  StableHlo.reshape_bufs_sub ..
abbrev refC27_W : List (Ref sig .tc) := [main_v142]
theorem refC27_writes : (refC27 : List (HloOp τ sig (Elt F))).map HloOp.writes = refC27_W.map fun w => {Proc.devRef (τ := τ) .tc w} := rfl
theorem refC27_fresh : ∀ op ∈ (refC27 : List (HloOp τ sig (Elt F))), op.fresh = ∅ := by
  intro _ h; (repeat (cases h with | head => rfl | tail _ h => ?_)); exact nomatch h

/-- Operations of the reference, stretch 28: up to `main_v145`. -/
abbrev refC28 : List (HloOp τ sig (Elt F)) := [
  StableHlo.unary main_v2 main_v143 ((transpose S16x3x256 [0, 2, 1] · transposes_S16x256x3_S16x3x256_0_2_1) : (⟨S16x256x3, .f32⟩ : BufTy).Contents (Elt F) → (⟨S16x3x256, .f32⟩ : BufTy).Contents (Elt F)),
  StableHlo.unary main_v143 main_v144 ((transpose S16x256x3 [0, 2, 1] · transposes_S16x3x256_S16x256x3_0_2_1) : (⟨S16x3x256, .f32⟩ : BufTy).Contents (Elt F) → (⟨S16x256x3, .f32⟩ : BufTy).Contents (Elt F)),
  StableHlo.unary main_arg2 main_v145 (broadcastInDim S16x128x1 ![0, 1] bcast_S16x128_S16x128x1_0_1 : (⟨S16x128, .i32⟩ : BufTy).Contents (Elt F) → (⟨S16x128x1, .i32⟩ : BufTy).Contents (Elt F)) ]
theorem refC28_sub : (refC28 : List (HloOp τ sig (Elt F))).Forall fun op => op.bufs ⊆ StableHlo.tcRefs τ sig :=
  ⟨StableHlo.unary_bufs_sub .., StableHlo.unary_bufs_sub .., StableHlo.unary_bufs_sub ..⟩
abbrev refC28_W : List (Ref sig .tc) := [main_v143, main_v144, main_v145]
theorem refC28_writes : (refC28 : List (HloOp τ sig (Elt F))).map HloOp.writes = refC28_W.map fun w => {Proc.devRef (τ := τ) .tc w} := rfl
theorem refC28_fresh : ∀ op ∈ (refC28 : List (HloOp τ sig (Elt F))), op.fresh = ∅ := by
  intro _ h; (repeat (cases h with | head => rfl | tail _ h => ?_)); exact nomatch h

/-- Operations of the reference, stretch 29: up to `main_v146`. -/
abbrev refC29 : List (HloOp τ sig (Elt F)) := [
  StableHlo.TRef.nullary (.of main_call8_c : StableHlo.TRef sig ⟨S_, .i32⟩) (constantI S_ 32 0#32),
  StableHlo.TRef.unary (.of main_call8_c : StableHlo.TRef sig ⟨S_, .i32⟩) (.of main_call8_v0 : StableHlo.TRef sig ⟨S16x128x1, .i32⟩) (broadcastInDim S16x128x1 ![] bcast_S_S16x128x1),
  StableHlo.TRef.binary (.of main_v145 : StableHlo.TRef sig ⟨S16x128x1, .i32⟩) (.of main_call8_v0 : StableHlo.TRef sig ⟨S16x128x1, .i32⟩) (.of main_call8_v1 : StableHlo.TRef sig ⟨S16x128x1, .i1⟩) (cmpi .slt),
  StableHlo.TRef.nullary (.of main_call8_c_0 : StableHlo.TRef sig ⟨S_, .i32⟩) (constantI S_ 32 256#32),
  StableHlo.TRef.unary (.of main_call8_c_0 : StableHlo.TRef sig ⟨S_, .i32⟩) (.of main_call8_v2 : StableHlo.TRef sig ⟨S16x128x1, .i32⟩) (broadcastInDim S16x128x1 ![] bcast_S_S16x128x1),
  StableHlo.TRef.binary (.of main_v145 : StableHlo.TRef sig ⟨S16x128x1, .i32⟩) (.of main_call8_v2 : StableHlo.TRef sig ⟨S16x128x1, .i32⟩) (.of main_call8_v3 : StableHlo.TRef sig ⟨S16x128x1, .i32⟩) addi,
  StableHlo.TRef.ternary (.of main_call8_v1 : StableHlo.TRef sig ⟨S16x128x1, .i1⟩) (.of main_call8_v3 : StableHlo.TRef sig ⟨S16x128x1, .i32⟩) (.of main_v145 : StableHlo.TRef sig ⟨S16x128x1, .i32⟩) (.of main_call8_v4 : StableHlo.TRef sig ⟨S16x128x1, .i32⟩) select,
  StableHlo.TRef.nullary (.of main_call8_c_1 : StableHlo.TRef sig ⟨S1, .i32⟩) (constantI S1 32 255#32),
  StableHlo.TRef.nullary (.of main_call8_c_2 : StableHlo.TRef sig ⟨S_, .i32⟩) (constantI S_ 32 0#32),
  StableHlo.TRef.unary (.of main_call8_c_2 : StableHlo.TRef sig ⟨S_, .i32⟩) (.of main_call8_v5 : StableHlo.TRef sig ⟨S16x128x1, .i32⟩) (broadcastInDim S16x128x1 ![] bcast_S_S16x128x1),
  StableHlo.TRef.binary (.of main_call8_v4 : StableHlo.TRef sig ⟨S16x128x1, .i32⟩) (.of main_call8_v5 : StableHlo.TRef sig ⟨S16x128x1, .i32⟩) (.of main_call8_v6 : StableHlo.TRef sig ⟨S16x128x1, .i1⟩) (cmpi .sge),
  StableHlo.TRef.unary (.of main_call8_c_1 : StableHlo.TRef sig ⟨S1, .i32⟩) (.of main_call8_v7 : StableHlo.TRef sig ⟨S1x1x1, .i32⟩) (broadcastInDim S1x1x1 ![2] bcast_S1_S1x1x1_2),
  StableHlo.TRef.unary (.of main_call8_v7 : StableHlo.TRef sig ⟨S1x1x1, .i32⟩) (.of main_call8_v8 : StableHlo.TRef sig ⟨S16x128x1, .i32⟩) (broadcastInDim S16x128x1 ![0, 1, 2] bcast_S1x1x1_S16x128x1_0_1_2),
  StableHlo.TRef.binary (.of main_call8_v4 : StableHlo.TRef sig ⟨S16x128x1, .i32⟩) (.of main_call8_v8 : StableHlo.TRef sig ⟨S16x128x1, .i32⟩) (.of main_call8_v9 : StableHlo.TRef sig ⟨S16x128x1, .i1⟩) (cmpi .sle),
  StableHlo.TRef.binary (.of main_call8_v6 : StableHlo.TRef sig ⟨S16x128x1, .i1⟩) (.of main_call8_v9 : StableHlo.TRef sig ⟨S16x128x1, .i1⟩) (.of main_call8_v10 : StableHlo.TRef sig ⟨S16x128x1, .i1⟩) andi,
  StableHlo.TRef.nullary (.of main_call8_c_3 : StableHlo.TRef sig ⟨S_, .i1⟩) (constantI S_ 1 1#1),
  StableHlo.TRef.binary (.of main_call8_v10 : StableHlo.TRef sig ⟨S16x128x1, .i1⟩) (.of main_call8_c_3 : StableHlo.TRef sig ⟨S_, .i1⟩) (.of main_call8_v11 : StableHlo.TRef sig ⟨S16x128, .i1⟩) (fun x v => Host.reduce IntOp.andi x v reducesTo_S16x128x1_S16x128_d2 h_S_),
  StableHlo.TRef.binary (.of main_v144 : StableHlo.TRef sig ⟨S16x256x3, .f32⟩) (.of main_call8_v4 : StableHlo.TRef sig ⟨S16x128x1, .i32⟩) (.of main_call8_v12 : StableHlo.TRef sig ⟨S16x128x3, .f32⟩) (fun x i => Host.gather gather_S16x256x3_S16x128x1_S16x128x3_2_1_0_0_1_2_113 x i),
  StableHlo.TRef.unary (.of main_call8_v11 : StableHlo.TRef sig ⟨S16x128, .i1⟩) (.of main_call8_v13 : StableHlo.TRef sig ⟨S16x128x3, .i1⟩) (broadcastInDim S16x128x3 ![0, 1] bcast_S16x128_S16x128x3_0_1),
  StableHlo.TRef.nullary (.of main_call8_cst : StableHlo.TRef sig ⟨S_, .f32⟩) (constant S_ .f32 0x7FC00000#32),
  StableHlo.TRef.unary (.of main_call8_cst : StableHlo.TRef sig ⟨S_, .f32⟩) (.of main_call8_v14 : StableHlo.TRef sig ⟨S16x128x3, .f32⟩) (broadcastInDim S16x128x3 ![] bcast_S_S16x128x3),
  StableHlo.TRef.ternary (.of main_call8_v13 : StableHlo.TRef sig ⟨S16x128x3, .i1⟩) (.of main_call8_v12 : StableHlo.TRef sig ⟨S16x128x3, .f32⟩) (.of main_call8_v14 : StableHlo.TRef sig ⟨S16x128x3, .f32⟩) (.of main_v146 : StableHlo.TRef sig ⟨S16x128x3, .f32⟩) select ]
theorem refC29_sub : (refC29 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC29_W : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v146]
theorem refC29_writes : (refC29 : List (HloOp τ sig (Elt F))).map HloOp.writes = refC29_W.map fun w => {Proc.devRef (τ := τ) .tc w} := rfl
theorem refC29_fresh : ∀ op ∈ (refC29 : List (HloOp τ sig (Elt F))), op.fresh = ∅ := by
  intro _ h; (repeat (cases h with | head => rfl | tail _ h => ?_)); exact nomatch h

/-- Operations of the reference, stretch 30: up to `main_v148`. -/
abbrev refC30 : List (HloOp τ sig (Elt F)) := [
  StableHlo.binary main_v146 main_v146 main_v147 (mulf : (⟨S16x128x3, .f32⟩ : BufTy).Contents (Elt F) → (⟨S16x128x3, .f32⟩ : BufTy).Contents (Elt F) → (⟨S16x128x3, .f32⟩ : BufTy).Contents (Elt F)),
  StableHlo.nullary main_cst_26 (constant S_ .f32 0x00000000#32),
  StableHlo.binary main_v147 main_cst_26 main_v148 ((fun x v => Host.reduceAdd x v reducesTo_S16x128x3_S16x128_d2 h_S_) : (⟨S16x128x3, .f32⟩ : BufTy).Contents (Elt F) → (⟨S_, .f32⟩ : BufTy).Contents (Elt F) → (⟨S16x128, .f32⟩ : BufTy).Contents (Elt F)) ]
theorem refC30_sub : (refC30 : List (HloOp τ sig (Elt F))).Forall fun op => op.bufs ⊆ StableHlo.tcRefs τ sig :=
  ⟨StableHlo.binary_bufs_sub .., StableHlo.nullary_bufs_sub .., StableHlo.binary_bufs_sub ..⟩
abbrev refC30_W : List (Ref sig .tc) := [main_v147, main_cst_26, main_v148]
theorem refC30_writes : (refC30 : List (HloOp τ sig (Elt F))).map HloOp.writes = refC30_W.map fun w => {Proc.devRef (τ := τ) .tc w} := rfl
theorem refC30_fresh : ∀ op ∈ (refC30 : List (HloOp τ sig (Elt F))), op.fresh = ∅ := by
  intro _ h; (repeat (cases h with | head => rfl | tail _ h => ?_)); exact nomatch h

/-- Operations of the reference, stretch 31: up to `main_v162`. -/
abbrev refC31 : List (HloOp τ sig (Elt F)) := [
  StableHlo.unary main_v148 main_v149 (broadcastInDim S16x128x1 ![0, 1] bcast_S16x128_S16x128x1_0_1 : (⟨S16x128, .f32⟩ : BufTy).Contents (Elt F) → (⟨S16x128x1, .f32⟩ : BufTy).Contents (Elt F)),
  StableHlo.binary main_v144 main_v144 main_v150 (mulf : (⟨S16x256x3, .f32⟩ : BufTy).Contents (Elt F) → (⟨S16x256x3, .f32⟩ : BufTy).Contents (Elt F) → (⟨S16x256x3, .f32⟩ : BufTy).Contents (Elt F)),
  StableHlo.nullary main_cst_27 (constant S_ .f32 0x00000000#32),
  StableHlo.binary main_v150 main_cst_27 main_v151 ((fun x v => Host.reduceAdd x v reducesTo_S16x256x3_S16x256_d2 h_S_) : (⟨S16x256x3, .f32⟩ : BufTy).Contents (Elt F) → (⟨S_, .f32⟩ : BufTy).Contents (Elt F) → (⟨S16x256, .f32⟩ : BufTy).Contents (Elt F)),
  StableHlo.unary main_v151 main_v152 (broadcastInDim S16x1x256 ![0, 2] bcast_S16x256_S16x1x256_0_2 : (⟨S16x256, .f32⟩ : BufTy).Contents (Elt F) → (⟨S16x1x256, .f32⟩ : BufTy).Contents (Elt F)),
  StableHlo.unary main_v149 main_v153 (broadcastInDim S16x128x256 ![0, 1, 2] bcast_S16x128x1_S16x128x256_0_1_2 : (⟨S16x128x1, .f32⟩ : BufTy).Contents (Elt F) → (⟨S16x128x256, .f32⟩ : BufTy).Contents (Elt F)),
  StableHlo.unary main_v152 main_v154 (broadcastInDim S16x128x256 ![0, 1, 2] bcast_S16x1x256_S16x128x256_0_1_2 : (⟨S16x1x256, .f32⟩ : BufTy).Contents (Elt F) → (⟨S16x128x256, .f32⟩ : BufTy).Contents (Elt F)),
  StableHlo.binary main_v153 main_v154 main_v155 (addf : (⟨S16x128x256, .f32⟩ : BufTy).Contents (Elt F) → (⟨S16x128x256, .f32⟩ : BufTy).Contents (Elt F) → (⟨S16x128x256, .f32⟩ : BufTy).Contents (Elt F)),
  StableHlo.binary main_v146 main_v144 main_v156 ((fun l r => Host.dotGeneral dot_S16x128x3_S16x256x3_S16x128x256_2_2_1_1_0_0 none l r) : (⟨S16x128x3, .f32⟩ : BufTy).Contents (Elt F) → (⟨S16x256x3, .f32⟩ : BufTy).Contents (Elt F) → (⟨S16x128x256, .f32⟩ : BufTy).Contents (Elt F)),
  StableHlo.nullary main_cst_28 (constant S_ .f32 0x40000000#32),
  StableHlo.unary main_cst_28 main_v157 (broadcastInDim S16x128x256 ![] bcast_S_S16x128x256 : (⟨S_, .f32⟩ : BufTy).Contents (Elt F) → (⟨S16x128x256, .f32⟩ : BufTy).Contents (Elt F)),
  StableHlo.binary main_v157 main_v156 main_v158 (mulf : (⟨S16x128x256, .f32⟩ : BufTy).Contents (Elt F) → (⟨S16x128x256, .f32⟩ : BufTy).Contents (Elt F) → (⟨S16x128x256, .f32⟩ : BufTy).Contents (Elt F)),
  StableHlo.binary main_v155 main_v158 main_v159 (subf : (⟨S16x128x256, .f32⟩ : BufTy).Contents (Elt F) → (⟨S16x128x256, .f32⟩ : BufTy).Contents (Elt F) → (⟨S16x128x256, .f32⟩ : BufTy).Contents (Elt F)),
  StableHlo.unary main_v159 main_v160 (Host.negf : (⟨S16x128x256, .f32⟩ : BufTy).Contents (Elt F) → (⟨S16x128x256, .f32⟩ : BufTy).Contents (Elt F)),
  StableHlo.unary main_v160 main_values_29 ((fun x => (Host.topK S16x128x16 2 (FloatOps.cmpfTotal .gt) x sliceFits_S16x128x256_S16x128x16).1) : (⟨S16x128x256, .f32⟩ : BufTy).Contents (Elt F) → (⟨S16x128x16, .f32⟩ : BufTy).Contents (Elt F)),
  StableHlo.unary main_v160 main_indices_30 ((fun x => (Host.topK S16x128x16 2 (FloatOps.cmpfTotal .gt) x sliceFits_S16x128x256_S16x128x16).2) : (⟨S16x128x256, .f32⟩ : BufTy).Contents (Elt F) → (⟨S16x128x16, .i32⟩ : BufTy).Contents (Elt F)),
  StableHlo.unary main_v144 main_v161 (broadcastInDim S16x1x256x3 ![0, 2, 3] bcast_S16x256x3_S16x1x256x3_0_2_3 : (⟨S16x256x3, .f32⟩ : BufTy).Contents (Elt F) → (⟨S16x1x256x3, .f32⟩ : BufTy).Contents (Elt F)),
  StableHlo.reshape main_indices_30 main_v162 (rfl : (.i32 : EltTy) = .i32) shapeCasts_S16x128x16_S16x1x2048x1 ]
theorem refC31_sub : (refC31 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.reshape_bufs_sub ..⟩
abbrev refC31_W : List (Ref sig .tc) := [main_v149, main_v150, main_cst_27, main_v151, main_v152, main_v153, main_v154, main_v155, main_v156, main_cst_28, main_v157, main_v158, main_v159, main_v160, main_values_29, main_indices_30, main_v161, main_v162]
theorem refC31_writes : (refC31 : List (HloOp τ sig (Elt F))).map HloOp.writes = refC31_W.map fun w => {Proc.devRef (τ := τ) .tc w} := rfl
theorem refC31_fresh : ∀ op ∈ (refC31 : List (HloOp τ sig (Elt F))), op.fresh = ∅ := by
  intro _ h; (repeat (cases h with | head => rfl | tail _ h => ?_)); exact nomatch h

/-- Operations of the reference, stretch 32: up to `main_v163`. -/
abbrev refC32 : List (HloOp τ sig (Elt F)) := [
  StableHlo.TRef.nullary (.of main_call9_c : StableHlo.TRef sig ⟨S_, .i32⟩) (constantI S_ 32 0#32),
  StableHlo.TRef.unary (.of main_call9_c : StableHlo.TRef sig ⟨S_, .i32⟩) (.of main_call9_v0 : StableHlo.TRef sig ⟨S16x1x2048x1, .i32⟩) (broadcastInDim S16x1x2048x1 ![] bcast_S_S16x1x2048x1),
  StableHlo.TRef.binary (.of main_v162 : StableHlo.TRef sig ⟨S16x1x2048x1, .i32⟩) (.of main_call9_v0 : StableHlo.TRef sig ⟨S16x1x2048x1, .i32⟩) (.of main_call9_v1 : StableHlo.TRef sig ⟨S16x1x2048x1, .i1⟩) (cmpi .slt),
  StableHlo.TRef.nullary (.of main_call9_c_0 : StableHlo.TRef sig ⟨S_, .i32⟩) (constantI S_ 32 256#32),
  StableHlo.TRef.unary (.of main_call9_c_0 : StableHlo.TRef sig ⟨S_, .i32⟩) (.of main_call9_v2 : StableHlo.TRef sig ⟨S16x1x2048x1, .i32⟩) (broadcastInDim S16x1x2048x1 ![] bcast_S_S16x1x2048x1),
  StableHlo.TRef.binary (.of main_v162 : StableHlo.TRef sig ⟨S16x1x2048x1, .i32⟩) (.of main_call9_v2 : StableHlo.TRef sig ⟨S16x1x2048x1, .i32⟩) (.of main_call9_v3 : StableHlo.TRef sig ⟨S16x1x2048x1, .i32⟩) addi,
  StableHlo.TRef.ternary (.of main_call9_v1 : StableHlo.TRef sig ⟨S16x1x2048x1, .i1⟩) (.of main_call9_v3 : StableHlo.TRef sig ⟨S16x1x2048x1, .i32⟩) (.of main_v162 : StableHlo.TRef sig ⟨S16x1x2048x1, .i32⟩) (.of main_call9_v4 : StableHlo.TRef sig ⟨S16x1x2048x1, .i32⟩) select,
  StableHlo.TRef.reshape (.of main_call9_v4 : StableHlo.TRef sig ⟨S16x1x2048x1, .i32⟩) (.of main_call9_v5 : StableHlo.TRef sig ⟨S16x2048x1, .i32⟩) (rfl : (.i32 : EltTy) = .i32) shapeCasts_S16x1x2048x1_S16x2048x1,
  StableHlo.TRef.nullary (.of main_call9_c_1 : StableHlo.TRef sig ⟨S1, .i32⟩) (constantI S1 32 255#32),
  StableHlo.TRef.nullary (.of main_call9_c_2 : StableHlo.TRef sig ⟨S_, .i32⟩) (constantI S_ 32 0#32),
  StableHlo.TRef.unary (.of main_call9_c_2 : StableHlo.TRef sig ⟨S_, .i32⟩) (.of main_call9_v6 : StableHlo.TRef sig ⟨S16x2048x1, .i32⟩) (broadcastInDim S16x2048x1 ![] bcast_S_S16x2048x1),
  StableHlo.TRef.binary (.of main_call9_v5 : StableHlo.TRef sig ⟨S16x2048x1, .i32⟩) (.of main_call9_v6 : StableHlo.TRef sig ⟨S16x2048x1, .i32⟩) (.of main_call9_v7 : StableHlo.TRef sig ⟨S16x2048x1, .i1⟩) (cmpi .sge),
  StableHlo.TRef.unary (.of main_call9_c_1 : StableHlo.TRef sig ⟨S1, .i32⟩) (.of main_call9_v8 : StableHlo.TRef sig ⟨S1x1x1, .i32⟩) (broadcastInDim S1x1x1 ![2] bcast_S1_S1x1x1_2),
  StableHlo.TRef.unary (.of main_call9_v8 : StableHlo.TRef sig ⟨S1x1x1, .i32⟩) (.of main_call9_v9 : StableHlo.TRef sig ⟨S16x2048x1, .i32⟩) (broadcastInDim S16x2048x1 ![0, 1, 2] bcast_S1x1x1_S16x2048x1_0_1_2),
  StableHlo.TRef.binary (.of main_call9_v5 : StableHlo.TRef sig ⟨S16x2048x1, .i32⟩) (.of main_call9_v9 : StableHlo.TRef sig ⟨S16x2048x1, .i32⟩) (.of main_call9_v10 : StableHlo.TRef sig ⟨S16x2048x1, .i1⟩) (cmpi .sle),
  StableHlo.TRef.binary (.of main_call9_v7 : StableHlo.TRef sig ⟨S16x2048x1, .i1⟩) (.of main_call9_v10 : StableHlo.TRef sig ⟨S16x2048x1, .i1⟩) (.of main_call9_v11 : StableHlo.TRef sig ⟨S16x2048x1, .i1⟩) andi,
  StableHlo.TRef.nullary (.of main_call9_c_3 : StableHlo.TRef sig ⟨S_, .i1⟩) (constantI S_ 1 1#1),
  StableHlo.TRef.binary (.of main_call9_v11 : StableHlo.TRef sig ⟨S16x2048x1, .i1⟩) (.of main_call9_c_3 : StableHlo.TRef sig ⟨S_, .i1⟩) (.of main_call9_v12 : StableHlo.TRef sig ⟨S16x2048, .i1⟩) (fun x v => Host.reduce IntOp.andi x v reducesTo_S16x2048x1_S16x2048_d2 h_S_),
  StableHlo.TRef.binary (.of main_v161 : StableHlo.TRef sig ⟨S16x1x256x3, .f32⟩) (.of main_call9_v5 : StableHlo.TRef sig ⟨S16x2048x1, .i32⟩) (.of main_call9_v13 : StableHlo.TRef sig ⟨S16x1x2048x3, .f32⟩) (fun x i => Host.gather gather_S16x1x256x3_S16x2048x1_S16x1x2048x3_13_2_0_0_2_2_1113 x i),
  StableHlo.TRef.unary (.of main_call9_v12 : StableHlo.TRef sig ⟨S16x2048, .i1⟩) (.of main_call9_v14 : StableHlo.TRef sig ⟨S16x1x2048x3, .i1⟩) (broadcastInDim S16x1x2048x3 ![0, 2] bcast_S16x2048_S16x1x2048x3_0_2),
  StableHlo.TRef.nullary (.of main_call9_cst : StableHlo.TRef sig ⟨S_, .f32⟩) (constant S_ .f32 0x7FC00000#32),
  StableHlo.TRef.unary (.of main_call9_cst : StableHlo.TRef sig ⟨S_, .f32⟩) (.of main_call9_v15 : StableHlo.TRef sig ⟨S16x1x2048x3, .f32⟩) (broadcastInDim S16x1x2048x3 ![] bcast_S_S16x1x2048x3),
  StableHlo.TRef.ternary (.of main_call9_v14 : StableHlo.TRef sig ⟨S16x1x2048x3, .i1⟩) (.of main_call9_v13 : StableHlo.TRef sig ⟨S16x1x2048x3, .f32⟩) (.of main_call9_v15 : StableHlo.TRef sig ⟨S16x1x2048x3, .f32⟩) (.of main_v163 : StableHlo.TRef sig ⟨S16x1x2048x3, .f32⟩) select ]
theorem refC32_sub : (refC32 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC32_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v163]
theorem refC32_writes : (refC32 : List (HloOp τ sig (Elt F))).map HloOp.writes = refC32_W.map fun w => {Proc.devRef (τ := τ) .tc w} := rfl
theorem refC32_fresh : ∀ op ∈ (refC32 : List (HloOp τ sig (Elt F))), op.fresh = ∅ := by
  intro _ h; (repeat (cases h with | head => rfl | tail _ h => ?_)); exact nomatch h

/-- Operations of the reference, stretch 33: up to `main_v169`. -/
abbrev refC33 : List (HloOp τ sig (Elt F)) := [
  StableHlo.unary main_v146 main_v164 (broadcastInDim S16x1x128x3 ![0, 2, 3] bcast_S16x128x3_S16x1x128x3_0_2_3 : (⟨S16x128x3, .f32⟩ : BufTy).Contents (Elt F) → (⟨S16x1x128x3, .f32⟩ : BufTy).Contents (Elt F)),
  StableHlo.unary main_v164 main_v165 (broadcastInDim S16x1x128x1x3 ![0, 1, 2, 4] bcast_S16x1x128x3_S16x1x128x1x3_0_1_2_4 : (⟨S16x1x128x3, .f32⟩ : BufTy).Contents (Elt F) → (⟨S16x1x128x1x3, .f32⟩ : BufTy).Contents (Elt F)),
  StableHlo.reshape main_v163 main_v166 (rfl : (.f32 : EltTy) = .f32) shapeCasts_S16x1x2048x3_S16x1x128x16x3,
  StableHlo.unary main_v165 main_v167 (broadcastInDim S16x1x128x16x3 ![0, 1, 2, 3, 4] bcast_S16x1x128x1x3_S16x1x128x16x3_0_1_2_3_4 : (⟨S16x1x128x1x3, .f32⟩ : BufTy).Contents (Elt F) → (⟨S16x1x128x16x3, .f32⟩ : BufTy).Contents (Elt F)),
  StableHlo.binary main_v166 main_v167 main_v168 (subf : (⟨S16x1x128x16x3, .f32⟩ : BufTy).Contents (Elt F) → (⟨S16x1x128x16x3, .f32⟩ : BufTy).Contents (Elt F) → (⟨S16x1x128x16x3, .f32⟩ : BufTy).Contents (Elt F)),
  StableHlo.reshape main_indices_30 main_v169 (rfl : (.i32 : EltTy) = .i32) shapeCasts_S16x128x16_S16x1x2048x1 ]
theorem refC33_sub : (refC33 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.reshape_bufs_sub ..⟩
abbrev refC33_W : List (Ref sig .tc) := [main_v164, main_v165, main_v166, main_v167, main_v168, main_v169]
theorem refC33_writes : (refC33 : List (HloOp τ sig (Elt F))).map HloOp.writes = refC33_W.map fun w => {Proc.devRef (τ := τ) .tc w} := rfl
theorem refC33_fresh : ∀ op ∈ (refC33 : List (HloOp τ sig (Elt F))), op.fresh = ∅ := by
  intro _ h; (repeat (cases h with | head => rfl | tail _ h => ?_)); exact nomatch h

/-- Operations of the reference, stretch 34: up to `main_v170`. -/
abbrev refC34 : List (HloOp τ sig (Elt F)) := [
  StableHlo.TRef.nullary (.of main_call10_c : StableHlo.TRef sig ⟨S_, .i32⟩) (constantI S_ 32 0#32),
  StableHlo.TRef.unary (.of main_call10_c : StableHlo.TRef sig ⟨S_, .i32⟩) (.of main_call10_v0 : StableHlo.TRef sig ⟨S16x1x2048x1, .i32⟩) (broadcastInDim S16x1x2048x1 ![] bcast_S_S16x1x2048x1),
  StableHlo.TRef.binary (.of main_v169 : StableHlo.TRef sig ⟨S16x1x2048x1, .i32⟩) (.of main_call10_v0 : StableHlo.TRef sig ⟨S16x1x2048x1, .i32⟩) (.of main_call10_v1 : StableHlo.TRef sig ⟨S16x1x2048x1, .i1⟩) (cmpi .slt),
  StableHlo.TRef.nullary (.of main_call10_c_0 : StableHlo.TRef sig ⟨S_, .i32⟩) (constantI S_ 32 256#32),
  StableHlo.TRef.unary (.of main_call10_c_0 : StableHlo.TRef sig ⟨S_, .i32⟩) (.of main_call10_v2 : StableHlo.TRef sig ⟨S16x1x2048x1, .i32⟩) (broadcastInDim S16x1x2048x1 ![] bcast_S_S16x1x2048x1),
  StableHlo.TRef.binary (.of main_v169 : StableHlo.TRef sig ⟨S16x1x2048x1, .i32⟩) (.of main_call10_v2 : StableHlo.TRef sig ⟨S16x1x2048x1, .i32⟩) (.of main_call10_v3 : StableHlo.TRef sig ⟨S16x1x2048x1, .i32⟩) addi,
  StableHlo.TRef.ternary (.of main_call10_v1 : StableHlo.TRef sig ⟨S16x1x2048x1, .i1⟩) (.of main_call10_v3 : StableHlo.TRef sig ⟨S16x1x2048x1, .i32⟩) (.of main_v169 : StableHlo.TRef sig ⟨S16x1x2048x1, .i32⟩) (.of main_call10_v4 : StableHlo.TRef sig ⟨S16x1x2048x1, .i32⟩) select,
  StableHlo.TRef.reshape (.of main_call10_v4 : StableHlo.TRef sig ⟨S16x1x2048x1, .i32⟩) (.of main_call10_v5 : StableHlo.TRef sig ⟨S16x2048x1, .i32⟩) (rfl : (.i32 : EltTy) = .i32) shapeCasts_S16x1x2048x1_S16x2048x1,
  StableHlo.TRef.nullary (.of main_call10_c_1 : StableHlo.TRef sig ⟨S1, .i32⟩) (constantI S1 32 255#32),
  StableHlo.TRef.nullary (.of main_call10_c_2 : StableHlo.TRef sig ⟨S_, .i32⟩) (constantI S_ 32 0#32),
  StableHlo.TRef.unary (.of main_call10_c_2 : StableHlo.TRef sig ⟨S_, .i32⟩) (.of main_call10_v6 : StableHlo.TRef sig ⟨S16x2048x1, .i32⟩) (broadcastInDim S16x2048x1 ![] bcast_S_S16x2048x1),
  StableHlo.TRef.binary (.of main_call10_v5 : StableHlo.TRef sig ⟨S16x2048x1, .i32⟩) (.of main_call10_v6 : StableHlo.TRef sig ⟨S16x2048x1, .i32⟩) (.of main_call10_v7 : StableHlo.TRef sig ⟨S16x2048x1, .i1⟩) (cmpi .sge),
  StableHlo.TRef.unary (.of main_call10_c_1 : StableHlo.TRef sig ⟨S1, .i32⟩) (.of main_call10_v8 : StableHlo.TRef sig ⟨S1x1x1, .i32⟩) (broadcastInDim S1x1x1 ![2] bcast_S1_S1x1x1_2),
  StableHlo.TRef.unary (.of main_call10_v8 : StableHlo.TRef sig ⟨S1x1x1, .i32⟩) (.of main_call10_v9 : StableHlo.TRef sig ⟨S16x2048x1, .i32⟩) (broadcastInDim S16x2048x1 ![0, 1, 2] bcast_S1x1x1_S16x2048x1_0_1_2),
  StableHlo.TRef.binary (.of main_call10_v5 : StableHlo.TRef sig ⟨S16x2048x1, .i32⟩) (.of main_call10_v9 : StableHlo.TRef sig ⟨S16x2048x1, .i32⟩) (.of main_call10_v10 : StableHlo.TRef sig ⟨S16x2048x1, .i1⟩) (cmpi .sle),
  StableHlo.TRef.binary (.of main_call10_v7 : StableHlo.TRef sig ⟨S16x2048x1, .i1⟩) (.of main_call10_v10 : StableHlo.TRef sig ⟨S16x2048x1, .i1⟩) (.of main_call10_v11 : StableHlo.TRef sig ⟨S16x2048x1, .i1⟩) andi,
  StableHlo.TRef.nullary (.of main_call10_c_3 : StableHlo.TRef sig ⟨S_, .i1⟩) (constantI S_ 1 1#1),
  StableHlo.TRef.binary (.of main_call10_v11 : StableHlo.TRef sig ⟨S16x2048x1, .i1⟩) (.of main_call10_c_3 : StableHlo.TRef sig ⟨S_, .i1⟩) (.of main_call10_v12 : StableHlo.TRef sig ⟨S16x2048, .i1⟩) (fun x v => Host.reduce IntOp.andi x v reducesTo_S16x2048x1_S16x2048_d2 h_S_),
  StableHlo.TRef.binary (.of main_v142 : StableHlo.TRef sig ⟨S16x128x256x3, .f32⟩) (.of main_call10_v5 : StableHlo.TRef sig ⟨S16x2048x1, .i32⟩) (.of main_call10_v13 : StableHlo.TRef sig ⟨S16x128x2048x3, .f32⟩) (fun x i => Host.gather gather_S16x128x256x3_S16x2048x1_S16x128x2048x3_13_2_0_0_2_2_112813 x i),
  StableHlo.TRef.unary (.of main_call10_v12 : StableHlo.TRef sig ⟨S16x2048, .i1⟩) (.of main_call10_v14 : StableHlo.TRef sig ⟨S16x128x2048x3, .i1⟩) (broadcastInDim S16x128x2048x3 ![0, 2] bcast_S16x2048_S16x128x2048x3_0_2),
  StableHlo.TRef.nullary (.of main_call10_cst : StableHlo.TRef sig ⟨S_, .f32⟩) (constant S_ .f32 0x7FC00000#32),
  StableHlo.TRef.unary (.of main_call10_cst : StableHlo.TRef sig ⟨S_, .f32⟩) (.of main_call10_v15 : StableHlo.TRef sig ⟨S16x128x2048x3, .f32⟩) (broadcastInDim S16x128x2048x3 ![] bcast_S_S16x128x2048x3),
  StableHlo.TRef.ternary (.of main_call10_v14 : StableHlo.TRef sig ⟨S16x128x2048x3, .i1⟩) (.of main_call10_v13 : StableHlo.TRef sig ⟨S16x128x2048x3, .f32⟩) (.of main_call10_v15 : StableHlo.TRef sig ⟨S16x128x2048x3, .f32⟩) (.of main_v170 : StableHlo.TRef sig ⟨S16x128x2048x3, .f32⟩) select ]
theorem refC34_sub : (refC34 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC34_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v170]
theorem refC34_writes : (refC34 : List (HloOp τ sig (Elt F))).map HloOp.writes = refC34_W.map fun w => {Proc.devRef (τ := τ) .tc w} := rfl
theorem refC34_fresh : ∀ op ∈ (refC34 : List (HloOp τ sig (Elt F))), op.fresh = ∅ := by
  intro _ h; (repeat (cases h with | head => rfl | tail _ h => ?_)); exact nomatch h

/-- Operations of the reference, stretch 35: up to `main_v172`. -/
abbrev refC35 : List (HloOp τ sig (Elt F)) := [
  StableHlo.reshape main_v170 main_v171 (rfl : (.f32 : EltTy) = .f32) shapeCasts_S16x128x2048x3_S16x128x128x16x3,
  StableHlo.binary main_v168 main_v171 main_v172 ((fun a b => concatenate S16x129x128x16x3 1 [⟨S16x1x128x16x3, a⟩, ⟨S16x128x128x16x3, b⟩] concatenates_S16x1x128x16x3_S16x128x128x16x3_S16x129x128x16x3_d1) : (⟨S16x1x128x16x3, .f32⟩ : BufTy).Contents (Elt F) → (⟨S16x128x128x16x3, .f32⟩ : BufTy).Contents (Elt F) → (⟨S16x129x128x16x3, .f32⟩ : BufTy).Contents (Elt F)) ]
theorem refC35_sub : (refC35 : List (HloOp τ sig (Elt F))).Forall fun op => op.bufs ⊆ StableHlo.tcRefs τ sig :=
  ⟨StableHlo.reshape_bufs_sub .., StableHlo.binary_bufs_sub ..⟩
abbrev refC35_W : List (Ref sig .tc) := [main_v171, main_v172]
theorem refC35_writes : (refC35 : List (HloOp τ sig (Elt F))).map HloOp.writes = refC35_W.map fun w => {Proc.devRef (τ := τ) .tc w} := rfl
theorem refC35_fresh : ∀ op ∈ (refC35 : List (HloOp τ sig (Elt F))), op.fresh = ∅ := by
  intro _ h; (repeat (cases h with | head => rfl | tail _ h => ?_)); exact nomatch h

/-- Operations of the reference, stretch 36: up to `main_v174`. -/
abbrev refC36 : List (HloOp τ sig (Elt F)) := [
  StableHlo.binary main_v172 main_arg11 main_v173 ((fun l r => Host.dotGeneral dot_S16x129x128x16x3_S128x129_S16x128x16x3x128_1_1_0234_0_n_n none l r) : (⟨S16x129x128x16x3, .f32⟩ : BufTy).Contents (Elt F) → (⟨S128x129, .f32⟩ : BufTy).Contents (Elt F) → (⟨S16x128x16x3x128, .f32⟩ : BufTy).Contents (Elt F)),
  StableHlo.unary main_v173 main_v174 ((transpose S16x128x128x16x3 [0, 4, 1, 2, 3] · transposes_S16x128x16x3x128_S16x128x128x16x3_0_4_1_2_3) : (⟨S16x128x16x3x128, .f32⟩ : BufTy).Contents (Elt F) → (⟨S16x128x128x16x3, .f32⟩ : BufTy).Contents (Elt F)) ]
theorem refC36_sub : (refC36 : List (HloOp τ sig (Elt F))).Forall fun op => op.bufs ⊆ StableHlo.tcRefs τ sig :=
  ⟨StableHlo.binary_bufs_sub .., StableHlo.unary_bufs_sub ..⟩
abbrev refC36_W : List (Ref sig .tc) := [main_v173, main_v174]
theorem refC36_writes : (refC36 : List (HloOp τ sig (Elt F))).map HloOp.writes = refC36_W.map fun w => {Proc.devRef (τ := τ) .tc w} := rfl
theorem refC36_fresh : ∀ op ∈ (refC36 : List (HloOp τ sig (Elt F))), op.fresh = ∅ := by
  intro _ h; (repeat (cases h with | head => rfl | tail _ h => ?_)); exact nomatch h

/-- Operations of the reference, stretch 37: up to `main_v175`. -/
abbrev refC37 : List (HloOp τ sig (Elt F)) := [
  StableHlo.TRef.binary (.of main_v174 : StableHlo.TRef sig ⟨S16x128x128x16x3, .f32⟩) (.of main_v174 : StableHlo.TRef sig ⟨S16x128x128x16x3, .f32⟩) (.of main_call11_v0 : StableHlo.TRef sig ⟨S16x128x128x16x3, .f32⟩) mulf,
  StableHlo.TRef.nullary (.of main_call11_cst : StableHlo.TRef sig ⟨S_, .f32⟩) (constant S_ .f32 0x00000000#32),
  StableHlo.TRef.binary (.of main_call11_v0 : StableHlo.TRef sig ⟨S16x128x128x16x3, .f32⟩) (.of main_call11_cst : StableHlo.TRef sig ⟨S_, .f32⟩) (.of main_call11_v1 : StableHlo.TRef sig ⟨S16x128x128x16, .f32⟩) (fun x v => Host.reduceAdd x v reducesTo_S16x128x128x16x3_S16x128x128x16_d4 h_S_),
  StableHlo.TRef.unary (.of main_call11_v1 : StableHlo.TRef sig ⟨S16x128x128x16, .f32⟩) (.of main_call11_v2 : StableHlo.TRef sig ⟨S16x128x128x16x1, .f32⟩) (broadcastInDim S16x128x128x16x1 ![0, 1, 2, 3] bcast_S16x128x128x16_S16x128x128x16x1_0_1_2_3),
  StableHlo.TRef.unary (.of main_call11_v2 : StableHlo.TRef sig ⟨S16x128x128x16x1, .f32⟩) (.of main_v175 : StableHlo.TRef sig ⟨S16x128x128x16x1, .f32⟩) Host.sqrt ]
theorem refC37_sub : (refC37 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev refC37_W : List (Ref sig .tc) := [main_call11_v0, main_call11_cst, main_call11_v1, main_call11_v2, main_v175]
theorem refC37_writes : (refC37 : List (HloOp τ sig (Elt F))).map HloOp.writes = refC37_W.map fun w => {Proc.devRef (τ := τ) .tc w} := rfl
theorem refC37_fresh : ∀ op ∈ (refC37 : List (HloOp τ sig (Elt F))), op.fresh = ∅ := by
  intro _ h; (repeat (cases h with | head => rfl | tail _ h => ?_)); exact nomatch h

/-- Operations of the reference, stretch 38: up to `main_v177`. -/
abbrev refC38 : List (HloOp τ sig (Elt F)) := [
  StableHlo.nullary main_cst_31 (constant S_ .f32 0x358637BD#32),
  StableHlo.unary main_cst_31 main_v176 (broadcastInDim S16x128x128x16x1 ![] bcast_S_S16x128x128x16x1 : (⟨S_, .f32⟩ : BufTy).Contents (Elt F) → (⟨S16x128x128x16x1, .f32⟩ : BufTy).Contents (Elt F)),
  StableHlo.binary main_v175 main_v176 main_v177 (addf : (⟨S16x128x128x16x1, .f32⟩ : BufTy).Contents (Elt F) → (⟨S16x128x128x16x1, .f32⟩ : BufTy).Contents (Elt F) → (⟨S16x128x128x16x1, .f32⟩ : BufTy).Contents (Elt F)) ]
theorem refC38_sub : (refC38 : List (HloOp τ sig (Elt F))).Forall fun op => op.bufs ⊆ StableHlo.tcRefs τ sig :=
  ⟨StableHlo.nullary_bufs_sub .., StableHlo.unary_bufs_sub .., StableHlo.binary_bufs_sub ..⟩
abbrev refC38_W : List (Ref sig .tc) := [main_cst_31, main_v176, main_v177]
theorem refC38_writes : (refC38 : List (HloOp τ sig (Elt F))).map HloOp.writes = refC38_W.map fun w => {Proc.devRef (τ := τ) .tc w} := rfl
theorem refC38_fresh : ∀ op ∈ (refC38 : List (HloOp τ sig (Elt F))), op.fresh = ∅ := by
  intro _ h; (repeat (cases h with | head => rfl | tail _ h => ?_)); exact nomatch h

/-- Operations of the reference, stretch 39: up to `main_v181`. -/
abbrev refC39 : List (HloOp τ sig (Elt F)) := [
  StableHlo.nullary main_cst_32 (constant S_ .f32 0x00000000#32),
  StableHlo.binary main_v177 main_cst_32 main_v178 ((fun x v => Host.reduceAdd x v reducesTo_S16x128x128x16x1_S128_d0_2_3_4 h_S_) : (⟨S16x128x128x16x1, .f32⟩ : BufTy).Contents (Elt F) → (⟨S_, .f32⟩ : BufTy).Contents (Elt F) → (⟨S128, .f32⟩ : BufTy).Contents (Elt F)),
  StableHlo.unary main_v178 main_v179 (broadcastInDim S1x128x1x1x1 ![1] bcast_S128_S1x128x1x1x1_1 : (⟨S128, .f32⟩ : BufTy).Contents (Elt F) → (⟨S1x128x1x1x1, .f32⟩ : BufTy).Contents (Elt F)),
  StableHlo.nullary main_cst_33 (constant S_ .f32 0x47000000#32),
  StableHlo.unary main_cst_33 main_v180 (broadcastInDim S1x128x1x1x1 ![] bcast_S_S1x128x1x1x1 : (⟨S_, .f32⟩ : BufTy).Contents (Elt F) → (⟨S1x128x1x1x1, .f32⟩ : BufTy).Contents (Elt F)),
  StableHlo.binary main_v179 main_v180 main_v181 (Host.divf : (⟨S1x128x1x1x1, .f32⟩ : BufTy).Contents (Elt F) → (⟨S1x128x1x1x1, .f32⟩ : BufTy).Contents (Elt F) → (⟨S1x128x1x1x1, .f32⟩ : BufTy).Contents (Elt F)) ]
theorem refC39_sub : (refC39 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub ..⟩
abbrev refC39_W : List (Ref sig .tc) := [main_cst_32, main_v178, main_v179, main_cst_33, main_v180, main_v181]
theorem refC39_writes : (refC39 : List (HloOp τ sig (Elt F))).map HloOp.writes = refC39_W.map fun w => {Proc.devRef (τ := τ) .tc w} := rfl
theorem refC39_fresh : ∀ op ∈ (refC39 : List (HloOp τ sig (Elt F))), op.fresh = ∅ := by
  intro _ h; (repeat (cases h with | head => rfl | tail _ h => ?_)); exact nomatch h

/-- Operations of the reference, stretch 40: up to `main_c_34`. -/
abbrev refC40 : List (HloOp τ sig (Elt F)) := [
  StableHlo.nullary main_c_34 (constantI S_ 32 0#32) ]
theorem refC40_sub : (refC40 : List (HloOp τ sig (Elt F))).Forall fun op => op.bufs ⊆ StableHlo.tcRefs τ sig :=
  StableHlo.nullary_bufs_sub ..
abbrev refC40_W : List (Ref sig .tc) := [main_c_34]
theorem refC40_writes : (refC40 : List (HloOp τ sig (Elt F))).map HloOp.writes = refC40_W.map fun w => {Proc.devRef (τ := τ) .tc w} := rfl
theorem refC40_fresh : ∀ op ∈ (refC40 : List (HloOp τ sig (Elt F))), op.fresh = ∅ := by
  intro _ h; (repeat (cases h with | head => rfl | tail _ h => ?_)); exact nomatch h

/-- Operations of the reference, stretch 41: up to `main_v182`. -/
abbrev refC41 : List (HloOp τ sig (Elt F)) := [
  StableHlo.TRef.nullary (.of main_call12_cst : StableHlo.TRef sig ⟨S_, .f32⟩) (constant S_ .f32 0x00000000#32),
  StableHlo.TRef.binary (.of main_v177 : StableHlo.TRef sig ⟨S16x128x128x16x1, .f32⟩) (.of main_call12_cst : StableHlo.TRef sig ⟨S_, .f32⟩) (.of main_call12_v0 : StableHlo.TRef sig ⟨S128, .f32⟩) (fun x v => Host.reduceAdd x v reducesTo_S16x128x128x16x1_S128_d0_2_3_4 h_S_),
  StableHlo.TRef.unary (.of main_call12_v0 : StableHlo.TRef sig ⟨S128, .f32⟩) (.of main_call12_v1 : StableHlo.TRef sig ⟨S1x128x1x1x1, .f32⟩) (broadcastInDim S1x128x1x1x1 ![1] bcast_S128_S1x128x1x1x1_1),
  StableHlo.TRef.nullary (.of main_call12_cst_0 : StableHlo.TRef sig ⟨S_, .f32⟩) (constant S_ .f32 0x47000000#32),
  StableHlo.TRef.unary (.of main_call12_cst_0 : StableHlo.TRef sig ⟨S_, .f32⟩) (.of main_call12_v2 : StableHlo.TRef sig ⟨S1x128x1x1x1, .f32⟩) (broadcastInDim S1x128x1x1x1 ![] bcast_S_S1x128x1x1x1),
  StableHlo.TRef.binary (.of main_call12_v1 : StableHlo.TRef sig ⟨S1x128x1x1x1, .f32⟩) (.of main_call12_v2 : StableHlo.TRef sig ⟨S1x128x1x1x1, .f32⟩) (.of main_call12_v3 : StableHlo.TRef sig ⟨S1x128x1x1x1, .f32⟩) Host.divf,
  StableHlo.TRef.unary (.of main_call12_v3 : StableHlo.TRef sig ⟨S1x128x1x1x1, .f32⟩) (.of main_call12_v4 : StableHlo.TRef sig ⟨S16x128x128x16x1, .f32⟩) (broadcastInDim S16x128x128x16x1 ![0, 1, 2, 3, 4] bcast_S1x128x1x1x1_S16x128x128x16x1_0_1_2_3_4),
  StableHlo.TRef.binary (.of main_v177 : StableHlo.TRef sig ⟨S16x128x128x16x1, .f32⟩) (.of main_call12_v4 : StableHlo.TRef sig ⟨S16x128x128x16x1, .f32⟩) (.of main_call12_v5 : StableHlo.TRef sig ⟨S16x128x128x16x1, .f32⟩) subf,
  StableHlo.TRef.binary (.of main_call12_v5 : StableHlo.TRef sig ⟨S16x128x128x16x1, .f32⟩) (.of main_call12_v5 : StableHlo.TRef sig ⟨S16x128x128x16x1, .f32⟩) (.of main_call12_v6 : StableHlo.TRef sig ⟨S16x128x128x16x1, .f32⟩) mulf,
  StableHlo.TRef.unary (.of main_c_34 : StableHlo.TRef sig ⟨S_, .i32⟩) (.of main_call12_v7 : StableHlo.TRef sig ⟨S_, .f32⟩) (sitofp .f32),
  StableHlo.TRef.nullary (.of main_call12_cst_1 : StableHlo.TRef sig ⟨S_, .f32⟩) (constant S_ .f32 0x47000000#32),
  StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
  StableHlo.TRef.nullary (.of main_call12_cst_2 : StableHlo.TRef sig ⟨S_, .f32⟩) (constant S_ .f32 0x00000000#32),
  StableHlo.TRef.binary (.of main_call12_v6 : StableHlo.TRef sig ⟨S16x128x128x16x1, .f32⟩) (.of main_call12_cst_2 : StableHlo.TRef sig ⟨S_, .f32⟩) (.of main_call12_v9 : StableHlo.TRef sig ⟨S128, .f32⟩) (fun x v => Host.reduceAdd x v reducesTo_S16x128x128x16x1_S128_d0_2_3_4 h_S_),
  StableHlo.TRef.unary (.of main_call12_v9 : StableHlo.TRef sig ⟨S128, .f32⟩) (.of main_call12_v10 : StableHlo.TRef sig ⟨S1x128x1x1x1, .f32⟩) (broadcastInDim S1x128x1x1x1 ![1] bcast_S128_S1x128x1x1x1_1),
  StableHlo.TRef.unary (.of main_call12_v8 : StableHlo.TRef sig ⟨S_, .f32⟩) (.of main_call12_v11 : StableHlo.TRef sig ⟨S1x128x1x1x1, .f32⟩) (broadcastInDim S1x128x1x1x1 ![] bcast_S_S1x128x1x1x1),
  StableHlo.TRef.binary (.of main_call12_v10 : StableHlo.TRef sig ⟨S1x128x1x1x1, .f32⟩) (.of main_call12_v11 : StableHlo.TRef sig ⟨S1x128x1x1x1, .f32⟩) (.of main_call12_v12 : StableHlo.TRef sig ⟨S1x128x1x1x1, .f32⟩) Host.divf,
  StableHlo.TRef.nullary (.of main_call12_cst_3 : StableHlo.TRef sig ⟨S_, .f32⟩) (constant S_ .f32 0x00000000#32),
  StableHlo.TRef.binary (.of main_call12_v8 : StableHlo.TRef sig ⟨S_, .f32⟩) (.of main_call12_cst_3 : StableHlo.TRef sig ⟨S_, .f32⟩) (.of main_call12_v13 : StableHlo.TRef sig ⟨S_, .i1⟩) (cmpf .ogt),
  StableHlo.TRef.nullary (.of main_call12_cst_4 : StableHlo.TRef sig ⟨S_, .f32⟩) (constant S_ .f32 0x7FC00000#32),
  StableHlo.TRef.unary (.of main_call12_cst_4 : StableHlo.TRef sig ⟨S_, .f32⟩) (.of main_call12_call0_v0 : StableHlo.TRef sig ⟨S_, .f32⟩) id,
  StableHlo.TRef.unary (.of main_call12_call0_v0 : StableHlo.TRef sig ⟨S_, .f32⟩) (.of main_call12_call0_v1 : StableHlo.TRef sig ⟨S1x128x1x1x1, .f32⟩) (broadcastInDim S1x128x1x1x1 ![] bcast_S_S1x128x1x1x1),
  StableHlo.TRef.ternary (.of main_call12_v13 : StableHlo.TRef sig ⟨S_, .i1⟩) (.of main_call12_v12 : StableHlo.TRef sig ⟨S1x128x1x1x1, .f32⟩) (.of main_call12_call0_v1 : StableHlo.TRef sig ⟨S1x128x1x1x1, .f32⟩) (.of main_v182 : StableHlo.TRef sig ⟨S1x128x1x1x1, .f32⟩) (fun p a b => select (broadcastInDim S1x128x1x1x1 ![] bcast_S_S1x128x1x1x1 p) a b) ]
theorem refC41_sub : (refC41 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
abbrev refC41_W : List (Ref sig .tc) := [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_v12, main_call12_cst_3, main_call12_v13, main_call12_cst_4, main_call12_call0_v0, main_call12_call0_v1, main_v182]
theorem refC41_writes : (refC41 : List (HloOp τ sig (Elt F))).map HloOp.writes = refC41_W.map fun w => {Proc.devRef (τ := τ) .tc w} := rfl
theorem refC41_fresh : ∀ op ∈ (refC41 : List (HloOp τ sig (Elt F))), op.fresh = ∅ := by
  intro _ h; (repeat (cases h with | head => rfl | tail _ h => ?_)); exact nomatch h

/-- Operations of the reference, stretch 42: up to `main_v199`. -/
abbrev refC42 : List (HloOp τ sig (Elt F)) := [
  StableHlo.reshape main_arg13 main_v183 (rfl : (.f32 : EltTy) = .f32) shapeCasts_S128_S1x128x1x1x1,
  StableHlo.unary main_v181 main_v184 (broadcastInDim S16x128x128x16x1 ![0, 1, 2, 3, 4] bcast_S1x128x1x1x1_S16x128x128x16x1_0_1_2_3_4 : (⟨S1x128x1x1x1, .f32⟩ : BufTy).Contents (Elt F) → (⟨S16x128x128x16x1, .f32⟩ : BufTy).Contents (Elt F)),
  StableHlo.binary main_v177 main_v184 main_v185 (subf : (⟨S16x128x128x16x1, .f32⟩ : BufTy).Contents (Elt F) → (⟨S16x128x128x16x1, .f32⟩ : BufTy).Contents (Elt F) → (⟨S16x128x128x16x1, .f32⟩ : BufTy).Contents (Elt F)),
  StableHlo.unary main_v183 main_v186 (broadcastInDim S16x128x128x16x1 ![0, 1, 2, 3, 4] bcast_S1x128x1x1x1_S16x128x128x16x1_0_1_2_3_4 : (⟨S1x128x1x1x1, .f32⟩ : BufTy).Contents (Elt F) → (⟨S16x128x128x16x1, .f32⟩ : BufTy).Contents (Elt F)),
  StableHlo.binary main_v186 main_v185 main_v187 (mulf : (⟨S16x128x128x16x1, .f32⟩ : BufTy).Contents (Elt F) → (⟨S16x128x128x16x1, .f32⟩ : BufTy).Contents (Elt F) → (⟨S16x128x128x16x1, .f32⟩ : BufTy).Contents (Elt F)),
  StableHlo.nullary main_cst_35 (constant S_ .f32 0x3727C5AC#32),
  StableHlo.unary main_cst_35 main_v188 (broadcastInDim S1x128x1x1x1 ![] bcast_S_S1x128x1x1x1 : (⟨S_, .f32⟩ : BufTy).Contents (Elt F) → (⟨S1x128x1x1x1, .f32⟩ : BufTy).Contents (Elt F)),
  StableHlo.binary main_v182 main_v188 main_v189 (addf : (⟨S1x128x1x1x1, .f32⟩ : BufTy).Contents (Elt F) → (⟨S1x128x1x1x1, .f32⟩ : BufTy).Contents (Elt F) → (⟨S1x128x1x1x1, .f32⟩ : BufTy).Contents (Elt F)),
  StableHlo.unary main_v189 main_v190 (Host.sqrt : (⟨S1x128x1x1x1, .f32⟩ : BufTy).Contents (Elt F) → (⟨S1x128x1x1x1, .f32⟩ : BufTy).Contents (Elt F)),
  StableHlo.unary main_v190 main_v191 (broadcastInDim S16x128x128x16x1 ![0, 1, 2, 3, 4] bcast_S1x128x1x1x1_S16x128x128x16x1_0_1_2_3_4 : (⟨S1x128x1x1x1, .f32⟩ : BufTy).Contents (Elt F) → (⟨S16x128x128x16x1, .f32⟩ : BufTy).Contents (Elt F)),
  StableHlo.binary main_v187 main_v191 main_v192 (Host.divf : (⟨S16x128x128x16x1, .f32⟩ : BufTy).Contents (Elt F) → (⟨S16x128x128x16x1, .f32⟩ : BufTy).Contents (Elt F) → (⟨S16x128x128x16x1, .f32⟩ : BufTy).Contents (Elt F)),
  StableHlo.reshape main_arg14 main_v193 (rfl : (.f32 : EltTy) = .f32) shapeCasts_S128_S1x128x1x1x1,
  StableHlo.unary main_v193 main_v194 (broadcastInDim S16x128x128x16x1 ![0, 1, 2, 3, 4] bcast_S1x128x1x1x1_S16x128x128x16x1_0_1_2_3_4 : (⟨S1x128x1x1x1, .f32⟩ : BufTy).Contents (Elt F) → (⟨S16x128x128x16x1, .f32⟩ : BufTy).Contents (Elt F)),
  StableHlo.binary main_v192 main_v194 main_v195 (addf : (⟨S16x128x128x16x1, .f32⟩ : BufTy).Contents (Elt F) → (⟨S16x128x128x16x1, .f32⟩ : BufTy).Contents (Elt F) → (⟨S16x128x128x16x1, .f32⟩ : BufTy).Contents (Elt F)),
  StableHlo.unary main_v177 main_v196 (broadcastInDim S16x128x128x16x3 ![0, 1, 2, 3, 4] bcast_S16x128x128x16x1_S16x128x128x16x3_0_1_2_3_4 : (⟨S16x128x128x16x1, .f32⟩ : BufTy).Contents (Elt F) → (⟨S16x128x128x16x3, .f32⟩ : BufTy).Contents (Elt F)),
  StableHlo.binary main_v174 main_v196 main_v197 (Host.divf : (⟨S16x128x128x16x3, .f32⟩ : BufTy).Contents (Elt F) → (⟨S16x128x128x16x3, .f32⟩ : BufTy).Contents (Elt F) → (⟨S16x128x128x16x3, .f32⟩ : BufTy).Contents (Elt F)),
  StableHlo.unary main_v195 main_v198 (broadcastInDim S16x128x128x16x3 ![0, 1, 2, 3, 4] bcast_S16x128x128x16x1_S16x128x128x16x3_0_1_2_3_4 : (⟨S16x128x128x16x1, .f32⟩ : BufTy).Contents (Elt F) → (⟨S16x128x128x16x3, .f32⟩ : BufTy).Contents (Elt F)),
  StableHlo.binary main_v197 main_v198 main_v199 (mulf : (⟨S16x128x128x16x3, .f32⟩ : BufTy).Contents (Elt F) → (⟨S16x128x128x16x3, .f32⟩ : BufTy).Contents (Elt F) → (⟨S16x128x128x16x3, .f32⟩ : BufTy).Contents (Elt F)) ]
theorem refC42_sub : (refC42 : List (HloOp τ sig (Elt F))).Forall fun op => op.bufs ⊆ StableHlo.tcRefs τ sig :=
  ⟨StableHlo.reshape_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub ..⟩
abbrev refC42_W : List (Ref sig .tc) := [main_v183, main_v184, main_v185, main_v186, main_v187, main_cst_35, main_v188, main_v189, main_v190, main_v191, main_v192, main_v193, main_v194, main_v195, main_v196, main_v197, main_v198, main_v199]
theorem refC42_writes : (refC42 : List (HloOp τ sig (Elt F))).map HloOp.writes = refC42_W.map fun w => {Proc.devRef (τ := τ) .tc w} := rfl
theorem refC42_fresh : ∀ op ∈ (refC42 : List (HloOp τ sig (Elt F))), op.fresh = ∅ := by
  intro _ h; (repeat (cases h with | head => rfl | tail _ h => ?_)); exact nomatch h

/-- Window 2 of the reference is its stretches in order. -/
theorem part2_chain (c : Dev nD) : main_part2 (F := F) c = (Pipeline.chainK [StableHlo.seq refC21, StableHlo.seq refC22, StableHlo.seq refC23, StableHlo.seq refC24, StableHlo.seq refC25, StableHlo.seq refC26, StableHlo.seq refC27, StableHlo.seq refC28, StableHlo.seq refC29] (StableHlo.seq refC30) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons]
  chain_rfl

/-- Window 3 of the reference is its stretches in order. -/
theorem part3_chain (c : Dev nD) : main_part3 (F := F) c = (Pipeline.chainK [StableHlo.seq refC31, StableHlo.seq refC32, StableHlo.seq refC33, StableHlo.seq refC34, StableHlo.seq refC35, StableHlo.seq refC36, StableHlo.seq refC37, StableHlo.seq refC38, StableHlo.seq refC39, StableHlo.seq refC40, StableHlo.seq refC41] (StableHlo.seq refC42) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons]
  chain_rfl

end Cert.Ref

end

end
-- ==== Proof.RefOps3.lean ====
module

public import Idealize.ShloMosaic.Lib.Pipeline.Regions
public import proofs.«01_k».proof.Proof.Gen.ReferenceIdeal

@[expose] public section

set_option maxRecDepth 16384

noncomputable section

open Idealize.ShloMosaic Idealize.ShloMosaic.TcCoe Idealize.SL.Sem
open Cert.ReferenceIdeal Cert.ReferenceIdeal.Gen

namespace Cert.Ref

variable {F : FTy → Type} [FloatOps F]

/-- Operations of the reference, stretch 43: up to `main_v228`. -/
abbrev refC43 : List (HloOp τ sig (Elt F)) := [
  StableHlo.binary main_v199 main_arg12 main_v200 ((fun l r => Host.dotGeneral dot_S16x128x128x16x3_S128x128_S16x128x16x3x128_1_1_0234_0_n_n none l r) : (⟨S16x128x128x16x3, .f32⟩ : BufTy).Contents (Elt F) → (⟨S128x128, .f32⟩ : BufTy).Contents (Elt F) → (⟨S16x128x16x3x128, .f32⟩ : BufTy).Contents (Elt F)),
  StableHlo.unary main_v200 main_v201 ((transpose S16x128x128x16x3 [0, 4, 1, 2, 3] · transposes_S16x128x16x3x128_S16x128x128x16x3_0_4_1_2_3) : (⟨S16x128x16x3x128, .f32⟩ : BufTy).Contents (Elt F) → (⟨S16x128x128x16x3, .f32⟩ : BufTy).Contents (Elt F)),
  StableHlo.binary main_v199 main_v201 main_v202 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.nullary main_cst_36 (constant S_ .f32 0x00000000#32),
  StableHlo.binary main_v202 main_cst_36 main_v203 ((fun x v => Host.reduceAdd x v reducesTo_S16x128x128x16x3_S16x128x128x16_d4 h_S_) : (⟨S16x128x128x16x3, .f32⟩ : BufTy).Contents (Elt F) → (⟨S_, .f32⟩ : BufTy).Contents (Elt F) → (⟨S16x128x128x16, .f32⟩ : BufTy).Contents (Elt F)),
  StableHlo.unary main_v203 main_v204 (broadcastInDim S16x128x128x16x1 ![0, 1, 2, 3] bcast_S16x128x128x16_S16x128x128x16x1_0_1_2_3 : (⟨S16x128x128x16, .f32⟩ : BufTy).Contents (Elt F) → (⟨S16x128x128x16x1, .f32⟩ : BufTy).Contents (Elt F)),
  StableHlo.binary main_v201 main_v201 main_v205 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.nullary main_cst_37 (constant S_ .f32 0x00000000#32),
  StableHlo.binary main_v205 main_cst_37 main_v206 ((fun x v => Host.reduceAdd x v reducesTo_S16x128x128x16x3_S16x128x128x16_d4 h_S_) : (⟨S16x128x128x16x3, .f32⟩ : BufTy).Contents (Elt F) → (⟨S_, .f32⟩ : BufTy).Contents (Elt F) → (⟨S16x128x128x16, .f32⟩ : BufTy).Contents (Elt F)),
  StableHlo.unary main_v206 main_v207 (broadcastInDim S16x128x128x16x1 ![0, 1, 2, 3] bcast_S16x128x128x16_S16x128x128x16x1_0_1_2_3 : (⟨S16x128x128x16, .f32⟩ : BufTy).Contents (Elt F) → (⟨S16x128x128x16x1, .f32⟩ : BufTy).Contents (Elt F)),
  StableHlo.nullary main_cst_38 (constant S_ .f32 0x00000000#32),
  StableHlo.unary main_cst_38 main_v208 (broadcastInDim S16x128x128x16x1 ![] bcast_S_S16x128x128x16x1 : (⟨S_, .f32⟩ : BufTy).Contents (Elt F) → (⟨S16x128x128x16x1, .f32⟩ : BufTy).Contents (Elt F)),
  StableHlo.binary main_v204 main_v208 main_v209 (cmpf .oge : (⟨S16x128x128x16x1, .f32⟩ : BufTy).Contents (Elt F) → (⟨S16x128x128x16x1, .f32⟩ : BufTy).Contents (Elt F) → (⟨S16x128x128x16x1, .i1⟩ : BufTy).Contents (Elt F)),
  StableHlo.unary main_v209 main_v210 (uitofp .f32 : (⟨S16x128x128x16x1, .i1⟩ : BufTy).Contents (Elt F) → (⟨S16x128x128x16x1, .f32⟩ : BufTy).Contents (Elt F)),
  StableHlo.nullary main_cst_39 (constant S_ .f32 0x358637BD#32),
  StableHlo.unary main_cst_39 main_v211 (broadcastInDim S16x128x128x16x1 ![] bcast_S_S16x128x128x16x1 : (⟨S_, .f32⟩ : BufTy).Contents (Elt F) → (⟨S16x128x128x16x1, .f32⟩ : BufTy).Contents (Elt F)),
  StableHlo.binary main_v207 main_v211 main_v212 (addf : (⟨S16x128x128x16x1, .f32⟩ : BufTy).Contents (Elt F) → (⟨S16x128x128x16x1, .f32⟩ : BufTy).Contents (Elt F) → (⟨S16x128x128x16x1, .f32⟩ : BufTy).Contents (Elt F)),
  StableHlo.binary main_v204 main_v212 main_v213 (Host.divf : (⟨S16x128x128x16x1, .f32⟩ : BufTy).Contents (Elt F) → (⟨S16x128x128x16x1, .f32⟩ : BufTy).Contents (Elt F) → (⟨S16x128x128x16x1, .f32⟩ : BufTy).Contents (Elt F)),
  StableHlo.unary main_v213 main_v214 (broadcastInDim S16x128x128x16x3 ![0, 1, 2, 3, 4] bcast_S16x128x128x16x1_S16x128x128x16x3_0_1_2_3_4 : (⟨S16x128x128x16x1, .f32⟩ : BufTy).Contents (Elt F) → (⟨S16x128x128x16x3, .f32⟩ : BufTy).Contents (Elt F)),
  StableHlo.binary main_v214 main_v201 main_v215 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.binary main_v199 main_v215 main_v216 (subf : (⟨S16x128x128x16x3, .f32⟩ : BufTy).Contents (Elt F) → (⟨S16x128x128x16x3, .f32⟩ : BufTy).Contents (Elt F) → (⟨S16x128x128x16x3, .f32⟩ : BufTy).Contents (Elt F)),
  StableHlo.nullary main_cst_40 (constant S_ .f32 0x3E4CCCCD#32),
  StableHlo.unary main_cst_40 main_v217 (broadcastInDim S16x128x128x16x3 ![] bcast_S_S16x128x128x16x3 : (⟨S_, .f32⟩ : BufTy).Contents (Elt F) → (⟨S16x128x128x16x3, .f32⟩ : BufTy).Contents (Elt F)),
  StableHlo.binary main_v217 main_v199 main_v218 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.unary main_v210 main_v219 (broadcastInDim S16x128x128x16x3 ![0, 1, 2, 3, 4] bcast_S16x128x128x16x1_S16x128x128x16x3_0_1_2_3_4 : (⟨S16x128x128x16x1, .f32⟩ : BufTy).Contents (Elt F) → (⟨S16x128x128x16x3, .f32⟩ : BufTy).Contents (Elt F)),
  StableHlo.binary main_v219 main_v199 main_v220 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.nullary main_cst_41 (constant S_ .f32 0x3F800000#32),
  StableHlo.unary main_cst_41 main_v221 (broadcastInDim S16x128x128x16x1 ![] bcast_S_S16x128x128x16x1 : (⟨S_, .f32⟩ : BufTy).Contents (Elt F) → (⟨S16x128x128x16x1, .f32⟩ : BufTy).Contents (Elt F)),
  StableHlo.binary main_v221 main_v210 main_v222 (subf : (⟨S16x128x128x16x1, .f32⟩ : BufTy).Contents (Elt F) → (⟨S16x128x128x16x1, .f32⟩ : BufTy).Contents (Elt F) → (⟨S16x128x128x16x1, .f32⟩ : BufTy).Contents (Elt F)),
  StableHlo.unary main_v222 main_v223 (broadcastInDim S16x128x128x16x3 ![0, 1, 2, 3, 4] bcast_S16x128x128x16x1_S16x128x128x16x3_0_1_2_3_4 : (⟨S16x128x128x16x1, .f32⟩ : BufTy).Contents (Elt F) → (⟨S16x128x128x16x3, .f32⟩ : BufTy).Contents (Elt F)),
  StableHlo.binary main_v223 main_v216 main_v224 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.binary main_v220 main_v224 main_v225 (addf : (⟨S16x128x128x16x3, .f32⟩ : BufTy).Contents (Elt F) → (⟨S16x128x128x16x3, .f32⟩ : BufTy).Contents (Elt F) → (⟨S16x128x128x16x3, .f32⟩ : BufTy).Contents (Elt F)),
  StableHlo.nullary main_cst_42 (constant S_ .f32 0x3F4CCCCD#32),
  StableHlo.unary main_cst_42 main_v226 (broadcastInDim S16x128x128x16x3 ![] bcast_S_S16x128x128x16x3 : (⟨S_, .f32⟩ : BufTy).Contents (Elt F) → (⟨S16x128x128x16x3, .f32⟩ : BufTy).Contents (Elt F)),
  StableHlo.binary main_v226 main_v225 main_v227 (mulf : (⟨S16x128x128x16x3, .f32⟩ : BufTy).Contents (Elt F) → (⟨S16x128x128x16x3, .f32⟩ : BufTy).Contents (Elt F) → (⟨S16x128x128x16x3, .f32⟩ : BufTy).Contents (Elt F)),
  StableHlo.binary main_v218 main_v227 main_v228 (addf : (⟨S16x128x128x16x3, .f32⟩ : BufTy).Contents (Elt F) → (⟨S16x128x128x16x3, .f32⟩ : BufTy).Contents (Elt F) → (⟨S16x128x128x16x3, .f32⟩ : BufTy).Contents (Elt F)) ]
theorem refC43_sub : (refC43 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
abbrev refC43_W : List (Ref sig .tc) := [main_v200, main_v201, main_v202, main_cst_36, main_v203, main_v204, main_v205, main_cst_37, main_v206, main_v207, main_cst_38, main_v208, main_v209, main_v210, main_cst_39, main_v211, main_v212, main_v213, main_v214, main_v215, main_v216, main_cst_40, main_v217, main_v218, main_v219, main_v220, main_cst_41, main_v221, main_v222, main_v223, main_v224, main_v225, main_cst_42, main_v226, main_v227, main_v228]
theorem refC43_writes : (refC43 : List (HloOp τ sig (Elt F))).map HloOp.writes = refC43_W.map fun w => {Proc.devRef (τ := τ) .tc w} := rfl
theorem refC43_fresh : ∀ op ∈ (refC43 : List (HloOp τ sig (Elt F))), op.fresh = ∅ := by
  intro _ h; (repeat (cases h with | head => rfl | tail _ h => ?_)); exact nomatch h

/-- Operations of the reference, stretch 44: up to `main_v230`. -/
abbrev refC44 : List (HloOp τ sig (Elt F)) := [
  StableHlo.binary main_v228 main_arg15 main_v229 ((fun l r => Host.dotGeneral dot_S16x128x128x16x3_S256x128_S16x128x16x3x256_1_1_0234_0_n_n none l r) : (⟨S16x128x128x16x3, .f32⟩ : BufTy).Contents (Elt F) → (⟨S256x128, .f32⟩ : BufTy).Contents (Elt F) → (⟨S16x128x16x3x256, .f32⟩ : BufTy).Contents (Elt F)),
  StableHlo.unary main_v229 main_v230 ((transpose S16x256x128x16x3 [0, 4, 1, 2, 3] · transposes_S16x128x16x3x256_S16x256x128x16x3_0_4_1_2_3) : (⟨S16x128x16x3x256, .f32⟩ : BufTy).Contents (Elt F) → (⟨S16x256x128x16x3, .f32⟩ : BufTy).Contents (Elt F)) ]
theorem refC44_sub : (refC44 : List (HloOp τ sig (Elt F))).Forall fun op => op.bufs ⊆ StableHlo.tcRefs τ sig :=
  ⟨StableHlo.binary_bufs_sub .., StableHlo.unary_bufs_sub ..⟩
abbrev refC44_W : List (Ref sig .tc) := [main_v229, main_v230]
theorem refC44_writes : (refC44 : List (HloOp τ sig (Elt F))).map HloOp.writes = refC44_W.map fun w => {Proc.devRef (τ := τ) .tc w} := rfl
theorem refC44_fresh : ∀ op ∈ (refC44 : List (HloOp τ sig (Elt F))), op.fresh = ∅ := by
  intro _ h; (repeat (cases h with | head => rfl | tail _ h => ?_)); exact nomatch h

/-- Operations of the reference, stretch 45: up to `main_v231`. -/
abbrev refC45 : List (HloOp τ sig (Elt F)) := [
  StableHlo.TRef.binary (.of main_v230 : StableHlo.TRef sig ⟨S16x256x128x16x3, .f32⟩) (.of main_v230 : StableHlo.TRef sig ⟨S16x256x128x16x3, .f32⟩) (.of main_call13_v0 : StableHlo.TRef sig ⟨S16x256x128x16x3, .f32⟩) mulf,
  StableHlo.TRef.nullary (.of main_call13_cst : StableHlo.TRef sig ⟨S_, .f32⟩) (constant S_ .f32 0x00000000#32),
  StableHlo.TRef.binary (.of main_call13_v0 : StableHlo.TRef sig ⟨S16x256x128x16x3, .f32⟩) (.of main_call13_cst : StableHlo.TRef sig ⟨S_, .f32⟩) (.of main_call13_v1 : StableHlo.TRef sig ⟨S16x256x128x16, .f32⟩) (fun x v => Host.reduceAdd x v reducesTo_S16x256x128x16x3_S16x256x128x16_d4 h_S_),
  StableHlo.TRef.unary (.of main_call13_v1 : StableHlo.TRef sig ⟨S16x256x128x16, .f32⟩) (.of main_call13_v2 : StableHlo.TRef sig ⟨S16x256x128x16x1, .f32⟩) (broadcastInDim S16x256x128x16x1 ![0, 1, 2, 3] bcast_S16x256x128x16_S16x256x128x16x1_0_1_2_3),
  StableHlo.TRef.unary (.of main_call13_v2 : StableHlo.TRef sig ⟨S16x256x128x16x1, .f32⟩) (.of main_v231 : StableHlo.TRef sig ⟨S16x256x128x16x1, .f32⟩) Host.sqrt ]
theorem refC45_sub : (refC45 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev refC45_W : List (Ref sig .tc) := [main_call13_v0, main_call13_cst, main_call13_v1, main_call13_v2, main_v231]
theorem refC45_writes : (refC45 : List (HloOp τ sig (Elt F))).map HloOp.writes = refC45_W.map fun w => {Proc.devRef (τ := τ) .tc w} := rfl
theorem refC45_fresh : ∀ op ∈ (refC45 : List (HloOp τ sig (Elt F))), op.fresh = ∅ := by
  intro _ h; (repeat (cases h with | head => rfl | tail _ h => ?_)); exact nomatch h

/-- Operations of the reference, stretch 46: up to `main_v233`. -/
abbrev refC46 : List (HloOp τ sig (Elt F)) := [
  StableHlo.nullary main_cst_43 (constant S_ .f32 0x358637BD#32),
  StableHlo.unary main_cst_43 main_v232 (broadcastInDim S16x256x128x16x1 ![] bcast_S_S16x256x128x16x1 : (⟨S_, .f32⟩ : BufTy).Contents (Elt F) → (⟨S16x256x128x16x1, .f32⟩ : BufTy).Contents (Elt F)),
  StableHlo.binary main_v231 main_v232 main_v233 (addf : (⟨S16x256x128x16x1, .f32⟩ : BufTy).Contents (Elt F) → (⟨S16x256x128x16x1, .f32⟩ : BufTy).Contents (Elt F) → (⟨S16x256x128x16x1, .f32⟩ : BufTy).Contents (Elt F)) ]
theorem refC46_sub : (refC46 : List (HloOp τ sig (Elt F))).Forall fun op => op.bufs ⊆ StableHlo.tcRefs τ sig :=
  ⟨StableHlo.nullary_bufs_sub .., StableHlo.unary_bufs_sub .., StableHlo.binary_bufs_sub ..⟩
abbrev refC46_W : List (Ref sig .tc) := [main_cst_43, main_v232, main_v233]
theorem refC46_writes : (refC46 : List (HloOp τ sig (Elt F))).map HloOp.writes = refC46_W.map fun w => {Proc.devRef (τ := τ) .tc w} := rfl
theorem refC46_fresh : ∀ op ∈ (refC46 : List (HloOp τ sig (Elt F))), op.fresh = ∅ := by
  intro _ h; (repeat (cases h with | head => rfl | tail _ h => ?_)); exact nomatch h

/-- Operations of the reference, stretch 47: up to `main_v237`. -/
abbrev refC47 : List (HloOp τ sig (Elt F)) := [
  StableHlo.nullary main_cst_44 (constant S_ .f32 0x00000000#32),
  StableHlo.binary main_v233 main_cst_44 main_v234 ((fun x v => Host.reduceAdd x v reducesTo_S16x256x128x16x1_S256_d0_2_3_4 h_S_) : (⟨S16x256x128x16x1, .f32⟩ : BufTy).Contents (Elt F) → (⟨S_, .f32⟩ : BufTy).Contents (Elt F) → (⟨S256, .f32⟩ : BufTy).Contents (Elt F)),
  StableHlo.unary main_v234 main_v235 (broadcastInDim S1x256x1x1x1 ![1] bcast_S256_S1x256x1x1x1_1 : (⟨S256, .f32⟩ : BufTy).Contents (Elt F) → (⟨S1x256x1x1x1, .f32⟩ : BufTy).Contents (Elt F)),
  StableHlo.nullary main_cst_45 (constant S_ .f32 0x47000000#32),
  StableHlo.unary main_cst_45 main_v236 (broadcastInDim S1x256x1x1x1 ![] bcast_S_S1x256x1x1x1 : (⟨S_, .f32⟩ : BufTy).Contents (Elt F) → (⟨S1x256x1x1x1, .f32⟩ : BufTy).Contents (Elt F)),
  StableHlo.binary main_v235 main_v236 main_v237 (Host.divf : (⟨S1x256x1x1x1, .f32⟩ : BufTy).Contents (Elt F) → (⟨S1x256x1x1x1, .f32⟩ : BufTy).Contents (Elt F) → (⟨S1x256x1x1x1, .f32⟩ : BufTy).Contents (Elt F)) ]
theorem refC47_sub : (refC47 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub ..⟩
abbrev refC47_W : List (Ref sig .tc) := [main_cst_44, main_v234, main_v235, main_cst_45, main_v236, main_v237]
theorem refC47_writes : (refC47 : List (HloOp τ sig (Elt F))).map HloOp.writes = refC47_W.map fun w => {Proc.devRef (τ := τ) .tc w} := rfl
theorem refC47_fresh : ∀ op ∈ (refC47 : List (HloOp τ sig (Elt F))), op.fresh = ∅ := by
  intro _ h; (repeat (cases h with | head => rfl | tail _ h => ?_)); exact nomatch h

/-- Operations of the reference, stretch 48: up to `main_c_46`. -/
abbrev refC48 : List (HloOp τ sig (Elt F)) := [
  StableHlo.nullary main_c_46 (constantI S_ 32 0#32) ]
theorem refC48_sub : (refC48 : List (HloOp τ sig (Elt F))).Forall fun op => op.bufs ⊆ StableHlo.tcRefs τ sig :=
  StableHlo.nullary_bufs_sub ..
abbrev refC48_W : List (Ref sig .tc) := [main_c_46]
theorem refC48_writes : (refC48 : List (HloOp τ sig (Elt F))).map HloOp.writes = refC48_W.map fun w => {Proc.devRef (τ := τ) .tc w} := rfl
theorem refC48_fresh : ∀ op ∈ (refC48 : List (HloOp τ sig (Elt F))), op.fresh = ∅ := by
  intro _ h; (repeat (cases h with | head => rfl | tail _ h => ?_)); exact nomatch h

/-- Operations of the reference, stretch 49: up to `main_v238`. -/
abbrev refC49 : List (HloOp τ sig (Elt F)) := [
  StableHlo.TRef.nullary (.of main_call14_cst : StableHlo.TRef sig ⟨S_, .f32⟩) (constant S_ .f32 0x00000000#32),
  StableHlo.TRef.binary (.of main_v233 : StableHlo.TRef sig ⟨S16x256x128x16x1, .f32⟩) (.of main_call14_cst : StableHlo.TRef sig ⟨S_, .f32⟩) (.of main_call14_v0 : StableHlo.TRef sig ⟨S256, .f32⟩) (fun x v => Host.reduceAdd x v reducesTo_S16x256x128x16x1_S256_d0_2_3_4 h_S_),
  StableHlo.TRef.unary (.of main_call14_v0 : StableHlo.TRef sig ⟨S256, .f32⟩) (.of main_call14_v1 : StableHlo.TRef sig ⟨S1x256x1x1x1, .f32⟩) (broadcastInDim S1x256x1x1x1 ![1] bcast_S256_S1x256x1x1x1_1),
  StableHlo.TRef.nullary (.of main_call14_cst_0 : StableHlo.TRef sig ⟨S_, .f32⟩) (constant S_ .f32 0x47000000#32),
  StableHlo.TRef.unary (.of main_call14_cst_0 : StableHlo.TRef sig ⟨S_, .f32⟩) (.of main_call14_v2 : StableHlo.TRef sig ⟨S1x256x1x1x1, .f32⟩) (broadcastInDim S1x256x1x1x1 ![] bcast_S_S1x256x1x1x1),
  StableHlo.TRef.binary (.of main_call14_v1 : StableHlo.TRef sig ⟨S1x256x1x1x1, .f32⟩) (.of main_call14_v2 : StableHlo.TRef sig ⟨S1x256x1x1x1, .f32⟩) (.of main_call14_v3 : StableHlo.TRef sig ⟨S1x256x1x1x1, .f32⟩) Host.divf,
  StableHlo.TRef.unary (.of main_call14_v3 : StableHlo.TRef sig ⟨S1x256x1x1x1, .f32⟩) (.of main_call14_v4 : StableHlo.TRef sig ⟨S16x256x128x16x1, .f32⟩) (broadcastInDim S16x256x128x16x1 ![0, 1, 2, 3, 4] bcast_S1x256x1x1x1_S16x256x128x16x1_0_1_2_3_4),
  StableHlo.TRef.binary (.of main_v233 : StableHlo.TRef sig ⟨S16x256x128x16x1, .f32⟩) (.of main_call14_v4 : StableHlo.TRef sig ⟨S16x256x128x16x1, .f32⟩) (.of main_call14_v5 : StableHlo.TRef sig ⟨S16x256x128x16x1, .f32⟩) subf,
  StableHlo.TRef.binary (.of main_call14_v5 : StableHlo.TRef sig ⟨S16x256x128x16x1, .f32⟩) (.of main_call14_v5 : StableHlo.TRef sig ⟨S16x256x128x16x1, .f32⟩) (.of main_call14_v6 : StableHlo.TRef sig ⟨S16x256x128x16x1, .f32⟩) mulf,
  StableHlo.TRef.unary (.of main_c_46 : StableHlo.TRef sig ⟨S_, .i32⟩) (.of main_call14_v7 : StableHlo.TRef sig ⟨S_, .f32⟩) (sitofp .f32),
  StableHlo.TRef.nullary (.of main_call14_cst_1 : StableHlo.TRef sig ⟨S_, .f32⟩) (constant S_ .f32 0x47000000#32),
  StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
  StableHlo.TRef.nullary (.of main_call14_cst_2 : StableHlo.TRef sig ⟨S_, .f32⟩) (constant S_ .f32 0x00000000#32),
  StableHlo.TRef.binary (.of main_call14_v6 : StableHlo.TRef sig ⟨S16x256x128x16x1, .f32⟩) (.of main_call14_cst_2 : StableHlo.TRef sig ⟨S_, .f32⟩) (.of main_call14_v9 : StableHlo.TRef sig ⟨S256, .f32⟩) (fun x v => Host.reduceAdd x v reducesTo_S16x256x128x16x1_S256_d0_2_3_4 h_S_),
  StableHlo.TRef.unary (.of main_call14_v9 : StableHlo.TRef sig ⟨S256, .f32⟩) (.of main_call14_v10 : StableHlo.TRef sig ⟨S1x256x1x1x1, .f32⟩) (broadcastInDim S1x256x1x1x1 ![1] bcast_S256_S1x256x1x1x1_1),
  StableHlo.TRef.unary (.of main_call14_v8 : StableHlo.TRef sig ⟨S_, .f32⟩) (.of main_call14_v11 : StableHlo.TRef sig ⟨S1x256x1x1x1, .f32⟩) (broadcastInDim S1x256x1x1x1 ![] bcast_S_S1x256x1x1x1),
  StableHlo.TRef.binary (.of main_call14_v10 : StableHlo.TRef sig ⟨S1x256x1x1x1, .f32⟩) (.of main_call14_v11 : StableHlo.TRef sig ⟨S1x256x1x1x1, .f32⟩) (.of main_call14_v12 : StableHlo.TRef sig ⟨S1x256x1x1x1, .f32⟩) Host.divf,
  StableHlo.TRef.nullary (.of main_call14_cst_3 : StableHlo.TRef sig ⟨S_, .f32⟩) (constant S_ .f32 0x00000000#32),
  StableHlo.TRef.binary (.of main_call14_v8 : StableHlo.TRef sig ⟨S_, .f32⟩) (.of main_call14_cst_3 : StableHlo.TRef sig ⟨S_, .f32⟩) (.of main_call14_v13 : StableHlo.TRef sig ⟨S_, .i1⟩) (cmpf .ogt),
  StableHlo.TRef.nullary (.of main_call14_cst_4 : StableHlo.TRef sig ⟨S_, .f32⟩) (constant S_ .f32 0x7FC00000#32),
  StableHlo.TRef.unary (.of main_call14_cst_4 : StableHlo.TRef sig ⟨S_, .f32⟩) (.of main_call14_call0_v0 : StableHlo.TRef sig ⟨S_, .f32⟩) id,
  StableHlo.TRef.unary (.of main_call14_call0_v0 : StableHlo.TRef sig ⟨S_, .f32⟩) (.of main_call14_call0_v1 : StableHlo.TRef sig ⟨S1x256x1x1x1, .f32⟩) (broadcastInDim S1x256x1x1x1 ![] bcast_S_S1x256x1x1x1),
  StableHlo.TRef.ternary (.of main_call14_v13 : StableHlo.TRef sig ⟨S_, .i1⟩) (.of main_call14_v12 : StableHlo.TRef sig ⟨S1x256x1x1x1, .f32⟩) (.of main_call14_call0_v1 : StableHlo.TRef sig ⟨S1x256x1x1x1, .f32⟩) (.of main_v238 : StableHlo.TRef sig ⟨S1x256x1x1x1, .f32⟩) (fun p a b => select (broadcastInDim S1x256x1x1x1 ![] bcast_S_S1x256x1x1x1 p) a b) ]
theorem refC49_sub : (refC49 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
abbrev refC49_W : List (Ref sig .tc) := [main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_v12, main_call14_cst_3, main_call14_v13, main_call14_cst_4, main_call14_call0_v0, main_call14_call0_v1, main_v238]
theorem refC49_writes : (refC49 : List (HloOp τ sig (Elt F))).map HloOp.writes = refC49_W.map fun w => {Proc.devRef (τ := τ) .tc w} := rfl
theorem refC49_fresh : ∀ op ∈ (refC49 : List (HloOp τ sig (Elt F))), op.fresh = ∅ := by
  intro _ h; (repeat (cases h with | head => rfl | tail _ h => ?_)); exact nomatch h

/-- Operations of the reference, stretch 50: up to `main_v247`. -/
abbrev refC50 : List (HloOp τ sig (Elt F)) := [
  StableHlo.reshape main_arg17 main_v239 (rfl : (.f32 : EltTy) = .f32) shapeCasts_S256_S1x256x1x1x1,
  StableHlo.unary main_v237 main_v240 (broadcastInDim S16x256x128x16x1 ![0, 1, 2, 3, 4] bcast_S1x256x1x1x1_S16x256x128x16x1_0_1_2_3_4 : (⟨S1x256x1x1x1, .f32⟩ : BufTy).Contents (Elt F) → (⟨S16x256x128x16x1, .f32⟩ : BufTy).Contents (Elt F)),
  StableHlo.binary main_v233 main_v240 main_v241 (subf : (⟨S16x256x128x16x1, .f32⟩ : BufTy).Contents (Elt F) → (⟨S16x256x128x16x1, .f32⟩ : BufTy).Contents (Elt F) → (⟨S16x256x128x16x1, .f32⟩ : BufTy).Contents (Elt F)),
  StableHlo.unary main_v239 main_v242 (broadcastInDim S16x256x128x16x1 ![0, 1, 2, 3, 4] bcast_S1x256x1x1x1_S16x256x128x16x1_0_1_2_3_4 : (⟨S1x256x1x1x1, .f32⟩ : BufTy).Contents (Elt F) → (⟨S16x256x128x16x1, .f32⟩ : BufTy).Contents (Elt F)),
  StableHlo.binary main_v242 main_v241 main_v243 (mulf : (⟨S16x256x128x16x1, .f32⟩ : BufTy).Contents (Elt F) → (⟨S16x256x128x16x1, .f32⟩ : BufTy).Contents (Elt F) → (⟨S16x256x128x16x1, .f32⟩ : BufTy).Contents (Elt F)),
  StableHlo.nullary main_cst_47 (constant S_ .f32 0x3727C5AC#32),
  StableHlo.unary main_cst_47 main_v244 (broadcastInDim S1x256x1x1x1 ![] bcast_S_S1x256x1x1x1 : (⟨S_, .f32⟩ : BufTy).Contents (Elt F) → (⟨S1x256x1x1x1, .f32⟩ : BufTy).Contents (Elt F)),
  StableHlo.binary main_v238 main_v244 main_v245 (addf : (⟨S1x256x1x1x1, .f32⟩ : BufTy).Contents (Elt F) → (⟨S1x256x1x1x1, .f32⟩ : BufTy).Contents (Elt F) → (⟨S1x256x1x1x1, .f32⟩ : BufTy).Contents (Elt F)),
  StableHlo.unary main_v245 main_v246 (Host.sqrt : (⟨S1x256x1x1x1, .f32⟩ : BufTy).Contents (Elt F) → (⟨S1x256x1x1x1, .f32⟩ : BufTy).Contents (Elt F)),
  StableHlo.unary main_v246 main_v247 (broadcastInDim S16x256x128x16x1 ![0, 1, 2, 3, 4] bcast_S1x256x1x1x1_S16x256x128x16x1_0_1_2_3_4 : (⟨S1x256x1x1x1, .f32⟩ : BufTy).Contents (Elt F) → (⟨S16x256x128x16x1, .f32⟩ : BufTy).Contents (Elt F)) ]
theorem refC50_sub : (refC50 : List (HloOp τ sig (Elt F))).Forall fun op => op.bufs ⊆ StableHlo.tcRefs τ sig :=
  ⟨StableHlo.reshape_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩
abbrev refC50_W : List (Ref sig .tc) := [main_v239, main_v240, main_v241, main_v242, main_v243, main_cst_47, main_v244, main_v245, main_v246, main_v247]
theorem refC50_writes : (refC50 : List (HloOp τ sig (Elt F))).map HloOp.writes = refC50_W.map fun w => {Proc.devRef (τ := τ) .tc w} := rfl
theorem refC50_fresh : ∀ op ∈ (refC50 : List (HloOp τ sig (Elt F))), op.fresh = ∅ := by
  intro _ h; (repeat (cases h with | head => rfl | tail _ h => ?_)); exact nomatch h

/-- Operations of the reference, stretch 51: up to `main_v255`. -/
abbrev refC51 : List (HloOp τ sig (Elt F)) := [
  StableHlo.binary main_v243 main_v247 main_v248 (Host.divf : (⟨S16x256x128x16x1, .f32⟩ : BufTy).Contents (Elt F) → (⟨S16x256x128x16x1, .f32⟩ : BufTy).Contents (Elt F) → (⟨S16x256x128x16x1, .f32⟩ : BufTy).Contents (Elt F)),
  StableHlo.reshape main_arg18 main_v249 (rfl : (.f32 : EltTy) = .f32) shapeCasts_S256_S1x256x1x1x1,
  StableHlo.unary main_v249 main_v250 (broadcastInDim S16x256x128x16x1 ![0, 1, 2, 3, 4] bcast_S1x256x1x1x1_S16x256x128x16x1_0_1_2_3_4 : (⟨S1x256x1x1x1, .f32⟩ : BufTy).Contents (Elt F) → (⟨S16x256x128x16x1, .f32⟩ : BufTy).Contents (Elt F)),
  StableHlo.binary main_v248 main_v250 main_v251 (addf : (⟨S16x256x128x16x1, .f32⟩ : BufTy).Contents (Elt F) → (⟨S16x256x128x16x1, .f32⟩ : BufTy).Contents (Elt F) → (⟨S16x256x128x16x1, .f32⟩ : BufTy).Contents (Elt F)),
  StableHlo.unary main_v233 main_v252 (broadcastInDim S16x256x128x16x3 ![0, 1, 2, 3, 4] bcast_S16x256x128x16x1_S16x256x128x16x3_0_1_2_3_4 : (⟨S16x256x128x16x1, .f32⟩ : BufTy).Contents (Elt F) → (⟨S16x256x128x16x3, .f32⟩ : BufTy).Contents (Elt F)),
  StableHlo.binary main_v230 main_v252 main_v253 (Host.divf : (⟨S16x256x128x16x3, .f32⟩ : BufTy).Contents (Elt F) → (⟨S16x256x128x16x3, .f32⟩ : BufTy).Contents (Elt F) → (⟨S16x256x128x16x3, .f32⟩ : BufTy).Contents (Elt F)),
  StableHlo.unary main_v251 main_v254 (broadcastInDim S16x256x128x16x3 ![0, 1, 2, 3, 4] bcast_S16x256x128x16x1_S16x256x128x16x3_0_1_2_3_4 : (⟨S16x256x128x16x1, .f32⟩ : BufTy).Contents (Elt F) → (⟨S16x256x128x16x3, .f32⟩ : BufTy).Contents (Elt F)),
  StableHlo.binary main_v253 main_v254 main_v255 (mulf : (⟨S16x256x128x16x3, .f32⟩ : BufTy).Contents (Elt F) → (⟨S16x256x128x16x3, .f32⟩ : BufTy).Contents (Elt F) → (⟨S16x256x128x16x3, .f32⟩ : BufTy).Contents (Elt F)) ]
theorem refC51_sub : (refC51 : List (HloOp τ sig (Elt F))).Forall fun op => op.bufs ⊆ StableHlo.tcRefs τ sig :=
  ⟨StableHlo.binary_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub ..⟩
abbrev refC51_W : List (Ref sig .tc) := [main_v248, main_v249, main_v250, main_v251, main_v252, main_v253, main_v254, main_v255]
theorem refC51_writes : (refC51 : List (HloOp τ sig (Elt F))).map HloOp.writes = refC51_W.map fun w => {Proc.devRef (τ := τ) .tc w} := rfl
theorem refC51_fresh : ∀ op ∈ (refC51 : List (HloOp τ sig (Elt F))), op.fresh = ∅ := by
  intro _ h; (repeat (cases h with | head => rfl | tail _ h => ?_)); exact nomatch h

/-- Operations of the reference, stretch 52: up to `main_v284`. -/
abbrev refC52 : List (HloOp τ sig (Elt F)) := [
  StableHlo.binary main_v255 main_arg16 main_v256 ((fun l r => Host.dotGeneral dot_S16x256x128x16x3_S256x256_S16x128x16x3x256_1_1_0234_0_n_n none l r) : (⟨S16x256x128x16x3, .f32⟩ : BufTy).Contents (Elt F) → (⟨S256x256, .f32⟩ : BufTy).Contents (Elt F) → (⟨S16x128x16x3x256, .f32⟩ : BufTy).Contents (Elt F)),
  StableHlo.unary main_v256 main_v257 ((transpose S16x256x128x16x3 [0, 4, 1, 2, 3] · transposes_S16x128x16x3x256_S16x256x128x16x3_0_4_1_2_3) : (⟨S16x128x16x3x256, .f32⟩ : BufTy).Contents (Elt F) → (⟨S16x256x128x16x3, .f32⟩ : BufTy).Contents (Elt F)),
  StableHlo.binary main_v255 main_v257 main_v258 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.nullary main_cst_48 (constant S_ .f32 0x00000000#32),
  StableHlo.binary main_v258 main_cst_48 main_v259 ((fun x v => Host.reduceAdd x v reducesTo_S16x256x128x16x3_S16x256x128x16_d4 h_S_) : (⟨S16x256x128x16x3, .f32⟩ : BufTy).Contents (Elt F) → (⟨S_, .f32⟩ : BufTy).Contents (Elt F) → (⟨S16x256x128x16, .f32⟩ : BufTy).Contents (Elt F)),
  StableHlo.unary main_v259 main_v260 (broadcastInDim S16x256x128x16x1 ![0, 1, 2, 3] bcast_S16x256x128x16_S16x256x128x16x1_0_1_2_3 : (⟨S16x256x128x16, .f32⟩ : BufTy).Contents (Elt F) → (⟨S16x256x128x16x1, .f32⟩ : BufTy).Contents (Elt F)),
  StableHlo.binary main_v257 main_v257 main_v261 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.nullary main_cst_49 (constant S_ .f32 0x00000000#32),
  StableHlo.binary main_v261 main_cst_49 main_v262 ((fun x v => Host.reduceAdd x v reducesTo_S16x256x128x16x3_S16x256x128x16_d4 h_S_) : (⟨S16x256x128x16x3, .f32⟩ : BufTy).Contents (Elt F) → (⟨S_, .f32⟩ : BufTy).Contents (Elt F) → (⟨S16x256x128x16, .f32⟩ : BufTy).Contents (Elt F)),
  StableHlo.unary main_v262 main_v263 (broadcastInDim S16x256x128x16x1 ![0, 1, 2, 3] bcast_S16x256x128x16_S16x256x128x16x1_0_1_2_3 : (⟨S16x256x128x16, .f32⟩ : BufTy).Contents (Elt F) → (⟨S16x256x128x16x1, .f32⟩ : BufTy).Contents (Elt F)),
  StableHlo.nullary main_cst_50 (constant S_ .f32 0x00000000#32),
  StableHlo.unary main_cst_50 main_v264 (broadcastInDim S16x256x128x16x1 ![] bcast_S_S16x256x128x16x1 : (⟨S_, .f32⟩ : BufTy).Contents (Elt F) → (⟨S16x256x128x16x1, .f32⟩ : BufTy).Contents (Elt F)),
  StableHlo.binary main_v260 main_v264 main_v265 (cmpf .oge : (⟨S16x256x128x16x1, .f32⟩ : BufTy).Contents (Elt F) → (⟨S16x256x128x16x1, .f32⟩ : BufTy).Contents (Elt F) → (⟨S16x256x128x16x1, .i1⟩ : BufTy).Contents (Elt F)),
  StableHlo.unary main_v265 main_v266 (uitofp .f32 : (⟨S16x256x128x16x1, .i1⟩ : BufTy).Contents (Elt F) → (⟨S16x256x128x16x1, .f32⟩ : BufTy).Contents (Elt F)),
  StableHlo.nullary main_cst_51 (constant S_ .f32 0x358637BD#32),
  StableHlo.unary main_cst_51 main_v267 (broadcastInDim S16x256x128x16x1 ![] bcast_S_S16x256x128x16x1 : (⟨S_, .f32⟩ : BufTy).Contents (Elt F) → (⟨S16x256x128x16x1, .f32⟩ : BufTy).Contents (Elt F)),
  StableHlo.binary main_v263 main_v267 main_v268 (addf : (⟨S16x256x128x16x1, .f32⟩ : BufTy).Contents (Elt F) → (⟨S16x256x128x16x1, .f32⟩ : BufTy).Contents (Elt F) → (⟨S16x256x128x16x1, .f32⟩ : BufTy).Contents (Elt F)),
  StableHlo.binary main_v260 main_v268 main_v269 (Host.divf : (⟨S16x256x128x16x1, .f32⟩ : BufTy).Contents (Elt F) → (⟨S16x256x128x16x1, .f32⟩ : BufTy).Contents (Elt F) → (⟨S16x256x128x16x1, .f32⟩ : BufTy).Contents (Elt F)),
  StableHlo.unary main_v269 main_v270 (broadcastInDim S16x256x128x16x3 ![0, 1, 2, 3, 4] bcast_S16x256x128x16x1_S16x256x128x16x3_0_1_2_3_4 : (⟨S16x256x128x16x1, .f32⟩ : BufTy).Contents (Elt F) → (⟨S16x256x128x16x3, .f32⟩ : BufTy).Contents (Elt F)),
  StableHlo.binary main_v270 main_v257 main_v271 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.binary main_v255 main_v271 main_v272 (subf : (⟨S16x256x128x16x3, .f32⟩ : BufTy).Contents (Elt F) → (⟨S16x256x128x16x3, .f32⟩ : BufTy).Contents (Elt F) → (⟨S16x256x128x16x3, .f32⟩ : BufTy).Contents (Elt F)),
  StableHlo.nullary main_cst_52 (constant S_ .f32 0x3E4CCCCD#32),
  StableHlo.unary main_cst_52 main_v273 (broadcastInDim S16x256x128x16x3 ![] bcast_S_S16x256x128x16x3 : (⟨S_, .f32⟩ : BufTy).Contents (Elt F) → (⟨S16x256x128x16x3, .f32⟩ : BufTy).Contents (Elt F)),
  StableHlo.binary main_v273 main_v255 main_v274 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.unary main_v266 main_v275 (broadcastInDim S16x256x128x16x3 ![0, 1, 2, 3, 4] bcast_S16x256x128x16x1_S16x256x128x16x3_0_1_2_3_4 : (⟨S16x256x128x16x1, .f32⟩ : BufTy).Contents (Elt F) → (⟨S16x256x128x16x3, .f32⟩ : BufTy).Contents (Elt F)),
  StableHlo.binary main_v275 main_v255 main_v276 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.nullary main_cst_53 (constant S_ .f32 0x3F800000#32),
  StableHlo.unary main_cst_53 main_v277 (broadcastInDim S16x256x128x16x1 ![] bcast_S_S16x256x128x16x1 : (⟨S_, .f32⟩ : BufTy).Contents (Elt F) → (⟨S16x256x128x16x1, .f32⟩ : BufTy).Contents (Elt F)),
  StableHlo.binary main_v277 main_v266 main_v278 (subf : (⟨S16x256x128x16x1, .f32⟩ : BufTy).Contents (Elt F) → (⟨S16x256x128x16x1, .f32⟩ : BufTy).Contents (Elt F) → (⟨S16x256x128x16x1, .f32⟩ : BufTy).Contents (Elt F)),
  StableHlo.unary main_v278 main_v279 (broadcastInDim S16x256x128x16x3 ![0, 1, 2, 3, 4] bcast_S16x256x128x16x1_S16x256x128x16x3_0_1_2_3_4 : (⟨S16x256x128x16x1, .f32⟩ : BufTy).Contents (Elt F) → (⟨S16x256x128x16x3, .f32⟩ : BufTy).Contents (Elt F)),
  StableHlo.binary main_v279 main_v272 main_v280 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.binary main_v276 main_v280 main_v281 (addf : (⟨S16x256x128x16x3, .f32⟩ : BufTy).Contents (Elt F) → (⟨S16x256x128x16x3, .f32⟩ : BufTy).Contents (Elt F) → (⟨S16x256x128x16x3, .f32⟩ : BufTy).Contents (Elt F)),
  StableHlo.nullary main_cst_54 (constant S_ .f32 0x3F4CCCCD#32),
  StableHlo.unary main_cst_54 main_v282 (broadcastInDim S16x256x128x16x3 ![] bcast_S_S16x256x128x16x3 : (⟨S_, .f32⟩ : BufTy).Contents (Elt F) → (⟨S16x256x128x16x3, .f32⟩ : BufTy).Contents (Elt F)),
  StableHlo.binary main_v282 main_v281 main_v283 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.binary main_v274 main_v283 main_v284 (addf : (⟨S16x256x128x16x3, .f32⟩ : BufTy).Contents (Elt F) → (⟨S16x256x128x16x3, .f32⟩ : BufTy).Contents (Elt F) → (⟨S16x256x128x16x3, .f32⟩ : BufTy).Contents (Elt F)) ]
theorem refC52_sub : (refC52 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
abbrev refC52_W : List (Ref sig .tc) := [main_v256, main_v257, main_v258, main_cst_48, main_v259, main_v260, main_v261, main_cst_49, main_v262, main_v263, main_cst_50, main_v264, main_v265, main_v266, main_cst_51, main_v267, main_v268, main_v269, main_v270, main_v271, main_v272, main_cst_52, main_v273, main_v274, main_v275, main_v276, main_cst_53, main_v277, main_v278, main_v279, main_v280, main_v281, main_cst_54, main_v282, main_v283, main_v284]
theorem refC52_writes : (refC52 : List (HloOp τ sig (Elt F))).map HloOp.writes = refC52_W.map fun w => {Proc.devRef (τ := τ) .tc w} := rfl
theorem refC52_fresh : ∀ op ∈ (refC52 : List (HloOp τ sig (Elt F))), op.fresh = ∅ := by
  intro _ h; (repeat (cases h with | head => rfl | tail _ h => ?_)); exact nomatch h

/-- Operations of the reference, stretch 53: up to `main_v286`. -/
abbrev refC53 : List (HloOp τ sig (Elt F)) := [
  StableHlo.binary main_v284 main_v284 main_v285 (mulf : (⟨S16x256x128x16x3, .f32⟩ : BufTy).Contents (Elt F) → (⟨S16x256x128x16x3, .f32⟩ : BufTy).Contents (Elt F) → (⟨S16x256x128x16x3, .f32⟩ : BufTy).Contents (Elt F)),
  StableHlo.nullary main_cst_55 (constant S_ .f32 0x00000000#32),
  StableHlo.binary main_v285 main_cst_55 main_v286 ((fun x v => Host.reduceAdd x v reducesTo_S16x256x128x16x3_S16x256x128x16_d4 h_S_) : (⟨S16x256x128x16x3, .f32⟩ : BufTy).Contents (Elt F) → (⟨S_, .f32⟩ : BufTy).Contents (Elt F) → (⟨S16x256x128x16, .f32⟩ : BufTy).Contents (Elt F)) ]
theorem refC53_sub : (refC53 : List (HloOp τ sig (Elt F))).Forall fun op => op.bufs ⊆ StableHlo.tcRefs τ sig :=
  ⟨StableHlo.binary_bufs_sub .., StableHlo.nullary_bufs_sub .., StableHlo.binary_bufs_sub ..⟩
abbrev refC53_W : List (Ref sig .tc) := [main_v285, main_cst_55, main_v286]
theorem refC53_writes : (refC53 : List (HloOp τ sig (Elt F))).map HloOp.writes = refC53_W.map fun w => {Proc.devRef (τ := τ) .tc w} := rfl
theorem refC53_fresh : ∀ op ∈ (refC53 : List (HloOp τ sig (Elt F))), op.fresh = ∅ := by
  intro _ h; (repeat (cases h with | head => rfl | tail _ h => ?_)); exact nomatch h

/-- Operations of the reference, stretch 54: up to `main_v287`. -/
abbrev refC54 : List (HloOp τ sig (Elt F)) := [
  StableHlo.TRef.nullary (.of main_call15_v0 : StableHlo.TRef sig ⟨S16x256x128x16, .i32⟩) (iotaInDim S16x256x128x16 32 3),
  StableHlo.TRef.nullary (.of main_call15_cst : StableHlo.TRef sig ⟨S_, .f32⟩) (constant S_ .f32 0xFF800000#32),
  StableHlo.TRef.nullary (.of main_call15_c : StableHlo.TRef sig ⟨S_, .i32⟩) (constantI S_ 32 0#32),
  StableHlo.TRef.quaternary (.of main_v286 : StableHlo.TRef sig ⟨S16x256x128x16, .f32⟩) (.of main_call15_v0 : StableHlo.TRef sig ⟨S16x256x128x16, .i32⟩) (.of main_call15_cst : StableHlo.TRef sig ⟨S_, .f32⟩) (.of main_call15_c : StableHlo.TRef sig ⟨S_, .i32⟩) (.of main_call15_v1_0 : StableHlo.TRef sig ⟨S16x256x128, .f32⟩) (fun x y u v j => (Host.argReduce reducer_argmax_f32_i32 x y u v reducesTo_S16x256x128x16_S16x256x128_d3 h_S_ j).1),
  StableHlo.TRef.quaternary (.of main_v286 : StableHlo.TRef sig ⟨S16x256x128x16, .f32⟩) (.of main_call15_v0 : StableHlo.TRef sig ⟨S16x256x128x16, .i32⟩) (.of main_call15_cst : StableHlo.TRef sig ⟨S_, .f32⟩) (.of main_call15_c : StableHlo.TRef sig ⟨S_, .i32⟩) (.of main_v287 : StableHlo.TRef sig ⟨S16x256x128, .i32⟩) (fun x y u v j => (Host.argReduce reducer_argmax_f32_i32 x y u v reducesTo_S16x256x128x16_S16x256x128_d3 h_S_ j).2) ]
theorem refC54_sub : (refC54 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev refC54_W : List (Ref sig .tc) := [main_call15_v0, main_call15_cst, main_call15_c, main_call15_v1_0, main_v287]
theorem refC54_writes : (refC54 : List (HloOp τ sig (Elt F))).map HloOp.writes = refC54_W.map fun w => {Proc.devRef (τ := τ) .tc w} := rfl
theorem refC54_fresh : ∀ op ∈ (refC54 : List (HloOp τ sig (Elt F))), op.fresh = ∅ := by
  intro _ h; (repeat (cases h with | head => rfl | tail _ h => ?_)); exact nomatch h

/-- Operations of the reference, stretch 55: up to `main_v288`. -/
abbrev refC55 : List (HloOp τ sig (Elt F)) := [
  StableHlo.unary main_v287 main_v288 (broadcastInDim S16x256x128x1x1 ![0, 1, 2] bcast_S16x256x128_S16x256x128x1x1_0_1_2 : (⟨S16x256x128, .i32⟩ : BufTy).Contents (Elt F) → (⟨S16x256x128x1x1, .i32⟩ : BufTy).Contents (Elt F)) ]
theorem refC55_sub : (refC55 : List (HloOp τ sig (Elt F))).Forall fun op => op.bufs ⊆ StableHlo.tcRefs τ sig :=
  StableHlo.unary_bufs_sub ..
abbrev refC55_W : List (Ref sig .tc) := [main_v288]
theorem refC55_writes : (refC55 : List (HloOp τ sig (Elt F))).map HloOp.writes = refC55_W.map fun w => {Proc.devRef (τ := τ) .tc w} := rfl
theorem refC55_fresh : ∀ op ∈ (refC55 : List (HloOp τ sig (Elt F))), op.fresh = ∅ := by
  intro _ h; (repeat (cases h with | head => rfl | tail _ h => ?_)); exact nomatch h

/-- Operations of the reference, stretch 56: up to `main_v289`. -/
abbrev refC56 : List (HloOp τ sig (Elt F)) := [
  StableHlo.TRef.nullary (.of main_call16_c : StableHlo.TRef sig ⟨S_, .i32⟩) (constantI S_ 32 0#32),
  StableHlo.TRef.unary (.of main_call16_c : StableHlo.TRef sig ⟨S_, .i32⟩) (.of main_call16_v0 : StableHlo.TRef sig ⟨S16x256x128x1x1, .i32⟩) (broadcastInDim S16x256x128x1x1 ![] bcast_S_S16x256x128x1x1),
  StableHlo.TRef.binary (.of main_v288 : StableHlo.TRef sig ⟨S16x256x128x1x1, .i32⟩) (.of main_call16_v0 : StableHlo.TRef sig ⟨S16x256x128x1x1, .i32⟩) (.of main_call16_v1 : StableHlo.TRef sig ⟨S16x256x128x1x1, .i1⟩) (cmpi .slt),
  StableHlo.TRef.nullary (.of main_call16_c_0 : StableHlo.TRef sig ⟨S_, .i32⟩) (constantI S_ 32 16#32),
  StableHlo.TRef.unary (.of main_call16_c_0 : StableHlo.TRef sig ⟨S_, .i32⟩) (.of main_call16_v2 : StableHlo.TRef sig ⟨S16x256x128x1x1, .i32⟩) (broadcastInDim S16x256x128x1x1 ![] bcast_S_S16x256x128x1x1),
  StableHlo.TRef.binary (.of main_v288 : StableHlo.TRef sig ⟨S16x256x128x1x1, .i32⟩) (.of main_call16_v2 : StableHlo.TRef sig ⟨S16x256x128x1x1, .i32⟩) (.of main_call16_v3 : StableHlo.TRef sig ⟨S16x256x128x1x1, .i32⟩) addi,
  StableHlo.TRef.ternary (.of main_call16_v1 : StableHlo.TRef sig ⟨S16x256x128x1x1, .i1⟩) (.of main_call16_v3 : StableHlo.TRef sig ⟨S16x256x128x1x1, .i32⟩) (.of main_v288 : StableHlo.TRef sig ⟨S16x256x128x1x1, .i32⟩) (.of main_call16_v4 : StableHlo.TRef sig ⟨S16x256x128x1x1, .i32⟩) select,
  StableHlo.TRef.nullary (.of main_call16_c_1 : StableHlo.TRef sig ⟨S1, .i32⟩) (constantI S1 32 15#32),
  StableHlo.TRef.nullary (.of main_call16_c_2 : StableHlo.TRef sig ⟨S_, .i32⟩) (constantI S_ 32 0#32),
  StableHlo.TRef.unary (.of main_call16_c_2 : StableHlo.TRef sig ⟨S_, .i32⟩) (.of main_call16_v5 : StableHlo.TRef sig ⟨S16x256x128x1x1, .i32⟩) (broadcastInDim S16x256x128x1x1 ![] bcast_S_S16x256x128x1x1),
  StableHlo.TRef.binary (.of main_call16_v4 : StableHlo.TRef sig ⟨S16x256x128x1x1, .i32⟩) (.of main_call16_v5 : StableHlo.TRef sig ⟨S16x256x128x1x1, .i32⟩) (.of main_call16_v6 : StableHlo.TRef sig ⟨S16x256x128x1x1, .i1⟩) (cmpi .sge),
  StableHlo.TRef.unary (.of main_call16_c_1 : StableHlo.TRef sig ⟨S1, .i32⟩) (.of main_call16_v7 : StableHlo.TRef sig ⟨S1x1x1x1x1, .i32⟩) (broadcastInDim S1x1x1x1x1 ![4] bcast_S1_S1x1x1x1x1_4),
  StableHlo.TRef.unary (.of main_call16_v7 : StableHlo.TRef sig ⟨S1x1x1x1x1, .i32⟩) (.of main_call16_v8 : StableHlo.TRef sig ⟨S16x256x128x1x1, .i32⟩) (broadcastInDim S16x256x128x1x1 ![0, 1, 2, 3, 4] bcast_S1x1x1x1x1_S16x256x128x1x1_0_1_2_3_4),
  StableHlo.TRef.binary (.of main_call16_v4 : StableHlo.TRef sig ⟨S16x256x128x1x1, .i32⟩) (.of main_call16_v8 : StableHlo.TRef sig ⟨S16x256x128x1x1, .i32⟩) (.of main_call16_v9 : StableHlo.TRef sig ⟨S16x256x128x1x1, .i1⟩) (cmpi .sle),
  StableHlo.TRef.binary (.of main_call16_v6 : StableHlo.TRef sig ⟨S16x256x128x1x1, .i1⟩) (.of main_call16_v9 : StableHlo.TRef sig ⟨S16x256x128x1x1, .i1⟩) (.of main_call16_v10 : StableHlo.TRef sig ⟨S16x256x128x1x1, .i1⟩) andi,
  StableHlo.TRef.nullary (.of main_call16_c_3 : StableHlo.TRef sig ⟨S_, .i1⟩) (constantI S_ 1 1#1),
  StableHlo.TRef.binary (.of main_call16_v10 : StableHlo.TRef sig ⟨S16x256x128x1x1, .i1⟩) (.of main_call16_c_3 : StableHlo.TRef sig ⟨S_, .i1⟩) (.of main_call16_v11 : StableHlo.TRef sig ⟨S16x256x128x1, .i1⟩) (fun x v => Host.reduce IntOp.andi x v reducesTo_S16x256x128x1x1_S16x256x128x1_d4 h_S_),
  StableHlo.TRef.binary (.of main_v284 : StableHlo.TRef sig ⟨S16x256x128x16x3, .f32⟩) (.of main_call16_v4 : StableHlo.TRef sig ⟨S16x256x128x1x1, .i32⟩) (.of main_call16_v12 : StableHlo.TRef sig ⟨S16x256x128x1x3, .f32⟩) (fun x i => Host.gather gather_S16x256x128x16x3_S16x256x128x1x1_S16x256x128x1x3_4_3_012_012_3_4_11113 x i),
  StableHlo.TRef.unary (.of main_call16_v11 : StableHlo.TRef sig ⟨S16x256x128x1, .i1⟩) (.of main_call16_v13 : StableHlo.TRef sig ⟨S16x256x128x1x3, .i1⟩) (broadcastInDim S16x256x128x1x3 ![0, 1, 2, 3] bcast_S16x256x128x1_S16x256x128x1x3_0_1_2_3),
  StableHlo.TRef.nullary (.of main_call16_cst : StableHlo.TRef sig ⟨S_, .f32⟩) (constant S_ .f32 0x7FC00000#32),
  StableHlo.TRef.unary (.of main_call16_cst : StableHlo.TRef sig ⟨S_, .f32⟩) (.of main_call16_v14 : StableHlo.TRef sig ⟨S16x256x128x1x3, .f32⟩) (broadcastInDim S16x256x128x1x3 ![] bcast_S_S16x256x128x1x3),
  StableHlo.TRef.ternary (.of main_call16_v13 : StableHlo.TRef sig ⟨S16x256x128x1x3, .i1⟩) (.of main_call16_v12 : StableHlo.TRef sig ⟨S16x256x128x1x3, .f32⟩) (.of main_call16_v14 : StableHlo.TRef sig ⟨S16x256x128x1x3, .f32⟩) (.of main_v289 : StableHlo.TRef sig ⟨S16x256x128x1x3, .f32⟩) select ]
theorem refC56_sub : (refC56 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC56_W : List (Ref sig .tc) := [main_call16_c, main_call16_v0, main_call16_v1, main_call16_c_0, main_call16_v2, main_call16_v3, main_call16_v4, main_call16_c_1, main_call16_c_2, main_call16_v5, main_call16_v6, main_call16_v7, main_call16_v8, main_call16_v9, main_call16_v10, main_call16_c_3, main_call16_v11, main_call16_v12, main_call16_v13, main_call16_cst, main_call16_v14, main_v289]
theorem refC56_writes : (refC56 : List (HloOp τ sig (Elt F))).map HloOp.writes = refC56_W.map fun w => {Proc.devRef (τ := τ) .tc w} := rfl
theorem refC56_fresh : ∀ op ∈ (refC56 : List (HloOp τ sig (Elt F))), op.fresh = ∅ := by
  intro _ h; (repeat (cases h with | head => rfl | tail _ h => ?_)); exact nomatch h

/-- Operations of the reference, stretch 57: up to `main_v290`. -/
abbrev refC57 : List (HloOp τ sig (Elt F)) := [
  StableHlo.reshape main_v289 main_v290 (rfl : (.f32 : EltTy) = .f32) shapeCasts_S16x256x128x1x3_S16x256x128x3 ]
theorem refC57_sub : (refC57 : List (HloOp τ sig (Elt F))).Forall fun op => op.bufs ⊆ StableHlo.tcRefs τ sig :=
  StableHlo.reshape_bufs_sub ..
abbrev refC57_W : List (Ref sig .tc) := [main_v290]
theorem refC57_writes : (refC57 : List (HloOp τ sig (Elt F))).map HloOp.writes = refC57_W.map fun w => {Proc.devRef (τ := τ) .tc w} := rfl
theorem refC57_fresh : ∀ op ∈ (refC57 : List (HloOp τ sig (Elt F))), op.fresh = ∅ := by
  intro _ h; (repeat (cases h with | head => rfl | tail _ h => ?_)); exact nomatch h

/-- Operations of the reference, stretch 58: up to `main_v291`. -/
abbrev refC58 : List (HloOp τ sig (Elt F)) := [
  StableHlo.unary main_v146 main_v291 ((transpose S16x3x128 [0, 2, 1] · transposes_S16x128x3_S16x3x128_0_2_1) : (⟨S16x128x3, .f32⟩ : BufTy).Contents (Elt F) → (⟨S16x3x128, .f32⟩ : BufTy).Contents (Elt F)) ]
theorem refC58_sub : (refC58 : List (HloOp τ sig (Elt F))).Forall fun op => op.bufs ⊆ StableHlo.tcRefs τ sig :=
  StableHlo.unary_bufs_sub ..
abbrev refC58_W : List (Ref sig .tc) := [main_v291]
theorem refC58_writes : (refC58 : List (HloOp τ sig (Elt F))).map HloOp.writes = refC58_W.map fun w => {Proc.devRef (τ := τ) .tc w} := rfl
theorem refC58_fresh : ∀ op ∈ (refC58 : List (HloOp τ sig (Elt F))), op.fresh = ∅ := by
  intro _ h; (repeat (cases h with | head => rfl | tail _ h => ?_)); exact nomatch h

/-- Operations of the reference, stretch 59: up to `main_v293`. -/
abbrev refC59 : List (HloOp τ sig (Elt F)) := [
  StableHlo.binary main_v290 main_v290 main_v292 (mulf : (⟨S16x256x128x3, .f32⟩ : BufTy).Contents (Elt F) → (⟨S16x256x128x3, .f32⟩ : BufTy).Contents (Elt F) → (⟨S16x256x128x3, .f32⟩ : BufTy).Contents (Elt F)),
  StableHlo.nullary main_cst_56 (constant S_ .f32 0x00000000#32),
  StableHlo.binary main_v292 main_cst_56 main_v293 ((fun x v => Host.reduceAdd x v reducesTo_S16x256x128x3_S16x256x128_d3 h_S_) : (⟨S16x256x128x3, .f32⟩ : BufTy).Contents (Elt F) → (⟨S_, .f32⟩ : BufTy).Contents (Elt F) → (⟨S16x256x128, .f32⟩ : BufTy).Contents (Elt F)) ]
theorem refC59_sub : (refC59 : List (HloOp τ sig (Elt F))).Forall fun op => op.bufs ⊆ StableHlo.tcRefs τ sig :=
  ⟨StableHlo.binary_bufs_sub .., StableHlo.nullary_bufs_sub .., StableHlo.binary_bufs_sub ..⟩
abbrev refC59_W : List (Ref sig .tc) := [main_v292, main_cst_56, main_v293]
theorem refC59_writes : (refC59 : List (HloOp τ sig (Elt F))).map HloOp.writes = refC59_W.map fun w => {Proc.devRef (τ := τ) .tc w} := rfl
theorem refC59_fresh : ∀ op ∈ (refC59 : List (HloOp τ sig (Elt F))), op.fresh = ∅ := by
  intro _ h; (repeat (cases h with | head => rfl | tail _ h => ?_)); exact nomatch h

/-- Operations of the reference, stretch 60: up to `main_v294`. -/
abbrev refC60 : List (HloOp τ sig (Elt F)) := [
  StableHlo.TRef.nullary (.of main_call17_v0 : StableHlo.TRef sig ⟨S16x256x128, .i32⟩) (iotaInDim S16x256x128 32 2),
  StableHlo.TRef.nullary (.of main_call17_cst : StableHlo.TRef sig ⟨S_, .f32⟩) (constant S_ .f32 0xFF800000#32),
  StableHlo.TRef.nullary (.of main_call17_c : StableHlo.TRef sig ⟨S_, .i32⟩) (constantI S_ 32 0#32),
  StableHlo.TRef.quaternary (.of main_v293 : StableHlo.TRef sig ⟨S16x256x128, .f32⟩) (.of main_call17_v0 : StableHlo.TRef sig ⟨S16x256x128, .i32⟩) (.of main_call17_cst : StableHlo.TRef sig ⟨S_, .f32⟩) (.of main_call17_c : StableHlo.TRef sig ⟨S_, .i32⟩) (.of main_call17_v1_0 : StableHlo.TRef sig ⟨S16x256, .f32⟩) (fun x y u v j => (Host.argReduce reducer_argmax_f32_i32 x y u v reducesTo_S16x256x128_S16x256_d2 h_S_ j).1),
  StableHlo.TRef.quaternary (.of main_v293 : StableHlo.TRef sig ⟨S16x256x128, .f32⟩) (.of main_call17_v0 : StableHlo.TRef sig ⟨S16x256x128, .i32⟩) (.of main_call17_cst : StableHlo.TRef sig ⟨S_, .f32⟩) (.of main_call17_c : StableHlo.TRef sig ⟨S_, .i32⟩) (.of main_v294 : StableHlo.TRef sig ⟨S16x256, .i32⟩) (fun x y u v j => (Host.argReduce reducer_argmax_f32_i32 x y u v reducesTo_S16x256x128_S16x256_d2 h_S_ j).2) ]
theorem refC60_sub : (refC60 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev refC60_W : List (Ref sig .tc) := [main_call17_v0, main_call17_cst, main_call17_c, main_call17_v1_0, main_v294]
theorem refC60_writes : (refC60 : List (HloOp τ sig (Elt F))).map HloOp.writes = refC60_W.map fun w => {Proc.devRef (τ := τ) .tc w} := rfl
theorem refC60_fresh : ∀ op ∈ (refC60 : List (HloOp τ sig (Elt F))), op.fresh = ∅ := by
  intro _ h; (repeat (cases h with | head => rfl | tail _ h => ?_)); exact nomatch h

/-- Operations of the reference, stretch 61: up to `main_v295`. -/
abbrev refC61 : List (HloOp τ sig (Elt F)) := [
  StableHlo.unary main_v294 main_v295 (broadcastInDim S16x256x1x1 ![0, 1] bcast_S16x256_S16x256x1x1_0_1 : (⟨S16x256, .i32⟩ : BufTy).Contents (Elt F) → (⟨S16x256x1x1, .i32⟩ : BufTy).Contents (Elt F)) ]
theorem refC61_sub : (refC61 : List (HloOp τ sig (Elt F))).Forall fun op => op.bufs ⊆ StableHlo.tcRefs τ sig :=
  StableHlo.unary_bufs_sub ..
abbrev refC61_W : List (Ref sig .tc) := [main_v295]
theorem refC61_writes : (refC61 : List (HloOp τ sig (Elt F))).map HloOp.writes = refC61_W.map fun w => {Proc.devRef (τ := τ) .tc w} := rfl
theorem refC61_fresh : ∀ op ∈ (refC61 : List (HloOp τ sig (Elt F))), op.fresh = ∅ := by
  intro _ h; (repeat (cases h with | head => rfl | tail _ h => ?_)); exact nomatch h

/-- Operations of the reference, stretch 62: up to `main_v296`. -/
abbrev refC62 : List (HloOp τ sig (Elt F)) := [
  StableHlo.TRef.nullary (.of main_call18_c : StableHlo.TRef sig ⟨S_, .i32⟩) (constantI S_ 32 0#32),
  StableHlo.TRef.unary (.of main_call18_c : StableHlo.TRef sig ⟨S_, .i32⟩) (.of main_call18_v0 : StableHlo.TRef sig ⟨S16x256x1x1, .i32⟩) (broadcastInDim S16x256x1x1 ![] bcast_S_S16x256x1x1),
  StableHlo.TRef.binary (.of main_v295 : StableHlo.TRef sig ⟨S16x256x1x1, .i32⟩) (.of main_call18_v0 : StableHlo.TRef sig ⟨S16x256x1x1, .i32⟩) (.of main_call18_v1 : StableHlo.TRef sig ⟨S16x256x1x1, .i1⟩) (cmpi .slt),
  StableHlo.TRef.nullary (.of main_call18_c_0 : StableHlo.TRef sig ⟨S_, .i32⟩) (constantI S_ 32 128#32),
  StableHlo.TRef.unary (.of main_call18_c_0 : StableHlo.TRef sig ⟨S_, .i32⟩) (.of main_call18_v2 : StableHlo.TRef sig ⟨S16x256x1x1, .i32⟩) (broadcastInDim S16x256x1x1 ![] bcast_S_S16x256x1x1),
  StableHlo.TRef.binary (.of main_v295 : StableHlo.TRef sig ⟨S16x256x1x1, .i32⟩) (.of main_call18_v2 : StableHlo.TRef sig ⟨S16x256x1x1, .i32⟩) (.of main_call18_v3 : StableHlo.TRef sig ⟨S16x256x1x1, .i32⟩) addi,
  StableHlo.TRef.ternary (.of main_call18_v1 : StableHlo.TRef sig ⟨S16x256x1x1, .i1⟩) (.of main_call18_v3 : StableHlo.TRef sig ⟨S16x256x1x1, .i32⟩) (.of main_v295 : StableHlo.TRef sig ⟨S16x256x1x1, .i32⟩) (.of main_call18_v4 : StableHlo.TRef sig ⟨S16x256x1x1, .i32⟩) select,
  StableHlo.TRef.nullary (.of main_call18_c_1 : StableHlo.TRef sig ⟨S1, .i32⟩) (constantI S1 32 127#32),
  StableHlo.TRef.nullary (.of main_call18_c_2 : StableHlo.TRef sig ⟨S_, .i32⟩) (constantI S_ 32 0#32),
  StableHlo.TRef.unary (.of main_call18_c_2 : StableHlo.TRef sig ⟨S_, .i32⟩) (.of main_call18_v5 : StableHlo.TRef sig ⟨S16x256x1x1, .i32⟩) (broadcastInDim S16x256x1x1 ![] bcast_S_S16x256x1x1),
  StableHlo.TRef.binary (.of main_call18_v4 : StableHlo.TRef sig ⟨S16x256x1x1, .i32⟩) (.of main_call18_v5 : StableHlo.TRef sig ⟨S16x256x1x1, .i32⟩) (.of main_call18_v6 : StableHlo.TRef sig ⟨S16x256x1x1, .i1⟩) (cmpi .sge),
  StableHlo.TRef.unary (.of main_call18_c_1 : StableHlo.TRef sig ⟨S1, .i32⟩) (.of main_call18_v7 : StableHlo.TRef sig ⟨S1x1x1x1, .i32⟩) (broadcastInDim S1x1x1x1 ![3] bcast_S1_S1x1x1x1_3),
  StableHlo.TRef.unary (.of main_call18_v7 : StableHlo.TRef sig ⟨S1x1x1x1, .i32⟩) (.of main_call18_v8 : StableHlo.TRef sig ⟨S16x256x1x1, .i32⟩) (broadcastInDim S16x256x1x1 ![0, 1, 2, 3] bcast_S1x1x1x1_S16x256x1x1_0_1_2_3),
  StableHlo.TRef.binary (.of main_call18_v4 : StableHlo.TRef sig ⟨S16x256x1x1, .i32⟩) (.of main_call18_v8 : StableHlo.TRef sig ⟨S16x256x1x1, .i32⟩) (.of main_call18_v9 : StableHlo.TRef sig ⟨S16x256x1x1, .i1⟩) (cmpi .sle),
  StableHlo.TRef.binary (.of main_call18_v6 : StableHlo.TRef sig ⟨S16x256x1x1, .i1⟩) (.of main_call18_v9 : StableHlo.TRef sig ⟨S16x256x1x1, .i1⟩) (.of main_call18_v10 : StableHlo.TRef sig ⟨S16x256x1x1, .i1⟩) andi,
  StableHlo.TRef.nullary (.of main_call18_c_3 : StableHlo.TRef sig ⟨S_, .i1⟩) (constantI S_ 1 1#1),
  StableHlo.TRef.binary (.of main_call18_v10 : StableHlo.TRef sig ⟨S16x256x1x1, .i1⟩) (.of main_call18_c_3 : StableHlo.TRef sig ⟨S_, .i1⟩) (.of main_call18_v11 : StableHlo.TRef sig ⟨S16x256x1, .i1⟩) (fun x v => Host.reduce IntOp.andi x v reducesTo_S16x256x1x1_S16x256x1_d3 h_S_),
  StableHlo.TRef.binary (.of main_v290 : StableHlo.TRef sig ⟨S16x256x128x3, .f32⟩) (.of main_call18_v4 : StableHlo.TRef sig ⟨S16x256x1x1, .i32⟩) (.of main_call18_v12 : StableHlo.TRef sig ⟨S16x256x1x3, .f32⟩) (fun x i => Host.gather gather_S16x256x128x3_S16x256x1x1_S16x256x1x3_3_2_01_01_2_3_1113 x i),
  StableHlo.TRef.unary (.of main_call18_v11 : StableHlo.TRef sig ⟨S16x256x1, .i1⟩) (.of main_call18_v13 : StableHlo.TRef sig ⟨S16x256x1x3, .i1⟩) (broadcastInDim S16x256x1x3 ![0, 1, 2] bcast_S16x256x1_S16x256x1x3_0_1_2),
  StableHlo.TRef.nullary (.of main_call18_cst : StableHlo.TRef sig ⟨S_, .f32⟩) (constant S_ .f32 0x7FC00000#32),
  StableHlo.TRef.unary (.of main_call18_cst : StableHlo.TRef sig ⟨S_, .f32⟩) (.of main_call18_v14 : StableHlo.TRef sig ⟨S16x256x1x3, .f32⟩) (broadcastInDim S16x256x1x3 ![] bcast_S_S16x256x1x3),
  StableHlo.TRef.ternary (.of main_call18_v13 : StableHlo.TRef sig ⟨S16x256x1x3, .i1⟩) (.of main_call18_v12 : StableHlo.TRef sig ⟨S16x256x1x3, .f32⟩) (.of main_call18_v14 : StableHlo.TRef sig ⟨S16x256x1x3, .f32⟩) (.of main_v296 : StableHlo.TRef sig ⟨S16x256x1x3, .f32⟩) select ]
theorem refC62_sub : (refC62 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev refC62_W : List (Ref sig .tc) := [main_call18_c, main_call18_v0, main_call18_v1, main_call18_c_0, main_call18_v2, main_call18_v3, main_call18_v4, main_call18_c_1, main_call18_c_2, main_call18_v5, main_call18_v6, main_call18_v7, main_call18_v8, main_call18_v9, main_call18_v10, main_call18_c_3, main_call18_v11, main_call18_v12, main_call18_v13, main_call18_cst, main_call18_v14, main_v296]
theorem refC62_writes : (refC62 : List (HloOp τ sig (Elt F))).map HloOp.writes = refC62_W.map fun w => {Proc.devRef (τ := τ) .tc w} := rfl
theorem refC62_fresh : ∀ op ∈ (refC62 : List (HloOp τ sig (Elt F))), op.fresh = ∅ := by
  intro _ h; (repeat (cases h with | head => rfl | tail _ h => ?_)); exact nomatch h

/-- Operations of the reference, stretch 63: up to `main_v297`. -/
abbrev refC63 : List (HloOp τ sig (Elt F)) := [
  StableHlo.reshape main_v296 main_v297 (rfl : (.f32 : EltTy) = .f32) shapeCasts_S16x256x1x3_S16x256x3 ]
theorem refC63_sub : (refC63 : List (HloOp τ sig (Elt F))).Forall fun op => op.bufs ⊆ StableHlo.tcRefs τ sig :=
  StableHlo.reshape_bufs_sub ..
abbrev refC63_W : List (Ref sig .tc) := [main_v297]
theorem refC63_writes : (refC63 : List (HloOp τ sig (Elt F))).map HloOp.writes = refC63_W.map fun w => {Proc.devRef (τ := τ) .tc w} := rfl
theorem refC63_fresh : ∀ op ∈ (refC63 : List (HloOp τ sig (Elt F))), op.fresh = ∅ := by
  intro _ h; (repeat (cases h with | head => rfl | tail _ h => ?_)); exact nomatch h

/-- Operations of the reference, stretch 64: up to `main_v298`. -/
abbrev refC64 : List (HloOp τ sig (Elt F)) := [
  StableHlo.unary main_v297 main_v298 (broadcastInDim S16x256x1x3 ![0, 1, 3] bcast_S16x256x3_S16x256x1x3_0_1_3 : (⟨S16x256x3, .f32⟩ : BufTy).Contents (Elt F) → (⟨S16x256x1x3, .f32⟩ : BufTy).Contents (Elt F)) ]
theorem refC64_sub : (refC64 : List (HloOp τ sig (Elt F))).Forall fun op => op.bufs ⊆ StableHlo.tcRefs τ sig :=
  StableHlo.unary_bufs_sub ..
abbrev refC64_W : List (Ref sig .tc) := [main_v298]
theorem refC64_writes : (refC64 : List (HloOp τ sig (Elt F))).map HloOp.writes = refC64_W.map fun w => {Proc.devRef (τ := τ) .tc w} := rfl
theorem refC64_fresh : ∀ op ∈ (refC64 : List (HloOp τ sig (Elt F))), op.fresh = ∅ := by
  intro _ h; (repeat (cases h with | head => rfl | tail _ h => ?_)); exact nomatch h

/-- Operations of the reference, stretch 65: up to `main_v305`. -/
abbrev refC65 : List (HloOp τ sig (Elt F)) := [
  StableHlo.binary main_v298 main_arg19 main_v299 ((fun l r => Host.dotGeneral dot_S16x256x1x3_S2x256_S16x1x3x2_1_1_023_0_n_n none l r) : (⟨S16x256x1x3, .f32⟩ : BufTy).Contents (Elt F) → (⟨S2x256, .f32⟩ : BufTy).Contents (Elt F) → (⟨S16x1x3x2, .f32⟩ : BufTy).Contents (Elt F)),
  StableHlo.unary main_v299 main_v300 ((transpose S16x2x1x3 [0, 3, 1, 2] · transposes_S16x1x3x2_S16x2x1x3_0_3_1_2) : (⟨S16x1x3x2, .f32⟩ : BufTy).Contents (Elt F) → (⟨S16x2x1x3, .f32⟩ : BufTy).Contents (Elt F)),
  StableHlo.reshape main_v300 main_v301 (rfl : (.f32 : EltTy) = .f32) shapeCasts_S16x2x1x3_S16x2x3,
  StableHlo.unary main_v301 main_v302 ((extractStridedSlice S16x1x3 ![0, 0, 0] · slices_S16x2x3_S16x1x3_0_0_0) : (⟨S16x2x3, .f32⟩ : BufTy).Contents (Elt F) → (⟨S16x1x3, .f32⟩ : BufTy).Contents (Elt F)),
  StableHlo.reshape main_v302 main_v303 (rfl : (.f32 : EltTy) = .f32) shapeCasts_S16x1x3_S16x3,
  StableHlo.unary main_v301 main_v304 ((extractStridedSlice S16x1x3 ![0, 1, 0] · slices_S16x2x3_S16x1x3_0_1_0) : (⟨S16x2x3, .f32⟩ : BufTy).Contents (Elt F) → (⟨S16x1x3, .f32⟩ : BufTy).Contents (Elt F)),
  StableHlo.reshape main_v304 main_v305 (rfl : (.f32 : EltTy) = .f32) shapeCasts_S16x1x3_S16x3 ]
theorem refC65_sub : (refC65 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.unary_bufs_sub .., StableHlo.reshape_bufs_sub ..⟩
abbrev refC65_W : List (Ref sig .tc) := [main_v299, main_v300, main_v301, main_v302, main_v303, main_v304, main_v305]
theorem refC65_writes : (refC65 : List (HloOp τ sig (Elt F))).map HloOp.writes = refC65_W.map fun w => {Proc.devRef (τ := τ) .tc w} := rfl
theorem refC65_fresh : ∀ op ∈ (refC65 : List (HloOp τ sig (Elt F))), op.fresh = ∅ := by
  intro _ h; (repeat (cases h with | head => rfl | tail _ h => ?_)); exact nomatch h

/-- Operations of the reference, stretch 66: up to `main_v306`. -/
abbrev refC66 : List (HloOp τ sig (Elt F)) := [
  StableHlo.TRef.binary (.of main_v303 : StableHlo.TRef sig ⟨S16x3, .f32⟩) (.of main_v303 : StableHlo.TRef sig ⟨S16x3, .f32⟩) (.of main_call19_v0 : StableHlo.TRef sig ⟨S16x3, .f32⟩) mulf,
  StableHlo.TRef.nullary (.of main_call19_cst : StableHlo.TRef sig ⟨S_, .f32⟩) (constant S_ .f32 0x00000000#32),
  StableHlo.TRef.binary (.of main_call19_v0 : StableHlo.TRef sig ⟨S16x3, .f32⟩) (.of main_call19_cst : StableHlo.TRef sig ⟨S_, .f32⟩) (.of main_call19_v1 : StableHlo.TRef sig ⟨S16, .f32⟩) (fun x v => Host.reduceAdd x v reducesTo_S16x3_S16_d1 h_S_),
  StableHlo.TRef.unary (.of main_call19_v1 : StableHlo.TRef sig ⟨S16, .f32⟩) (.of main_call19_v2 : StableHlo.TRef sig ⟨S16x1, .f32⟩) (broadcastInDim S16x1 ![0] bcast_S16_S16x1_0),
  StableHlo.TRef.unary (.of main_call19_v2 : StableHlo.TRef sig ⟨S16x1, .f32⟩) (.of main_v306 : StableHlo.TRef sig ⟨S16x1, .f32⟩) Host.sqrt ]
theorem refC66_sub : (refC66 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev refC66_W : List (Ref sig .tc) := [main_call19_v0, main_call19_cst, main_call19_v1, main_call19_v2, main_v306]
theorem refC66_writes : (refC66 : List (HloOp τ sig (Elt F))).map HloOp.writes = refC66_W.map fun w => {Proc.devRef (τ := τ) .tc w} := rfl
theorem refC66_fresh : ∀ op ∈ (refC66 : List (HloOp τ sig (Elt F))), op.fresh = ∅ := by
  intro _ h; (repeat (cases h with | head => rfl | tail _ h => ?_)); exact nomatch h

/-- Operations of the reference, stretch 67: up to `main_v316`. -/
abbrev refC67 : List (HloOp τ sig (Elt F)) := [
  StableHlo.nullary main_cst_57 (constant S_ .f32 0x358637BD#32),
  StableHlo.unary main_cst_57 main_v307 (broadcastInDim S16x1 ![] bcast_S_S16x1 : (⟨S_, .f32⟩ : BufTy).Contents (Elt F) → (⟨S16x1, .f32⟩ : BufTy).Contents (Elt F)),
  StableHlo.binary main_v306 main_v307 main_v308 (maximumf : (⟨S16x1, .f32⟩ : BufTy).Contents (Elt F) → (⟨S16x1, .f32⟩ : BufTy).Contents (Elt F) → (⟨S16x1, .f32⟩ : BufTy).Contents (Elt F)),
  StableHlo.unary main_v308 main_v309 (broadcastInDim S16x3 ![0, 1] bcast_S16x1_S16x3_0_1 : (⟨S16x1, .f32⟩ : BufTy).Contents (Elt F) → (⟨S16x3, .f32⟩ : BufTy).Contents (Elt F)),
  StableHlo.binary main_v303 main_v309 main_v310 (Host.divf : (⟨S16x3, .f32⟩ : BufTy).Contents (Elt F) → (⟨S16x3, .f32⟩ : BufTy).Contents (Elt F) → (⟨S16x3, .f32⟩ : BufTy).Contents (Elt F)),
  StableHlo.binary main_v310 main_v305 main_v311 (mulf : (⟨S16x3, .f32⟩ : BufTy).Contents (Elt F) → (⟨S16x3, .f32⟩ : BufTy).Contents (Elt F) → (⟨S16x3, .f32⟩ : BufTy).Contents (Elt F)),
  StableHlo.nullary main_cst_58 (constant S_ .f32 0x00000000#32),
  StableHlo.binary main_v311 main_cst_58 main_v312 ((fun x v => Host.reduceAdd x v reducesTo_S16x3_S16_d1 h_S_) : (⟨S16x3, .f32⟩ : BufTy).Contents (Elt F) → (⟨S_, .f32⟩ : BufTy).Contents (Elt F) → (⟨S16, .f32⟩ : BufTy).Contents (Elt F)),
  StableHlo.unary main_v312 main_v313 (broadcastInDim S16x1 ![0] bcast_S16_S16x1_0 : (⟨S16, .f32⟩ : BufTy).Contents (Elt F) → (⟨S16x1, .f32⟩ : BufTy).Contents (Elt F)),
  StableHlo.unary main_v313 main_v314 (broadcastInDim S16x3 ![0, 1] bcast_S16x1_S16x3_0_1 : (⟨S16x1, .f32⟩ : BufTy).Contents (Elt F) → (⟨S16x3, .f32⟩ : BufTy).Contents (Elt F)),
  StableHlo.binary main_v314 main_v310 main_v315 (mulf : (⟨S16x3, .f32⟩ : BufTy).Contents (Elt F) → (⟨S16x3, .f32⟩ : BufTy).Contents (Elt F) → (⟨S16x3, .f32⟩ : BufTy).Contents (Elt F)),
  StableHlo.binary main_v305 main_v315 main_v316 (subf : (⟨S16x3, .f32⟩ : BufTy).Contents (Elt F) → (⟨S16x3, .f32⟩ : BufTy).Contents (Elt F) → (⟨S16x3, .f32⟩ : BufTy).Contents (Elt F)) ]
theorem refC67_sub : (refC67 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub ..⟩
abbrev refC67_W : List (Ref sig .tc) := [main_cst_57, main_v307, main_v308, main_v309, main_v310, main_v311, main_cst_58, main_v312, main_v313, main_v314, main_v315, main_v316]
theorem refC67_writes : (refC67 : List (HloOp τ sig (Elt F))).map HloOp.writes = refC67_W.map fun w => {Proc.devRef (τ := τ) .tc w} := rfl
theorem refC67_fresh : ∀ op ∈ (refC67 : List (HloOp τ sig (Elt F))), op.fresh = ∅ := by
  intro _ h; (repeat (cases h with | head => rfl | tail _ h => ?_)); exact nomatch h

/-- Operations of the reference, stretch 68: up to `main_v317`. -/
abbrev refC68 : List (HloOp τ sig (Elt F)) := [
  StableHlo.TRef.binary (.of main_v316 : StableHlo.TRef sig ⟨S16x3, .f32⟩) (.of main_v316 : StableHlo.TRef sig ⟨S16x3, .f32⟩) (.of main_call20_v0 : StableHlo.TRef sig ⟨S16x3, .f32⟩) mulf,
  StableHlo.TRef.nullary (.of main_call20_cst : StableHlo.TRef sig ⟨S_, .f32⟩) (constant S_ .f32 0x00000000#32),
  StableHlo.TRef.binary (.of main_call20_v0 : StableHlo.TRef sig ⟨S16x3, .f32⟩) (.of main_call20_cst : StableHlo.TRef sig ⟨S_, .f32⟩) (.of main_call20_v1 : StableHlo.TRef sig ⟨S16, .f32⟩) (fun x v => Host.reduceAdd x v reducesTo_S16x3_S16_d1 h_S_),
  StableHlo.TRef.unary (.of main_call20_v1 : StableHlo.TRef sig ⟨S16, .f32⟩) (.of main_call20_v2 : StableHlo.TRef sig ⟨S16x1, .f32⟩) (broadcastInDim S16x1 ![0] bcast_S16_S16x1_0),
  StableHlo.TRef.unary (.of main_call20_v2 : StableHlo.TRef sig ⟨S16x1, .f32⟩) (.of main_v317 : StableHlo.TRef sig ⟨S16x1, .f32⟩) Host.sqrt ]
theorem refC68_sub : (refC68 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
abbrev refC68_W : List (Ref sig .tc) := [main_call20_v0, main_call20_cst, main_call20_v1, main_call20_v2, main_v317]
theorem refC68_writes : (refC68 : List (HloOp τ sig (Elt F))).map HloOp.writes = refC68_W.map fun w => {Proc.devRef (τ := τ) .tc w} := rfl
theorem refC68_fresh : ∀ op ∈ (refC68 : List (HloOp τ sig (Elt F))), op.fresh = ∅ := by
  intro _ h; (repeat (cases h with | head => rfl | tail _ h => ?_)); exact nomatch h

/-- Operations of the reference, stretch 69: up to `main_v321`. -/
abbrev refC69 : List (HloOp τ sig (Elt F)) := [
  StableHlo.nullary main_cst_59 (constant S_ .f32 0x358637BD#32),
  StableHlo.unary main_cst_59 main_v318 (broadcastInDim S16x1 ![] bcast_S_S16x1 : (⟨S_, .f32⟩ : BufTy).Contents (Elt F) → (⟨S16x1, .f32⟩ : BufTy).Contents (Elt F)),
  StableHlo.binary main_v317 main_v318 main_v319 (maximumf : (⟨S16x1, .f32⟩ : BufTy).Contents (Elt F) → (⟨S16x1, .f32⟩ : BufTy).Contents (Elt F) → (⟨S16x1, .f32⟩ : BufTy).Contents (Elt F)),
  StableHlo.unary main_v319 main_v320 (broadcastInDim S16x3 ![0, 1] bcast_S16x1_S16x3_0_1 : (⟨S16x1, .f32⟩ : BufTy).Contents (Elt F) → (⟨S16x3, .f32⟩ : BufTy).Contents (Elt F)),
  StableHlo.binary main_v316 main_v320 main_v321 (Host.divf : (⟨S16x3, .f32⟩ : BufTy).Contents (Elt F) → (⟨S16x3, .f32⟩ : BufTy).Contents (Elt F) → (⟨S16x3, .f32⟩ : BufTy).Contents (Elt F)) ]
theorem refC69_sub : (refC69 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub ..⟩
abbrev refC69_W : List (Ref sig .tc) := [main_cst_59, main_v318, main_v319, main_v320, main_v321]
theorem refC69_writes : (refC69 : List (HloOp τ sig (Elt F))).map HloOp.writes = refC69_W.map fun w => {Proc.devRef (τ := τ) .tc w} := rfl
theorem refC69_fresh : ∀ op ∈ (refC69 : List (HloOp τ sig (Elt F))), op.fresh = ∅ := by
  intro _ h; (repeat (cases h with | head => rfl | tail _ h => ?_)); exact nomatch h

/-- Operations of the reference, stretch 70: up to `main_v322`. -/
abbrev refC70 : List (HloOp τ sig (Elt F)) := [
  StableHlo.TRef.unary (.of main_v310 : StableHlo.TRef sig ⟨S16x3, .f32⟩) (.of main_call21_v0 : StableHlo.TRef sig ⟨S16x1, .f32⟩) (extractStridedSlice S16x1 ![0, 0] · slices_S16x3_S16x1_0_0),
  StableHlo.TRef.reshape (.of main_call21_v0 : StableHlo.TRef sig ⟨S16x1, .f32⟩) (.of main_call21_v1 : StableHlo.TRef sig ⟨S16, .f32⟩) (rfl : (.f32 : EltTy) = .f32) shapeCasts_S16x1_S16,
  StableHlo.TRef.unary (.of main_v310 : StableHlo.TRef sig ⟨S16x3, .f32⟩) (.of main_call21_v2 : StableHlo.TRef sig ⟨S16x1, .f32⟩) (extractStridedSlice S16x1 ![0, 1] · slices_S16x3_S16x1_0_1),
  StableHlo.TRef.reshape (.of main_call21_v2 : StableHlo.TRef sig ⟨S16x1, .f32⟩) (.of main_call21_v3 : StableHlo.TRef sig ⟨S16, .f32⟩) (rfl : (.f32 : EltTy) = .f32) shapeCasts_S16x1_S16,
  StableHlo.TRef.unary (.of main_v310 : StableHlo.TRef sig ⟨S16x3, .f32⟩) (.of main_call21_v4 : StableHlo.TRef sig ⟨S16x1, .f32⟩) (extractStridedSlice S16x1 ![0, 2] · slices_S16x3_S16x1_0_2),
  StableHlo.TRef.reshape (.of main_call21_v4 : StableHlo.TRef sig ⟨S16x1, .f32⟩) (.of main_call21_v5 : StableHlo.TRef sig ⟨S16, .f32⟩) (rfl : (.f32 : EltTy) = .f32) shapeCasts_S16x1_S16,
  StableHlo.TRef.unary (.of main_v321 : StableHlo.TRef sig ⟨S16x3, .f32⟩) (.of main_call21_v6 : StableHlo.TRef sig ⟨S16x1, .f32⟩) (extractStridedSlice S16x1 ![0, 0] · slices_S16x3_S16x1_0_0),
  StableHlo.TRef.reshape (.of main_call21_v6 : StableHlo.TRef sig ⟨S16x1, .f32⟩) (.of main_call21_v7 : StableHlo.TRef sig ⟨S16, .f32⟩) (rfl : (.f32 : EltTy) = .f32) shapeCasts_S16x1_S16,
  StableHlo.TRef.unary (.of main_v321 : StableHlo.TRef sig ⟨S16x3, .f32⟩) (.of main_call21_v8 : StableHlo.TRef sig ⟨S16x1, .f32⟩) (extractStridedSlice S16x1 ![0, 1] · slices_S16x3_S16x1_0_1),
  StableHlo.TRef.reshape (.of main_call21_v8 : StableHlo.TRef sig ⟨S16x1, .f32⟩) (.of main_call21_v9 : StableHlo.TRef sig ⟨S16, .f32⟩) (rfl : (.f32 : EltTy) = .f32) shapeCasts_S16x1_S16,
  StableHlo.TRef.unary (.of main_v321 : StableHlo.TRef sig ⟨S16x3, .f32⟩) (.of main_call21_v10 : StableHlo.TRef sig ⟨S16x1, .f32⟩) (extractStridedSlice S16x1 ![0, 2] · slices_S16x3_S16x1_0_2),
  StableHlo.TRef.reshape (.of main_call21_v10 : StableHlo.TRef sig ⟨S16x1, .f32⟩) (.of main_call21_v11 : StableHlo.TRef sig ⟨S16, .f32⟩) (rfl : (.f32 : EltTy) = .f32) shapeCasts_S16x1_S16,
  StableHlo.TRef.binary (.of main_call21_v3 : StableHlo.TRef sig ⟨S16, .f32⟩) (.of main_call21_v11 : StableHlo.TRef sig ⟨S16, .f32⟩) (.of main_call21_v12 : StableHlo.TRef sig ⟨S16, .f32⟩) mulf,
  StableHlo.TRef.binary (.of main_call21_v5 : StableHlo.TRef sig ⟨S16, .f32⟩) (.of main_call21_v9 : StableHlo.TRef sig ⟨S16, .f32⟩) (.of main_call21_v13 : StableHlo.TRef sig ⟨S16, .f32⟩) mulf,
  StableHlo.TRef.binary (.of main_call21_v12 : StableHlo.TRef sig ⟨S16, .f32⟩) (.of main_call21_v13 : StableHlo.TRef sig ⟨S16, .f32⟩) (.of main_call21_v14 : StableHlo.TRef sig ⟨S16, .f32⟩) subf,
  StableHlo.TRef.binary (.of main_call21_v5 : StableHlo.TRef sig ⟨S16, .f32⟩) (.of main_call21_v7 : StableHlo.TRef sig ⟨S16, .f32⟩) (.of main_call21_v15 : StableHlo.TRef sig ⟨S16, .f32⟩) mulf,
  StableHlo.TRef.binary (.of main_call21_v1 : StableHlo.TRef sig ⟨S16, .f32⟩) (.of main_call21_v11 : StableHlo.TRef sig ⟨S16, .f32⟩) (.of main_call21_v16 : StableHlo.TRef sig ⟨S16, .f32⟩) mulf,
  StableHlo.TRef.binary (.of main_call21_v15 : StableHlo.TRef sig ⟨S16, .f32⟩) (.of main_call21_v16 : StableHlo.TRef sig ⟨S16, .f32⟩) (.of main_call21_v17 : StableHlo.TRef sig ⟨S16, .f32⟩) subf,
  StableHlo.TRef.binary (.of main_call21_v1 : StableHlo.TRef sig ⟨S16, .f32⟩) (.of main_call21_v9 : StableHlo.TRef sig ⟨S16, .f32⟩) (.of main_call21_v18 : StableHlo.TRef sig ⟨S16, .f32⟩) mulf,
  StableHlo.TRef.binary (.of main_call21_v3 : StableHlo.TRef sig ⟨S16, .f32⟩) (.of main_call21_v7 : StableHlo.TRef sig ⟨S16, .f32⟩) (.of main_call21_v19 : StableHlo.TRef sig ⟨S16, .f32⟩) mulf,
  StableHlo.TRef.binary (.of main_call21_v18 : StableHlo.TRef sig ⟨S16, .f32⟩) (.of main_call21_v19 : StableHlo.TRef sig ⟨S16, .f32⟩) (.of main_call21_v20 : StableHlo.TRef sig ⟨S16, .f32⟩) subf,
  StableHlo.TRef.unary (.of main_call21_v14 : StableHlo.TRef sig ⟨S16, .f32⟩) (.of main_call21_v21 : StableHlo.TRef sig ⟨S1x16, .f32⟩) (broadcastInDim S1x16 ![1] bcast_S16_S1x16_1),
  StableHlo.TRef.unary (.of main_call21_v17 : StableHlo.TRef sig ⟨S16, .f32⟩) (.of main_call21_v22 : StableHlo.TRef sig ⟨S1x16, .f32⟩) (broadcastInDim S1x16 ![1] bcast_S16_S1x16_1),
  StableHlo.TRef.unary (.of main_call21_v20 : StableHlo.TRef sig ⟨S16, .f32⟩) (.of main_call21_v23 : StableHlo.TRef sig ⟨S1x16, .f32⟩) (broadcastInDim S1x16 ![1] bcast_S16_S1x16_1),
  StableHlo.TRef.nary ![(.of main_call21_v21 : StableHlo.TRef sig ⟨S1x16, .f32⟩), (.of main_call21_v22 : StableHlo.TRef sig ⟨S1x16, .f32⟩), (.of main_call21_v23 : StableHlo.TRef sig ⟨S1x16, .f32⟩)] (.of main_call21_v24 : StableHlo.TRef sig ⟨S3x16, .f32⟩) (fun u => (concatenate S3x16 0 [⟨S1x16, (u 0 : (⟨S1x16, .f32⟩ : BufTy).Contents (Elt F))⟩, ⟨S1x16, (u 1 : (⟨S1x16, .f32⟩ : BufTy).Contents (Elt F))⟩, ⟨S1x16, (u 2 : (⟨S1x16, .f32⟩ : BufTy).Contents (Elt F))⟩] concatenates_S1x16_S1x16_S1x16_S3x16_d0 : (⟨S3x16, .f32⟩ : BufTy).Contents (Elt F))),
  StableHlo.TRef.unary (.of main_call21_v24 : StableHlo.TRef sig ⟨S3x16, .f32⟩) (.of main_v322 : StableHlo.TRef sig ⟨S16x3, .f32⟩) (transpose S16x3 [1, 0] · transposes_S3x16_S16x3_1_0) ]
theorem refC70_sub : (refC70 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.unary_bufs_sub .., StableHlo.nary_bufs_sub .., StableHlo.unary_bufs_sub ..⟩
abbrev refC70_W : List (Ref sig .tc) := [main_call21_v0, main_call21_v1, main_call21_v2, main_call21_v3, main_call21_v4, main_call21_v5, main_call21_v6, main_call21_v7, main_call21_v8, main_call21_v9, main_call21_v10, main_call21_v11, main_call21_v12, main_call21_v13, main_call21_v14, main_call21_v15, main_call21_v16, main_call21_v17, main_call21_v18, main_call21_v19, main_call21_v20, main_call21_v21, main_call21_v22, main_call21_v23, main_call21_v24, main_v322]
theorem refC70_writes : (refC70 : List (HloOp τ sig (Elt F))).map HloOp.writes = refC70_W.map fun w => {Proc.devRef (τ := τ) .tc w} := rfl
theorem refC70_fresh : ∀ op ∈ (refC70 : List (HloOp τ sig (Elt F))), op.fresh = ∅ := by
  intro _ h; (repeat (cases h with | head => rfl | tail _ h => ?_)); exact nomatch h

/-- Operations of the reference, stretch 71: up to `main_v326`. -/
abbrev refC71 : List (HloOp τ sig (Elt F)) := [
  StableHlo.unary main_v310 main_v323 (broadcastInDim S16x3x1 ![0, 1] bcast_S16x3_S16x3x1_0_1 : (⟨S16x3, .f32⟩ : BufTy).Contents (Elt F) → (⟨S16x3x1, .f32⟩ : BufTy).Contents (Elt F)),
  StableHlo.unary main_v321 main_v324 (broadcastInDim S16x3x1 ![0, 1] bcast_S16x3_S16x3x1_0_1 : (⟨S16x3, .f32⟩ : BufTy).Contents (Elt F) → (⟨S16x3x1, .f32⟩ : BufTy).Contents (Elt F)),
  StableHlo.unary main_v322 main_v325 (broadcastInDim S16x3x1 ![0, 1] bcast_S16x3_S16x3x1_0_1 : (⟨S16x3, .f32⟩ : BufTy).Contents (Elt F) → (⟨S16x3x1, .f32⟩ : BufTy).Contents (Elt F)),
  StableHlo.nary ![main_v323, main_v324, main_v325] main_v326 (fun u => (concatenate S16x3x3 2 [⟨S16x3x1, (u 0 : (⟨S16x3x1, .f32⟩ : BufTy).Contents (Elt F))⟩, ⟨S16x3x1, (u 1 : (⟨S16x3x1, .f32⟩ : BufTy).Contents (Elt F))⟩, ⟨S16x3x1, (u 2 : (⟨S16x3x1, .f32⟩ : BufTy).Contents (Elt F))⟩] concatenates_S16x3x1_S16x3x1_S16x3x1_S16x3x3_d2 : (⟨S16x3x3, .f32⟩ : BufTy).Contents (Elt F))) ]
theorem refC71_sub : (refC71 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub ..⟩
abbrev refC71_W : List (Ref sig .tc) := [main_v323, main_v324, main_v325, main_v326]
theorem refC71_writes : (refC71 : List (HloOp τ sig (Elt F))).map HloOp.writes = refC71_W.map fun w => {Proc.devRef (τ := τ) .tc w} := rfl
theorem refC71_fresh : ∀ op ∈ (refC71 : List (HloOp τ sig (Elt F))), op.fresh = ∅ := by
  intro _ h; (repeat (cases h with | head => rfl | tail _ h => ?_)); exact nomatch h

/-- Window 4 of the reference is its stretches in order. -/
theorem part4_chain (c : Dev nD) : main_part4 (F := F) c = (Pipeline.chainK [StableHlo.seq refC43, StableHlo.seq refC44, StableHlo.seq refC45, StableHlo.seq refC46, StableHlo.seq refC47, StableHlo.seq refC48, StableHlo.seq refC49] (StableHlo.seq refC50) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons]
  chain_rfl

/-- Window 5 of the reference is its stretches in order. -/
theorem part5_chain (c : Dev nD) : main_part5 (F := F) c = (Pipeline.chainK [StableHlo.seq refC51, StableHlo.seq refC52, StableHlo.seq refC53, StableHlo.seq refC54, StableHlo.seq refC55, StableHlo.seq refC56, StableHlo.seq refC57, StableHlo.seq refC58, StableHlo.seq refC59, StableHlo.seq refC60, StableHlo.seq refC61, StableHlo.seq refC62, StableHlo.seq refC63] (StableHlo.seq refC64) : Prog (TpuEff nD τ sig (Elt F) (Pipeline.Sig Λ₀ (Fin 0) fun p => (pcfgs (F := F) p).Adm) .tc) PUnit) := by
  rewrite [StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons, StableHlo.chainK_seq_cons]
  chain_rfl

/-- Window 6 of the reference is its stretches in order. -/
theorem part6_chain (c : Dev nD) : main_part6 (F := F) c = (Pipeline.chain [StableHlo.seq refC65, StableHlo.seq refC66, StableHlo.seq refC67, StableHlo.seq refC68, StableHlo.seq refC69, StableHlo.seq refC70, StableHlo.seq refC71] : Prog (TpuEff nD τ sig (Elt F) (Pipeline.Sig Λ₀ (Fin 0) fun p => (pcfgs (F := F) p).Adm) .tc) PUnit) := by
  rewrite [StableHlo.chain_seq_cons, StableHlo.chain_seq_cons, StableHlo.chain_seq_cons, StableHlo.chain_seq_cons, StableHlo.chain_seq_cons, StableHlo.chain_seq_cons, StableHlo.chain_seq_cons]
  chain_rfl

end Cert.Ref

end

end
-- ==== Proof.RefRun.lean ====
module

public import proofs.«01_k».proof.Proof.RefOps1
public import proofs.«01_k».proof.Proof.RefOps2
public import proofs.«01_k».proof.Proof.RefOps3
public import Idealize.ShloMosaic.Lib.StableHlo.RunHlo
public import Idealize.ShloMosaic.Lib.Quiescent
public import Idealize.ShloMosaic.Lib.StableHlo.RunRead

@[expose] public section

set_option maxRecDepth 16384

/-! The reference's run: its stretches in order, the buffers after each, and what each leaves unchanged. -/

noncomputable section

open Idealize.ShloMosaic Idealize.ShloMosaic.TcCoe Idealize.SL.Sem
open Cert.ReferenceIdeal Cert.ReferenceIdeal.Gen

namespace Cert.Ref

variable {F : FTy → Type} [FloatOps F]

/-- The reference's stretches, in order. -/
abbrev refAll : List (List (HloOp τ sig (Elt F))) := [refC0, refC1, refC2, refC3, refC4, refC5, refC6, refC7, refC8, refC9, refC10, refC11, refC12, refC13, refC14, refC15, refC16, refC17, refC18, refC19, refC20, refC21, refC22, refC23, refC24, refC25, refC26, refC27, refC28, refC29, refC30, refC31, refC32, refC33, refC34, refC35, refC36, refC37, refC38, refC39, refC40, refC41, refC42, refC43, refC44, refC45, refC46, refC47, refC48, refC49, refC50, refC51, refC52, refC53, refC54, refC55, refC56, refC57, refC58, refC59, refC60, refC61, refC62, refC63, refC64, refC65, refC66, refC67, refC68, refC69, refC70, refC71]

theorem chain_map_seq (Ls : List (List (HloOp τ sig (Elt F)))) :
    (Pipeline.chain (Ls.map StableHlo.seq) : Prog (TpuEff nD τ sig (Elt F) (Pipeline.Sig Λ₀ (Fin 0) fun p => (pcfgs (F := F) p).Adm) .tc) PUnit) = StableHlo.seq Ls.flatten := by
  induction Ls with
  | nil => rfl
  | cons a l ih => rw [List.map_cons, List.flatten_cons, StableHlo.seq_append, Pipeline.chain_cons, ih]

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem after_flatten (Ls : List (List (HloOp τ sig (Elt F)))) (V : Valuation τ sig (Elt F)) :
    StableHlo.after Ls.flatten V = Ls.foldl (fun V l => StableHlo.after l V) V := by
  induction Ls generalizing V with
  | nil => rfl
  | cons a l ih => rw [List.flatten_cons, after_append, ih]; rfl

/-- The reference is its stretches in order. -/
theorem main_chain (c : Dev nD) : main (F := F) c = StableHlo.seq refAll.flatten :=
  (Pipeline.chain_of_window (part0_chain c) (Pipeline.chain_of_window (part1_chain c) (Pipeline.chain_of_window (part2_chain c) (Pipeline.chain_of_window (part3_chain c) (Pipeline.chain_of_window (part4_chain c) (Pipeline.chain_of_window (part5_chain c) (part6_chain c))))))).trans ((show _ = Pipeline.chain (refAll.map StableHlo.seq) by chain_rfl).trans (chain_map_seq _))

theorem refAll_sub : (refAll.flatten : List (HloOp τ sig (Elt F))).Forall fun op => op.bufs ⊆ StableHlo.tcRefs τ sig := by
  have h : (refAll : List (List (HloOp τ sig (Elt F)))).Forall fun l => l.Forall fun op => op.bufs ⊆ StableHlo.tcRefs τ sig :=
    ⟨refC0_sub, refC1_sub, refC2_sub, refC3_sub, refC4_sub, refC5_sub, refC6_sub, refC7_sub, refC8_sub, refC9_sub, refC10_sub, refC11_sub, refC12_sub, refC13_sub, refC14_sub, refC15_sub, refC16_sub, refC17_sub, refC18_sub, refC19_sub, refC20_sub, refC21_sub, refC22_sub, refC23_sub, refC24_sub, refC25_sub, refC26_sub, refC27_sub, refC28_sub, refC29_sub, refC30_sub, refC31_sub, refC32_sub, refC33_sub, refC34_sub, refC35_sub, refC36_sub, refC37_sub, refC38_sub, refC39_sub, refC40_sub, refC41_sub, refC42_sub, refC43_sub, refC44_sub, refC45_sub, refC46_sub, refC47_sub, refC48_sub, refC49_sub, refC50_sub, refC51_sub, refC52_sub, refC53_sub, refC54_sub, refC55_sub, refC56_sub, refC57_sub, refC58_sub, refC59_sub, refC60_sub, refC61_sub, refC62_sub, refC63_sub, refC64_sub, refC65_sub, refC66_sub, refC67_sub, refC68_sub, refC69_sub, refC70_sub, refC71_sub⟩
  rw [List.forall_iff_forall_mem] at h ⊢
  intro op hop
  obtain ⟨l, hl, ho⟩ := List.mem_flatten.1 hop
  exact List.forall_iff_forall_mem.1 (h l hl) op ho

theorem refAll_fresh : ∀ op ∈ (refAll.flatten : List (HloOp τ sig (Elt F))), op.fresh = ∅ := by
  have h : (refAll : List (List (HloOp τ sig (Elt F)))).Forall fun l => ∀ op ∈ l, op.fresh = ∅ :=
    ⟨refC0_fresh, refC1_fresh, refC2_fresh, refC3_fresh, refC4_fresh, refC5_fresh, refC6_fresh, refC7_fresh, refC8_fresh, refC9_fresh, refC10_fresh, refC11_fresh, refC12_fresh, refC13_fresh, refC14_fresh, refC15_fresh, refC16_fresh, refC17_fresh, refC18_fresh, refC19_fresh, refC20_fresh, refC21_fresh, refC22_fresh, refC23_fresh, refC24_fresh, refC25_fresh, refC26_fresh, refC27_fresh, refC28_fresh, refC29_fresh, refC30_fresh, refC31_fresh, refC32_fresh, refC33_fresh, refC34_fresh, refC35_fresh, refC36_fresh, refC37_fresh, refC38_fresh, refC39_fresh, refC40_fresh, refC41_fresh, refC42_fresh, refC43_fresh, refC44_fresh, refC45_fresh, refC46_fresh, refC47_fresh, refC48_fresh, refC49_fresh, refC50_fresh, refC51_fresh, refC52_fresh, refC53_fresh, refC54_fresh, refC55_fresh, refC56_fresh, refC57_fresh, refC58_fresh, refC59_fresh, refC60_fresh, refC61_fresh, refC62_fresh, refC63_fresh, refC64_fresh, refC65_fresh, refC66_fresh, refC67_fresh, refC68_fresh, refC69_fresh, refC70_fresh, refC71_fresh⟩
  rw [List.forall_iff_forall_mem] at h
  intro op hop
  obtain ⟨l, hl, ho⟩ := List.mem_flatten.1 hop
  exact h l hl op ho

variable (V : Valuation τ sig (Elt F))
/-- The buffers before the first stretch. -/
def R0 : Valuation τ sig (Elt F) := V

/-- The buffers after stretch 0. -/
def R1 : Valuation τ sig (Elt F) := StableHlo.after refC0 (R0 V)
theorem R1_of (r : Ref sig .tc) (h : r ∉ refC0_W) : R1 V (Proc.devRef .tc r) = R0 V (Proc.devRef .tc r) :=
  StableHlo.after_unwritten refC0_W refC0_writes h _
/-- The buffers after stretch 1. -/
def R2 : Valuation τ sig (Elt F) := StableHlo.after refC1 (R1 V)
theorem R2_of (r : Ref sig .tc) (h : r ∉ refC1_W) : R2 V (Proc.devRef .tc r) = R1 V (Proc.devRef .tc r) :=
  StableHlo.after_unwritten refC1_W refC1_writes h _
/-- The buffers after stretch 2. -/
def R3 : Valuation τ sig (Elt F) := StableHlo.after refC2 (R2 V)
theorem R3_of (r : Ref sig .tc) (h : r ∉ refC2_W) : R3 V (Proc.devRef .tc r) = R2 V (Proc.devRef .tc r) :=
  StableHlo.after_unwritten refC2_W refC2_writes h _
/-- The buffers after stretch 3. -/
def R4 : Valuation τ sig (Elt F) := StableHlo.after refC3 (R3 V)
theorem R4_of (r : Ref sig .tc) (h : r ∉ refC3_W) : R4 V (Proc.devRef .tc r) = R3 V (Proc.devRef .tc r) :=
  StableHlo.after_unwritten refC3_W refC3_writes h _
/-- The buffers after stretch 4. -/
def R5 : Valuation τ sig (Elt F) := StableHlo.after refC4 (R4 V)
theorem R5_of (r : Ref sig .tc) (h : r ∉ refC4_W) : R5 V (Proc.devRef .tc r) = R4 V (Proc.devRef .tc r) :=
  StableHlo.after_unwritten refC4_W refC4_writes h _
/-- The buffers after stretch 5. -/
def R6 : Valuation τ sig (Elt F) := StableHlo.after refC5 (R5 V)
theorem R6_of (r : Ref sig .tc) (h : r ∉ refC5_W) : R6 V (Proc.devRef .tc r) = R5 V (Proc.devRef .tc r) :=
  StableHlo.after_unwritten refC5_W refC5_writes h _
/-- The buffers after stretch 6. -/
def R7 : Valuation τ sig (Elt F) := StableHlo.after refC6 (R6 V)
theorem R7_of (r : Ref sig .tc) (h : r ∉ refC6_W) : R7 V (Proc.devRef .tc r) = R6 V (Proc.devRef .tc r) :=
  StableHlo.after_unwritten refC6_W refC6_writes h _
/-- The buffers after stretch 7. -/
def R8 : Valuation τ sig (Elt F) := StableHlo.after refC7 (R7 V)
theorem R8_of (r : Ref sig .tc) (h : r ∉ refC7_W) : R8 V (Proc.devRef .tc r) = R7 V (Proc.devRef .tc r) :=
  StableHlo.after_unwritten refC7_W refC7_writes h _
/-- The buffers after stretch 8. -/
def R9 : Valuation τ sig (Elt F) := StableHlo.after refC8 (R8 V)
theorem R9_of (r : Ref sig .tc) (h : r ∉ refC8_W) : R9 V (Proc.devRef .tc r) = R8 V (Proc.devRef .tc r) :=
  StableHlo.after_unwritten refC8_W refC8_writes h _
/-- The buffers after stretch 9. -/
def R10 : Valuation τ sig (Elt F) := StableHlo.after refC9 (R9 V)
theorem R10_of (r : Ref sig .tc) (h : r ∉ refC9_W) : R10 V (Proc.devRef .tc r) = R9 V (Proc.devRef .tc r) :=
  StableHlo.after_unwritten refC9_W refC9_writes h _
/-- The buffers after stretch 10. -/
def R11 : Valuation τ sig (Elt F) := StableHlo.after refC10 (R10 V)
theorem R11_of (r : Ref sig .tc) (h : r ∉ refC10_W) : R11 V (Proc.devRef .tc r) = R10 V (Proc.devRef .tc r) :=
  StableHlo.after_unwritten refC10_W refC10_writes h _
/-- The buffers after stretch 11. -/
def R12 : Valuation τ sig (Elt F) := StableHlo.after refC11 (R11 V)
theorem R12_of (r : Ref sig .tc) (h : r ∉ refC11_W) : R12 V (Proc.devRef .tc r) = R11 V (Proc.devRef .tc r) :=
  StableHlo.after_unwritten refC11_W refC11_writes h _
/-- The buffers after stretch 12. -/
def R13 : Valuation τ sig (Elt F) := StableHlo.after refC12 (R12 V)
theorem R13_of (r : Ref sig .tc) (h : r ∉ refC12_W) : R13 V (Proc.devRef .tc r) = R12 V (Proc.devRef .tc r) :=
  StableHlo.after_unwritten refC12_W refC12_writes h _
/-- The buffers after stretch 13. -/
def R14 : Valuation τ sig (Elt F) := StableHlo.after refC13 (R13 V)
theorem R14_of (r : Ref sig .tc) (h : r ∉ refC13_W) : R14 V (Proc.devRef .tc r) = R13 V (Proc.devRef .tc r) :=
  StableHlo.after_unwritten refC13_W refC13_writes h _
/-- The buffers after stretch 14. -/
def R15 : Valuation τ sig (Elt F) := StableHlo.after refC14 (R14 V)
theorem R15_of (r : Ref sig .tc) (h : r ∉ refC14_W) : R15 V (Proc.devRef .tc r) = R14 V (Proc.devRef .tc r) :=
  StableHlo.after_unwritten refC14_W refC14_writes h _
/-- The buffers after stretch 15. -/
def R16 : Valuation τ sig (Elt F) := StableHlo.after refC15 (R15 V)
theorem R16_of (r : Ref sig .tc) (h : r ∉ refC15_W) : R16 V (Proc.devRef .tc r) = R15 V (Proc.devRef .tc r) :=
  StableHlo.after_unwritten refC15_W refC15_writes h _
/-- The buffers after stretch 16. -/
def R17 : Valuation τ sig (Elt F) := StableHlo.after refC16 (R16 V)
theorem R17_of (r : Ref sig .tc) (h : r ∉ refC16_W) : R17 V (Proc.devRef .tc r) = R16 V (Proc.devRef .tc r) :=
  StableHlo.after_unwritten refC16_W refC16_writes h _
/-- The buffers after stretch 17. -/
def R18 : Valuation τ sig (Elt F) := StableHlo.after refC17 (R17 V)
theorem R18_of (r : Ref sig .tc) (h : r ∉ refC17_W) : R18 V (Proc.devRef .tc r) = R17 V (Proc.devRef .tc r) :=
  StableHlo.after_unwritten refC17_W refC17_writes h _
/-- The buffers after stretch 18. -/
def R19 : Valuation τ sig (Elt F) := StableHlo.after refC18 (R18 V)
theorem R19_of (r : Ref sig .tc) (h : r ∉ refC18_W) : R19 V (Proc.devRef .tc r) = R18 V (Proc.devRef .tc r) :=
  StableHlo.after_unwritten refC18_W refC18_writes h _
/-- The buffers after stretch 19. -/
def R20 : Valuation τ sig (Elt F) := StableHlo.after refC19 (R19 V)
theorem R20_of (r : Ref sig .tc) (h : r ∉ refC19_W) : R20 V (Proc.devRef .tc r) = R19 V (Proc.devRef .tc r) :=
  StableHlo.after_unwritten refC19_W refC19_writes h _
/-- The buffers after stretch 20. -/
def R21 : Valuation τ sig (Elt F) := StableHlo.after refC20 (R20 V)
theorem R21_of (r : Ref sig .tc) (h : r ∉ refC20_W) : R21 V (Proc.devRef .tc r) = R20 V (Proc.devRef .tc r) :=
  StableHlo.after_unwritten refC20_W refC20_writes h _
/-- The buffers after stretch 21. -/
def R22 : Valuation τ sig (Elt F) := StableHlo.after refC21 (R21 V)
theorem R22_of (r : Ref sig .tc) (h : r ∉ refC21_W) : R22 V (Proc.devRef .tc r) = R21 V (Proc.devRef .tc r) :=
  StableHlo.after_unwritten refC21_W refC21_writes h _
/-- The buffers after stretch 22. -/
def R23 : Valuation τ sig (Elt F) := StableHlo.after refC22 (R22 V)
theorem R23_of (r : Ref sig .tc) (h : r ∉ refC22_W) : R23 V (Proc.devRef .tc r) = R22 V (Proc.devRef .tc r) :=
  StableHlo.after_unwritten refC22_W refC22_writes h _
/-- The buffers after stretch 23. -/
def R24 : Valuation τ sig (Elt F) := StableHlo.after refC23 (R23 V)
theorem R24_of (r : Ref sig .tc) (h : r ∉ refC23_W) : R24 V (Proc.devRef .tc r) = R23 V (Proc.devRef .tc r) :=
  StableHlo.after_unwritten refC23_W refC23_writes h _
/-- The buffers after stretch 24. -/
def R25 : Valuation τ sig (Elt F) := StableHlo.after refC24 (R24 V)
theorem R25_of (r : Ref sig .tc) (h : r ∉ refC24_W) : R25 V (Proc.devRef .tc r) = R24 V (Proc.devRef .tc r) :=
  StableHlo.after_unwritten refC24_W refC24_writes h _
/-- The buffers after stretch 25. -/
def R26 : Valuation τ sig (Elt F) := StableHlo.after refC25 (R25 V)
theorem R26_of (r : Ref sig .tc) (h : r ∉ refC25_W) : R26 V (Proc.devRef .tc r) = R25 V (Proc.devRef .tc r) :=
  StableHlo.after_unwritten refC25_W refC25_writes h _
/-- The buffers after stretch 26. -/
def R27 : Valuation τ sig (Elt F) := StableHlo.after refC26 (R26 V)
theorem R27_of (r : Ref sig .tc) (h : r ∉ refC26_W) : R27 V (Proc.devRef .tc r) = R26 V (Proc.devRef .tc r) :=
  StableHlo.after_unwritten refC26_W refC26_writes h _
/-- The buffers after stretch 27. -/
def R28 : Valuation τ sig (Elt F) := StableHlo.after refC27 (R27 V)
theorem R28_of (r : Ref sig .tc) (h : r ∉ refC27_W) : R28 V (Proc.devRef .tc r) = R27 V (Proc.devRef .tc r) :=
  StableHlo.after_unwritten refC27_W refC27_writes h _
/-- The buffers after stretch 28. -/
def R29 : Valuation τ sig (Elt F) := StableHlo.after refC28 (R28 V)
theorem R29_of (r : Ref sig .tc) (h : r ∉ refC28_W) : R29 V (Proc.devRef .tc r) = R28 V (Proc.devRef .tc r) :=
  StableHlo.after_unwritten refC28_W refC28_writes h _
/-- The buffers after stretch 29. -/
def R30 : Valuation τ sig (Elt F) := StableHlo.after refC29 (R29 V)
theorem R30_of (r : Ref sig .tc) (h : r ∉ refC29_W) : R30 V (Proc.devRef .tc r) = R29 V (Proc.devRef .tc r) :=
  StableHlo.after_unwritten refC29_W refC29_writes h _
/-- The buffers after stretch 30. -/
def R31 : Valuation τ sig (Elt F) := StableHlo.after refC30 (R30 V)
theorem R31_of (r : Ref sig .tc) (h : r ∉ refC30_W) : R31 V (Proc.devRef .tc r) = R30 V (Proc.devRef .tc r) :=
  StableHlo.after_unwritten refC30_W refC30_writes h _
/-- The buffers after stretch 31. -/
def R32 : Valuation τ sig (Elt F) := StableHlo.after refC31 (R31 V)
theorem R32_of (r : Ref sig .tc) (h : r ∉ refC31_W) : R32 V (Proc.devRef .tc r) = R31 V (Proc.devRef .tc r) :=
  StableHlo.after_unwritten refC31_W refC31_writes h _
/-- The buffers after stretch 32. -/
def R33 : Valuation τ sig (Elt F) := StableHlo.after refC32 (R32 V)
theorem R33_of (r : Ref sig .tc) (h : r ∉ refC32_W) : R33 V (Proc.devRef .tc r) = R32 V (Proc.devRef .tc r) :=
  StableHlo.after_unwritten refC32_W refC32_writes h _
/-- The buffers after stretch 33. -/
def R34 : Valuation τ sig (Elt F) := StableHlo.after refC33 (R33 V)
theorem R34_of (r : Ref sig .tc) (h : r ∉ refC33_W) : R34 V (Proc.devRef .tc r) = R33 V (Proc.devRef .tc r) :=
  StableHlo.after_unwritten refC33_W refC33_writes h _
/-- The buffers after stretch 34. -/
def R35 : Valuation τ sig (Elt F) := StableHlo.after refC34 (R34 V)
theorem R35_of (r : Ref sig .tc) (h : r ∉ refC34_W) : R35 V (Proc.devRef .tc r) = R34 V (Proc.devRef .tc r) :=
  StableHlo.after_unwritten refC34_W refC34_writes h _
/-- The buffers after stretch 35. -/
def R36 : Valuation τ sig (Elt F) := StableHlo.after refC35 (R35 V)
theorem R36_of (r : Ref sig .tc) (h : r ∉ refC35_W) : R36 V (Proc.devRef .tc r) = R35 V (Proc.devRef .tc r) :=
  StableHlo.after_unwritten refC35_W refC35_writes h _
/-- The buffers after stretch 36. -/
def R37 : Valuation τ sig (Elt F) := StableHlo.after refC36 (R36 V)
theorem R37_of (r : Ref sig .tc) (h : r ∉ refC36_W) : R37 V (Proc.devRef .tc r) = R36 V (Proc.devRef .tc r) :=
  StableHlo.after_unwritten refC36_W refC36_writes h _
/-- The buffers after stretch 37. -/
def R38 : Valuation τ sig (Elt F) := StableHlo.after refC37 (R37 V)
theorem R38_of (r : Ref sig .tc) (h : r ∉ refC37_W) : R38 V (Proc.devRef .tc r) = R37 V (Proc.devRef .tc r) :=
  StableHlo.after_unwritten refC37_W refC37_writes h _
/-- The buffers after stretch 38. -/
def R39 : Valuation τ sig (Elt F) := StableHlo.after refC38 (R38 V)
theorem R39_of (r : Ref sig .tc) (h : r ∉ refC38_W) : R39 V (Proc.devRef .tc r) = R38 V (Proc.devRef .tc r) :=
  StableHlo.after_unwritten refC38_W refC38_writes h _
/-- The buffers after stretch 39. -/
def R40 : Valuation τ sig (Elt F) := StableHlo.after refC39 (R39 V)
theorem R40_of (r : Ref sig .tc) (h : r ∉ refC39_W) : R40 V (Proc.devRef .tc r) = R39 V (Proc.devRef .tc r) :=
  StableHlo.after_unwritten refC39_W refC39_writes h _
/-- The buffers after stretch 40. -/
def R41 : Valuation τ sig (Elt F) := StableHlo.after refC40 (R40 V)
theorem R41_of (r : Ref sig .tc) (h : r ∉ refC40_W) : R41 V (Proc.devRef .tc r) = R40 V (Proc.devRef .tc r) :=
  StableHlo.after_unwritten refC40_W refC40_writes h _
/-- The buffers after stretch 41. -/
def R42 : Valuation τ sig (Elt F) := StableHlo.after refC41 (R41 V)
theorem R42_of (r : Ref sig .tc) (h : r ∉ refC41_W) : R42 V (Proc.devRef .tc r) = R41 V (Proc.devRef .tc r) :=
  StableHlo.after_unwritten refC41_W refC41_writes h _
/-- The buffers after stretch 42. -/
def R43 : Valuation τ sig (Elt F) := StableHlo.after refC42 (R42 V)
theorem R43_of (r : Ref sig .tc) (h : r ∉ refC42_W) : R43 V (Proc.devRef .tc r) = R42 V (Proc.devRef .tc r) :=
  StableHlo.after_unwritten refC42_W refC42_writes h _
/-- The buffers after stretch 43. -/
def R44 : Valuation τ sig (Elt F) := StableHlo.after refC43 (R43 V)
theorem R44_of (r : Ref sig .tc) (h : r ∉ refC43_W) : R44 V (Proc.devRef .tc r) = R43 V (Proc.devRef .tc r) :=
  StableHlo.after_unwritten refC43_W refC43_writes h _
/-- The buffers after stretch 44. -/
def R45 : Valuation τ sig (Elt F) := StableHlo.after refC44 (R44 V)
theorem R45_of (r : Ref sig .tc) (h : r ∉ refC44_W) : R45 V (Proc.devRef .tc r) = R44 V (Proc.devRef .tc r) :=
  StableHlo.after_unwritten refC44_W refC44_writes h _
/-- The buffers after stretch 45. -/
def R46 : Valuation τ sig (Elt F) := StableHlo.after refC45 (R45 V)
theorem R46_of (r : Ref sig .tc) (h : r ∉ refC45_W) : R46 V (Proc.devRef .tc r) = R45 V (Proc.devRef .tc r) :=
  StableHlo.after_unwritten refC45_W refC45_writes h _
/-- The buffers after stretch 46. -/
def R47 : Valuation τ sig (Elt F) := StableHlo.after refC46 (R46 V)
theorem R47_of (r : Ref sig .tc) (h : r ∉ refC46_W) : R47 V (Proc.devRef .tc r) = R46 V (Proc.devRef .tc r) :=
  StableHlo.after_unwritten refC46_W refC46_writes h _
/-- The buffers after stretch 47. -/
def R48 : Valuation τ sig (Elt F) := StableHlo.after refC47 (R47 V)
theorem R48_of (r : Ref sig .tc) (h : r ∉ refC47_W) : R48 V (Proc.devRef .tc r) = R47 V (Proc.devRef .tc r) :=
  StableHlo.after_unwritten refC47_W refC47_writes h _
/-- The buffers after stretch 48. -/
def R49 : Valuation τ sig (Elt F) := StableHlo.after refC48 (R48 V)
theorem R49_of (r : Ref sig .tc) (h : r ∉ refC48_W) : R49 V (Proc.devRef .tc r) = R48 V (Proc.devRef .tc r) :=
  StableHlo.after_unwritten refC48_W refC48_writes h _
/-- The buffers after stretch 49. -/
def R50 : Valuation τ sig (Elt F) := StableHlo.after refC49 (R49 V)
theorem R50_of (r : Ref sig .tc) (h : r ∉ refC49_W) : R50 V (Proc.devRef .tc r) = R49 V (Proc.devRef .tc r) :=
  StableHlo.after_unwritten refC49_W refC49_writes h _
/-- The buffers after stretch 50. -/
def R51 : Valuation τ sig (Elt F) := StableHlo.after refC50 (R50 V)
theorem R51_of (r : Ref sig .tc) (h : r ∉ refC50_W) : R51 V (Proc.devRef .tc r) = R50 V (Proc.devRef .tc r) :=
  StableHlo.after_unwritten refC50_W refC50_writes h _
/-- The buffers after stretch 51. -/
def R52 : Valuation τ sig (Elt F) := StableHlo.after refC51 (R51 V)
theorem R52_of (r : Ref sig .tc) (h : r ∉ refC51_W) : R52 V (Proc.devRef .tc r) = R51 V (Proc.devRef .tc r) :=
  StableHlo.after_unwritten refC51_W refC51_writes h _
/-- The buffers after stretch 52. -/
def R53 : Valuation τ sig (Elt F) := StableHlo.after refC52 (R52 V)
theorem R53_of (r : Ref sig .tc) (h : r ∉ refC52_W) : R53 V (Proc.devRef .tc r) = R52 V (Proc.devRef .tc r) :=
  StableHlo.after_unwritten refC52_W refC52_writes h _
/-- The buffers after stretch 53. -/
def R54 : Valuation τ sig (Elt F) := StableHlo.after refC53 (R53 V)
theorem R54_of (r : Ref sig .tc) (h : r ∉ refC53_W) : R54 V (Proc.devRef .tc r) = R53 V (Proc.devRef .tc r) :=
  StableHlo.after_unwritten refC53_W refC53_writes h _
/-- The buffers after stretch 54. -/
def R55 : Valuation τ sig (Elt F) := StableHlo.after refC54 (R54 V)
theorem R55_of (r : Ref sig .tc) (h : r ∉ refC54_W) : R55 V (Proc.devRef .tc r) = R54 V (Proc.devRef .tc r) :=
  StableHlo.after_unwritten refC54_W refC54_writes h _
/-- The buffers after stretch 55. -/
def R56 : Valuation τ sig (Elt F) := StableHlo.after refC55 (R55 V)
theorem R56_of (r : Ref sig .tc) (h : r ∉ refC55_W) : R56 V (Proc.devRef .tc r) = R55 V (Proc.devRef .tc r) :=
  StableHlo.after_unwritten refC55_W refC55_writes h _
/-- The buffers after stretch 56. -/
def R57 : Valuation τ sig (Elt F) := StableHlo.after refC56 (R56 V)
theorem R57_of (r : Ref sig .tc) (h : r ∉ refC56_W) : R57 V (Proc.devRef .tc r) = R56 V (Proc.devRef .tc r) :=
  StableHlo.after_unwritten refC56_W refC56_writes h _
/-- The buffers after stretch 57. -/
def R58 : Valuation τ sig (Elt F) := StableHlo.after refC57 (R57 V)
theorem R58_of (r : Ref sig .tc) (h : r ∉ refC57_W) : R58 V (Proc.devRef .tc r) = R57 V (Proc.devRef .tc r) :=
  StableHlo.after_unwritten refC57_W refC57_writes h _
/-- The buffers after stretch 58. -/
def R59 : Valuation τ sig (Elt F) := StableHlo.after refC58 (R58 V)
theorem R59_of (r : Ref sig .tc) (h : r ∉ refC58_W) : R59 V (Proc.devRef .tc r) = R58 V (Proc.devRef .tc r) :=
  StableHlo.after_unwritten refC58_W refC58_writes h _
/-- The buffers after stretch 59. -/
def R60 : Valuation τ sig (Elt F) := StableHlo.after refC59 (R59 V)
theorem R60_of (r : Ref sig .tc) (h : r ∉ refC59_W) : R60 V (Proc.devRef .tc r) = R59 V (Proc.devRef .tc r) :=
  StableHlo.after_unwritten refC59_W refC59_writes h _
/-- The buffers after stretch 60. -/
def R61 : Valuation τ sig (Elt F) := StableHlo.after refC60 (R60 V)
theorem R61_of (r : Ref sig .tc) (h : r ∉ refC60_W) : R61 V (Proc.devRef .tc r) = R60 V (Proc.devRef .tc r) :=
  StableHlo.after_unwritten refC60_W refC60_writes h _
/-- The buffers after stretch 61. -/
def R62 : Valuation τ sig (Elt F) := StableHlo.after refC61 (R61 V)
theorem R62_of (r : Ref sig .tc) (h : r ∉ refC61_W) : R62 V (Proc.devRef .tc r) = R61 V (Proc.devRef .tc r) :=
  StableHlo.after_unwritten refC61_W refC61_writes h _
/-- The buffers after stretch 62. -/
def R63 : Valuation τ sig (Elt F) := StableHlo.after refC62 (R62 V)
theorem R63_of (r : Ref sig .tc) (h : r ∉ refC62_W) : R63 V (Proc.devRef .tc r) = R62 V (Proc.devRef .tc r) :=
  StableHlo.after_unwritten refC62_W refC62_writes h _
/-- The buffers after stretch 63. -/
def R64 : Valuation τ sig (Elt F) := StableHlo.after refC63 (R63 V)
theorem R64_of (r : Ref sig .tc) (h : r ∉ refC63_W) : R64 V (Proc.devRef .tc r) = R63 V (Proc.devRef .tc r) :=
  StableHlo.after_unwritten refC63_W refC63_writes h _
/-- The buffers after stretch 64. -/
def R65 : Valuation τ sig (Elt F) := StableHlo.after refC64 (R64 V)
theorem R65_of (r : Ref sig .tc) (h : r ∉ refC64_W) : R65 V (Proc.devRef .tc r) = R64 V (Proc.devRef .tc r) :=
  StableHlo.after_unwritten refC64_W refC64_writes h _
/-- The buffers after stretch 65. -/
def R66 : Valuation τ sig (Elt F) := StableHlo.after refC65 (R65 V)
theorem R66_of (r : Ref sig .tc) (h : r ∉ refC65_W) : R66 V (Proc.devRef .tc r) = R65 V (Proc.devRef .tc r) :=
  StableHlo.after_unwritten refC65_W refC65_writes h _
/-- The buffers after stretch 66. -/
def R67 : Valuation τ sig (Elt F) := StableHlo.after refC66 (R66 V)
theorem R67_of (r : Ref sig .tc) (h : r ∉ refC66_W) : R67 V (Proc.devRef .tc r) = R66 V (Proc.devRef .tc r) :=
  StableHlo.after_unwritten refC66_W refC66_writes h _
/-- The buffers after stretch 67. -/
def R68 : Valuation τ sig (Elt F) := StableHlo.after refC67 (R67 V)
theorem R68_of (r : Ref sig .tc) (h : r ∉ refC67_W) : R68 V (Proc.devRef .tc r) = R67 V (Proc.devRef .tc r) :=
  StableHlo.after_unwritten refC67_W refC67_writes h _
/-- The buffers after stretch 68. -/
def R69 : Valuation τ sig (Elt F) := StableHlo.after refC68 (R68 V)
theorem R69_of (r : Ref sig .tc) (h : r ∉ refC68_W) : R69 V (Proc.devRef .tc r) = R68 V (Proc.devRef .tc r) :=
  StableHlo.after_unwritten refC68_W refC68_writes h _
/-- The buffers after stretch 69. -/
def R70 : Valuation τ sig (Elt F) := StableHlo.after refC69 (R69 V)
theorem R70_of (r : Ref sig .tc) (h : r ∉ refC69_W) : R70 V (Proc.devRef .tc r) = R69 V (Proc.devRef .tc r) :=
  StableHlo.after_unwritten refC69_W refC69_writes h _
/-- The buffers after stretch 70. -/
def R71 : Valuation τ sig (Elt F) := StableHlo.after refC70 (R70 V)
theorem R71_of (r : Ref sig .tc) (h : r ∉ refC70_W) : R71 V (Proc.devRef .tc r) = R70 V (Proc.devRef .tc r) :=
  StableHlo.after_unwritten refC70_W refC70_writes h _
/-- The buffers after stretch 71. -/
def R72 : Valuation τ sig (Elt F) := StableHlo.after refC71 (R71 V)
theorem R72_of (r : Ref sig .tc) (h : r ∉ refC71_W) : R72 V (Proc.devRef .tc r) = R71 V (Proc.devRef .tc r) :=
  StableHlo.after_unwritten refC71_W refC71_writes h _

theorem after_refAll : StableHlo.after refAll.flatten V = R72 V := by
  rw [after_flatten]; rfl

/-- The reference's argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem R0_args : ∀ a ∈ args, R0 V (Proc.devRef .tc a) = V (Proc.devRef .tc a) := fun _ _ => rfl
theorem C0_args : ∀ a ∈ args, a ∉ refC0_W := ListAll.forall_mem_of_all_decide (by decide +kernel)
theorem R1_args : ∀ a ∈ args, R1 V (Proc.devRef .tc a) = V (Proc.devRef .tc a) := fun a ha => (R1_of V a (C0_args a ha)).trans (R0_args V a ha)
theorem C1_args : ∀ a ∈ args, a ∉ refC1_W := ListAll.forall_mem_of_all_decide (by decide +kernel)
theorem R2_args : ∀ a ∈ args, R2 V (Proc.devRef .tc a) = V (Proc.devRef .tc a) := fun a ha => (R2_of V a (C1_args a ha)).trans (R1_args V a ha)
theorem C2_args : ∀ a ∈ args, a ∉ refC2_W := ListAll.forall_mem_of_all_decide (by decide +kernel)
theorem R3_args : ∀ a ∈ args, R3 V (Proc.devRef .tc a) = V (Proc.devRef .tc a) := fun a ha => (R3_of V a (C2_args a ha)).trans (R2_args V a ha)
theorem C3_args : ∀ a ∈ args, a ∉ refC3_W := ListAll.forall_mem_of_all_decide (by decide +kernel)
theorem R4_args : ∀ a ∈ args, R4 V (Proc.devRef .tc a) = V (Proc.devRef .tc a) := fun a ha => (R4_of V a (C3_args a ha)).trans (R3_args V a ha)
theorem C4_args : ∀ a ∈ args, a ∉ refC4_W := ListAll.forall_mem_of_all_decide (by decide +kernel)
theorem R5_args : ∀ a ∈ args, R5 V (Proc.devRef .tc a) = V (Proc.devRef .tc a) := fun a ha => (R5_of V a (C4_args a ha)).trans (R4_args V a ha)
theorem C5_args : ∀ a ∈ args, a ∉ refC5_W := ListAll.forall_mem_of_all_decide (by decide +kernel)
theorem R6_args : ∀ a ∈ args, R6 V (Proc.devRef .tc a) = V (Proc.devRef .tc a) := fun a ha => (R6_of V a (C5_args a ha)).trans (R5_args V a ha)
theorem C6_args : ∀ a ∈ args, a ∉ refC6_W := ListAll.forall_mem_of_all_decide (by decide +kernel)
theorem R7_args : ∀ a ∈ args, R7 V (Proc.devRef .tc a) = V (Proc.devRef .tc a) := fun a ha => (R7_of V a (C6_args a ha)).trans (R6_args V a ha)
theorem C7_args : ∀ a ∈ args, a ∉ refC7_W := ListAll.forall_mem_of_all_decide (by decide +kernel)
theorem R8_args : ∀ a ∈ args, R8 V (Proc.devRef .tc a) = V (Proc.devRef .tc a) := fun a ha => (R8_of V a (C7_args a ha)).trans (R7_args V a ha)
theorem C8_args : ∀ a ∈ args, a ∉ refC8_W := ListAll.forall_mem_of_all_decide (by decide +kernel)
theorem R9_args : ∀ a ∈ args, R9 V (Proc.devRef .tc a) = V (Proc.devRef .tc a) := fun a ha => (R9_of V a (C8_args a ha)).trans (R8_args V a ha)
theorem C9_args : ∀ a ∈ args, a ∉ refC9_W := ListAll.forall_mem_of_all_decide (by decide +kernel)
theorem R10_args : ∀ a ∈ args, R10 V (Proc.devRef .tc a) = V (Proc.devRef .tc a) := fun a ha => (R10_of V a (C9_args a ha)).trans (R9_args V a ha)
theorem C10_args : ∀ a ∈ args, a ∉ refC10_W := ListAll.forall_mem_of_all_decide (by decide +kernel)
theorem R11_args : ∀ a ∈ args, R11 V (Proc.devRef .tc a) = V (Proc.devRef .tc a) := fun a ha => (R11_of V a (C10_args a ha)).trans (R10_args V a ha)
theorem C11_args : ∀ a ∈ args, a ∉ refC11_W := ListAll.forall_mem_of_all_decide (by decide +kernel)
theorem R12_args : ∀ a ∈ args, R12 V (Proc.devRef .tc a) = V (Proc.devRef .tc a) := fun a ha => (R12_of V a (C11_args a ha)).trans (R11_args V a ha)
theorem C12_args : ∀ a ∈ args, a ∉ refC12_W := ListAll.forall_mem_of_all_decide (by decide +kernel)
theorem R13_args : ∀ a ∈ args, R13 V (Proc.devRef .tc a) = V (Proc.devRef .tc a) := fun a ha => (R13_of V a (C12_args a ha)).trans (R12_args V a ha)
theorem C13_args : ∀ a ∈ args, a ∉ refC13_W := ListAll.forall_mem_of_all_decide (by decide +kernel)
theorem R14_args : ∀ a ∈ args, R14 V (Proc.devRef .tc a) = V (Proc.devRef .tc a) := fun a ha => (R14_of V a (C13_args a ha)).trans (R13_args V a ha)
theorem C14_args : ∀ a ∈ args, a ∉ refC14_W := ListAll.forall_mem_of_all_decide (by decide +kernel)
theorem R15_args : ∀ a ∈ args, R15 V (Proc.devRef .tc a) = V (Proc.devRef .tc a) := fun a ha => (R15_of V a (C14_args a ha)).trans (R14_args V a ha)
theorem C15_args : ∀ a ∈ args, a ∉ refC15_W := ListAll.forall_mem_of_all_decide (by decide +kernel)
theorem R16_args : ∀ a ∈ args, R16 V (Proc.devRef .tc a) = V (Proc.devRef .tc a) := fun a ha => (R16_of V a (C15_args a ha)).trans (R15_args V a ha)
theorem C16_args : ∀ a ∈ args, a ∉ refC16_W := ListAll.forall_mem_of_all_decide (by decide +kernel)
theorem R17_args : ∀ a ∈ args, R17 V (Proc.devRef .tc a) = V (Proc.devRef .tc a) := fun a ha => (R17_of V a (C16_args a ha)).trans (R16_args V a ha)
theorem C17_args : ∀ a ∈ args, a ∉ refC17_W := ListAll.forall_mem_of_all_decide (by decide +kernel)
theorem R18_args : ∀ a ∈ args, R18 V (Proc.devRef .tc a) = V (Proc.devRef .tc a) := fun a ha => (R18_of V a (C17_args a ha)).trans (R17_args V a ha)
theorem C18_args : ∀ a ∈ args, a ∉ refC18_W := ListAll.forall_mem_of_all_decide (by decide +kernel)
theorem R19_args : ∀ a ∈ args, R19 V (Proc.devRef .tc a) = V (Proc.devRef .tc a) := fun a ha => (R19_of V a (C18_args a ha)).trans (R18_args V a ha)
theorem C19_args : ∀ a ∈ args, a ∉ refC19_W := ListAll.forall_mem_of_all_decide (by decide +kernel)
theorem R20_args : ∀ a ∈ args, R20 V (Proc.devRef .tc a) = V (Proc.devRef .tc a) := fun a ha => (R20_of V a (C19_args a ha)).trans (R19_args V a ha)
theorem C20_args : ∀ a ∈ args, a ∉ refC20_W := ListAll.forall_mem_of_all_decide (by decide +kernel)
theorem R21_args : ∀ a ∈ args, R21 V (Proc.devRef .tc a) = V (Proc.devRef .tc a) := fun a ha => (R21_of V a (C20_args a ha)).trans (R20_args V a ha)
theorem C21_args : ∀ a ∈ args, a ∉ refC21_W := ListAll.forall_mem_of_all_decide (by decide +kernel)
theorem R22_args : ∀ a ∈ args, R22 V (Proc.devRef .tc a) = V (Proc.devRef .tc a) := fun a ha => (R22_of V a (C21_args a ha)).trans (R21_args V a ha)
theorem C22_args : ∀ a ∈ args, a ∉ refC22_W := ListAll.forall_mem_of_all_decide (by decide +kernel)
theorem R23_args : ∀ a ∈ args, R23 V (Proc.devRef .tc a) = V (Proc.devRef .tc a) := fun a ha => (R23_of V a (C22_args a ha)).trans (R22_args V a ha)
theorem C23_args : ∀ a ∈ args, a ∉ refC23_W := ListAll.forall_mem_of_all_decide (by decide +kernel)
theorem R24_args : ∀ a ∈ args, R24 V (Proc.devRef .tc a) = V (Proc.devRef .tc a) := fun a ha => (R24_of V a (C23_args a ha)).trans (R23_args V a ha)
theorem C24_args : ∀ a ∈ args, a ∉ refC24_W := ListAll.forall_mem_of_all_decide (by decide +kernel)
theorem R25_args : ∀ a ∈ args, R25 V (Proc.devRef .tc a) = V (Proc.devRef .tc a) := fun a ha => (R25_of V a (C24_args a ha)).trans (R24_args V a ha)
theorem C25_args : ∀ a ∈ args, a ∉ refC25_W := ListAll.forall_mem_of_all_decide (by decide +kernel)
theorem R26_args : ∀ a ∈ args, R26 V (Proc.devRef .tc a) = V (Proc.devRef .tc a) := fun a ha => (R26_of V a (C25_args a ha)).trans (R25_args V a ha)
theorem C26_args : ∀ a ∈ args, a ∉ refC26_W := ListAll.forall_mem_of_all_decide (by decide +kernel)
theorem R27_args : ∀ a ∈ args, R27 V (Proc.devRef .tc a) = V (Proc.devRef .tc a) := fun a ha => (R27_of V a (C26_args a ha)).trans (R26_args V a ha)
theorem C27_args : ∀ a ∈ args, a ∉ refC27_W := ListAll.forall_mem_of_all_decide (by decide +kernel)
theorem R28_args : ∀ a ∈ args, R28 V (Proc.devRef .tc a) = V (Proc.devRef .tc a) := fun a ha => (R28_of V a (C27_args a ha)).trans (R27_args V a ha)
theorem C28_args : ∀ a ∈ args, a ∉ refC28_W := ListAll.forall_mem_of_all_decide (by decide +kernel)
theorem R29_args : ∀ a ∈ args, R29 V (Proc.devRef .tc a) = V (Proc.devRef .tc a) := fun a ha => (R29_of V a (C28_args a ha)).trans (R28_args V a ha)
theorem C29_args : ∀ a ∈ args, a ∉ refC29_W := ListAll.forall_mem_of_all_decide (by decide +kernel)
theorem R30_args : ∀ a ∈ args, R30 V (Proc.devRef .tc a) = V (Proc.devRef .tc a) := fun a ha => (R30_of V a (C29_args a ha)).trans (R29_args V a ha)
theorem C30_args : ∀ a ∈ args, a ∉ refC30_W := ListAll.forall_mem_of_all_decide (by decide +kernel)
theorem R31_args : ∀ a ∈ args, R31 V (Proc.devRef .tc a) = V (Proc.devRef .tc a) := fun a ha => (R31_of V a (C30_args a ha)).trans (R30_args V a ha)
theorem C31_args : ∀ a ∈ args, a ∉ refC31_W := ListAll.forall_mem_of_all_decide (by decide +kernel)
theorem R32_args : ∀ a ∈ args, R32 V (Proc.devRef .tc a) = V (Proc.devRef .tc a) := fun a ha => (R32_of V a (C31_args a ha)).trans (R31_args V a ha)
theorem C32_args : ∀ a ∈ args, a ∉ refC32_W := ListAll.forall_mem_of_all_decide (by decide +kernel)
theorem R33_args : ∀ a ∈ args, R33 V (Proc.devRef .tc a) = V (Proc.devRef .tc a) := fun a ha => (R33_of V a (C32_args a ha)).trans (R32_args V a ha)
theorem C33_args : ∀ a ∈ args, a ∉ refC33_W := ListAll.forall_mem_of_all_decide (by decide +kernel)
theorem R34_args : ∀ a ∈ args, R34 V (Proc.devRef .tc a) = V (Proc.devRef .tc a) := fun a ha => (R34_of V a (C33_args a ha)).trans (R33_args V a ha)
theorem C34_args : ∀ a ∈ args, a ∉ refC34_W := ListAll.forall_mem_of_all_decide (by decide +kernel)
theorem R35_args : ∀ a ∈ args, R35 V (Proc.devRef .tc a) = V (Proc.devRef .tc a) := fun a ha => (R35_of V a (C34_args a ha)).trans (R34_args V a ha)
theorem C35_args : ∀ a ∈ args, a ∉ refC35_W := ListAll.forall_mem_of_all_decide (by decide +kernel)
theorem R36_args : ∀ a ∈ args, R36 V (Proc.devRef .tc a) = V (Proc.devRef .tc a) := fun a ha => (R36_of V a (C35_args a ha)).trans (R35_args V a ha)
theorem C36_args : ∀ a ∈ args, a ∉ refC36_W := ListAll.forall_mem_of_all_decide (by decide +kernel)
theorem R37_args : ∀ a ∈ args, R37 V (Proc.devRef .tc a) = V (Proc.devRef .tc a) := fun a ha => (R37_of V a (C36_args a ha)).trans (R36_args V a ha)
theorem C37_args : ∀ a ∈ args, a ∉ refC37_W := ListAll.forall_mem_of_all_decide (by decide +kernel)
theorem R38_args : ∀ a ∈ args, R38 V (Proc.devRef .tc a) = V (Proc.devRef .tc a) := fun a ha => (R38_of V a (C37_args a ha)).trans (R37_args V a ha)
theorem C38_args : ∀ a ∈ args, a ∉ refC38_W := ListAll.forall_mem_of_all_decide (by decide +kernel)
theorem R39_args : ∀ a ∈ args, R39 V (Proc.devRef .tc a) = V (Proc.devRef .tc a) := fun a ha => (R39_of V a (C38_args a ha)).trans (R38_args V a ha)
theorem C39_args : ∀ a ∈ args, a ∉ refC39_W := ListAll.forall_mem_of_all_decide (by decide +kernel)
theorem R40_args : ∀ a ∈ args, R40 V (Proc.devRef .tc a) = V (Proc.devRef .tc a) := fun a ha => (R40_of V a (C39_args a ha)).trans (R39_args V a ha)
theorem C40_args : ∀ a ∈ args, a ∉ refC40_W := ListAll.forall_mem_of_all_decide (by decide +kernel)
theorem R41_args : ∀ a ∈ args, R41 V (Proc.devRef .tc a) = V (Proc.devRef .tc a) := fun a ha => (R41_of V a (C40_args a ha)).trans (R40_args V a ha)
theorem C41_args : ∀ a ∈ args, a ∉ refC41_W := ListAll.forall_mem_of_all_decide (by decide +kernel)
theorem R42_args : ∀ a ∈ args, R42 V (Proc.devRef .tc a) = V (Proc.devRef .tc a) := fun a ha => (R42_of V a (C41_args a ha)).trans (R41_args V a ha)
theorem C42_args : ∀ a ∈ args, a ∉ refC42_W := ListAll.forall_mem_of_all_decide (by decide +kernel)
theorem R43_args : ∀ a ∈ args, R43 V (Proc.devRef .tc a) = V (Proc.devRef .tc a) := fun a ha => (R43_of V a (C42_args a ha)).trans (R42_args V a ha)
theorem C43_args : ∀ a ∈ args, a ∉ refC43_W := ListAll.forall_mem_of_all_decide (by decide +kernel)
theorem R44_args : ∀ a ∈ args, R44 V (Proc.devRef .tc a) = V (Proc.devRef .tc a) := fun a ha => (R44_of V a (C43_args a ha)).trans (R43_args V a ha)
theorem C44_args : ∀ a ∈ args, a ∉ refC44_W := ListAll.forall_mem_of_all_decide (by decide +kernel)
theorem R45_args : ∀ a ∈ args, R45 V (Proc.devRef .tc a) = V (Proc.devRef .tc a) := fun a ha => (R45_of V a (C44_args a ha)).trans (R44_args V a ha)
theorem C45_args : ∀ a ∈ args, a ∉ refC45_W := ListAll.forall_mem_of_all_decide (by decide +kernel)
theorem R46_args : ∀ a ∈ args, R46 V (Proc.devRef .tc a) = V (Proc.devRef .tc a) := fun a ha => (R46_of V a (C45_args a ha)).trans (R45_args V a ha)
theorem C46_args : ∀ a ∈ args, a ∉ refC46_W := ListAll.forall_mem_of_all_decide (by decide +kernel)
theorem R47_args : ∀ a ∈ args, R47 V (Proc.devRef .tc a) = V (Proc.devRef .tc a) := fun a ha => (R47_of V a (C46_args a ha)).trans (R46_args V a ha)
theorem C47_args : ∀ a ∈ args, a ∉ refC47_W := ListAll.forall_mem_of_all_decide (by decide +kernel)
theorem R48_args : ∀ a ∈ args, R48 V (Proc.devRef .tc a) = V (Proc.devRef .tc a) := fun a ha => (R48_of V a (C47_args a ha)).trans (R47_args V a ha)
theorem C48_args : ∀ a ∈ args, a ∉ refC48_W := ListAll.forall_mem_of_all_decide (by decide +kernel)
theorem R49_args : ∀ a ∈ args, R49 V (Proc.devRef .tc a) = V (Proc.devRef .tc a) := fun a ha => (R49_of V a (C48_args a ha)).trans (R48_args V a ha)
theorem C49_args : ∀ a ∈ args, a ∉ refC49_W := ListAll.forall_mem_of_all_decide (by decide +kernel)
theorem R50_args : ∀ a ∈ args, R50 V (Proc.devRef .tc a) = V (Proc.devRef .tc a) := fun a ha => (R50_of V a (C49_args a ha)).trans (R49_args V a ha)
theorem C50_args : ∀ a ∈ args, a ∉ refC50_W := ListAll.forall_mem_of_all_decide (by decide +kernel)
theorem R51_args : ∀ a ∈ args, R51 V (Proc.devRef .tc a) = V (Proc.devRef .tc a) := fun a ha => (R51_of V a (C50_args a ha)).trans (R50_args V a ha)
theorem C51_args : ∀ a ∈ args, a ∉ refC51_W := ListAll.forall_mem_of_all_decide (by decide +kernel)
theorem R52_args : ∀ a ∈ args, R52 V (Proc.devRef .tc a) = V (Proc.devRef .tc a) := fun a ha => (R52_of V a (C51_args a ha)).trans (R51_args V a ha)
theorem C52_args : ∀ a ∈ args, a ∉ refC52_W := ListAll.forall_mem_of_all_decide (by decide +kernel)
theorem R53_args : ∀ a ∈ args, R53 V (Proc.devRef .tc a) = V (Proc.devRef .tc a) := fun a ha => (R53_of V a (C52_args a ha)).trans (R52_args V a ha)
theorem C53_args : ∀ a ∈ args, a ∉ refC53_W := ListAll.forall_mem_of_all_decide (by decide +kernel)
theorem R54_args : ∀ a ∈ args, R54 V (Proc.devRef .tc a) = V (Proc.devRef .tc a) := fun a ha => (R54_of V a (C53_args a ha)).trans (R53_args V a ha)
theorem C54_args : ∀ a ∈ args, a ∉ refC54_W := ListAll.forall_mem_of_all_decide (by decide +kernel)
theorem R55_args : ∀ a ∈ args, R55 V (Proc.devRef .tc a) = V (Proc.devRef .tc a) := fun a ha => (R55_of V a (C54_args a ha)).trans (R54_args V a ha)
theorem C55_args : ∀ a ∈ args, a ∉ refC55_W := ListAll.forall_mem_of_all_decide (by decide +kernel)
theorem R56_args : ∀ a ∈ args, R56 V (Proc.devRef .tc a) = V (Proc.devRef .tc a) := fun a ha => (R56_of V a (C55_args a ha)).trans (R55_args V a ha)
theorem C56_args : ∀ a ∈ args, a ∉ refC56_W := ListAll.forall_mem_of_all_decide (by decide +kernel)
theorem R57_args : ∀ a ∈ args, R57 V (Proc.devRef .tc a) = V (Proc.devRef .tc a) := fun a ha => (R57_of V a (C56_args a ha)).trans (R56_args V a ha)
theorem C57_args : ∀ a ∈ args, a ∉ refC57_W := ListAll.forall_mem_of_all_decide (by decide +kernel)
theorem R58_args : ∀ a ∈ args, R58 V (Proc.devRef .tc a) = V (Proc.devRef .tc a) := fun a ha => (R58_of V a (C57_args a ha)).trans (R57_args V a ha)
theorem C58_args : ∀ a ∈ args, a ∉ refC58_W := ListAll.forall_mem_of_all_decide (by decide +kernel)
theorem R59_args : ∀ a ∈ args, R59 V (Proc.devRef .tc a) = V (Proc.devRef .tc a) := fun a ha => (R59_of V a (C58_args a ha)).trans (R58_args V a ha)
theorem C59_args : ∀ a ∈ args, a ∉ refC59_W := ListAll.forall_mem_of_all_decide (by decide +kernel)
theorem R60_args : ∀ a ∈ args, R60 V (Proc.devRef .tc a) = V (Proc.devRef .tc a) := fun a ha => (R60_of V a (C59_args a ha)).trans (R59_args V a ha)
theorem C60_args : ∀ a ∈ args, a ∉ refC60_W := ListAll.forall_mem_of_all_decide (by decide +kernel)
theorem R61_args : ∀ a ∈ args, R61 V (Proc.devRef .tc a) = V (Proc.devRef .tc a) := fun a ha => (R61_of V a (C60_args a ha)).trans (R60_args V a ha)
theorem C61_args : ∀ a ∈ args, a ∉ refC61_W := ListAll.forall_mem_of_all_decide (by decide +kernel)
theorem R62_args : ∀ a ∈ args, R62 V (Proc.devRef .tc a) = V (Proc.devRef .tc a) := fun a ha => (R62_of V a (C61_args a ha)).trans (R61_args V a ha)
theorem C62_args : ∀ a ∈ args, a ∉ refC62_W := ListAll.forall_mem_of_all_decide (by decide +kernel)
theorem R63_args : ∀ a ∈ args, R63 V (Proc.devRef .tc a) = V (Proc.devRef .tc a) := fun a ha => (R63_of V a (C62_args a ha)).trans (R62_args V a ha)
theorem C63_args : ∀ a ∈ args, a ∉ refC63_W := ListAll.forall_mem_of_all_decide (by decide +kernel)
theorem R64_args : ∀ a ∈ args, R64 V (Proc.devRef .tc a) = V (Proc.devRef .tc a) := fun a ha => (R64_of V a (C63_args a ha)).trans (R63_args V a ha)
theorem C64_args : ∀ a ∈ args, a ∉ refC64_W := ListAll.forall_mem_of_all_decide (by decide +kernel)
theorem R65_args : ∀ a ∈ args, R65 V (Proc.devRef .tc a) = V (Proc.devRef .tc a) := fun a ha => (R65_of V a (C64_args a ha)).trans (R64_args V a ha)
theorem C65_args : ∀ a ∈ args, a ∉ refC65_W := ListAll.forall_mem_of_all_decide (by decide +kernel)
theorem R66_args : ∀ a ∈ args, R66 V (Proc.devRef .tc a) = V (Proc.devRef .tc a) := fun a ha => (R66_of V a (C65_args a ha)).trans (R65_args V a ha)
theorem C66_args : ∀ a ∈ args, a ∉ refC66_W := ListAll.forall_mem_of_all_decide (by decide +kernel)
theorem R67_args : ∀ a ∈ args, R67 V (Proc.devRef .tc a) = V (Proc.devRef .tc a) := fun a ha => (R67_of V a (C66_args a ha)).trans (R66_args V a ha)
theorem C67_args : ∀ a ∈ args, a ∉ refC67_W := ListAll.forall_mem_of_all_decide (by decide +kernel)
theorem R68_args : ∀ a ∈ args, R68 V (Proc.devRef .tc a) = V (Proc.devRef .tc a) := fun a ha => (R68_of V a (C67_args a ha)).trans (R67_args V a ha)
theorem C68_args : ∀ a ∈ args, a ∉ refC68_W := ListAll.forall_mem_of_all_decide (by decide +kernel)
theorem R69_args : ∀ a ∈ args, R69 V (Proc.devRef .tc a) = V (Proc.devRef .tc a) := fun a ha => (R69_of V a (C68_args a ha)).trans (R68_args V a ha)
theorem C69_args : ∀ a ∈ args, a ∉ refC69_W := ListAll.forall_mem_of_all_decide (by decide +kernel)
theorem R70_args : ∀ a ∈ args, R70 V (Proc.devRef .tc a) = V (Proc.devRef .tc a) := fun a ha => (R70_of V a (C69_args a ha)).trans (R69_args V a ha)
theorem C70_args : ∀ a ∈ args, a ∉ refC70_W := ListAll.forall_mem_of_all_decide (by decide +kernel)
theorem R71_args : ∀ a ∈ args, R71 V (Proc.devRef .tc a) = V (Proc.devRef .tc a) := fun a ha => (R71_of V a (C70_args a ha)).trans (R70_args V a ha)
theorem C71_args : ∀ a ∈ args, a ∉ refC71_W := ListAll.forall_mem_of_all_decide (by decide +kernel)
theorem R72_args : ∀ a ∈ args, R72 V (Proc.devRef .tc a) = V (Proc.devRef .tc a) := fun a ha => (R72_of V a (C71_args a ha)).trans (R71_args V a ha)

/-- The reference's run: every buffer ends at the fold of its operations over its launch contents, and no semaphore counts. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R72 (StableHlo.launchContents m d) (Proc.devRef .tc b) := by
  have h := StableHlo.run_seq (by decide) (by decide) defs (main (F := F)) (fun _ => refAll.flatten) main_chain (fun _ => refAll_sub) m ρ (fun _ => refAll_fresh)
  simp only [after_refAll] at h
  exact h

end Cert.Ref

end

end
-- ==== Proof.Lock1.lean ====
module

public import proofs.«01_k».proof.Proof.RefRun
public import proofs.«01_k».proof.Proof.Gen.KernelIdeal.Frame
public import Idealize.ShloMosaic.Lib.StableHlo.RunRead
public import Idealize.ShloMosaic.Lib.Pointwise
public import Idealize.ShloMosaic.Lib.Pipeline.ValueKit

@[expose] public section

set_option maxRecDepth 16384

/-! The host operations around the two modules are the same in both programs: from equal inputs they
leave equal arrays. `V` and `U` are the two programs' buffers before a stretch of them. -/

noncomputable section

open Idealize.ShloMosaic Idealize.ShloMosaic.TcCoe

namespace Cert.Lock

variable (V : Valuation Cert.KernelIdeal.τ Cert.KernelIdeal.sig (Elt Ideal))
  (U : Valuation Cert.ReferenceIdeal.τ Cert.ReferenceIdeal.sig (Elt Ideal))

/-- The points, coordinates last. -/
theorem v0 (h0 : (show FVec Ideal Cert.KernelIdeal.S16x3x2048 .f32 from V (Proc.devRef .tc Cert.KernelIdeal.main_arg0)) = (show FVec Ideal Cert.ReferenceIdeal.S16x3x2048 .f32 from U (Proc.devRef .tc Cert.ReferenceIdeal.main_arg0))) :
    (show FVec Ideal Cert.KernelIdeal.S16x2048x3 .f32 from (StableHlo.after Cert.KernelIdeal.Gen.hostOps0 V) (Proc.devRef .tc Cert.KernelIdeal.main_v0)) = (show FVec Ideal Cert.ReferenceIdeal.S16x2048x3 .f32 from (StableHlo.after (Cert.Ref.refC0 (F := Ideal)) U) (Proc.devRef .tc Cert.ReferenceIdeal.main_v0)) := by
  after_reads_simp
  try simp -implicitDefEqProofs only [StableHlo.TRef.toBuf, StableHlo.TRef.ofBuf, cast_cast, cast_eq]
  rw [show V (Proc.devRef .tc Cert.KernelIdeal.main_arg0) = _ from h0]
  all_goals rfl

/-- The first samples, with a unit axis. -/
theorem v1 (h0 : (show IVec Cert.KernelIdeal.S16x256 32 from V (Proc.devRef .tc Cert.KernelIdeal.main_arg1)) = (show IVec Cert.ReferenceIdeal.S16x256 32 from U (Proc.devRef .tc Cert.ReferenceIdeal.main_arg1))) :
    (show IVec Cert.KernelIdeal.S16x256x1 32 from (StableHlo.after Cert.KernelIdeal.Gen.hostOps0 V) (Proc.devRef .tc Cert.KernelIdeal.main_v1)) = (show IVec Cert.ReferenceIdeal.S16x256x1 32 from (StableHlo.after (Cert.Ref.refC0 (F := Ideal)) U) (Proc.devRef .tc Cert.ReferenceIdeal.main_v1)) := by
  after_reads_simp
  try simp -implicitDefEqProofs only [StableHlo.TRef.toBuf, StableHlo.TRef.ofBuf, cast_cast, cast_eq]
  rw [show V (Proc.devRef .tc Cert.KernelIdeal.main_arg1) = _ from h0]
  all_goals rfl

/-- The points, with a unit feature axis. -/
theorem v17 (h0 : (show FVec Ideal Cert.KernelIdeal.S16x2048x3 .f32 from V (Proc.devRef .tc Cert.KernelIdeal.main_v0)) = (show FVec Ideal Cert.ReferenceIdeal.S16x2048x3 .f32 from U (Proc.devRef .tc Cert.ReferenceIdeal.main_v0))) :
    (show FVec Ideal Cert.KernelIdeal.S16x1x2048x3 .f32 from (StableHlo.after Cert.KernelIdeal.Gen.hostOps0_2 V) (Proc.devRef .tc Cert.KernelIdeal.main_v17)) = (show FVec Ideal Cert.ReferenceIdeal.S16x1x2048x3 .f32 from (StableHlo.after (Cert.Ref.refC2 (F := Ideal)) U) (Proc.devRef .tc Cert.ReferenceIdeal.main_v17)) := by
  after_reads_simp
  try simp -implicitDefEqProofs only [StableHlo.TRef.toBuf, StableHlo.TRef.ofBuf, cast_cast, cast_eq]
  rw [show V (Proc.devRef .tc Cert.KernelIdeal.main_v0) = _ from h0]
  all_goals rfl

/-- The first sampled points. -/
theorem v2 (h0 : (show FVec Ideal Cert.KernelIdeal.S16x2048x3 .f32 from V (Proc.devRef .tc Cert.KernelIdeal.main_v0)) = (show FVec Ideal Cert.ReferenceIdeal.S16x2048x3 .f32 from U (Proc.devRef .tc Cert.ReferenceIdeal.main_v0))) (h1 : (show IVec Cert.KernelIdeal.S16x256x1 32 from V (Proc.devRef .tc Cert.KernelIdeal.main_v1)) = (show IVec Cert.ReferenceIdeal.S16x256x1 32 from U (Proc.devRef .tc Cert.ReferenceIdeal.main_v1))) :
    (show FVec Ideal Cert.KernelIdeal.S16x256x3 .f32 from (StableHlo.after Cert.KernelIdeal.Gen.hostOps0_1 V) (Proc.devRef .tc Cert.KernelIdeal.main_v2)) = (show FVec Ideal Cert.ReferenceIdeal.S16x256x3 .f32 from (StableHlo.after (Cert.Ref.refC1 (F := Ideal)) U) (Proc.devRef .tc Cert.ReferenceIdeal.main_v2)) := by
  after_reads_simp
  try simp -implicitDefEqProofs only [StableHlo.TRef.toBuf, StableHlo.TRef.ofBuf, cast_cast, cast_eq]
  rw [show V (Proc.devRef .tc Cert.KernelIdeal.main_v0) = _ from h0, show V (Proc.devRef .tc Cert.KernelIdeal.main_v1) = _ from h1]
  all_goals rfl

/-- The nearest neighbours of the first samples. -/
theorem v18 (h0 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v2))) (h1 : (show FVec Ideal Cert.KernelIdeal.S16x2048x3 .f32 from V (Proc.devRef .tc Cert.KernelIdeal.main_v0)) = (show FVec Ideal Cert.ReferenceIdeal.S16x2048x3 .f32 from U (Proc.devRef .tc Cert.ReferenceIdeal.main_v0))) :
    (show IVec Cert.KernelIdeal.S16x1x8192x1 32 from (StableHlo.after Cert.KernelIdeal.Gen.hostOps0_2 V) (Proc.devRef .tc Cert.KernelIdeal.main_v18)) = (show IVec Cert.ReferenceIdeal.S16x1x8192x1 32 from (StableHlo.after (Cert.Ref.refC2 (F := Ideal)) U) (Proc.devRef .tc Cert.ReferenceIdeal.main_v18)) := by
  after_reads_simp
  try simp -implicitDefEqProofs only [StableHlo.TRef.toBuf, StableHlo.TRef.ofBuf, cast_cast, cast_eq]
  rw [show V (Proc.devRef .tc Cert.KernelIdeal.main_v2) = _ from h0, show V (Proc.devRef .tc Cert.KernelIdeal.main_v0) = _ from h1]
  all_goals rfl

/-- The neighbours gathered. -/
theorem v19 (h0 : (show FVec Ideal Cert.KernelIdeal.S16x1x2048x3 .f32 from V (Proc.devRef .tc Cert.KernelIdeal.main_v17)) = (show FVec Ideal Cert.ReferenceIdeal.S16x1x2048x3 .f32 from U (Proc.devRef .tc Cert.ReferenceIdeal.main_v17))) (h1 : (show IVec Cert.KernelIdeal.S16x1x8192x1 32 from V (Proc.devRef .tc Cert.KernelIdeal.main_v18)) = (show IVec Cert.ReferenceIdeal.S16x1x8192x1 32 from U (Proc.devRef .tc Cert.ReferenceIdeal.main_v18))) :
    (show FVec Ideal Cert.KernelIdeal.S16x1x8192x3 .f32 from (StableHlo.after Cert.KernelIdeal.Gen.hostOps0_3 V) (Proc.devRef .tc Cert.KernelIdeal.main_v19)) = (show FVec Ideal Cert.ReferenceIdeal.S16x1x8192x3 .f32 from (StableHlo.after (Cert.Ref.refC3 (F := Ideal)) U) (Proc.devRef .tc Cert.ReferenceIdeal.main_v19)) := by
  after_reads_simp
  try simp -implicitDefEqProofs only [StableHlo.TRef.toBuf, StableHlo.TRef.ofBuf, cast_cast, cast_eq]
  rw [show V (Proc.devRef .tc Cert.KernelIdeal.main_v17) = _ from h0, show V (Proc.devRef .tc Cert.KernelIdeal.main_v18) = _ from h1]
  all_goals rfl

/-- The neighbours relative to their point. -/
theorem v23 (h0 : (show FVec Ideal Cert.KernelIdeal.S16x1x8192x3 .f32 from V (Proc.devRef .tc Cert.KernelIdeal.main_v19)) = (show FVec Ideal Cert.ReferenceIdeal.S16x1x8192x3 .f32 from U (Proc.devRef .tc Cert.ReferenceIdeal.main_v19))) (h1 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v2))) :
    (show FVec Ideal Cert.KernelIdeal.S16x1x256x32x3 .f32 from (StableHlo.after Cert.KernelIdeal.Gen.hostOps0_4 V) (Proc.devRef .tc Cert.KernelIdeal.main_v23)) = (show FVec Ideal Cert.ReferenceIdeal.S16x1x256x32x3 .f32 from (StableHlo.after (Cert.Ref.refC4 (F := Ideal)) U) (Proc.devRef .tc Cert.ReferenceIdeal.main_v24)) := by
  after_reads_simp
  try simp -implicitDefEqProofs only [StableHlo.TRef.toBuf, StableHlo.TRef.ofBuf, cast_cast, cast_eq]
  rw [show V (Proc.devRef .tc Cert.KernelIdeal.main_v19) = _ from h0, show V (Proc.devRef .tc Cert.KernelIdeal.main_v2) = _ from h1]
  refine congrArg₂ (subf (F := Ideal)) ?_ ?_
  · rfl
  · funext i
    exact congrArg (show FVec Ideal Cert.ReferenceIdeal.S16x256x3 .f32 from U (Proc.devRef .tc Cert.ReferenceIdeal.main_v2)) (funext fun a => by fin_cases a <;> rfl)

end Cert.Lock

end

end
-- ==== Proof.Lock2.lean ====
module

public import proofs.«01_k».proof.Proof.RefRun
public import proofs.«01_k».proof.Proof.Gen.KernelIdeal.Frame
public import Idealize.ShloMosaic.Lib.StableHlo.RunRead
public import Idealize.ShloMosaic.Lib.Pointwise
public import Idealize.ShloMosaic.Lib.Pipeline.ValueKit

@[expose] public section

set_option maxRecDepth 16384

/-! The host operations around the two modules are the same in both programs: from equal inputs they
leave equal arrays. `V` and `U` are the two programs' buffers before a stretch of them. -/

noncomputable section

open Idealize.ShloMosaic Idealize.ShloMosaic.TcCoe

namespace Cert.Lock

variable (V : Valuation Cert.KernelIdeal.τ Cert.KernelIdeal.sig (Elt Ideal))
  (U : Valuation Cert.ReferenceIdeal.τ Cert.ReferenceIdeal.sig (Elt Ideal))

/-- The first samples, coordinates second. -/
theorem v62 (h0 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v2))) :
    (show FVec Ideal Cert.KernelIdeal.S16x3x256 .f32 from (StableHlo.after Cert.KernelIdeal.Gen.hostOps3 V) (Proc.devRef .tc Cert.KernelIdeal.main_v62)) = (show FVec Ideal Cert.ReferenceIdeal.S16x3x256 .f32 from (StableHlo.after (Cert.Ref.refC28 (F := Ideal)) U) (Proc.devRef .tc Cert.ReferenceIdeal.main_v143)) := by
  after_reads_simp
  try simp -implicitDefEqProofs only [StableHlo.TRef.toBuf, StableHlo.TRef.ofBuf, cast_cast, cast_eq]
  rw [show V (Proc.devRef .tc Cert.KernelIdeal.main_v2) = _ from h0]
  all_goals rfl

/-- The second samples, with a unit axis. -/
theorem v63 (h0 : (show IVec Cert.KernelIdeal.S16x128 32 from V (Proc.devRef .tc Cert.KernelIdeal.main_arg2)) = (show IVec Cert.ReferenceIdeal.S16x128 32 from U (Proc.devRef .tc Cert.ReferenceIdeal.main_arg2))) :
    (show IVec Cert.KernelIdeal.S16x128x1 32 from (StableHlo.after Cert.KernelIdeal.Gen.hostOps3 V) (Proc.devRef .tc Cert.KernelIdeal.main_v63)) = (show IVec Cert.ReferenceIdeal.S16x128x1 32 from (StableHlo.after (Cert.Ref.refC28 (F := Ideal)) U) (Proc.devRef .tc Cert.ReferenceIdeal.main_v145)) := by
  after_reads_simp
  try simp -implicitDefEqProofs only [StableHlo.TRef.toBuf, StableHlo.TRef.ofBuf, cast_cast, cast_eq]
  rw [show V (Proc.devRef .tc Cert.KernelIdeal.main_arg2) = _ from h0]
  all_goals rfl

/-- The first samples, transposed there and back. -/
theorem v146 (h0 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v2))) :
    (show FVec Ideal Cert.KernelIdeal.S16x256x3 .f32 from V (Proc.devRef .tc Cert.KernelIdeal.main_v2)) = (show FVec Ideal Cert.ReferenceIdeal.S16x256x3 .f32 from (StableHlo.after (Cert.Ref.refC28 (F := Ideal)) U) (Proc.devRef .tc Cert.ReferenceIdeal.main_v144)) := by
  after_reads_simp
  rw [show V (Proc.devRef .tc Cert.KernelIdeal.main_v2) = _ from h0]
  funext i
  exact congrArg (show FVec Ideal Cert.ReferenceIdeal.S16x256x3 .f32 from U (Proc.devRef .tc Cert.ReferenceIdeal.main_v2)) (funext fun a => by fin_cases a <;> rfl)

/-- The first samples, with a unit feature axis. -/
theorem v79 (h0 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v144))) :
    (show FVec Ideal Cert.KernelIdeal.S16x1x256x3 .f32 from (StableHlo.after Cert.KernelIdeal.Gen.hostOps3_2 V) (Proc.devRef .tc Cert.KernelIdeal.main_v79)) = (show FVec Ideal Cert.ReferenceIdeal.S16x1x256x3 .f32 from (StableHlo.after (Cert.Ref.refC31 (F := Ideal)) (StableHlo.after (Cert.Ref.refC30 (F := Ideal)) U)) (Proc.devRef .tc Cert.ReferenceIdeal.main_v161)) := by
  after_reads_simp
  try simp -implicitDefEqProofs only [StableHlo.TRef.toBuf, StableHlo.TRef.ofBuf, cast_cast, cast_eq]
  rw [show V (Proc.devRef .tc Cert.KernelIdeal.main_v2) = _ from h0]
  all_goals rfl

/-- The second sampled points. -/
theorem v64 (h0 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v144))) (h1 : (show IVec Cert.KernelIdeal.S16x128x1 32 from V (Proc.devRef .tc Cert.KernelIdeal.main_v63)) = (show IVec Cert.ReferenceIdeal.S16x128x1 32 from U (Proc.devRef .tc Cert.ReferenceIdeal.main_v145))) :
    (show FVec Ideal Cert.KernelIdeal.S16x128x3 .f32 from (StableHlo.after Cert.KernelIdeal.Gen.hostOps3_1 V) (Proc.devRef .tc Cert.KernelIdeal.main_v64)) = (show FVec Ideal Cert.ReferenceIdeal.S16x128x3 .f32 from (StableHlo.after (Cert.Ref.refC29 (F := Ideal)) U) (Proc.devRef .tc Cert.ReferenceIdeal.main_v146)) := by
  after_reads_simp
  try simp -implicitDefEqProofs only [StableHlo.TRef.toBuf, StableHlo.TRef.ofBuf, cast_cast, cast_eq]
  rw [show V (Proc.devRef .tc Cert.KernelIdeal.main_v2) = _ from h0, show V (Proc.devRef .tc Cert.KernelIdeal.main_v63) = _ from h1]
  all_goals rfl

/-- The nearest neighbours of the second samples, in one row. -/
theorem v80 (h0 : (show FVec Ideal Cert.KernelIdeal.S16x128x3 .f32 from V (Proc.devRef .tc Cert.KernelIdeal.main_v64)) = (show FVec Ideal Cert.ReferenceIdeal.S16x128x3 .f32 from U (Proc.devRef .tc Cert.ReferenceIdeal.main_v146))) (h1 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v144))) :
    (show IVec Cert.KernelIdeal.S16x1x2048x1 32 from (StableHlo.after Cert.KernelIdeal.Gen.hostOps3_2 V) (Proc.devRef .tc Cert.KernelIdeal.main_v80)) = (show IVec Cert.ReferenceIdeal.S16x1x2048x1 32 from (StableHlo.after (Cert.Ref.refC31 (F := Ideal)) (StableHlo.after (Cert.Ref.refC30 (F := Ideal)) U)) (Proc.devRef .tc Cert.ReferenceIdeal.main_v162)) := by
  after_reads_simp
  try simp -implicitDefEqProofs only [StableHlo.TRef.toBuf, StableHlo.TRef.ofBuf, cast_cast, cast_eq]
  rw [show V (Proc.devRef .tc Cert.KernelIdeal.main_v64) = _ from h0, show V (Proc.devRef .tc Cert.KernelIdeal.main_v2) = _ from h1]
  all_goals rfl

/-- The nearest neighbours of the second samples. -/
theorem idx2 (h0 : (show FVec Ideal Cert.KernelIdeal.S16x128x3 .f32 from V (Proc.devRef .tc Cert.KernelIdeal.main_v64)) = (show FVec Ideal Cert.ReferenceIdeal.S16x128x3 .f32 from U (Proc.devRef .tc Cert.ReferenceIdeal.main_v146))) (h1 : (show FVec Ideal Cert.KernelIdeal.S16x256x3 .f32 from V (Proc.devRef .tc Cert.KernelIdeal.main_v2)) = (show FVec Ideal Cert.ReferenceIdeal.S16x256x3 .f32 from U (Proc.devRef .tc Cert.ReferenceIdeal.main_v144))) :
    (show IVec Cert.KernelIdeal.S16x128x16 32 from (StableHlo.after Cert.KernelIdeal.Gen.hostOps3_2 V) (Proc.devRef .tc Cert.KernelIdeal.main_indices_12)) = (show IVec Cert.ReferenceIdeal.S16x128x16 32 from (StableHlo.after (Cert.Ref.refC31 (F := Ideal)) (StableHlo.after (Cert.Ref.refC30 (F := Ideal)) U)) (Proc.devRef .tc Cert.ReferenceIdeal.main_indices_30)) := by
  after_reads_simp
  try simp -implicitDefEqProofs only [StableHlo.TRef.toBuf, StableHlo.TRef.ofBuf, cast_cast, cast_eq]
  rw [show V (Proc.devRef .tc Cert.KernelIdeal.main_v64) = _ from h0, show V (Proc.devRef .tc Cert.KernelIdeal.main_v2) = _ from h1]
  all_goals rfl

/-- Their coordinates gathered. -/
theorem v81 (h0 : (show FVec Ideal Cert.KernelIdeal.S16x1x256x3 .f32 from V (Proc.devRef .tc Cert.KernelIdeal.main_v79)) = (show FVec Ideal Cert.ReferenceIdeal.S16x1x256x3 .f32 from U (Proc.devRef .tc Cert.ReferenceIdeal.main_v161))) (h1 : (show IVec Cert.KernelIdeal.S16x1x2048x1 32 from V (Proc.devRef .tc Cert.KernelIdeal.main_v80)) = (show IVec Cert.ReferenceIdeal.S16x1x2048x1 32 from U (Proc.devRef .tc Cert.ReferenceIdeal.main_v162))) :
    (show FVec Ideal Cert.KernelIdeal.S16x1x2048x3 .f32 from (StableHlo.after Cert.KernelIdeal.Gen.hostOps3_3 V) (Proc.devRef .tc Cert.KernelIdeal.main_v81)) = (show FVec Ideal Cert.ReferenceIdeal.S16x1x2048x3 .f32 from (StableHlo.after (Cert.Ref.refC32 (F := Ideal)) U) (Proc.devRef .tc Cert.ReferenceIdeal.main_v163)) := by
  after_reads_simp
  try simp -implicitDefEqProofs only [StableHlo.TRef.toBuf, StableHlo.TRef.ofBuf, cast_cast, cast_eq]
  rw [show V (Proc.devRef .tc Cert.KernelIdeal.main_v79) = _ from h0, show V (Proc.devRef .tc Cert.KernelIdeal.main_v80) = _ from h1]
  all_goals rfl

/-- Their coordinates relative to their point. -/
theorem v85 (h0 : (show FVec Ideal Cert.KernelIdeal.S16x1x2048x3 .f32 from V (Proc.devRef .tc Cert.KernelIdeal.main_v81)) = (show FVec Ideal Cert.ReferenceIdeal.S16x1x2048x3 .f32 from U (Proc.devRef .tc Cert.ReferenceIdeal.main_v163))) (h1 : (show FVec Ideal Cert.KernelIdeal.S16x128x3 .f32 from V (Proc.devRef .tc Cert.KernelIdeal.main_v64)) = (show FVec Ideal Cert.ReferenceIdeal.S16x128x3 .f32 from U (Proc.devRef .tc Cert.ReferenceIdeal.main_v146))) :
    (show FVec Ideal Cert.KernelIdeal.S16x1x128x16x3 .f32 from (StableHlo.after Cert.KernelIdeal.Gen.hostOps3_4 V) (Proc.devRef .tc Cert.KernelIdeal.main_v85)) = (show FVec Ideal Cert.ReferenceIdeal.S16x1x128x16x3 .f32 from (StableHlo.after (Cert.Ref.refC33 (F := Ideal)) U) (Proc.devRef .tc Cert.ReferenceIdeal.main_v168)) := by
  after_reads_simp
  try simp -implicitDefEqProofs only [StableHlo.TRef.toBuf, StableHlo.TRef.ofBuf, cast_cast, cast_eq]
  rw [show V (Proc.devRef .tc Cert.KernelIdeal.main_v81) = _ from h0, show V (Proc.devRef .tc Cert.KernelIdeal.main_v64) = _ from h1]
  refine congrArg₂ (subf (F := Ideal)) ?_ ?_
  · rfl
  · funext i
    exact congrArg (show FVec Ideal Cert.ReferenceIdeal.S16x128x3 .f32 from U (Proc.devRef .tc Cert.ReferenceIdeal.main_v146)) (funext fun a => by fin_cases a <;> rfl)

/-- The neighbours again, in one row. -/
theorem v86 (h0 : (show IVec Cert.KernelIdeal.S16x128x16 32 from V (Proc.devRef .tc Cert.KernelIdeal.main_indices_12)) = (show IVec Cert.ReferenceIdeal.S16x128x16 32 from U (Proc.devRef .tc Cert.ReferenceIdeal.main_indices_30))) :
    (show IVec Cert.KernelIdeal.S16x1x2048x1 32 from (StableHlo.after Cert.KernelIdeal.Gen.hostOps3_4 V) (Proc.devRef .tc Cert.KernelIdeal.main_v86)) = (show IVec Cert.ReferenceIdeal.S16x1x2048x1 32 from (StableHlo.after (Cert.Ref.refC33 (F := Ideal)) U) (Proc.devRef .tc Cert.ReferenceIdeal.main_v169)) := by
  after_reads_simp
  try simp -implicitDefEqProofs only [StableHlo.TRef.toBuf, StableHlo.TRef.ofBuf, cast_cast, cast_eq]
  rw [show V (Proc.devRef .tc Cert.KernelIdeal.main_indices_12) = _ from h0]
  all_goals rfl

/-- Their features gathered. -/
theorem v87 (h0 : (show FVec Ideal Cert.KernelIdeal.S16x128x256x3 .f32 from V (Proc.devRef .tc Cert.KernelIdeal.main_v61)) = (show FVec Ideal Cert.ReferenceIdeal.S16x128x256x3 .f32 from U (Proc.devRef .tc Cert.ReferenceIdeal.main_v142))) (h1 : (show IVec Cert.KernelIdeal.S16x1x2048x1 32 from V (Proc.devRef .tc Cert.KernelIdeal.main_v86)) = (show IVec Cert.ReferenceIdeal.S16x1x2048x1 32 from U (Proc.devRef .tc Cert.ReferenceIdeal.main_v169))) :
    (show FVec Ideal Cert.KernelIdeal.S16x128x2048x3 .f32 from (StableHlo.after Cert.KernelIdeal.Gen.hostOps3_5 V) (Proc.devRef .tc Cert.KernelIdeal.main_v87)) = (show FVec Ideal Cert.ReferenceIdeal.S16x128x2048x3 .f32 from (StableHlo.after (Cert.Ref.refC34 (F := Ideal)) U) (Proc.devRef .tc Cert.ReferenceIdeal.main_v170)) := by
  after_reads_simp
  try simp -implicitDefEqProofs only [StableHlo.TRef.toBuf, StableHlo.TRef.ofBuf, cast_cast, cast_eq]
  rw [show V (Proc.devRef .tc Cert.KernelIdeal.main_v61) = _ from h0, show V (Proc.devRef .tc Cert.KernelIdeal.main_v86) = _ from h1]
  all_goals rfl

/-- Coordinates and features together. -/
theorem v89 (h0 : (show FVec Ideal Cert.KernelIdeal.S16x1x128x16x3 .f32 from V (Proc.devRef .tc Cert.KernelIdeal.main_v85)) = (show FVec Ideal Cert.ReferenceIdeal.S16x1x128x16x3 .f32 from U (Proc.devRef .tc Cert.ReferenceIdeal.main_v168))) (h1 : (show FVec Ideal Cert.KernelIdeal.S16x128x2048x3 .f32 from V (Proc.devRef .tc Cert.KernelIdeal.main_v87)) = (show FVec Ideal Cert.ReferenceIdeal.S16x128x2048x3 .f32 from U (Proc.devRef .tc Cert.ReferenceIdeal.main_v170))) :
    (show FVec Ideal Cert.KernelIdeal.S16x129x128x16x3 .f32 from (StableHlo.after Cert.KernelIdeal.Gen.hostOps3_6 V) (Proc.devRef .tc Cert.KernelIdeal.main_v89)) = (show FVec Ideal Cert.ReferenceIdeal.S16x129x128x16x3 .f32 from (StableHlo.after (Cert.Ref.refC35 (F := Ideal)) U) (Proc.devRef .tc Cert.ReferenceIdeal.main_v172)) := by
  after_reads_simp
  have e0 : (show FVec Ideal Cert.KernelIdeal.S16x1x128x16x3 .f32 from StableHlo.upto Cert.KernelIdeal.Gen.hostOps3_6 V 1 (Proc.devRef .tc Cert.KernelIdeal.main_v85)) = (show FVec Ideal Cert.ReferenceIdeal.S16x1x128x16x3 .f32 from StableHlo.upto (Cert.Ref.refC35 (F := Ideal)) U 1 (Proc.devRef .tc Cert.ReferenceIdeal.main_v168)) := by
    after_reads_simp
    rw [show V (Proc.devRef .tc Cert.KernelIdeal.main_v85) = _ from h0]
    all_goals rfl
  have e1 : (show FVec Ideal Cert.KernelIdeal.S16x128x128x16x3 .f32 from StableHlo.upto Cert.KernelIdeal.Gen.hostOps3_6 V 1 (Proc.devRef .tc Cert.KernelIdeal.main_v88)) = (show FVec Ideal Cert.ReferenceIdeal.S16x128x128x16x3 .f32 from StableHlo.upto (Cert.Ref.refC35 (F := Ideal)) U 1 (Proc.devRef .tc Cert.ReferenceIdeal.main_v171)) := by
    after_reads_simp
    rw [show V (Proc.devRef .tc Cert.KernelIdeal.main_v87) = _ from h1]
    all_goals rfl
  have key : ∀ (a0 : FVec Ideal Cert.KernelIdeal.S16x1x128x16x3 .f32) (a1 : FVec Ideal Cert.KernelIdeal.S16x128x128x16x3 .f32) (b0 : FVec Ideal Cert.KernelIdeal.S16x1x128x16x3 .f32) (b1 : FVec Ideal Cert.KernelIdeal.S16x128x128x16x3 .f32), a0 = b0 → a1 = b1 → concatenate Cert.KernelIdeal.S16x129x128x16x3 1 [⟨Cert.KernelIdeal.S16x1x128x16x3, a0⟩, ⟨Cert.KernelIdeal.S16x128x128x16x3, a1⟩] Cert.KernelIdeal.Gen.concatenates_S16x1x128x16x3_S16x128x128x16x3_S16x129x128x16x3_d1 = concatenate Cert.KernelIdeal.S16x129x128x16x3 1 [⟨Cert.KernelIdeal.S16x1x128x16x3, b0⟩, ⟨Cert.KernelIdeal.S16x128x128x16x3, b1⟩] Cert.KernelIdeal.Gen.concatenates_S16x1x128x16x3_S16x128x128x16x3_S16x129x128x16x3_d1 := by
    rintro a0 a1 b0 b1 rfl rfl
    rfl
  exact key _ _ _ _ e0 e1

end Cert.Lock

end

end
-- ==== Proof.Lock3.lean ====
module

public import proofs.«01_k».proof.Proof.RefRun
public import proofs.«01_k».proof.Proof.Gen.KernelIdeal.Frame
public import Idealize.ShloMosaic.Lib.StableHlo.RunRead
public import Idealize.ShloMosaic.Lib.Pointwise
public import Idealize.ShloMosaic.Lib.Pipeline.ValueKit

@[expose] public section

set_option maxRecDepth 16384

/-! The host operations around the two modules are the same in both programs: from equal inputs they
leave equal arrays. `V` and `U` are the two programs' buffers before a stretch of them. -/

noncomputable section

open Idealize.ShloMosaic Idealize.ShloMosaic.TcCoe

namespace Cert.Lock

variable (V : Valuation Cert.KernelIdeal.τ Cert.KernelIdeal.sig (Elt Ideal))
  (U : Valuation Cert.ReferenceIdeal.τ Cert.ReferenceIdeal.sig (Elt Ideal))

/-- The second samples, coordinates second. -/
theorem v128 (h0 : (show FVec Ideal Cert.KernelIdeal.S16x128x3 .f32 from V (Proc.devRef .tc Cert.KernelIdeal.main_v64)) = (show FVec Ideal Cert.ReferenceIdeal.S16x128x3 .f32 from U (Proc.devRef .tc Cert.ReferenceIdeal.main_v146))) :
    (show FVec Ideal Cert.KernelIdeal.S16x3x128 .f32 from (StableHlo.after Cert.KernelIdeal.Gen.hostOps6 V) (Proc.devRef .tc Cert.KernelIdeal.main_v128)) = (show FVec Ideal Cert.ReferenceIdeal.S16x3x128 .f32 from (StableHlo.after (Cert.Ref.refC58 (F := Ideal)) U) (Proc.devRef .tc Cert.ReferenceIdeal.main_v291)) := by
  after_reads_simp
  try simp -implicitDefEqProofs only [StableHlo.TRef.toBuf, StableHlo.TRef.ofBuf, cast_cast, cast_eq]
  rw [show V (Proc.devRef .tc Cert.KernelIdeal.main_v64) = _ from h0]
  all_goals rfl

/-- The point of largest norm in each channel. -/
theorem v131 (h0 : (show FVec Ideal Cert.KernelIdeal.S16x256x128 .f32 from V (Proc.devRef .tc Cert.KernelIdeal.main_v130)) = (show FVec Ideal Cert.ReferenceIdeal.S16x256x128 .f32 from U (Proc.devRef .tc Cert.ReferenceIdeal.main_v293))) :
    (show IVec Cert.KernelIdeal.S16x256 32 from (StableHlo.after Cert.KernelIdeal.Gen.hostOps6_1 V) (Proc.devRef .tc Cert.KernelIdeal.main_v131)) = (show IVec Cert.ReferenceIdeal.S16x256 32 from (StableHlo.after (Cert.Ref.refC60 (F := Ideal)) U) (Proc.devRef .tc Cert.ReferenceIdeal.main_v294)) := by
  after_reads_simp
  try simp -implicitDefEqProofs only [StableHlo.TRef.toBuf, StableHlo.TRef.ofBuf, cast_cast, cast_eq]
  rw [show V (Proc.devRef .tc Cert.KernelIdeal.main_v130) = _ from h0]
  all_goals rfl

/-- That point, with unit axes. -/
theorem v132 (h0 : (show IVec Cert.KernelIdeal.S16x256 32 from V (Proc.devRef .tc Cert.KernelIdeal.main_v131)) = (show IVec Cert.ReferenceIdeal.S16x256 32 from U (Proc.devRef .tc Cert.ReferenceIdeal.main_v294))) :
    (show IVec Cert.KernelIdeal.S16x256x1x1 32 from (StableHlo.after Cert.KernelIdeal.Gen.hostOps6_2 V) (Proc.devRef .tc Cert.KernelIdeal.main_v132)) = (show IVec Cert.ReferenceIdeal.S16x256x1x1 32 from (StableHlo.after (Cert.Ref.refC61 (F := Ideal)) U) (Proc.devRef .tc Cert.ReferenceIdeal.main_v295)) := by
  after_reads_simp
  try simp -implicitDefEqProofs only [StableHlo.TRef.toBuf, StableHlo.TRef.ofBuf, cast_cast, cast_eq]
  rw [show V (Proc.devRef .tc Cert.KernelIdeal.main_v131) = _ from h0]
  all_goals rfl

/-- The vector at that point. -/
theorem v133 (h0 : (show FVec Ideal Cert.KernelIdeal.S16x256x128x3 .f32 from V (Proc.devRef .tc Cert.KernelIdeal.main_v127)) = (show FVec Ideal Cert.ReferenceIdeal.S16x256x128x3 .f32 from U (Proc.devRef .tc Cert.ReferenceIdeal.main_v290))) (h1 : (show IVec Cert.KernelIdeal.S16x256x1x1 32 from V (Proc.devRef .tc Cert.KernelIdeal.main_v132)) = (show IVec Cert.ReferenceIdeal.S16x256x1x1 32 from U (Proc.devRef .tc Cert.ReferenceIdeal.main_v295))) :
    (show FVec Ideal Cert.KernelIdeal.S16x256x1x3 .f32 from (StableHlo.after Cert.KernelIdeal.Gen.hostOps6_3 V) (Proc.devRef .tc Cert.KernelIdeal.main_v133)) = (show FVec Ideal Cert.ReferenceIdeal.S16x256x1x3 .f32 from (StableHlo.after (Cert.Ref.refC62 (F := Ideal)) U) (Proc.devRef .tc Cert.ReferenceIdeal.main_v296)) := by
  after_reads_simp
  try simp -implicitDefEqProofs only [StableHlo.TRef.toBuf, StableHlo.TRef.ofBuf, cast_cast, cast_eq]
  rw [show V (Proc.devRef .tc Cert.KernelIdeal.main_v127) = _ from h0, show V (Proc.devRef .tc Cert.KernelIdeal.main_v132) = _ from h1]
  all_goals rfl

/-- The norm of the first direction. -/
theorem v141 (h0 : (show FVec Ideal Cert.KernelIdeal.S16x3 .f32 from V (Proc.devRef .tc Cert.KernelIdeal.main_v138)) = (show FVec Ideal Cert.ReferenceIdeal.S16x3 .f32 from U (Proc.devRef .tc Cert.ReferenceIdeal.main_v303))) :
    (show FVec Ideal Cert.KernelIdeal.S16x1 .f32 from (StableHlo.after Cert.KernelIdeal.Gen.hostOps6_5 V) (Proc.devRef .tc Cert.KernelIdeal.main_v141)) = (show FVec Ideal Cert.ReferenceIdeal.S16x1 .f32 from (StableHlo.after (Cert.Ref.refC66 (F := Ideal)) U) (Proc.devRef .tc Cert.ReferenceIdeal.main_v306)) := by
  after_reads_simp
  try simp -implicitDefEqProofs only [StableHlo.TRef.toBuf, StableHlo.TRef.ofBuf, cast_cast, cast_eq]
  rw [show V (Proc.devRef .tc Cert.KernelIdeal.main_v138) = _ from h0]
  all_goals rfl

/-- The first direction. -/
theorem v145 (h0 : (show FVec Ideal Cert.KernelIdeal.S16x1 .f32 from V (Proc.devRef .tc Cert.KernelIdeal.main_v141)) = (show FVec Ideal Cert.ReferenceIdeal.S16x1 .f32 from U (Proc.devRef .tc Cert.ReferenceIdeal.main_v306))) (h1 : (show FVec Ideal Cert.KernelIdeal.S16x3 .f32 from V (Proc.devRef .tc Cert.KernelIdeal.main_v138)) = (show FVec Ideal Cert.ReferenceIdeal.S16x3 .f32 from U (Proc.devRef .tc Cert.ReferenceIdeal.main_v303))) :
    (show FVec Ideal Cert.KernelIdeal.S16x3 .f32 from (StableHlo.after Cert.KernelIdeal.Gen.hostOps6_6 V) (Proc.devRef .tc Cert.KernelIdeal.main_v145)) = (show FVec Ideal Cert.ReferenceIdeal.S16x3 .f32 from (StableHlo.after (Cert.Ref.refC67 (F := Ideal)) U) (Proc.devRef .tc Cert.ReferenceIdeal.main_v310)) := by
  after_reads_simp
  try simp -implicitDefEqProofs only [StableHlo.TRef.toBuf, StableHlo.TRef.ofBuf, cast_cast, cast_eq]
  rw [show V (Proc.devRef .tc Cert.KernelIdeal.main_v141) = _ from h0, show V (Proc.devRef .tc Cert.KernelIdeal.main_v138) = _ from h1]
  all_goals rfl

/-- The second direction before scaling. -/
theorem v151 (h0 : (show FVec Ideal Cert.KernelIdeal.S16x1 .f32 from V (Proc.devRef .tc Cert.KernelIdeal.main_v141)) = (show FVec Ideal Cert.ReferenceIdeal.S16x1 .f32 from U (Proc.devRef .tc Cert.ReferenceIdeal.main_v306))) (h1 : (show FVec Ideal Cert.KernelIdeal.S16x3 .f32 from V (Proc.devRef .tc Cert.KernelIdeal.main_v138)) = (show FVec Ideal Cert.ReferenceIdeal.S16x3 .f32 from U (Proc.devRef .tc Cert.ReferenceIdeal.main_v303))) (h2 : (show FVec Ideal Cert.KernelIdeal.S16x3 .f32 from V (Proc.devRef .tc Cert.KernelIdeal.main_v140)) = (show FVec Ideal Cert.ReferenceIdeal.S16x3 .f32 from U (Proc.devRef .tc Cert.ReferenceIdeal.main_v305))) :
    (show FVec Ideal Cert.KernelIdeal.S16x3 .f32 from (StableHlo.after Cert.KernelIdeal.Gen.hostOps6_6 V) (Proc.devRef .tc Cert.KernelIdeal.main_v151)) = (show FVec Ideal Cert.ReferenceIdeal.S16x3 .f32 from (StableHlo.after (Cert.Ref.refC67 (F := Ideal)) U) (Proc.devRef .tc Cert.ReferenceIdeal.main_v316)) := by
  after_reads_simp
  try simp -implicitDefEqProofs only [StableHlo.TRef.toBuf, StableHlo.TRef.ofBuf, cast_cast, cast_eq]
  rw [show V (Proc.devRef .tc Cert.KernelIdeal.main_v141) = _ from h0, show V (Proc.devRef .tc Cert.KernelIdeal.main_v138) = _ from h1, show V (Proc.devRef .tc Cert.KernelIdeal.main_v140) = _ from h2]
  all_goals rfl

/-- The norm of the second direction. -/
theorem v152 (h0 : (show FVec Ideal Cert.KernelIdeal.S16x3 .f32 from V (Proc.devRef .tc Cert.KernelIdeal.main_v151)) = (show FVec Ideal Cert.ReferenceIdeal.S16x3 .f32 from U (Proc.devRef .tc Cert.ReferenceIdeal.main_v316))) :
    (show FVec Ideal Cert.KernelIdeal.S16x1 .f32 from (StableHlo.after Cert.KernelIdeal.Gen.hostOps6_7 V) (Proc.devRef .tc Cert.KernelIdeal.main_v152)) = (show FVec Ideal Cert.ReferenceIdeal.S16x1 .f32 from (StableHlo.after (Cert.Ref.refC68 (F := Ideal)) U) (Proc.devRef .tc Cert.ReferenceIdeal.main_v317)) := by
  after_reads_simp
  try simp -implicitDefEqProofs only [StableHlo.TRef.toBuf, StableHlo.TRef.ofBuf, cast_cast, cast_eq]
  rw [show V (Proc.devRef .tc Cert.KernelIdeal.main_v151) = _ from h0]
  all_goals rfl

/-- The second direction. -/
theorem v156 (h0 : (show FVec Ideal Cert.KernelIdeal.S16x1 .f32 from V (Proc.devRef .tc Cert.KernelIdeal.main_v152)) = (show FVec Ideal Cert.ReferenceIdeal.S16x1 .f32 from U (Proc.devRef .tc Cert.ReferenceIdeal.main_v317))) (h1 : (show FVec Ideal Cert.KernelIdeal.S16x3 .f32 from V (Proc.devRef .tc Cert.KernelIdeal.main_v151)) = (show FVec Ideal Cert.ReferenceIdeal.S16x3 .f32 from U (Proc.devRef .tc Cert.ReferenceIdeal.main_v316))) :
    (show FVec Ideal Cert.KernelIdeal.S16x3 .f32 from (StableHlo.after Cert.KernelIdeal.Gen.hostOps6_8 V) (Proc.devRef .tc Cert.KernelIdeal.main_v156)) = (show FVec Ideal Cert.ReferenceIdeal.S16x3 .f32 from (StableHlo.after (Cert.Ref.refC69 (F := Ideal)) U) (Proc.devRef .tc Cert.ReferenceIdeal.main_v321)) := by
  after_reads_simp
  try simp -implicitDefEqProofs only [StableHlo.TRef.toBuf, StableHlo.TRef.ofBuf, cast_cast, cast_eq]
  rw [show V (Proc.devRef .tc Cert.KernelIdeal.main_v152) = _ from h0, show V (Proc.devRef .tc Cert.KernelIdeal.main_v151) = _ from h1]
  all_goals rfl

/-- The third direction. -/
theorem v157 (h0 : (show FVec Ideal Cert.KernelIdeal.S16x3 .f32 from V (Proc.devRef .tc Cert.KernelIdeal.main_v145)) = (show FVec Ideal Cert.ReferenceIdeal.S16x3 .f32 from U (Proc.devRef .tc Cert.ReferenceIdeal.main_v310))) (h1 : (show FVec Ideal Cert.KernelIdeal.S16x3 .f32 from V (Proc.devRef .tc Cert.KernelIdeal.main_v156)) = (show FVec Ideal Cert.ReferenceIdeal.S16x3 .f32 from U (Proc.devRef .tc Cert.ReferenceIdeal.main_v321))) :
    (show FVec Ideal Cert.KernelIdeal.S16x3 .f32 from (StableHlo.after Cert.KernelIdeal.Gen.hostOps6_9 V) (Proc.devRef .tc Cert.KernelIdeal.main_v157)) = (show FVec Ideal Cert.ReferenceIdeal.S16x3 .f32 from (StableHlo.after (Cert.Ref.refC70 (F := Ideal)) U) (Proc.devRef .tc Cert.ReferenceIdeal.main_v322)) := by
  after_reads_simp
  try simp -implicitDefEqProofs only [StableHlo.TRef.toBuf, StableHlo.TRef.ofBuf, cast_cast, cast_eq]
  have e0 : (show FVec Ideal Cert.KernelIdeal.S1x16 .f32 from StableHlo.upto Cert.KernelIdeal.Gen.hostOps6_9 V 24 (Proc.devRef .tc Cert.KernelIdeal.main_call9_v21)) = (show FVec Ideal Cert.ReferenceIdeal.S1x16 .f32 from StableHlo.upto (Cert.Ref.refC70 (F := Ideal)) U 24 (Proc.devRef .tc Cert.ReferenceIdeal.main_call21_v21)) := by
    after_reads_simp
    try simp -implicitDefEqProofs only [StableHlo.TRef.toBuf, StableHlo.TRef.ofBuf, cast_cast, cast_eq]
    rw [show V (Proc.devRef .tc Cert.KernelIdeal.main_v145) = _ from h0, show V (Proc.devRef .tc Cert.KernelIdeal.main_v156) = _ from h1]
    all_goals rfl
  have e1 : (show FVec Ideal Cert.KernelIdeal.S1x16 .f32 from StableHlo.upto Cert.KernelIdeal.Gen.hostOps6_9 V 24 (Proc.devRef .tc Cert.KernelIdeal.main_call9_v22)) = (show FVec Ideal Cert.ReferenceIdeal.S1x16 .f32 from StableHlo.upto (Cert.Ref.refC70 (F := Ideal)) U 24 (Proc.devRef .tc Cert.ReferenceIdeal.main_call21_v22)) := by
    after_reads_simp
    try simp -implicitDefEqProofs only [StableHlo.TRef.toBuf, StableHlo.TRef.ofBuf, cast_cast, cast_eq]
    rw [show V (Proc.devRef .tc Cert.KernelIdeal.main_v145) = _ from h0, show V (Proc.devRef .tc Cert.KernelIdeal.main_v156) = _ from h1]
    all_goals rfl
  have e2 : (show FVec Ideal Cert.KernelIdeal.S1x16 .f32 from StableHlo.upto Cert.KernelIdeal.Gen.hostOps6_9 V 24 (Proc.devRef .tc Cert.KernelIdeal.main_call9_v23)) = (show FVec Ideal Cert.ReferenceIdeal.S1x16 .f32 from StableHlo.upto (Cert.Ref.refC70 (F := Ideal)) U 24 (Proc.devRef .tc Cert.ReferenceIdeal.main_call21_v23)) := by
    after_reads_simp
    try simp -implicitDefEqProofs only [StableHlo.TRef.toBuf, StableHlo.TRef.ofBuf, cast_cast, cast_eq]
    rw [show V (Proc.devRef .tc Cert.KernelIdeal.main_v145) = _ from h0, show V (Proc.devRef .tc Cert.KernelIdeal.main_v156) = _ from h1]
    all_goals rfl
  have key : ∀ a0 a1 a2 b0 b1 b2 : FVec Ideal Cert.KernelIdeal.S1x16 .f32, a0 = b0 → a1 = b1 → a2 = b2 → transpose Cert.KernelIdeal.S16x3 [1, 0] (concatenate Cert.KernelIdeal.S3x16 0 [⟨Cert.KernelIdeal.S1x16, a0⟩, ⟨Cert.KernelIdeal.S1x16, a1⟩, ⟨Cert.KernelIdeal.S1x16, a2⟩] Cert.KernelIdeal.Gen.concatenates_S1x16_S1x16_S1x16_S3x16_d0) Cert.KernelIdeal.Gen.transposes_S3x16_S16x3_1_0 = transpose Cert.KernelIdeal.S16x3 [1, 0] (concatenate Cert.KernelIdeal.S3x16 0 [⟨Cert.KernelIdeal.S1x16, b0⟩, ⟨Cert.KernelIdeal.S1x16, b1⟩, ⟨Cert.KernelIdeal.S1x16, b2⟩] Cert.KernelIdeal.Gen.concatenates_S1x16_S1x16_S1x16_S3x16_d0) Cert.KernelIdeal.Gen.transposes_S3x16_S16x3_1_0 := by
    rintro a0 a1 a2 b0 b1 b2 rfl rfl rfl
    rfl
  exact key _ _ _ _ _ _ e0 e1 e2

/-- The rotation. -/
theorem v161 (h0 : (show FVec Ideal Cert.KernelIdeal.S16x3 .f32 from V (Proc.devRef .tc Cert.KernelIdeal.main_v145)) = (show FVec Ideal Cert.ReferenceIdeal.S16x3 .f32 from U (Proc.devRef .tc Cert.ReferenceIdeal.main_v310))) (h1 : (show FVec Ideal Cert.KernelIdeal.S16x3 .f32 from V (Proc.devRef .tc Cert.KernelIdeal.main_v156)) = (show FVec Ideal Cert.ReferenceIdeal.S16x3 .f32 from U (Proc.devRef .tc Cert.ReferenceIdeal.main_v321))) (h2 : (show FVec Ideal Cert.KernelIdeal.S16x3 .f32 from V (Proc.devRef .tc Cert.KernelIdeal.main_v157)) = (show FVec Ideal Cert.ReferenceIdeal.S16x3 .f32 from U (Proc.devRef .tc Cert.ReferenceIdeal.main_v322))) :
    (show FVec Ideal Cert.KernelIdeal.S16x3x3 .f32 from (StableHlo.after Cert.KernelIdeal.Gen.hostOps6_10 V) (Proc.devRef .tc Cert.KernelIdeal.main_v161)) = (show FVec Ideal Cert.ReferenceIdeal.S16x3x3 .f32 from (StableHlo.after (Cert.Ref.refC71 (F := Ideal)) U) (Proc.devRef .tc Cert.ReferenceIdeal.main_v326)) := by
  after_reads_simp
  have e0 : (show FVec Ideal Cert.KernelIdeal.S16x3x1 .f32 from StableHlo.upto Cert.KernelIdeal.Gen.hostOps6_10 V 3 (Proc.devRef .tc Cert.KernelIdeal.main_v158)) = (show FVec Ideal Cert.ReferenceIdeal.S16x3x1 .f32 from StableHlo.upto (Cert.Ref.refC71 (F := Ideal)) U 3 (Proc.devRef .tc Cert.ReferenceIdeal.main_v323)) := by
    after_reads_simp
    rw [show V (Proc.devRef .tc Cert.KernelIdeal.main_v145) = _ from h0]
    all_goals rfl
  have e1 : (show FVec Ideal Cert.KernelIdeal.S16x3x1 .f32 from StableHlo.upto Cert.KernelIdeal.Gen.hostOps6_10 V 3 (Proc.devRef .tc Cert.KernelIdeal.main_v159)) = (show FVec Ideal Cert.ReferenceIdeal.S16x3x1 .f32 from StableHlo.upto (Cert.Ref.refC71 (F := Ideal)) U 3 (Proc.devRef .tc Cert.ReferenceIdeal.main_v324)) := by
    after_reads_simp
    rw [show V (Proc.devRef .tc Cert.KernelIdeal.main_v156) = _ from h1]
    all_goals rfl
  have e2 : (show FVec Ideal Cert.KernelIdeal.S16x3x1 .f32 from StableHlo.upto Cert.KernelIdeal.Gen.hostOps6_10 V 3 (Proc.devRef .tc Cert.KernelIdeal.main_v160)) = (show FVec Ideal Cert.ReferenceIdeal.S16x3x1 .f32 from StableHlo.upto (Cert.Ref.refC71 (F := Ideal)) U 3 (Proc.devRef .tc Cert.ReferenceIdeal.main_v325)) := by
    after_reads_simp
    rw [show V (Proc.devRef .tc Cert.KernelIdeal.main_v157) = _ from h2]
    all_goals rfl
  have key : ∀ (a0 : FVec Ideal Cert.KernelIdeal.S16x3x1 .f32) (a1 : FVec Ideal Cert.KernelIdeal.S16x3x1 .f32) (a2 : FVec Ideal Cert.KernelIdeal.S16x3x1 .f32) (b0 : FVec Ideal Cert.KernelIdeal.S16x3x1 .f32) (b1 : FVec Ideal Cert.KernelIdeal.S16x3x1 .f32) (b2 : FVec Ideal Cert.KernelIdeal.S16x3x1 .f32), a0 = b0 → a1 = b1 → a2 = b2 → concatenate Cert.KernelIdeal.S16x3x3 2 [⟨Cert.KernelIdeal.S16x3x1, a0⟩, ⟨Cert.KernelIdeal.S16x3x1, a1⟩, ⟨Cert.KernelIdeal.S16x3x1, a2⟩] Cert.KernelIdeal.Gen.concatenates_S16x3x1_S16x3x1_S16x3x1_S16x3x3_d2 = concatenate Cert.KernelIdeal.S16x3x3 2 [⟨Cert.KernelIdeal.S16x3x1, b0⟩, ⟨Cert.KernelIdeal.S16x3x1, b1⟩, ⟨Cert.KernelIdeal.S16x3x1, b2⟩] Cert.KernelIdeal.Gen.concatenates_S16x3x1_S16x3x1_S16x3x1_S16x3x3_d2 := by
    rintro a0 a1 a2 b0 b1 b2 rfl rfl rfl
    rfl
  exact key _ _ _ _ _ _ e0 e1 e2

/-- The squared norms the second pooling is read by. -/
theorem v130 (hk : (show FVec Ideal Cert.KernelIdeal.S16x256x128x3 .f32 from StableHlo.after Cert.KernelIdeal.Gen.hostOps6 V (Proc.devRef .tc Cert.KernelIdeal.main_v127)) = (show FVec Ideal Cert.ReferenceIdeal.S16x256x128x3 .f32 from U (Proc.devRef .tc Cert.ReferenceIdeal.main_v290))) :
    (show FVec Ideal Cert.KernelIdeal.S16x256x128 .f32 from StableHlo.after Cert.KernelIdeal.Gen.hostOps6 V (Proc.devRef .tc Cert.KernelIdeal.main_v130)) = (show FVec Ideal Cert.ReferenceIdeal.S16x256x128 .f32 from StableHlo.after (Cert.Ref.refC59 (F := Ideal)) U (Proc.devRef .tc Cert.ReferenceIdeal.main_v293)) := by
  after_reads_simp
  have e : (show FVec Ideal Cert.KernelIdeal.S16x256x128x3 .f32 from StableHlo.after Cert.KernelIdeal.Gen.hostOps6 V (Proc.devRef .tc Cert.KernelIdeal.main_v127)) = transpose Cert.KernelIdeal.S16x256x128x3 [0, 2, 3, 1] (show FVec Ideal Cert.KernelIdeal.S16x3x256x128 .f32 from V (Proc.devRef .tc Cert.KernelIdeal.main_v126)) Cert.KernelIdeal.Gen.transposes_S16x3x256x128_S16x256x128x3_0_2_3_1 := by
    after_reads_simp
  rw [e] at hk
  rw [show transpose Cert.KernelIdeal.S16x256x128x3 [0, 2, 3, 1] (V (Proc.devRef .tc Cert.KernelIdeal.main_v126)) Cert.KernelIdeal.Gen.transposes_S16x3x256x128_S16x256x128x3_0_2_3_1 = _ from hk]

/-- Row 0 of the last product, in the kernel. -/
theorem v138_dot (b : Fin 16) (d : Fin 3) :
    (show FVec Ideal Cert.KernelIdeal.S16x3 .f32 from StableHlo.after Cert.KernelIdeal.Gen.hostOps6_4 V (Proc.devRef .tc Cert.KernelIdeal.main_v138)) (ix2 b d) = ∑ x : Fin 256, (show FVec Ideal Cert.KernelIdeal.S16x256x1x3 .f32 from V (Proc.devRef .tc Cert.KernelIdeal.main_v133)) (ix4 b x 0 d) * (show FVec Ideal Cert.KernelIdeal.S2x256 .f32 from V (Proc.devRef .tc Cert.KernelIdeal.main_arg19)) (ix2 0 x) := by
  after_reads_simp
  pointwise

/-- Row 0 of the last product, in the reference. -/
theorem v303_dot (b : Fin 16) (d : Fin 3) :
    (show FVec Ideal Cert.ReferenceIdeal.S16x3 .f32 from (StableHlo.after (Cert.Ref.refC65 (F := Ideal)) (StableHlo.after (Cert.Ref.refC64 (F := Ideal)) (StableHlo.after (Cert.Ref.refC63 (F := Ideal)) U))) (Proc.devRef .tc Cert.ReferenceIdeal.main_v303)) (ix2 b d) = ∑ x : Fin 256, (show FVec Ideal Cert.ReferenceIdeal.S16x256x1x3 .f32 from U (Proc.devRef .tc Cert.ReferenceIdeal.main_v296)) (ix4 b x 0 d) * (show FVec Ideal Cert.ReferenceIdeal.S2x256 .f32 from U (Proc.devRef .tc Cert.ReferenceIdeal.main_arg19)) (ix2 0 x) := by
  after_reads_simp
  pointwise

/-- Row 0 of the last product: the reference's unit axis makes no difference. -/
theorem v138 (h0 : (show FVec Ideal Cert.KernelIdeal.S16x256x1x3 .f32 from V (Proc.devRef .tc Cert.KernelIdeal.main_v133)) = (show FVec Ideal Cert.ReferenceIdeal.S16x256x1x3 .f32 from U (Proc.devRef .tc Cert.ReferenceIdeal.main_v296))) (h1 : (show FVec Ideal Cert.KernelIdeal.S2x256 .f32 from V (Proc.devRef .tc Cert.KernelIdeal.main_arg19)) = (show FVec Ideal Cert.ReferenceIdeal.S2x256 .f32 from U (Proc.devRef .tc Cert.ReferenceIdeal.main_arg19))) : (show FVec Ideal Cert.KernelIdeal.S16x3 .f32 from StableHlo.after Cert.KernelIdeal.Gen.hostOps6_4 V (Proc.devRef .tc Cert.KernelIdeal.main_v138)) = (show FVec Ideal Cert.ReferenceIdeal.S16x3 .f32 from (StableHlo.after (Cert.Ref.refC65 (F := Ideal)) (StableHlo.after (Cert.Ref.refC64 (F := Ideal)) (StableHlo.after (Cert.Ref.refC63 (F := Ideal)) U))) (Proc.devRef .tc Cert.ReferenceIdeal.main_v303)) := by
  funext i
  rw [eq_ix2 i]
  refine (v138_dot V (i 0) (i 1)).trans (Eq.trans ?_ (v303_dot U (i 0) (i 1)).symm)
  rw [h0, h1]

/-- Row 1 of the last product, in the kernel. -/
theorem v140_dot (b : Fin 16) (d : Fin 3) :
    (show FVec Ideal Cert.KernelIdeal.S16x3 .f32 from StableHlo.after Cert.KernelIdeal.Gen.hostOps6_4 V (Proc.devRef .tc Cert.KernelIdeal.main_v140)) (ix2 b d) = ∑ x : Fin 256, (show FVec Ideal Cert.KernelIdeal.S16x256x1x3 .f32 from V (Proc.devRef .tc Cert.KernelIdeal.main_v133)) (ix4 b x 0 d) * (show FVec Ideal Cert.KernelIdeal.S2x256 .f32 from V (Proc.devRef .tc Cert.KernelIdeal.main_arg19)) (ix2 1 x) := by
  after_reads_simp
  pointwise

/-- Row 1 of the last product, in the reference. -/
theorem v305_dot (b : Fin 16) (d : Fin 3) :
    (show FVec Ideal Cert.ReferenceIdeal.S16x3 .f32 from (StableHlo.after (Cert.Ref.refC65 (F := Ideal)) (StableHlo.after (Cert.Ref.refC64 (F := Ideal)) (StableHlo.after (Cert.Ref.refC63 (F := Ideal)) U))) (Proc.devRef .tc Cert.ReferenceIdeal.main_v305)) (ix2 b d) = ∑ x : Fin 256, (show FVec Ideal Cert.ReferenceIdeal.S16x256x1x3 .f32 from U (Proc.devRef .tc Cert.ReferenceIdeal.main_v296)) (ix4 b x 0 d) * (show FVec Ideal Cert.ReferenceIdeal.S2x256 .f32 from U (Proc.devRef .tc Cert.ReferenceIdeal.main_arg19)) (ix2 1 x) := by
  after_reads_simp
  pointwise

/-- Row 1 of the last product: the reference's unit axis makes no difference. -/
theorem v140 (h0 : (show FVec Ideal Cert.KernelIdeal.S16x256x1x3 .f32 from V (Proc.devRef .tc Cert.KernelIdeal.main_v133)) = (show FVec Ideal Cert.ReferenceIdeal.S16x256x1x3 .f32 from U (Proc.devRef .tc Cert.ReferenceIdeal.main_v296))) (h1 : (show FVec Ideal Cert.KernelIdeal.S2x256 .f32 from V (Proc.devRef .tc Cert.KernelIdeal.main_arg19)) = (show FVec Ideal Cert.ReferenceIdeal.S2x256 .f32 from U (Proc.devRef .tc Cert.ReferenceIdeal.main_arg19))) : (show FVec Ideal Cert.KernelIdeal.S16x3 .f32 from StableHlo.after Cert.KernelIdeal.Gen.hostOps6_4 V (Proc.devRef .tc Cert.KernelIdeal.main_v140)) = (show FVec Ideal Cert.ReferenceIdeal.S16x3 .f32 from (StableHlo.after (Cert.Ref.refC65 (F := Ideal)) (StableHlo.after (Cert.Ref.refC64 (F := Ideal)) (StableHlo.after (Cert.Ref.refC63 (F := Ideal)) U))) (Proc.devRef .tc Cert.ReferenceIdeal.main_v305)) := by
  funext i
  rw [eq_ix2 i]
  refine (v140_dot V (i 0) (i 1)).trans (Eq.trans ?_ (v305_dot U (i 0) (i 1)).symm)
  rw [h0, h1]

end Cert.Lock

end

end
-- ==== Proof.Spec.lean ====
module

public import Idealize.ShloMosaic.Lib.Pointwise

@[expose] public section

/-! The mathematics of one vector-neuron layer over the extended reals: both programs are read as these functions. -/

noncomputable section

namespace Cert.Spec

open Idealize.ShloMosaic

/-- The number added to a norm. -/
def eps : EReal := Ideal.ofBits .f32 0x358637BD#32
/-- The number added to a variance. -/
def veps : EReal := Ideal.ofBits .f32 0x3727C5AC#32
/-- The leak of the activation. -/
def neg : EReal := Ideal.ofBits .f32 0x3E4CCCCD#32
/-- One minus the leak, rounded. -/
def pos : EReal := Ideal.ofBits .f32 0x3F4CCCCD#32
/-- A linear map over channels, applied to each of the three coordinates. -/
def lin {O C : ℕ} (W : Fin O → Fin C → EReal) (x : Fin C → Fin 3 → EReal) (o : Fin O) (d : Fin 3) : EReal :=
  ∑ c, W o c * x c d

/-- The dot product of two vectors of three coordinates. -/
def dot3 (y z : Fin 3 → EReal) : EReal := y 0 * z 0 + y 1 * z 1 + y 2 * z 2

/-- The norm of a vector, with `eps` added. -/
def nrm (y : Fin 3 → EReal) : EReal := Ideal.sqrt (dot3 y y) + eps

/-- Batch normalization of a norm: scale `g`, shift `b`, mean `m`, variance `v`. -/
def bnv (g b m v n : EReal) : EReal := Ideal.div (g * (n - m)) (Ideal.sqrt (v + veps)) + b

/-- A vector whose norm is normalized: its direction times the normalized norm. -/
def vbn (g b m v : EReal) (y : Fin 3 → EReal) (d : Fin 3) : EReal :=
  Ideal.div (y d) (nrm y) * bnv g b m v (nrm y)

/-- The 0/1 value of `0 ≤ t`. -/
def mask (t : EReal) : EReal := if 0 ≤ t then 1 else 0

/-- The vector activation of `u` along the direction `w`. -/
def lrelu (u w : Fin 3 → EReal) (d : Fin 3) : EReal :=
  neg * u d + pos * (mask (dot3 u w) * u d + (1 - mask (dot3 u w)) * (u d - Ideal.div (dot3 u w) (dot3 w w + eps) * w d))

/-- The activation of a stack of vectors, the directions a linear map `D` of the stack. -/
def act {C : ℕ} (D : Fin C → Fin C → EReal) (u : Fin C → Fin 3 → EReal) (o : Fin C) (d : Fin 3) : EReal :=
  lrelu (u o) (lin D u o) d

/-- Normalization of a stack of vectors; the columns of `G` are scale, shift, mean and variance. -/
def bnl {O : ℕ} (G : Fin O → Fin 4 → EReal) (y : Fin O → Fin 3 → EReal) (o : Fin O) (d : Fin 3) : EReal :=
  vbn (G o 0) (G o 1) (G o 2) (G o 3) (y o) d

/-- One whole layer: linear map, normalization, activation. -/
def layer {C O : ℕ} (W : Fin O → Fin C → EReal) (G : Fin O → Fin 4 → EReal) (D : Fin O → Fin O → EReal)
    (x : Fin C → Fin 3 → EReal) : Fin O → Fin 3 → EReal :=
  act D (bnl G (lin W x))

/-- With one input channel a linear map is a product. -/
theorem lin_one {O : ℕ} (W : Fin O → Fin 1 → EReal) (x : Fin 1 → Fin 3 → EReal) (o : Fin O) (d : Fin 3) :
    lin W x o d = W o 0 * x 0 d := by
  simp [lin]

/-- A vector of rank 2 as a matrix. -/
def mat {A B : ℕ} (w : (⟨2, ![A, B]⟩ : Shape).Idx → EReal) (a : Fin A) (b : Fin B) : EReal := w (ix2 a b)

/-- The stack of vectors at position `m` of a block. -/
def xin {C M : ℕ} (x : (⟨4, ![1, 3, C, M]⟩ : Shape).Idx → EReal) (m : Fin M) (c : Fin C) (d : Fin 3) : EReal :=
  x (ix4 0 d c m)

/-- The stack of vectors at position `m` of batch element `b`. -/
def xpos {B C M : ℕ} (x : (⟨4, ![B, 3, C, M]⟩ : Shape).Idx → EReal) (b : Fin B) (m : Fin M) (c : Fin C) (d : Fin 3) : EReal :=
  x (ix4 b d c m)

/-- Place `k` of block `j`. -/
def tile (J T : ℕ) {M : ℕ} (hM : M = J * T) (j : Fin J) (k : Fin T) : Fin M :=
  ⟨j.val * T + k.val, by
    have h1 := j.isLt; have h2 := k.isLt
    subst hM
    calc j.val * T + k.val < j.val * T + T := by omega
      _ = (j.val + 1) * T := by rw [Nat.add_mul, Nat.one_mul]
      _ ≤ J * T := Nat.mul_le_mul_right _ h1⟩

/-- Position `k` holds the largest entry, and no earlier position does. -/
def IsFirstMax {K : ℕ} (q : Fin K → EReal) (k : Fin K) : Prop := (∀ j, q j ≤ q k) ∧ ∀ j < k, q j < q k

open Classical in
/-- Max pooling over `K` neighbours: the vector of largest squared norm, the first one of them. -/
def pool {K : ℕ} (h : Fin K → Fin 3 → EReal) (d : Fin 3) : EReal :=
  ∑ k, if IsFirstMax (fun j => dot3 (h j) (h j)) k then h k d else 0

/-- The first position of the largest entry is one position. -/
theorem IsFirstMax.unique {K : ℕ} {q : Fin K → EReal} {i k : Fin K} (hi : IsFirstMax q i) (hk : IsFirstMax q k) : k = i := by
  rcases lt_trichotomy k i with h | h | h
  · exact absurd (hi.2 k h) (not_lt.mpr (hk.1 i))
  · exact h
  · exact absurd (hk.2 i h) (not_lt.mpr (hi.1 k))

/-- Pooling picks the vector at the first position of the largest squared norm. -/
theorem pool_eq {K : ℕ} (h : Fin K → Fin 3 → EReal) (d : Fin 3) (i : Fin K) (hi : IsFirstMax (fun j => dot3 (h j) (h j)) i) :
    pool h d = h i d := by
  classical
  unfold pool
  rw [Finset.sum_eq_single i]
  · rw [if_pos hi]
  · intro b _ hb
    rw [if_neg fun hk => hb (hi.unique hk)]
  · intro hn
    exact absurd (Finset.mem_univ i) hn

end Cert.Spec

end

end
-- ==== Proof.Red.lean ====
module

public import Idealize.ShloMosaic.Lib.Pointwise

@[expose] public section

noncomputable section

open Idealize.ShloMosaic

namespace Cert.Spec

/-- The number of positions the first module averages over. -/
theorem cnt1 : Ideal.ofBits FTy.f32 1207959552#32 = ((131072 : ℝ) : EReal) := by
  simp [Ideal.ofBits, Ideal.ieee]
  rw [← EReal.coe_mul]; norm_num

/-- The number of positions the second module averages over. -/
theorem cnt2 : Ideal.ofBits FTy.f32 1191182336#32 = ((32768 : ℝ) : EReal) := by
  simp [Ideal.ofBits, Ideal.ieee]
  rw [← EReal.coe_mul]; norm_num

/-- The integer zero converted. -/
theorem sit0 : (FloatOps.sitofp (F := Ideal) FTy.f32 (0#32) : EReal) = 0 := by
  simp [FloatOps.sitofp]

/-- Both counts are positive. -/
theorem cnt1_pos : (0 : EReal) < Ideal.ofBits FTy.f32 1207959552#32 := by
  rw [cnt1, EReal.coe_pos]; norm_num

theorem cnt2_pos : (0 : EReal) < Ideal.ofBits FTy.f32 1191182336#32 := by
  rw [cnt2, EReal.coe_pos]; norm_num

/-- Which entries a sum over every axis of rank 5 but the second gathers: those with the same second coordinate. -/
theorem red5_fiber {B C S K : ℕ} (h : (⟨5, ![B, C, S, K, 1]⟩ : Shape).ReducesTo [0, 2, 3, 4] ⟨1, ![C]⟩) (o : Fin C)
    (i : (⟨5, ![B, C, S, K, 1]⟩ : Shape).Idx) :
    h.drop i = ix1 o ↔ ∃ p : Fin B × Fin S × Fin K, ix5 p.1 o p.2.1 p.2.2 (0 : Fin 1) = i := by
  constructor
  · intro e
    refine ⟨(i 0, i 2, i 3), ?_⟩
    funext a; apply Fin.ext
    match a with
    | ⟨0, _⟩ => rfl
    | ⟨1, _⟩ => exact (congrArg Fin.val (congrFun e 0)).symm
    | ⟨2, _⟩ => rfl
    | ⟨3, _⟩ => rfl
    | ⟨4, _⟩ => exact (Nat.lt_one_iff.1 (i 4).isLt).symm
  · rintro ⟨p, rfl⟩
    funext b
    apply Fin.ext
    match b with
    | ⟨0, _⟩ => rfl

/-- The host's sum over every axis of rank 5 but the second, the last axis having one entry. -/
theorem red5 {B C S K : ℕ} (h : (⟨5, ![B, C, S, K, 1]⟩ : Shape).ReducesTo [0, 2, 3, 4] ⟨1, ![C]⟩)
    (v : (⟨5, ![B, C, S, K, 1]⟩ : Shape).Idx → EReal) (init : EReal) (o : Fin C) :
    Ideal.hostReduceAdd h v init (ix1 o)
      = init + ∑ p : Fin B × Fin S × Fin K, v (ix5 p.1 o p.2.1 p.2.2 (0 : Fin 1)) :=
  congrArg (init + ·) (Finset.sum_filter_eq_sum_of_fiber _
    (fun p : Fin B × Fin S × Fin K => ix5 p.1 o p.2.1 p.2.2 (0 : Fin 1))
    (fun _ _ e => Prod.ext (congrFun e 0) (Prod.ext (congrFun e 2) (congrFun e 3))) (red5_fiber h o) v)

/-- Which entries a sum over the first two axes of rank 4 gathers: those with the same last two coordinates. -/
theorem red4_fiber {B J S C : ℕ} (h : (⟨4, ![B, J, S, C]⟩ : Shape).ReducesTo [0, 1] ⟨2, ![S, C]⟩) (s : Fin S) (o : Fin C)
    (i : (⟨4, ![B, J, S, C]⟩ : Shape).Idx) :
    h.drop i = ix2 s o ↔ ∃ p : Fin B × Fin J, ix4 p.1 p.2 s o = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨p, rfl⟩
    funext b
    apply Fin.ext
    match b with
    | ⟨0, _⟩ => rfl
    | ⟨1, _⟩ => rfl

/-- The host's sum over the first two axes of rank 4. -/
theorem red4 {B J S C : ℕ} (h : (⟨4, ![B, J, S, C]⟩ : Shape).ReducesTo [0, 1] ⟨2, ![S, C]⟩)
    (v : (⟨4, ![B, J, S, C]⟩ : Shape).Idx → EReal) (init : EReal) (s : Fin S) (o : Fin C) :
    Ideal.hostReduceAdd h v init (ix2 s o) = init + ∑ p : Fin B × Fin J, v (ix4 p.1 p.2 s o) :=
  congrArg (init + ·) (Finset.sum_filter_eq_sum_of_fiber _ (fun p : Fin B × Fin J => ix4 p.1 p.2 s o)
    (fun _ _ e => Prod.ext (congrFun e 0) (congrFun e 1)) (red4_fiber h s o) v)

end Cert.Spec

end

end
-- ==== Proof.Coef.lean ====
module

public import proofs.«01_k».proof.Proof.Gen.KernelIdeal.Frame
public import proofs.«01_k».proof.Proof.Spec
public import proofs.«01_k».proof.Proof.Red
public import Idealize.ShloMosaic.Lib.StableHlo.RunRead
public import Idealize.ShloMosaic.Lib.Pointwise
public import Idealize.ShloMosaic.Lib.Pipeline.ValueKit

@[expose] public section

set_option maxRecDepth 16384

/-! The table of scale, shift, mean and variance the host computes between two kernel calls. -/

noncomputable section

open Idealize.ShloMosaic Idealize.ShloMosaic.TcCoe
open Cert.KernelIdeal Cert.KernelIdeal.Gen Cert.Spec

namespace Cert.Val

variable (V : Valuation τ sig (Elt Ideal))

/-- Table 1: the scale. -/
theorem coef1_0 (o : Fin 64) : mat (show FVec Ideal S64x4 .f32 from StableHlo.after hostOps1 V (Proc.devRef .tc main_v42)) o 0 = (show FVec Ideal S64 .f32 from V (Proc.devRef .tc main_arg5)) (ix1 o) := by
  unfold mat
  after_reads_simp
  pointwise
  after_reads_simp
  pointwise

/-- Table 1: the shift. -/
theorem coef1_1 (o : Fin 64) : mat (show FVec Ideal S64x4 .f32 from StableHlo.after hostOps1 V (Proc.devRef .tc main_v42)) o 1 = (show FVec Ideal S64 .f32 from V (Proc.devRef .tc main_arg6)) (ix1 o) := by
  unfold mat
  after_reads_simp
  pointwise
  after_reads_simp
  pointwise

/-- Table 1: the mean. -/
theorem coef1_2 (o : Fin 64) : mat (show FVec Ideal S64x4 .f32 from StableHlo.after hostOps1 V (Proc.devRef .tc main_v42)) o 2 = Ideal.div (∑ p : Fin 16 × Fin 2, (show FVec Ideal S16x2x2x64 .f32 from V (Proc.devRef .tc main_v26)) (ix4 p.1 p.2 0 o)) (Ideal.ofBits .f32 0x48000000#32) := by
  unfold mat
  after_reads_simp
  pointwise
  after_reads_simp
  pointwise
  simp only [red4, zero_add]

/-- Table 1: the variance. -/
theorem coef1_3 (o : Fin 64) : mat (show FVec Ideal S64x4 .f32 from StableHlo.after hostOps1 V (Proc.devRef .tc main_v42)) o 3 = Ideal.div (∑ p : Fin 16 × Fin 2, (show FVec Ideal S16x2x2x64 .f32 from V (Proc.devRef .tc main_v26)) (ix4 p.1 p.2 1 o)) (Ideal.ofBits .f32 0x48000000#32) - mat (show FVec Ideal S64x4 .f32 from StableHlo.after hostOps1 V (Proc.devRef .tc main_v42)) o 2 * mat (show FVec Ideal S64x4 .f32 from StableHlo.after hostOps1 V (Proc.devRef .tc main_v42)) o 2 := by
  rw [coef1_2]
  unfold mat
  after_reads_simp
  pointwise
  after_reads_simp
  pointwise
  simp only [red4, zero_add]

/-- Table 2: the scale. -/
theorem coef2_0 (o : Fin 128) : mat (show FVec Ideal S128x4 .f32 from StableHlo.after hostOps2 V (Proc.devRef .tc main_v59)) o 0 = (show FVec Ideal S128 .f32 from V (Proc.devRef .tc main_arg9)) (ix1 o) := by
  unfold mat
  after_reads_simp
  pointwise
  after_reads_simp
  pointwise

/-- Table 2: the shift. -/
theorem coef2_1 (o : Fin 128) : mat (show FVec Ideal S128x4 .f32 from StableHlo.after hostOps2 V (Proc.devRef .tc main_v59)) o 1 = (show FVec Ideal S128 .f32 from V (Proc.devRef .tc main_arg10)) (ix1 o) := by
  unfold mat
  after_reads_simp
  pointwise
  after_reads_simp
  pointwise

/-- Table 2: the mean. -/
theorem coef2_2 (o : Fin 128) : mat (show FVec Ideal S128x4 .f32 from StableHlo.after hostOps2 V (Proc.devRef .tc main_v59)) o 2 = Ideal.div (∑ p : Fin 16 × Fin 2, (show FVec Ideal S16x2x2x128 .f32 from V (Proc.devRef .tc main_v43)) (ix4 p.1 p.2 0 o)) (Ideal.ofBits .f32 0x48000000#32) := by
  unfold mat
  after_reads_simp
  pointwise
  after_reads_simp
  pointwise
  simp only [red4, zero_add]

/-- Table 2: the variance. -/
theorem coef2_3 (o : Fin 128) : mat (show FVec Ideal S128x4 .f32 from StableHlo.after hostOps2 V (Proc.devRef .tc main_v59)) o 3 = Ideal.div (∑ p : Fin 16 × Fin 2, (show FVec Ideal S16x2x2x128 .f32 from V (Proc.devRef .tc main_v43)) (ix4 p.1 p.2 1 o)) (Ideal.ofBits .f32 0x48000000#32) - mat (show FVec Ideal S128x4 .f32 from StableHlo.after hostOps2 V (Proc.devRef .tc main_v59)) o 2 * mat (show FVec Ideal S128x4 .f32 from StableHlo.after hostOps2 V (Proc.devRef .tc main_v59)) o 2 := by
  rw [coef2_2]
  unfold mat
  after_reads_simp
  pointwise
  after_reads_simp
  pointwise
  simp only [red4, zero_add]

/-- Table 3: the scale. -/
theorem coef3_0 (o : Fin 128) : mat (show FVec Ideal S128x4 .f32 from StableHlo.after hostOps4 V (Proc.devRef .tc main_v108)) o 0 = (show FVec Ideal S128 .f32 from V (Proc.devRef .tc main_arg13)) (ix1 o) := by
  unfold mat
  after_reads_simp
  pointwise
  after_reads_simp
  pointwise

/-- Table 3: the shift. -/
theorem coef3_1 (o : Fin 128) : mat (show FVec Ideal S128x4 .f32 from StableHlo.after hostOps4 V (Proc.devRef .tc main_v108)) o 1 = (show FVec Ideal S128 .f32 from V (Proc.devRef .tc main_arg14)) (ix1 o) := by
  unfold mat
  after_reads_simp
  pointwise
  after_reads_simp
  pointwise

/-- Table 3: the mean. -/
theorem coef3_2 (o : Fin 128) : mat (show FVec Ideal S128x4 .f32 from StableHlo.after hostOps4 V (Proc.devRef .tc main_v108)) o 2 = Ideal.div (∑ p : Fin 16 × Fin 1, (show FVec Ideal S16x1x2x128 .f32 from V (Proc.devRef .tc main_v92)) (ix4 p.1 p.2 0 o)) (Ideal.ofBits .f32 0x47000000#32) := by
  unfold mat
  after_reads_simp
  pointwise
  after_reads_simp
  pointwise
  simp only [red4, zero_add]

/-- Table 3: the variance. -/
theorem coef3_3 (o : Fin 128) : mat (show FVec Ideal S128x4 .f32 from StableHlo.after hostOps4 V (Proc.devRef .tc main_v108)) o 3 = Ideal.div (∑ p : Fin 16 × Fin 1, (show FVec Ideal S16x1x2x128 .f32 from V (Proc.devRef .tc main_v92)) (ix4 p.1 p.2 1 o)) (Ideal.ofBits .f32 0x47000000#32) - mat (show FVec Ideal S128x4 .f32 from StableHlo.after hostOps4 V (Proc.devRef .tc main_v108)) o 2 * mat (show FVec Ideal S128x4 .f32 from StableHlo.after hostOps4 V (Proc.devRef .tc main_v108)) o 2 := by
  rw [coef3_2]
  unfold mat
  after_reads_simp
  pointwise
  after_reads_simp
  pointwise
  simp only [red4, zero_add]

/-- Table 4: the scale. -/
theorem coef4_0 (o : Fin 256) : mat (show FVec Ideal S256x4 .f32 from StableHlo.after hostOps5 V (Proc.devRef .tc main_v125)) o 0 = (show FVec Ideal S256 .f32 from V (Proc.devRef .tc main_arg17)) (ix1 o) := by
  unfold mat
  after_reads_simp
  pointwise
  after_reads_simp
  pointwise

/-- Table 4: the shift. -/
theorem coef4_1 (o : Fin 256) : mat (show FVec Ideal S256x4 .f32 from StableHlo.after hostOps5 V (Proc.devRef .tc main_v125)) o 1 = (show FVec Ideal S256 .f32 from V (Proc.devRef .tc main_arg18)) (ix1 o) := by
  unfold mat
  after_reads_simp
  pointwise
  after_reads_simp
  pointwise

/-- Table 4: the mean. -/
theorem coef4_2 (o : Fin 256) : mat (show FVec Ideal S256x4 .f32 from StableHlo.after hostOps5 V (Proc.devRef .tc main_v125)) o 2 = Ideal.div (∑ p : Fin 16 × Fin 1, (show FVec Ideal S16x1x2x256 .f32 from V (Proc.devRef .tc main_v109)) (ix4 p.1 p.2 0 o)) (Ideal.ofBits .f32 0x47000000#32) := by
  unfold mat
  after_reads_simp
  pointwise
  after_reads_simp
  pointwise
  simp only [red4, zero_add]

/-- Table 4: the variance. -/
theorem coef4_3 (o : Fin 256) : mat (show FVec Ideal S256x4 .f32 from StableHlo.after hostOps5 V (Proc.devRef .tc main_v125)) o 3 = Ideal.div (∑ p : Fin 16 × Fin 1, (show FVec Ideal S16x1x2x256 .f32 from V (Proc.devRef .tc main_v109)) (ix4 p.1 p.2 1 o)) (Ideal.ofBits .f32 0x47000000#32) - mat (show FVec Ideal S256x4 .f32 from StableHlo.after hostOps5 V (Proc.devRef .tc main_v125)) o 2 * mat (show FVec Ideal S256x4 .f32 from StableHlo.after hostOps5 V (Proc.devRef .tc main_v125)) o 2 := by
  rw [coef4_2]
  unfold mat
  after_reads_simp
  pointwise
  after_reads_simp
  pointwise
  simp only [red4, zero_add]

end Cert.Val

end

end
-- ==== Proof.Spec2.lean ====
module

public import proofs.«01_k».proof.Proof.Spec

@[expose] public section

/-! The statistics of a family of norms, and the two ways of computing its variance. -/

noncomputable section

namespace Cert.Spec

open Idealize.ShloMosaic

/-- The sum of a family, and the sum of its squares. -/
def stat {M : ℕ} (n : Fin M → EReal) (s : Fin 2) : EReal := if s = 0 then ∑ m, n m else ∑ m, n m * n m

variable {ι : Type} [Fintype ι]

/-- The mean of a family, `c` its size. -/
def mean (c : EReal) (n : ι → EReal) : EReal := Ideal.div (∑ p, n p) c
/-- The variance as the mean square less the squared mean. -/
def varK (c : EReal) (n : ι → EReal) : EReal := Ideal.div (∑ p, n p * n p) c - mean c n * mean c n
/-- The variance as the mean squared deviation. -/
def varR (c : EReal) (n : ι → EReal) : EReal := Ideal.div (∑ p, (n p - mean c n) * (n p - mean c n)) c

/-- A finite sum of reals is the same sum over the extended reals. -/
theorem coe_sum (s : Finset ι) (r : ι → ℝ) : ((∑ p ∈ s, r p : ℝ) : EReal) = ∑ p ∈ s, (r p : EReal) := by
  classical
  induction s using Finset.induction_on with
  | empty => simp
  | insert a s ha ih => rw [Finset.sum_insert ha, Finset.sum_insert ha, EReal.coe_add, ih]

/-- A sum of nonnegative terms one of which is infinite is infinite. -/
theorem sum_top (f : ι → EReal) (hf : ∀ p, 0 ≤ f p) (q : ι) (hq : f q = ⊤) : ∑ p, f p = ⊤ := by
  classical
  rw [← Finset.add_sum_erase _ _ (Finset.mem_univ q), hq]
  refine EReal.top_add_of_ne_bot (ne_of_gt ?_)
  exact lt_of_lt_of_le EReal.bot_lt_zero (Finset.sum_nonneg fun p _ => hf p)

/-- Both variances of a family of reals agree. -/
theorem varK_eq_varR_real (c : ℝ) (hc : c = Fintype.card ι) (hc0 : 0 < c) (r : ι → ℝ) :
    varK (c : EReal) (fun p => (r p : EReal)) = varR (c : EReal) (fun p => (r p : EReal)) := by
  have hne : c ≠ 0 := ne_of_gt hc0
  unfold varK varR mean
  simp only [Ideal.div_coe hne, ← EReal.coe_mul, ← EReal.coe_sub, ← coe_sum]
  congr 1
  have h : ∀ μ : ℝ, ∑ p, (r p - μ) * (r p - μ) = (∑ p, r p * r p) - 2 * μ * (∑ p, r p) + c * (μ * μ) := by
    intro μ
    have : ∀ p, (r p - μ) * (r p - μ) = r p * r p - 2 * μ * r p + μ * μ := fun p => by ring
    simp only [this, Finset.sum_add_distrib, Finset.sum_sub_distrib, ← Finset.mul_sum, Finset.sum_const, Finset.card_univ, nsmul_eq_mul, hc]
    try ring
  rw [h]
  field_simp
  ring

theorem div_top (x : EReal) : Ideal.div x ⊤ = 0 := by
  unfold Ideal.div; rw [if_neg EReal.top_ne_zero, EReal.inv_top, mul_zero]
theorem div_bot (x : EReal) : Ideal.div x ⊥ = 0 := by
  unfold Ideal.div; rw [if_neg EReal.bot_ne_zero, EReal.inv_bot, mul_zero]

/-- The two variances normalize a family of positive numbers alike. -/
theorem bnv_var (c : ℝ) (hc : c = Fintype.card ι) (hc0 : 0 < c) (n : ι → EReal) (hn : ∀ p, 0 ≤ n p) (hv : veps ≠ ⊥) (g b x : EReal) :
    bnv g b (mean c n) (varK c n) x = bnv g b (mean c n) (varR c n) x := by
  have hne : c ≠ 0 := ne_of_gt hc0
  by_cases h : ∃ q, n q = ⊤
  · obtain ⟨q, hq⟩ := h
    have hpos : (0 : EReal) < ((1 / c : ℝ) : EReal) := by
      rw [EReal.coe_pos]; positivity
    have hm : mean (c : EReal) n = ⊤ := by
      unfold mean; rw [sum_top n hn q hq, Ideal.div_coe hne, EReal.top_mul_of_pos hpos]
    have hK : varK (c : EReal) n = ⊥ := by
      unfold varK
      rw [hm, sum_top (fun p => n p * n p) (fun p => mul_nonneg (hn p) (hn p)) q (by rw [hq]; rfl), Ideal.div_coe hne, EReal.top_mul_of_pos hpos]
      rfl
    have hd : ∀ p, (n p - ⊤) * (n p - ⊤) = ⊤ := fun p => by
      have : n p - ⊤ = ⊥ := by rw [sub_eq_add_neg, EReal.neg_top, EReal.add_bot]
      rw [this]; rfl
    have hR : varR (c : EReal) n = ⊤ := by
      unfold varR
      rw [hm, sum_top (fun p => (n p - ⊤) * (n p - ⊤)) (fun p => by rw [hd]; exact le_top) q (hd q), Ideal.div_coe hne, EReal.top_mul_of_pos hpos]
    unfold bnv
    rw [hK, hR, EReal.bot_add, EReal.top_add_of_ne_bot hv, show Ideal.sqrt ⊥ = ⊥ from rfl, show Ideal.sqrt ⊤ = ⊤ from rfl, div_top, div_bot]
  · have hr : ∀ p, n p = ((n p).toReal : EReal) := fun p =>
      (EReal.coe_toReal (fun e => h ⟨p, e⟩) (ne_of_gt (lt_of_lt_of_le EReal.bot_lt_zero (hn p)))).symm
    have : n = fun p => ((n p).toReal : EReal) := funext hr
    rw [this, varK_eq_varR_real c hc hc0]

theorem veps_ne_bot : veps ≠ ⊥ := by
  unfold veps
  simp [Ideal.ofBits, Ideal.ieee]
  try exact EReal.coe_ne_bot _

theorem eps_nonneg : 0 ≤ eps := by
  unfold eps
  simp [Ideal.ofBits, Ideal.ieee]
  try positivity

theorem sqrt_nonneg (x : EReal) (hx : 0 ≤ x) : 0 ≤ Ideal.sqrt x := by
  induction x with
  | bot => exact absurd hx (by simp)
  | top => exact le_top
  | coe r =>
    rw [EReal.coe_nonneg] at hx
    rw [Ideal.sqrt_coe, if_neg (not_lt.2 hx), EReal.coe_nonneg]; exact Real.sqrt_nonneg r

theorem mul_self_nonneg' (x : EReal) : 0 ≤ x * x := by
  induction x with
  | bot => exact le_top
  | top => exact le_top
  | coe r => rw [← EReal.coe_mul, EReal.coe_nonneg]; exact mul_self_nonneg r

/-- A norm is never negative. -/
theorem nrm_nonneg (y : Fin 3 → EReal) : 0 ≤ nrm y := by
  unfold nrm dot3
  exact add_nonneg (sqrt_nonneg _ (add_nonneg (add_nonneg (mul_self_nonneg' _) (mul_self_nonneg' _)) (mul_self_nonneg' _))) eps_nonneg

/-- One layer over a family of positions, the statistics taken over the whole family; `var` is how the variance is computed. -/
def vnl {C O : ℕ} (var : EReal → (ι → EReal) → EReal) (c : EReal) (W : Fin O → Fin C → EReal) (g b : Fin O → EReal)
    (D : Fin O → Fin O → EReal) (x : ι → Fin C → Fin 3 → EReal) (p : ι) : Fin O → Fin 3 → EReal :=
  act D fun o d => vbn (g o) (b o) (mean c fun q => nrm (lin W (x q) o)) (var c fun q => nrm (lin W (x q) o)) (lin W (x p) o) d

/-- Both ways of computing the variance give the same layer. -/
theorem vnl_var {C O : ℕ} (c : ℝ) (hc : c = Fintype.card ι) (hc0 : 0 < c) (W : Fin O → Fin C → EReal) (g b : Fin O → EReal)
    (D : Fin O → Fin O → EReal) (x : ι → Fin C → Fin 3 → EReal) :
    vnl varK (c : EReal) W g b D x = vnl varR (c : EReal) W g b D x := by
  funext p
  unfold vnl vbn
  congr 1
  funext o d
  rw [bnv_var c hc hc0 _ (fun q => nrm_nonneg _) veps_ne_bot]

/-- A layer whose table holds the family's statistics is the layer over the family. -/
theorem layer_eq_vnl {C O : ℕ} (var : EReal → (ι → EReal) → EReal) (c : EReal) (W : Fin O → Fin C → EReal) (g b : Fin O → EReal)
    (D : Fin O → Fin O → EReal) (x : ι → Fin C → Fin 3 → EReal) (G : Fin O → Fin 4 → EReal)
    (h0 : ∀ o, G o 0 = g o) (h1 : ∀ o, G o 1 = b o) (h2 : ∀ o, G o 2 = mean c fun q => nrm (lin W (x q) o))
    (h3 : ∀ o, G o 3 = var c fun q => nrm (lin W (x q) o)) (p : ι) : layer W G D (x p) = vnl var c W g b D x p := by
  unfold layer vnl bnl
  simp only [h0, h1, h2, h3]

end Cert.Spec

end

end
-- ==== Proof.Tile.lean ====
module

public import proofs.«01_k».proof.Proof.Spec2

@[expose] public section

/-! Statistics summed block by block are the statistics of the whole family. -/

noncomputable section

namespace Cert.Spec

open Idealize.ShloMosaic

/-- A sum over blocks and places in a block is the sum over all positions. -/
theorem sum_tile {J T M : ℕ} (hM : M = J * T) (F : Fin M → EReal) :
    ∑ p : Fin J × Fin T, F (tile J T hM p.1 p.2) = ∑ m, F m := by
  subst hM
  refine Fintype.sum_equiv finProdFinEquiv _ _ fun p => congrArg F (Fin.ext ?_)
  show p.1.val * T + p.2.val = p.2.val + T * p.1.val
  rw [Nat.mul_comm, Nat.add_comm]

/-- Two ways of cutting the positions into blocks give the same sum. -/
theorem sum_blocks {B J T S K M : ℕ} (hM : M = J * T) (hS : M = S * K) (f : Fin B → Fin M → EReal) :
    ∑ p : Fin B × Fin J, ∑ m : Fin T, f p.1 (tile J T hM p.2 m)
      = ∑ q : Fin B × Fin S × Fin K, f q.1 (tile S K hS q.2.1 q.2.2) := by
  have h1 : ∀ b, ∑ j, ∑ m : Fin T, f b (tile J T hM j m) = ∑ m, f b m := fun b => by
    rw [← sum_tile hM, Fintype.sum_prod_type]
  have h2 : ∀ b, ∑ y : Fin S × Fin K, f b (tile S K hS y.1 y.2) = ∑ m, f b m := fun b => sum_tile hS _
  rw [Fintype.sum_prod_type, Fintype.sum_prod_type]
  refine Finset.sum_congr rfl fun b _ => ?_
  exact (h1 b).trans (h2 b).symm

/-- The stacks of vectors of a rank-4 array, by batch element, point and neighbour. -/
def fam {B C M : ℕ} (S K : ℕ) (hS : M = S * K) (x : (⟨4, ![B, 3, C, M]⟩ : Shape).Idx → EReal) (q : Fin B × Fin S × Fin K) :
    Fin C → Fin 3 → EReal := xpos x q.1 (tile S K hS q.2.1 q.2.2)

/-- A layer whose table was computed from block statistics is the layer over the whole family. -/
theorem coef_layer {B J T S K M C O : ℕ} (hM : M = J * T) (hS : M = S * K) (c : EReal) (W : Fin O → Fin C → EReal) (g b : Fin O → EReal)
    (D : Fin O → Fin O → EReal) (y : Fin B → Fin M → Fin C → Fin 3 → EReal) (G : Fin O → Fin 4 → EReal)
    (st : Fin B → Fin J → Fin 2 → Fin O → EReal)
    (hst : ∀ b j s o, st b j s o = stat (fun m : Fin T => nrm (lin W (y b (tile J T hM j m)) o)) s)
    (h0 : ∀ o, G o 0 = g o) (h1 : ∀ o, G o 1 = b o)
    (h2 : ∀ o, G o 2 = Ideal.div (∑ p : Fin B × Fin J, st p.1 p.2 0 o) c)
    (h3 : ∀ o, G o 3 = Ideal.div (∑ p : Fin B × Fin J, st p.1 p.2 1 o) c - G o 2 * G o 2) (q : Fin B × Fin S × Fin K) :
    layer W G D (y q.1 (tile S K hS q.2.1 q.2.2)) = vnl varK c W g b D (fun q : Fin B × Fin S × Fin K => y q.1 (tile S K hS q.2.1 q.2.2)) q := by
  have e2 : ∀ o, G o 2 = mean c fun q : Fin B × Fin S × Fin K => nrm (lin W (y q.1 (tile S K hS q.2.1 q.2.2)) o) := by
    intro o
    rw [h2]
    unfold mean
    congr 1
    rw [← sum_blocks hM hS fun b m => nrm (lin W (y b m) o)]
    refine Finset.sum_congr rfl fun p _ => ?_
    rw [hst]; rfl
  refine layer_eq_vnl varK c W g b D _ G h0 h1 e2 (fun o => ?_) q
  rw [h3, e2]
  unfold varK
  congr 2
  rw [← sum_blocks hM hS fun b m => nrm (lin W (y b m) o) * nrm (lin W (y b m) o)]
  refine Finset.sum_congr rfl fun p _ => ?_
  rw [hst]; rfl

end Cert.Spec

end

end
-- ==== Proof.Mask.lean ====
module

public import proofs.«01_k».proof.Proof.Spec
public import Idealize.ShloMosaic.Lib.Pointwise

@[expose] public section

noncomputable section

namespace Cert.Val

open Idealize.ShloMosaic Cert.Spec

/-- A comparison's bit, widened and converted to a number, is the 0/1 value of the comparison. -/
theorem mask_eq (t : EReal) :
    (FloatOps.sitofp (F := Ideal) FTy.f32 (BitVec.setWidth 32 (BitVec.ofBool (decide (0 ≤ t)))) : EReal) = mask t := by
  unfold mask
  by_cases h : 0 ≤ t
  · simp [h, FloatOps.sitofp]
  · simp [h, FloatOps.sitofp]

end Cert.Val

end

end
-- ==== Proof.Pay1.lean ====
module

public import proofs.«01_k».proof.Proof.Gen.KernelIdeal.Frame
public import proofs.«01_k».proof.Proof.Mask
public import Idealize.ShloMosaic.Lib.Pointwise
public import Idealize.ShloMosaic.Lib.Pipeline.ValueKit

@[expose] public section

set_option maxRecDepth 16384

/-! What region 1's body computes at each position, in the words of the specification. -/

noncomputable section

namespace Cert.Val

open Idealize.ShloMosaic Idealize.ShloMosaic.TcCoe
open Cert.KernelIdeal Cert.KernelIdeal.Gen Cert.Spec

/-- The value `v9` at a position. -/
theorem k1_pay26_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay26 x0 x1 x2 x3 x4 (ix2 o m) = lin (mat x1) (xin x0 m) o 0 := by
  pointwise [k1_pay26, k1_pay2]
  try simp only [mask_eq, nrm, dot3, lin_one]
  try rfl

/-- The value `v12` at a position. -/
theorem k1_pay27_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay27 x0 x1 x2 x3 x4 (ix2 o m) = lin (mat x1) (xin x0 m) o 1 := by
  pointwise [k1_pay27, k1_pay3]
  try simp only [mask_eq, nrm, dot3, lin_one]
  try rfl

/-- The value `v15` at a position. -/
theorem k1_pay28_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay28 x0 x1 x2 x3 x4 (ix2 o m) = lin (mat x1) (xin x0 m) o 2 := by
  pointwise [k1_pay28, k1_pay4]
  try simp only [mask_eq, nrm, dot3, lin_one]
  try rfl

/-- The value `v23` at a position. -/
theorem k1_pay29_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay29 x0 x1 x2 x3 x4 (ix2 o m) = nrm (lin (mat x1) (xin x0 m) o) := by
  pointwise [k1_pay29, k1_pay5, k1_pay2, k1_pay3, k1_pay4]
  try simp only [mask_eq, nrm, dot3, lin_one]
  try rfl

/-- The value `v38` at a position. -/
theorem k1_pay30_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay30 x0 x1 x2 x3 x4 (ix2 o m) = Ideal.div (x2 (ix2 o 0) * (nrm (lin (mat x1) (xin x0 m) o) - x2 (ix2 o 2))) (Ideal.sqrt (x2 (ix2 o 3) + veps)) := by
  pointwise [k1_pay30, k1_pay7, k1_pay6, k1_pay5, k1_pay2, k1_pay3, k1_pay4]
  try simp only [mask_eq, nrm, dot3, lin_one]
  try rfl

/-- The value `v39` at a position. -/
theorem k1_pay31_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay31 x0 x1 x2 x3 x4 (ix2 o m) = x2 (ix2 o 1) := by
  pointwise [k1_pay31, k1_pay8, k1_pay6]
  try simp only [mask_eq, nrm, dot3, lin_one]
  try rfl

/-- The value `v46` at a position. -/
theorem k1_pay32_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay32 x0 x1 x2 x3 x4 (ix2 o m) = bnl (mat x2) (lin (mat x1) (xin x0 m)) o 2 := by
  pointwise [k1_pay32, k1_pay12, k1_pay9]
  try simp only [k1_pay28_at, k1_pay29_at, k1_pay30_at, k1_pay31_at, mask_eq]
  try rfl

/-- The value `v50` at a position. -/
theorem k1_pay33_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay33 x0 x1 x2 x3 x4 (ix2 o m) = lin (mat x3) (bnl (mat x2) (lin (mat x1) (xin x0 m))) o 2 := by
  pointwise [k1_pay33, k1_pay15, k1_pay12, k1_pay9]
  try simp only [k1_pay28_at, k1_pay29_at, k1_pay30_at, k1_pay31_at, mask_eq]
  try rfl

/-- The value `v55` at a position. -/
theorem k1_pay34_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay34 x0 x1 x2 x3 x4 (ix2 o m) = dot3 (bnl (mat x2) (lin (mat x1) (xin x0 m)) o) (lin (mat x3) (bnl (mat x2) (lin (mat x1) (xin x0 m))) o) := by
  pointwise [k1_pay34, k1_pay16, k1_pay10, k1_pay13, k1_pay11, k1_pay14, k1_pay12, k1_pay15, k1_pay9]
  try simp only [k1_pay26_at, k1_pay27_at, k1_pay28_at, k1_pay29_at, k1_pay30_at, k1_pay31_at, mask_eq]
  try rfl

/-- The value `v60` at a position. -/
theorem k1_pay35_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay35 x0 x1 x2 x3 x4 (ix2 o m) = dot3 (lin (mat x3) (bnl (mat x2) (lin (mat x1) (xin x0 m))) o) (lin (mat x3) (bnl (mat x2) (lin (mat x1) (xin x0 m))) o) := by
  pointwise [k1_pay35, k1_pay17, k1_pay13, k1_pay14, k1_pay15, k1_pay10, k1_pay11, k1_pay12, k1_pay9]
  try simp only [k1_pay26_at, k1_pay27_at, k1_pay28_at, k1_pay29_at, k1_pay30_at, k1_pay31_at, mask_eq]
  try rfl

/-- The value `v64` at a position. -/
theorem k1_pay36_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay36 x0 x1 x2 x3 x4 (ix2 o m) = mask (dot3 (bnl (mat x2) (lin (mat x1) (xin x0 m)) o) (lin (mat x3) (bnl (mat x2) (lin (mat x1) (xin x0 m))) o)) := by
  pointwise [k1_pay36, k1_pay18, k1_pay16, k1_pay10, k1_pay13, k1_pay11, k1_pay14, k1_pay12, k1_pay15, k1_pay9]
  try simp only [k1_pay26_at, k1_pay27_at, k1_pay28_at, k1_pay29_at, k1_pay30_at, k1_pay31_at, mask_eq]
  try rfl

/-- The value `v79` at a position. -/
theorem k1_pay37_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay37 x0 x1 x2 x3 x4 (ix2 o m) = act (mat x3) (bnl (mat x2) (lin (mat x1) (xin x0 m))) o 0 := by
  pointwise [k1_pay37, k1_pay19, k1_pay17, k1_pay16, k1_pay13, k1_pay10, k1_pay18, k1_pay14, k1_pay15, k1_pay11, k1_pay12, k1_pay9]
  try simp only [k1_pay26_at, k1_pay27_at, k1_pay28_at, k1_pay29_at, k1_pay30_at, k1_pay31_at, mask_eq]
  try rfl

/-- The value `v84` at a position. -/
theorem k1_pay38_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay38 x0 x1 x2 x3 x4 (ix2 o m) = bnl (mat x2) (lin (mat x1) (xin x0 m)) o 1 - Ideal.div (dot3 (bnl (mat x2) (lin (mat x1) (xin x0 m)) o) (lin (mat x3) (bnl (mat x2) (lin (mat x1) (xin x0 m))) o)) (dot3 (lin (mat x3) (bnl (mat x2) (lin (mat x1) (xin x0 m))) o) (lin (mat x3) (bnl (mat x2) (lin (mat x1) (xin x0 m))) o) + eps) * lin (mat x3) (bnl (mat x2) (lin (mat x1) (xin x0 m))) o 1 := by
  pointwise [k1_pay38, k1_pay20, k1_pay17, k1_pay16, k1_pay14, k1_pay11, k1_pay13, k1_pay15, k1_pay10, k1_pay12, k1_pay9]
  try simp only [k1_pay26_at, k1_pay27_at, k1_pay28_at, k1_pay29_at, k1_pay30_at, k1_pay31_at, mask_eq]
  try rfl

/-- The value `v86` at a position. -/
theorem k1_pay39_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay39 x0 x1 x2 x3 x4 (ix2 o m) = neg * bnl (mat x2) (lin (mat x1) (xin x0 m)) o 1 := by
  pointwise [k1_pay39, k1_pay21, k1_pay11, k1_pay9]
  try simp only [k1_pay27_at, k1_pay29_at, k1_pay30_at, k1_pay31_at, mask_eq]
  try rfl

/-- The value `v87` at a position. -/
theorem k1_pay40_at (x0 : Vec Ideal S1x3x1x4096 .f32) (x1 : Vec Ideal S64x1 .f32) (x2 : Vec Ideal S64x4 .f32) (x3 : Vec Ideal S64x64 .f32) (x4 : Vec Ideal S128x64 .f32) (o : Fin 64) (m : Fin 4096) :
    k1_pay40 x0 x1 x2 x3 x4 (ix2 o m) = mask (dot3 (bnl (mat x2) (lin (mat x1) (xin x0 m)) o) (lin (mat x3) (bnl (mat x2) (lin (mat x1) (xin x0 m))) o)) * bnl (mat x2) (lin (mat x1) (xin x0 m)) o 1 := by
  pointwise [k1_pay40, k1_pay22, k1_pay18, k1_pay11, k1_pay16, k1_pay9, k1_pay10, k1_pay13, k1_pay14, k1_pay12, k1_pay15]
  try simp only [k1_pay26_at, k1_pay27_at, k1_pay28_at, k1_pay29_at, k1_pay30_at, k1_pay31_at, mask_eq]
  try rfl

end Cert.Val

end

end
-- ==== Proof.Pay2.lean ====
module

public import proofs.«01_k».proof.Proof.Gen.KernelIdeal.Frame
public import proofs.«01_k».proof.Proof.Mask
public import Idealize.ShloMosaic.Lib.Pointwise
public import Idealize.ShloMosaic.Lib.Pipeline.ValueKit

@[expose] public section

set_option maxRecDepth 16384

/-! What region 2's body computes at each position, in the words of the specification. -/

noncomputable section

namespace Cert.Val

open Idealize.ShloMosaic Idealize.ShloMosaic.TcCoe
open Cert.KernelIdeal Cert.KernelIdeal.Gen Cert.Spec

/-- The value `v9` at a position. -/
theorem k2_pay50_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay50 x0 x1 x2 x3 x4 x5 x6 (ix2 o m) = lin (mat x1) (xin x0 m) o 0 := by
  pointwise [k2_pay50, k2_pay4]
  try simp only [mask_eq, nrm, dot3, lin_one]
  try rfl

/-- The value `v12` at a position. -/
theorem k2_pay51_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay51 x0 x1 x2 x3 x4 x5 x6 (ix2 o m) = lin (mat x1) (xin x0 m) o 1 := by
  pointwise [k2_pay51, k2_pay5]
  try simp only [mask_eq, nrm, dot3, lin_one]
  try rfl

/-- The value `v15` at a position. -/
theorem k2_pay52_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay52 x0 x1 x2 x3 x4 x5 x6 (ix2 o m) = lin (mat x1) (xin x0 m) o 2 := by
  pointwise [k2_pay52, k2_pay6]
  try simp only [mask_eq, nrm, dot3, lin_one]
  try rfl

/-- The value `v23` at a position. -/
theorem k2_pay53_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay53 x0 x1 x2 x3 x4 x5 x6 (ix2 o m) = nrm (lin (mat x1) (xin x0 m) o) := by
  pointwise [k2_pay53, k2_pay7, k2_pay4, k2_pay5, k2_pay6]
  try simp only [mask_eq, nrm, dot3, lin_one]
  try rfl

/-- The value `v38` at a position. -/
theorem k2_pay54_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay54 x0 x1 x2 x3 x4 x5 x6 (ix2 o m) = Ideal.div (x2 (ix2 o 0) * (nrm (lin (mat x1) (xin x0 m) o) - x2 (ix2 o 2))) (Ideal.sqrt (x2 (ix2 o 3) + veps)) := by
  pointwise [k2_pay54, k2_pay9, k2_pay8, k2_pay7, k2_pay4, k2_pay5, k2_pay6]
  try simp only [mask_eq, nrm, dot3, lin_one]
  try rfl

/-- The value `v39` at a position. -/
theorem k2_pay55_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay55 x0 x1 x2 x3 x4 x5 x6 (ix2 o m) = x2 (ix2 o 1) := by
  pointwise [k2_pay55, k2_pay10, k2_pay8]
  try simp only [mask_eq, nrm, dot3, lin_one]
  try rfl

/-- The value `v46` at a position. -/
theorem k2_pay56_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay56 x0 x1 x2 x3 x4 x5 x6 (ix2 o m) = bnl (mat x2) (lin (mat x1) (xin x0 m)) o 2 := by
  pointwise [k2_pay56, k2_pay14, k2_pay11]
  try simp only [k2_pay52_at, k2_pay53_at, k2_pay54_at, k2_pay55_at, mask_eq]
  try rfl

/-- The value `v50` at a position. -/
theorem k2_pay57_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay57 x0 x1 x2 x3 x4 x5 x6 (ix2 o m) = lin (mat x3) (bnl (mat x2) (lin (mat x1) (xin x0 m))) o 2 := by
  pointwise [k2_pay57, k2_pay17, k2_pay14, k2_pay11]
  try simp only [k2_pay52_at, k2_pay53_at, k2_pay54_at, k2_pay55_at, mask_eq]
  try rfl

/-- The value `v55` at a position. -/
theorem k2_pay58_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay58 x0 x1 x2 x3 x4 x5 x6 (ix2 o m) = dot3 (bnl (mat x2) (lin (mat x1) (xin x0 m)) o) (lin (mat x3) (bnl (mat x2) (lin (mat x1) (xin x0 m))) o) := by
  pointwise [k2_pay58, k2_pay18, k2_pay12, k2_pay15, k2_pay13, k2_pay16, k2_pay14, k2_pay17, k2_pay11]
  try simp only [k2_pay50_at, k2_pay51_at, k2_pay52_at, k2_pay53_at, k2_pay54_at, k2_pay55_at, mask_eq]
  try rfl

/-- The value `v60` at a position. -/
theorem k2_pay59_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay59 x0 x1 x2 x3 x4 x5 x6 (ix2 o m) = dot3 (lin (mat x3) (bnl (mat x2) (lin (mat x1) (xin x0 m))) o) (lin (mat x3) (bnl (mat x2) (lin (mat x1) (xin x0 m))) o) := by
  pointwise [k2_pay59, k2_pay19, k2_pay15, k2_pay16, k2_pay17, k2_pay12, k2_pay13, k2_pay14, k2_pay11]
  try simp only [k2_pay50_at, k2_pay51_at, k2_pay52_at, k2_pay53_at, k2_pay54_at, k2_pay55_at, mask_eq]
  try rfl

/-- The value `v64` at a position. -/
theorem k2_pay60_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay60 x0 x1 x2 x3 x4 x5 x6 (ix2 o m) = mask (dot3 (bnl (mat x2) (lin (mat x1) (xin x0 m)) o) (lin (mat x3) (bnl (mat x2) (lin (mat x1) (xin x0 m))) o)) := by
  pointwise [k2_pay60, k2_pay20, k2_pay18, k2_pay12, k2_pay15, k2_pay13, k2_pay16, k2_pay14, k2_pay17, k2_pay11]
  try simp only [k2_pay50_at, k2_pay51_at, k2_pay52_at, k2_pay53_at, k2_pay54_at, k2_pay55_at, mask_eq]
  try rfl

/-- The value `v79` at a position. -/
theorem k2_pay61_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay61 x0 x1 x2 x3 x4 x5 x6 (ix2 o m) = act (mat x3) (bnl (mat x2) (lin (mat x1) (xin x0 m))) o 0 := by
  pointwise [k2_pay61, k2_pay21, k2_pay19, k2_pay18, k2_pay15, k2_pay12, k2_pay20, k2_pay16, k2_pay17, k2_pay13, k2_pay14, k2_pay11]
  try simp only [k2_pay50_at, k2_pay51_at, k2_pay52_at, k2_pay53_at, k2_pay54_at, k2_pay55_at, mask_eq]
  try rfl

/-- The value `v84` at a position. -/
theorem k2_pay62_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay62 x0 x1 x2 x3 x4 x5 x6 (ix2 o m) = bnl (mat x2) (lin (mat x1) (xin x0 m)) o 1 - Ideal.div (dot3 (bnl (mat x2) (lin (mat x1) (xin x0 m)) o) (lin (mat x3) (bnl (mat x2) (lin (mat x1) (xin x0 m))) o)) (dot3 (lin (mat x3) (bnl (mat x2) (lin (mat x1) (xin x0 m))) o) (lin (mat x3) (bnl (mat x2) (lin (mat x1) (xin x0 m))) o) + eps) * lin (mat x3) (bnl (mat x2) (lin (mat x1) (xin x0 m))) o 1 := by
  pointwise [k2_pay62, k2_pay22, k2_pay19, k2_pay18, k2_pay16, k2_pay13, k2_pay15, k2_pay17, k2_pay12, k2_pay14, k2_pay11]
  try simp only [k2_pay50_at, k2_pay51_at, k2_pay52_at, k2_pay53_at, k2_pay54_at, k2_pay55_at, mask_eq]
  try rfl

/-- The value `v86` at a position. -/
theorem k2_pay63_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay63 x0 x1 x2 x3 x4 x5 x6 (ix2 o m) = neg * bnl (mat x2) (lin (mat x1) (xin x0 m)) o 1 := by
  pointwise [k2_pay63, k2_pay23, k2_pay13, k2_pay11]
  try simp only [k2_pay51_at, k2_pay53_at, k2_pay54_at, k2_pay55_at, mask_eq]
  try rfl

/-- The value `v87` at a position. -/
theorem k2_pay64_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 64) (m : Fin 4096) :
    k2_pay64 x0 x1 x2 x3 x4 x5 x6 (ix2 o m) = mask (dot3 (bnl (mat x2) (lin (mat x1) (xin x0 m)) o) (lin (mat x3) (bnl (mat x2) (lin (mat x1) (xin x0 m))) o)) * bnl (mat x2) (lin (mat x1) (xin x0 m)) o 1 := by
  pointwise [k2_pay64, k2_pay24, k2_pay20, k2_pay13, k2_pay18, k2_pay11, k2_pay12, k2_pay15, k2_pay16, k2_pay14, k2_pay17]
  try simp only [k2_pay50_at, k2_pay51_at, k2_pay52_at, k2_pay53_at, k2_pay54_at, k2_pay55_at, mask_eq]
  try rfl

/-- The value `v111` at a position. -/
theorem k2_pay65_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay65 x0 x1 x2 x3 x4 x5 x6 (ix2 o m) = lin (mat x4) (layer (mat x1) (mat x2) (mat x3) (xin x0 m)) o 0 := by
  pointwise [k2_pay65, k2_pay25]
  try simp only [k2_pay61_at, mask_eq]
  try rfl

/-- The value `v112` at a position. -/
theorem k2_pay66_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay66 x0 x1 x2 x3 x4 x5 x6 (ix2 o m) = lin (mat x4) (layer (mat x1) (mat x2) (mat x3) (xin x0 m)) o 1 := by
  pointwise [k2_pay66, k2_pay26]
  try simp only [k2_pay60_at, k2_pay62_at, k2_pay63_at, k2_pay64_at, mask_eq]
  try rfl

/-- The value `v113` at a position. -/
theorem k2_pay67_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay67 x0 x1 x2 x3 x4 x5 x6 (ix2 o m) = lin (mat x4) (layer (mat x1) (mat x2) (mat x3) (xin x0 m)) o 2 := by
  pointwise [k2_pay67, k2_pay27]
  try simp only [k2_pay56_at, k2_pay57_at, k2_pay58_at, k2_pay59_at, k2_pay60_at, mask_eq]
  try rfl

/-- The value `v121` at a position. -/
theorem k2_pay68_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay68 x0 x1 x2 x3 x4 x5 x6 (ix2 o m) = nrm (lin (mat x4) (layer (mat x1) (mat x2) (mat x3) (xin x0 m)) o) := by
  pointwise [k2_pay68, k2_pay28, k2_pay25, k2_pay26, k2_pay27]
  try simp only [k2_pay56_at, k2_pay57_at, k2_pay58_at, k2_pay59_at, k2_pay60_at, k2_pay61_at, k2_pay62_at, k2_pay63_at, k2_pay64_at, mask_eq]
  try rfl

/-- The value `v125` at a position. -/
theorem k2_pay69_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) :
    k2_pay69 x0 x1 x2 x3 x4 x5 x6 (ix2 o 0) = x5 (ix2 o 1) := by
  pointwise [k2_pay69, k2_pay30, k2_pay29]
  try simp only [mask_eq, nrm, dot3, lin_one]
  try rfl

/-- The value `v127` at a position. -/
theorem k2_pay70_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) :
    k2_pay70 x0 x1 x2 x3 x4 x5 x6 (ix2 o 0) = x5 (ix2 o 3) := by
  pointwise [k2_pay70, k2_pay31, k2_pay29]
  try simp only [mask_eq, nrm, dot3, lin_one]
  try rfl

/-- The value `v131` at a position. -/
theorem k2_pay71_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay71 x0 x1 x2 x3 x4 x5 x6 (ix2 o m) = x5 (ix2 o 0) * (nrm (lin (mat x4) (layer (mat x1) (mat x2) (mat x3) (xin x0 m)) o) - x5 (ix2 o 2)) := by
  pointwise [k2_pay71, k2_pay32, k2_pay29, k2_pay28, k2_pay25, k2_pay26, k2_pay27]
  try simp only [k2_pay56_at, k2_pay57_at, k2_pay58_at, k2_pay59_at, k2_pay60_at, k2_pay61_at, k2_pay62_at, k2_pay63_at, k2_pay64_at, mask_eq]
  try rfl

/-- The value `v132` at a position. -/
theorem k2_pay72_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) :
    k2_pay72 x0 x1 x2 x3 x4 x5 x6 (ix2 o 0) = veps := by
  pointwise [k2_pay72, k2_pay33]
  try simp only [mask_eq, nrm, dot3, lin_one]
  try rfl

/-- The value `v142` at a position. -/
theorem k2_pay73_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay73 x0 x1 x2 x3 x4 x5 x6 (ix2 o m) = bnl (mat x5) (lin (mat x4) (layer (mat x1) (mat x2) (mat x3) (xin x0 m))) o 1 := by
  pointwise [k2_pay73, k2_pay36, k2_pay34]
  try simp only [k2_pay66_at, k2_pay68_at, k2_pay69_at, k2_pay70_at, k2_pay71_at, k2_pay72_at, mask_eq]
  try rfl

/-- The value `v144` at a position. -/
theorem k2_pay74_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay74 x0 x1 x2 x3 x4 x5 x6 (ix2 o m) = bnl (mat x5) (lin (mat x4) (layer (mat x1) (mat x2) (mat x3) (xin x0 m))) o 2 := by
  pointwise [k2_pay74, k2_pay37, k2_pay34]
  try simp only [k2_pay67_at, k2_pay68_at, k2_pay69_at, k2_pay70_at, k2_pay71_at, k2_pay72_at, mask_eq]
  try rfl

/-- The value `v148` at a position. -/
theorem k2_pay75_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay75 x0 x1 x2 x3 x4 x5 x6 (ix2 o m) = lin (mat x6) (bnl (mat x5) (lin (mat x4) (layer (mat x1) (mat x2) (mat x3) (xin x0 m)))) o 2 := by
  pointwise [k2_pay75, k2_pay40, k2_pay37, k2_pay34]
  try simp only [k2_pay67_at, k2_pay68_at, k2_pay69_at, k2_pay70_at, k2_pay71_at, k2_pay72_at, mask_eq]
  try rfl

/-- The value `v153` at a position. -/
theorem k2_pay76_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay76 x0 x1 x2 x3 x4 x5 x6 (ix2 o m) = dot3 (bnl (mat x5) (lin (mat x4) (layer (mat x1) (mat x2) (mat x3) (xin x0 m))) o) (lin (mat x6) (bnl (mat x5) (lin (mat x4) (layer (mat x1) (mat x2) (mat x3) (xin x0 m)))) o) := by
  pointwise [k2_pay76, k2_pay41, k2_pay35, k2_pay38, k2_pay36, k2_pay39, k2_pay37, k2_pay40, k2_pay34]
  try simp only [k2_pay65_at, k2_pay66_at, k2_pay67_at, k2_pay68_at, k2_pay69_at, k2_pay70_at, k2_pay71_at, k2_pay72_at, mask_eq]
  try rfl

/-- The value `v158` at a position. -/
theorem k2_pay77_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay77 x0 x1 x2 x3 x4 x5 x6 (ix2 o m) = dot3 (lin (mat x6) (bnl (mat x5) (lin (mat x4) (layer (mat x1) (mat x2) (mat x3) (xin x0 m)))) o) (lin (mat x6) (bnl (mat x5) (lin (mat x4) (layer (mat x1) (mat x2) (mat x3) (xin x0 m)))) o) := by
  pointwise [k2_pay77, k2_pay42, k2_pay38, k2_pay39, k2_pay40, k2_pay35, k2_pay36, k2_pay37, k2_pay34]
  try simp only [k2_pay65_at, k2_pay66_at, k2_pay67_at, k2_pay68_at, k2_pay69_at, k2_pay70_at, k2_pay71_at, k2_pay72_at, mask_eq]
  try rfl

/-- The value `v162` at a position. -/
theorem k2_pay78_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay78 x0 x1 x2 x3 x4 x5 x6 (ix2 o m) = mask (dot3 (bnl (mat x5) (lin (mat x4) (layer (mat x1) (mat x2) (mat x3) (xin x0 m))) o) (lin (mat x6) (bnl (mat x5) (lin (mat x4) (layer (mat x1) (mat x2) (mat x3) (xin x0 m)))) o)) := by
  pointwise [k2_pay78, k2_pay43, k2_pay41, k2_pay35, k2_pay38, k2_pay36, k2_pay39, k2_pay37, k2_pay40, k2_pay34]
  try simp only [k2_pay65_at, k2_pay66_at, k2_pay67_at, k2_pay68_at, k2_pay69_at, k2_pay70_at, k2_pay71_at, k2_pay72_at, mask_eq]
  try rfl

/-- The value `v177` at a position. -/
theorem k2_pay79_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay79 x0 x1 x2 x3 x4 x5 x6 (ix2 o m) = act (mat x6) (bnl (mat x5) (lin (mat x4) (layer (mat x1) (mat x2) (mat x3) (xin x0 m)))) o 0 := by
  pointwise [k2_pay79, k2_pay44, k2_pay42, k2_pay41, k2_pay38, k2_pay35, k2_pay43, k2_pay39, k2_pay40, k2_pay36, k2_pay37, k2_pay34]
  try simp only [k2_pay65_at, k2_pay66_at, k2_pay67_at, k2_pay68_at, k2_pay69_at, k2_pay70_at, k2_pay71_at, k2_pay72_at, mask_eq]
  try rfl

/-- The value `v181` at a position. -/
theorem k2_pay80_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay80 x0 x1 x2 x3 x4 x5 x6 (ix2 o m) = Ideal.div (dot3 (bnl (mat x5) (lin (mat x4) (layer (mat x1) (mat x2) (mat x3) (xin x0 m))) o) (lin (mat x6) (bnl (mat x5) (lin (mat x4) (layer (mat x1) (mat x2) (mat x3) (xin x0 m)))) o)) (dot3 (lin (mat x6) (bnl (mat x5) (lin (mat x4) (layer (mat x1) (mat x2) (mat x3) (xin x0 m)))) o) (lin (mat x6) (bnl (mat x5) (lin (mat x4) (layer (mat x1) (mat x2) (mat x3) (xin x0 m)))) o) + eps) * lin (mat x6) (bnl (mat x5) (lin (mat x4) (layer (mat x1) (mat x2) (mat x3) (xin x0 m)))) o 1 := by
  pointwise [k2_pay80, k2_pay45, k2_pay42, k2_pay41, k2_pay39, k2_pay38, k2_pay40, k2_pay35, k2_pay36, k2_pay37, k2_pay34]
  try simp only [k2_pay65_at, k2_pay66_at, k2_pay67_at, k2_pay68_at, k2_pay69_at, k2_pay70_at, k2_pay71_at, k2_pay72_at, mask_eq]
  try rfl

end Cert.Val

end

end
-- ==== Proof.Pool.lean ====
module

public import proofs.«01_k».proof.Proof.Spec
public import Idealize.ShloMosaic.Lib.Pointwise
public import Idealize.ShloMosaic.Lib.SortNet.Extract

@[expose] public section

noncomputable section

namespace Cert.Val

open Idealize.ShloMosaic Cert.Spec

/-- The word of negative infinity is the bottom of the extended reals. -/
theorem ninf_eq : Ideal.ofBits FTy.f32 4286578688#32 = ⊥ := by
  simp [Ideal.ofBits, Ideal.ieee]

/-- The signed value of a fold of signed minima is the minimum of the signed values. -/
theorem toInt_fold_minsi {K : ℕ} (b : BitVec 32) (g : Fin K → BitVec 32) :
    (Finset.univ.fold IntOp.minsi b g).toInt = Finset.univ.fold min b.toInt (fun x => (g x).toInt) :=
  (Finset.fold_hom (op := IntOp.minsi) (op' := min) (m := BitVec.toInt) (fun x y => SortNet.toInt_minsi x y)).symm

/-- Small naturals as words have themselves as signed values. -/
theorem toInt_small {n : ℕ} (h : n < 2 ^ 31) : (BitVec.ofNat 32 n).toInt = n := by
  rw [BitVec.toInt_ofNat']
  have : (n : ℤ) < 2 ^ 31 := by exact_mod_cast h
  rw [Int.bmod_eq_of_le] <;> omega

open Classical in
/-- The least position whose entry is at least the maximum, compared with position `k`, marks the first maximum. -/
theorem mark_val {K : ℕ} (hK : K < 2 ^ 31) (q : Fin K → EReal) (k : Fin K) :
    (FloatOps.sitofp (F := Ideal) FTy.f32 (BitVec.setWidth 32 (IntOp.cmpi CmpIPredicate.eq (BitVec.ofNat 32 ↑k)
      (Finset.univ.fold IntOp.minsi (2147483647#32) (fun x : Fin K =>
        if Finset.univ.fold max (Ideal.ofBits FTy.f32 4286578688#32) q ≤ q x then BitVec.ofNat 32 ↑x
        else BitVec.ofNat 32 K)))) : EReal)
      = if IsFirstMax q k then 1 else 0 := by
  have hP : ∀ x, (Finset.univ.fold max (Ideal.ofBits FTy.f32 4286578688#32) q ≤ q x) ↔ ∀ j, q j ≤ q x := by
    intro x
    rw [ninf_eq, Finset.fold_max_le]
    simp
  simp only [hP]
  have hk := k.isLt
  have hv : (Finset.univ.fold IntOp.minsi (2147483647#32) (fun x : Fin K =>
        if (∀ j, q j ≤ q x) then BitVec.ofNat 32 ↑x else BitVec.ofNat 32 K)).toInt
      = Finset.univ.fold min (2147483647 : ℤ) (fun x : Fin K => if (∀ j, q j ≤ q x) then ((x : ℕ) : ℤ) else (K : ℤ)) := by
    rw [toInt_fold_minsi]
    congr 1
    funext x
    have hx := x.isLt
    split_ifs
    · exact toInt_small (by omega)
    · exact toInt_small hK
  generalize Finset.univ.fold IntOp.minsi (2147483647#32) (fun x : Fin K =>
        if (∀ j, q j ≤ q x) then BitVec.ofNat 32 ↑x else BitVec.ofNat 32 K) = w at hv
  have hiff : (BitVec.ofNat 32 ↑k = w) ↔ IsFirstMax q k := by
    rw [← BitVec.toInt_inj, hv, toInt_small (by omega)]
    constructor
    · intro h
      have hle := h.ge
      have hge := h.le
      rw [Finset.fold_min_le] at hle
      rw [Finset.le_fold_min] at hge
      have hnot : ∀ j < k, ¬ ∀ i, q i ≤ q j := by
        intro j hj hp
        have := hge.2 j (Finset.mem_univ j)
        rw [if_pos hp] at this
        have : (k : ℕ) ≤ j := by exact_mod_cast this
        exact absurd hj (not_lt.mpr this)
      have hp : ∀ i, q i ≤ q k := by
        rcases hle with h1 | ⟨x, -, hx⟩
        · omega
        · by_cases hpx : ∀ j, q j ≤ q x
          · rw [if_pos hpx] at hx
            have hxk : (x : ℕ) ≤ k := by exact_mod_cast hx
            rcases Nat.lt_or_eq_of_le hxk with hlt | heq
            · exact absurd hpx (hnot x hlt)
            · rw [← Fin.ext heq]; exact hpx
          · rw [if_neg hpx] at hx
            omega
      refine ⟨hp, fun j hj => lt_of_le_of_ne (hp j) fun e => hnot j hj fun i => ?_⟩
      rw [e]; exact hp i
    · rintro ⟨hp, hlt⟩
      refine le_antisymm ?_ ?_
      · rw [Finset.le_fold_min]
        refine ⟨by omega, fun x _ => ?_⟩
        split_ifs with hpx
        · by_contra hc
          have : (x : ℕ) < k := by
            have := not_le.mp hc
            exact_mod_cast this
          exact absurd (hpx k) (not_le.mpr (hlt x this))
        · omega
      · rw [Finset.fold_min_le]
        refine Or.inr ⟨k, Finset.mem_univ k, ?_⟩
        rw [if_pos hp]
  by_cases h : BitVec.ofNat 32 ↑k = w
  · rw [if_pos (hiff.mp h)]
    simp [IntOp.cmpi, h, FloatOps.sitofp]
  · rw [if_neg (fun e => h (hiff.mpr e))]
    have hb : (BitVec.ofNat 32 ↑k == w) = false := by simpa using h
    simp [IntOp.cmpi, hb, FloatOps.sitofp]

end Cert.Val

end

end
-- ==== Proof.Out1.lean ====
module

public import proofs.«01_k».proof.Proof.Gen.KernelIdeal.Frame
public import proofs.«01_k».proof.Proof.Pay1
public import proofs.«01_k».proof.Proof.Pay2
public import proofs.«01_k».proof.Proof.Pool
public import Idealize.ShloMosaic.Lib.Pointwise
public import Idealize.ShloMosaic.Lib.Pipeline.ValueKit

@[expose] public section

set_option maxRecDepth 16384

/-! What each region's body leaves in its output block. -/

noncomputable section

namespace Cert.Val

open Idealize.ShloMosaic Idealize.ShloMosaic.TcCoe
open Cert.KernelIdeal Cert.KernelIdeal.Gen Cert.Spec

/-- Region 0's block holds the sums of the norms and of their squares. -/
theorem out0_at (x0 : Vec Ideal S1x3x1x4096 .f32) (x1 : Vec Ideal S64x1 .f32) (s : Fin 2) (o : Fin 64) :
    out0_2 x0 x1 (ix4 0 0 s o) = if s = 0 then ∑ m, nrm (lin (mat x1) (xin x0 m) o) else ∑ m, nrm (lin (mat x1) (xin x0 m) o) * nrm (lin (mat x1) (xin x0 m) o) := by
  unfold out0_2
  canon_tiles x h
  · idx_vars x
    obtain rfl : s = 1 := Fin.ext (show s.val = 1 by omega)
    obtain rfl : o = x3 := Fin.ext (show o.val = x3.val by omega)
    rw [if_neg (by decide)]
    pointwise [k0_pay1, k0_pay3, k0_pay4, k0_pay2]
    try simp only [lin_one, nrm, dot3]
    try rfl
  · idx_vars x
    obtain rfl : s = 0 := Fin.ext (show s.val = 0 by omega)
    obtain rfl : o = x3 := Fin.ext (show o.val = x3.val by omega)
    rw [if_pos rfl]
    pointwise [k0_pay1, k0_pay3, k0_pay4, k0_pay2]
    try simp only [lin_one, nrm, dot3]
    try rfl

/-- Region 1's block holds the sums of the norms and of their squares. -/
theorem out1_at (x0 : Vec Ideal S1x3x1x4096 .f32) (x1 : Vec Ideal S64x1 .f32) (x2 : Vec Ideal S64x4 .f32) (x3 : Vec Ideal S64x64 .f32) (x4 : Vec Ideal S128x64 .f32) (s : Fin 2) (o : Fin 128) :
    out1_5 x0 x1 x2 x3 x4 (ix4 0 0 s o) = if s = 0 then ∑ m, nrm (lin (mat x4) (layer (mat x1) (mat x2) (mat x3) (xin x0 m)) o) else ∑ m, nrm (lin (mat x4) (layer (mat x1) (mat x2) (mat x3) (xin x0 m)) o) * nrm (lin (mat x4) (layer (mat x1) (mat x2) (mat x3) (xin x0 m)) o) := by
  unfold out1_5
  canon_tiles x h
  · idx_vars x
    obtain rfl : s = 1 := Fin.ext (show s.val = 1 by omega)
    obtain rfl : o = x3 := Fin.ext (show o.val = x3.val by omega)
    rw [if_neg (by decide)]
    pointwise [k1_pay1, k1_pay25, k1_pay24, k1_pay23]
    try simp only [k1_pay32_at, k1_pay33_at, k1_pay34_at, k1_pay35_at, k1_pay36_at, k1_pay37_at, k1_pay38_at, k1_pay39_at, k1_pay40_at]
    try rfl
  · idx_vars x
    obtain rfl : s = 0 := Fin.ext (show s.val = 0 by omega)
    obtain rfl : o = x3 := Fin.ext (show o.val = x3.val by omega)
    rw [if_pos rfl]
    pointwise [k1_pay1, k1_pay25, k1_pay24, k1_pay23]
    try simp only [k1_pay32_at, k1_pay33_at, k1_pay34_at, k1_pay35_at, k1_pay36_at, k1_pay37_at, k1_pay38_at, k1_pay39_at, k1_pay40_at]
    try rfl

/-- The 0/1 array that marks, along the last axis, the first position of the largest entry. -/
def mark2 (q : FVec Ideal S128x128x32 .f32) : FVec Ideal S128x128x32 .f32 :=
  have v214 : FVec Ideal S128x128 .f32 := multiReduction .maximumf [2] S128x128 q 0xFF800000#32 reduces_S128x128x32_S128x128 (.inl rfl) rfl
  have v215 : FVec Ideal S128x128x1 .f32 := shapeCast S128x128x1 v214 shapeCasts_S128x128_S128x128x1
  have v216 : IVec S128x128x32 32 := iota .tc S128x128x32 32 [2] iota_S128x128x32_d2_w32
  have v217 : FVec Ideal S128x128x32 .f32 := broadcastTo S128x128x32 v215 broadcasts_S128x128x1_S128x128x32
  have v218 : IVec S128x128x32 1 := cmpf .oge q v217
  have v219 : IVec S128x128x32 32 := broadcast S128x128x32 32#32
  have v220 : IVec S128x128x32 32 := select v218 v216 v219
  have v221 : IVec S128x128 32 := multiReductionI .minsi [2] S128x128 v220 2147483647#32 reduces_S128x128x32_S128x128 rfl
  have v222 : IVec S128x128x1 32 := shapeCast S128x128x1 v221 shapeCasts_S128x128_S128x128x1
  have v223 : IVec S128x128x32 32 := broadcastTo S128x128x32 v222 broadcasts_S128x128x1_S128x128x32
  have v224 : IVec S128x128x32 1 := cmpi .eq v216 v223
  have v225 : IVec S128x128x32 32 := extui 32 v224 natLt_1_32
  have v226 : FVec Ideal S128x128x32 .f32 := sitofp .f32 v225
  v226

/-- The position in a block of neighbour `k` of centre `s`. -/
def nbr2 (s : Fin 128) (k : Fin 32) : Fin 4096 := ⟨(s : ℕ) * 32 + k, by omega⟩

/-- Coordinate 1 after the second layer. -/
theorem h1_2 (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay46 (k2_pay73 x0 x1 x2 x3 x4 x5 x6) (k2_pay78 x0 x1 x2 x3 x4 x5 x6) (k2_pay80 x0 x1 x2 x3 x4 x5 x6) (ix2 o m) = layer (mat x4) (mat x5) (mat x6) (layer (mat x1) (mat x2) (mat x3) (xin x0 m)) o 1 := by
  pointwise [k2_pay46]
  simp only [k2_pay73_at, k2_pay74_at, k2_pay75_at, k2_pay76_at, k2_pay77_at, k2_pay78_at, k2_pay80_at]
  rfl

/-- Coordinate 2 after the second layer. -/
theorem h2_2 (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (m : Fin 4096) :
    k2_pay47 (k2_pay74 x0 x1 x2 x3 x4 x5 x6) (k2_pay75 x0 x1 x2 x3 x4 x5 x6) (k2_pay76 x0 x1 x2 x3 x4 x5 x6) (k2_pay77 x0 x1 x2 x3 x4 x5 x6) (k2_pay78 x0 x1 x2 x3 x4 x5 x6) (ix2 o m) = layer (mat x4) (mat x5) (mat x6) (layer (mat x1) (mat x2) (mat x3) (xin x0 m)) o 2 := by
  pointwise [k2_pay47]
  simp only [k2_pay73_at, k2_pay74_at, k2_pay75_at, k2_pay76_at, k2_pay77_at, k2_pay78_at, k2_pay80_at]
  rfl

/-- The marks are the 0/1 values of being the first maximum. -/
theorem mark2_at (q : FVec Ideal S128x128x32 .f32) (o : Fin 128) (s : Fin 128) (k : Fin 32) [Decidable (IsFirstMax (fun j => q (ix3 o s j)) k)] :
    mark2 q (ix3 o s k) = if IsFirstMax (fun j => q (ix3 o s j)) k then 1 else 0 := by
  pointwise [mark2]
  refine (mark_val (K := 32) (by decide) (fun j => q (ix3 o s j)) k).trans ?_
  congr

/-- The reshape that splits a block's positions into centres and neighbours. -/
theorem cast2_at (A : FVec Ideal S128x4096 .f32) (o : Fin 128) (s : Fin 128) (k : Fin 32) :
    shapeCast S128x128x32 A shapeCasts_S128x4096_S128x128x32 (ix3 o s k) = A (ix2 o (nbr2 s k)) := by
  pointwise
  rfl

/-- The selecting sum, coordinate 2. -/
theorem st2_2 (A : FVec Ideal S128x4096 .f32) (B : FVec Ideal S128x128x32 .f32) (a b : Fin 1) (o : Fin 128) (s : Fin 128) :
    k2_pay3 A B (ix4 a b o s) = ∑ k : Fin 32, A (ix2 o (nbr2 s k)) * B (ix3 o s k) := by
  pointwise [k2_pay3]
  rfl

/-- The selecting sum, coordinate 1. -/
theorem st1_2 (A : FVec Ideal S128x4096 .f32) (B : FVec Ideal S128x128x32 .f32) (a b : Fin 1) (o : Fin 128) (s : Fin 128) :
    k2_pay2 A B (ix4 a b o s) = ∑ k : Fin 32, A (ix2 o (nbr2 s k)) * B (ix3 o s k) := by
  pointwise [k2_pay2]
  rfl

/-- The selecting sum, coordinate 0. -/
theorem st0_2 (v142 v144 v148 v153 v158 v162 v177 v181 : FVec Ideal S128x4096 .f32) (a b : Fin 1) (o : Fin 128) (s : Fin 128) :
    k2_pay1 (k2_pay49 v142 v144 v148 v153 v158 v162 v177 v181) (ix4 a b o s) = ∑ k : Fin 32, v177 (ix2 o (nbr2 s k)) * k2_pay48 v142 v144 v148 v153 v158 v162 v177 v181 (ix3 o s k) := by
  pointwise [k2_pay1, k2_pay49]
  rfl

open Classical in
/-- The selection array of the body at a position. -/
theorem sel2_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (o : Fin 128) (s : Fin 128) (k : Fin 32) :
    k2_pay81 x0 x1 x2 x3 x4 x5 x6 (ix3 o s k)
      = if IsFirstMax (fun k => dot3 ((layer (mat x4) (mat x5) (mat x6) (layer (mat x1) (mat x2) (mat x3) (xin x0 (nbr2 s k)))) o) ((layer (mat x4) (mat x5) (mat x6) (layer (mat x1) (mat x2) (mat x3) (xin x0 (nbr2 s k)))) o)) k then 1 else 0 := by
  refine (mark2_at (shapeCast S128x128x32 (addf (addf (mulf (k2_pay79 x0 x1 x2 x3 x4 x5 x6) (k2_pay79 x0 x1 x2 x3 x4 x5 x6)) (mulf (k2_pay46 (k2_pay73 x0 x1 x2 x3 x4 x5 x6) (k2_pay78 x0 x1 x2 x3 x4 x5 x6) (k2_pay80 x0 x1 x2 x3 x4 x5 x6)) (k2_pay46 (k2_pay73 x0 x1 x2 x3 x4 x5 x6) (k2_pay78 x0 x1 x2 x3 x4 x5 x6) (k2_pay80 x0 x1 x2 x3 x4 x5 x6)))) (mulf (k2_pay47 (k2_pay74 x0 x1 x2 x3 x4 x5 x6) (k2_pay75 x0 x1 x2 x3 x4 x5 x6) (k2_pay76 x0 x1 x2 x3 x4 x5 x6) (k2_pay77 x0 x1 x2 x3 x4 x5 x6) (k2_pay78 x0 x1 x2 x3 x4 x5 x6)) (k2_pay47 (k2_pay74 x0 x1 x2 x3 x4 x5 x6) (k2_pay75 x0 x1 x2 x3 x4 x5 x6) (k2_pay76 x0 x1 x2 x3 x4 x5 x6) (k2_pay77 x0 x1 x2 x3 x4 x5 x6) (k2_pay78 x0 x1 x2 x3 x4 x5 x6)))) shapeCasts_S128x4096_S128x128x32) o s k).trans ?_
  congr 1
  refine congrArg (fun q => IsFirstMax q k) (funext fun j => ?_)
  refine (cast2_at _ o s j).trans ?_
  rw [addf_apply, addf_apply, mulf_apply, mulf_apply, mulf_apply, h1_2, h2_2, k2_pay79_at]
  rfl

/-- Region 2's block holds the pooled second layer. -/
theorem out2_at (x0 : Vec Ideal S1x3x1x4096 .f32) (x1 : Vec Ideal S64x1 .f32) (x2 : Vec Ideal S64x4 .f32) (x3 : Vec Ideal S64x64 .f32) (x4 : Vec Ideal S128x64 .f32) (x5 : Vec Ideal S128x4 .f32) (x6 : Vec Ideal S128x128 .f32) (d : Fin 3) (o : Fin 128) (s : Fin 128) :
    out2_7 x0 x1 x2 x3 x4 x5 x6 (ix4 0 d o s) = pool (fun k => (layer (mat x4) (mat x5) (mat x6) (layer (mat x1) (mat x2) (mat x3) (xin x0 (nbr2 s k)))) o) d := by
  classical
  unfold Cert.Spec.pool out2_7
  canon_tiles x h
  · idx_vars x
    obtain rfl : d = 2 := Fin.ext (show d.val = 2 by omega)
    obtain rfl : o = x2 := Fin.ext (show o.val = x2.val by omega)
    obtain rfl : s = x3 := Fin.ext (show s.val = x3.val by omega)
    refine (st2_2 _ _ _ _ _ _).trans ?_
    exact Finset.sum_congr rfl fun k _ => (congrArg₂ (· * ·) (h2_2 _ _ _ _ _ _ _ _ _) (sel2_at _ _ _ _ _ _ _ _ _ k)).trans
      (by simp only [mul_ite, mul_one, mul_zero]; try rfl)
  · idx_vars x
    obtain rfl : d = 1 := Fin.ext (show d.val = 1 by omega)
    obtain rfl : o = x2 := Fin.ext (show o.val = x2.val by omega)
    obtain rfl : s = x3 := Fin.ext (show s.val = x3.val by omega)
    refine (st1_2 _ _ _ _ _ _).trans ?_
    exact Finset.sum_congr rfl fun k _ => (congrArg₂ (· * ·) (h1_2 _ _ _ _ _ _ _ _ _) (sel2_at _ _ _ _ _ _ _ _ _ k)).trans
      (by simp only [mul_ite, mul_one, mul_zero]; try rfl)
  · idx_vars x
    obtain rfl : d = 0 := Fin.ext (show d.val = 0 by omega)
    obtain rfl : o = x2 := Fin.ext (show o.val = x2.val by omega)
    obtain rfl : s = x3 := Fin.ext (show s.val = x3.val by omega)
    refine (st0_2 _ _ _ _ _ _ _ _ _ _ _ _).trans ?_
    exact Finset.sum_congr rfl fun k _ => (congrArg₂ (· * ·) (k2_pay79_at _ _ _ _ _ _ _ _ _) (sel2_at _ _ _ _ _ _ _ _ _ k)).trans
      (by simp only [mul_ite, mul_one, mul_zero]; try rfl)

end Cert.Val

end

end
-- ==== Proof.Reg0.lean ====
module

public import proofs.«01_k».proof.Proof.Out1
public import proofs.«01_k».proof.Proof.Spec2
public import Idealize.ShloMosaic.Lib.Pipeline.ValueKit

@[expose] public section

set_option maxRecDepth 16384

noncomputable section

open Idealize.ShloMosaic Idealize.ShloMosaic.TcCoe
open Cert.KernelIdeal Cert.KernelIdeal.Gen Cert.Spec

namespace Cert.Val

variable (V : (c : Dev nD) → (b : Ref sig .tc) → Buf (Elt Ideal) ((c : Thread nD τ).loc b))

/-- What region 0 leaves in its result array: the two statistics of each block of positions. -/
def res0 (x : FVec Ideal S16x3x1x8192 .f32) (w1 : FVec Ideal S64x1 .f32) : FVec Ideal S16x2x2x64 .f32 := fun i =>
  stat (fun m : Fin 4096 => nrm (lin (mat w1) (xpos x (i 0) (tile 2 4096 rfl (i 1) m)) (i 3))) (i 2)

theorem idx0 : ∀ t : Fin cfg0.N, win0_0.index t = ![t.val / 2, 0, 0, t.val % 2] ∧ win0_1.index t = ![0, 0] ∧ win0_2.index t = ![t.val / 2, t.val % 2, 0, 0] ∧ t.val / 2 < 16 ∧ t.val % 2 < 2 :=
  (by decide +kernel : ∀ t : Fin grid0.N, _)

theorem mat0_1 (c : Dev nD) (t : Fin cfg0.N) : mat (show FVec Ideal S64x1 .f32 from iblk0 V c 1 t) = mat (show FVec Ideal S64x1 .f32 from V c main_arg3) := by
  funext a b; unfold mat; blk_ext! [iblk0, idx0 t]

theorem x0_0 (c : Dev nD) (t : Fin cfg0.N) (b : Fin 16) (j : Fin 2) (hb : b.val = t.val / 2) (hj : j.val = t.val % 2) (m : Fin 4096) :
    xin (show FVec Ideal S1x3x1x4096 .f32 from iblk0 V c 0 t) m = xpos (show FVec Ideal S16x3x1x8192 .f32 from V c main_v25) b (tile 2 4096 rfl j m) := by
  funext a d; unfold xin xpos tile; blk_ext! [iblk0, idx0 t]

/-- Region 0's result array after its run. -/
theorem final0 (c : Dev nD) : (dat0 V c).arrAt 2 cfg0.N = res0 (V c main_v25) (V c main_arg3) := by
  refine Pipeline.Dat.arrAt_eq_of_covers (dat0 V c) 2 _ (by decide +kernel) fun t _ y => ?_
  blk_simp
  rw [after0_2]
  obtain ⟨_, _, hw, hb, hj⟩ := idx0 t
  have hy : ((cfg0.win 2).blk t).view.emb y = ix4 (⟨t.val / 2, hb⟩ : Fin 16) (⟨t.val % 2, hj⟩ : Fin 2) (y 2 : Fin 2) (y 3 : Fin 64) := by
    blk_ext [hw]
  rw [hy]
  have hy' : y = ix4 (0 : Fin 1) (0 : Fin 1) (y 2 : Fin 2) (y 3 : Fin 64) := by blk_ext []
  refine (congrArg (out0_2 (iblk0 V c 0 t) (iblk0 V c 1 t)) hy').trans ((out0_at (iblk0 V c 0 t) (iblk0 V c 1 t) (y 2) (y 3)).trans ?_)
  have hx := x0_0 V c t ⟨t.val / 2, hb⟩ (⟨t.val % 2, hj⟩ : Fin 2) rfl rfl
  have hm1 := mat0_1 V c t
  dsimp only at hx hm1
  simp only [hx, hm1]
  rfl
end Cert.Val

end

end
-- ==== Proof.Reg1.lean ====
module

public import proofs.«01_k».proof.Proof.Out1
public import proofs.«01_k».proof.Proof.Spec2
public import Idealize.ShloMosaic.Lib.Pipeline.ValueKit

@[expose] public section

set_option maxRecDepth 16384

noncomputable section

open Idealize.ShloMosaic Idealize.ShloMosaic.TcCoe
open Cert.KernelIdeal Cert.KernelIdeal.Gen Cert.Spec

namespace Cert.Val

variable (V : (c : Dev nD) → (b : Ref sig .tc) → Buf (Elt Ideal) ((c : Thread nD τ).loc b))

/-- What region 1 leaves in its result array: the two statistics of each block of positions. -/
def res1 (x : FVec Ideal S16x3x1x8192 .f32) (w1 : FVec Ideal S64x1 .f32) (w2 : FVec Ideal S64x4 .f32) (w3 : FVec Ideal S64x64 .f32) (w4 : FVec Ideal S128x64 .f32) : FVec Ideal S16x2x2x128 .f32 := fun i =>
  stat (fun m : Fin 4096 => nrm (lin (mat w4) (layer (mat w1) (mat w2) (mat w3) (xpos x (i 0) (tile 2 4096 rfl (i 1) m))) (i 3))) (i 2)

theorem idx1 : ∀ t : Fin cfg1.N, win1_0.index t = ![t.val / 2, 0, 0, t.val % 2] ∧ win1_1.index t = ![0, 0] ∧ win1_2.index t = ![0, 0] ∧ win1_3.index t = ![0, 0] ∧ win1_4.index t = ![0, 0] ∧ win1_5.index t = ![t.val / 2, t.val % 2, 0, 0] ∧ t.val / 2 < 16 ∧ t.val % 2 < 2 :=
  (by decide +kernel : ∀ t : Fin grid1.N, _)

theorem mat1_1 (c : Dev nD) (t : Fin cfg1.N) : mat (show FVec Ideal S64x1 .f32 from iblk1 V c 1 t) = mat (show FVec Ideal S64x1 .f32 from V c main_arg3) := by
  funext a b; unfold mat; blk_ext! [iblk1, idx1 t]

theorem mat1_2 (c : Dev nD) (t : Fin cfg1.N) : mat (show FVec Ideal S64x4 .f32 from iblk1 V c 2 t) = mat (show FVec Ideal S64x4 .f32 from V c main_v42) := by
  funext a b; unfold mat; blk_ext! [iblk1, idx1 t]

theorem mat1_3 (c : Dev nD) (t : Fin cfg1.N) : mat (show FVec Ideal S64x64 .f32 from iblk1 V c 3 t) = mat (show FVec Ideal S64x64 .f32 from V c main_arg4) := by
  funext a b; unfold mat; blk_ext! [iblk1, idx1 t]

theorem mat1_4 (c : Dev nD) (t : Fin cfg1.N) : mat (show FVec Ideal S128x64 .f32 from iblk1 V c 4 t) = mat (show FVec Ideal S128x64 .f32 from V c main_arg7) := by
  funext a b; unfold mat; blk_ext! [iblk1, idx1 t]

theorem x1_0 (c : Dev nD) (t : Fin cfg1.N) (b : Fin 16) (j : Fin 2) (hb : b.val = t.val / 2) (hj : j.val = t.val % 2) (m : Fin 4096) :
    xin (show FVec Ideal S1x3x1x4096 .f32 from iblk1 V c 0 t) m = xpos (show FVec Ideal S16x3x1x8192 .f32 from V c main_v25) b (tile 2 4096 rfl j m) := by
  funext a d; unfold xin xpos tile; blk_ext! [iblk1, idx1 t]

/-- Region 1's result array after its run. -/
theorem final1 (c : Dev nD) : (dat1 V c).arrAt 5 cfg1.N = res1 (V c main_v25) (V c main_arg3) (V c main_v42) (V c main_arg4) (V c main_arg7) := by
  refine Pipeline.Dat.arrAt_eq_of_covers (dat1 V c) 5 _ (by decide +kernel) fun t _ y => ?_
  blk_simp
  rw [after1_5]
  obtain ⟨_, _, _, _, _, hw, hb, hj⟩ := idx1 t
  have hy : ((cfg1.win 5).blk t).view.emb y = ix4 (⟨t.val / 2, hb⟩ : Fin 16) (⟨t.val % 2, hj⟩ : Fin 2) (y 2 : Fin 2) (y 3 : Fin 128) := by
    blk_ext [hw]
  rw [hy]
  have hy' : y = ix4 (0 : Fin 1) (0 : Fin 1) (y 2 : Fin 2) (y 3 : Fin 128) := by blk_ext []
  refine (congrArg (out1_5 (iblk1 V c 0 t) (iblk1 V c 1 t) (iblk1 V c 2 t) (iblk1 V c 3 t) (iblk1 V c 4 t)) hy').trans ((out1_at (iblk1 V c 0 t) (iblk1 V c 1 t) (iblk1 V c 2 t) (iblk1 V c 3 t) (iblk1 V c 4 t) (y 2) (y 3)).trans ?_)
  have hx := x1_0 V c t ⟨t.val / 2, hb⟩ (⟨t.val % 2, hj⟩ : Fin 2) rfl rfl
  have hm1 := mat1_1 V c t
  have hm2 := mat1_2 V c t
  have hm3 := mat1_3 V c t
  have hm4 := mat1_4 V c t
  dsimp only at hx hm1 hm2 hm3 hm4
  simp only [hx, hm1, hm2, hm3, hm4]
  rfl
end Cert.Val

end

end
-- ==== Proof.Reg2.lean ====
module

public import proofs.«01_k».proof.Proof.Out1
public import proofs.«01_k».proof.Proof.Spec2
public import Idealize.ShloMosaic.Lib.Pipeline.ValueKit

@[expose] public section

set_option maxRecDepth 16384

noncomputable section

open Idealize.ShloMosaic Idealize.ShloMosaic.TcCoe
open Cert.KernelIdeal Cert.KernelIdeal.Gen Cert.Spec

namespace Cert.Val

variable (V : (c : Dev nD) → (b : Ref sig .tc) → Buf (Elt Ideal) ((c : Thread nD τ).loc b))

/-- The block a point lies in, and its place there. -/
def blk2 (s : Fin 256) : Fin 2 := ⟨s.val / 128, by omega⟩
/-- The place of a point in its block. -/
def off2 (s : Fin 256) : Fin 128 := ⟨s.val % 128, by omega⟩

/-- What region 2 leaves in its result array. -/
def res2 (x : FVec Ideal S16x3x1x8192 .f32) (w1 : FVec Ideal S64x1 .f32) (w2 : FVec Ideal S64x4 .f32) (w3 : FVec Ideal S64x64 .f32) (w4 : FVec Ideal S128x64 .f32) (w5 : FVec Ideal S128x4 .f32) (w6 : FVec Ideal S128x128 .f32) : FVec Ideal S16x3x128x256 .f32 := fun i =>
  Cert.Spec.pool (fun k => layer (mat w4) (mat w5) (mat w6) (layer (mat w1) (mat w2) (mat w3) (xpos x (i 0) (tile 2 4096 rfl (blk2 (i 3)) (nbr2 (off2 (i 3)) k)))) (i 2)) (i 1)

theorem idx2 : ∀ t : Fin cfg2.N, win2_0.index t = ![t.val / 2, 0, 0, t.val % 2] ∧ win2_1.index t = ![0, 0] ∧ win2_2.index t = ![0, 0] ∧ win2_3.index t = ![0, 0] ∧ win2_4.index t = ![0, 0] ∧ win2_5.index t = ![0, 0] ∧ win2_6.index t = ![0, 0] ∧ win2_7.index t = ![t.val / 2, 0, 0, t.val % 2] ∧ t.val / 2 < 16 ∧ t.val % 2 < 2 :=
  (by decide +kernel : ∀ t : Fin grid2.N, _)

theorem mat2_1 (c : Dev nD) (t : Fin cfg2.N) : mat (show FVec Ideal S64x1 .f32 from iblk2 V c 1 t) = mat (show FVec Ideal S64x1 .f32 from V c main_arg3) := by
  funext a b; unfold mat; blk_ext! [iblk2, idx2 t]

theorem mat2_2 (c : Dev nD) (t : Fin cfg2.N) : mat (show FVec Ideal S64x4 .f32 from iblk2 V c 2 t) = mat (show FVec Ideal S64x4 .f32 from V c main_v42) := by
  funext a b; unfold mat; blk_ext! [iblk2, idx2 t]

theorem mat2_3 (c : Dev nD) (t : Fin cfg2.N) : mat (show FVec Ideal S64x64 .f32 from iblk2 V c 3 t) = mat (show FVec Ideal S64x64 .f32 from V c main_arg4) := by
  funext a b; unfold mat; blk_ext! [iblk2, idx2 t]

theorem mat2_4 (c : Dev nD) (t : Fin cfg2.N) : mat (show FVec Ideal S128x64 .f32 from iblk2 V c 4 t) = mat (show FVec Ideal S128x64 .f32 from V c main_arg7) := by
  funext a b; unfold mat; blk_ext! [iblk2, idx2 t]

theorem mat2_5 (c : Dev nD) (t : Fin cfg2.N) : mat (show FVec Ideal S128x4 .f32 from iblk2 V c 5 t) = mat (show FVec Ideal S128x4 .f32 from V c main_v59) := by
  funext a b; unfold mat; blk_ext! [iblk2, idx2 t]

theorem mat2_6 (c : Dev nD) (t : Fin cfg2.N) : mat (show FVec Ideal S128x128 .f32 from iblk2 V c 6 t) = mat (show FVec Ideal S128x128 .f32 from V c main_arg8) := by
  funext a b; unfold mat; blk_ext! [iblk2, idx2 t]

theorem x2_0 (c : Dev nD) (t : Fin cfg2.N) (b : Fin 16) (j : Fin 2) (hb : b.val = t.val / 2) (hj : j.val = t.val % 2) (m : Fin 4096) :
    xin (show FVec Ideal S1x3x1x4096 .f32 from iblk2 V c 0 t) m = xpos (show FVec Ideal S16x3x1x8192 .f32 from V c main_v25) b (tile 2 4096 rfl j m) := by
  funext a d; unfold xin xpos tile; blk_ext! [iblk2, idx2 t]

/-- Region 2's result array after its run. -/
theorem final2 (c : Dev nD) : (dat2 V c).arrAt 7 cfg2.N = res2 (V c main_v25) (V c main_arg3) (V c main_v42) (V c main_arg4) (V c main_arg7) (V c main_v59) (V c main_arg8) := by
  refine Pipeline.Dat.arrAt_eq_of_covers (dat2 V c) 7 _ (by decide +kernel) fun t _ y => ?_
  blk_simp
  rw [after2_7]
  obtain ⟨_, _, _, _, _, _, _, hw, hb, hj⟩ := idx2 t
  have hlt : t.val % 2 * 128 + (y 3 : Fin 128).val < 256 := by have h3 : (y 3 : Fin 128).val < 128 := (y 3 : Fin 128).isLt; omega
  have hy : ((cfg2.win 7).blk t).view.emb y = ix4 (⟨t.val / 2, hb⟩ : Fin 16) (y 1 : Fin 3) (y 2 : Fin 128) (⟨t.val % 2 * 128 + (y 3 : Fin 128).val, hlt⟩ : Fin 256) := by
    blk_ext [hw]
  rw [hy]
  have hy' : y = ix4 (0 : Fin 1) (y 1 : Fin 3) (y 2 : Fin 128) (y 3 : Fin 128) := by blk_ext []
  refine (congrArg (out2_7 (iblk2 V c 0 t) (iblk2 V c 1 t) (iblk2 V c 2 t) (iblk2 V c 3 t) (iblk2 V c 4 t) (iblk2 V c 5 t) (iblk2 V c 6 t)) hy').trans ((out2_at (iblk2 V c 0 t) (iblk2 V c 1 t) (iblk2 V c 2 t) (iblk2 V c 3 t) (iblk2 V c 4 t) (iblk2 V c 5 t) (iblk2 V c 6 t) (y 1) (y 2) (y 3)).trans ?_)
  have hx := x2_0 V c t ⟨t.val / 2, hb⟩ (⟨t.val % 2, hj⟩ : Fin 2) rfl rfl
  have hm1 := mat2_1 V c t
  have hm2 := mat2_2 V c t
  have hm3 := mat2_3 V c t
  have hm4 := mat2_4 V c t
  have hm5 := mat2_5 V c t
  have hm6 := mat2_6 V c t
  dsimp only at hx hm1 hm2 hm3 hm4 hm5 hm6
  simp only [hx, hm1, hm2, hm3, hm4, hm5, hm6]
  have e1 : blk2 (⟨t.val % 2 * 128 + (y 3 : Fin 128).val, hlt⟩ : Fin 256) = ⟨t.val % 2, hj⟩ := Fin.ext (show (t.val % 2 * 128 + (y 3 : Fin 128).val) / 128 = t.val % 2 by have h3 : (y 3 : Fin 128).val < 128 := (y 3 : Fin 128).isLt; omega)
  have e2 : off2 (⟨t.val % 2 * 128 + (y 3 : Fin 128).val, hlt⟩ : Fin 256) = (y 3 : Fin 128) := Fin.ext (show (t.val % 2 * 128 + (y 3 : Fin 128).val) % 128 = (y 3 : Fin 128).val by have h3 : (y 3 : Fin 128).val < 128 := (y 3 : Fin 128).isLt; omega)
  unfold res2
  dsimp only [ix4]
  simp only [e1, e2]
  first | rfl | skip
end Cert.Val

end

end
-- ==== Proof.Pay4.lean ====
module

public import proofs.«01_k».proof.Proof.Gen.KernelIdeal.Frame
public import proofs.«01_k».proof.Proof.Mask
public import Idealize.ShloMosaic.Lib.Pointwise
public import Idealize.ShloMosaic.Lib.Pipeline.ValueKit

@[expose] public section

set_option maxRecDepth 16384

/-! What region 4's body computes at each position, in the words of the specification. -/

noncomputable section

namespace Cert.Val

open Idealize.ShloMosaic Idealize.ShloMosaic.TcCoe
open Cert.KernelIdeal Cert.KernelIdeal.Gen Cert.Spec

/-- The value `v8` at a position. -/
theorem k4_pay24_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay24 x0 x1 x2 x3 x4 (ix2 o m) = lin (mat x1) (xin x0 m) o 1 := by
  pointwise [k4_pay24, k4_pay3]
  try simp only [mask_eq]
  try rfl

/-- The value `v9` at a position. -/
theorem k4_pay25_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay25 x0 x1 x2 x3 x4 (ix2 o m) = lin (mat x1) (xin x0 m) o 2 := by
  pointwise [k4_pay25, k4_pay4]
  try simp only [mask_eq]
  try rfl

/-- The value `v17` at a position. -/
theorem k4_pay26_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay26 x0 x1 x2 x3 x4 (ix2 o m) = nrm (lin (mat x1) (xin x0 m) o) := by
  pointwise [k4_pay26, k4_pay5, k4_pay2, k4_pay3, k4_pay4]
  try simp only [mask_eq]
  try rfl

/-- The value `v34` at a position. -/
theorem k4_pay27_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay27 x0 x1 x2 x3 x4 (ix2 o m) = bnv (x2 (ix2 o 0)) (x2 (ix2 o 1)) (x2 (ix2 o 2)) (x2 (ix2 o 3)) (nrm (lin (mat x1) (xin x0 m) o)) := by
  pointwise [k4_pay27, k4_pay6, k4_pay5, k4_pay2, k4_pay3, k4_pay4]
  try simp only [mask_eq]
  try rfl

/-- The value `v36` at a position. -/
theorem k4_pay28_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay28 x0 x1 x2 x3 x4 (ix2 o m) = bnl (mat x2) (lin (mat x1) (xin x0 m)) o 0 := by
  pointwise [k4_pay28, k4_pay7, k4_pay2, k4_pay5, k4_pay6, k4_pay3, k4_pay4]
  try simp only [mask_eq]
  try rfl

/-- The value `v40` at a position. -/
theorem k4_pay29_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay29 x0 x1 x2 x3 x4 (ix2 o m) = bnl (mat x2) (lin (mat x1) (xin x0 m)) o 2 := by
  pointwise [k4_pay29, k4_pay9]
  try simp only [k4_pay25_at, k4_pay26_at, k4_pay27_at, mask_eq]
  try rfl

/-- The value `v44` at a position. -/
theorem k4_pay30_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay30 x0 x1 x2 x3 x4 (ix2 o m) = lin (mat x3) (bnl (mat x2) (lin (mat x1) (xin x0 m))) o 2 := by
  pointwise [k4_pay30, k4_pay12, k4_pay9]
  try simp only [k4_pay25_at, k4_pay26_at, k4_pay27_at, mask_eq]
  try rfl

/-- The value `v49` at a position. -/
theorem k4_pay31_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay31 x0 x1 x2 x3 x4 (ix2 o m) = dot3 (bnl (mat x2) (lin (mat x1) (xin x0 m)) o) (lin (mat x3) (bnl (mat x2) (lin (mat x1) (xin x0 m))) o) := by
  pointwise [k4_pay31, k4_pay13, k4_pay10, k4_pay8, k4_pay11, k4_pay9, k4_pay12]
  try simp only [k4_pay24_at, k4_pay25_at, k4_pay26_at, k4_pay27_at, k4_pay28_at, mask_eq]
  try rfl

/-- The value `v54` at a position. -/
theorem k4_pay32_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay32 x0 x1 x2 x3 x4 (ix2 o m) = dot3 (lin (mat x3) (bnl (mat x2) (lin (mat x1) (xin x0 m))) o) (lin (mat x3) (bnl (mat x2) (lin (mat x1) (xin x0 m))) o) := by
  pointwise [k4_pay32, k4_pay14, k4_pay10, k4_pay11, k4_pay12, k4_pay8, k4_pay9]
  try simp only [k4_pay24_at, k4_pay25_at, k4_pay26_at, k4_pay27_at, k4_pay28_at, mask_eq]
  try rfl

/-- The value `v58` at a position. -/
theorem k4_pay33_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay33 x0 x1 x2 x3 x4 (ix2 o m) = mask (dot3 (bnl (mat x2) (lin (mat x1) (xin x0 m)) o) (lin (mat x3) (bnl (mat x2) (lin (mat x1) (xin x0 m))) o)) := by
  pointwise [k4_pay33, k4_pay15, k4_pay13, k4_pay10, k4_pay8, k4_pay11, k4_pay9, k4_pay12]
  try simp only [k4_pay24_at, k4_pay25_at, k4_pay26_at, k4_pay27_at, k4_pay28_at, mask_eq]
  try rfl

/-- The value `v73` at a position. -/
theorem k4_pay34_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay34 x0 x1 x2 x3 x4 (ix2 o m) = act (mat x3) (bnl (mat x2) (lin (mat x1) (xin x0 m))) o 0 := by
  pointwise [k4_pay34, k4_pay16, k4_pay14, k4_pay13, k4_pay10, k4_pay15, k4_pay11, k4_pay12, k4_pay8, k4_pay9]
  try simp only [k4_pay24_at, k4_pay25_at, k4_pay26_at, k4_pay27_at, k4_pay28_at, mask_eq]
  try rfl

/-- The value `v78` at a position. -/
theorem k4_pay35_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay35 x0 x1 x2 x3 x4 (ix2 o m) = bnl (mat x2) (lin (mat x1) (xin x0 m)) o 1 - Ideal.div (dot3 (bnl (mat x2) (lin (mat x1) (xin x0 m)) o) (lin (mat x3) (bnl (mat x2) (lin (mat x1) (xin x0 m))) o)) (dot3 (lin (mat x3) (bnl (mat x2) (lin (mat x1) (xin x0 m))) o) (lin (mat x3) (bnl (mat x2) (lin (mat x1) (xin x0 m))) o) + eps) * lin (mat x3) (bnl (mat x2) (lin (mat x1) (xin x0 m))) o 1 := by
  pointwise [k4_pay35, k4_pay17, k4_pay14, k4_pay13, k4_pay11, k4_pay8, k4_pay10, k4_pay12, k4_pay9]
  try simp only [k4_pay24_at, k4_pay25_at, k4_pay26_at, k4_pay27_at, k4_pay28_at, mask_eq]
  try rfl

/-- The value `v80` at a position. -/
theorem k4_pay36_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay36 x0 x1 x2 x3 x4 (ix2 o m) = neg * bnl (mat x2) (lin (mat x1) (xin x0 m)) o 1 := by
  pointwise [k4_pay36, k4_pay18, k4_pay8]
  try simp only [k4_pay24_at, k4_pay26_at, k4_pay27_at, mask_eq]
  try rfl

/-- The value `v81` at a position. -/
theorem k4_pay37_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay37 x0 x1 x2 x3 x4 (ix2 o m) = mask (dot3 (bnl (mat x2) (lin (mat x1) (xin x0 m)) o) (lin (mat x3) (bnl (mat x2) (lin (mat x1) (xin x0 m))) o)) * bnl (mat x2) (lin (mat x1) (xin x0 m)) o 1 := by
  pointwise [k4_pay37, k4_pay19, k4_pay15, k4_pay8, k4_pay13, k4_pay10, k4_pay11, k4_pay9, k4_pay12]
  try simp only [k4_pay24_at, k4_pay25_at, k4_pay26_at, k4_pay27_at, k4_pay28_at, mask_eq]
  try rfl

/-- The value `v83` at a position. -/
theorem k4_pay38_at (x0 : Vec Ideal S1x3x129x2048 .f32) (x1 : Vec Ideal S128x129 .f32) (x2 : Vec Ideal S128x4 .f32) (x3 : Vec Ideal S128x128 .f32) (x4 : Vec Ideal S256x128 .f32) (o : Fin 128) (m : Fin 2048) :
    k4_pay38 x0 x1 x2 x3 x4 (ix2 o m) = 1 - mask (dot3 (bnl (mat x2) (lin (mat x1) (xin x0 m)) o) (lin (mat x3) (bnl (mat x2) (lin (mat x1) (xin x0 m))) o)) := by
  pointwise [k4_pay38, k4_pay20, k4_pay15, k4_pay13, k4_pay10, k4_pay8, k4_pay11, k4_pay9, k4_pay12]
  try simp only [k4_pay24_at, k4_pay25_at, k4_pay26_at, k4_pay27_at, k4_pay28_at, mask_eq]
  try rfl

end Cert.Val

end

end
-- ==== Proof.Pay5.lean ====
module

public import proofs.«01_k».proof.Proof.Gen.KernelIdeal.Frame
public import proofs.«01_k».proof.Proof.Mask
public import Idealize.ShloMosaic.Lib.Pointwise
public import Idealize.ShloMosaic.Lib.Pipeline.ValueKit

@[expose] public section

set_option maxRecDepth 16384

/-! What region 5's body computes at each position, in the words of the specification. -/

noncomputable section

namespace Cert.Val

open Idealize.ShloMosaic Idealize.ShloMosaic.TcCoe
open Cert.KernelIdeal Cert.KernelIdeal.Gen Cert.Spec

/-- The value `v8` at a position. -/
theorem k5_pay48_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay48 x0 x1 x2 x3 x4 x5 x6 (ix2 o m) = lin (mat x1) (xin x0 m) o 1 := by
  pointwise [k5_pay48, k5_pay5]
  try simp only [mask_eq]
  try rfl

/-- The value `v9` at a position. -/
theorem k5_pay49_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay49 x0 x1 x2 x3 x4 x5 x6 (ix2 o m) = lin (mat x1) (xin x0 m) o 2 := by
  pointwise [k5_pay49, k5_pay6]
  try simp only [mask_eq]
  try rfl

/-- The value `v17` at a position. -/
theorem k5_pay50_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay50 x0 x1 x2 x3 x4 x5 x6 (ix2 o m) = nrm (lin (mat x1) (xin x0 m) o) := by
  pointwise [k5_pay50, k5_pay7, k5_pay4, k5_pay5, k5_pay6]
  try simp only [mask_eq]
  try rfl

/-- The value `v34` at a position. -/
theorem k5_pay51_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay51 x0 x1 x2 x3 x4 x5 x6 (ix2 o m) = bnv (x2 (ix2 o 0)) (x2 (ix2 o 1)) (x2 (ix2 o 2)) (x2 (ix2 o 3)) (nrm (lin (mat x1) (xin x0 m) o)) := by
  pointwise [k5_pay51, k5_pay8, k5_pay7, k5_pay4, k5_pay5, k5_pay6]
  try simp only [mask_eq]
  try rfl

/-- The value `v36` at a position. -/
theorem k5_pay52_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay52 x0 x1 x2 x3 x4 x5 x6 (ix2 o m) = bnl (mat x2) (lin (mat x1) (xin x0 m)) o 0 := by
  pointwise [k5_pay52, k5_pay9, k5_pay4, k5_pay7, k5_pay8, k5_pay5, k5_pay6]
  try simp only [mask_eq]
  try rfl

/-- The value `v40` at a position. -/
theorem k5_pay53_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay53 x0 x1 x2 x3 x4 x5 x6 (ix2 o m) = bnl (mat x2) (lin (mat x1) (xin x0 m)) o 2 := by
  pointwise [k5_pay53, k5_pay11]
  try simp only [k5_pay49_at, k5_pay50_at, k5_pay51_at, mask_eq]
  try rfl

/-- The value `v44` at a position. -/
theorem k5_pay54_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay54 x0 x1 x2 x3 x4 x5 x6 (ix2 o m) = lin (mat x3) (bnl (mat x2) (lin (mat x1) (xin x0 m))) o 2 := by
  pointwise [k5_pay54, k5_pay14, k5_pay11]
  try simp only [k5_pay49_at, k5_pay50_at, k5_pay51_at, mask_eq]
  try rfl

/-- The value `v49` at a position. -/
theorem k5_pay55_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay55 x0 x1 x2 x3 x4 x5 x6 (ix2 o m) = dot3 (bnl (mat x2) (lin (mat x1) (xin x0 m)) o) (lin (mat x3) (bnl (mat x2) (lin (mat x1) (xin x0 m))) o) := by
  pointwise [k5_pay55, k5_pay15, k5_pay12, k5_pay10, k5_pay13, k5_pay11, k5_pay14]
  try simp only [k5_pay48_at, k5_pay49_at, k5_pay50_at, k5_pay51_at, k5_pay52_at, mask_eq]
  try rfl

/-- The value `v54` at a position. -/
theorem k5_pay56_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay56 x0 x1 x2 x3 x4 x5 x6 (ix2 o m) = dot3 (lin (mat x3) (bnl (mat x2) (lin (mat x1) (xin x0 m))) o) (lin (mat x3) (bnl (mat x2) (lin (mat x1) (xin x0 m))) o) := by
  pointwise [k5_pay56, k5_pay16, k5_pay12, k5_pay13, k5_pay14, k5_pay10, k5_pay11]
  try simp only [k5_pay48_at, k5_pay49_at, k5_pay50_at, k5_pay51_at, k5_pay52_at, mask_eq]
  try rfl

/-- The value `v58` at a position. -/
theorem k5_pay57_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay57 x0 x1 x2 x3 x4 x5 x6 (ix2 o m) = mask (dot3 (bnl (mat x2) (lin (mat x1) (xin x0 m)) o) (lin (mat x3) (bnl (mat x2) (lin (mat x1) (xin x0 m))) o)) := by
  pointwise [k5_pay57, k5_pay17, k5_pay15, k5_pay12, k5_pay10, k5_pay13, k5_pay11, k5_pay14]
  try simp only [k5_pay48_at, k5_pay49_at, k5_pay50_at, k5_pay51_at, k5_pay52_at, mask_eq]
  try rfl

/-- The value `v73` at a position. -/
theorem k5_pay58_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay58 x0 x1 x2 x3 x4 x5 x6 (ix2 o m) = act (mat x3) (bnl (mat x2) (lin (mat x1) (xin x0 m))) o 0 := by
  pointwise [k5_pay58, k5_pay18, k5_pay16, k5_pay15, k5_pay12, k5_pay17, k5_pay13, k5_pay14, k5_pay10, k5_pay11]
  try simp only [k5_pay48_at, k5_pay49_at, k5_pay50_at, k5_pay51_at, k5_pay52_at, mask_eq]
  try rfl

/-- The value `v78` at a position. -/
theorem k5_pay59_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay59 x0 x1 x2 x3 x4 x5 x6 (ix2 o m) = bnl (mat x2) (lin (mat x1) (xin x0 m)) o 1 - Ideal.div (dot3 (bnl (mat x2) (lin (mat x1) (xin x0 m)) o) (lin (mat x3) (bnl (mat x2) (lin (mat x1) (xin x0 m))) o)) (dot3 (lin (mat x3) (bnl (mat x2) (lin (mat x1) (xin x0 m))) o) (lin (mat x3) (bnl (mat x2) (lin (mat x1) (xin x0 m))) o) + eps) * lin (mat x3) (bnl (mat x2) (lin (mat x1) (xin x0 m))) o 1 := by
  pointwise [k5_pay59, k5_pay19, k5_pay16, k5_pay15, k5_pay13, k5_pay10, k5_pay12, k5_pay14, k5_pay11]
  try simp only [k5_pay48_at, k5_pay49_at, k5_pay50_at, k5_pay51_at, k5_pay52_at, mask_eq]
  try rfl

/-- The value `v80` at a position. -/
theorem k5_pay60_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay60 x0 x1 x2 x3 x4 x5 x6 (ix2 o m) = neg * bnl (mat x2) (lin (mat x1) (xin x0 m)) o 1 := by
  pointwise [k5_pay60, k5_pay20, k5_pay10]
  try simp only [k5_pay48_at, k5_pay50_at, k5_pay51_at, mask_eq]
  try rfl

/-- The value `v81` at a position. -/
theorem k5_pay61_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay61 x0 x1 x2 x3 x4 x5 x6 (ix2 o m) = mask (dot3 (bnl (mat x2) (lin (mat x1) (xin x0 m)) o) (lin (mat x3) (bnl (mat x2) (lin (mat x1) (xin x0 m))) o)) * bnl (mat x2) (lin (mat x1) (xin x0 m)) o 1 := by
  pointwise [k5_pay61, k5_pay21, k5_pay17, k5_pay10, k5_pay15, k5_pay12, k5_pay13, k5_pay11, k5_pay14]
  try simp only [k5_pay48_at, k5_pay49_at, k5_pay50_at, k5_pay51_at, k5_pay52_at, mask_eq]
  try rfl

/-- The value `v83` at a position. -/
theorem k5_pay62_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 128) (m : Fin 2048) :
    k5_pay62 x0 x1 x2 x3 x4 x5 x6 (ix2 o m) = 1 - mask (dot3 (bnl (mat x2) (lin (mat x1) (xin x0 m)) o) (lin (mat x3) (bnl (mat x2) (lin (mat x1) (xin x0 m))) o)) := by
  pointwise [k5_pay62, k5_pay22, k5_pay17, k5_pay15, k5_pay12, k5_pay10, k5_pay13, k5_pay11, k5_pay14]
  try simp only [k5_pay48_at, k5_pay49_at, k5_pay50_at, k5_pay51_at, k5_pay52_at, mask_eq]
  try rfl

/-- The value `v105` at a position. -/
theorem k5_pay63_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay63 x0 x1 x2 x3 x4 x5 x6 (ix2 o m) = lin (mat x4) (layer (mat x1) (mat x2) (mat x3) (xin x0 m)) o 0 := by
  pointwise [k5_pay63, k5_pay23]
  try simp only [k5_pay58_at, mask_eq]
  try rfl

/-- The value `v106` at a position. -/
theorem k5_pay64_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay64 x0 x1 x2 x3 x4 x5 x6 (ix2 o m) = lin (mat x4) (layer (mat x1) (mat x2) (mat x3) (xin x0 m)) o 1 := by
  pointwise [k5_pay64, k5_pay24]
  try simp only [k5_pay59_at, k5_pay60_at, k5_pay61_at, k5_pay62_at, mask_eq]
  try rfl

/-- The value `v107` at a position. -/
theorem k5_pay65_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay65 x0 x1 x2 x3 x4 x5 x6 (ix2 o m) = lin (mat x4) (layer (mat x1) (mat x2) (mat x3) (xin x0 m)) o 2 := by
  pointwise [k5_pay65, k5_pay25]
  try simp only [k5_pay53_at, k5_pay54_at, k5_pay55_at, k5_pay56_at, k5_pay57_at, mask_eq]
  try rfl

/-- The value `v115` at a position. -/
theorem k5_pay66_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay66 x0 x1 x2 x3 x4 x5 x6 (ix2 o m) = nrm (lin (mat x4) (layer (mat x1) (mat x2) (mat x3) (xin x0 m)) o) := by
  pointwise [k5_pay66, k5_pay26, k5_pay23, k5_pay24, k5_pay25]
  try simp only [k5_pay53_at, k5_pay54_at, k5_pay55_at, k5_pay56_at, k5_pay57_at, k5_pay58_at, k5_pay59_at, k5_pay60_at, k5_pay61_at, k5_pay62_at, mask_eq]
  try rfl

/-- The value `v119` at a position. -/
theorem k5_pay67_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) :
    k5_pay67 x0 x1 x2 x3 x4 x5 x6 (ix2 o 0) = x5 (ix2 o 1) := by
  pointwise [k5_pay67, k5_pay28, k5_pay27]
  try simp only [mask_eq]
  try rfl

/-- The value `v125` at a position. -/
theorem k5_pay68_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay68 x0 x1 x2 x3 x4 x5 x6 (ix2 o m) = x5 (ix2 o 0) * (nrm (lin (mat x4) (layer (mat x1) (mat x2) (mat x3) (xin x0 m)) o) - x5 (ix2 o 2)) := by
  pointwise [k5_pay68, k5_pay29, k5_pay27, k5_pay26, k5_pay23, k5_pay24, k5_pay25]
  try simp only [k5_pay53_at, k5_pay54_at, k5_pay55_at, k5_pay56_at, k5_pay57_at, k5_pay58_at, k5_pay59_at, k5_pay60_at, k5_pay61_at, k5_pay62_at, mask_eq]
  try rfl

/-- The value `v129` at a position. -/
theorem k5_pay69_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay69 x0 x1 x2 x3 x4 x5 x6 (ix2 o m) = Ideal.sqrt (x5 (ix2 o 3) + veps) := by
  pointwise [k5_pay69, k5_pay30, k5_pay27]
  try simp only [mask_eq]
  try rfl

/-- The value `v136` at a position. -/
theorem k5_pay70_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay70 x0 x1 x2 x3 x4 x5 x6 (ix2 o m) = bnl (mat x5) (lin (mat x4) (layer (mat x1) (mat x2) (mat x3) (xin x0 m))) o 1 := by
  pointwise [k5_pay70, k5_pay33, k5_pay31]
  try simp only [k5_pay64_at, k5_pay66_at, k5_pay67_at, k5_pay68_at, k5_pay69_at, mask_eq]
  try rfl

/-- The value `v138` at a position. -/
theorem k5_pay71_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay71 x0 x1 x2 x3 x4 x5 x6 (ix2 o m) = bnl (mat x5) (lin (mat x4) (layer (mat x1) (mat x2) (mat x3) (xin x0 m))) o 2 := by
  pointwise [k5_pay71, k5_pay34, k5_pay31]
  try simp only [k5_pay65_at, k5_pay66_at, k5_pay67_at, k5_pay68_at, k5_pay69_at, mask_eq]
  try rfl

/-- The value `v142` at a position. -/
theorem k5_pay72_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay72 x0 x1 x2 x3 x4 x5 x6 (ix2 o m) = lin (mat x6) (bnl (mat x5) (lin (mat x4) (layer (mat x1) (mat x2) (mat x3) (xin x0 m)))) o 2 := by
  pointwise [k5_pay72, k5_pay37, k5_pay34, k5_pay31]
  try simp only [k5_pay65_at, k5_pay66_at, k5_pay67_at, k5_pay68_at, k5_pay69_at, mask_eq]
  try rfl

/-- The value `v147` at a position. -/
theorem k5_pay73_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay73 x0 x1 x2 x3 x4 x5 x6 (ix2 o m) = dot3 (bnl (mat x5) (lin (mat x4) (layer (mat x1) (mat x2) (mat x3) (xin x0 m))) o) (lin (mat x6) (bnl (mat x5) (lin (mat x4) (layer (mat x1) (mat x2) (mat x3) (xin x0 m)))) o) := by
  pointwise [k5_pay73, k5_pay38, k5_pay32, k5_pay35, k5_pay33, k5_pay36, k5_pay34, k5_pay37, k5_pay31]
  try simp only [k5_pay63_at, k5_pay64_at, k5_pay65_at, k5_pay66_at, k5_pay67_at, k5_pay68_at, k5_pay69_at, mask_eq]
  try rfl

/-- The value `v152` at a position. -/
theorem k5_pay74_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay74 x0 x1 x2 x3 x4 x5 x6 (ix2 o m) = dot3 (lin (mat x6) (bnl (mat x5) (lin (mat x4) (layer (mat x1) (mat x2) (mat x3) (xin x0 m)))) o) (lin (mat x6) (bnl (mat x5) (lin (mat x4) (layer (mat x1) (mat x2) (mat x3) (xin x0 m)))) o) := by
  pointwise [k5_pay74, k5_pay39, k5_pay35, k5_pay36, k5_pay37, k5_pay32, k5_pay33, k5_pay34, k5_pay31]
  try simp only [k5_pay63_at, k5_pay64_at, k5_pay65_at, k5_pay66_at, k5_pay67_at, k5_pay68_at, k5_pay69_at, mask_eq]
  try rfl

/-- The value `v156` at a position. -/
theorem k5_pay75_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay75 x0 x1 x2 x3 x4 x5 x6 (ix2 o m) = mask (dot3 (bnl (mat x5) (lin (mat x4) (layer (mat x1) (mat x2) (mat x3) (xin x0 m))) o) (lin (mat x6) (bnl (mat x5) (lin (mat x4) (layer (mat x1) (mat x2) (mat x3) (xin x0 m)))) o)) := by
  pointwise [k5_pay75, k5_pay40, k5_pay38, k5_pay32, k5_pay35, k5_pay33, k5_pay36, k5_pay34, k5_pay37, k5_pay31]
  try simp only [k5_pay63_at, k5_pay64_at, k5_pay65_at, k5_pay66_at, k5_pay67_at, k5_pay68_at, k5_pay69_at, mask_eq]
  try rfl

/-- The value `v171` at a position. -/
theorem k5_pay76_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay76 x0 x1 x2 x3 x4 x5 x6 (ix2 o m) = act (mat x6) (bnl (mat x5) (lin (mat x4) (layer (mat x1) (mat x2) (mat x3) (xin x0 m)))) o 0 := by
  pointwise [k5_pay76, k5_pay41, k5_pay39, k5_pay38, k5_pay35, k5_pay32, k5_pay40, k5_pay36, k5_pay37, k5_pay33, k5_pay34, k5_pay31]
  try simp only [k5_pay63_at, k5_pay64_at, k5_pay65_at, k5_pay66_at, k5_pay67_at, k5_pay68_at, k5_pay69_at, mask_eq]
  try rfl

/-- The value `v176` at a position. -/
theorem k5_pay77_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay77 x0 x1 x2 x3 x4 x5 x6 (ix2 o m) = bnl (mat x5) (lin (mat x4) (layer (mat x1) (mat x2) (mat x3) (xin x0 m))) o 1 - Ideal.div (dot3 (bnl (mat x5) (lin (mat x4) (layer (mat x1) (mat x2) (mat x3) (xin x0 m))) o) (lin (mat x6) (bnl (mat x5) (lin (mat x4) (layer (mat x1) (mat x2) (mat x3) (xin x0 m)))) o)) (dot3 (lin (mat x6) (bnl (mat x5) (lin (mat x4) (layer (mat x1) (mat x2) (mat x3) (xin x0 m)))) o) (lin (mat x6) (bnl (mat x5) (lin (mat x4) (layer (mat x1) (mat x2) (mat x3) (xin x0 m)))) o) + eps) * lin (mat x6) (bnl (mat x5) (lin (mat x4) (layer (mat x1) (mat x2) (mat x3) (xin x0 m)))) o 1 := by
  pointwise [k5_pay77, k5_pay42, k5_pay39, k5_pay38, k5_pay36, k5_pay33, k5_pay35, k5_pay37, k5_pay32, k5_pay34, k5_pay31]
  try simp only [k5_pay63_at, k5_pay64_at, k5_pay65_at, k5_pay66_at, k5_pay67_at, k5_pay68_at, k5_pay69_at, mask_eq]
  try rfl

/-- The value `v177` at a position. -/
theorem k5_pay78_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay78 x0 x1 x2 x3 x4 x5 x6 (ix2 o m) = neg := by
  pointwise [k5_pay78, k5_pay43]
  try simp only [mask_eq]
  try rfl

end Cert.Val

end

end
-- ==== Proof.Out2.lean ====
module

public import proofs.«01_k».proof.Proof.Gen.KernelIdeal.Frame
public import proofs.«01_k».proof.Proof.Pay4
public import proofs.«01_k».proof.Proof.Pay5
public import proofs.«01_k».proof.Proof.Pool
public import Idealize.ShloMosaic.Lib.Pointwise
public import Idealize.ShloMosaic.Lib.Pipeline.ValueKit

@[expose] public section

set_option maxRecDepth 16384

/-! What each region's body leaves in its output block. -/

noncomputable section

namespace Cert.Val

open Idealize.ShloMosaic Idealize.ShloMosaic.TcCoe
open Cert.KernelIdeal Cert.KernelIdeal.Gen Cert.Spec

/-- Region 3's block holds the sums of the norms and of their squares. -/
theorem out3_at (x0 : Vec Ideal S1x3x129x2048 .f32) (x1 : Vec Ideal S128x129 .f32) (s : Fin 2) (o : Fin 128) :
    out3_2 x0 x1 (ix4 0 0 s o) = if s = 0 then ∑ m, nrm (lin (mat x1) (xin x0 m) o) else ∑ m, nrm (lin (mat x1) (xin x0 m) o) * nrm (lin (mat x1) (xin x0 m) o) := by
  unfold out3_2
  canon_tiles x h
  · idx_vars x
    obtain rfl : s = 1 := Fin.ext (show s.val = 1 by omega)
    obtain rfl : o = x3 := Fin.ext (show o.val = x3.val by omega)
    rw [if_neg (by decide)]
    pointwise [k3_pay2, k3_pay3, k3_pay1]
    try simp only [nrm, dot3, lin]
    try rfl
  · idx_vars x
    obtain rfl : s = 0 := Fin.ext (show s.val = 0 by omega)
    obtain rfl : o = x3 := Fin.ext (show o.val = x3.val by omega)
    rw [if_pos rfl]
    pointwise [k3_pay2, k3_pay3, k3_pay1]
    try simp only [nrm, dot3, lin]
    try rfl

/-- Region 4's block holds the sums of the norms and of their squares. -/
theorem out4_at (x0 : Vec Ideal S1x3x129x2048 .f32) (x1 : Vec Ideal S128x129 .f32) (x2 : Vec Ideal S128x4 .f32) (x3 : Vec Ideal S128x128 .f32) (x4 : Vec Ideal S256x128 .f32) (s : Fin 2) (o : Fin 256) :
    out4_5 x0 x1 x2 x3 x4 (ix4 0 0 s o) = if s = 0 then ∑ m, nrm (lin (mat x4) (layer (mat x1) (mat x2) (mat x3) (xin x0 m)) o) else ∑ m, nrm (lin (mat x4) (layer (mat x1) (mat x2) (mat x3) (xin x0 m)) o) * nrm (lin (mat x4) (layer (mat x1) (mat x2) (mat x3) (xin x0 m)) o) := by
  unfold out4_5
  canon_tiles x h
  · idx_vars x
    obtain rfl : s = 1 := Fin.ext (show s.val = 1 by omega)
    obtain rfl : o = x3 := Fin.ext (show o.val = x3.val by omega)
    rw [if_neg (by decide)]
    pointwise [k4_pay1, k4_pay23, k4_pay22, k4_pay21]
    try simp only [k4_pay29_at, k4_pay30_at, k4_pay31_at, k4_pay32_at, k4_pay33_at, k4_pay34_at, k4_pay35_at, k4_pay36_at, k4_pay37_at, k4_pay38_at]
    try rfl
  · idx_vars x
    obtain rfl : s = 0 := Fin.ext (show s.val = 0 by omega)
    obtain rfl : o = x3 := Fin.ext (show o.val = x3.val by omega)
    rw [if_pos rfl]
    pointwise [k4_pay1, k4_pay23, k4_pay22, k4_pay21]
    try simp only [k4_pay29_at, k4_pay30_at, k4_pay31_at, k4_pay32_at, k4_pay33_at, k4_pay34_at, k4_pay35_at, k4_pay36_at, k4_pay37_at, k4_pay38_at]
    try rfl

/-- The 0/1 array that marks, along the last axis, the first position of the largest entry. -/
def mark5 (q : FVec Ideal S256x128x16 .f32) : FVec Ideal S256x128x16 .f32 :=
  have v208 : FVec Ideal S256x128 .f32 := multiReduction .maximumf [2] S256x128 q 0xFF800000#32 reduces_S256x128x16_S256x128 (.inl rfl) rfl
  have v209 : FVec Ideal S256x128x1 .f32 := shapeCast S256x128x1 v208 shapeCasts_S256x128_S256x128x1
  have v210 : IVec S256x128x16 32 := iota .tc S256x128x16 32 [2] iota_S256x128x16_d2_w32
  have v211 : FVec Ideal S256x128x16 .f32 := broadcastTo S256x128x16 v209 broadcasts_S256x128x1_S256x128x16
  have v212 : IVec S256x128x16 1 := cmpf .oge q v211
  have v213 : IVec S256x128x16 32 := broadcast S256x128x16 16#32
  have v214 : IVec S256x128x16 32 := select v212 v210 v213
  have v215 : IVec S256x128 32 := multiReductionI .minsi [2] S256x128 v214 2147483647#32 reduces_S256x128x16_S256x128 rfl
  have v216 : IVec S256x128x1 32 := shapeCast S256x128x1 v215 shapeCasts_S256x128_S256x128x1
  have v217 : IVec S256x128x16 32 := broadcastTo S256x128x16 v216 broadcasts_S256x128x1_S256x128x16
  have v218 : IVec S256x128x16 1 := cmpi .eq v210 v217
  have v219 : IVec S256x128x16 32 := extui 32 v218 natLt_1_32
  have v220 : FVec Ideal S256x128x16 .f32 := sitofp .f32 v219
  v220

/-- The position in a block of neighbour `k` of centre `s`. -/
def nbr5 (s : Fin 128) (k : Fin 16) : Fin 2048 := ⟨(s : ℕ) * 16 + k, by omega⟩

/-- Coordinate 1 after the second layer. -/
theorem h1_5 (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay44 (k5_pay70 x0 x1 x2 x3 x4 x5 x6) (k5_pay75 x0 x1 x2 x3 x4 x5 x6) (k5_pay77 x0 x1 x2 x3 x4 x5 x6) (k5_pay78 x0 x1 x2 x3 x4 x5 x6) (ix2 o m) = layer (mat x4) (mat x5) (mat x6) (layer (mat x1) (mat x2) (mat x3) (xin x0 m)) o 1 := by
  pointwise [k5_pay44]
  simp only [k5_pay70_at, k5_pay71_at, k5_pay72_at, k5_pay73_at, k5_pay74_at, k5_pay75_at, k5_pay77_at, k5_pay78_at]
  rfl

/-- Coordinate 2 after the second layer. -/
theorem h2_5 (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (m : Fin 2048) :
    k5_pay45 (k5_pay71 x0 x1 x2 x3 x4 x5 x6) (k5_pay72 x0 x1 x2 x3 x4 x5 x6) (k5_pay73 x0 x1 x2 x3 x4 x5 x6) (k5_pay74 x0 x1 x2 x3 x4 x5 x6) (k5_pay75 x0 x1 x2 x3 x4 x5 x6) (ix2 o m) = layer (mat x4) (mat x5) (mat x6) (layer (mat x1) (mat x2) (mat x3) (xin x0 m)) o 2 := by
  pointwise [k5_pay45]
  simp only [k5_pay70_at, k5_pay71_at, k5_pay72_at, k5_pay73_at, k5_pay74_at, k5_pay75_at, k5_pay77_at, k5_pay78_at]
  rfl

/-- The marks are the 0/1 values of being the first maximum. -/
theorem mark5_at (q : FVec Ideal S256x128x16 .f32) (o : Fin 256) (s : Fin 128) (k : Fin 16) [Decidable (IsFirstMax (fun j => q (ix3 o s j)) k)] :
    mark5 q (ix3 o s k) = if IsFirstMax (fun j => q (ix3 o s j)) k then 1 else 0 := by
  pointwise [mark5]
  refine (mark_val (K := 16) (by decide) (fun j => q (ix3 o s j)) k).trans ?_
  congr

/-- The reshape that splits a block's positions into centres and neighbours. -/
theorem cast5_at (A : FVec Ideal S256x2048 .f32) (o : Fin 256) (s : Fin 128) (k : Fin 16) :
    shapeCast S256x128x16 A shapeCasts_S256x2048_S256x128x16 (ix3 o s k) = A (ix2 o (nbr5 s k)) := by
  pointwise
  rfl

/-- The selecting sum, coordinate 2. -/
theorem st2_5 (A : FVec Ideal S256x2048 .f32) (B : FVec Ideal S256x128x16 .f32) (a b : Fin 1) (o : Fin 256) (s : Fin 128) :
    k5_pay3 A B (ix4 a b o s) = ∑ k : Fin 16, A (ix2 o (nbr5 s k)) * B (ix3 o s k) := by
  pointwise [k5_pay3]
  rfl

/-- The selecting sum, coordinate 1. -/
theorem st1_5 (A : FVec Ideal S256x2048 .f32) (B : FVec Ideal S256x128x16 .f32) (a b : Fin 1) (o : Fin 256) (s : Fin 128) :
    k5_pay2 A B (ix4 a b o s) = ∑ k : Fin 16, A (ix2 o (nbr5 s k)) * B (ix3 o s k) := by
  pointwise [k5_pay2]
  rfl

/-- The selecting sum, coordinate 0. -/
theorem st0_5 (v136 v138 v142 v147 v152 v156 v171 v176 v177 : FVec Ideal S256x2048 .f32) (a b : Fin 1) (o : Fin 256) (s : Fin 128) :
    k5_pay1 (k5_pay47 v136 v138 v142 v147 v152 v156 v171 v176 v177) (ix4 a b o s) = ∑ k : Fin 16, v171 (ix2 o (nbr5 s k)) * k5_pay46 v136 v138 v142 v147 v152 v156 v171 v176 v177 (ix3 o s k) := by
  pointwise [k5_pay1, k5_pay47]
  rfl

open Classical in
/-- The selection array of the body at a position. -/
theorem sel5_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (o : Fin 256) (s : Fin 128) (k : Fin 16) :
    k5_pay79 x0 x1 x2 x3 x4 x5 x6 (ix3 o s k)
      = if IsFirstMax (fun k => dot3 ((layer (mat x4) (mat x5) (mat x6) (layer (mat x1) (mat x2) (mat x3) (xin x0 (nbr5 s k)))) o) ((layer (mat x4) (mat x5) (mat x6) (layer (mat x1) (mat x2) (mat x3) (xin x0 (nbr5 s k)))) o)) k then 1 else 0 := by
  refine (mark5_at (shapeCast S256x128x16 (addf (addf (mulf (k5_pay76 x0 x1 x2 x3 x4 x5 x6) (k5_pay76 x0 x1 x2 x3 x4 x5 x6)) (mulf (k5_pay44 (k5_pay70 x0 x1 x2 x3 x4 x5 x6) (k5_pay75 x0 x1 x2 x3 x4 x5 x6) (k5_pay77 x0 x1 x2 x3 x4 x5 x6) (k5_pay78 x0 x1 x2 x3 x4 x5 x6)) (k5_pay44 (k5_pay70 x0 x1 x2 x3 x4 x5 x6) (k5_pay75 x0 x1 x2 x3 x4 x5 x6) (k5_pay77 x0 x1 x2 x3 x4 x5 x6) (k5_pay78 x0 x1 x2 x3 x4 x5 x6)))) (mulf (k5_pay45 (k5_pay71 x0 x1 x2 x3 x4 x5 x6) (k5_pay72 x0 x1 x2 x3 x4 x5 x6) (k5_pay73 x0 x1 x2 x3 x4 x5 x6) (k5_pay74 x0 x1 x2 x3 x4 x5 x6) (k5_pay75 x0 x1 x2 x3 x4 x5 x6)) (k5_pay45 (k5_pay71 x0 x1 x2 x3 x4 x5 x6) (k5_pay72 x0 x1 x2 x3 x4 x5 x6) (k5_pay73 x0 x1 x2 x3 x4 x5 x6) (k5_pay74 x0 x1 x2 x3 x4 x5 x6) (k5_pay75 x0 x1 x2 x3 x4 x5 x6)))) shapeCasts_S256x2048_S256x128x16) o s k).trans ?_
  congr 1
  refine congrArg (fun q => IsFirstMax q k) (funext fun j => ?_)
  refine (cast5_at _ o s j).trans ?_
  rw [addf_apply, addf_apply, mulf_apply, mulf_apply, mulf_apply, h1_5, h2_5, k5_pay76_at]
  rfl

/-- Region 5's block holds the pooled second layer. -/
theorem out5_at (x0 : Vec Ideal S1x3x129x2048 .f32) (x1 : Vec Ideal S128x129 .f32) (x2 : Vec Ideal S128x4 .f32) (x3 : Vec Ideal S128x128 .f32) (x4 : Vec Ideal S256x128 .f32) (x5 : Vec Ideal S256x4 .f32) (x6 : Vec Ideal S256x256 .f32) (d : Fin 3) (o : Fin 256) (s : Fin 128) :
    out5_7 x0 x1 x2 x3 x4 x5 x6 (ix4 0 d o s) = pool (fun k => (layer (mat x4) (mat x5) (mat x6) (layer (mat x1) (mat x2) (mat x3) (xin x0 (nbr5 s k)))) o) d := by
  classical
  unfold Cert.Spec.pool out5_7
  canon_tiles x h
  · idx_vars x
    obtain rfl : d = 2 := Fin.ext (show d.val = 2 by omega)
    obtain rfl : o = x2 := Fin.ext (show o.val = x2.val by omega)
    obtain rfl : s = x3 := Fin.ext (show s.val = x3.val by omega)
    refine (st2_5 _ _ _ _ _ _).trans ?_
    exact Finset.sum_congr rfl fun k _ => (congrArg₂ (· * ·) (h2_5 _ _ _ _ _ _ _ _ _) (sel5_at _ _ _ _ _ _ _ _ _ k)).trans
      (by simp only [mul_ite, mul_one, mul_zero]; try rfl)
  · idx_vars x
    obtain rfl : d = 1 := Fin.ext (show d.val = 1 by omega)
    obtain rfl : o = x2 := Fin.ext (show o.val = x2.val by omega)
    obtain rfl : s = x3 := Fin.ext (show s.val = x3.val by omega)
    refine (st1_5 _ _ _ _ _ _).trans ?_
    exact Finset.sum_congr rfl fun k _ => (congrArg₂ (· * ·) (h1_5 _ _ _ _ _ _ _ _ _) (sel5_at _ _ _ _ _ _ _ _ _ k)).trans
      (by simp only [mul_ite, mul_one, mul_zero]; try rfl)
  · idx_vars x
    obtain rfl : d = 0 := Fin.ext (show d.val = 0 by omega)
    obtain rfl : o = x2 := Fin.ext (show o.val = x2.val by omega)
    obtain rfl : s = x3 := Fin.ext (show s.val = x3.val by omega)
    refine (st0_5 _ _ _ _ _ _ _ _ _ _ _ _ _).trans ?_
    exact Finset.sum_congr rfl fun k _ => (congrArg₂ (· * ·) (k5_pay76_at _ _ _ _ _ _ _ _ _) (sel5_at _ _ _ _ _ _ _ _ _ k)).trans
      (by simp only [mul_ite, mul_one, mul_zero]; try rfl)

end Cert.Val

end

end
-- ==== Proof.Reg3.lean ====
module

public import proofs.«01_k».proof.Proof.Out2
public import proofs.«01_k».proof.Proof.Spec2
public import Idealize.ShloMosaic.Lib.Pipeline.ValueKit

@[expose] public section

set_option maxRecDepth 16384

noncomputable section

open Idealize.ShloMosaic Idealize.ShloMosaic.TcCoe
open Cert.KernelIdeal Cert.KernelIdeal.Gen Cert.Spec

namespace Cert.Val

variable (V : (c : Dev nD) → (b : Ref sig .tc) → Buf (Elt Ideal) ((c : Thread nD τ).loc b))

/-- What region 3 leaves in its result array: the two statistics of each block of positions. -/
def res3 (x : FVec Ideal S16x3x129x2048 .f32) (w1 : FVec Ideal S128x129 .f32) : FVec Ideal S16x1x2x128 .f32 := fun i =>
  stat (fun m : Fin 2048 => nrm (lin (mat w1) (xpos x (i 0) (tile 1 2048 rfl (i 1) m)) (i 3))) (i 2)

theorem idx3 : ∀ t : Fin cfg3.N, win3_0.index t = ![t.val, 0, 0, 0] ∧ win3_1.index t = ![0, 0] ∧ win3_2.index t = ![t.val, 0, 0, 0] ∧ t.val < 16 :=
  (by decide +kernel : ∀ t : Fin grid3.N, _)

theorem mat3_1 (c : Dev nD) (t : Fin cfg3.N) : mat (show FVec Ideal S128x129 .f32 from iblk3 V c 1 t) = mat (show FVec Ideal S128x129 .f32 from V c main_arg11) := by
  funext a b; unfold mat; blk_ext! [iblk3, idx3 t]

theorem x3_0 (c : Dev nD) (t : Fin cfg3.N) (b : Fin 16) (j : Fin 1) (hb : b.val = t.val) (hj : j.val = 0) (m : Fin 2048) :
    xin (show FVec Ideal S1x3x129x2048 .f32 from iblk3 V c 0 t) m = xpos (show FVec Ideal S16x3x129x2048 .f32 from V c main_v91) b (tile 1 2048 rfl j m) := by
  funext a d; unfold xin xpos tile; blk_ext! [iblk3, idx3 t]

/-- Region 3's result array after its run. -/
theorem final3 (c : Dev nD) : (dat3 V c).arrAt 2 cfg3.N = res3 (V c main_v91) (V c main_arg11) := by
  refine Pipeline.Dat.arrAt_eq_of_covers (dat3 V c) 2 _ (by decide +kernel) fun t _ y => ?_
  blk_simp
  rw [after3_2]
  obtain ⟨_, _, hw, hb⟩ := idx3 t
  have hy : ((cfg3.win 2).blk t).view.emb y = ix4 (⟨t.val, hb⟩ : Fin 16) (0 : Fin 1) (y 2 : Fin 2) (y 3 : Fin 128) := by
    blk_ext [hw]
  rw [hy]
  have hy' : y = ix4 (0 : Fin 1) (0 : Fin 1) (y 2 : Fin 2) (y 3 : Fin 128) := by blk_ext []
  refine (congrArg (out3_2 (iblk3 V c 0 t) (iblk3 V c 1 t)) hy').trans ((out3_at (iblk3 V c 0 t) (iblk3 V c 1 t) (y 2) (y 3)).trans ?_)
  have hx := x3_0 V c t ⟨t.val, hb⟩ (0 : Fin 1) rfl rfl
  have hm1 := mat3_1 V c t
  dsimp only at hx hm1
  simp only [hx, hm1]
  rfl
end Cert.Val

end

end
-- ==== Proof.Reg4.lean ====
module

public import proofs.«01_k».proof.Proof.Out2
public import proofs.«01_k».proof.Proof.Spec2
public import Idealize.ShloMosaic.Lib.Pipeline.ValueKit

@[expose] public section

set_option maxRecDepth 16384

noncomputable section

open Idealize.ShloMosaic Idealize.ShloMosaic.TcCoe
open Cert.KernelIdeal Cert.KernelIdeal.Gen Cert.Spec

namespace Cert.Val

variable (V : (c : Dev nD) → (b : Ref sig .tc) → Buf (Elt Ideal) ((c : Thread nD τ).loc b))

/-- What region 4 leaves in its result array: the two statistics of each block of positions. -/
def res4 (x : FVec Ideal S16x3x129x2048 .f32) (w1 : FVec Ideal S128x129 .f32) (w2 : FVec Ideal S128x4 .f32) (w3 : FVec Ideal S128x128 .f32) (w4 : FVec Ideal S256x128 .f32) : FVec Ideal S16x1x2x256 .f32 := fun i =>
  stat (fun m : Fin 2048 => nrm (lin (mat w4) (layer (mat w1) (mat w2) (mat w3) (xpos x (i 0) (tile 1 2048 rfl (i 1) m))) (i 3))) (i 2)

theorem idx4 : ∀ t : Fin cfg4.N, win4_0.index t = ![t.val, 0, 0, 0] ∧ win4_1.index t = ![0, 0] ∧ win4_2.index t = ![0, 0] ∧ win4_3.index t = ![0, 0] ∧ win4_4.index t = ![0, 0] ∧ win4_5.index t = ![t.val, 0, 0, 0] ∧ t.val < 16 :=
  (by decide +kernel : ∀ t : Fin grid4.N, _)

theorem mat4_1 (c : Dev nD) (t : Fin cfg4.N) : mat (show FVec Ideal S128x129 .f32 from iblk4 V c 1 t) = mat (show FVec Ideal S128x129 .f32 from V c main_arg11) := by
  funext a b; unfold mat; blk_ext! [iblk4, idx4 t]

theorem mat4_2 (c : Dev nD) (t : Fin cfg4.N) : mat (show FVec Ideal S128x4 .f32 from iblk4 V c 2 t) = mat (show FVec Ideal S128x4 .f32 from V c main_v108) := by
  funext a b; unfold mat; blk_ext! [iblk4, idx4 t]

theorem mat4_3 (c : Dev nD) (t : Fin cfg4.N) : mat (show FVec Ideal S128x128 .f32 from iblk4 V c 3 t) = mat (show FVec Ideal S128x128 .f32 from V c main_arg12) := by
  funext a b; unfold mat; blk_ext! [iblk4, idx4 t]

theorem mat4_4 (c : Dev nD) (t : Fin cfg4.N) : mat (show FVec Ideal S256x128 .f32 from iblk4 V c 4 t) = mat (show FVec Ideal S256x128 .f32 from V c main_arg15) := by
  funext a b; unfold mat; blk_ext! [iblk4, idx4 t]

theorem x4_0 (c : Dev nD) (t : Fin cfg4.N) (b : Fin 16) (j : Fin 1) (hb : b.val = t.val) (hj : j.val = 0) (m : Fin 2048) :
    xin (show FVec Ideal S1x3x129x2048 .f32 from iblk4 V c 0 t) m = xpos (show FVec Ideal S16x3x129x2048 .f32 from V c main_v91) b (tile 1 2048 rfl j m) := by
  funext a d; unfold xin xpos tile; blk_ext! [iblk4, idx4 t]

/-- Region 4's result array after its run. -/
theorem final4 (c : Dev nD) : (dat4 V c).arrAt 5 cfg4.N = res4 (V c main_v91) (V c main_arg11) (V c main_v108) (V c main_arg12) (V c main_arg15) := by
  refine Pipeline.Dat.arrAt_eq_of_covers (dat4 V c) 5 _ (by decide +kernel) fun t _ y => ?_
  blk_simp
  rw [after4_5]
  obtain ⟨_, _, _, _, _, hw, hb⟩ := idx4 t
  have hy : ((cfg4.win 5).blk t).view.emb y = ix4 (⟨t.val, hb⟩ : Fin 16) (0 : Fin 1) (y 2 : Fin 2) (y 3 : Fin 256) := by
    blk_ext [hw]
  rw [hy]
  have hy' : y = ix4 (0 : Fin 1) (0 : Fin 1) (y 2 : Fin 2) (y 3 : Fin 256) := by blk_ext []
  refine (congrArg (out4_5 (iblk4 V c 0 t) (iblk4 V c 1 t) (iblk4 V c 2 t) (iblk4 V c 3 t) (iblk4 V c 4 t)) hy').trans ((out4_at (iblk4 V c 0 t) (iblk4 V c 1 t) (iblk4 V c 2 t) (iblk4 V c 3 t) (iblk4 V c 4 t) (y 2) (y 3)).trans ?_)
  have hx := x4_0 V c t ⟨t.val, hb⟩ (0 : Fin 1) rfl rfl
  have hm1 := mat4_1 V c t
  have hm2 := mat4_2 V c t
  have hm3 := mat4_3 V c t
  have hm4 := mat4_4 V c t
  dsimp only at hx hm1 hm2 hm3 hm4
  simp only [hx, hm1, hm2, hm3, hm4]
  rfl
end Cert.Val

end

end
-- ==== Proof.Reg5.lean ====
module

public import proofs.«01_k».proof.Proof.Out2
public import proofs.«01_k».proof.Proof.Spec2
public import Idealize.ShloMosaic.Lib.Pipeline.ValueKit

@[expose] public section

set_option maxRecDepth 16384

noncomputable section

open Idealize.ShloMosaic Idealize.ShloMosaic.TcCoe
open Cert.KernelIdeal Cert.KernelIdeal.Gen Cert.Spec

namespace Cert.Val

variable (V : (c : Dev nD) → (b : Ref sig .tc) → Buf (Elt Ideal) ((c : Thread nD τ).loc b))

/-- There is one block. -/
def blk5 (_ : Fin 128) : Fin 1 := 0
/-- The place of a point in its block. -/
def off5 (s : Fin 128) : Fin 128 := s

/-- What region 5 leaves in its result array. -/
def res5 (x : FVec Ideal S16x3x129x2048 .f32) (w1 : FVec Ideal S128x129 .f32) (w2 : FVec Ideal S128x4 .f32) (w3 : FVec Ideal S128x128 .f32) (w4 : FVec Ideal S256x128 .f32) (w5 : FVec Ideal S256x4 .f32) (w6 : FVec Ideal S256x256 .f32) : FVec Ideal S16x3x256x128 .f32 := fun i =>
  Cert.Spec.pool (fun k => layer (mat w4) (mat w5) (mat w6) (layer (mat w1) (mat w2) (mat w3) (xpos x (i 0) (tile 1 2048 rfl (blk5 (i 3)) (nbr5 (off5 (i 3)) k)))) (i 2)) (i 1)

theorem idx5 : ∀ t : Fin cfg5.N, win5_0.index t = ![t.val, 0, 0, 0] ∧ win5_1.index t = ![0, 0] ∧ win5_2.index t = ![0, 0] ∧ win5_3.index t = ![0, 0] ∧ win5_4.index t = ![0, 0] ∧ win5_5.index t = ![0, 0] ∧ win5_6.index t = ![0, 0] ∧ win5_7.index t = ![t.val, 0, 0, 0] ∧ t.val < 16 :=
  (by decide +kernel : ∀ t : Fin grid5.N, _)

theorem mat5_1 (c : Dev nD) (t : Fin cfg5.N) : mat (show FVec Ideal S128x129 .f32 from iblk5 V c 1 t) = mat (show FVec Ideal S128x129 .f32 from V c main_arg11) := by
  funext a b; unfold mat; blk_ext! [iblk5, idx5 t]

theorem mat5_2 (c : Dev nD) (t : Fin cfg5.N) : mat (show FVec Ideal S128x4 .f32 from iblk5 V c 2 t) = mat (show FVec Ideal S128x4 .f32 from V c main_v108) := by
  funext a b; unfold mat; blk_ext! [iblk5, idx5 t]

theorem mat5_3 (c : Dev nD) (t : Fin cfg5.N) : mat (show FVec Ideal S128x128 .f32 from iblk5 V c 3 t) = mat (show FVec Ideal S128x128 .f32 from V c main_arg12) := by
  funext a b; unfold mat; blk_ext! [iblk5, idx5 t]

theorem mat5_4 (c : Dev nD) (t : Fin cfg5.N) : mat (show FVec Ideal S256x128 .f32 from iblk5 V c 4 t) = mat (show FVec Ideal S256x128 .f32 from V c main_arg15) := by
  funext a b; unfold mat; blk_ext! [iblk5, idx5 t]

theorem mat5_5 (c : Dev nD) (t : Fin cfg5.N) : mat (show FVec Ideal S256x4 .f32 from iblk5 V c 5 t) = mat (show FVec Ideal S256x4 .f32 from V c main_v125) := by
  funext a b; unfold mat; blk_ext! [iblk5, idx5 t]

theorem mat5_6 (c : Dev nD) (t : Fin cfg5.N) : mat (show FVec Ideal S256x256 .f32 from iblk5 V c 6 t) = mat (show FVec Ideal S256x256 .f32 from V c main_arg16) := by
  funext a b; unfold mat; blk_ext! [iblk5, idx5 t]

theorem x5_0 (c : Dev nD) (t : Fin cfg5.N) (b : Fin 16) (j : Fin 1) (hb : b.val = t.val) (hj : j.val = 0) (m : Fin 2048) :
    xin (show FVec Ideal S1x3x129x2048 .f32 from iblk5 V c 0 t) m = xpos (show FVec Ideal S16x3x129x2048 .f32 from V c main_v91) b (tile 1 2048 rfl j m) := by
  funext a d; unfold xin xpos tile; blk_ext! [iblk5, idx5 t]

/-- Region 5's result array after its run. -/
theorem final5 (c : Dev nD) : (dat5 V c).arrAt 7 cfg5.N = res5 (V c main_v91) (V c main_arg11) (V c main_v108) (V c main_arg12) (V c main_arg15) (V c main_v125) (V c main_arg16) := by
  refine Pipeline.Dat.arrAt_eq_of_covers (dat5 V c) 7 _ (by decide +kernel) fun t _ y => ?_
  blk_simp
  rw [after5_7]
  obtain ⟨_, _, _, _, _, _, _, hw, hb⟩ := idx5 t
  have hy : ((cfg5.win 7).blk t).view.emb y = ix4 (⟨t.val, hb⟩ : Fin 16) (y 1 : Fin 3) (y 2 : Fin 256) (y 3 : Fin 128) := by
    blk_ext [hw]
  rw [hy]
  have hy' : y = ix4 (0 : Fin 1) (y 1 : Fin 3) (y 2 : Fin 256) (y 3 : Fin 128) := by blk_ext []
  refine (congrArg (out5_7 (iblk5 V c 0 t) (iblk5 V c 1 t) (iblk5 V c 2 t) (iblk5 V c 3 t) (iblk5 V c 4 t) (iblk5 V c 5 t) (iblk5 V c 6 t)) hy').trans ((out5_at (iblk5 V c 0 t) (iblk5 V c 1 t) (iblk5 V c 2 t) (iblk5 V c 3 t) (iblk5 V c 4 t) (iblk5 V c 5 t) (iblk5 V c 6 t) (y 1) (y 2) (y 3)).trans ?_)
  have hx := x5_0 V c t ⟨t.val, hb⟩ (0 : Fin 1) rfl rfl
  have hm1 := mat5_1 V c t
  have hm2 := mat5_2 V c t
  have hm3 := mat5_3 V c t
  have hm4 := mat5_4 V c t
  have hm5 := mat5_5 V c t
  have hm6 := mat5_6 V c t
  dsimp only at hx hm1 hm2 hm3 hm4 hm5 hm6
  simp only [hx, hm1, hm2, hm3, hm4, hm5, hm6]
  rfl
end Cert.Val

end

end
-- ==== Proof.KChain.lean ====
module

public import proofs.«01_k».proof.Proof.Coef
public import proofs.«01_k».proof.Proof.Tile
public import proofs.«01_k».proof.Proof.Reg0
public import proofs.«01_k».proof.Proof.Reg1
public import proofs.«01_k».proof.Proof.Reg2
public import proofs.«01_k».proof.Proof.Reg3
public import proofs.«01_k».proof.Proof.Reg4
public import proofs.«01_k».proof.Proof.Reg5

@[expose] public section

set_option maxRecDepth 16384

/-! What the three kernel calls of each set-abstraction module compute, over the module's whole input. -/

noncomputable section

open Idealize.ShloMosaic Idealize.ShloMosaic.TcCoe
open Cert.KernelIdeal Cert.KernelIdeal.Gen Cert.Spec

namespace Cert.Val

variable (m : (ℓ : Loc nD τ sig) → Buf (Elt Ideal) ℓ) (ρ : Dev nD → PrngReg) (c : Dev nD)

/-- Module 1: the module's input is untouched until its last kernel call. -/
theorem sa1_x2 : W7 m ρ c (Proc.devRef .tc main_v25) = W5 m ρ c (Proc.devRef .tc main_v25) :=
  (W7_of m ρ c main_v25 (by decide)).trans (W6_of m ρ c main_v25 (by decide))
theorem sa1_x4 : W9 m ρ c (Proc.devRef .tc main_v25) = W5 m ρ c (Proc.devRef .tc main_v25) :=
  (W9_of m ρ c main_v25 (by decide)).trans ((W8_of m ρ c main_v25 (by decide)).trans (sa1_x2 m ρ c))
theorem sa1_G1 : W9 m ρ c (Proc.devRef .tc main_v42) = W7 m ρ c (Proc.devRef .tc main_v42) :=
  (W9_of m ρ c main_v42 (by decide)).trans (W8_of m ρ c main_v42 (by decide))

/-- Module 1: the first kernel call's statistics. -/
theorem sa1_st1 (b : Fin 16) (j : Fin 2) (s : Fin 2) (o : Fin 64) :
    (show FVec Ideal S16x2x2x64 .f32 from W6 m ρ c (Proc.devRef .tc main_v26)) (ix4 b j s o) = stat (fun k : Fin 4096 => nrm (lin (mat (show FVec Ideal S64x1 .f32 from m ((c : Thread nD τ).loc main_arg3))) (xpos (show FVec Ideal S16x3x1x8192 .f32 from W5 m ρ c (Proc.devRef .tc main_v25)) b (tile 2 4096 rfl j k)) o)) s := by
  have e := (W6_arr m ρ c 2).trans (final0 (V5 m ρ) c)
  rw [show V5 m ρ c main_arg3 = _ from W5_args m ρ c main_arg3 (by decide)] at e
  exact congrFun e (ix4 b j s o)

/-- Module 1: the first layer. -/
theorem sa1_l1 (q : Fin 16 × Fin 256 × Fin 32) :
    layer (mat (show FVec Ideal S64x1 .f32 from m ((c : Thread nD τ).loc main_arg3))) (mat (show FVec Ideal S64x4 .f32 from W7 m ρ c (Proc.devRef .tc main_v42))) (mat (show FVec Ideal S64x64 .f32 from m ((c : Thread nD τ).loc main_arg4))) (xpos (show FVec Ideal S16x3x1x8192 .f32 from W5 m ρ c (Proc.devRef .tc main_v25)) q.1 (tile 256 32 rfl q.2.1 q.2.2))
      = vnl varK (Ideal.ofBits .f32 0x48000000#32) (mat (show FVec Ideal S64x1 .f32 from m ((c : Thread nD τ).loc main_arg3))) (fun o => (show FVec Ideal S64 .f32 from m ((c : Thread nD τ).loc main_arg5)) (ix1 o)) (fun o => (show FVec Ideal S64 .f32 from m ((c : Thread nD τ).loc main_arg6)) (ix1 o)) (mat (show FVec Ideal S64x64 .f32 from m ((c : Thread nD τ).loc main_arg4))) (fam 256 32 rfl (show FVec Ideal S16x3x1x8192 .f32 from W5 m ρ c (Proc.devRef .tc main_v25))) q := by
  refine coef_layer (B := 16) (J := 2) (T := 4096) (S := 256) (K := 32) (M := 8192) (by decide) (by decide) (Ideal.ofBits .f32 0x48000000#32) (mat (show FVec Ideal S64x1 .f32 from m ((c : Thread nD τ).loc main_arg3))) (fun o => (show FVec Ideal S64 .f32 from m ((c : Thread nD τ).loc main_arg5)) (ix1 o)) (fun o => (show FVec Ideal S64 .f32 from m ((c : Thread nD τ).loc main_arg6)) (ix1 o)) (mat (show FVec Ideal S64x64 .f32 from m ((c : Thread nD τ).loc main_arg4))) (xpos (show FVec Ideal S16x3x1x8192 .f32 from W5 m ρ c (Proc.devRef .tc main_v25))) (mat (show FVec Ideal S64x4 .f32 from W7 m ρ c (Proc.devRef .tc main_v42)))
    (fun b j s o => (show FVec Ideal S16x2x2x64 .f32 from W6 m ρ c (Proc.devRef .tc main_v26)) (ix4 b j s o)) (sa1_st1 m ρ c) (fun o => ?_) (fun o => ?_) (coef1_2 (W6 m ρ c)) (coef1_3 (W6 m ρ c)) q
  · refine (coef1_0 (W6 m ρ c) o).trans ?_
    rw [W6_args m ρ c main_arg5 (by decide)]
  · refine (coef1_1 (W6 m ρ c) o).trans ?_
    rw [W6_args m ρ c main_arg6 (by decide)]

/-- Module 1: the second kernel call's statistics. -/
theorem sa1_st2 (b : Fin 16) (j : Fin 2) (s : Fin 2) (o : Fin 128) :
    (show FVec Ideal S16x2x2x128 .f32 from W8 m ρ c (Proc.devRef .tc main_v43)) (ix4 b j s o) = stat (fun k : Fin 4096 => nrm (lin (mat (show FVec Ideal S128x64 .f32 from m ((c : Thread nD τ).loc main_arg7))) (layer (mat (show FVec Ideal S64x1 .f32 from m ((c : Thread nD τ).loc main_arg3))) (mat (show FVec Ideal S64x4 .f32 from W7 m ρ c (Proc.devRef .tc main_v42))) (mat (show FVec Ideal S64x64 .f32 from m ((c : Thread nD τ).loc main_arg4))) (xpos (show FVec Ideal S16x3x1x8192 .f32 from W5 m ρ c (Proc.devRef .tc main_v25)) b (tile 2 4096 rfl j k))) o)) s := by
  have e := (W8_arr m ρ c 5).trans (final1 (V7 m ρ) c)
  rw [show V7 m ρ c main_arg3 = _ from W7_args m ρ c main_arg3 (by decide),
    show V7 m ρ c main_arg4 = _ from W7_args m ρ c main_arg4 (by decide),
    show V7 m ρ c main_arg7 = _ from W7_args m ρ c main_arg7 (by decide),
    show V7 m ρ c main_v25 = _ from sa1_x2 m ρ c] at e
  exact congrFun e (ix4 b j s o)

/-- Module 1: the second layer. -/
theorem sa1_l2 (q : Fin 16 × Fin 256 × Fin 32) :
    layer (mat (show FVec Ideal S128x64 .f32 from m ((c : Thread nD τ).loc main_arg7))) (mat (show FVec Ideal S128x4 .f32 from W9 m ρ c (Proc.devRef .tc main_v59))) (mat (show FVec Ideal S128x128 .f32 from m ((c : Thread nD τ).loc main_arg8))) (layer (mat (show FVec Ideal S64x1 .f32 from m ((c : Thread nD τ).loc main_arg3))) (mat (show FVec Ideal S64x4 .f32 from W7 m ρ c (Proc.devRef .tc main_v42))) (mat (show FVec Ideal S64x64 .f32 from m ((c : Thread nD τ).loc main_arg4))) (xpos (show FVec Ideal S16x3x1x8192 .f32 from W5 m ρ c (Proc.devRef .tc main_v25)) q.1 (tile 256 32 rfl q.2.1 q.2.2)))
      = vnl varK (Ideal.ofBits .f32 0x48000000#32) (mat (show FVec Ideal S128x64 .f32 from m ((c : Thread nD τ).loc main_arg7))) (fun o => (show FVec Ideal S128 .f32 from m ((c : Thread nD τ).loc main_arg9)) (ix1 o)) (fun o => (show FVec Ideal S128 .f32 from m ((c : Thread nD τ).loc main_arg10)) (ix1 o)) (mat (show FVec Ideal S128x128 .f32 from m ((c : Thread nD τ).loc main_arg8))) (vnl varK (Ideal.ofBits .f32 0x48000000#32) (mat (show FVec Ideal S64x1 .f32 from m ((c : Thread nD τ).loc main_arg3))) (fun o => (show FVec Ideal S64 .f32 from m ((c : Thread nD τ).loc main_arg5)) (ix1 o)) (fun o => (show FVec Ideal S64 .f32 from m ((c : Thread nD τ).loc main_arg6)) (ix1 o)) (mat (show FVec Ideal S64x64 .f32 from m ((c : Thread nD τ).loc main_arg4))) (fam 256 32 rfl (show FVec Ideal S16x3x1x8192 .f32 from W5 m ρ c (Proc.devRef .tc main_v25)))) q := by
  refine (coef_layer (B := 16) (J := 2) (T := 4096) (S := 256) (K := 32) (M := 8192) (by decide) (by decide) (Ideal.ofBits .f32 0x48000000#32) (mat (show FVec Ideal S128x64 .f32 from m ((c : Thread nD τ).loc main_arg7))) (fun o => (show FVec Ideal S128 .f32 from m ((c : Thread nD τ).loc main_arg9)) (ix1 o)) (fun o => (show FVec Ideal S128 .f32 from m ((c : Thread nD τ).loc main_arg10)) (ix1 o)) (mat (show FVec Ideal S128x128 .f32 from m ((c : Thread nD τ).loc main_arg8))) (fun b k => layer (mat (show FVec Ideal S64x1 .f32 from m ((c : Thread nD τ).loc main_arg3))) (mat (show FVec Ideal S64x4 .f32 from W7 m ρ c (Proc.devRef .tc main_v42))) (mat (show FVec Ideal S64x64 .f32 from m ((c : Thread nD τ).loc main_arg4))) (xpos (show FVec Ideal S16x3x1x8192 .f32 from W5 m ρ c (Proc.devRef .tc main_v25)) b k)) (mat (show FVec Ideal S128x4 .f32 from W9 m ρ c (Proc.devRef .tc main_v59)))
    (fun b j s o => (show FVec Ideal S16x2x2x128 .f32 from W8 m ρ c (Proc.devRef .tc main_v43)) (ix4 b j s o)) (sa1_st2 m ρ c) (fun o => ?_) (fun o => ?_) (coef2_2 (W8 m ρ c)) (coef2_3 (W8 m ρ c)) q).trans ?_
  · refine (coef2_0 (W8 m ρ c) o).trans ?_
    rw [W8_args m ρ c main_arg9 (by decide)]
  · refine (coef2_1 (W8 m ρ c) o).trans ?_
    rw [W8_args m ρ c main_arg10 (by decide)]
  · exact congrArg (fun Y => vnl varK (Ideal.ofBits .f32 0x48000000#32) (mat (show FVec Ideal S128x64 .f32 from m ((c : Thread nD τ).loc main_arg7))) (fun o => (show FVec Ideal S128 .f32 from m ((c : Thread nD τ).loc main_arg9)) (ix1 o)) (fun o => (show FVec Ideal S128 .f32 from m ((c : Thread nD τ).loc main_arg10)) (ix1 o)) (mat (show FVec Ideal S128x128 .f32 from m ((c : Thread nD τ).loc main_arg8))) Y q) (funext (sa1_l1 m ρ c))

/-- Module 1: where a neighbour of a point lies in its block. -/
theorem sa1_pos (s : Fin 256) (k : Fin 32) : (tile 2 4096 rfl (blk2 s) (nbr2 (off2 s) k) : Fin 8192) = tile 256 32 rfl s k := by
  apply Fin.ext
  show s.val / 128 * 4096 + (s.val % 128 * 32 + k.val) = s.val * 32 + k.val
  omega

/-- Module 1: the third kernel call's result. -/
theorem sa1_out (b : Fin 16) (o : Fin 128) (s : Fin 256) (d : Fin 3) :
    (show FVec Ideal S16x3x128x256 .f32 from W10 m ρ c (Proc.devRef .tc main_v60)) (ix4 b d o s) = Cert.Spec.pool (fun k => vnl varK (Ideal.ofBits .f32 0x48000000#32) (mat (show FVec Ideal S128x64 .f32 from m ((c : Thread nD τ).loc main_arg7))) (fun o => (show FVec Ideal S128 .f32 from m ((c : Thread nD τ).loc main_arg9)) (ix1 o)) (fun o => (show FVec Ideal S128 .f32 from m ((c : Thread nD τ).loc main_arg10)) (ix1 o)) (mat (show FVec Ideal S128x128 .f32 from m ((c : Thread nD τ).loc main_arg8))) (vnl varK (Ideal.ofBits .f32 0x48000000#32) (mat (show FVec Ideal S64x1 .f32 from m ((c : Thread nD τ).loc main_arg3))) (fun o => (show FVec Ideal S64 .f32 from m ((c : Thread nD τ).loc main_arg5)) (ix1 o)) (fun o => (show FVec Ideal S64 .f32 from m ((c : Thread nD τ).loc main_arg6)) (ix1 o)) (mat (show FVec Ideal S64x64 .f32 from m ((c : Thread nD τ).loc main_arg4))) (fam 256 32 rfl (show FVec Ideal S16x3x1x8192 .f32 from W5 m ρ c (Proc.devRef .tc main_v25)))) (b, s, k) o) d := by
  have e := (W10_arr m ρ c 7).trans (final2 (V9 m ρ) c)
  rw [show V9 m ρ c main_arg3 = _ from W9_args m ρ c main_arg3 (by decide),
    show V9 m ρ c main_arg4 = _ from W9_args m ρ c main_arg4 (by decide),
    show V9 m ρ c main_arg7 = _ from W9_args m ρ c main_arg7 (by decide),
    show V9 m ρ c main_arg8 = _ from W9_args m ρ c main_arg8 (by decide),
    show V9 m ρ c main_v25 = _ from sa1_x4 m ρ c,
    show V9 m ρ c main_v42 = _ from sa1_G1 m ρ c] at e
  refine (congrFun e (ix4 b d o s)).trans ?_
  refine congrArg (fun h => Cert.Spec.pool h d) (funext fun k => ?_)
  refine Eq.trans ?_ (congrFun (sa1_l2 m ρ c (b, s, k)) o)
  exact congrArg (fun p => layer (mat (show FVec Ideal S128x64 .f32 from m ((c : Thread nD τ).loc main_arg7))) (mat (show FVec Ideal S128x4 .f32 from W9 m ρ c (Proc.devRef .tc main_v59))) (mat (show FVec Ideal S128x128 .f32 from m ((c : Thread nD τ).loc main_arg8))) (layer (mat (show FVec Ideal S64x1 .f32 from m ((c : Thread nD τ).loc main_arg3))) (mat (show FVec Ideal S64x4 .f32 from W7 m ρ c (Proc.devRef .tc main_v42))) (mat (show FVec Ideal S64x64 .f32 from m ((c : Thread nD τ).loc main_arg4))) (xpos (show FVec Ideal S16x3x1x8192 .f32 from W5 m ρ c (Proc.devRef .tc main_v25)) b p)) o) (sa1_pos s k)

/-- Module 2: the module's input is untouched until its last kernel call. -/
theorem sa2_x2 : W19 m ρ c (Proc.devRef .tc main_v91) = W17 m ρ c (Proc.devRef .tc main_v91) :=
  (W19_of m ρ c main_v91 (by decide)).trans (W18_of m ρ c main_v91 (by decide))
theorem sa2_x4 : W21 m ρ c (Proc.devRef .tc main_v91) = W17 m ρ c (Proc.devRef .tc main_v91) :=
  (W21_of m ρ c main_v91 (by decide)).trans ((W20_of m ρ c main_v91 (by decide)).trans (sa2_x2 m ρ c))
theorem sa2_G1 : W21 m ρ c (Proc.devRef .tc main_v108) = W19 m ρ c (Proc.devRef .tc main_v108) :=
  (W21_of m ρ c main_v108 (by decide)).trans (W20_of m ρ c main_v108 (by decide))

/-- Module 2: the first kernel call's statistics. -/
theorem sa2_st1 (b : Fin 16) (j : Fin 1) (s : Fin 2) (o : Fin 128) :
    (show FVec Ideal S16x1x2x128 .f32 from W18 m ρ c (Proc.devRef .tc main_v92)) (ix4 b j s o) = stat (fun k : Fin 2048 => nrm (lin (mat (show FVec Ideal S128x129 .f32 from m ((c : Thread nD τ).loc main_arg11))) (xpos (show FVec Ideal S16x3x129x2048 .f32 from W17 m ρ c (Proc.devRef .tc main_v91)) b (tile 1 2048 rfl j k)) o)) s := by
  have e := (W18_arr m ρ c 2).trans (final3 (V17 m ρ) c)
  rw [show V17 m ρ c main_arg11 = _ from W17_args m ρ c main_arg11 (by decide)] at e
  exact congrFun e (ix4 b j s o)

/-- Module 2: the first layer. -/
theorem sa2_l1 (q : Fin 16 × Fin 128 × Fin 16) :
    layer (mat (show FVec Ideal S128x129 .f32 from m ((c : Thread nD τ).loc main_arg11))) (mat (show FVec Ideal S128x4 .f32 from W19 m ρ c (Proc.devRef .tc main_v108))) (mat (show FVec Ideal S128x128 .f32 from m ((c : Thread nD τ).loc main_arg12))) (xpos (show FVec Ideal S16x3x129x2048 .f32 from W17 m ρ c (Proc.devRef .tc main_v91)) q.1 (tile 128 16 rfl q.2.1 q.2.2))
      = vnl varK (Ideal.ofBits .f32 0x47000000#32) (mat (show FVec Ideal S128x129 .f32 from m ((c : Thread nD τ).loc main_arg11))) (fun o => (show FVec Ideal S128 .f32 from m ((c : Thread nD τ).loc main_arg13)) (ix1 o)) (fun o => (show FVec Ideal S128 .f32 from m ((c : Thread nD τ).loc main_arg14)) (ix1 o)) (mat (show FVec Ideal S128x128 .f32 from m ((c : Thread nD τ).loc main_arg12))) (fam 128 16 rfl (show FVec Ideal S16x3x129x2048 .f32 from W17 m ρ c (Proc.devRef .tc main_v91))) q := by
  refine coef_layer (B := 16) (J := 1) (T := 2048) (S := 128) (K := 16) (M := 2048) (by decide) (by decide) (Ideal.ofBits .f32 0x47000000#32) (mat (show FVec Ideal S128x129 .f32 from m ((c : Thread nD τ).loc main_arg11))) (fun o => (show FVec Ideal S128 .f32 from m ((c : Thread nD τ).loc main_arg13)) (ix1 o)) (fun o => (show FVec Ideal S128 .f32 from m ((c : Thread nD τ).loc main_arg14)) (ix1 o)) (mat (show FVec Ideal S128x128 .f32 from m ((c : Thread nD τ).loc main_arg12))) (xpos (show FVec Ideal S16x3x129x2048 .f32 from W17 m ρ c (Proc.devRef .tc main_v91))) (mat (show FVec Ideal S128x4 .f32 from W19 m ρ c (Proc.devRef .tc main_v108)))
    (fun b j s o => (show FVec Ideal S16x1x2x128 .f32 from W18 m ρ c (Proc.devRef .tc main_v92)) (ix4 b j s o)) (sa2_st1 m ρ c) (fun o => ?_) (fun o => ?_) (coef3_2 (W18 m ρ c)) (coef3_3 (W18 m ρ c)) q
  · refine (coef3_0 (W18 m ρ c) o).trans ?_
    rw [W18_args m ρ c main_arg13 (by decide)]
  · refine (coef3_1 (W18 m ρ c) o).trans ?_
    rw [W18_args m ρ c main_arg14 (by decide)]

/-- Module 2: the second kernel call's statistics. -/
theorem sa2_st2 (b : Fin 16) (j : Fin 1) (s : Fin 2) (o : Fin 256) :
    (show FVec Ideal S16x1x2x256 .f32 from W20 m ρ c (Proc.devRef .tc main_v109)) (ix4 b j s o) = stat (fun k : Fin 2048 => nrm (lin (mat (show FVec Ideal S256x128 .f32 from m ((c : Thread nD τ).loc main_arg15))) (layer (mat (show FVec Ideal S128x129 .f32 from m ((c : Thread nD τ).loc main_arg11))) (mat (show FVec Ideal S128x4 .f32 from W19 m ρ c (Proc.devRef .tc main_v108))) (mat (show FVec Ideal S128x128 .f32 from m ((c : Thread nD τ).loc main_arg12))) (xpos (show FVec Ideal S16x3x129x2048 .f32 from W17 m ρ c (Proc.devRef .tc main_v91)) b (tile 1 2048 rfl j k))) o)) s := by
  have e := (W20_arr m ρ c 5).trans (final4 (V19 m ρ) c)
  rw [show V19 m ρ c main_arg11 = _ from W19_args m ρ c main_arg11 (by decide),
    show V19 m ρ c main_arg12 = _ from W19_args m ρ c main_arg12 (by decide),
    show V19 m ρ c main_arg15 = _ from W19_args m ρ c main_arg15 (by decide),
    show V19 m ρ c main_v91 = _ from sa2_x2 m ρ c] at e
  exact congrFun e (ix4 b j s o)

/-- Module 2: the second layer. -/
theorem sa2_l2 (q : Fin 16 × Fin 128 × Fin 16) :
    layer (mat (show FVec Ideal S256x128 .f32 from m ((c : Thread nD τ).loc main_arg15))) (mat (show FVec Ideal S256x4 .f32 from W21 m ρ c (Proc.devRef .tc main_v125))) (mat (show FVec Ideal S256x256 .f32 from m ((c : Thread nD τ).loc main_arg16))) (layer (mat (show FVec Ideal S128x129 .f32 from m ((c : Thread nD τ).loc main_arg11))) (mat (show FVec Ideal S128x4 .f32 from W19 m ρ c (Proc.devRef .tc main_v108))) (mat (show FVec Ideal S128x128 .f32 from m ((c : Thread nD τ).loc main_arg12))) (xpos (show FVec Ideal S16x3x129x2048 .f32 from W17 m ρ c (Proc.devRef .tc main_v91)) q.1 (tile 128 16 rfl q.2.1 q.2.2)))
      = vnl varK (Ideal.ofBits .f32 0x47000000#32) (mat (show FVec Ideal S256x128 .f32 from m ((c : Thread nD τ).loc main_arg15))) (fun o => (show FVec Ideal S256 .f32 from m ((c : Thread nD τ).loc main_arg17)) (ix1 o)) (fun o => (show FVec Ideal S256 .f32 from m ((c : Thread nD τ).loc main_arg18)) (ix1 o)) (mat (show FVec Ideal S256x256 .f32 from m ((c : Thread nD τ).loc main_arg16))) (vnl varK (Ideal.ofBits .f32 0x47000000#32) (mat (show FVec Ideal S128x129 .f32 from m ((c : Thread nD τ).loc main_arg11))) (fun o => (show FVec Ideal S128 .f32 from m ((c : Thread nD τ).loc main_arg13)) (ix1 o)) (fun o => (show FVec Ideal S128 .f32 from m ((c : Thread nD τ).loc main_arg14)) (ix1 o)) (mat (show FVec Ideal S128x128 .f32 from m ((c : Thread nD τ).loc main_arg12))) (fam 128 16 rfl (show FVec Ideal S16x3x129x2048 .f32 from W17 m ρ c (Proc.devRef .tc main_v91)))) q := by
  refine (coef_layer (B := 16) (J := 1) (T := 2048) (S := 128) (K := 16) (M := 2048) (by decide) (by decide) (Ideal.ofBits .f32 0x47000000#32) (mat (show FVec Ideal S256x128 .f32 from m ((c : Thread nD τ).loc main_arg15))) (fun o => (show FVec Ideal S256 .f32 from m ((c : Thread nD τ).loc main_arg17)) (ix1 o)) (fun o => (show FVec Ideal S256 .f32 from m ((c : Thread nD τ).loc main_arg18)) (ix1 o)) (mat (show FVec Ideal S256x256 .f32 from m ((c : Thread nD τ).loc main_arg16))) (fun b k => layer (mat (show FVec Ideal S128x129 .f32 from m ((c : Thread nD τ).loc main_arg11))) (mat (show FVec Ideal S128x4 .f32 from W19 m ρ c (Proc.devRef .tc main_v108))) (mat (show FVec Ideal S128x128 .f32 from m ((c : Thread nD τ).loc main_arg12))) (xpos (show FVec Ideal S16x3x129x2048 .f32 from W17 m ρ c (Proc.devRef .tc main_v91)) b k)) (mat (show FVec Ideal S256x4 .f32 from W21 m ρ c (Proc.devRef .tc main_v125)))
    (fun b j s o => (show FVec Ideal S16x1x2x256 .f32 from W20 m ρ c (Proc.devRef .tc main_v109)) (ix4 b j s o)) (sa2_st2 m ρ c) (fun o => ?_) (fun o => ?_) (coef4_2 (W20 m ρ c)) (coef4_3 (W20 m ρ c)) q).trans ?_
  · refine (coef4_0 (W20 m ρ c) o).trans ?_
    rw [W20_args m ρ c main_arg17 (by decide)]
  · refine (coef4_1 (W20 m ρ c) o).trans ?_
    rw [W20_args m ρ c main_arg18 (by decide)]
  · exact congrArg (fun Y => vnl varK (Ideal.ofBits .f32 0x47000000#32) (mat (show FVec Ideal S256x128 .f32 from m ((c : Thread nD τ).loc main_arg15))) (fun o => (show FVec Ideal S256 .f32 from m ((c : Thread nD τ).loc main_arg17)) (ix1 o)) (fun o => (show FVec Ideal S256 .f32 from m ((c : Thread nD τ).loc main_arg18)) (ix1 o)) (mat (show FVec Ideal S256x256 .f32 from m ((c : Thread nD τ).loc main_arg16))) Y q) (funext (sa2_l1 m ρ c))

/-- Module 2: where a neighbour of a point lies in its block. -/
theorem sa2_pos (s : Fin 128) (k : Fin 16) : (tile 1 2048 rfl (blk5 s) (nbr5 (off5 s) k) : Fin 2048) = tile 128 16 rfl s k := by
  apply Fin.ext
  show 0 * 2048 + (s.val * 16 + k.val) = s.val * 16 + k.val
  omega

/-- Module 2: the third kernel call's result. -/
theorem sa2_out (b : Fin 16) (o : Fin 256) (s : Fin 128) (d : Fin 3) :
    (show FVec Ideal S16x3x256x128 .f32 from W22 m ρ c (Proc.devRef .tc main_v126)) (ix4 b d o s) = Cert.Spec.pool (fun k => vnl varK (Ideal.ofBits .f32 0x47000000#32) (mat (show FVec Ideal S256x128 .f32 from m ((c : Thread nD τ).loc main_arg15))) (fun o => (show FVec Ideal S256 .f32 from m ((c : Thread nD τ).loc main_arg17)) (ix1 o)) (fun o => (show FVec Ideal S256 .f32 from m ((c : Thread nD τ).loc main_arg18)) (ix1 o)) (mat (show FVec Ideal S256x256 .f32 from m ((c : Thread nD τ).loc main_arg16))) (vnl varK (Ideal.ofBits .f32 0x47000000#32) (mat (show FVec Ideal S128x129 .f32 from m ((c : Thread nD τ).loc main_arg11))) (fun o => (show FVec Ideal S128 .f32 from m ((c : Thread nD τ).loc main_arg13)) (ix1 o)) (fun o => (show FVec Ideal S128 .f32 from m ((c : Thread nD τ).loc main_arg14)) (ix1 o)) (mat (show FVec Ideal S128x128 .f32 from m ((c : Thread nD τ).loc main_arg12))) (fam 128 16 rfl (show FVec Ideal S16x3x129x2048 .f32 from W17 m ρ c (Proc.devRef .tc main_v91)))) (b, s, k) o) d := by
  have e := (W22_arr m ρ c 7).trans (final5 (V21 m ρ) c)
  rw [show V21 m ρ c main_arg11 = _ from W21_args m ρ c main_arg11 (by decide),
    show V21 m ρ c main_arg12 = _ from W21_args m ρ c main_arg12 (by decide),
    show V21 m ρ c main_arg15 = _ from W21_args m ρ c main_arg15 (by decide),
    show V21 m ρ c main_arg16 = _ from W21_args m ρ c main_arg16 (by decide),
    show V21 m ρ c main_v91 = _ from sa2_x4 m ρ c,
    show V21 m ρ c main_v108 = _ from sa2_G1 m ρ c] at e
  refine (congrFun e (ix4 b d o s)).trans ?_
  refine congrArg (fun h => Cert.Spec.pool h d) (funext fun k => ?_)
  refine Eq.trans ?_ (congrFun (sa2_l2 m ρ c (b, s, k)) o)
  exact congrArg (fun p => layer (mat (show FVec Ideal S256x128 .f32 from m ((c : Thread nD τ).loc main_arg15))) (mat (show FVec Ideal S256x4 .f32 from W21 m ρ c (Proc.devRef .tc main_v125))) (mat (show FVec Ideal S256x256 .f32 from m ((c : Thread nD τ).loc main_arg16))) (layer (mat (show FVec Ideal S128x129 .f32 from m ((c : Thread nD τ).loc main_arg11))) (mat (show FVec Ideal S128x4 .f32 from W19 m ρ c (Proc.devRef .tc main_v108))) (mat (show FVec Ideal S128x128 .f32 from m ((c : Thread nD τ).loc main_arg12))) (xpos (show FVec Ideal S16x3x129x2048 .f32 from W17 m ρ c (Proc.devRef .tc main_v91)) b p)) o) (sa2_pos s k)

end Cert.Val

end

end
-- ==== Proof.Spec3.lean ====
module

public import proofs.«01_k».proof.Proof.Spec2

@[expose] public section

/-! Reading a rank-5 array as a family of stacks of vectors. -/

noncomputable section

namespace Cert.Spec

open Idealize.ShloMosaic

/-- The stack of vectors at a batch element, a point and a neighbour. -/
def at5 {B C S K : ℕ} (x : (⟨5, ![B, C, S, K, 3]⟩ : Shape).Idx → EReal) (p : Fin B × Fin S × Fin K) (c : Fin C) (d : Fin 3) : EReal :=
  x (ix5 p.1 c p.2.1 p.2.2 d)

/-- One channel of a rank-5 array with one coordinate, as a family. -/
def one5 {B C S K : ℕ} (x : (⟨5, ![B, C, S, K, 1]⟩ : Shape).Idx → EReal) (c : Fin C) (p : Fin B × Fin S × Fin K) : EReal :=
  x (ix5 p.1 c p.2.1 p.2.2 0)

end Cert.Spec

end

end
-- ==== Proof.KRead.lean ====
module

public import proofs.«01_k».proof.Proof.Tile
public import proofs.«01_k».proof.Proof.Spec3
public import proofs.«01_k».proof.Proof.Gen.KernelIdeal.Frame
public import Idealize.ShloMosaic.Lib.StableHlo.RunRead
public import Idealize.ShloMosaic.Lib.Pointwise
public import Idealize.ShloMosaic.Lib.Pipeline.ValueKit

@[expose] public section
set_option maxRecDepth 16384

/-! The kernel's arrays around its calls: the inputs flattened, the results transposed. -/

noncomputable section
open Idealize.ShloMosaic Idealize.ShloMosaic.TcCoe
open Cert.KernelIdeal Cert.KernelIdeal.Gen Cert.Spec

namespace Cert.Val
variable (V : Valuation τ sig (Elt Ideal))

/-- The first module's input, read as the stacks of vectors it holds. -/
theorem v25_fam (q : Fin 16 × Fin 256 × Fin 32) :
    fam 256 32 rfl (show FVec Ideal S16x3x1x8192 .f32 from StableHlo.after hostOps0_4 V (Proc.devRef .tc main_v25)) q
      = at5 (show FVec Ideal S16x1x256x32x3 .f32 from StableHlo.after hostOps0_4 V (Proc.devRef .tc main_v23)) q := by
  funext o d
  obtain ⟨b, s, k⟩ := q
  unfold fam xpos at5 tile
  after_reads_simp
  pointwise

/-- The second module's input, read as the stacks of vectors it holds. -/
theorem v91_fam (q : Fin 16 × Fin 128 × Fin 16) :
    fam 128 16 rfl (show FVec Ideal S16x3x129x2048 .f32 from StableHlo.after hostOps3_6 V (Proc.devRef .tc main_v91)) q
      = at5 (show FVec Ideal S16x129x128x16x3 .f32 from StableHlo.after hostOps3_6 V (Proc.devRef .tc main_v89)) q := by
  have e1 : StableHlo.upto hostOps3_6 V 1 (Proc.devRef .tc main_v85) = V (Proc.devRef .tc main_v85) := by
    after_reads_simp
  have e2 : ∀ (b : Fin 16) (o : Fin 128) (s : Fin 128) (k : Fin 16) (d : Fin 3),
      (show FVec Ideal S16x128x128x16x3 .f32 from StableHlo.upto hostOps3_6 V 1 (Proc.devRef .tc main_v88)) (ix5 b o s k d)
        = (show FVec Ideal S16x128x2048x3 .f32 from V (Proc.devRef .tc main_v87)) (ix4 b o ⟨s.val * 16 + k.val, by omega⟩ d) := fun b o s k d => by
    after_reads_simp
    pointwise
  funext o d
  obtain ⟨b, s, k⟩ := q
  unfold fam xpos at5 tile
  after_reads_simp
  pointwise
  split
  · exact congrFun e1 _
  · exact e2 _ _ _ _ _

/-- The first module's result with the coordinates last. -/
theorem v61_at (b : Fin 16) (o : Fin 128) (s : Fin 256) (d : Fin 3) :
    (show FVec Ideal S16x128x256x3 .f32 from StableHlo.after hostOps3 V (Proc.devRef .tc main_v61)) (ix4 b o s d)
      = (show FVec Ideal S16x3x128x256 .f32 from V (Proc.devRef .tc main_v60)) (ix4 b d o s) := by
  after_reads_simp
  pointwise

/-- The second module's result with the coordinates last. -/
theorem v127_at (b : Fin 16) (o : Fin 256) (s : Fin 128) (d : Fin 3) :
    (show FVec Ideal S16x256x128x3 .f32 from StableHlo.after hostOps6 V (Proc.devRef .tc main_v127)) (ix4 b o s d)
      = (show FVec Ideal S16x3x256x128 .f32 from V (Proc.devRef .tc main_v126)) (ix4 b d o s) := by
  after_reads_simp
  pointwise

end Cert.Val

end

end
-- ==== Proof.RefCom.lean ====
module

public import proofs.«01_k».proof.Proof.Spec3
public import proofs.«01_k».proof.Proof.Red
public import proofs.«01_k».proof.Proof.Mask
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Spec

namespace Cert.Ref

/-- A linear map with the factors in the other order. -/
theorem lin_comm {O C : ℕ} (W : Fin O → Fin C → EReal) (x : Fin C → Fin 3 → EReal) (o : Fin O) (d : Fin 3) :
    lin W x o d = ∑ c, x c d * W o c := Finset.sum_congr rfl fun c _ => mul_comm _ _

/-- A comparison's bit converted to a number is the 0/1 value of the comparison. -/
theorem mask_u (t : EReal) :
    (FloatOps.uitofp (F := Ideal) FTy.f32 (BitVec.ofBool (decide (0 ≤ t))) : EReal) = mask t := by
  unfold mask
  by_cases h : 0 ≤ t
  · simp [h, FloatOps.uitofp]
  · simp [h, FloatOps.uitofp]

/-- The dot product as a sum. -/
theorem dot3_sum (y z : Fin 3 → EReal) : dot3 y z = ∑ d, y d * z d := by
  unfold dot3; rw [Fin.sum_univ_three]

/-- A linear map read off an array. -/
theorem lin_at {B C S K O : ℕ} (W : (⟨2, ![O, C]⟩ : Shape).Idx → EReal) (x : (⟨5, ![B, C, S, K, 3]⟩ : Shape).Idx → EReal) (p : Fin B × Fin S × Fin K) (o : Fin O) (d : Fin 3) :
    lin (mat W) (at5 x p) o d = ∑ c, x (ix5 p.1 c p.2.1 p.2.2 d) * W (ix2 o c) := lin_comm _ _ _ _

end Cert.Ref

end

end
-- ==== Proof.RefLay1.lean ====
module

public import proofs.«01_k».proof.Proof.RefRun
public import proofs.«01_k».proof.Proof.RefCom
public import proofs.«01_k».proof.Proof.Spec3
public import proofs.«01_k».proof.Proof.Red
public import proofs.«01_k».proof.Proof.Mask
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.Spec

namespace Cert.Ref

variable (V : Valuation τ sig (Elt Ideal))

/-- Layer 1's linear map. -/
theorem L1_lin (b : Fin 16) (o : Fin 64) (s : Fin 256) (k : Fin 32) (d : Fin 3) :
    (show FVec Ideal S16x64x256x32x3 .f32 from StableHlo.after refC5 V (Proc.devRef .tc main_v26)) (ix5 b o s k d)
      = lin (mat (show FVec Ideal S64x1 .f32 from V (Proc.devRef .tc main_arg3))) (at5 (show FVec Ideal S16x1x256x32x3 .f32 from V (Proc.devRef .tc main_v24)) (b, s, k)) o d := by
  rw [lin_at]
  after_reads_simp
  pointwise
  try rfl

/-- Layer 1's norms. -/
theorem L1_nrm (b : Fin 16) (o : Fin 64) (s : Fin 256) (k : Fin 32) :
    (show FVec Ideal S16x64x256x32x1 .f32 from StableHlo.after refC7 (StableHlo.after refC6 V) (Proc.devRef .tc main_v29)) (ix5 b o s k 0)
      = nrm (at5 (show FVec Ideal S16x64x256x32x3 .f32 from V (Proc.devRef .tc main_v26)) (b, s, k) o) := by
  unfold nrm; rw [dot3_sum]; unfold at5 eps
  after_reads_simp
  simp -implicitDefEqProofs only [StableHlo.TRef.toBuf, StableHlo.TRef.ofBuf, cast_cast, cast_eq]
  pointwise
  try rfl

/-- Layer 1's mean norms. -/
theorem L1_mean (o : Fin 64) :
    (show FVec Ideal S1x64x1x1x1 .f32 from StableHlo.after refC8 V (Proc.devRef .tc main_v33)) (ix5 0 o 0 0 0)
      = mean (Ideal.ofBits .f32 0x48000000#32) (one5 (show FVec Ideal S16x64x256x32x1 .f32 from V (Proc.devRef .tc main_v29)) o) := by
  unfold mean one5
  after_reads_simp
  pointwise
  rw [red5, zero_add]

/-- Layer 1's variances. -/
theorem L1_var (o : Fin 64) :
    (show FVec Ideal S1x64x1x1x1 .f32 from StableHlo.after refC10 (StableHlo.after refC9 (StableHlo.after refC8 V)) (Proc.devRef .tc main_v34)) (ix5 0 o 0 0 0)
      = varR (Ideal.ofBits .f32 0x48000000#32) (one5 (show FVec Ideal S16x64x256x32x1 .f32 from V (Proc.devRef .tc main_v29)) o) := by
  unfold varR mean one5
  after_reads_simp
  simp -implicitDefEqProofs only [StableHlo.TRef.toBuf, StableHlo.TRef.ofBuf, cast_cast, cast_eq]
  pointwise
  rw [sit0, sub_zero, if_pos cnt1_pos, red5, zero_add]
  pointwise
  simp only [red5, zero_add]

/-- Layer 1's normalization. -/
theorem L1_bn (b : Fin 16) (o : Fin 64) (s : Fin 256) (k : Fin 32) (d : Fin 3) :
    (show FVec Ideal S16x64x256x32x3 .f32 from StableHlo.after refC12 (StableHlo.after refC11 V) (Proc.devRef .tc main_v51)) (ix5 b o s k d)
      = Ideal.div (at5 (show FVec Ideal S16x64x256x32x3 .f32 from V (Proc.devRef .tc main_v26)) (b, s, k) o d) (one5 (show FVec Ideal S16x64x256x32x1 .f32 from V (Proc.devRef .tc main_v29)) o (b, s, k))
          * bnv ((show FVec Ideal S64 .f32 from V (Proc.devRef .tc main_arg5)) (ix1 o)) ((show FVec Ideal S64 .f32 from V (Proc.devRef .tc main_arg6)) (ix1 o)) ((show FVec Ideal S1x64x1x1x1 .f32 from V (Proc.devRef .tc main_v33)) (ix5 0 o 0 0 0)) ((show FVec Ideal S1x64x1x1x1 .f32 from V (Proc.devRef .tc main_v34)) (ix5 0 o 0 0 0)) (one5 (show FVec Ideal S16x64x256x32x1 .f32 from V (Proc.devRef .tc main_v29)) o (b, s, k)) := by
  unfold at5 one5 bnv veps
  after_reads_simp
  pointwise

/-- Layer 1's activation. -/
theorem L1_act (b : Fin 16) (o : Fin 64) (s : Fin 256) (k : Fin 32) (d : Fin 3) :
    (show FVec Ideal S16x64x256x32x3 .f32 from StableHlo.after refC13 V (Proc.devRef .tc main_v80)) (ix5 b o s k d)
      = act (mat (show FVec Ideal S64x64 .f32 from V (Proc.devRef .tc main_arg4))) (at5 (show FVec Ideal S16x64x256x32x3 .f32 from V (Proc.devRef .tc main_v51)) (b, s, k)) o d := by
  unfold act lrelu
  simp only [lin_at, dot3_sum]
  unfold at5 neg pos eps
  after_reads_simp
  pointwise
  try simp only [mask_u]

/-- Layer 2's linear map. -/
theorem L2_lin (b : Fin 16) (o : Fin 128) (s : Fin 256) (k : Fin 32) (d : Fin 3) :
    (show FVec Ideal S16x128x256x32x3 .f32 from StableHlo.after refC14 V (Proc.devRef .tc main_v82)) (ix5 b o s k d)
      = lin (mat (show FVec Ideal S128x64 .f32 from V (Proc.devRef .tc main_arg7))) (at5 (show FVec Ideal S16x64x256x32x3 .f32 from V (Proc.devRef .tc main_v80)) (b, s, k)) o d := by
  rw [lin_at]
  after_reads_simp
  pointwise
  try rfl

/-- Layer 2's norms. -/
theorem L2_nrm (b : Fin 16) (o : Fin 128) (s : Fin 256) (k : Fin 32) :
    (show FVec Ideal S16x128x256x32x1 .f32 from StableHlo.after refC16 (StableHlo.after refC15 V) (Proc.devRef .tc main_v85)) (ix5 b o s k 0)
      = nrm (at5 (show FVec Ideal S16x128x256x32x3 .f32 from V (Proc.devRef .tc main_v82)) (b, s, k) o) := by
  unfold nrm; rw [dot3_sum]; unfold at5 eps
  after_reads_simp
  simp -implicitDefEqProofs only [StableHlo.TRef.toBuf, StableHlo.TRef.ofBuf, cast_cast, cast_eq]
  pointwise
  try rfl

/-- Layer 2's mean norms. -/
theorem L2_mean (o : Fin 128) :
    (show FVec Ideal S1x128x1x1x1 .f32 from StableHlo.after refC17 V (Proc.devRef .tc main_v89)) (ix5 0 o 0 0 0)
      = mean (Ideal.ofBits .f32 0x48000000#32) (one5 (show FVec Ideal S16x128x256x32x1 .f32 from V (Proc.devRef .tc main_v85)) o) := by
  unfold mean one5
  after_reads_simp
  pointwise
  rw [red5, zero_add]

/-- Layer 2's variances. -/
theorem L2_var (o : Fin 128) :
    (show FVec Ideal S1x128x1x1x1 .f32 from StableHlo.after refC19 (StableHlo.after refC18 (StableHlo.after refC17 V)) (Proc.devRef .tc main_v90)) (ix5 0 o 0 0 0)
      = varR (Ideal.ofBits .f32 0x48000000#32) (one5 (show FVec Ideal S16x128x256x32x1 .f32 from V (Proc.devRef .tc main_v85)) o) := by
  unfold varR mean one5
  after_reads_simp
  simp -implicitDefEqProofs only [StableHlo.TRef.toBuf, StableHlo.TRef.ofBuf, cast_cast, cast_eq]
  pointwise
  rw [sit0, sub_zero, if_pos cnt1_pos, red5, zero_add]
  pointwise
  simp only [red5, zero_add]

/-- Layer 2's normalization. -/
theorem L2_bn (b : Fin 16) (o : Fin 128) (s : Fin 256) (k : Fin 32) (d : Fin 3) :
    (show FVec Ideal S16x128x256x32x3 .f32 from StableHlo.after refC21 (StableHlo.after refC20 V) (Proc.devRef .tc main_v107)) (ix5 b o s k d)
      = Ideal.div (at5 (show FVec Ideal S16x128x256x32x3 .f32 from V (Proc.devRef .tc main_v82)) (b, s, k) o d) (one5 (show FVec Ideal S16x128x256x32x1 .f32 from V (Proc.devRef .tc main_v85)) o (b, s, k))
          * bnv ((show FVec Ideal S128 .f32 from V (Proc.devRef .tc main_arg9)) (ix1 o)) ((show FVec Ideal S128 .f32 from V (Proc.devRef .tc main_arg10)) (ix1 o)) ((show FVec Ideal S1x128x1x1x1 .f32 from V (Proc.devRef .tc main_v89)) (ix5 0 o 0 0 0)) ((show FVec Ideal S1x128x1x1x1 .f32 from V (Proc.devRef .tc main_v90)) (ix5 0 o 0 0 0)) (one5 (show FVec Ideal S16x128x256x32x1 .f32 from V (Proc.devRef .tc main_v85)) o (b, s, k)) := by
  unfold at5 one5 bnv veps
  after_reads_simp
  pointwise

/-- Layer 2's activation. -/
theorem L2_act (b : Fin 16) (o : Fin 128) (s : Fin 256) (k : Fin 32) (d : Fin 3) :
    (show FVec Ideal S16x128x256x32x3 .f32 from StableHlo.after refC22 V (Proc.devRef .tc main_v136)) (ix5 b o s k d)
      = act (mat (show FVec Ideal S128x128 .f32 from V (Proc.devRef .tc main_arg8))) (at5 (show FVec Ideal S16x128x256x32x3 .f32 from V (Proc.devRef .tc main_v107)) (b, s, k)) o d := by
  unfold act lrelu
  simp only [lin_at, dot3_sum]
  unfold at5 neg pos eps
  after_reads_simp
  pointwise
  try simp only [mask_u]

end Cert.Ref

end

end
-- ==== Proof.RefLay2.lean ====
module

public import proofs.«01_k».proof.Proof.RefRun
public import proofs.«01_k».proof.Proof.RefCom
public import proofs.«01_k».proof.Proof.Spec3
public import proofs.«01_k».proof.Proof.Red
public import proofs.«01_k».proof.Proof.Mask
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.Spec

namespace Cert.Ref

variable (V : Valuation τ sig (Elt Ideal))

/-- Layer 3's linear map. -/
theorem L3_lin (b : Fin 16) (o : Fin 128) (s : Fin 128) (k : Fin 16) (d : Fin 3) :
    (show FVec Ideal S16x128x128x16x3 .f32 from StableHlo.after refC36 V (Proc.devRef .tc main_v174)) (ix5 b o s k d)
      = lin (mat (show FVec Ideal S128x129 .f32 from V (Proc.devRef .tc main_arg11))) (at5 (show FVec Ideal S16x129x128x16x3 .f32 from V (Proc.devRef .tc main_v172)) (b, s, k)) o d := by
  rw [lin_at]
  after_reads_simp
  pointwise
  try rfl

/-- Layer 3's norms. -/
theorem L3_nrm (b : Fin 16) (o : Fin 128) (s : Fin 128) (k : Fin 16) :
    (show FVec Ideal S16x128x128x16x1 .f32 from StableHlo.after refC38 (StableHlo.after refC37 V) (Proc.devRef .tc main_v177)) (ix5 b o s k 0)
      = nrm (at5 (show FVec Ideal S16x128x128x16x3 .f32 from V (Proc.devRef .tc main_v174)) (b, s, k) o) := by
  unfold nrm; rw [dot3_sum]; unfold at5 eps
  after_reads_simp
  simp -implicitDefEqProofs only [StableHlo.TRef.toBuf, StableHlo.TRef.ofBuf, cast_cast, cast_eq]
  pointwise
  try rfl

/-- Layer 3's mean norms. -/
theorem L3_mean (o : Fin 128) :
    (show FVec Ideal S1x128x1x1x1 .f32 from StableHlo.after refC39 V (Proc.devRef .tc main_v181)) (ix5 0 o 0 0 0)
      = mean (Ideal.ofBits .f32 0x47000000#32) (one5 (show FVec Ideal S16x128x128x16x1 .f32 from V (Proc.devRef .tc main_v177)) o) := by
  unfold mean one5
  after_reads_simp
  pointwise
  rw [red5, zero_add]

/-- Layer 3's variances. -/
theorem L3_var (o : Fin 128) :
    (show FVec Ideal S1x128x1x1x1 .f32 from StableHlo.after refC41 (StableHlo.after refC40 (StableHlo.after refC39 V)) (Proc.devRef .tc main_v182)) (ix5 0 o 0 0 0)
      = varR (Ideal.ofBits .f32 0x47000000#32) (one5 (show FVec Ideal S16x128x128x16x1 .f32 from V (Proc.devRef .tc main_v177)) o) := by
  unfold varR mean one5
  after_reads_simp
  simp -implicitDefEqProofs only [StableHlo.TRef.toBuf, StableHlo.TRef.ofBuf, cast_cast, cast_eq]
  pointwise
  rw [sit0, sub_zero, if_pos cnt2_pos, red5, zero_add]
  pointwise
  simp only [red5, zero_add]

/-- Layer 3's normalization. -/
theorem L3_bn (b : Fin 16) (o : Fin 128) (s : Fin 128) (k : Fin 16) (d : Fin 3) :
    (show FVec Ideal S16x128x128x16x3 .f32 from StableHlo.after refC42 V (Proc.devRef .tc main_v199)) (ix5 b o s k d)
      = Ideal.div (at5 (show FVec Ideal S16x128x128x16x3 .f32 from V (Proc.devRef .tc main_v174)) (b, s, k) o d) (one5 (show FVec Ideal S16x128x128x16x1 .f32 from V (Proc.devRef .tc main_v177)) o (b, s, k))
          * bnv ((show FVec Ideal S128 .f32 from V (Proc.devRef .tc main_arg13)) (ix1 o)) ((show FVec Ideal S128 .f32 from V (Proc.devRef .tc main_arg14)) (ix1 o)) ((show FVec Ideal S1x128x1x1x1 .f32 from V (Proc.devRef .tc main_v181)) (ix5 0 o 0 0 0)) ((show FVec Ideal S1x128x1x1x1 .f32 from V (Proc.devRef .tc main_v182)) (ix5 0 o 0 0 0)) (one5 (show FVec Ideal S16x128x128x16x1 .f32 from V (Proc.devRef .tc main_v177)) o (b, s, k)) := by
  unfold at5 one5 bnv veps
  after_reads_simp
  pointwise

/-- Layer 3's activation. -/
theorem L3_act (b : Fin 16) (o : Fin 128) (s : Fin 128) (k : Fin 16) (d : Fin 3) :
    (show FVec Ideal S16x128x128x16x3 .f32 from StableHlo.after refC43 V (Proc.devRef .tc main_v228)) (ix5 b o s k d)
      = act (mat (show FVec Ideal S128x128 .f32 from V (Proc.devRef .tc main_arg12))) (at5 (show FVec Ideal S16x128x128x16x3 .f32 from V (Proc.devRef .tc main_v199)) (b, s, k)) o d := by
  unfold act lrelu
  simp only [lin_at, dot3_sum]
  unfold at5 neg pos eps
  after_reads_simp
  pointwise
  try simp only [mask_u]

/-- Layer 4's linear map. -/
theorem L4_lin (b : Fin 16) (o : Fin 256) (s : Fin 128) (k : Fin 16) (d : Fin 3) :
    (show FVec Ideal S16x256x128x16x3 .f32 from StableHlo.after refC44 V (Proc.devRef .tc main_v230)) (ix5 b o s k d)
      = lin (mat (show FVec Ideal S256x128 .f32 from V (Proc.devRef .tc main_arg15))) (at5 (show FVec Ideal S16x128x128x16x3 .f32 from V (Proc.devRef .tc main_v228)) (b, s, k)) o d := by
  rw [lin_at]
  after_reads_simp
  pointwise
  try rfl

/-- Layer 4's norms. -/
theorem L4_nrm (b : Fin 16) (o : Fin 256) (s : Fin 128) (k : Fin 16) :
    (show FVec Ideal S16x256x128x16x1 .f32 from StableHlo.after refC46 (StableHlo.after refC45 V) (Proc.devRef .tc main_v233)) (ix5 b o s k 0)
      = nrm (at5 (show FVec Ideal S16x256x128x16x3 .f32 from V (Proc.devRef .tc main_v230)) (b, s, k) o) := by
  unfold nrm; rw [dot3_sum]; unfold at5 eps
  after_reads_simp
  simp -implicitDefEqProofs only [StableHlo.TRef.toBuf, StableHlo.TRef.ofBuf, cast_cast, cast_eq]
  pointwise
  try rfl

/-- Layer 4's mean norms. -/
theorem L4_mean (o : Fin 256) :
    (show FVec Ideal S1x256x1x1x1 .f32 from StableHlo.after refC47 V (Proc.devRef .tc main_v237)) (ix5 0 o 0 0 0)
      = mean (Ideal.ofBits .f32 0x47000000#32) (one5 (show FVec Ideal S16x256x128x16x1 .f32 from V (Proc.devRef .tc main_v233)) o) := by
  unfold mean one5
  after_reads_simp
  pointwise
  rw [red5, zero_add]

/-- Layer 4's variances. -/
theorem L4_var (o : Fin 256) :
    (show FVec Ideal S1x256x1x1x1 .f32 from StableHlo.after refC49 (StableHlo.after refC48 (StableHlo.after refC47 V)) (Proc.devRef .tc main_v238)) (ix5 0 o 0 0 0)
      = varR (Ideal.ofBits .f32 0x47000000#32) (one5 (show FVec Ideal S16x256x128x16x1 .f32 from V (Proc.devRef .tc main_v233)) o) := by
  unfold varR mean one5
  after_reads_simp
  simp -implicitDefEqProofs only [StableHlo.TRef.toBuf, StableHlo.TRef.ofBuf, cast_cast, cast_eq]
  pointwise
  rw [sit0, sub_zero, if_pos cnt2_pos, red5, zero_add]
  pointwise
  simp only [red5, zero_add]

/-- Layer 4's normalization. -/
theorem L4_bn (b : Fin 16) (o : Fin 256) (s : Fin 128) (k : Fin 16) (d : Fin 3) :
    (show FVec Ideal S16x256x128x16x3 .f32 from StableHlo.after refC51 (StableHlo.after refC50 V) (Proc.devRef .tc main_v255)) (ix5 b o s k d)
      = Ideal.div (at5 (show FVec Ideal S16x256x128x16x3 .f32 from V (Proc.devRef .tc main_v230)) (b, s, k) o d) (one5 (show FVec Ideal S16x256x128x16x1 .f32 from V (Proc.devRef .tc main_v233)) o (b, s, k))
          * bnv ((show FVec Ideal S256 .f32 from V (Proc.devRef .tc main_arg17)) (ix1 o)) ((show FVec Ideal S256 .f32 from V (Proc.devRef .tc main_arg18)) (ix1 o)) ((show FVec Ideal S1x256x1x1x1 .f32 from V (Proc.devRef .tc main_v237)) (ix5 0 o 0 0 0)) ((show FVec Ideal S1x256x1x1x1 .f32 from V (Proc.devRef .tc main_v238)) (ix5 0 o 0 0 0)) (one5 (show FVec Ideal S16x256x128x16x1 .f32 from V (Proc.devRef .tc main_v233)) o (b, s, k)) := by
  unfold at5 one5 bnv veps
  after_reads_simp
  pointwise

/-- Layer 4's activation. -/
theorem L4_act (b : Fin 16) (o : Fin 256) (s : Fin 128) (k : Fin 16) (d : Fin 3) :
    (show FVec Ideal S16x256x128x16x3 .f32 from StableHlo.after refC52 V (Proc.devRef .tc main_v284)) (ix5 b o s k d)
      = act (mat (show FVec Ideal S256x256 .f32 from V (Proc.devRef .tc main_arg16))) (at5 (show FVec Ideal S16x256x128x16x3 .f32 from V (Proc.devRef .tc main_v255)) (b, s, k)) o d := by
  unfold act lrelu
  simp only [lin_at, dot3_sum]
  unfold at5 neg pos eps
  after_reads_simp
  pointwise
  try simp only [mask_u]

end Cert.Ref

end

end
-- ==== Proof.ArgMax.lean ====
module

public import proofs.«01_k».proof.Proof.Pool
public import Idealize.ShloMosaic.Lib.Pointwise

@[expose] public section

/-! The position a host's arg-max reports is the first position of the largest entry. -/

noncomputable section

open Idealize.ShloMosaic Cert.Spec

namespace Cert.Ref

/-- Folding "keep the larger, on a tie the earlier" over pairs of entry and position. -/
theorem argfold {K : ℕ} (hK : K < 2 ^ 31) (q : Fin K → EReal) (f : EReal × BitVec 32 → EReal × BitVec 32 → EReal × BitVec 32)
    (hf : ∀ a b, f a b = if b.1 < a.1 ∨ (a.1 = b.1 ∧ a.2.toInt < b.2.toInt) then a else b)
    (l : List (EReal × BitVec 32)) (hl : ∀ p ∈ l, ∃ k : Fin K, p = (q k, BitVec.ofNat 32 k)) (a : EReal × BitVec 32)
    (ha : a = (⊥, 0#32) ∨ ∃ k : Fin K, a = (q k, BitVec.ofNat 32 k)) :
    (l.foldl f a = (⊥, 0#32) ∨ ∃ k : Fin K, l.foldl f a = (q k, BitVec.ofNat 32 k))
      ∧ (∀ p ∈ a :: l, p.1 < (l.foldl f a).1 ∨ (p.1 = (l.foldl f a).1 ∧ (l.foldl f a).2.toInt ≤ p.2.toInt)) := by
  induction l generalizing a with
  | nil =>
    refine ⟨ha, fun p hp => ?_⟩
    rw [List.mem_singleton] at hp
    subst hp; exact Or.inr ⟨rfl, le_refl _⟩
  | cons b l ih =>
    have hb := hl b (by simp)
    have hl' : ∀ p ∈ l, ∃ k : Fin K, p = (q k, BitVec.ofNat 32 k) := fun p hp => hl p (List.mem_cons_of_mem _ hp)
    rw [List.foldl_cons]
    have hfa : f a b = (⊥, 0#32) ∨ ∃ k : Fin K, f a b = (q k, BitVec.ofNat 32 k) := by
      rw [hf]; split_ifs
      · exact ha
      · exact Or.inr hb
    obtain ⟨h1, h2⟩ := ih hl' (f a b) hfa
    refine ⟨h1, ?_⟩
    have hz := h2 (f a b) (by simp)
    have hgo : ∀ p : EReal × BitVec 32, (p.1 < (f a b).1 ∨ (p.1 = (f a b).1 ∧ (f a b).2.toInt ≤ p.2.toInt)) →
        p.1 < (l.foldl f (f a b)).1 ∨ (p.1 = (l.foldl f (f a b)).1 ∧ (l.foldl f (f a b)).2.toInt ≤ p.2.toInt) := by
      intro p hp
      rcases hp with hp | ⟨hp, hq⟩ <;> rcases hz with hz | ⟨hz, hy⟩
      · exact Or.inl (hp.trans hz)
      · exact Or.inl (hz ▸ hp)
      · exact Or.inl (hp ▸ hz)
      · exact Or.inr ⟨hp.trans hz, hy.trans hq⟩
    intro p hp
    rcases List.mem_cons.1 hp with rfl | hp
    · apply hgo
      rw [hf]; split_ifs with h
      · exact Or.inr ⟨rfl, le_refl _⟩
      · push Not at h
        rcases lt_or_eq_of_le h.1 with h' | h'
        · exact Or.inl h'
        · exact Or.inr ⟨h', h.2 h'⟩
    · rcases List.mem_cons.1 hp with rfl | hp
      · apply hgo
        rw [hf]; split_ifs with h
        · rcases h with h | h
          · exact Or.inl h
          · exact Or.inr ⟨h.1.symm, h.2.le⟩
        · exact Or.inr ⟨rfl, le_refl _⟩
      · exact h2 p (List.mem_cons_of_mem _ hp)

/-- The fold over all pairs ends at the first position of the largest entry. -/
theorem argfold_first {K : ℕ} (hK : K < 2 ^ 31) (hK0 : 0 < K) (q : Fin K → EReal) (f : EReal × BitVec 32 → EReal × BitVec 32 → EReal × BitVec 32)
    (hf : ∀ a b, f a b = if b.1 < a.1 ∨ (a.1 = b.1 ∧ a.2.toInt < b.2.toInt) then a else b)
    (l : List (EReal × BitVec 32)) (hl : ∀ p ∈ l, ∃ k : Fin K, p = (q k, BitVec.ofNat 32 k))
    (hc : ∀ k : Fin K, (q k, BitVec.ofNat 32 k) ∈ l) :
    ∃ i : Fin K, (l.foldl f (⊥, 0#32)).2 = BitVec.ofNat 32 i ∧ IsFirstMax q i := by
  obtain ⟨h1, h2⟩ := argfold hK q f hf l hl (⊥, 0#32) (Or.inl rfl)
  have h3 : ∀ k : Fin K, _ := fun k => h2 _ (List.mem_cons_of_mem _ (hc k))
  rcases h1 with h1 | ⟨i, h1⟩
  · refine ⟨⟨0, hK0⟩, by rw [h1], ?_, fun j hj => absurd hj (by simp [Fin.lt_def])⟩
    intro j
    have := h3 j
    rw [h1] at this
    rcases this with h | ⟨h, _⟩
    · exact absurd h (not_lt.2 bot_le)
    · exact (le_of_eq h).trans bot_le
  · refine ⟨i, by rw [h1], fun j => ?_, fun j hj => ?_⟩
    · have := h3 j
      rw [h1] at this
      rcases this with h | ⟨h, _⟩
      · exact h.le
      · exact h.le
    · have := h3 j
      rw [h1] at this
      rcases this with h | ⟨_, h⟩
      · exact h
      · have h' : (BitVec.ofNat 32 (i : ℕ)).toInt ≤ (BitVec.ofNat 32 (j : ℕ)).toInt := h
        have hi := i.isLt
        have hj' := j.isLt
        rw [Cert.Val.toInt_small (by omega), Cert.Val.toInt_small (by omega)] at h'
        have : (j : ℕ) < i := hj
        omega

/-- Arg-max over the last axis of rank 4. -/
theorem argmax4 {B C S K : ℕ} {u : Shape} (hK : K < 2 ^ 31) (hK0 : 0 < K) (f : EReal × BitVec 32 → EReal × BitVec 32 → EReal × BitVec 32)
    (hf : ∀ a b, f a b = if b.1 < a.1 ∨ (a.1 = b.1 ∧ a.2.toInt < b.2.toInt) then a else b)
    (x : (⟨4, ![B, C, S, K]⟩ : Shape).Idx → EReal) (y : (⟨4, ![B, C, S, K]⟩ : Shape).Idx → BitVec 32)
    (hy : ∀ b c s k, y (ix4 b c s k) = BitVec.ofNat 32 (k : ℕ))
    (ix : u.Idx → EReal) (iy : u.Idx → BitVec 32) (hix : ∀ i, ix i = ⊥) (hiy : ∀ i, iy i = 0#32)
    (h : (⟨4, ![B, C, S, K]⟩ : Shape).ReducesTo [3] ⟨3, ![B, C, S]⟩) (hu : 0 < u.numel)
    (w : (⟨3, ![B, C, S]⟩ : Shape).Idx → BitVec 32) (hw : w = fun j => (Host.argReduce (F := Ideal) (φ := .f32) f x y ix iy h hu j).2)
    (b : Fin B) (c : Fin C) (s : Fin S) :
    ∃ i : Fin K, w (ix3 b c s) = BitVec.ofNat 32 i ∧ IsFirstMax (fun k => x (ix4 b c s k)) i := by
  rw [hw]
  have e := congrFun (Ideal.argReduce_eq_reduce2 (φ := .f32) f x y ix iy h hu) (ix3 b c s)
  dsimp only
  rw [e, Host.reduce2_eq_foldl_fiber, hix, hiy]
  refine argfold_first hK hK0 _ f hf _ ?_ ?_
  · intro p hp
    unfold Host.argReduceFiber at hp
    obtain ⟨n, hn, rfl⟩ := List.mem_map.1 hp
    rw [List.mem_filter] at hn
    have hd := of_decide_eq_true hn.2
    obtain ⟨k, hk⟩ := (h.fiber_r4_a3 (ix3 b c s) _).1 hd
    refine ⟨k, ?_⟩
    rw [← hk]
    exact Prod.ext rfl (hy _ _ _ _)
  · intro k
    unfold Host.argReduceFiber
    refine List.mem_map.2 ⟨(⟨4, ![B, C, S, K]⟩ : Shape).rowMajor (ix4 b c s k), ?_, ?_⟩
    · rw [List.mem_filter]
      refine ⟨List.mem_finRange _, decide_eq_true ?_⟩
      rw [Equiv.symm_apply_apply]
      exact (h.fiber_r4_a3 (ix3 b c s) _).2 ⟨k, rfl⟩
    · rw [Equiv.symm_apply_apply]
      exact Prod.ext rfl (hy _ _ _ _)

end Cert.Ref

end

end
-- ==== Proof.RefPool.lean ====
module

public import proofs.«01_k».proof.Proof.RefRun
public import proofs.«01_k».proof.Proof.ArgMax
public import proofs.«01_k».proof.Proof.Spec3
public import proofs.«01_k».proof.Proof.Red
public import proofs.«01_k».proof.Proof.Mask
public import proofs.«01_k».proof.Proof.RefCom
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.Spec

namespace Cert.Ref

/-- The arg-max's body keeps the larger entry, on a tie the earlier one. -/
theorem red_arg (a b : EReal × BitVec 32) :
    (reducer_argmax_f32_i32 (F := Ideal) : EReal × BitVec 32 → EReal × BitVec 32 → EReal × BitVec 32) a b
      = if b.1 < a.1 ∨ (a.1 = b.1 ∧ a.2.toInt < b.2.toInt) then a else b := by
  obtain ⟨a1, a2⟩ := a
  obtain ⟨b1, b2⟩ := b
  unfold reducer_argmax_f32_i32
  simp only [Ideal.cmpf_def, Ideal.cmp, IntOp.ori, IntOp.andi, IntOp.cmpi, Scalar.select]
  by_cases h : b1 < a1
  · simp [h]
    intro hc
    exact absurd (by generalize BitVec.ofBool (decide (a1 = b1) && a2.slt b2) = z; revert z; decide) hc
  · by_cases h1 : a1 = b1
    · by_cases h2 : a2.toInt < b2.toInt <;> simp [h1, h2, BitVec.slt]
    · simp [h, h1]

variable (V : Valuation τ sig (Elt Ideal))

/-- Pooling 1: gathering along the neighbours. -/
theorem pgather1 (x : FVec Ideal S16x128x256x32x3 .f32) (idx : IVec S16x128x256x1x1 32) (b : Fin 16) (o : Fin 128) (s : Fin 256) (d : Fin 3) (i : Fin 32)
    (hi : (idx (ix5 b o s 0 0)).toInt = (i : ℕ)) :
    Host.gather gather_S16x128x256x32x3_S16x128x256x1x1_S16x128x256x1x3_4_3_012_012_3_4_11113 x idx (ix5 b o s 0 d) = x (ix5 b o s i d) := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    have hs : gather_S16x128x256x32x3_S16x128x256x1x1_S16x128x256x1x3_4_3_012_012_3_4_11113.siIdx (ix5 b o s (0 : Fin 1) d) ⟨0, by decide⟩ = ix5 b o s (0 : Fin 1) (0 : Fin 1) := by
      funext c; apply Fin.ext
      match c with
      | ⟨0, _⟩ => rfl
      | ⟨1, _⟩ => rfl
      | ⟨2, _⟩ => rfl
      | ⟨3, _⟩ => rfl
      | ⟨4, _⟩ => rfl
    show min (idx (gather_S16x128x256x32x3_S16x128x256x1x1_S16x128x256x1x3_4_3_012_012_3_4_11113.siIdx (ix5 b o s (0 : Fin 1) d) ⟨0, by decide⟩)).toInt.toNat 31 + 0 + 0 = i.val
    rw [hs, hi]
    have := i.isLt
    omega
  | ⟨4, _⟩ => exact Nat.zero_add _

/-- Pooling 1: the squared norms. -/
theorem psq1 (b : Fin 16) (o : Fin 128) (s : Fin 256) (k : Fin 32) :
    (show FVec Ideal S16x128x256x32 .f32 from StableHlo.after refC23 V (Proc.devRef .tc main_v138)) (ix4 b o s k)
      = dot3 (at5 (show FVec Ideal S16x128x256x32x3 .f32 from V (Proc.devRef .tc main_v136)) (b, s, k) o) (at5 (show FVec Ideal S16x128x256x32x3 .f32 from V (Proc.devRef .tc main_v136)) (b, s, k) o) := by
  rw [dot3_sum]; unfold at5
  after_reads_simp
  pointwise
  try rfl

/-- Pooling 1: the arg-max as an operation. -/
theorem pam1 : (show IVec S16x128x256 32 from StableHlo.after refC24 V (Proc.devRef .tc main_v139))
      = fun j => (Host.argReduce (reducer_argmax_f32_i32 (F := Ideal)) (show FVec Ideal S16x128x256x32 .f32 from V (Proc.devRef .tc main_v138)) (iotaInDim S16x128x256x32 32 3)
          (constant (F := Ideal) S_ .f32 0xFF800000#32) (constantI S_ 32 0#32) reducesTo_S16x128x256x32_S16x128x256_d3 h_S_ j).2 := by
  after_reads_simp
  simp -implicitDefEqProofs only [StableHlo.TRef.toBuf, StableHlo.TRef.ofBuf, cast_cast, cast_eq]

/-- Pooling 1: the positions with two unit axes. -/
theorem pbc1 (b : Fin 16) (o : Fin 128) (s : Fin 256) :
    (show IVec S16x128x256x1x1 32 from StableHlo.after refC25 V (Proc.devRef .tc main_v140)) (ix5 b o s 0 0)
      = (show IVec S16x128x256 32 from V (Proc.devRef .tc main_v139)) (ix3 b o s) := by
  after_reads_simp
  pointwise

/-- Pooling 1: the position of the vector of largest squared norm. -/
theorem pidx1 (b : Fin 16) (o : Fin 128) (s : Fin 256) : ∃ i : Fin 32,
    (show IVec S16x128x256x1x1 32 from StableHlo.after refC25 (StableHlo.after refC24 (StableHlo.after refC23 V)) (Proc.devRef .tc main_v140)) (ix5 b o s 0 0) = BitVec.ofNat 32 i
      ∧ IsFirstMax (fun k => dot3 (at5 (show FVec Ideal S16x128x256x32x3 .f32 from V (Proc.devRef .tc main_v136)) (b, s, k) o) (at5 (show FVec Ideal S16x128x256x32x3 .f32 from V (Proc.devRef .tc main_v136)) (b, s, k) o)) i := by
  obtain ⟨i, h1, h2⟩ := argmax4 (by norm_num) (by norm_num) (reducer_argmax_f32_i32 (F := Ideal)) red_arg
    (show FVec Ideal S16x128x256x32 .f32 from StableHlo.after refC23 V (Proc.devRef .tc main_v138)) (iotaInDim S16x128x256x32 32 3) (fun _ _ _ _ => rfl)
    (constant (F := Ideal) S_ .f32 0xFF800000#32) (constantI S_ 32 0#32) (fun _ => Cert.Val.ninf_eq) (fun _ => rfl)
    reducesTo_S16x128x256x32_S16x128x256_d3 h_S_ _ (pam1 (StableHlo.after refC23 V)) b o s
  refine ⟨i, (pbc1 (StableHlo.after refC24 (StableHlo.after refC23 V)) b o s).trans h1, ?_⟩
  refine (congrArg (fun q => IsFirstMax q i) (funext fun k => ?_)).mp h2
  exact psq1 V b o s k

/-- Pooling 1: the entry at a position in range. -/
theorem ptake1 (b : Fin 16) (o : Fin 128) (s : Fin 256) (d : Fin 3) (i : Fin 32)
    (hi : (show IVec S16x128x256x1x1 32 from V (Proc.devRef .tc main_v140)) (ix5 b o s 0 0) = BitVec.ofNat 32 i) :
    (show FVec Ideal S16x128x256x3 .f32 from StableHlo.after refC27 (StableHlo.after refC26 V) (Proc.devRef .tc main_v142)) (ix4 b o s d)
      = (show FVec Ideal S16x128x256x32x3 .f32 from V (Proc.devRef .tc main_v136)) (ix5 b o s i d) := by
  after_reads_simp
  simp -implicitDefEqProofs only [StableHlo.TRef.toBuf, StableHlo.TRef.ofBuf, cast_cast, cast_eq]
  pointwise
  have hlt := i.isLt
  have hI : (BitVec.ofNat 32 (i : ℕ)).toInt = (i : ℕ) := Cert.Val.toInt_small (by omega)
  have hz : ∀ x : Fin 1, (x : Fin 1) = 0 := fun x => Subsingleton.elim _ _
  have hw : IntOp.cmpi CmpIPredicate.slt (BitVec.ofNat 32 (i : ℕ)) 0#32 = 0#1 := by
    have h0 : ¬ ((i : ℕ) : ℤ) < 0 := by omega
    simp [IntOp.cmpi, BitVec.slt, hI, h0]
  have hge : IntOp.cmpi CmpIPredicate.sge (BitVec.ofNat 32 (i : ℕ)) 0#32 = 1#1 := by
    simp [IntOp.cmpi, BitVec.sle, hI]
  have hle : IntOp.cmpi CmpIPredicate.sle (BitVec.ofNat 32 (i : ℕ)) 31#32 = 1#1 := by
    have h0 : ((i : ℕ) : ℤ) ≤ 31 := by omega
    have h1 : (31#32 : BitVec 32).toInt = 31 := by decide
    simp only [IntOp.cmpi, BitVec.sle, hI, h1, h0]
    rfl
  have hi' : V (Proc.tc.devRef main_v140) (ix5 b o s 0 0) = BitVec.ofNat 32 i := hi
  rw [pgather1 _ _ b o s d i]
  · simp only [hz, hi', hw, hge, hle, Scalar.select]
    simp [IntOp.andi, hge, hle]
  · pointwise
    rw [hi', hw, ← hI]
    rfl

/-- Pooling 1: the vector of largest squared norm among the neighbours. -/
theorem pool1 (b : Fin 16) (o : Fin 128) (s : Fin 256) (d : Fin 3) :
    (show FVec Ideal S16x128x256x3 .f32 from StableHlo.after refC27 (StableHlo.after refC26 (StableHlo.after refC25 (StableHlo.after refC24 (StableHlo.after refC23 V)))) (Proc.devRef .tc main_v142)) (ix4 b o s d)
      = Cert.Spec.pool (fun k => at5 (show FVec Ideal S16x128x256x32x3 .f32 from V (Proc.devRef .tc main_v136)) (b, s, k) o) d := by
  obtain ⟨i, h1, h2⟩ := pidx1 V b o s
  have e : StableHlo.after refC25 (StableHlo.after refC24 (StableHlo.after refC23 V)) (Proc.devRef .tc main_v136) = V (Proc.devRef .tc main_v136) :=
    (StableHlo.after_unwritten refC25_W refC25_writes (by decide) _).trans
      ((StableHlo.after_unwritten refC24_W refC24_writes (by decide) _).trans
        (StableHlo.after_unwritten refC23_W refC23_writes (by decide) _))
  refine (ptake1 (StableHlo.after refC25 (StableHlo.after refC24 (StableHlo.after refC23 V))) b o s d i h1).trans ?_
  rw [e]
  exact (pool_eq _ d i h2).symm

/-- Pooling 2: gathering along the neighbours. -/
theorem pgather2 (x : FVec Ideal S16x256x128x16x3 .f32) (idx : IVec S16x256x128x1x1 32) (b : Fin 16) (o : Fin 256) (s : Fin 128) (d : Fin 3) (i : Fin 16)
    (hi : (idx (ix5 b o s 0 0)).toInt = (i : ℕ)) :
    Host.gather gather_S16x256x128x16x3_S16x256x128x1x1_S16x256x128x1x3_4_3_012_012_3_4_11113 x idx (ix5 b o s 0 d) = x (ix5 b o s i d) := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    have hs : gather_S16x256x128x16x3_S16x256x128x1x1_S16x256x128x1x3_4_3_012_012_3_4_11113.siIdx (ix5 b o s (0 : Fin 1) d) ⟨0, by decide⟩ = ix5 b o s (0 : Fin 1) (0 : Fin 1) := by
      funext c; apply Fin.ext
      match c with
      | ⟨0, _⟩ => rfl
      | ⟨1, _⟩ => rfl
      | ⟨2, _⟩ => rfl
      | ⟨3, _⟩ => rfl
      | ⟨4, _⟩ => rfl
    show min (idx (gather_S16x256x128x16x3_S16x256x128x1x1_S16x256x128x1x3_4_3_012_012_3_4_11113.siIdx (ix5 b o s (0 : Fin 1) d) ⟨0, by decide⟩)).toInt.toNat 15 + 0 + 0 = i.val
    rw [hs, hi]
    have := i.isLt
    omega
  | ⟨4, _⟩ => exact Nat.zero_add _

/-- Pooling 2: the squared norms. -/
theorem psq2 (b : Fin 16) (o : Fin 256) (s : Fin 128) (k : Fin 16) :
    (show FVec Ideal S16x256x128x16 .f32 from StableHlo.after refC53 V (Proc.devRef .tc main_v286)) (ix4 b o s k)
      = dot3 (at5 (show FVec Ideal S16x256x128x16x3 .f32 from V (Proc.devRef .tc main_v284)) (b, s, k) o) (at5 (show FVec Ideal S16x256x128x16x3 .f32 from V (Proc.devRef .tc main_v284)) (b, s, k) o) := by
  rw [dot3_sum]; unfold at5
  after_reads_simp
  pointwise
  try rfl

/-- Pooling 2: the arg-max as an operation. -/
theorem pam2 : (show IVec S16x256x128 32 from StableHlo.after refC54 V (Proc.devRef .tc main_v287))
      = fun j => (Host.argReduce (reducer_argmax_f32_i32 (F := Ideal)) (show FVec Ideal S16x256x128x16 .f32 from V (Proc.devRef .tc main_v286)) (iotaInDim S16x256x128x16 32 3)
          (constant (F := Ideal) S_ .f32 0xFF800000#32) (constantI S_ 32 0#32) reducesTo_S16x256x128x16_S16x256x128_d3 h_S_ j).2 := by
  after_reads_simp
  simp -implicitDefEqProofs only [StableHlo.TRef.toBuf, StableHlo.TRef.ofBuf, cast_cast, cast_eq]

/-- Pooling 2: the positions with two unit axes. -/
theorem pbc2 (b : Fin 16) (o : Fin 256) (s : Fin 128) :
    (show IVec S16x256x128x1x1 32 from StableHlo.after refC55 V (Proc.devRef .tc main_v288)) (ix5 b o s 0 0)
      = (show IVec S16x256x128 32 from V (Proc.devRef .tc main_v287)) (ix3 b o s) := by
  after_reads_simp
  pointwise

/-- Pooling 2: the position of the vector of largest squared norm. -/
theorem pidx2 (b : Fin 16) (o : Fin 256) (s : Fin 128) : ∃ i : Fin 16,
    (show IVec S16x256x128x1x1 32 from StableHlo.after refC55 (StableHlo.after refC54 (StableHlo.after refC53 V)) (Proc.devRef .tc main_v288)) (ix5 b o s 0 0) = BitVec.ofNat 32 i
      ∧ IsFirstMax (fun k => dot3 (at5 (show FVec Ideal S16x256x128x16x3 .f32 from V (Proc.devRef .tc main_v284)) (b, s, k) o) (at5 (show FVec Ideal S16x256x128x16x3 .f32 from V (Proc.devRef .tc main_v284)) (b, s, k) o)) i := by
  obtain ⟨i, h1, h2⟩ := argmax4 (by norm_num) (by norm_num) (reducer_argmax_f32_i32 (F := Ideal)) red_arg
    (show FVec Ideal S16x256x128x16 .f32 from StableHlo.after refC53 V (Proc.devRef .tc main_v286)) (iotaInDim S16x256x128x16 32 3) (fun _ _ _ _ => rfl)
    (constant (F := Ideal) S_ .f32 0xFF800000#32) (constantI S_ 32 0#32) (fun _ => Cert.Val.ninf_eq) (fun _ => rfl)
    reducesTo_S16x256x128x16_S16x256x128_d3 h_S_ _ (pam2 (StableHlo.after refC53 V)) b o s
  refine ⟨i, (pbc2 (StableHlo.after refC54 (StableHlo.after refC53 V)) b o s).trans h1, ?_⟩
  refine (congrArg (fun q => IsFirstMax q i) (funext fun k => ?_)).mp h2
  exact psq2 V b o s k

/-- Pooling 2: the entry at a position in range. -/
theorem ptake2 (b : Fin 16) (o : Fin 256) (s : Fin 128) (d : Fin 3) (i : Fin 16)
    (hi : (show IVec S16x256x128x1x1 32 from V (Proc.devRef .tc main_v288)) (ix5 b o s 0 0) = BitVec.ofNat 32 i) :
    (show FVec Ideal S16x256x128x3 .f32 from StableHlo.after refC57 (StableHlo.after refC56 V) (Proc.devRef .tc main_v290)) (ix4 b o s d)
      = (show FVec Ideal S16x256x128x16x3 .f32 from V (Proc.devRef .tc main_v284)) (ix5 b o s i d) := by
  after_reads_simp
  simp -implicitDefEqProofs only [StableHlo.TRef.toBuf, StableHlo.TRef.ofBuf, cast_cast, cast_eq]
  pointwise
  have hlt := i.isLt
  have hI : (BitVec.ofNat 32 (i : ℕ)).toInt = (i : ℕ) := Cert.Val.toInt_small (by omega)
  have hz : ∀ x : Fin 1, (x : Fin 1) = 0 := fun x => Subsingleton.elim _ _
  have hw : IntOp.cmpi CmpIPredicate.slt (BitVec.ofNat 32 (i : ℕ)) 0#32 = 0#1 := by
    have h0 : ¬ ((i : ℕ) : ℤ) < 0 := by omega
    simp [IntOp.cmpi, BitVec.slt, hI, h0]
  have hge : IntOp.cmpi CmpIPredicate.sge (BitVec.ofNat 32 (i : ℕ)) 0#32 = 1#1 := by
    simp [IntOp.cmpi, BitVec.sle, hI]
  have hle : IntOp.cmpi CmpIPredicate.sle (BitVec.ofNat 32 (i : ℕ)) 15#32 = 1#1 := by
    have h0 : ((i : ℕ) : ℤ) ≤ 15 := by omega
    have h1 : (15#32 : BitVec 32).toInt = 15 := by decide
    simp only [IntOp.cmpi, BitVec.sle, hI, h1, h0]
    rfl
  have hi' : V (Proc.tc.devRef main_v288) (ix5 b o s 0 0) = BitVec.ofNat 32 i := hi
  rw [pgather2 _ _ b o s d i]
  · simp only [hz, hi', hw, hge, hle, Scalar.select]
    simp [IntOp.andi, hge, hle]
  · pointwise
    rw [hi', hw, ← hI]
    rfl

/-- Pooling 2: the vector of largest squared norm among the neighbours. -/
theorem pool2 (b : Fin 16) (o : Fin 256) (s : Fin 128) (d : Fin 3) :
    (show FVec Ideal S16x256x128x3 .f32 from StableHlo.after refC57 (StableHlo.after refC56 (StableHlo.after refC55 (StableHlo.after refC54 (StableHlo.after refC53 V)))) (Proc.devRef .tc main_v290)) (ix4 b o s d)
      = Cert.Spec.pool (fun k => at5 (show FVec Ideal S16x256x128x16x3 .f32 from V (Proc.devRef .tc main_v284)) (b, s, k) o) d := by
  obtain ⟨i, h1, h2⟩ := pidx2 V b o s
  have e : StableHlo.after refC55 (StableHlo.after refC54 (StableHlo.after refC53 V)) (Proc.devRef .tc main_v284) = V (Proc.devRef .tc main_v284) :=
    (StableHlo.after_unwritten refC55_W refC55_writes (by decide) _).trans
      ((StableHlo.after_unwritten refC54_W refC54_writes (by decide) _).trans
        (StableHlo.after_unwritten refC53_W refC53_writes (by decide) _))
  refine (ptake2 (StableHlo.after refC55 (StableHlo.after refC54 (StableHlo.after refC53 V))) b o s d i h1).trans ?_
  rw [e]
  exact (pool_eq _ d i h2).symm

end Cert.Ref

end

end
-- ==== Proof.RefChain.lean ====
module

public import proofs.«01_k».proof.Proof.RefRun
public import proofs.«01_k».proof.Proof.RefLay1
public import proofs.«01_k».proof.Proof.RefLay2
public import proofs.«01_k».proof.Proof.RefPool
public import proofs.«01_k».proof.Proof.Spec3
public import proofs.«01_k».proof.Proof.Red
public import proofs.«01_k».proof.Proof.Mask
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.Spec

namespace Cert.Ref

variable (V : Valuation τ sig (Elt Ideal))

/-- Layer 1 of the reference, over its whole input. -/
theorem L1_all (p : Fin 16 × Fin 256 × Fin 32) :
    at5 (show FVec Ideal S16x64x256x32x3 .f32 from R14 V (Proc.devRef .tc main_v80)) p = vnl varR (Ideal.ofBits .f32 0x48000000#32) (mat (show FVec Ideal S64x1 .f32 from V (Proc.devRef .tc main_arg3))) (fun o => (show FVec Ideal S64 .f32 from V (Proc.devRef .tc main_arg5)) (ix1 o)) (fun o => (show FVec Ideal S64 .f32 from V (Proc.devRef .tc main_arg6)) (ix1 o)) (mat (show FVec Ideal S64x64 .f32 from V (Proc.devRef .tc main_arg4))) (at5 (show FVec Ideal S16x1x256x32x3 .f32 from R5 V (Proc.devRef .tc main_v24))) p := by
  have hlin : ∀ q : Fin 16 × Fin 256 × Fin 32, at5 (show FVec Ideal S16x64x256x32x3 .f32 from R6 V (Proc.devRef .tc main_v26)) q = lin (mat (show FVec Ideal S64x1 .f32 from V (Proc.devRef .tc main_arg3))) ((at5 (show FVec Ideal S16x1x256x32x3 .f32 from R5 V (Proc.devRef .tc main_v24))) q) := fun q => funext fun o => funext fun d =>
    (L1_lin (R5 V) q.1 o q.2.1 q.2.2 d).trans (by rw [R5_args V main_arg3 (by decide)])
  have hn : ∀ o, one5 (show FVec Ideal S16x64x256x32x1 .f32 from R8 V (Proc.devRef .tc main_v29)) o = (fun q : Fin 16 × Fin 256 × Fin 32 => nrm (lin (mat (show FVec Ideal S64x1 .f32 from V (Proc.devRef .tc main_arg3))) ((at5 (show FVec Ideal S16x1x256x32x3 .f32 from R5 V (Proc.devRef .tc main_v24))) q) o)) := fun o => funext fun q =>
    (L1_nrm (R6 V) q.1 o q.2.1 q.2.2).trans (congrArg nrm (congrFun (hlin q) o))
  have hm : ∀ o, (show FVec Ideal S1x64x1x1x1 .f32 from R9 V (Proc.devRef .tc main_v33)) (ix5 0 o 0 0 0) = mean (Ideal.ofBits .f32 0x48000000#32) (fun q : Fin 16 × Fin 256 × Fin 32 => nrm (lin (mat (show FVec Ideal S64x1 .f32 from V (Proc.devRef .tc main_arg3))) ((at5 (show FVec Ideal S16x1x256x32x3 .f32 from R5 V (Proc.devRef .tc main_v24))) q) o)) := fun o =>
    (L1_mean (R8 V) o).trans (congrArg (mean _) (hn o))
  have hv : ∀ o, (show FVec Ideal S1x64x1x1x1 .f32 from R11 V (Proc.devRef .tc main_v34)) (ix5 0 o 0 0 0) = varR (Ideal.ofBits .f32 0x48000000#32) (fun q : Fin 16 × Fin 256 × Fin 32 => nrm (lin (mat (show FVec Ideal S64x1 .f32 from V (Proc.devRef .tc main_arg3))) ((at5 (show FVec Ideal S16x1x256x32x3 .f32 from R5 V (Proc.devRef .tc main_v24))) q) o)) := fun o =>
    (L1_var (R8 V) o).trans (congrArg (varR _) (hn o))
  have el : R11 V (Proc.devRef .tc main_v26) = R6 V (Proc.devRef .tc main_v26) := (R11_of V main_v26 (by decide)).trans ((R10_of V main_v26 (by decide)).trans ((R9_of V main_v26 (by decide)).trans ((R8_of V main_v26 (by decide)).trans (R7_of V main_v26 (by decide)))))
  have en : R11 V (Proc.devRef .tc main_v29) = R8 V (Proc.devRef .tc main_v29) := (R11_of V main_v29 (by decide)).trans ((R10_of V main_v29 (by decide)).trans (R9_of V main_v29 (by decide)))
  have em : R11 V (Proc.devRef .tc main_v33) = R9 V (Proc.devRef .tc main_v33) := (R11_of V main_v33 (by decide)).trans (R10_of V main_v33 (by decide))
  have hb : ∀ q : Fin 16 × Fin 256 × Fin 32, at5 (show FVec Ideal S16x64x256x32x3 .f32 from R13 V (Proc.devRef .tc main_v51)) q = fun o d => vbn ((fun o => (show FVec Ideal S64 .f32 from V (Proc.devRef .tc main_arg5)) (ix1 o)) o) ((fun o => (show FVec Ideal S64 .f32 from V (Proc.devRef .tc main_arg6)) (ix1 o)) o) (mean (Ideal.ofBits .f32 0x48000000#32) (fun q : Fin 16 × Fin 256 × Fin 32 => nrm (lin (mat (show FVec Ideal S64x1 .f32 from V (Proc.devRef .tc main_arg3))) ((at5 (show FVec Ideal S16x1x256x32x3 .f32 from R5 V (Proc.devRef .tc main_v24))) q) o))) (varR (Ideal.ofBits .f32 0x48000000#32) (fun q : Fin 16 × Fin 256 × Fin 32 => nrm (lin (mat (show FVec Ideal S64x1 .f32 from V (Proc.devRef .tc main_arg3))) ((at5 (show FVec Ideal S16x1x256x32x3 .f32 from R5 V (Proc.devRef .tc main_v24))) q) o))) (lin (mat (show FVec Ideal S64x1 .f32 from V (Proc.devRef .tc main_arg3))) ((at5 (show FVec Ideal S16x1x256x32x3 .f32 from R5 V (Proc.devRef .tc main_v24))) q) o) d := fun q => funext fun o => funext fun d => by
    refine (L1_bn (R11 V) q.1 o q.2.1 q.2.2 d).trans ?_
    rw [el, en, em, R11_args V main_arg5 (by decide), R11_args V main_arg6 (by decide), hlin, hn, hm, hv]
    rfl
  funext o d
  refine (L1_act (R13 V) p.1 o p.2.1 p.2.2 d).trans ?_
  rw [hb, R13_args V main_arg4 (by decide)]
  rfl

/-- Layer 2 of the reference, over its whole input. -/
theorem L2_all (p : Fin 16 × Fin 256 × Fin 32) :
    at5 (show FVec Ideal S16x128x256x32x3 .f32 from R23 V (Proc.devRef .tc main_v136)) p = vnl varR (Ideal.ofBits .f32 0x48000000#32) (mat (show FVec Ideal S128x64 .f32 from V (Proc.devRef .tc main_arg7))) (fun o => (show FVec Ideal S128 .f32 from V (Proc.devRef .tc main_arg9)) (ix1 o)) (fun o => (show FVec Ideal S128 .f32 from V (Proc.devRef .tc main_arg10)) (ix1 o)) (mat (show FVec Ideal S128x128 .f32 from V (Proc.devRef .tc main_arg8))) (at5 (show FVec Ideal S16x64x256x32x3 .f32 from R14 V (Proc.devRef .tc main_v80))) p := by
  have hlin : ∀ q : Fin 16 × Fin 256 × Fin 32, at5 (show FVec Ideal S16x128x256x32x3 .f32 from R15 V (Proc.devRef .tc main_v82)) q = lin (mat (show FVec Ideal S128x64 .f32 from V (Proc.devRef .tc main_arg7))) ((at5 (show FVec Ideal S16x64x256x32x3 .f32 from R14 V (Proc.devRef .tc main_v80))) q) := fun q => funext fun o => funext fun d =>
    (L2_lin (R14 V) q.1 o q.2.1 q.2.2 d).trans (by rw [R14_args V main_arg7 (by decide)])
  have hn : ∀ o, one5 (show FVec Ideal S16x128x256x32x1 .f32 from R17 V (Proc.devRef .tc main_v85)) o = (fun q : Fin 16 × Fin 256 × Fin 32 => nrm (lin (mat (show FVec Ideal S128x64 .f32 from V (Proc.devRef .tc main_arg7))) ((at5 (show FVec Ideal S16x64x256x32x3 .f32 from R14 V (Proc.devRef .tc main_v80))) q) o)) := fun o => funext fun q =>
    (L2_nrm (R15 V) q.1 o q.2.1 q.2.2).trans (congrArg nrm (congrFun (hlin q) o))
  have hm : ∀ o, (show FVec Ideal S1x128x1x1x1 .f32 from R18 V (Proc.devRef .tc main_v89)) (ix5 0 o 0 0 0) = mean (Ideal.ofBits .f32 0x48000000#32) (fun q : Fin 16 × Fin 256 × Fin 32 => nrm (lin (mat (show FVec Ideal S128x64 .f32 from V (Proc.devRef .tc main_arg7))) ((at5 (show FVec Ideal S16x64x256x32x3 .f32 from R14 V (Proc.devRef .tc main_v80))) q) o)) := fun o =>
    (L2_mean (R17 V) o).trans (congrArg (mean _) (hn o))
  have hv : ∀ o, (show FVec Ideal S1x128x1x1x1 .f32 from R20 V (Proc.devRef .tc main_v90)) (ix5 0 o 0 0 0) = varR (Ideal.ofBits .f32 0x48000000#32) (fun q : Fin 16 × Fin 256 × Fin 32 => nrm (lin (mat (show FVec Ideal S128x64 .f32 from V (Proc.devRef .tc main_arg7))) ((at5 (show FVec Ideal S16x64x256x32x3 .f32 from R14 V (Proc.devRef .tc main_v80))) q) o)) := fun o =>
    (L2_var (R17 V) o).trans (congrArg (varR _) (hn o))
  have el : R20 V (Proc.devRef .tc main_v82) = R15 V (Proc.devRef .tc main_v82) := (R20_of V main_v82 (by decide)).trans ((R19_of V main_v82 (by decide)).trans ((R18_of V main_v82 (by decide)).trans ((R17_of V main_v82 (by decide)).trans (R16_of V main_v82 (by decide)))))
  have en : R20 V (Proc.devRef .tc main_v85) = R17 V (Proc.devRef .tc main_v85) := (R20_of V main_v85 (by decide)).trans ((R19_of V main_v85 (by decide)).trans (R18_of V main_v85 (by decide)))
  have em : R20 V (Proc.devRef .tc main_v89) = R18 V (Proc.devRef .tc main_v89) := (R20_of V main_v89 (by decide)).trans (R19_of V main_v89 (by decide))
  have hb : ∀ q : Fin 16 × Fin 256 × Fin 32, at5 (show FVec Ideal S16x128x256x32x3 .f32 from R22 V (Proc.devRef .tc main_v107)) q = fun o d => vbn ((fun o => (show FVec Ideal S128 .f32 from V (Proc.devRef .tc main_arg9)) (ix1 o)) o) ((fun o => (show FVec Ideal S128 .f32 from V (Proc.devRef .tc main_arg10)) (ix1 o)) o) (mean (Ideal.ofBits .f32 0x48000000#32) (fun q : Fin 16 × Fin 256 × Fin 32 => nrm (lin (mat (show FVec Ideal S128x64 .f32 from V (Proc.devRef .tc main_arg7))) ((at5 (show FVec Ideal S16x64x256x32x3 .f32 from R14 V (Proc.devRef .tc main_v80))) q) o))) (varR (Ideal.ofBits .f32 0x48000000#32) (fun q : Fin 16 × Fin 256 × Fin 32 => nrm (lin (mat (show FVec Ideal S128x64 .f32 from V (Proc.devRef .tc main_arg7))) ((at5 (show FVec Ideal S16x64x256x32x3 .f32 from R14 V (Proc.devRef .tc main_v80))) q) o))) (lin (mat (show FVec Ideal S128x64 .f32 from V (Proc.devRef .tc main_arg7))) ((at5 (show FVec Ideal S16x64x256x32x3 .f32 from R14 V (Proc.devRef .tc main_v80))) q) o) d := fun q => funext fun o => funext fun d => by
    refine (L2_bn (R20 V) q.1 o q.2.1 q.2.2 d).trans ?_
    rw [el, en, em, R20_args V main_arg9 (by decide), R20_args V main_arg10 (by decide), hlin, hn, hm, hv]
    rfl
  funext o d
  refine (L2_act (R22 V) p.1 o p.2.1 p.2.2 d).trans ?_
  rw [hb, R22_args V main_arg8 (by decide)]
  rfl

/-- Layer 3 of the reference, over its whole input. -/
theorem L3_all (p : Fin 16 × Fin 128 × Fin 16) :
    at5 (show FVec Ideal S16x128x128x16x3 .f32 from R44 V (Proc.devRef .tc main_v228)) p = vnl varR (Ideal.ofBits .f32 0x47000000#32) (mat (show FVec Ideal S128x129 .f32 from V (Proc.devRef .tc main_arg11))) (fun o => (show FVec Ideal S128 .f32 from V (Proc.devRef .tc main_arg13)) (ix1 o)) (fun o => (show FVec Ideal S128 .f32 from V (Proc.devRef .tc main_arg14)) (ix1 o)) (mat (show FVec Ideal S128x128 .f32 from V (Proc.devRef .tc main_arg12))) (at5 (show FVec Ideal S16x129x128x16x3 .f32 from R36 V (Proc.devRef .tc main_v172))) p := by
  have hlin : ∀ q : Fin 16 × Fin 128 × Fin 16, at5 (show FVec Ideal S16x128x128x16x3 .f32 from R37 V (Proc.devRef .tc main_v174)) q = lin (mat (show FVec Ideal S128x129 .f32 from V (Proc.devRef .tc main_arg11))) ((at5 (show FVec Ideal S16x129x128x16x3 .f32 from R36 V (Proc.devRef .tc main_v172))) q) := fun q => funext fun o => funext fun d =>
    (L3_lin (R36 V) q.1 o q.2.1 q.2.2 d).trans (by rw [R36_args V main_arg11 (by decide)])
  have hn : ∀ o, one5 (show FVec Ideal S16x128x128x16x1 .f32 from R39 V (Proc.devRef .tc main_v177)) o = (fun q : Fin 16 × Fin 128 × Fin 16 => nrm (lin (mat (show FVec Ideal S128x129 .f32 from V (Proc.devRef .tc main_arg11))) ((at5 (show FVec Ideal S16x129x128x16x3 .f32 from R36 V (Proc.devRef .tc main_v172))) q) o)) := fun o => funext fun q =>
    (L3_nrm (R37 V) q.1 o q.2.1 q.2.2).trans (congrArg nrm (congrFun (hlin q) o))
  have hm : ∀ o, (show FVec Ideal S1x128x1x1x1 .f32 from R40 V (Proc.devRef .tc main_v181)) (ix5 0 o 0 0 0) = mean (Ideal.ofBits .f32 0x47000000#32) (fun q : Fin 16 × Fin 128 × Fin 16 => nrm (lin (mat (show FVec Ideal S128x129 .f32 from V (Proc.devRef .tc main_arg11))) ((at5 (show FVec Ideal S16x129x128x16x3 .f32 from R36 V (Proc.devRef .tc main_v172))) q) o)) := fun o =>
    (L3_mean (R39 V) o).trans (congrArg (mean _) (hn o))
  have hv : ∀ o, (show FVec Ideal S1x128x1x1x1 .f32 from R42 V (Proc.devRef .tc main_v182)) (ix5 0 o 0 0 0) = varR (Ideal.ofBits .f32 0x47000000#32) (fun q : Fin 16 × Fin 128 × Fin 16 => nrm (lin (mat (show FVec Ideal S128x129 .f32 from V (Proc.devRef .tc main_arg11))) ((at5 (show FVec Ideal S16x129x128x16x3 .f32 from R36 V (Proc.devRef .tc main_v172))) q) o)) := fun o =>
    (L3_var (R39 V) o).trans (congrArg (varR _) (hn o))
  have el : R42 V (Proc.devRef .tc main_v174) = R37 V (Proc.devRef .tc main_v174) := (R42_of V main_v174 (by decide)).trans ((R41_of V main_v174 (by decide)).trans ((R40_of V main_v174 (by decide)).trans ((R39_of V main_v174 (by decide)).trans (R38_of V main_v174 (by decide)))))
  have en : R42 V (Proc.devRef .tc main_v177) = R39 V (Proc.devRef .tc main_v177) := (R42_of V main_v177 (by decide)).trans ((R41_of V main_v177 (by decide)).trans (R40_of V main_v177 (by decide)))
  have em : R42 V (Proc.devRef .tc main_v181) = R40 V (Proc.devRef .tc main_v181) := (R42_of V main_v181 (by decide)).trans (R41_of V main_v181 (by decide))
  have hb : ∀ q : Fin 16 × Fin 128 × Fin 16, at5 (show FVec Ideal S16x128x128x16x3 .f32 from R43 V (Proc.devRef .tc main_v199)) q = fun o d => vbn ((fun o => (show FVec Ideal S128 .f32 from V (Proc.devRef .tc main_arg13)) (ix1 o)) o) ((fun o => (show FVec Ideal S128 .f32 from V (Proc.devRef .tc main_arg14)) (ix1 o)) o) (mean (Ideal.ofBits .f32 0x47000000#32) (fun q : Fin 16 × Fin 128 × Fin 16 => nrm (lin (mat (show FVec Ideal S128x129 .f32 from V (Proc.devRef .tc main_arg11))) ((at5 (show FVec Ideal S16x129x128x16x3 .f32 from R36 V (Proc.devRef .tc main_v172))) q) o))) (varR (Ideal.ofBits .f32 0x47000000#32) (fun q : Fin 16 × Fin 128 × Fin 16 => nrm (lin (mat (show FVec Ideal S128x129 .f32 from V (Proc.devRef .tc main_arg11))) ((at5 (show FVec Ideal S16x129x128x16x3 .f32 from R36 V (Proc.devRef .tc main_v172))) q) o))) (lin (mat (show FVec Ideal S128x129 .f32 from V (Proc.devRef .tc main_arg11))) ((at5 (show FVec Ideal S16x129x128x16x3 .f32 from R36 V (Proc.devRef .tc main_v172))) q) o) d := fun q => funext fun o => funext fun d => by
    refine (L3_bn (R42 V) q.1 o q.2.1 q.2.2 d).trans ?_
    rw [el, en, em, R42_args V main_arg13 (by decide), R42_args V main_arg14 (by decide), hlin, hn, hm, hv]
    rfl
  funext o d
  refine (L3_act (R43 V) p.1 o p.2.1 p.2.2 d).trans ?_
  rw [hb, R43_args V main_arg12 (by decide)]
  rfl

/-- Layer 4 of the reference, over its whole input. -/
theorem L4_all (p : Fin 16 × Fin 128 × Fin 16) :
    at5 (show FVec Ideal S16x256x128x16x3 .f32 from R53 V (Proc.devRef .tc main_v284)) p = vnl varR (Ideal.ofBits .f32 0x47000000#32) (mat (show FVec Ideal S256x128 .f32 from V (Proc.devRef .tc main_arg15))) (fun o => (show FVec Ideal S256 .f32 from V (Proc.devRef .tc main_arg17)) (ix1 o)) (fun o => (show FVec Ideal S256 .f32 from V (Proc.devRef .tc main_arg18)) (ix1 o)) (mat (show FVec Ideal S256x256 .f32 from V (Proc.devRef .tc main_arg16))) (at5 (show FVec Ideal S16x128x128x16x3 .f32 from R44 V (Proc.devRef .tc main_v228))) p := by
  have hlin : ∀ q : Fin 16 × Fin 128 × Fin 16, at5 (show FVec Ideal S16x256x128x16x3 .f32 from R45 V (Proc.devRef .tc main_v230)) q = lin (mat (show FVec Ideal S256x128 .f32 from V (Proc.devRef .tc main_arg15))) ((at5 (show FVec Ideal S16x128x128x16x3 .f32 from R44 V (Proc.devRef .tc main_v228))) q) := fun q => funext fun o => funext fun d =>
    (L4_lin (R44 V) q.1 o q.2.1 q.2.2 d).trans (by rw [R44_args V main_arg15 (by decide)])
  have hn : ∀ o, one5 (show FVec Ideal S16x256x128x16x1 .f32 from R47 V (Proc.devRef .tc main_v233)) o = (fun q : Fin 16 × Fin 128 × Fin 16 => nrm (lin (mat (show FVec Ideal S256x128 .f32 from V (Proc.devRef .tc main_arg15))) ((at5 (show FVec Ideal S16x128x128x16x3 .f32 from R44 V (Proc.devRef .tc main_v228))) q) o)) := fun o => funext fun q =>
    (L4_nrm (R45 V) q.1 o q.2.1 q.2.2).trans (congrArg nrm (congrFun (hlin q) o))
  have hm : ∀ o, (show FVec Ideal S1x256x1x1x1 .f32 from R48 V (Proc.devRef .tc main_v237)) (ix5 0 o 0 0 0) = mean (Ideal.ofBits .f32 0x47000000#32) (fun q : Fin 16 × Fin 128 × Fin 16 => nrm (lin (mat (show FVec Ideal S256x128 .f32 from V (Proc.devRef .tc main_arg15))) ((at5 (show FVec Ideal S16x128x128x16x3 .f32 from R44 V (Proc.devRef .tc main_v228))) q) o)) := fun o =>
    (L4_mean (R47 V) o).trans (congrArg (mean _) (hn o))
  have hv : ∀ o, (show FVec Ideal S1x256x1x1x1 .f32 from R50 V (Proc.devRef .tc main_v238)) (ix5 0 o 0 0 0) = varR (Ideal.ofBits .f32 0x47000000#32) (fun q : Fin 16 × Fin 128 × Fin 16 => nrm (lin (mat (show FVec Ideal S256x128 .f32 from V (Proc.devRef .tc main_arg15))) ((at5 (show FVec Ideal S16x128x128x16x3 .f32 from R44 V (Proc.devRef .tc main_v228))) q) o)) := fun o =>
    (L4_var (R47 V) o).trans (congrArg (varR _) (hn o))
  have el : R50 V (Proc.devRef .tc main_v230) = R45 V (Proc.devRef .tc main_v230) := (R50_of V main_v230 (by decide)).trans ((R49_of V main_v230 (by decide)).trans ((R48_of V main_v230 (by decide)).trans ((R47_of V main_v230 (by decide)).trans (R46_of V main_v230 (by decide)))))
  have en : R50 V (Proc.devRef .tc main_v233) = R47 V (Proc.devRef .tc main_v233) := (R50_of V main_v233 (by decide)).trans ((R49_of V main_v233 (by decide)).trans (R48_of V main_v233 (by decide)))
  have em : R50 V (Proc.devRef .tc main_v237) = R48 V (Proc.devRef .tc main_v237) := (R50_of V main_v237 (by decide)).trans (R49_of V main_v237 (by decide))
  have hb : ∀ q : Fin 16 × Fin 128 × Fin 16, at5 (show FVec Ideal S16x256x128x16x3 .f32 from R52 V (Proc.devRef .tc main_v255)) q = fun o d => vbn ((fun o => (show FVec Ideal S256 .f32 from V (Proc.devRef .tc main_arg17)) (ix1 o)) o) ((fun o => (show FVec Ideal S256 .f32 from V (Proc.devRef .tc main_arg18)) (ix1 o)) o) (mean (Ideal.ofBits .f32 0x47000000#32) (fun q : Fin 16 × Fin 128 × Fin 16 => nrm (lin (mat (show FVec Ideal S256x128 .f32 from V (Proc.devRef .tc main_arg15))) ((at5 (show FVec Ideal S16x128x128x16x3 .f32 from R44 V (Proc.devRef .tc main_v228))) q) o))) (varR (Ideal.ofBits .f32 0x47000000#32) (fun q : Fin 16 × Fin 128 × Fin 16 => nrm (lin (mat (show FVec Ideal S256x128 .f32 from V (Proc.devRef .tc main_arg15))) ((at5 (show FVec Ideal S16x128x128x16x3 .f32 from R44 V (Proc.devRef .tc main_v228))) q) o))) (lin (mat (show FVec Ideal S256x128 .f32 from V (Proc.devRef .tc main_arg15))) ((at5 (show FVec Ideal S16x128x128x16x3 .f32 from R44 V (Proc.devRef .tc main_v228))) q) o) d := fun q => funext fun o => funext fun d => by
    refine (L4_bn (R50 V) q.1 o q.2.1 q.2.2 d).trans ?_
    rw [el, en, em, R50_args V main_arg17 (by decide), R50_args V main_arg18 (by decide), hlin, hn, hm, hv]
    rfl
  funext o d
  refine (L4_act (R52 V) p.1 o p.2.1 p.2.2 d).trans ?_
  rw [hb, R52_args V main_arg16 (by decide)]
  rfl

end Cert.Ref

end

end
-- ==== Proof.Final.lean ====
module

public import proofs.«01_k».proof.Proof.Lock1
public import proofs.«01_k».proof.Proof.Lock2
public import proofs.«01_k».proof.Proof.Lock3
public import proofs.«01_k».proof.Proof.KChain
public import proofs.«01_k».proof.Proof.KRead
public import proofs.«01_k».proof.Proof.RefChain
public import proofs.«01_k».proof.Proof.RefPool
public import proofs.«01_k».proof.Proof.Red
public import proofs.«01_k».proof.Proof.Spec2

@[expose] public section

set_option maxRecDepth 16384

/-! From equal arguments the two programs leave equal arrays, step by step down to the five results. -/

noncomputable section

open Idealize.ShloMosaic Idealize.ShloMosaic.TcCoe Cert.Spec

namespace Cert.Lock

/-- Over the first module's points the two variances give the same layer. -/
theorem vnl1 {C O : ℕ} (W : Fin O → Fin C → EReal) (g b : Fin O → EReal) (D : Fin O → Fin O → EReal) (x : Fin 16 × Fin 256 × Fin 32 → Fin C → Fin 3 → EReal) :
    vnl varK (Ideal.ofBits .f32 0x48000000#32) W g b D x = vnl varR (Ideal.ofBits .f32 0x48000000#32) W g b D x := by
  rw [cnt1]
  exact vnl_var 131072 (by simp [Fintype.card_prod]) (by norm_num) W g b D x

/-- Over the second module's points the two variances give the same layer. -/
theorem vnl2 {C O : ℕ} (W : Fin O → Fin C → EReal) (g b : Fin O → EReal) (D : Fin O → Fin O → EReal) (x : Fin 16 × Fin 128 × Fin 16 → Fin C → Fin 3 → EReal) :
    vnl varK (Ideal.ofBits .f32 0x47000000#32) W g b D x = vnl varR (Ideal.ofBits .f32 0x47000000#32) W g b D x := by
  rw [cnt2]
  exact vnl_var 32768 (by simp [Fintype.card_prod]) (by norm_num) W g b D x

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (U : Valuation Cert.ReferenceIdeal.τ Cert.ReferenceIdeal.sig (Elt Ideal))

/-- The two programs are given the same arguments. -/
structure Same : Prop where
  arg0 : (show FVec Ideal Cert.KernelIdeal.S16x3x2048 .f32 from m ((c : Thread Cert.KernelIdeal.nD Cert.KernelIdeal.τ).loc Cert.KernelIdeal.main_arg0)) = (show FVec Ideal Cert.ReferenceIdeal.S16x3x2048 .f32 from U (Proc.devRef .tc Cert.ReferenceIdeal.main_arg0))
  arg1 : (show IVec Cert.KernelIdeal.S16x256 32 from m ((c : Thread Cert.KernelIdeal.nD Cert.KernelIdeal.τ).loc Cert.KernelIdeal.main_arg1)) = (show IVec Cert.ReferenceIdeal.S16x256 32 from U (Proc.devRef .tc Cert.ReferenceIdeal.main_arg1))
  arg2 : (show IVec Cert.KernelIdeal.S16x128 32 from m ((c : Thread Cert.KernelIdeal.nD Cert.KernelIdeal.τ).loc Cert.KernelIdeal.main_arg2)) = (show IVec Cert.ReferenceIdeal.S16x128 32 from U (Proc.devRef .tc Cert.ReferenceIdeal.main_arg2))
  arg3 : (show FVec Ideal Cert.KernelIdeal.S64x1 .f32 from m ((c : Thread Cert.KernelIdeal.nD Cert.KernelIdeal.τ).loc Cert.KernelIdeal.main_arg3)) = (show FVec Ideal Cert.ReferenceIdeal.S64x1 .f32 from U (Proc.devRef .tc Cert.ReferenceIdeal.main_arg3))
  arg4 : (show FVec Ideal Cert.KernelIdeal.S64x64 .f32 from m ((c : Thread Cert.KernelIdeal.nD Cert.KernelIdeal.τ).loc Cert.KernelIdeal.main_arg4)) = (show FVec Ideal Cert.ReferenceIdeal.S64x64 .f32 from U (Proc.devRef .tc Cert.ReferenceIdeal.main_arg4))
  arg5 : (show FVec Ideal Cert.KernelIdeal.S64 .f32 from m ((c : Thread Cert.KernelIdeal.nD Cert.KernelIdeal.τ).loc Cert.KernelIdeal.main_arg5)) = (show FVec Ideal Cert.ReferenceIdeal.S64 .f32 from U (Proc.devRef .tc Cert.ReferenceIdeal.main_arg5))
  arg6 : (show FVec Ideal Cert.KernelIdeal.S64 .f32 from m ((c : Thread Cert.KernelIdeal.nD Cert.KernelIdeal.τ).loc Cert.KernelIdeal.main_arg6)) = (show FVec Ideal Cert.ReferenceIdeal.S64 .f32 from U (Proc.devRef .tc Cert.ReferenceIdeal.main_arg6))
  arg7 : (show FVec Ideal Cert.KernelIdeal.S128x64 .f32 from m ((c : Thread Cert.KernelIdeal.nD Cert.KernelIdeal.τ).loc Cert.KernelIdeal.main_arg7)) = (show FVec Ideal Cert.ReferenceIdeal.S128x64 .f32 from U (Proc.devRef .tc Cert.ReferenceIdeal.main_arg7))
  arg8 : (show FVec Ideal Cert.KernelIdeal.S128x128 .f32 from m ((c : Thread Cert.KernelIdeal.nD Cert.KernelIdeal.τ).loc Cert.KernelIdeal.main_arg8)) = (show FVec Ideal Cert.ReferenceIdeal.S128x128 .f32 from U (Proc.devRef .tc Cert.ReferenceIdeal.main_arg8))
  arg9 : (show FVec Ideal Cert.KernelIdeal.S128 .f32 from m ((c : Thread Cert.KernelIdeal.nD Cert.KernelIdeal.τ).loc Cert.KernelIdeal.main_arg9)) = (show FVec Ideal Cert.ReferenceIdeal.S128 .f32 from U (Proc.devRef .tc Cert.ReferenceIdeal.main_arg9))
  arg10 : (show FVec Ideal Cert.KernelIdeal.S128 .f32 from m ((c : Thread Cert.KernelIdeal.nD Cert.KernelIdeal.τ).loc Cert.KernelIdeal.main_arg10)) = (show FVec Ideal Cert.ReferenceIdeal.S128 .f32 from U (Proc.devRef .tc Cert.ReferenceIdeal.main_arg10))
  arg11 : (show FVec Ideal Cert.KernelIdeal.S128x129 .f32 from m ((c : Thread Cert.KernelIdeal.nD Cert.KernelIdeal.τ).loc Cert.KernelIdeal.main_arg11)) = (show FVec Ideal Cert.ReferenceIdeal.S128x129 .f32 from U (Proc.devRef .tc Cert.ReferenceIdeal.main_arg11))
  arg12 : (show FVec Ideal Cert.KernelIdeal.S128x128 .f32 from m ((c : Thread Cert.KernelIdeal.nD Cert.KernelIdeal.τ).loc Cert.KernelIdeal.main_arg12)) = (show FVec Ideal Cert.ReferenceIdeal.S128x128 .f32 from U (Proc.devRef .tc Cert.ReferenceIdeal.main_arg12))
  arg13 : (show FVec Ideal Cert.KernelIdeal.S128 .f32 from m ((c : Thread Cert.KernelIdeal.nD Cert.KernelIdeal.τ).loc Cert.KernelIdeal.main_arg13)) = (show FVec Ideal Cert.ReferenceIdeal.S128 .f32 from U (Proc.devRef .tc Cert.ReferenceIdeal.main_arg13))
  arg14 : (show FVec Ideal Cert.KernelIdeal.S128 .f32 from m ((c : Thread Cert.KernelIdeal.nD Cert.KernelIdeal.τ).loc Cert.KernelIdeal.main_arg14)) = (show FVec Ideal Cert.ReferenceIdeal.S128 .f32 from U (Proc.devRef .tc Cert.ReferenceIdeal.main_arg14))
  arg15 : (show FVec Ideal Cert.KernelIdeal.S256x128 .f32 from m ((c : Thread Cert.KernelIdeal.nD Cert.KernelIdeal.τ).loc Cert.KernelIdeal.main_arg15)) = (show FVec Ideal Cert.ReferenceIdeal.S256x128 .f32 from U (Proc.devRef .tc Cert.ReferenceIdeal.main_arg15))
  arg16 : (show FVec Ideal Cert.KernelIdeal.S256x256 .f32 from m ((c : Thread Cert.KernelIdeal.nD Cert.KernelIdeal.τ).loc Cert.KernelIdeal.main_arg16)) = (show FVec Ideal Cert.ReferenceIdeal.S256x256 .f32 from U (Proc.devRef .tc Cert.ReferenceIdeal.main_arg16))
  arg17 : (show FVec Ideal Cert.KernelIdeal.S256 .f32 from m ((c : Thread Cert.KernelIdeal.nD Cert.KernelIdeal.τ).loc Cert.KernelIdeal.main_arg17)) = (show FVec Ideal Cert.ReferenceIdeal.S256 .f32 from U (Proc.devRef .tc Cert.ReferenceIdeal.main_arg17))
  arg18 : (show FVec Ideal Cert.KernelIdeal.S256 .f32 from m ((c : Thread Cert.KernelIdeal.nD Cert.KernelIdeal.τ).loc Cert.KernelIdeal.main_arg18)) = (show FVec Ideal Cert.ReferenceIdeal.S256 .f32 from U (Proc.devRef .tc Cert.ReferenceIdeal.main_arg18))
  arg19 : (show FVec Ideal Cert.KernelIdeal.S2x256 .f32 from m ((c : Thread Cert.KernelIdeal.nD Cert.KernelIdeal.τ).loc Cert.KernelIdeal.main_arg19)) = (show FVec Ideal Cert.ReferenceIdeal.S2x256 .f32 from U (Proc.devRef .tc Cert.ReferenceIdeal.main_arg19))

variable (hA : Same m c U)

include hA

/-- The points, coordinates last. -/
theorem e_v0 : (show FVec Ideal Cert.KernelIdeal.S16x2048x3 .f32 from (Cert.KernelIdeal.Gen.W1 m ρ c (Proc.devRef .tc Cert.KernelIdeal.main_v0))) = (show FVec Ideal Cert.ReferenceIdeal.S16x2048x3 .f32 from (Cert.Ref.R1 U (Proc.devRef .tc Cert.ReferenceIdeal.main_v0))) :=
  v0 (Cert.KernelIdeal.Gen.W0 m ρ c) (Cert.Ref.R0 U) ((show Cert.KernelIdeal.Gen.W0 m ρ c (Proc.devRef .tc Cert.KernelIdeal.main_arg0) = _ from Cert.KernelIdeal.Gen.W0_args m ρ c Cert.KernelIdeal.main_arg0 (by decide)).trans (hA.arg0.trans (Cert.Ref.R0_args U Cert.ReferenceIdeal.main_arg0 (by decide)).symm))

/-- The first samples, with a unit axis. -/
theorem e_v1 : (show IVec Cert.KernelIdeal.S16x256x1 32 from (Cert.KernelIdeal.Gen.W1 m ρ c (Proc.devRef .tc Cert.KernelIdeal.main_v1))) = (show IVec Cert.ReferenceIdeal.S16x256x1 32 from (Cert.Ref.R1 U (Proc.devRef .tc Cert.ReferenceIdeal.main_v1))) :=
  v1 (Cert.KernelIdeal.Gen.W0 m ρ c) (Cert.Ref.R0 U) ((show Cert.KernelIdeal.Gen.W0 m ρ c (Proc.devRef .tc Cert.KernelIdeal.main_arg1) = _ from Cert.KernelIdeal.Gen.W0_args m ρ c Cert.KernelIdeal.main_arg1 (by decide)).trans (hA.arg1.trans (Cert.Ref.R0_args U Cert.ReferenceIdeal.main_arg1 (by decide)).symm))

/-- The first sampled points. -/
theorem e_v2 : (show FVec Ideal Cert.KernelIdeal.S16x256x3 .f32 from (Cert.KernelIdeal.Gen.W2 m ρ c (Proc.devRef .tc Cert.KernelIdeal.main_v2))) = (show FVec Ideal Cert.ReferenceIdeal.S16x256x3 .f32 from (Cert.Ref.R2 U (Proc.devRef .tc Cert.ReferenceIdeal.main_v2))) :=
  v2 (Cert.KernelIdeal.Gen.W1 m ρ c) (Cert.Ref.R1 U) (e_v0 m ρ c U hA) (e_v1 m ρ c U hA)

/-- The points, with a unit feature axis. -/
theorem e_v17 : (show FVec Ideal Cert.KernelIdeal.S16x1x2048x3 .f32 from (Cert.KernelIdeal.Gen.W3 m ρ c (Proc.devRef .tc Cert.KernelIdeal.main_v17))) = (show FVec Ideal Cert.ReferenceIdeal.S16x1x2048x3 .f32 from (Cert.Ref.R3 U (Proc.devRef .tc Cert.ReferenceIdeal.main_v17))) :=
  v17 (Cert.KernelIdeal.Gen.W2 m ρ c) (Cert.Ref.R2 U) (((Cert.KernelIdeal.Gen.W2_of m ρ c Cert.KernelIdeal.main_v0 (by decide))).trans ((e_v0 m ρ c U hA).trans ((Cert.Ref.R2_of U Cert.ReferenceIdeal.main_v0 (by decide))).symm))

/-- The nearest neighbours of the first samples. -/
theorem e_v18 : (show IVec Cert.KernelIdeal.S16x1x8192x1 32 from (Cert.KernelIdeal.Gen.W3 m ρ c (Proc.devRef .tc Cert.KernelIdeal.main_v18))) = (show IVec Cert.ReferenceIdeal.S16x1x8192x1 32 from (Cert.Ref.R3 U (Proc.devRef .tc Cert.ReferenceIdeal.main_v18))) :=
  v18 (Cert.KernelIdeal.Gen.W2 m ρ c) (Cert.Ref.R2 U) (e_v2 m ρ c U hA) (((Cert.KernelIdeal.Gen.W2_of m ρ c Cert.KernelIdeal.main_v0 (by decide))).trans ((e_v0 m ρ c U hA).trans ((Cert.Ref.R2_of U Cert.ReferenceIdeal.main_v0 (by decide))).symm))

/-- The neighbours gathered. -/
theorem e_v19 : (show FVec Ideal Cert.KernelIdeal.S16x1x8192x3 .f32 from (Cert.KernelIdeal.Gen.W4 m ρ c (Proc.devRef .tc Cert.KernelIdeal.main_v19))) = (show FVec Ideal Cert.ReferenceIdeal.S16x1x8192x3 .f32 from (Cert.Ref.R4 U (Proc.devRef .tc Cert.ReferenceIdeal.main_v19))) :=
  v19 (Cert.KernelIdeal.Gen.W3 m ρ c) (Cert.Ref.R3 U) (e_v17 m ρ c U hA) (e_v18 m ρ c U hA)

/-- The neighbours relative to their point. -/
theorem e_v23 : (show FVec Ideal Cert.KernelIdeal.S16x1x256x32x3 .f32 from (Cert.KernelIdeal.Gen.W5 m ρ c (Proc.devRef .tc Cert.KernelIdeal.main_v23))) = (show FVec Ideal Cert.ReferenceIdeal.S16x1x256x32x3 .f32 from (Cert.Ref.R5 U (Proc.devRef .tc Cert.ReferenceIdeal.main_v24))) :=
  v23 (Cert.KernelIdeal.Gen.W4 m ρ c) (Cert.Ref.R4 U) (e_v19 m ρ c U hA) (((Cert.KernelIdeal.Gen.W4_of m ρ c Cert.KernelIdeal.main_v2 (by decide)) |>.trans (Cert.KernelIdeal.Gen.W3_of m ρ c Cert.KernelIdeal.main_v2 (by decide))).trans ((e_v2 m ρ c U hA).trans ((Cert.Ref.R4_of U Cert.ReferenceIdeal.main_v2 (by decide)) |>.trans (Cert.Ref.R3_of U Cert.ReferenceIdeal.main_v2 (by decide))).symm))

/-- Module 1's result. -/
theorem e_v61 : (show FVec Ideal Cert.KernelIdeal.S16x128x256x3 .f32 from (Cert.KernelIdeal.Gen.W11 m ρ c (Proc.devRef .tc Cert.KernelIdeal.main_v61))) = (show FVec Ideal Cert.ReferenceIdeal.S16x128x256x3 .f32 from (Cert.Ref.R28 U (Proc.devRef .tc Cert.ReferenceIdeal.main_v142))) := by
  suffices h : ∀ b o s d, (show FVec Ideal Cert.KernelIdeal.S16x128x256x3 .f32 from (Cert.KernelIdeal.Gen.W11 m ρ c (Proc.devRef .tc Cert.KernelIdeal.main_v61))) (ix4 b o s d) = (show FVec Ideal Cert.ReferenceIdeal.S16x128x256x3 .f32 from (Cert.Ref.R28 U (Proc.devRef .tc Cert.ReferenceIdeal.main_v142))) (ix4 b o s d) from funext fun i => by rw [eq_ix4 i]; exact h _ _ _ _
  intro b o s d
  refine (Cert.Val.v61_at (Cert.KernelIdeal.Gen.W10 m ρ c) b o s d).trans ?_
  refine (Cert.Val.sa1_out m ρ c b o s d).trans ?_
  refine Eq.trans ?_ (Cert.Ref.pool1 (Cert.Ref.R23 U) b o s d).symm
  refine congrArg (fun h => Cert.Spec.pool h d) (funext fun k => congrFun ?_ o)
  rw [vnl1, vnl1, show fam 256 32 rfl (show FVec Ideal Cert.KernelIdeal.S16x3x1x8192 .f32 from (Cert.KernelIdeal.Gen.W5 m ρ c (Proc.devRef .tc Cert.KernelIdeal.main_v25))) = at5 (show FVec Ideal Cert.KernelIdeal.S16x1x256x32x3 .f32 from (Cert.KernelIdeal.Gen.W5 m ρ c (Proc.devRef .tc Cert.KernelIdeal.main_v23))) from funext (Cert.Val.v25_fam (Cert.KernelIdeal.Gen.W4 m ρ c)), show Cert.KernelIdeal.Gen.W5 m ρ c (Proc.devRef .tc Cert.KernelIdeal.main_v23) = _ from e_v23 m ρ c U hA, show m ((c : Thread Cert.KernelIdeal.nD Cert.KernelIdeal.τ).loc Cert.KernelIdeal.main_arg3) = _ from hA.arg3, show m ((c : Thread Cert.KernelIdeal.nD Cert.KernelIdeal.τ).loc Cert.KernelIdeal.main_arg4) = _ from hA.arg4, show m ((c : Thread Cert.KernelIdeal.nD Cert.KernelIdeal.τ).loc Cert.KernelIdeal.main_arg5) = _ from hA.arg5, show m ((c : Thread Cert.KernelIdeal.nD Cert.KernelIdeal.τ).loc Cert.KernelIdeal.main_arg6) = _ from hA.arg6, show m ((c : Thread Cert.KernelIdeal.nD Cert.KernelIdeal.τ).loc Cert.KernelIdeal.main_arg7) = _ from hA.arg7, show m ((c : Thread Cert.KernelIdeal.nD Cert.KernelIdeal.τ).loc Cert.KernelIdeal.main_arg8) = _ from hA.arg8, show m ((c : Thread Cert.KernelIdeal.nD Cert.KernelIdeal.τ).loc Cert.KernelIdeal.main_arg9) = _ from hA.arg9, show m ((c : Thread Cert.KernelIdeal.nD Cert.KernelIdeal.τ).loc Cert.KernelIdeal.main_arg10) = _ from hA.arg10]
  refine Eq.trans ?_ (Cert.Ref.L2_all U _).symm
  rw [funext (Cert.Ref.L1_all U)]

/-- The first samples, coordinates second. -/
theorem e_v62 : (show FVec Ideal Cert.KernelIdeal.S16x3x256 .f32 from (Cert.KernelIdeal.Gen.W11 m ρ c (Proc.devRef .tc Cert.KernelIdeal.main_v62))) = (show FVec Ideal Cert.ReferenceIdeal.S16x3x256 .f32 from (Cert.Ref.R29 U (Proc.devRef .tc Cert.ReferenceIdeal.main_v143))) :=
  v62 (Cert.KernelIdeal.Gen.W10 m ρ c) (Cert.Ref.R28 U) (((Cert.KernelIdeal.Gen.W10_of m ρ c Cert.KernelIdeal.main_v2 (by decide)) |>.trans (Cert.KernelIdeal.Gen.W9_of m ρ c Cert.KernelIdeal.main_v2 (by decide)) |>.trans (Cert.KernelIdeal.Gen.W8_of m ρ c Cert.KernelIdeal.main_v2 (by decide)) |>.trans (Cert.KernelIdeal.Gen.W7_of m ρ c Cert.KernelIdeal.main_v2 (by decide)) |>.trans (Cert.KernelIdeal.Gen.W6_of m ρ c Cert.KernelIdeal.main_v2 (by decide)) |>.trans (Cert.KernelIdeal.Gen.W5_of m ρ c Cert.KernelIdeal.main_v2 (by decide)) |>.trans (Cert.KernelIdeal.Gen.W4_of m ρ c Cert.KernelIdeal.main_v2 (by decide)) |>.trans (Cert.KernelIdeal.Gen.W3_of m ρ c Cert.KernelIdeal.main_v2 (by decide))).trans ((e_v2 m ρ c U hA).trans ((Cert.Ref.R28_of U Cert.ReferenceIdeal.main_v2 (by decide)) |>.trans (Cert.Ref.R27_of U Cert.ReferenceIdeal.main_v2 (by decide)) |>.trans (Cert.Ref.R26_of U Cert.ReferenceIdeal.main_v2 (by decide)) |>.trans (Cert.Ref.R25_of U Cert.ReferenceIdeal.main_v2 (by decide)) |>.trans (Cert.Ref.R24_of U Cert.ReferenceIdeal.main_v2 (by decide)) |>.trans (Cert.Ref.R23_of U Cert.ReferenceIdeal.main_v2 (by decide)) |>.trans (Cert.Ref.R22_of U Cert.ReferenceIdeal.main_v2 (by decide)) |>.trans (Cert.Ref.R21_of U Cert.ReferenceIdeal.main_v2 (by decide)) |>.trans (Cert.Ref.R20_of U Cert.ReferenceIdeal.main_v2 (by decide)) |>.trans (Cert.Ref.R19_of U Cert.ReferenceIdeal.main_v2 (by decide)) |>.trans (Cert.Ref.R18_of U Cert.ReferenceIdeal.main_v2 (by decide)) |>.trans (Cert.Ref.R17_of U Cert.ReferenceIdeal.main_v2 (by decide)) |>.trans (Cert.Ref.R16_of U Cert.ReferenceIdeal.main_v2 (by decide)) |>.trans (Cert.Ref.R15_of U Cert.ReferenceIdeal.main_v2 (by decide)) |>.trans (Cert.Ref.R14_of U Cert.ReferenceIdeal.main_v2 (by decide)) |>.trans (Cert.Ref.R13_of U Cert.ReferenceIdeal.main_v2 (by decide)) |>.trans (Cert.Ref.R12_of U Cert.ReferenceIdeal.main_v2 (by decide)) |>.trans (Cert.Ref.R11_of U Cert.ReferenceIdeal.main_v2 (by decide)) |>.trans (Cert.Ref.R10_of U Cert.ReferenceIdeal.main_v2 (by decide)) |>.trans (Cert.Ref.R9_of U Cert.ReferenceIdeal.main_v2 (by decide)) |>.trans (Cert.Ref.R8_of U Cert.ReferenceIdeal.main_v2 (by decide)) |>.trans (Cert.Ref.R7_of U Cert.ReferenceIdeal.main_v2 (by decide)) |>.trans (Cert.Ref.R6_of U Cert.ReferenceIdeal.main_v2 (by decide)) |>.trans (Cert.Ref.R5_of U Cert.ReferenceIdeal.main_v2 (by decide)) |>.trans (Cert.Ref.R4_of U Cert.ReferenceIdeal.main_v2 (by decide)) |>.trans (Cert.Ref.R3_of U Cert.ReferenceIdeal.main_v2 (by decide))).symm))

/-- The second samples, with a unit axis. -/
theorem e_v63 : (show IVec Cert.KernelIdeal.S16x128x1 32 from (Cert.KernelIdeal.Gen.W11 m ρ c (Proc.devRef .tc Cert.KernelIdeal.main_v63))) = (show IVec Cert.ReferenceIdeal.S16x128x1 32 from (Cert.Ref.R29 U (Proc.devRef .tc Cert.ReferenceIdeal.main_v145))) :=
  v63 (Cert.KernelIdeal.Gen.W10 m ρ c) (Cert.Ref.R28 U) ((show Cert.KernelIdeal.Gen.W10 m ρ c (Proc.devRef .tc Cert.KernelIdeal.main_arg2) = _ from Cert.KernelIdeal.Gen.W10_args m ρ c Cert.KernelIdeal.main_arg2 (by decide)).trans (hA.arg2.trans (Cert.Ref.R28_args U Cert.ReferenceIdeal.main_arg2 (by decide)).symm))

/-- The first samples, transposed there and back. -/
theorem e_v146 : (show FVec Ideal Cert.KernelIdeal.S16x256x3 .f32 from (Cert.KernelIdeal.Gen.W10 m ρ c (Proc.devRef .tc Cert.KernelIdeal.main_v2))) = (show FVec Ideal Cert.ReferenceIdeal.S16x256x3 .f32 from (Cert.Ref.R29 U (Proc.devRef .tc Cert.ReferenceIdeal.main_v144))) :=
  v146 (Cert.KernelIdeal.Gen.W10 m ρ c) (Cert.Ref.R28 U) (((Cert.KernelIdeal.Gen.W10_of m ρ c Cert.KernelIdeal.main_v2 (by decide)) |>.trans (Cert.KernelIdeal.Gen.W9_of m ρ c Cert.KernelIdeal.main_v2 (by decide)) |>.trans (Cert.KernelIdeal.Gen.W8_of m ρ c Cert.KernelIdeal.main_v2 (by decide)) |>.trans (Cert.KernelIdeal.Gen.W7_of m ρ c Cert.KernelIdeal.main_v2 (by decide)) |>.trans (Cert.KernelIdeal.Gen.W6_of m ρ c Cert.KernelIdeal.main_v2 (by decide)) |>.trans (Cert.KernelIdeal.Gen.W5_of m ρ c Cert.KernelIdeal.main_v2 (by decide)) |>.trans (Cert.KernelIdeal.Gen.W4_of m ρ c Cert.KernelIdeal.main_v2 (by decide)) |>.trans (Cert.KernelIdeal.Gen.W3_of m ρ c Cert.KernelIdeal.main_v2 (by decide))).trans ((e_v2 m ρ c U hA).trans ((Cert.Ref.R28_of U Cert.ReferenceIdeal.main_v2 (by decide)) |>.trans (Cert.Ref.R27_of U Cert.ReferenceIdeal.main_v2 (by decide)) |>.trans (Cert.Ref.R26_of U Cert.ReferenceIdeal.main_v2 (by decide)) |>.trans (Cert.Ref.R25_of U Cert.ReferenceIdeal.main_v2 (by decide)) |>.trans (Cert.Ref.R24_of U Cert.ReferenceIdeal.main_v2 (by decide)) |>.trans (Cert.Ref.R23_of U Cert.ReferenceIdeal.main_v2 (by decide)) |>.trans (Cert.Ref.R22_of U Cert.ReferenceIdeal.main_v2 (by decide)) |>.trans (Cert.Ref.R21_of U Cert.ReferenceIdeal.main_v2 (by decide)) |>.trans (Cert.Ref.R20_of U Cert.ReferenceIdeal.main_v2 (by decide)) |>.trans (Cert.Ref.R19_of U Cert.ReferenceIdeal.main_v2 (by decide)) |>.trans (Cert.Ref.R18_of U Cert.ReferenceIdeal.main_v2 (by decide)) |>.trans (Cert.Ref.R17_of U Cert.ReferenceIdeal.main_v2 (by decide)) |>.trans (Cert.Ref.R16_of U Cert.ReferenceIdeal.main_v2 (by decide)) |>.trans (Cert.Ref.R15_of U Cert.ReferenceIdeal.main_v2 (by decide)) |>.trans (Cert.Ref.R14_of U Cert.ReferenceIdeal.main_v2 (by decide)) |>.trans (Cert.Ref.R13_of U Cert.ReferenceIdeal.main_v2 (by decide)) |>.trans (Cert.Ref.R12_of U Cert.ReferenceIdeal.main_v2 (by decide)) |>.trans (Cert.Ref.R11_of U Cert.ReferenceIdeal.main_v2 (by decide)) |>.trans (Cert.Ref.R10_of U Cert.ReferenceIdeal.main_v2 (by decide)) |>.trans (Cert.Ref.R9_of U Cert.ReferenceIdeal.main_v2 (by decide)) |>.trans (Cert.Ref.R8_of U Cert.ReferenceIdeal.main_v2 (by decide)) |>.trans (Cert.Ref.R7_of U Cert.ReferenceIdeal.main_v2 (by decide)) |>.trans (Cert.Ref.R6_of U Cert.ReferenceIdeal.main_v2 (by decide)) |>.trans (Cert.Ref.R5_of U Cert.ReferenceIdeal.main_v2 (by decide)) |>.trans (Cert.Ref.R4_of U Cert.ReferenceIdeal.main_v2 (by decide)) |>.trans (Cert.Ref.R3_of U Cert.ReferenceIdeal.main_v2 (by decide))).symm))

/-- The second sampled points. -/
theorem e_v64 : (show FVec Ideal Cert.KernelIdeal.S16x128x3 .f32 from (Cert.KernelIdeal.Gen.W12 m ρ c (Proc.devRef .tc Cert.KernelIdeal.main_v64))) = (show FVec Ideal Cert.ReferenceIdeal.S16x128x3 .f32 from (Cert.Ref.R30 U (Proc.devRef .tc Cert.ReferenceIdeal.main_v146))) :=
  v64 (Cert.KernelIdeal.Gen.W11 m ρ c) (Cert.Ref.R29 U) (((Cert.KernelIdeal.Gen.W11_of m ρ c Cert.KernelIdeal.main_v2 (by decide))).trans (e_v146 m ρ c U hA)) (e_v63 m ρ c U hA)

/-- The first samples, with a unit feature axis. -/
theorem e_v79 : (show FVec Ideal Cert.KernelIdeal.S16x1x256x3 .f32 from (Cert.KernelIdeal.Gen.W13 m ρ c (Proc.devRef .tc Cert.KernelIdeal.main_v79))) = (show FVec Ideal Cert.ReferenceIdeal.S16x1x256x3 .f32 from (Cert.Ref.R32 U (Proc.devRef .tc Cert.ReferenceIdeal.main_v161))) :=
  v79 (Cert.KernelIdeal.Gen.W12 m ρ c) (Cert.Ref.R30 U) (((Cert.KernelIdeal.Gen.W12_of m ρ c Cert.KernelIdeal.main_v2 (by decide)) |>.trans (Cert.KernelIdeal.Gen.W11_of m ρ c Cert.KernelIdeal.main_v2 (by decide))).trans ((e_v146 m ρ c U hA).trans ((Cert.Ref.R30_of U Cert.ReferenceIdeal.main_v144 (by decide))).symm))

/-- The nearest neighbours of the second samples, in one row. -/
theorem e_v80 : (show IVec Cert.KernelIdeal.S16x1x2048x1 32 from (Cert.KernelIdeal.Gen.W13 m ρ c (Proc.devRef .tc Cert.KernelIdeal.main_v80))) = (show IVec Cert.ReferenceIdeal.S16x1x2048x1 32 from (Cert.Ref.R32 U (Proc.devRef .tc Cert.ReferenceIdeal.main_v162))) :=
  v80 (Cert.KernelIdeal.Gen.W12 m ρ c) (Cert.Ref.R30 U) (e_v64 m ρ c U hA) (((Cert.KernelIdeal.Gen.W12_of m ρ c Cert.KernelIdeal.main_v2 (by decide)) |>.trans (Cert.KernelIdeal.Gen.W11_of m ρ c Cert.KernelIdeal.main_v2 (by decide))).trans ((e_v146 m ρ c U hA).trans ((Cert.Ref.R30_of U Cert.ReferenceIdeal.main_v144 (by decide))).symm))

/-- The nearest neighbours of the second samples. -/
theorem e_idx2 : (show IVec Cert.KernelIdeal.S16x128x16 32 from (Cert.KernelIdeal.Gen.W13 m ρ c (Proc.devRef .tc Cert.KernelIdeal.main_indices_12))) = (show IVec Cert.ReferenceIdeal.S16x128x16 32 from (Cert.Ref.R32 U (Proc.devRef .tc Cert.ReferenceIdeal.main_indices_30))) :=
  idx2 (Cert.KernelIdeal.Gen.W12 m ρ c) (Cert.Ref.R30 U) (e_v64 m ρ c U hA) (((Cert.KernelIdeal.Gen.W12_of m ρ c Cert.KernelIdeal.main_v2 (by decide)) |>.trans (Cert.KernelIdeal.Gen.W11_of m ρ c Cert.KernelIdeal.main_v2 (by decide))).trans ((e_v146 m ρ c U hA).trans ((Cert.Ref.R30_of U Cert.ReferenceIdeal.main_v144 (by decide))).symm))

/-- Their coordinates gathered. -/
theorem e_v81 : (show FVec Ideal Cert.KernelIdeal.S16x1x2048x3 .f32 from (Cert.KernelIdeal.Gen.W14 m ρ c (Proc.devRef .tc Cert.KernelIdeal.main_v81))) = (show FVec Ideal Cert.ReferenceIdeal.S16x1x2048x3 .f32 from (Cert.Ref.R33 U (Proc.devRef .tc Cert.ReferenceIdeal.main_v163))) :=
  v81 (Cert.KernelIdeal.Gen.W13 m ρ c) (Cert.Ref.R32 U) (e_v79 m ρ c U hA) (e_v80 m ρ c U hA)

/-- Their coordinates relative to their point. -/
theorem e_v85 : (show FVec Ideal Cert.KernelIdeal.S16x1x128x16x3 .f32 from (Cert.KernelIdeal.Gen.W15 m ρ c (Proc.devRef .tc Cert.KernelIdeal.main_v85))) = (show FVec Ideal Cert.ReferenceIdeal.S16x1x128x16x3 .f32 from (Cert.Ref.R34 U (Proc.devRef .tc Cert.ReferenceIdeal.main_v168))) :=
  v85 (Cert.KernelIdeal.Gen.W14 m ρ c) (Cert.Ref.R33 U) (e_v81 m ρ c U hA) (((Cert.KernelIdeal.Gen.W14_of m ρ c Cert.KernelIdeal.main_v64 (by decide)) |>.trans (Cert.KernelIdeal.Gen.W13_of m ρ c Cert.KernelIdeal.main_v64 (by decide))).trans ((e_v64 m ρ c U hA).trans ((Cert.Ref.R33_of U Cert.ReferenceIdeal.main_v146 (by decide)) |>.trans (Cert.Ref.R32_of U Cert.ReferenceIdeal.main_v146 (by decide)) |>.trans (Cert.Ref.R31_of U Cert.ReferenceIdeal.main_v146 (by decide))).symm))

/-- The neighbours again, in one row. -/
theorem e_v86 : (show IVec Cert.KernelIdeal.S16x1x2048x1 32 from (Cert.KernelIdeal.Gen.W15 m ρ c (Proc.devRef .tc Cert.KernelIdeal.main_v86))) = (show IVec Cert.ReferenceIdeal.S16x1x2048x1 32 from (Cert.Ref.R34 U (Proc.devRef .tc Cert.ReferenceIdeal.main_v169))) :=
  v86 (Cert.KernelIdeal.Gen.W14 m ρ c) (Cert.Ref.R33 U) (((Cert.KernelIdeal.Gen.W14_of m ρ c Cert.KernelIdeal.main_indices_12 (by decide))).trans ((e_idx2 m ρ c U hA).trans ((Cert.Ref.R33_of U Cert.ReferenceIdeal.main_indices_30 (by decide))).symm))

/-- Their features gathered. -/
theorem e_v87 : (show FVec Ideal Cert.KernelIdeal.S16x128x2048x3 .f32 from (Cert.KernelIdeal.Gen.W16 m ρ c (Proc.devRef .tc Cert.KernelIdeal.main_v87))) = (show FVec Ideal Cert.ReferenceIdeal.S16x128x2048x3 .f32 from (Cert.Ref.R35 U (Proc.devRef .tc Cert.ReferenceIdeal.main_v170))) :=
  v87 (Cert.KernelIdeal.Gen.W15 m ρ c) (Cert.Ref.R34 U) (((Cert.KernelIdeal.Gen.W15_of m ρ c Cert.KernelIdeal.main_v61 (by decide)) |>.trans (Cert.KernelIdeal.Gen.W14_of m ρ c Cert.KernelIdeal.main_v61 (by decide)) |>.trans (Cert.KernelIdeal.Gen.W13_of m ρ c Cert.KernelIdeal.main_v61 (by decide)) |>.trans (Cert.KernelIdeal.Gen.W12_of m ρ c Cert.KernelIdeal.main_v61 (by decide))).trans ((e_v61 m ρ c U hA).trans ((Cert.Ref.R34_of U Cert.ReferenceIdeal.main_v142 (by decide)) |>.trans (Cert.Ref.R33_of U Cert.ReferenceIdeal.main_v142 (by decide)) |>.trans (Cert.Ref.R32_of U Cert.ReferenceIdeal.main_v142 (by decide)) |>.trans (Cert.Ref.R31_of U Cert.ReferenceIdeal.main_v142 (by decide)) |>.trans (Cert.Ref.R30_of U Cert.ReferenceIdeal.main_v142 (by decide)) |>.trans (Cert.Ref.R29_of U Cert.ReferenceIdeal.main_v142 (by decide))).symm)) (e_v86 m ρ c U hA)

/-- Coordinates and features together. -/
theorem e_v89 : (show FVec Ideal Cert.KernelIdeal.S16x129x128x16x3 .f32 from (Cert.KernelIdeal.Gen.W17 m ρ c (Proc.devRef .tc Cert.KernelIdeal.main_v89))) = (show FVec Ideal Cert.ReferenceIdeal.S16x129x128x16x3 .f32 from (Cert.Ref.R36 U (Proc.devRef .tc Cert.ReferenceIdeal.main_v172))) :=
  v89 (Cert.KernelIdeal.Gen.W16 m ρ c) (Cert.Ref.R35 U) (((Cert.KernelIdeal.Gen.W16_of m ρ c Cert.KernelIdeal.main_v85 (by decide))).trans ((e_v85 m ρ c U hA).trans ((Cert.Ref.R35_of U Cert.ReferenceIdeal.main_v168 (by decide))).symm)) (e_v87 m ρ c U hA)

/-- Module 2's result. -/
theorem e_v127 : (show FVec Ideal Cert.KernelIdeal.S16x256x128x3 .f32 from (Cert.KernelIdeal.Gen.W23 m ρ c (Proc.devRef .tc Cert.KernelIdeal.main_v127))) = (show FVec Ideal Cert.ReferenceIdeal.S16x256x128x3 .f32 from (Cert.Ref.R58 U (Proc.devRef .tc Cert.ReferenceIdeal.main_v290))) := by
  suffices h : ∀ b o s d, (show FVec Ideal Cert.KernelIdeal.S16x256x128x3 .f32 from (Cert.KernelIdeal.Gen.W23 m ρ c (Proc.devRef .tc Cert.KernelIdeal.main_v127))) (ix4 b o s d) = (show FVec Ideal Cert.ReferenceIdeal.S16x256x128x3 .f32 from (Cert.Ref.R58 U (Proc.devRef .tc Cert.ReferenceIdeal.main_v290))) (ix4 b o s d) from funext fun i => by rw [eq_ix4 i]; exact h _ _ _ _
  intro b o s d
  refine (Cert.Val.v127_at (Cert.KernelIdeal.Gen.W22 m ρ c) b o s d).trans ?_
  refine (Cert.Val.sa2_out m ρ c b o s d).trans ?_
  refine Eq.trans ?_ (Cert.Ref.pool2 (Cert.Ref.R53 U) b o s d).symm
  refine congrArg (fun h => Cert.Spec.pool h d) (funext fun k => congrFun ?_ o)
  rw [vnl2, vnl2, show fam 128 16 rfl (show FVec Ideal Cert.KernelIdeal.S16x3x129x2048 .f32 from (Cert.KernelIdeal.Gen.W17 m ρ c (Proc.devRef .tc Cert.KernelIdeal.main_v91))) = at5 (show FVec Ideal Cert.KernelIdeal.S16x129x128x16x3 .f32 from (Cert.KernelIdeal.Gen.W17 m ρ c (Proc.devRef .tc Cert.KernelIdeal.main_v89))) from funext (Cert.Val.v91_fam (Cert.KernelIdeal.Gen.W16 m ρ c)), show Cert.KernelIdeal.Gen.W17 m ρ c (Proc.devRef .tc Cert.KernelIdeal.main_v89) = _ from e_v89 m ρ c U hA, show m ((c : Thread Cert.KernelIdeal.nD Cert.KernelIdeal.τ).loc Cert.KernelIdeal.main_arg11) = _ from hA.arg11, show m ((c : Thread Cert.KernelIdeal.nD Cert.KernelIdeal.τ).loc Cert.KernelIdeal.main_arg12) = _ from hA.arg12, show m ((c : Thread Cert.KernelIdeal.nD Cert.KernelIdeal.τ).loc Cert.KernelIdeal.main_arg13) = _ from hA.arg13, show m ((c : Thread Cert.KernelIdeal.nD Cert.KernelIdeal.τ).loc Cert.KernelIdeal.main_arg14) = _ from hA.arg14, show m ((c : Thread Cert.KernelIdeal.nD Cert.KernelIdeal.τ).loc Cert.KernelIdeal.main_arg15) = _ from hA.arg15, show m ((c : Thread Cert.KernelIdeal.nD Cert.KernelIdeal.τ).loc Cert.KernelIdeal.main_arg16) = _ from hA.arg16, show m ((c : Thread Cert.KernelIdeal.nD Cert.KernelIdeal.τ).loc Cert.KernelIdeal.main_arg17) = _ from hA.arg17, show m ((c : Thread Cert.KernelIdeal.nD Cert.KernelIdeal.τ).loc Cert.KernelIdeal.main_arg18) = _ from hA.arg18]
  refine Eq.trans ?_ (Cert.Ref.L4_all U _).symm
  rw [funext (Cert.Ref.L3_all U)]

/-- The second samples, coordinates second. -/
theorem e_v128 : (show FVec Ideal Cert.KernelIdeal.S16x3x128 .f32 from (Cert.KernelIdeal.Gen.W23 m ρ c (Proc.devRef .tc Cert.KernelIdeal.main_v128))) = (show FVec Ideal Cert.ReferenceIdeal.S16x3x128 .f32 from (Cert.Ref.R59 U (Proc.devRef .tc Cert.ReferenceIdeal.main_v291))) :=
  v128 (Cert.KernelIdeal.Gen.W22 m ρ c) (Cert.Ref.R58 U) (((Cert.KernelIdeal.Gen.W22_of m ρ c Cert.KernelIdeal.main_v64 (by decide)) |>.trans (Cert.KernelIdeal.Gen.W21_of m ρ c Cert.KernelIdeal.main_v64 (by decide)) |>.trans (Cert.KernelIdeal.Gen.W20_of m ρ c Cert.KernelIdeal.main_v64 (by decide)) |>.trans (Cert.KernelIdeal.Gen.W19_of m ρ c Cert.KernelIdeal.main_v64 (by decide)) |>.trans (Cert.KernelIdeal.Gen.W18_of m ρ c Cert.KernelIdeal.main_v64 (by decide)) |>.trans (Cert.KernelIdeal.Gen.W17_of m ρ c Cert.KernelIdeal.main_v64 (by decide)) |>.trans (Cert.KernelIdeal.Gen.W16_of m ρ c Cert.KernelIdeal.main_v64 (by decide)) |>.trans (Cert.KernelIdeal.Gen.W15_of m ρ c Cert.KernelIdeal.main_v64 (by decide)) |>.trans (Cert.KernelIdeal.Gen.W14_of m ρ c Cert.KernelIdeal.main_v64 (by decide)) |>.trans (Cert.KernelIdeal.Gen.W13_of m ρ c Cert.KernelIdeal.main_v64 (by decide))).trans ((e_v64 m ρ c U hA).trans ((Cert.Ref.R58_of U Cert.ReferenceIdeal.main_v146 (by decide)) |>.trans (Cert.Ref.R57_of U Cert.ReferenceIdeal.main_v146 (by decide)) |>.trans (Cert.Ref.R56_of U Cert.ReferenceIdeal.main_v146 (by decide)) |>.trans (Cert.Ref.R55_of U Cert.ReferenceIdeal.main_v146 (by decide)) |>.trans (Cert.Ref.R54_of U Cert.ReferenceIdeal.main_v146 (by decide)) |>.trans (Cert.Ref.R53_of U Cert.ReferenceIdeal.main_v146 (by decide)) |>.trans (Cert.Ref.R52_of U Cert.ReferenceIdeal.main_v146 (by decide)) |>.trans (Cert.Ref.R51_of U Cert.ReferenceIdeal.main_v146 (by decide)) |>.trans (Cert.Ref.R50_of U Cert.ReferenceIdeal.main_v146 (by decide)) |>.trans (Cert.Ref.R49_of U Cert.ReferenceIdeal.main_v146 (by decide)) |>.trans (Cert.Ref.R48_of U Cert.ReferenceIdeal.main_v146 (by decide)) |>.trans (Cert.Ref.R47_of U Cert.ReferenceIdeal.main_v146 (by decide)) |>.trans (Cert.Ref.R46_of U Cert.ReferenceIdeal.main_v146 (by decide)) |>.trans (Cert.Ref.R45_of U Cert.ReferenceIdeal.main_v146 (by decide)) |>.trans (Cert.Ref.R44_of U Cert.ReferenceIdeal.main_v146 (by decide)) |>.trans (Cert.Ref.R43_of U Cert.ReferenceIdeal.main_v146 (by decide)) |>.trans (Cert.Ref.R42_of U Cert.ReferenceIdeal.main_v146 (by decide)) |>.trans (Cert.Ref.R41_of U Cert.ReferenceIdeal.main_v146 (by decide)) |>.trans (Cert.Ref.R40_of U Cert.ReferenceIdeal.main_v146 (by decide)) |>.trans (Cert.Ref.R39_of U Cert.ReferenceIdeal.main_v146 (by decide)) |>.trans (Cert.Ref.R38_of U Cert.ReferenceIdeal.main_v146 (by decide)) |>.trans (Cert.Ref.R37_of U Cert.ReferenceIdeal.main_v146 (by decide)) |>.trans (Cert.Ref.R36_of U Cert.ReferenceIdeal.main_v146 (by decide)) |>.trans (Cert.Ref.R35_of U Cert.ReferenceIdeal.main_v146 (by decide)) |>.trans (Cert.Ref.R34_of U Cert.ReferenceIdeal.main_v146 (by decide)) |>.trans (Cert.Ref.R33_of U Cert.ReferenceIdeal.main_v146 (by decide)) |>.trans (Cert.Ref.R32_of U Cert.ReferenceIdeal.main_v146 (by decide)) |>.trans (Cert.Ref.R31_of U Cert.ReferenceIdeal.main_v146 (by decide))).symm))

/-- The squared norms. -/
theorem e_v130 : (show FVec Ideal Cert.KernelIdeal.S16x256x128 .f32 from (Cert.KernelIdeal.Gen.W23 m ρ c (Proc.devRef .tc Cert.KernelIdeal.main_v130))) = (show FVec Ideal Cert.ReferenceIdeal.S16x256x128 .f32 from (Cert.Ref.R60 U (Proc.devRef .tc Cert.ReferenceIdeal.main_v293))) :=
  v130 (Cert.KernelIdeal.Gen.W22 m ρ c) (Cert.Ref.R59 U) ((e_v127 m ρ c U hA).trans ((Cert.Ref.R59_of U Cert.ReferenceIdeal.main_v290 (by decide))).symm)

/-- The point of largest norm in each channel. -/
theorem e_v131 : (show IVec Cert.KernelIdeal.S16x256 32 from (Cert.KernelIdeal.Gen.W24 m ρ c (Proc.devRef .tc Cert.KernelIdeal.main_v131))) = (show IVec Cert.ReferenceIdeal.S16x256 32 from (Cert.Ref.R61 U (Proc.devRef .tc Cert.ReferenceIdeal.main_v294))) :=
  v131 (Cert.KernelIdeal.Gen.W23 m ρ c) (Cert.Ref.R60 U) (e_v130 m ρ c U hA)

/-- That point, with unit axes. -/
theorem e_v132 : (show IVec Cert.KernelIdeal.S16x256x1x1 32 from (Cert.KernelIdeal.Gen.W25 m ρ c (Proc.devRef .tc Cert.KernelIdeal.main_v132))) = (show IVec Cert.ReferenceIdeal.S16x256x1x1 32 from (Cert.Ref.R62 U (Proc.devRef .tc Cert.ReferenceIdeal.main_v295))) :=
  v132 (Cert.KernelIdeal.Gen.W24 m ρ c) (Cert.Ref.R61 U) (e_v131 m ρ c U hA)

/-- The vector at that point. -/
theorem e_v133 : (show FVec Ideal Cert.KernelIdeal.S16x256x1x3 .f32 from (Cert.KernelIdeal.Gen.W26 m ρ c (Proc.devRef .tc Cert.KernelIdeal.main_v133))) = (show FVec Ideal Cert.ReferenceIdeal.S16x256x1x3 .f32 from (Cert.Ref.R63 U (Proc.devRef .tc Cert.ReferenceIdeal.main_v296))) :=
  v133 (Cert.KernelIdeal.Gen.W25 m ρ c) (Cert.Ref.R62 U) (((Cert.KernelIdeal.Gen.W25_of m ρ c Cert.KernelIdeal.main_v127 (by decide)) |>.trans (Cert.KernelIdeal.Gen.W24_of m ρ c Cert.KernelIdeal.main_v127 (by decide))).trans ((e_v127 m ρ c U hA).trans ((Cert.Ref.R62_of U Cert.ReferenceIdeal.main_v290 (by decide)) |>.trans (Cert.Ref.R61_of U Cert.ReferenceIdeal.main_v290 (by decide)) |>.trans (Cert.Ref.R60_of U Cert.ReferenceIdeal.main_v290 (by decide)) |>.trans (Cert.Ref.R59_of U Cert.ReferenceIdeal.main_v290 (by decide))).symm)) (e_v132 m ρ c U hA)

/-- A row of the last product. -/
theorem e_v138 : (show FVec Ideal Cert.KernelIdeal.S16x3 .f32 from (Cert.KernelIdeal.Gen.W27 m ρ c (Proc.devRef .tc Cert.KernelIdeal.main_v138))) = (show FVec Ideal Cert.ReferenceIdeal.S16x3 .f32 from (Cert.Ref.R66 U (Proc.devRef .tc Cert.ReferenceIdeal.main_v303))) :=
  v138 (Cert.KernelIdeal.Gen.W26 m ρ c) (Cert.Ref.R63 U) (e_v133 m ρ c U hA) ((show Cert.KernelIdeal.Gen.W26 m ρ c (Proc.devRef .tc Cert.KernelIdeal.main_arg19) = _ from Cert.KernelIdeal.Gen.W26_args m ρ c Cert.KernelIdeal.main_arg19 (by decide)).trans (hA.arg19.trans (Cert.Ref.R63_args U Cert.ReferenceIdeal.main_arg19 (by decide)).symm))

/-- A row of the last product. -/
theorem e_v140 : (show FVec Ideal Cert.KernelIdeal.S16x3 .f32 from (Cert.KernelIdeal.Gen.W27 m ρ c (Proc.devRef .tc Cert.KernelIdeal.main_v140))) = (show FVec Ideal Cert.ReferenceIdeal.S16x3 .f32 from (Cert.Ref.R66 U (Proc.devRef .tc Cert.ReferenceIdeal.main_v305))) :=
  v140 (Cert.KernelIdeal.Gen.W26 m ρ c) (Cert.Ref.R63 U) (e_v133 m ρ c U hA) ((show Cert.KernelIdeal.Gen.W26 m ρ c (Proc.devRef .tc Cert.KernelIdeal.main_arg19) = _ from Cert.KernelIdeal.Gen.W26_args m ρ c Cert.KernelIdeal.main_arg19 (by decide)).trans (hA.arg19.trans (Cert.Ref.R63_args U Cert.ReferenceIdeal.main_arg19 (by decide)).symm))

/-- The norm of the first direction. -/
theorem e_v141 : (show FVec Ideal Cert.KernelIdeal.S16x1 .f32 from (Cert.KernelIdeal.Gen.W28 m ρ c (Proc.devRef .tc Cert.KernelIdeal.main_v141))) = (show FVec Ideal Cert.ReferenceIdeal.S16x1 .f32 from (Cert.Ref.R67 U (Proc.devRef .tc Cert.ReferenceIdeal.main_v306))) :=
  v141 (Cert.KernelIdeal.Gen.W27 m ρ c) (Cert.Ref.R66 U) (e_v138 m ρ c U hA)

/-- The first direction. -/
theorem e_v145 : (show FVec Ideal Cert.KernelIdeal.S16x3 .f32 from (Cert.KernelIdeal.Gen.W29 m ρ c (Proc.devRef .tc Cert.KernelIdeal.main_v145))) = (show FVec Ideal Cert.ReferenceIdeal.S16x3 .f32 from (Cert.Ref.R68 U (Proc.devRef .tc Cert.ReferenceIdeal.main_v310))) :=
  v145 (Cert.KernelIdeal.Gen.W28 m ρ c) (Cert.Ref.R67 U) (e_v141 m ρ c U hA) (((Cert.KernelIdeal.Gen.W28_of m ρ c Cert.KernelIdeal.main_v138 (by decide))).trans ((e_v138 m ρ c U hA).trans ((Cert.Ref.R67_of U Cert.ReferenceIdeal.main_v303 (by decide))).symm))

/-- The second direction before scaling. -/
theorem e_v151 : (show FVec Ideal Cert.KernelIdeal.S16x3 .f32 from (Cert.KernelIdeal.Gen.W29 m ρ c (Proc.devRef .tc Cert.KernelIdeal.main_v151))) = (show FVec Ideal Cert.ReferenceIdeal.S16x3 .f32 from (Cert.Ref.R68 U (Proc.devRef .tc Cert.ReferenceIdeal.main_v316))) :=
  v151 (Cert.KernelIdeal.Gen.W28 m ρ c) (Cert.Ref.R67 U) (e_v141 m ρ c U hA) (((Cert.KernelIdeal.Gen.W28_of m ρ c Cert.KernelIdeal.main_v138 (by decide))).trans ((e_v138 m ρ c U hA).trans ((Cert.Ref.R67_of U Cert.ReferenceIdeal.main_v303 (by decide))).symm)) (((Cert.KernelIdeal.Gen.W28_of m ρ c Cert.KernelIdeal.main_v140 (by decide))).trans ((e_v140 m ρ c U hA).trans ((Cert.Ref.R67_of U Cert.ReferenceIdeal.main_v305 (by decide))).symm))

/-- The norm of the second direction. -/
theorem e_v152 : (show FVec Ideal Cert.KernelIdeal.S16x1 .f32 from (Cert.KernelIdeal.Gen.W30 m ρ c (Proc.devRef .tc Cert.KernelIdeal.main_v152))) = (show FVec Ideal Cert.ReferenceIdeal.S16x1 .f32 from (Cert.Ref.R69 U (Proc.devRef .tc Cert.ReferenceIdeal.main_v317))) :=
  v152 (Cert.KernelIdeal.Gen.W29 m ρ c) (Cert.Ref.R68 U) (e_v151 m ρ c U hA)

/-- The second direction. -/
theorem e_v156 : (show FVec Ideal Cert.KernelIdeal.S16x3 .f32 from (Cert.KernelIdeal.Gen.W31 m ρ c (Proc.devRef .tc Cert.KernelIdeal.main_v156))) = (show FVec Ideal Cert.ReferenceIdeal.S16x3 .f32 from (Cert.Ref.R70 U (Proc.devRef .tc Cert.ReferenceIdeal.main_v321))) :=
  v156 (Cert.KernelIdeal.Gen.W30 m ρ c) (Cert.Ref.R69 U) (e_v152 m ρ c U hA) (((Cert.KernelIdeal.Gen.W30_of m ρ c Cert.KernelIdeal.main_v151 (by decide))).trans ((e_v151 m ρ c U hA).trans ((Cert.Ref.R69_of U Cert.ReferenceIdeal.main_v316 (by decide))).symm))

/-- The third direction. -/
theorem e_v157 : (show FVec Ideal Cert.KernelIdeal.S16x3 .f32 from (Cert.KernelIdeal.Gen.W32 m ρ c (Proc.devRef .tc Cert.KernelIdeal.main_v157))) = (show FVec Ideal Cert.ReferenceIdeal.S16x3 .f32 from (Cert.Ref.R71 U (Proc.devRef .tc Cert.ReferenceIdeal.main_v322))) :=
  v157 (Cert.KernelIdeal.Gen.W31 m ρ c) (Cert.Ref.R70 U) (((Cert.KernelIdeal.Gen.W31_of m ρ c Cert.KernelIdeal.main_v145 (by decide)) |>.trans (Cert.KernelIdeal.Gen.W30_of m ρ c Cert.KernelIdeal.main_v145 (by decide))).trans ((e_v145 m ρ c U hA).trans ((Cert.Ref.R70_of U Cert.ReferenceIdeal.main_v310 (by decide)) |>.trans (Cert.Ref.R69_of U Cert.ReferenceIdeal.main_v310 (by decide))).symm)) (e_v156 m ρ c U hA)

/-- The rotation. -/
theorem e_v161 : (show FVec Ideal Cert.KernelIdeal.S16x3x3 .f32 from (Cert.KernelIdeal.Gen.W33 m ρ c (Proc.devRef .tc Cert.KernelIdeal.main_v161))) = (show FVec Ideal Cert.ReferenceIdeal.S16x3x3 .f32 from (Cert.Ref.R72 U (Proc.devRef .tc Cert.ReferenceIdeal.main_v326))) :=
  v161 (Cert.KernelIdeal.Gen.W32 m ρ c) (Cert.Ref.R71 U) (((Cert.KernelIdeal.Gen.W32_of m ρ c Cert.KernelIdeal.main_v145 (by decide)) |>.trans (Cert.KernelIdeal.Gen.W31_of m ρ c Cert.KernelIdeal.main_v145 (by decide)) |>.trans (Cert.KernelIdeal.Gen.W30_of m ρ c Cert.KernelIdeal.main_v145 (by decide))).trans ((e_v145 m ρ c U hA).trans ((Cert.Ref.R71_of U Cert.ReferenceIdeal.main_v310 (by decide)) |>.trans (Cert.Ref.R70_of U Cert.ReferenceIdeal.main_v310 (by decide)) |>.trans (Cert.Ref.R69_of U Cert.ReferenceIdeal.main_v310 (by decide))).symm)) (((Cert.KernelIdeal.Gen.W32_of m ρ c Cert.KernelIdeal.main_v156 (by decide))).trans ((e_v156 m ρ c U hA).trans ((Cert.Ref.R71_of U Cert.ReferenceIdeal.main_v321 (by decide))).symm)) (e_v157 m ρ c U hA)

/-- A result, where both programs end. -/
theorem fin_v127 : (show FVec Ideal Cert.KernelIdeal.S16x256x128x3 .f32 from (Cert.KernelIdeal.Gen.W33 m ρ c (Proc.devRef .tc Cert.KernelIdeal.main_v127))) = (show FVec Ideal Cert.ReferenceIdeal.S16x256x128x3 .f32 from (Cert.Ref.R72 U (Proc.devRef .tc Cert.ReferenceIdeal.main_v290))) :=
  (((Cert.KernelIdeal.Gen.W33_of m ρ c Cert.KernelIdeal.main_v127 (by decide)) |>.trans (Cert.KernelIdeal.Gen.W32_of m ρ c Cert.KernelIdeal.main_v127 (by decide)) |>.trans (Cert.KernelIdeal.Gen.W31_of m ρ c Cert.KernelIdeal.main_v127 (by decide)) |>.trans (Cert.KernelIdeal.Gen.W30_of m ρ c Cert.KernelIdeal.main_v127 (by decide)) |>.trans (Cert.KernelIdeal.Gen.W29_of m ρ c Cert.KernelIdeal.main_v127 (by decide)) |>.trans (Cert.KernelIdeal.Gen.W28_of m ρ c Cert.KernelIdeal.main_v127 (by decide)) |>.trans (Cert.KernelIdeal.Gen.W27_of m ρ c Cert.KernelIdeal.main_v127 (by decide)) |>.trans (Cert.KernelIdeal.Gen.W26_of m ρ c Cert.KernelIdeal.main_v127 (by decide)) |>.trans (Cert.KernelIdeal.Gen.W25_of m ρ c Cert.KernelIdeal.main_v127 (by decide)) |>.trans (Cert.KernelIdeal.Gen.W24_of m ρ c Cert.KernelIdeal.main_v127 (by decide))).trans ((e_v127 m ρ c U hA).trans ((Cert.Ref.R72_of U Cert.ReferenceIdeal.main_v290 (by decide)) |>.trans (Cert.Ref.R71_of U Cert.ReferenceIdeal.main_v290 (by decide)) |>.trans (Cert.Ref.R70_of U Cert.ReferenceIdeal.main_v290 (by decide)) |>.trans (Cert.Ref.R69_of U Cert.ReferenceIdeal.main_v290 (by decide)) |>.trans (Cert.Ref.R68_of U Cert.ReferenceIdeal.main_v290 (by decide)) |>.trans (Cert.Ref.R67_of U Cert.ReferenceIdeal.main_v290 (by decide)) |>.trans (Cert.Ref.R66_of U Cert.ReferenceIdeal.main_v290 (by decide)) |>.trans (Cert.Ref.R65_of U Cert.ReferenceIdeal.main_v290 (by decide)) |>.trans (Cert.Ref.R64_of U Cert.ReferenceIdeal.main_v290 (by decide)) |>.trans (Cert.Ref.R63_of U Cert.ReferenceIdeal.main_v290 (by decide)) |>.trans (Cert.Ref.R62_of U Cert.ReferenceIdeal.main_v290 (by decide)) |>.trans (Cert.Ref.R61_of U Cert.ReferenceIdeal.main_v290 (by decide)) |>.trans (Cert.Ref.R60_of U Cert.ReferenceIdeal.main_v290 (by decide)) |>.trans (Cert.Ref.R59_of U Cert.ReferenceIdeal.main_v290 (by decide))).symm))

/-- A result, where both programs end. -/
theorem fin_v128 : (show FVec Ideal Cert.KernelIdeal.S16x3x128 .f32 from (Cert.KernelIdeal.Gen.W33 m ρ c (Proc.devRef .tc Cert.KernelIdeal.main_v128))) = (show FVec Ideal Cert.ReferenceIdeal.S16x3x128 .f32 from (Cert.Ref.R72 U (Proc.devRef .tc Cert.ReferenceIdeal.main_v291))) :=
  (((Cert.KernelIdeal.Gen.W33_of m ρ c Cert.KernelIdeal.main_v128 (by decide)) |>.trans (Cert.KernelIdeal.Gen.W32_of m ρ c Cert.KernelIdeal.main_v128 (by decide)) |>.trans (Cert.KernelIdeal.Gen.W31_of m ρ c Cert.KernelIdeal.main_v128 (by decide)) |>.trans (Cert.KernelIdeal.Gen.W30_of m ρ c Cert.KernelIdeal.main_v128 (by decide)) |>.trans (Cert.KernelIdeal.Gen.W29_of m ρ c Cert.KernelIdeal.main_v128 (by decide)) |>.trans (Cert.KernelIdeal.Gen.W28_of m ρ c Cert.KernelIdeal.main_v128 (by decide)) |>.trans (Cert.KernelIdeal.Gen.W27_of m ρ c Cert.KernelIdeal.main_v128 (by decide)) |>.trans (Cert.KernelIdeal.Gen.W26_of m ρ c Cert.KernelIdeal.main_v128 (by decide)) |>.trans (Cert.KernelIdeal.Gen.W25_of m ρ c Cert.KernelIdeal.main_v128 (by decide)) |>.trans (Cert.KernelIdeal.Gen.W24_of m ρ c Cert.KernelIdeal.main_v128 (by decide))).trans ((e_v128 m ρ c U hA).trans ((Cert.Ref.R72_of U Cert.ReferenceIdeal.main_v291 (by decide)) |>.trans (Cert.Ref.R71_of U Cert.ReferenceIdeal.main_v291 (by decide)) |>.trans (Cert.Ref.R70_of U Cert.ReferenceIdeal.main_v291 (by decide)) |>.trans (Cert.Ref.R69_of U Cert.ReferenceIdeal.main_v291 (by decide)) |>.trans (Cert.Ref.R68_of U Cert.ReferenceIdeal.main_v291 (by decide)) |>.trans (Cert.Ref.R67_of U Cert.ReferenceIdeal.main_v291 (by decide)) |>.trans (Cert.Ref.R66_of U Cert.ReferenceIdeal.main_v291 (by decide)) |>.trans (Cert.Ref.R65_of U Cert.ReferenceIdeal.main_v291 (by decide)) |>.trans (Cert.Ref.R64_of U Cert.ReferenceIdeal.main_v291 (by decide)) |>.trans (Cert.Ref.R63_of U Cert.ReferenceIdeal.main_v291 (by decide)) |>.trans (Cert.Ref.R62_of U Cert.ReferenceIdeal.main_v291 (by decide)) |>.trans (Cert.Ref.R61_of U Cert.ReferenceIdeal.main_v291 (by decide)) |>.trans (Cert.Ref.R60_of U Cert.ReferenceIdeal.main_v291 (by decide))).symm))

/-- A result, where both programs end. -/
theorem fin_v61 : (show FVec Ideal Cert.KernelIdeal.S16x128x256x3 .f32 from (Cert.KernelIdeal.Gen.W33 m ρ c (Proc.devRef .tc Cert.KernelIdeal.main_v61))) = (show FVec Ideal Cert.ReferenceIdeal.S16x128x256x3 .f32 from (Cert.Ref.R72 U (Proc.devRef .tc Cert.ReferenceIdeal.main_v142))) :=
  (((Cert.KernelIdeal.Gen.W33_of m ρ c Cert.KernelIdeal.main_v61 (by decide)) |>.trans (Cert.KernelIdeal.Gen.W32_of m ρ c Cert.KernelIdeal.main_v61 (by decide)) |>.trans (Cert.KernelIdeal.Gen.W31_of m ρ c Cert.KernelIdeal.main_v61 (by decide)) |>.trans (Cert.KernelIdeal.Gen.W30_of m ρ c Cert.KernelIdeal.main_v61 (by decide)) |>.trans (Cert.KernelIdeal.Gen.W29_of m ρ c Cert.KernelIdeal.main_v61 (by decide)) |>.trans (Cert.KernelIdeal.Gen.W28_of m ρ c Cert.KernelIdeal.main_v61 (by decide)) |>.trans (Cert.KernelIdeal.Gen.W27_of m ρ c Cert.KernelIdeal.main_v61 (by decide)) |>.trans (Cert.KernelIdeal.Gen.W26_of m ρ c Cert.KernelIdeal.main_v61 (by decide)) |>.trans (Cert.KernelIdeal.Gen.W25_of m ρ c Cert.KernelIdeal.main_v61 (by decide)) |>.trans (Cert.KernelIdeal.Gen.W24_of m ρ c Cert.KernelIdeal.main_v61 (by decide)) |>.trans (Cert.KernelIdeal.Gen.W23_of m ρ c Cert.KernelIdeal.main_v61 (by decide)) |>.trans (Cert.KernelIdeal.Gen.W22_of m ρ c Cert.KernelIdeal.main_v61 (by decide)) |>.trans (Cert.KernelIdeal.Gen.W21_of m ρ c Cert.KernelIdeal.main_v61 (by decide)) |>.trans (Cert.KernelIdeal.Gen.W20_of m ρ c Cert.KernelIdeal.main_v61 (by decide)) |>.trans (Cert.KernelIdeal.Gen.W19_of m ρ c Cert.KernelIdeal.main_v61 (by decide)) |>.trans (Cert.KernelIdeal.Gen.W18_of m ρ c Cert.KernelIdeal.main_v61 (by decide)) |>.trans (Cert.KernelIdeal.Gen.W17_of m ρ c Cert.KernelIdeal.main_v61 (by decide)) |>.trans (Cert.KernelIdeal.Gen.W16_of m ρ c Cert.KernelIdeal.main_v61 (by decide)) |>.trans (Cert.KernelIdeal.Gen.W15_of m ρ c Cert.KernelIdeal.main_v61 (by decide)) |>.trans (Cert.KernelIdeal.Gen.W14_of m ρ c Cert.KernelIdeal.main_v61 (by decide)) |>.trans (Cert.KernelIdeal.Gen.W13_of m ρ c Cert.KernelIdeal.main_v61 (by decide)) |>.trans (Cert.KernelIdeal.Gen.W12_of m ρ c Cert.KernelIdeal.main_v61 (by decide))).trans ((e_v61 m ρ c U hA).trans ((Cert.Ref.R72_of U Cert.ReferenceIdeal.main_v142 (by decide)) |>.trans (Cert.Ref.R71_of U Cert.ReferenceIdeal.main_v142 (by decide)) |>.trans (Cert.Ref.R70_of U Cert.ReferenceIdeal.main_v142 (by decide)) |>.trans (Cert.Ref.R69_of U Cert.ReferenceIdeal.main_v142 (by decide)) |>.trans (Cert.Ref.R68_of U Cert.ReferenceIdeal.main_v142 (by decide)) |>.trans (Cert.Ref.R67_of U Cert.ReferenceIdeal.main_v142 (by decide)) |>.trans (Cert.Ref.R66_of U Cert.ReferenceIdeal.main_v142 (by decide)) |>.trans (Cert.Ref.R65_of U Cert.ReferenceIdeal.main_v142 (by decide)) |>.trans (Cert.Ref.R64_of U Cert.ReferenceIdeal.main_v142 (by decide)) |>.trans (Cert.Ref.R63_of U Cert.ReferenceIdeal.main_v142 (by decide)) |>.trans (Cert.Ref.R62_of U Cert.ReferenceIdeal.main_v142 (by decide)) |>.trans (Cert.Ref.R61_of U Cert.ReferenceIdeal.main_v142 (by decide)) |>.trans (Cert.Ref.R60_of U Cert.ReferenceIdeal.main_v142 (by decide)) |>.trans (Cert.Ref.R59_of U Cert.ReferenceIdeal.main_v142 (by decide)) |>.trans (Cert.Ref.R58_of U Cert.ReferenceIdeal.main_v142 (by decide)) |>.trans (Cert.Ref.R57_of U Cert.ReferenceIdeal.main_v142 (by decide)) |>.trans (Cert.Ref.R56_of U Cert.ReferenceIdeal.main_v142 (by decide)) |>.trans (Cert.Ref.R55_of U Cert.ReferenceIdeal.main_v142 (by decide)) |>.trans (Cert.Ref.R54_of U Cert.ReferenceIdeal.main_v142 (by decide)) |>.trans (Cert.Ref.R53_of U Cert.ReferenceIdeal.main_v142 (by decide)) |>.trans (Cert.Ref.R52_of U Cert.ReferenceIdeal.main_v142 (by decide)) |>.trans (Cert.Ref.R51_of U Cert.ReferenceIdeal.main_v142 (by decide)) |>.trans (Cert.Ref.R50_of U Cert.ReferenceIdeal.main_v142 (by decide)) |>.trans (Cert.Ref.R49_of U Cert.ReferenceIdeal.main_v142 (by decide)) |>.trans (Cert.Ref.R48_of U Cert.ReferenceIdeal.main_v142 (by decide)) |>.trans (Cert.Ref.R47_of U Cert.ReferenceIdeal.main_v142 (by decide)) |>.trans (Cert.Ref.R46_of U Cert.ReferenceIdeal.main_v142 (by decide)) |>.trans (Cert.Ref.R45_of U Cert.ReferenceIdeal.main_v142 (by decide)) |>.trans (Cert.Ref.R44_of U Cert.ReferenceIdeal.main_v142 (by decide)) |>.trans (Cert.Ref.R43_of U Cert.ReferenceIdeal.main_v142 (by decide)) |>.trans (Cert.Ref.R42_of U Cert.ReferenceIdeal.main_v142 (by decide)) |>.trans (Cert.Ref.R41_of U Cert.ReferenceIdeal.main_v142 (by decide)) |>.trans (Cert.Ref.R40_of U Cert.ReferenceIdeal.main_v142 (by decide)) |>.trans (Cert.Ref.R39_of U Cert.ReferenceIdeal.main_v142 (by decide)) |>.trans (Cert.Ref.R38_of U Cert.ReferenceIdeal.main_v142 (by decide)) |>.trans (Cert.Ref.R37_of U Cert.ReferenceIdeal.main_v142 (by decide)) |>.trans (Cert.Ref.R36_of U Cert.ReferenceIdeal.main_v142 (by decide)) |>.trans (Cert.Ref.R35_of U Cert.ReferenceIdeal.main_v142 (by decide)) |>.trans (Cert.Ref.R34_of U Cert.ReferenceIdeal.main_v142 (by decide)) |>.trans (Cert.Ref.R33_of U Cert.ReferenceIdeal.main_v142 (by decide)) |>.trans (Cert.Ref.R32_of U Cert.ReferenceIdeal.main_v142 (by decide)) |>.trans (Cert.Ref.R31_of U Cert.ReferenceIdeal.main_v142 (by decide)) |>.trans (Cert.Ref.R30_of U Cert.ReferenceIdeal.main_v142 (by decide)) |>.trans (Cert.Ref.R29_of U Cert.ReferenceIdeal.main_v142 (by decide))).symm))

/-- A result, where both programs end. -/
theorem fin_v62 : (show FVec Ideal Cert.KernelIdeal.S16x3x256 .f32 from (Cert.KernelIdeal.Gen.W33 m ρ c (Proc.devRef .tc Cert.KernelIdeal.main_v62))) = (show FVec Ideal Cert.ReferenceIdeal.S16x3x256 .f32 from (Cert.Ref.R72 U (Proc.devRef .tc Cert.ReferenceIdeal.main_v143))) :=
  (((Cert.KernelIdeal.Gen.W33_of m ρ c Cert.KernelIdeal.main_v62 (by decide)) |>.trans (Cert.KernelIdeal.Gen.W32_of m ρ c Cert.KernelIdeal.main_v62 (by decide)) |>.trans (Cert.KernelIdeal.Gen.W31_of m ρ c Cert.KernelIdeal.main_v62 (by decide)) |>.trans (Cert.KernelIdeal.Gen.W30_of m ρ c Cert.KernelIdeal.main_v62 (by decide)) |>.trans (Cert.KernelIdeal.Gen.W29_of m ρ c Cert.KernelIdeal.main_v62 (by decide)) |>.trans (Cert.KernelIdeal.Gen.W28_of m ρ c Cert.KernelIdeal.main_v62 (by decide)) |>.trans (Cert.KernelIdeal.Gen.W27_of m ρ c Cert.KernelIdeal.main_v62 (by decide)) |>.trans (Cert.KernelIdeal.Gen.W26_of m ρ c Cert.KernelIdeal.main_v62 (by decide)) |>.trans (Cert.KernelIdeal.Gen.W25_of m ρ c Cert.KernelIdeal.main_v62 (by decide)) |>.trans (Cert.KernelIdeal.Gen.W24_of m ρ c Cert.KernelIdeal.main_v62 (by decide)) |>.trans (Cert.KernelIdeal.Gen.W23_of m ρ c Cert.KernelIdeal.main_v62 (by decide)) |>.trans (Cert.KernelIdeal.Gen.W22_of m ρ c Cert.KernelIdeal.main_v62 (by decide)) |>.trans (Cert.KernelIdeal.Gen.W21_of m ρ c Cert.KernelIdeal.main_v62 (by decide)) |>.trans (Cert.KernelIdeal.Gen.W20_of m ρ c Cert.KernelIdeal.main_v62 (by decide)) |>.trans (Cert.KernelIdeal.Gen.W19_of m ρ c Cert.KernelIdeal.main_v62 (by decide)) |>.trans (Cert.KernelIdeal.Gen.W18_of m ρ c Cert.KernelIdeal.main_v62 (by decide)) |>.trans (Cert.KernelIdeal.Gen.W17_of m ρ c Cert.KernelIdeal.main_v62 (by decide)) |>.trans (Cert.KernelIdeal.Gen.W16_of m ρ c Cert.KernelIdeal.main_v62 (by decide)) |>.trans (Cert.KernelIdeal.Gen.W15_of m ρ c Cert.KernelIdeal.main_v62 (by decide)) |>.trans (Cert.KernelIdeal.Gen.W14_of m ρ c Cert.KernelIdeal.main_v62 (by decide)) |>.trans (Cert.KernelIdeal.Gen.W13_of m ρ c Cert.KernelIdeal.main_v62 (by decide)) |>.trans (Cert.KernelIdeal.Gen.W12_of m ρ c Cert.KernelIdeal.main_v62 (by decide))).trans ((e_v62 m ρ c U hA).trans ((Cert.Ref.R72_of U Cert.ReferenceIdeal.main_v143 (by decide)) |>.trans (Cert.Ref.R71_of U Cert.ReferenceIdeal.main_v143 (by decide)) |>.trans (Cert.Ref.R70_of U Cert.ReferenceIdeal.main_v143 (by decide)) |>.trans (Cert.Ref.R69_of U Cert.ReferenceIdeal.main_v143 (by decide)) |>.trans (Cert.Ref.R68_of U Cert.ReferenceIdeal.main_v143 (by decide)) |>.trans (Cert.Ref.R67_of U Cert.ReferenceIdeal.main_v143 (by decide)) |>.trans (Cert.Ref.R66_of U Cert.ReferenceIdeal.main_v143 (by decide)) |>.trans (Cert.Ref.R65_of U Cert.ReferenceIdeal.main_v143 (by decide)) |>.trans (Cert.Ref.R64_of U Cert.ReferenceIdeal.main_v143 (by decide)) |>.trans (Cert.Ref.R63_of U Cert.ReferenceIdeal.main_v143 (by decide)) |>.trans (Cert.Ref.R62_of U Cert.ReferenceIdeal.main_v143 (by decide)) |>.trans (Cert.Ref.R61_of U Cert.ReferenceIdeal.main_v143 (by decide)) |>.trans (Cert.Ref.R60_of U Cert.ReferenceIdeal.main_v143 (by decide)) |>.trans (Cert.Ref.R59_of U Cert.ReferenceIdeal.main_v143 (by decide)) |>.trans (Cert.Ref.R58_of U Cert.ReferenceIdeal.main_v143 (by decide)) |>.trans (Cert.Ref.R57_of U Cert.ReferenceIdeal.main_v143 (by decide)) |>.trans (Cert.Ref.R56_of U Cert.ReferenceIdeal.main_v143 (by decide)) |>.trans (Cert.Ref.R55_of U Cert.ReferenceIdeal.main_v143 (by decide)) |>.trans (Cert.Ref.R54_of U Cert.ReferenceIdeal.main_v143 (by decide)) |>.trans (Cert.Ref.R53_of U Cert.ReferenceIdeal.main_v143 (by decide)) |>.trans (Cert.Ref.R52_of U Cert.ReferenceIdeal.main_v143 (by decide)) |>.trans (Cert.Ref.R51_of U Cert.ReferenceIdeal.main_v143 (by decide)) |>.trans (Cert.Ref.R50_of U Cert.ReferenceIdeal.main_v143 (by decide)) |>.trans (Cert.Ref.R49_of U Cert.ReferenceIdeal.main_v143 (by decide)) |>.trans (Cert.Ref.R48_of U Cert.ReferenceIdeal.main_v143 (by decide)) |>.trans (Cert.Ref.R47_of U Cert.ReferenceIdeal.main_v143 (by decide)) |>.trans (Cert.Ref.R46_of U Cert.ReferenceIdeal.main_v143 (by decide)) |>.trans (Cert.Ref.R45_of U Cert.ReferenceIdeal.main_v143 (by decide)) |>.trans (Cert.Ref.R44_of U Cert.ReferenceIdeal.main_v143 (by decide)) |>.trans (Cert.Ref.R43_of U Cert.ReferenceIdeal.main_v143 (by decide)) |>.trans (Cert.Ref.R42_of U Cert.ReferenceIdeal.main_v143 (by decide)) |>.trans (Cert.Ref.R41_of U Cert.ReferenceIdeal.main_v143 (by decide)) |>.trans (Cert.Ref.R40_of U Cert.ReferenceIdeal.main_v143 (by decide)) |>.trans (Cert.Ref.R39_of U Cert.ReferenceIdeal.main_v143 (by decide)) |>.trans (Cert.Ref.R38_of U Cert.ReferenceIdeal.main_v143 (by decide)) |>.trans (Cert.Ref.R37_of U Cert.ReferenceIdeal.main_v143 (by decide)) |>.trans (Cert.Ref.R36_of U Cert.ReferenceIdeal.main_v143 (by decide)) |>.trans (Cert.Ref.R35_of U Cert.ReferenceIdeal.main_v143 (by decide)) |>.trans (Cert.Ref.R34_of U Cert.ReferenceIdeal.main_v143 (by decide)) |>.trans (Cert.Ref.R33_of U Cert.ReferenceIdeal.main_v143 (by decide)) |>.trans (Cert.Ref.R32_of U Cert.ReferenceIdeal.main_v143 (by decide)) |>.trans (Cert.Ref.R31_of U Cert.ReferenceIdeal.main_v143 (by decide)) |>.trans (Cert.Ref.R30_of U Cert.ReferenceIdeal.main_v143 (by decide))).symm))

end Cert.Lock

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KRun
public import proofs.«01_k».proof.Proof.Final
public import Idealize.ShloMosaic.Adequacy
public import Idealize.ShloMosaic.Init

@[expose] public section

set_option maxHeartbeats 8000000

noncomputable section

namespace Cert.Proof

open Idealize.ShloMosaic Idealize.ShloMosaic.TcCoe Idealize.SL.Sem

/-- The reference ends, leaves its arguments as they were and every counter at zero. -/
theorem frameR : Cert.quiescent_ReferenceIdeal (hReferenceIdeal := Cert.ReferenceIdeal.Gen.facts) := fun m ρ _ =>
  θ_run_mono (Cert.Ref.run m ρ) fun r h =>
    ⟨fun c => ⟨(h c Cert.ReferenceIdeal.main_arg0).trans (Cert.Ref.R72_args _ Cert.ReferenceIdeal.main_arg0 (by decide)),
      (h c Cert.ReferenceIdeal.main_arg1).trans (Cert.Ref.R72_args _ Cert.ReferenceIdeal.main_arg1 (by decide)),
      (h c Cert.ReferenceIdeal.main_arg2).trans (Cert.Ref.R72_args _ Cert.ReferenceIdeal.main_arg2 (by decide)),
      (h c Cert.ReferenceIdeal.main_arg3).trans (Cert.Ref.R72_args _ Cert.ReferenceIdeal.main_arg3 (by decide)),
      (h c Cert.ReferenceIdeal.main_arg4).trans (Cert.Ref.R72_args _ Cert.ReferenceIdeal.main_arg4 (by decide)),
      (h c Cert.ReferenceIdeal.main_arg5).trans (Cert.Ref.R72_args _ Cert.ReferenceIdeal.main_arg5 (by decide)),
      (h c Cert.ReferenceIdeal.main_arg6).trans (Cert.Ref.R72_args _ Cert.ReferenceIdeal.main_arg6 (by decide)),
      (h c Cert.ReferenceIdeal.main_arg7).trans (Cert.Ref.R72_args _ Cert.ReferenceIdeal.main_arg7 (by decide)),
      (h c Cert.ReferenceIdeal.main_arg8).trans (Cert.Ref.R72_args _ Cert.ReferenceIdeal.main_arg8 (by decide)),
      (h c Cert.ReferenceIdeal.main_arg9).trans (Cert.Ref.R72_args _ Cert.ReferenceIdeal.main_arg9 (by decide)),
      (h c Cert.ReferenceIdeal.main_arg10).trans (Cert.Ref.R72_args _ Cert.ReferenceIdeal.main_arg10 (by decide)),
      (h c Cert.ReferenceIdeal.main_arg11).trans (Cert.Ref.R72_args _ Cert.ReferenceIdeal.main_arg11 (by decide)),
      (h c Cert.ReferenceIdeal.main_arg12).trans (Cert.Ref.R72_args _ Cert.ReferenceIdeal.main_arg12 (by decide)),
      (h c Cert.ReferenceIdeal.main_arg13).trans (Cert.Ref.R72_args _ Cert.ReferenceIdeal.main_arg13 (by decide)),
      (h c Cert.ReferenceIdeal.main_arg14).trans (Cert.Ref.R72_args _ Cert.ReferenceIdeal.main_arg14 (by decide)),
      (h c Cert.ReferenceIdeal.main_arg15).trans (Cert.Ref.R72_args _ Cert.ReferenceIdeal.main_arg15 (by decide)),
      (h c Cert.ReferenceIdeal.main_arg16).trans (Cert.Ref.R72_args _ Cert.ReferenceIdeal.main_arg16 (by decide)),
      (h c Cert.ReferenceIdeal.main_arg17).trans (Cert.Ref.R72_args _ Cert.ReferenceIdeal.main_arg17 (by decide)),
      (h c Cert.ReferenceIdeal.main_arg18).trans (Cert.Ref.R72_args _ Cert.ReferenceIdeal.main_arg18 (by decide)),
      (h c Cert.ReferenceIdeal.main_arg19).trans (Cert.Ref.R72_args _ Cert.ReferenceIdeal.main_arg19 (by decide))⟩, sem_eq_zero_of_no_sems (by decide) r.2⟩

/-- The kernel and the reference compute the same five results. -/
theorem value : Cert.algebraic_KernelIdeal_ReferenceIdeal (hKernelIdeal := Cert.KernelIdeal.Gen.facts) (hReferenceIdeal := Cert.ReferenceIdeal.Gen.facts) := by
  intro m ρ m' ρ' _ hm
  have hA : ∀ c : Dev Cert.KernelIdeal.nD, Cert.Lock.Same m c (StableHlo.launchContents m' c) := fun c => by
    obtain ⟨h0, h1, h2, h3, h4, h5, h6, h7, h8, h9, h10, h11, h12, h13, h14, h15, h16, h17, h18, h19⟩ := hm c
    exact ⟨h0.symm, h1.symm, h2.symm, h3.symm, h4.symm, h5.symm, h6.symm, h7.symm, h8.symm, h9.symm, h10.symm, h11.symm, h12.symm, h13.symm, h14.symm, h15.symm, h16.symm, h17.symm, h18.symm, h19.symm⟩
  refine ⟨fun c => Cert.KernelIdeal.Gen.W33 m ρ c (Proc.devRef .tc Cert.KernelIdeal.main_v161), fun c => Cert.KernelIdeal.Gen.W33 m ρ c (Proc.devRef .tc Cert.KernelIdeal.main_v127), fun c => Cert.KernelIdeal.Gen.W33 m ρ c (Proc.devRef .tc Cert.KernelIdeal.main_v128), fun c => Cert.KernelIdeal.Gen.W33 m ρ c (Proc.devRef .tc Cert.KernelIdeal.main_v61), fun c => Cert.KernelIdeal.Gen.W33 m ρ c (Proc.devRef .tc Cert.KernelIdeal.main_v62), ?_, ?_⟩
  · refine θ_run_mono (Cert.Val.run_main m ρ) fun r h c => ⟨h c _ (Cert.KernelIdeal.Gen.mem_uc Cert.KernelIdeal.main_v161 (by decide)), h c _ (Cert.KernelIdeal.Gen.mem_uc Cert.KernelIdeal.main_v127 (by decide)), h c _ (Cert.KernelIdeal.Gen.mem_uc Cert.KernelIdeal.main_v128 (by decide)), h c _ (Cert.KernelIdeal.Gen.mem_uc Cert.KernelIdeal.main_v61 (by decide)), h c _ (Cert.KernelIdeal.Gen.mem_uc Cert.KernelIdeal.main_v62 (by decide)),
      (h c _ (Cert.KernelIdeal.Gen.mem_uc Cert.KernelIdeal.main_arg0 (by decide))).trans (Cert.KernelIdeal.Gen.W33_args m ρ c Cert.KernelIdeal.main_arg0 (by decide)),
      (h c _ (Cert.KernelIdeal.Gen.mem_uc Cert.KernelIdeal.main_arg1 (by decide))).trans (Cert.KernelIdeal.Gen.W33_args m ρ c Cert.KernelIdeal.main_arg1 (by decide)),
      (h c _ (Cert.KernelIdeal.Gen.mem_uc Cert.KernelIdeal.main_arg2 (by decide))).trans (Cert.KernelIdeal.Gen.W33_args m ρ c Cert.KernelIdeal.main_arg2 (by decide)),
      (h c _ (Cert.KernelIdeal.Gen.mem_uc Cert.KernelIdeal.main_arg3 (by decide))).trans (Cert.KernelIdeal.Gen.W33_args m ρ c Cert.KernelIdeal.main_arg3 (by decide)),
      (h c _ (Cert.KernelIdeal.Gen.mem_uc Cert.KernelIdeal.main_arg4 (by decide))).trans (Cert.KernelIdeal.Gen.W33_args m ρ c Cert.KernelIdeal.main_arg4 (by decide)),
      (h c _ (Cert.KernelIdeal.Gen.mem_uc Cert.KernelIdeal.main_arg5 (by decide))).trans (Cert.KernelIdeal.Gen.W33_args m ρ c Cert.KernelIdeal.main_arg5 (by decide)),
      (h c _ (Cert.KernelIdeal.Gen.mem_uc Cert.KernelIdeal.main_arg6 (by decide))).trans (Cert.KernelIdeal.Gen.W33_args m ρ c Cert.KernelIdeal.main_arg6 (by decide)),
      (h c _ (Cert.KernelIdeal.Gen.mem_uc Cert.KernelIdeal.main_arg7 (by decide))).trans (Cert.KernelIdeal.Gen.W33_args m ρ c Cert.KernelIdeal.main_arg7 (by decide)),
      (h c _ (Cert.KernelIdeal.Gen.mem_uc Cert.KernelIdeal.main_arg8 (by decide))).trans (Cert.KernelIdeal.Gen.W33_args m ρ c Cert.KernelIdeal.main_arg8 (by decide)),
      (h c _ (Cert.KernelIdeal.Gen.mem_uc Cert.KernelIdeal.main_arg9 (by decide))).trans (Cert.KernelIdeal.Gen.W33_args m ρ c Cert.KernelIdeal.main_arg9 (by decide)),
      (h c _ (Cert.KernelIdeal.Gen.mem_uc Cert.KernelIdeal.main_arg10 (by decide))).trans (Cert.KernelIdeal.Gen.W33_args m ρ c Cert.KernelIdeal.main_arg10 (by decide)),
      (h c _ (Cert.KernelIdeal.Gen.mem_uc Cert.KernelIdeal.main_arg11 (by decide))).trans (Cert.KernelIdeal.Gen.W33_args m ρ c Cert.KernelIdeal.main_arg11 (by decide)),
      (h c _ (Cert.KernelIdeal.Gen.mem_uc Cert.KernelIdeal.main_arg12 (by decide))).trans (Cert.KernelIdeal.Gen.W33_args m ρ c Cert.KernelIdeal.main_arg12 (by decide)),
      (h c _ (Cert.KernelIdeal.Gen.mem_uc Cert.KernelIdeal.main_arg13 (by decide))).trans (Cert.KernelIdeal.Gen.W33_args m ρ c Cert.KernelIdeal.main_arg13 (by decide)),
      (h c _ (Cert.KernelIdeal.Gen.mem_uc Cert.KernelIdeal.main_arg14 (by decide))).trans (Cert.KernelIdeal.Gen.W33_args m ρ c Cert.KernelIdeal.main_arg14 (by decide)),
      (h c _ (Cert.KernelIdeal.Gen.mem_uc Cert.KernelIdeal.main_arg15 (by decide))).trans (Cert.KernelIdeal.Gen.W33_args m ρ c Cert.KernelIdeal.main_arg15 (by decide)),
      (h c _ (Cert.KernelIdeal.Gen.mem_uc Cert.KernelIdeal.main_arg16 (by decide))).trans (Cert.KernelIdeal.Gen.W33_args m ρ c Cert.KernelIdeal.main_arg16 (by decide)),
      (h c _ (Cert.KernelIdeal.Gen.mem_uc Cert.KernelIdeal.main_arg17 (by decide))).trans (Cert.KernelIdeal.Gen.W33_args m ρ c Cert.KernelIdeal.main_arg17 (by decide)),
      (h c _ (Cert.KernelIdeal.Gen.mem_uc Cert.KernelIdeal.main_arg18 (by decide))).trans (Cert.KernelIdeal.Gen.W33_args m ρ c Cert.KernelIdeal.main_arg18 (by decide)),
      (h c _ (Cert.KernelIdeal.Gen.mem_uc Cert.KernelIdeal.main_arg19 (by decide))).trans (Cert.KernelIdeal.Gen.W33_args m ρ c Cert.KernelIdeal.main_arg19 (by decide))⟩
  · refine θ_run_mono (Cert.Ref.run m' ρ') fun r h c => ⟨(h c Cert.ReferenceIdeal.main_v326).trans (Cert.Lock.e_v161 m ρ c _ (hA c)).symm, (h c Cert.ReferenceIdeal.main_v290).trans (Cert.Lock.fin_v127 m ρ c _ (hA c)).symm, (h c Cert.ReferenceIdeal.main_v291).trans (Cert.Lock.fin_v128 m ρ c _ (hA c)).symm, (h c Cert.ReferenceIdeal.main_v142).trans (Cert.Lock.fin_v61 m ρ c _ (hA c)).symm, (h c Cert.ReferenceIdeal.main_v143).trans (Cert.Lock.fin_v62 m ρ c _ (hA c)).symm,
      (h c Cert.ReferenceIdeal.main_arg0).trans (Cert.Ref.R72_args _ Cert.ReferenceIdeal.main_arg0 (by decide)),
      (h c Cert.ReferenceIdeal.main_arg1).trans (Cert.Ref.R72_args _ Cert.ReferenceIdeal.main_arg1 (by decide)),
      (h c Cert.ReferenceIdeal.main_arg2).trans (Cert.Ref.R72_args _ Cert.ReferenceIdeal.main_arg2 (by decide)),
      (h c Cert.ReferenceIdeal.main_arg3).trans (Cert.Ref.R72_args _ Cert.ReferenceIdeal.main_arg3 (by decide)),
      (h c Cert.ReferenceIdeal.main_arg4).trans (Cert.Ref.R72_args _ Cert.ReferenceIdeal.main_arg4 (by decide)),
      (h c Cert.ReferenceIdeal.main_arg5).trans (Cert.Ref.R72_args _ Cert.ReferenceIdeal.main_arg5 (by decide)),
      (h c Cert.ReferenceIdeal.main_arg6).trans (Cert.Ref.R72_args _ Cert.ReferenceIdeal.main_arg6 (by decide)),
      (h c Cert.ReferenceIdeal.main_arg7).trans (Cert.Ref.R72_args _ Cert.ReferenceIdeal.main_arg7 (by decide)),
      (h c Cert.ReferenceIdeal.main_arg8).trans (Cert.Ref.R72_args _ Cert.ReferenceIdeal.main_arg8 (by decide)),
      (h c Cert.ReferenceIdeal.main_arg9).trans (Cert.Ref.R72_args _ Cert.ReferenceIdeal.main_arg9 (by decide)),
      (h c Cert.ReferenceIdeal.main_arg10).trans (Cert.Ref.R72_args _ Cert.ReferenceIdeal.main_arg10 (by decide)),
      (h c Cert.ReferenceIdeal.main_arg11).trans (Cert.Ref.R72_args _ Cert.ReferenceIdeal.main_arg11 (by decide)),
      (h c Cert.ReferenceIdeal.main_arg12).trans (Cert.Ref.R72_args _ Cert.ReferenceIdeal.main_arg12 (by decide)),
      (h c Cert.ReferenceIdeal.main_arg13).trans (Cert.Ref.R72_args _ Cert.ReferenceIdeal.main_arg13 (by decide)),
      (h c Cert.ReferenceIdeal.main_arg14).trans (Cert.Ref.R72_args _ Cert.ReferenceIdeal.main_arg14 (by decide)),
      (h c Cert.ReferenceIdeal.main_arg15).trans (Cert.Ref.R72_args _ Cert.ReferenceIdeal.main_arg15 (by decide)),
      (h c Cert.ReferenceIdeal.main_arg16).trans (Cert.Ref.R72_args _ Cert.ReferenceIdeal.main_arg16 (by decide)),
      (h c Cert.ReferenceIdeal.main_arg17).trans (Cert.Ref.R72_args _ Cert.ReferenceIdeal.main_arg17 (by decide)),
      (h c Cert.ReferenceIdeal.main_arg18).trans (Cert.Ref.R72_args _ Cert.ReferenceIdeal.main_arg18 (by decide)),
      (h c Cert.ReferenceIdeal.main_arg19).trans (Cert.Ref.R72_args _ Cert.ReferenceIdeal.main_arg19 (by decide))⟩

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frameR, trivial, value⟩

end Cert.Proof

end
